-- ==== Defs.lean ====
def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxIdeal_finite_ffn_up [hPre_finite_ffn_up : Cert.Pre_finite_ffn_up.Facts] (m : (ℓ : Loc Cert.FfnUpDxIdeal.nD Cert.FfnUpDxIdeal.τ Cert.FfnUpDxIdeal.sig) → Buf (Elt Ideal) ℓ) : Prop :=
  ∀ c : Dev Cert.FfnUpDxIdeal.nD,
    (Cert.Pre_finite_ffn_up.fn (F := Ideal) (m ((c.tc : Thread Cert.FfnUpDxIdeal.nD Cert.FfnUpDxIdeal.τ).loc Cert.FfnUpDxIdeal.main_arg0)) (m ((c.tc : Thread Cert.FfnUpDxIdeal.nD Cert.FfnUpDxIdeal.τ).loc Cert.FfnUpDxIdeal.main_arg1)) (m ((c.tc : Thread Cert.FfnUpDxIdeal.nD Cert.FfnUpDxIdeal.τ).loc Cert.FfnUpDxIdeal.main_arg2)) (m ((c.tc : Thread Cert.FfnUpDxIdeal.nD Cert.FfnUpDxIdeal.τ).loc Cert.FfnUpDxIdeal.main_arg3)) (m ((c.tc : Thread Cert.FfnUpDxIdeal.nD Cert.FfnUpDxIdeal.τ).loc Cert.FfnUpDxIdeal.main_arg4))) = (fun _ => 1#1)

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_FfnUpDxRefIdeal_finite_ffn_up [hPre_finite_ffn_up : Cert.Pre_finite_ffn_up.Facts] (m : (ℓ : Loc Cert.FfnUpDxRefIdeal.nD Cert.FfnUpDxRefIdeal.τ Cert.FfnUpDxRefIdeal.sig) → Buf (Elt Ideal) ℓ) : Prop :=
  ∀ c : Dev Cert.FfnUpDxRefIdeal.nD,
    (Cert.Pre_finite_ffn_up.fn (F := Ideal) (m ((c.tc : Thread Cert.FfnUpDxRefIdeal.nD Cert.FfnUpDxRefIdeal.τ).loc Cert.FfnUpDxRefIdeal.main_arg0)) (m ((c.tc : Thread Cert.FfnUpDxRefIdeal.nD Cert.FfnUpDxRefIdeal.τ).loc Cert.FfnUpDxRefIdeal.main_arg1)) (m ((c.tc : Thread Cert.FfnUpDxRefIdeal.nD Cert.FfnUpDxRefIdeal.τ).loc Cert.FfnUpDxRefIdeal.main_arg2)) (m ((c.tc : Thread Cert.FfnUpDxRefIdeal.nD Cert.FfnUpDxRefIdeal.τ).loc Cert.FfnUpDxRefIdeal.main_arg3)) (m ((c.tc : Thread Cert.FfnUpDxRefIdeal.nD Cert.FfnUpDxRefIdeal.τ).loc Cert.FfnUpDxRefIdeal.main_arg4))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn [hPre_finite_attn : Cert.Pre_finite_attn.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))) = (fun _ => 1#1)

def Pre_FfnDownLoss (m : (ℓ : Loc Cert.FfnDownLoss.nD Cert.FfnDownLoss.τ Cert.FfnDownLoss.sig) → Buf (Elt Bits) ℓ) : Prop :=
  True

def Pre_FfnDownLossIdeal (m : (ℓ : Loc Cert.FfnDownLossIdeal.nD Cert.FfnDownLossIdeal.τ Cert.FfnDownLossIdeal.sig) → Buf (Elt Ideal) ℓ) : Prop :=
  True

def Pre_FfnDownLossIdeal_finite_ffn_down [hPre_finite_ffn_down : Cert.Pre_finite_ffn_down.Facts] (m : (ℓ : Loc Cert.FfnDownLossIdeal.nD Cert.FfnDownLossIdeal.τ Cert.FfnDownLossIdeal.sig) → Buf (Elt Ideal) ℓ) : Prop :=
  ∀ c : Dev Cert.FfnDownLossIdeal.nD,
    (Cert.Pre_finite_ffn_down.fn (F := Ideal) (m ((c.tc : Thread Cert.FfnDownLossIdeal.nD Cert.FfnDownLossIdeal.τ).loc Cert.FfnDownLossIdeal.main_arg0)) (m ((c.tc : Thread Cert.FfnDownLossIdeal.nD Cert.FfnDownLossIdeal.τ).loc Cert.FfnDownLossIdeal.main_arg1)) (m ((c.tc : Thread Cert.FfnDownLossIdeal.nD Cert.FfnDownLossIdeal.τ).loc Cert.FfnDownLossIdeal.main_arg2)) (m ((c.tc : Thread Cert.FfnDownLossIdeal.nD Cert.FfnDownLossIdeal.τ).loc Cert.FfnDownLossIdeal.main_arg3)) (m ((c.tc : Thread Cert.FfnDownLossIdeal.nD Cert.FfnDownLossIdeal.τ).loc Cert.FfnDownLossIdeal.main_arg4))) = (fun _ => 1#1)

def Pre_FfnDownLossRefIdeal (m : (ℓ : Loc Cert.FfnDownLossRefIdeal.nD Cert.FfnDownLossRefIdeal.τ Cert.FfnDownLossRefIdeal.sig) → Buf (Elt Ideal) ℓ) : Prop :=
  True

def Pre_FfnDownLossRefIdeal_finite_ffn_down [hPre_finite_ffn_down : Cert.Pre_finite_ffn_down.Facts] (m : (ℓ : Loc Cert.FfnDownLossRefIdeal.nD Cert.FfnDownLossRefIdeal.τ Cert.FfnDownLossRefIdeal.sig) → Buf (Elt Ideal) ℓ) : Prop :=
  ∀ c : Dev Cert.FfnDownLossRefIdeal.nD,
    (Cert.Pre_finite_ffn_down.fn (F := Ideal) (m ((c.tc : Thread Cert.FfnDownLossRefIdeal.nD Cert.FfnDownLossRefIdeal.τ).loc Cert.FfnDownLossRefIdeal.main_arg0)) (m ((c.tc : Thread Cert.FfnDownLossRefIdeal.nD Cert.FfnDownLossRefIdeal.τ).loc Cert.FfnDownLossRefIdeal.main_arg1)) (m ((c.tc : Thread Cert.FfnDownLossRefIdeal.nD Cert.FfnDownLossRefIdeal.τ).loc Cert.FfnDownLossRefIdeal.main_arg2)) (m ((c.tc : Thread Cert.FfnDownLossRefIdeal.nD Cert.FfnDownLossRefIdeal.τ).loc Cert.FfnDownLossRefIdeal.main_arg3)) (m ((c.tc : Thread Cert.FfnDownLossRefIdeal.nD Cert.FfnDownLossRefIdeal.τ).loc Cert.FfnDownLossRefIdeal.main_arg4))) = (fun _ => 1#1)

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxIdeal_finite_in_proj [hPre_finite_in_proj : Cert.Pre_finite_in_proj.Facts] (m : (ℓ : Loc Cert.InProjDxIdeal.nD Cert.InProjDxIdeal.τ Cert.InProjDxIdeal.sig) → Buf (Elt Ideal) ℓ) : Prop :=
  ∀ c : Dev Cert.InProjDxIdeal.nD,
    (Cert.Pre_finite_in_proj.fn (F := Ideal) (m ((c.tc : Thread Cert.InProjDxIdeal.nD Cert.InProjDxIdeal.τ).loc Cert.InProjDxIdeal.main_arg0)) (m ((c.tc : Thread Cert.InProjDxIdeal.nD Cert.InProjDxIdeal.τ).loc Cert.InProjDxIdeal.main_arg1)) (m ((c.tc : Thread Cert.InProjDxIdeal.nD Cert.InProjDxIdeal.τ).loc Cert.InProjDxIdeal.main_arg2)) (m ((c.tc : Thread Cert.InProjDxIdeal.nD Cert.InProjDxIdeal.τ).loc Cert.InProjDxIdeal.main_arg3)) (m ((c.tc : Thread Cert.InProjDxIdeal.nD Cert.InProjDxIdeal.τ).loc Cert.InProjDxIdeal.main_arg4))) = (fun _ => 1#1)

def Pre_InProjDxRefIdeal (m : (ℓ : Loc Cert.InProjDxRefIdeal.nD Cert.InProjDxRefIdeal.τ Cert.InProjDxRefIdeal.sig) → Buf (Elt Ideal) ℓ) : Prop :=
  True

def Pre_InProjDxRefIdeal_finite_in_proj [hPre_finite_in_proj : Cert.Pre_finite_in_proj.Facts] (m : (ℓ : Loc Cert.InProjDxRefIdeal.nD Cert.InProjDxRefIdeal.τ Cert.InProjDxRefIdeal.sig) → Buf (Elt Ideal) ℓ) : Prop :=
  ∀ c : Dev Cert.InProjDxRefIdeal.nD,
    (Cert.Pre_finite_in_proj.fn (F := Ideal) (m ((c.tc : Thread Cert.InProjDxRefIdeal.nD Cert.InProjDxRefIdeal.τ).loc Cert.InProjDxRefIdeal.main_arg0)) (m ((c.tc : Thread Cert.InProjDxRefIdeal.nD Cert.InProjDxRefIdeal.τ).loc Cert.InProjDxRefIdeal.main_arg1)) (m ((c.tc : Thread Cert.InProjDxRefIdeal.nD Cert.InProjDxRefIdeal.τ).loc Cert.InProjDxRefIdeal.main_arg2)) (m ((c.tc : Thread Cert.InProjDxRefIdeal.nD Cert.InProjDxRefIdeal.τ).loc Cert.InProjDxRefIdeal.main_arg3)) (m ((c.tc : Thread Cert.InProjDxRefIdeal.nD Cert.InProjDxRefIdeal.τ).loc Cert.InProjDxRefIdeal.main_arg4))) = (fun _ => 1#1)

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_finite_gate [hPre_finite_gate : Cert.Pre_finite_gate.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))) = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_finite_gate [hPre_finite_gate : Cert.Pre_finite_gate.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))) = (fun _ => 1#1)

def Pre_ConvGate (m : (ℓ : Loc Cert.ConvGate.nD Cert.ConvGate.τ Cert.ConvGate.sig) → Buf (Elt Bits) ℓ) : Prop :=
  True

def Pre_ConvGateIdeal (m : (ℓ : Loc Cert.ConvGateIdeal.nD Cert.ConvGateIdeal.τ Cert.ConvGateIdeal.sig) → Buf (Elt Ideal) ℓ) : Prop :=
  True

def Pre_ConvGateIdeal_finite_conv_gate [hPre_finite_conv_gate : Cert.Pre_finite_conv_gate.Facts] (m : (ℓ : Loc Cert.ConvGateIdeal.nD Cert.ConvGateIdeal.τ Cert.ConvGateIdeal.sig) → Buf (Elt Ideal) ℓ) : Prop :=
  ∀ c : Dev Cert.ConvGateIdeal.nD,
    (Cert.Pre_finite_conv_gate.fn (F := Ideal) (m ((c.tc : Thread Cert.ConvGateIdeal.nD Cert.ConvGateIdeal.τ).loc Cert.ConvGateIdeal.main_arg0)) (m ((c.tc : Thread Cert.ConvGateIdeal.nD Cert.ConvGateIdeal.τ).loc Cert.ConvGateIdeal.main_arg1)) (m ((c.tc : Thread Cert.ConvGateIdeal.nD Cert.ConvGateIdeal.τ).loc Cert.ConvGateIdeal.main_arg2)) (m ((c.tc : Thread Cert.ConvGateIdeal.nD Cert.ConvGateIdeal.τ).loc Cert.ConvGateIdeal.main_arg3))) = (fun _ => 1#1)

def Pre_ConvGateRefIdeal (m : (ℓ : Loc Cert.ConvGateRefIdeal.nD Cert.ConvGateRefIdeal.τ Cert.ConvGateRefIdeal.sig) → Buf (Elt Ideal) ℓ) : Prop :=
  True

def Pre_ConvGateRefIdeal_finite_conv_gate [hPre_finite_conv_gate : Cert.Pre_finite_conv_gate.Facts] (m : (ℓ : Loc Cert.ConvGateRefIdeal.nD Cert.ConvGateRefIdeal.τ Cert.ConvGateRefIdeal.sig) → Buf (Elt Ideal) ℓ) : Prop :=
  ∀ c : Dev Cert.ConvGateRefIdeal.nD,
    (Cert.Pre_finite_conv_gate.fn (F := Ideal) (m ((c.tc : Thread Cert.ConvGateRefIdeal.nD Cert.ConvGateRefIdeal.τ).loc Cert.ConvGateRefIdeal.main_arg0)) (m ((c.tc : Thread Cert.ConvGateRefIdeal.nD Cert.ConvGateRefIdeal.τ).loc Cert.ConvGateRefIdeal.main_arg1)) (m ((c.tc : Thread Cert.ConvGateRefIdeal.nD Cert.ConvGateRefIdeal.τ).loc Cert.ConvGateRefIdeal.main_arg2)) (m ((c.tc : Thread Cert.ConvGateRefIdeal.nD Cert.ConvGateRefIdeal.τ).loc Cert.ConvGateRefIdeal.main_arg3))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attn_fwd [hPre_finite_attn_fwd : Cert.Pre_finite_attn_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attn_fwd [hPre_finite_attn_fwd : Cert.Pre_finite_attn_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))) = (fun _ => 1#1)

def Pre_GmlpBwd (m : (ℓ : Loc Cert.GmlpBwd.nD Cert.GmlpBwd.τ Cert.GmlpBwd.sig) → Buf (Elt Bits) ℓ) : Prop :=
  True

def Pre_GmlpBwdIdeal (m : (ℓ : Loc Cert.GmlpBwdIdeal.nD Cert.GmlpBwdIdeal.τ Cert.GmlpBwdIdeal.sig) → Buf (Elt Ideal) ℓ) : Prop :=
  True

def Pre_GmlpBwdIdeal_finite_gmlp [hPre_finite_gmlp : Cert.Pre_finite_gmlp.Facts] (m : (ℓ : Loc Cert.GmlpBwdIdeal.nD Cert.GmlpBwdIdeal.τ Cert.GmlpBwdIdeal.sig) → Buf (Elt Ideal) ℓ) : Prop :=
  ∀ c : Dev Cert.GmlpBwdIdeal.nD,
    (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4))) = (fun _ => 1#1)

def Pre_GmlpBwdRefIdeal (m : (ℓ : Loc Cert.GmlpBwdRefIdeal.nD Cert.GmlpBwdRefIdeal.τ Cert.GmlpBwdRefIdeal.sig) → Buf (Elt Ideal) ℓ) : Prop :=
  True

def Pre_GmlpBwdRefIdeal_finite_gmlp [hPre_finite_gmlp : Cert.Pre_finite_gmlp.Facts] (m : (ℓ : Loc Cert.GmlpBwdRefIdeal.nD Cert.GmlpBwdRefIdeal.τ Cert.GmlpBwdRefIdeal.sig) → Buf (Elt Ideal) ℓ) : Prop :=
  ∀ c : Dev Cert.GmlpBwdRefIdeal.nD,
    (Cert.Pre_finite_gmlp.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxIdeal_finite_out_proj_dx [hPre_finite_out_proj_dx : Cert.Pre_finite_out_proj_dx.Facts] (m : (ℓ : Loc Cert.OutProjDxIdeal.nD Cert.OutProjDxIdeal.τ Cert.OutProjDxIdeal.sig) → Buf (Elt Ideal) ℓ) : Prop :=
  ∀ c : Dev Cert.OutProjDxIdeal.nD,
    (Cert.Pre_finite_out_proj_dx.fn (F := Ideal) (m ((c.tc : Thread Cert.OutProjDxIdeal.nD Cert.OutProjDxIdeal.τ).loc Cert.OutProjDxIdeal.main_arg0)) (m ((c.tc : Thread Cert.OutProjDxIdeal.nD Cert.OutProjDxIdeal.τ).loc Cert.OutProjDxIdeal.main_arg1)) (m ((c.tc : Thread Cert.OutProjDxIdeal.nD Cert.OutProjDxIdeal.τ).loc Cert.OutProjDxIdeal.main_arg2)) (m ((c.tc : Thread Cert.OutProjDxIdeal.nD Cert.OutProjDxIdeal.τ).loc Cert.OutProjDxIdeal.main_arg3)) (m ((c.tc : Thread Cert.OutProjDxIdeal.nD Cert.OutProjDxIdeal.τ).loc Cert.OutProjDxIdeal.main_arg4))) = (fun _ => 1#1)

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDxRefIdeal_finite_out_proj_dx [hPre_finite_out_proj_dx : Cert.Pre_finite_out_proj_dx.Facts] (m : (ℓ : Loc Cert.OutProjDxRefIdeal.nD Cert.OutProjDxRefIdeal.τ Cert.OutProjDxRefIdeal.sig) → Buf (Elt Ideal) ℓ) : Prop :=
  ∀ c : Dev Cert.OutProjDxRefIdeal.nD,
    (Cert.Pre_finite_out_proj_dx.fn (F := Ideal) (m ((c.tc : Thread Cert.OutProjDxRefIdeal.nD Cert.OutProjDxRefIdeal.τ).loc Cert.OutProjDxRefIdeal.main_arg0)) (m ((c.tc : Thread Cert.OutProjDxRefIdeal.nD Cert.OutProjDxRefIdeal.τ).loc Cert.OutProjDxRefIdeal.main_arg1)) (m ((c.tc : Thread Cert.OutProjDxRefIdeal.nD Cert.OutProjDxRefIdeal.τ).loc Cert.OutProjDxRefIdeal.main_arg2)) (m ((c.tc : Thread Cert.OutProjDxRefIdeal.nD Cert.OutProjDxRefIdeal.τ).loc Cert.OutProjDxRefIdeal.main_arg3)) (m ((c.tc : Thread Cert.OutProjDxRefIdeal.nD Cert.OutProjDxRefIdeal.τ).loc Cert.OutProjDxRefIdeal.main_arg4))) = (fun _ => 1#1)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1)
      ∧ r.2.mem ((c.tc : Thread Cert.FfnUpDx.nD Cert.FfnUpDx.τ).loc Cert.FfnUpDx.main_arg2) = m ((c.tc : Thread Cert.FfnUpDx.nD Cert.FfnUpDx.τ).loc Cert.FfnUpDx.main_arg2)
      ∧ r.2.mem ((c.tc : Thread Cert.FfnUpDx.nD Cert.FfnUpDx.τ).loc Cert.FfnUpDx.main_arg3) = m ((c.tc : Thread Cert.FfnUpDx.nD Cert.FfnUpDx.τ).loc Cert.FfnUpDx.main_arg3)
      ∧ r.2.mem ((c.tc : Thread Cert.FfnUpDx.nD Cert.FfnUpDx.τ).loc Cert.FfnUpDx.main_arg4) = m ((c.tc : Thread Cert.FfnUpDx.nD Cert.FfnUpDx.τ).loc Cert.FfnUpDx.main_arg4))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
      ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2)
      ∧ r.2.mem ((c.tc : Thread Cert.FfnUpDxIdeal.nD Cert.FfnUpDxIdeal.τ).loc Cert.FfnUpDxIdeal.main_arg3) = m ((c.tc : Thread Cert.FfnUpDxIdeal.nD Cert.FfnUpDxIdeal.τ).loc Cert.FfnUpDxIdeal.main_arg3)
      ∧ r.2.mem ((c.tc : Thread Cert.FfnUpDxIdeal.nD Cert.FfnUpDxIdeal.τ).loc Cert.FfnUpDxIdeal.main_arg4) = m ((c.tc : Thread Cert.FfnUpDxIdeal.nD Cert.FfnUpDxIdeal.τ).loc Cert.FfnUpDxIdeal.main_arg4))
      ∧ r.2.sem = fun _ => 0)

def quiescent_FfnUpDxIdeal_pre_finite_ffn_up [hFfnUpDxIdeal : Cert.FfnUpDxIdeal.Facts] [hPre_finite_ffn_up : Cert.Pre_finite_ffn_up.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal_finite_ffn_up m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
      ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2)
      ∧ r.2.mem ((c.tc : Thread Cert.FfnUpDxIdeal.nD Cert.FfnUpDxIdeal.τ).loc Cert.FfnUpDxIdeal.main_arg3) = m ((c.tc : Thread Cert.FfnUpDxIdeal.nD Cert.FfnUpDxIdeal.τ).loc Cert.FfnUpDxIdeal.main_arg3)
      ∧ r.2.mem ((c.tc : Thread Cert.FfnUpDxIdeal.nD Cert.FfnUpDxIdeal.τ).loc Cert.FfnUpDxIdeal.main_arg4) = m ((c.tc : Thread Cert.FfnUpDxIdeal.nD Cert.FfnUpDxIdeal.τ).loc Cert.FfnUpDxIdeal.main_arg4))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1)
      ∧ r.2.mem ((c.tc : Thread Cert.FfnUpDxRefIdeal.nD Cert.FfnUpDxRefIdeal.τ).loc Cert.FfnUpDxRefIdeal.main_arg2) = m ((c.tc : Thread Cert.FfnUpDxRefIdeal.nD Cert.FfnUpDxRefIdeal.τ).loc Cert.FfnUpDxRefIdeal.main_arg2)
      ∧ r.2.mem ((c.tc : Thread Cert.FfnUpDxRefIdeal.nD Cert.FfnUpDxRefIdeal.τ).loc Cert.FfnUpDxRefIdeal.main_arg3) = m ((c.tc : Thread Cert.FfnUpDxRefIdeal.nD Cert.FfnUpDxRefIdeal.τ).loc Cert.FfnUpDxRefIdeal.main_arg3)
      ∧ r.2.mem ((c.tc : Thread Cert.FfnUpDxRefIdeal.nD Cert.FfnUpDxRefIdeal.τ).loc Cert.FfnUpDxRefIdeal.main_arg4) = m ((c.tc : Thread Cert.FfnUpDxRefIdeal.nD Cert.FfnUpDxRefIdeal.τ).loc Cert.FfnUpDxRefIdeal.main_arg4))
      ∧ r.2.sem = fun _ => 0)

def quiescent_FfnUpDxRefIdeal_pre_finite_ffn_up [hFfnUpDxRefIdeal : Cert.FfnUpDxRefIdeal.Facts] [hPre_finite_ffn_up : Cert.Pre_finite_ffn_up.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal_finite_ffn_up m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1)
      ∧ r.2.mem ((c.tc : Thread Cert.FfnUpDxRefIdeal.nD Cert.FfnUpDxRefIdeal.τ).loc Cert.FfnUpDxRefIdeal.main_arg2) = m ((c.tc : Thread Cert.FfnUpDxRefIdeal.nD Cert.FfnUpDxRefIdeal.τ).loc Cert.FfnUpDxRefIdeal.main_arg2)
      ∧ r.2.mem ((c.tc : Thread Cert.FfnUpDxRefIdeal.nD Cert.FfnUpDxRefIdeal.τ).loc Cert.FfnUpDxRefIdeal.main_arg3) = m ((c.tc : Thread Cert.FfnUpDxRefIdeal.nD Cert.FfnUpDxRefIdeal.τ).loc Cert.FfnUpDxRefIdeal.main_arg3)
      ∧ r.2.mem ((c.tc : Thread Cert.FfnUpDxRefIdeal.nD Cert.FfnUpDxRefIdeal.τ).loc Cert.FfnUpDxRefIdeal.main_arg4) = m ((c.tc : Thread Cert.FfnUpDxRefIdeal.nD Cert.FfnUpDxRefIdeal.τ).loc Cert.FfnUpDxRefIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_AttnBwdRefIdeal_pre_finite_attn [hAttnBwdRefIdeal : Cert.AttnBwdRefIdeal.Facts] [hPre_finite_attn : Cert.Pre_finite_attn.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_FfnDownLoss [hFfnDownLoss : Cert.FfnDownLoss.Facts] : Prop :=
  ∀ (m : (ℓ : Loc Cert.FfnDownLoss.nD Cert.FfnDownLoss.τ Cert.FfnDownLoss.sig) → Buf (Elt Bits) ℓ) (g : Dev Cert.FfnDownLoss.nD → PrngReg), Pre_FfnDownLoss m →
    θ_run (Cert.FfnDownLoss.defs (F := Bits)) (onTc (τ := Cert.FfnDownLoss.τ) (Cert.FfnDownLoss.main (F := Bits))) ⟨m, fun _ => 0, g⟩ (fun r => (∀ c : Dev Cert.FfnDownLoss.nD,
      r.2.mem ((c.tc : Thread Cert.FfnDownLoss.nD Cert.FfnDownLoss.τ).loc Cert.FfnDownLoss.main_arg0) = m ((c.tc : Thread Cert.FfnDownLoss.nD Cert.FfnDownLoss.τ).loc Cert.FfnDownLoss.main_arg0)
      ∧ r.2.mem ((c.tc : Thread Cert.FfnDownLoss.nD Cert.FfnDownLoss.τ).loc Cert.FfnDownLoss.main_arg1) = m ((c.tc : Thread Cert.FfnDownLoss.nD Cert.FfnDownLoss.τ).loc Cert.FfnDownLoss.main_arg1)
      ∧ r.2.mem ((c.tc : Thread Cert.FfnDownLoss.nD Cert.FfnDownLoss.τ).loc Cert.FfnDownLoss.main_arg2) = m ((c.tc : Thread Cert.FfnDownLoss.nD Cert.FfnDownLoss.τ).loc Cert.FfnDownLoss.main_arg2)
      ∧ r.2.mem ((c.tc : Thread Cert.FfnDownLoss.nD Cert.FfnDownLoss.τ).loc Cert.FfnDownLoss.main_arg3) = m ((c.tc : Thread Cert.FfnDownLoss.nD Cert.FfnDownLoss.τ).loc Cert.FfnDownLoss.main_arg3)
      ∧ r.2.mem ((c.tc : Thread Cert.FfnDownLoss.nD Cert.FfnDownLoss.τ).loc Cert.FfnDownLoss.main_arg4) = m ((c.tc : Thread Cert.FfnDownLoss.nD Cert.FfnDownLoss.τ).loc Cert.FfnDownLoss.main_arg4))
      ∧ r.2.sem = fun _ => 0)

def quiescent_FfnDownLossIdeal [hFfnDownLossIdeal : Cert.FfnDownLossIdeal.Facts] : Prop :=
  ∀ (m : (ℓ : Loc Cert.FfnDownLossIdeal.nD Cert.FfnDownLossIdeal.τ Cert.FfnDownLossIdeal.sig) → Buf (Elt Ideal) ℓ) (g : Dev Cert.FfnDownLossIdeal.nD → PrngReg), Pre_FfnDownLossIdeal m →
    θ_run (Cert.FfnDownLossIdeal.defs (F := Ideal)) (onTc (τ := Cert.FfnDownLossIdeal.τ) (Cert.FfnDownLossIdeal.main (F := Ideal))) ⟨m, fun _ => 0, g⟩ (fun r => (∀ c : Dev Cert.FfnDownLossIdeal.nD,
      r.2.mem ((c.tc : Thread Cert.FfnDownLossIdeal.nD Cert.FfnDownLossIdeal.τ).loc Cert.FfnDownLossIdeal.main_arg0) = m ((c.tc : Thread Cert.FfnDownLossIdeal.nD Cert.FfnDownLossIdeal.τ).loc Cert.FfnDownLossIdeal.main_arg0)
      ∧ r.2.mem ((c.tc : Thread Cert.FfnDownLossIdeal.nD Cert.FfnDownLossIdeal.τ).loc Cert.FfnDownLossIdeal.main_arg1) = m ((c.tc : Thread Cert.FfnDownLossIdeal.nD Cert.FfnDownLossIdeal.τ).loc Cert.FfnDownLossIdeal.main_arg1)
      ∧ r.2.mem ((c.tc : Thread Cert.FfnDownLossIdeal.nD Cert.FfnDownLossIdeal.τ).loc Cert.FfnDownLossIdeal.main_arg2) = m ((c.tc : Thread Cert.FfnDownLossIdeal.nD Cert.FfnDownLossIdeal.τ).loc Cert.FfnDownLossIdeal.main_arg2)
      ∧ r.2.mem ((c.tc : Thread Cert.FfnDownLossIdeal.nD Cert.FfnDownLossIdeal.τ).loc Cert.FfnDownLossIdeal.main_arg3) = m ((c.tc : Thread Cert.FfnDownLossIdeal.nD Cert.FfnDownLossIdeal.τ).loc Cert.FfnDownLossIdeal.main_arg3)
      ∧ r.2.mem ((c.tc : Thread Cert.FfnDownLossIdeal.nD Cert.FfnDownLossIdeal.τ).loc Cert.FfnDownLossIdeal.main_arg4) = m ((c.tc : Thread Cert.FfnDownLossIdeal.nD Cert.FfnDownLossIdeal.τ).loc Cert.FfnDownLossIdeal.main_arg4))
      ∧ r.2.sem = fun _ => 0)

def quiescent_FfnDownLossIdeal_pre_finite_ffn_down [hFfnDownLossIdeal : Cert.FfnDownLossIdeal.Facts] [hPre_finite_ffn_down : Cert.Pre_finite_ffn_down.Facts] : Prop :=
  ∀ (m : (ℓ : Loc Cert.FfnDownLossIdeal.nD Cert.FfnDownLossIdeal.τ Cert.FfnDownLossIdeal.sig) → Buf (Elt Ideal) ℓ) (g : Dev Cert.FfnDownLossIdeal.nD → PrngReg), Pre_FfnDownLossIdeal_finite_ffn_down m →
    θ_run (Cert.FfnDownLossIdeal.defs (F := Ideal)) (onTc (τ := Cert.FfnDownLossIdeal.τ) (Cert.FfnDownLossIdeal.main (F := Ideal))) ⟨m, fun _ => 0, g⟩ (fun r => (∀ c : Dev Cert.FfnDownLossIdeal.nD,
      r.2.mem ((c.tc : Thread Cert.FfnDownLossIdeal.nD Cert.FfnDownLossIdeal.τ).loc Cert.FfnDownLossIdeal.main_arg0) = m ((c.tc : Thread Cert.FfnDownLossIdeal.nD Cert.FfnDownLossIdeal.τ).loc Cert.FfnDownLossIdeal.main_arg0)
      ∧ r.2.mem ((c.tc : Thread Cert.FfnDownLossIdeal.nD Cert.FfnDownLossIdeal.τ).loc Cert.FfnDownLossIdeal.main_arg1) = m ((c.tc : Thread Cert.FfnDownLossIdeal.nD Cert.FfnDownLossIdeal.τ).loc Cert.FfnDownLossIdeal.main_arg1)
      ∧ r.2.mem ((c.tc : Thread Cert.FfnDownLossIdeal.nD Cert.FfnDownLossIdeal.τ).loc Cert.FfnDownLossIdeal.main_arg2) = m ((c.tc : Thread Cert.FfnDownLossIdeal.nD Cert.FfnDownLossIdeal.τ).loc Cert.FfnDownLossIdeal.main_arg2)
      ∧ r.2.mem ((c.tc : Thread Cert.FfnDownLossIdeal.nD Cert.FfnDownLossIdeal.τ).loc Cert.FfnDownLossIdeal.main_arg3) = m ((c.tc : Thread Cert.FfnDownLossIdeal.nD Cert.FfnDownLossIdeal.τ).loc Cert.FfnDownLossIdeal.main_arg3)
      ∧ r.2.mem ((c.tc : Thread Cert.FfnDownLossIdeal.nD Cert.FfnDownLossIdeal.τ).loc Cert.FfnDownLossIdeal.main_arg4) = m ((c.tc : Thread Cert.FfnDownLossIdeal.nD Cert.FfnDownLossIdeal.τ).loc Cert.FfnDownLossIdeal.main_arg4))
      ∧ r.2.sem = fun _ => 0)

def quiescent_FfnDownLossRefIdeal [hFfnDownLossRefIdeal : Cert.FfnDownLossRefIdeal.Facts] : Prop :=
  ∀ (m : (ℓ : Loc Cert.FfnDownLossRefIdeal.nD Cert.FfnDownLossRefIdeal.τ Cert.FfnDownLossRefIdeal.sig) → Buf (Elt Ideal) ℓ) (g : Dev Cert.FfnDownLossRefIdeal.nD → PrngReg), Pre_FfnDownLossRefIdeal m →
    θ_run (Cert.FfnDownLossRefIdeal.defs (F := Ideal)) (onTc (τ := Cert.FfnDownLossRefIdeal.τ) (Cert.FfnDownLossRefIdeal.main (F := Ideal))) ⟨m, fun _ => 0, g⟩ (fun r => (∀ c : Dev Cert.FfnDownLossRefIdeal.nD,
      r.2.mem ((c.tc : Thread Cert.FfnDownLossRefIdeal.nD Cert.FfnDownLossRefIdeal.τ).loc Cert.FfnDownLossRefIdeal.main_arg0) = m ((c.tc : Thread Cert.FfnDownLossRefIdeal.nD Cert.FfnDownLossRefIdeal.τ).loc Cert.FfnDownLossRefIdeal.main_arg0)
      ∧ r.2.mem ((c.tc : Thread Cert.FfnDownLossRefIdeal.nD Cert.FfnDownLossRefIdeal.τ).loc Cert.FfnDownLossRefIdeal.main_arg1) = m ((c.tc : Thread Cert.FfnDownLossRefIdeal.nD Cert.FfnDownLossRefIdeal.τ).loc Cert.FfnDownLossRefIdeal.main_arg1)
      ∧ r.2.mem ((c.tc : Thread Cert.FfnDownLossRefIdeal.nD Cert.FfnDownLossRefIdeal.τ).loc Cert.FfnDownLossRefIdeal.main_arg2) = m ((c.tc : Thread Cert.FfnDownLossRefIdeal.nD Cert.FfnDownLossRefIdeal.τ).loc Cert.FfnDownLossRefIdeal.main_arg2)
      ∧ r.2.mem ((c.tc : Thread Cert.FfnDownLossRefIdeal.nD Cert.FfnDownLossRefIdeal.τ).loc Cert.FfnDownLossRefIdeal.main_arg3) = m ((c.tc : Thread Cert.FfnDownLossRefIdeal.nD Cert.FfnDownLossRefIdeal.τ).loc Cert.FfnDownLossRefIdeal.main_arg3)
      ∧ r.2.mem ((c.tc : Thread Cert.FfnDownLossRefIdeal.nD Cert.FfnDownLossRefIdeal.τ).loc Cert.FfnDownLossRefIdeal.main_arg4) = m ((c.tc : Thread Cert.FfnDownLossRefIdeal.nD Cert.FfnDownLossRefIdeal.τ).loc Cert.FfnDownLossRefIdeal.main_arg4))
      ∧ r.2.sem = fun _ => 0)

def quiescent_FfnDownLossRefIdeal_pre_finite_ffn_down [hFfnDownLossRefIdeal : Cert.FfnDownLossRefIdeal.Facts] [hPre_finite_ffn_down : Cert.Pre_finite_ffn_down.Facts] : Prop :=
  ∀ (m : (ℓ : Loc Cert.FfnDownLossRefIdeal.nD Cert.FfnDownLossRefIdeal.τ Cert.FfnDownLossRefIdeal.sig) → Buf (Elt Ideal) ℓ) (g : Dev Cert.FfnDownLossRefIdeal.nD → PrngReg), Pre_FfnDownLossRefIdeal_finite_ffn_down m →
    θ_run (Cert.FfnDownLossRefIdeal.defs (F := Ideal)) (onTc (τ := Cert.FfnDownLossRefIdeal.τ) (Cert.FfnDownLossRefIdeal.main (F := Ideal))) ⟨m, fun _ => 0, g⟩ (fun r => (∀ c : Dev Cert.FfnDownLossRefIdeal.nD,
      r.2.mem ((c.tc : Thread Cert.FfnDownLossRefIdeal.nD Cert.FfnDownLossRefIdeal.τ).loc Cert.FfnDownLossRefIdeal.main_arg0) = m ((c.tc : Thread Cert.FfnDownLossRefIdeal.nD Cert.FfnDownLossRefIdeal.τ).loc Cert.FfnDownLossRefIdeal.main_arg0)
      ∧ r.2.mem ((c.tc : Thread Cert.FfnDownLossRefIdeal.nD Cert.FfnDownLossRefIdeal.τ).loc Cert.FfnDownLossRefIdeal.main_arg1) = m ((c.tc : Thread Cert.FfnDownLossRefIdeal.nD Cert.FfnDownLossRefIdeal.τ).loc Cert.FfnDownLossRefIdeal.main_arg1)
      ∧ r.2.mem ((c.tc : Thread Cert.FfnDownLossRefIdeal.nD Cert.FfnDownLossRefIdeal.τ).loc Cert.FfnDownLossRefIdeal.main_arg2) = m ((c.tc : Thread Cert.FfnDownLossRefIdeal.nD Cert.FfnDownLossRefIdeal.τ).loc Cert.FfnDownLossRefIdeal.main_arg2)
      ∧ r.2.mem ((c.tc : Thread Cert.FfnDownLossRefIdeal.nD Cert.FfnDownLossRefIdeal.τ).loc Cert.FfnDownLossRefIdeal.main_arg3) = m ((c.tc : Thread Cert.FfnDownLossRefIdeal.nD Cert.FfnDownLossRefIdeal.τ).loc Cert.FfnDownLossRefIdeal.main_arg3)
      ∧ r.2.mem ((c.tc : Thread Cert.FfnDownLossRefIdeal.nD Cert.FfnDownLossRefIdeal.τ).loc Cert.FfnDownLossRefIdeal.main_arg4) = m ((c.tc : Thread Cert.FfnDownLossRefIdeal.nD Cert.FfnDownLossRefIdeal.τ).loc Cert.FfnDownLossRefIdeal.main_arg4))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1)
      ∧ r.2.mem ((c.tc : Thread Cert.InProjDx.nD Cert.InProjDx.τ).loc Cert.InProjDx.main_arg2) = m ((c.tc : Thread Cert.InProjDx.nD Cert.InProjDx.τ).loc Cert.InProjDx.main_arg2)
      ∧ r.2.mem ((c.tc : Thread Cert.InProjDx.nD Cert.InProjDx.τ).loc Cert.InProjDx.main_arg3) = m ((c.tc : Thread Cert.InProjDx.nD Cert.InProjDx.τ).loc Cert.InProjDx.main_arg3)
      ∧ r.2.mem ((c.tc : Thread Cert.InProjDx.nD Cert.InProjDx.τ).loc Cert.InProjDx.main_arg4) = m ((c.tc : Thread Cert.InProjDx.nD Cert.InProjDx.τ).loc Cert.InProjDx.main_arg4))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
      ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
      ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4))
      ∧ r.2.sem = fun _ => 0)

def quiescent_InProjDxIdeal_pre_finite_in_proj [hInProjDxIdeal : Cert.InProjDxIdeal.Facts] [hPre_finite_in_proj : Cert.Pre_finite_in_proj.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal_finite_in_proj m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
      ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
      ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2)
      ∧ r.2.mem ((c.tc : Thread Cert.InProjDxRefIdeal.nD Cert.InProjDxRefIdeal.τ).loc Cert.InProjDxRefIdeal.main_arg3) = m ((c.tc : Thread Cert.InProjDxRefIdeal.nD Cert.InProjDxRefIdeal.τ).loc Cert.InProjDxRefIdeal.main_arg3)
      ∧ r.2.mem ((c.tc : Thread Cert.InProjDxRefIdeal.nD Cert.InProjDxRefIdeal.τ).loc Cert.InProjDxRefIdeal.main_arg4) = m ((c.tc : Thread Cert.InProjDxRefIdeal.nD Cert.InProjDxRefIdeal.τ).loc Cert.InProjDxRefIdeal.main_arg4))
      ∧ r.2.sem = fun _ => 0)

def quiescent_InProjDxRefIdeal_pre_finite_in_proj [hInProjDxRefIdeal : Cert.InProjDxRefIdeal.Facts] [hPre_finite_in_proj : Cert.Pre_finite_in_proj.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal_finite_in_proj m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2)
      ∧ r.2.mem ((c.tc : Thread Cert.InProjDxRefIdeal.nD Cert.InProjDxRefIdeal.τ).loc Cert.InProjDxRefIdeal.main_arg3) = m ((c.tc : Thread Cert.InProjDxRefIdeal.nD Cert.InProjDxRefIdeal.τ).loc Cert.InProjDxRefIdeal.main_arg3)
      ∧ r.2.mem ((c.tc : Thread Cert.InProjDxRefIdeal.nD Cert.InProjDxRefIdeal.τ).loc Cert.InProjDxRefIdeal.main_arg4) = m ((c.tc : Thread Cert.InProjDxRefIdeal.nD Cert.InProjDxRefIdeal.τ).loc Cert.InProjDxRefIdeal.main_arg4))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdIdeal_pre_finite_gate [hGateBwdIdeal : Cert.GateBwdIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_finite_gate m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_GateBwdRefIdeal_pre_finite_gate [hGateBwdRefIdeal : Cert.GateBwdRefIdeal.Facts] [hPre_finite_gate : Cert.Pre_finite_gate.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_finite_gate m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_ConvGate [hConvGate : Cert.ConvGate.Facts] : Prop :=
  ∀ (m : (ℓ : Loc Cert.ConvGate.nD Cert.ConvGate.τ Cert.ConvGate.sig) → Buf (Elt Bits) ℓ) (g : Dev Cert.ConvGate.nD → PrngReg), Pre_ConvGate m →
    θ_run (Cert.ConvGate.defs (F := Bits)) (onTc (τ := Cert.ConvGate.τ) (Cert.ConvGate.main (F := Bits))) ⟨m, fun _ => 0, g⟩ (fun r => (∀ c : Dev Cert.ConvGate.nD,
      r.2.mem ((c.tc : Thread Cert.ConvGate.nD Cert.ConvGate.τ).loc Cert.ConvGate.main_arg0) = m ((c.tc : Thread Cert.ConvGate.nD Cert.ConvGate.τ).loc Cert.ConvGate.main_arg0)
      ∧ r.2.mem ((c.tc : Thread Cert.ConvGate.nD Cert.ConvGate.τ).loc Cert.ConvGate.main_arg1) = m ((c.tc : Thread Cert.ConvGate.nD Cert.ConvGate.τ).loc Cert.ConvGate.main_arg1)
      ∧ r.2.mem ((c.tc : Thread Cert.ConvGate.nD Cert.ConvGate.τ).loc Cert.ConvGate.main_arg2) = m ((c.tc : Thread Cert.ConvGate.nD Cert.ConvGate.τ).loc Cert.ConvGate.main_arg2)
      ∧ r.2.mem ((c.tc : Thread Cert.ConvGate.nD Cert.ConvGate.τ).loc Cert.ConvGate.main_arg3) = m ((c.tc : Thread Cert.ConvGate.nD Cert.ConvGate.τ).loc Cert.ConvGate.main_arg3))
      ∧ r.2.sem = fun _ => 0)

def quiescent_ConvGateIdeal [hConvGateIdeal : Cert.ConvGateIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2)
      ∧ r.2.mem ((c.tc : Thread Cert.ConvGateIdeal.nD Cert.ConvGateIdeal.τ).loc Cert.ConvGateIdeal.main_arg3) = m ((c.tc : Thread Cert.ConvGateIdeal.nD Cert.ConvGateIdeal.τ).loc Cert.ConvGateIdeal.main_arg3))
      ∧ r.2.sem = fun _ => 0)

def quiescent_ConvGateIdeal_pre_finite_conv_gate [hConvGateIdeal : Cert.ConvGateIdeal.Facts] [hPre_finite_conv_gate : Cert.Pre_finite_conv_gate.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal_finite_conv_gate m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2)
      ∧ r.2.mem ((c.tc : Thread Cert.ConvGateIdeal.nD Cert.ConvGateIdeal.τ).loc Cert.ConvGateIdeal.main_arg3) = m ((c.tc : Thread Cert.ConvGateIdeal.nD Cert.ConvGateIdeal.τ).loc Cert.ConvGateIdeal.main_arg3))
      ∧ r.2.sem = fun _ => 0)

def quiescent_ConvGateRefIdeal [hConvGateRefIdeal : Cert.ConvGateRefIdeal.Facts] : Prop :=
  ∀ (m : (ℓ : Loc Cert.ConvGateRefIdeal.nD Cert.ConvGateRefIdeal.τ Cert.ConvGateRefIdeal.sig) → Buf (Elt Ideal) ℓ) (g : Dev Cert.ConvGateRefIdeal.nD → PrngReg), Pre_ConvGateRefIdeal m →
    θ_run (Cert.ConvGateRefIdeal.defs (F := Ideal)) (onTc (τ := Cert.ConvGateRefIdeal.τ) (Cert.ConvGateRefIdeal.main (F := Ideal))) ⟨m, fun _ => 0, g⟩ (fun r => (∀ c : Dev Cert.ConvGateRefIdeal.nD,
      r.2.mem ((c.tc : Thread Cert.ConvGateRefIdeal.nD Cert.ConvGateRefIdeal.τ).loc Cert.ConvGateRefIdeal.main_arg0) = m ((c.tc : Thread Cert.ConvGateRefIdeal.nD Cert.ConvGateRefIdeal.τ).loc Cert.ConvGateRefIdeal.main_arg0)
      ∧ r.2.mem ((c.tc : Thread Cert.ConvGateRefIdeal.nD Cert.ConvGateRefIdeal.τ).loc Cert.ConvGateRefIdeal.main_arg1) = m ((c.tc : Thread Cert.ConvGateRefIdeal.nD Cert.ConvGateRefIdeal.τ).loc Cert.ConvGateRefIdeal.main_arg1)
      ∧ r.2.mem ((c.tc : Thread Cert.ConvGateRefIdeal.nD Cert.ConvGateRefIdeal.τ).loc Cert.ConvGateRefIdeal.main_arg2) = m ((c.tc : Thread Cert.ConvGateRefIdeal.nD Cert.ConvGateRefIdeal.τ).loc Cert.ConvGateRefIdeal.main_arg2)
      ∧ r.2.mem ((c.tc : Thread Cert.ConvGateRefIdeal.nD Cert.ConvGateRefIdeal.τ).loc Cert.ConvGateRefIdeal.main_arg3) = m ((c.tc : Thread Cert.ConvGateRefIdeal.nD Cert.ConvGateRefIdeal.τ).loc Cert.ConvGateRefIdeal.main_arg3))
      ∧ r.2.sem = fun _ => 0)

def quiescent_ConvGateRefIdeal_pre_finite_conv_gate [hConvGateRefIdeal : Cert.ConvGateRefIdeal.Facts] [hPre_finite_conv_gate : Cert.Pre_finite_conv_gate.Facts] : Prop :=
  ∀ (m : (ℓ : Loc Cert.ConvGateRefIdeal.nD Cert.ConvGateRefIdeal.τ Cert.ConvGateRefIdeal.sig) → Buf (Elt Ideal) ℓ) (g : Dev Cert.ConvGateRefIdeal.nD → PrngReg), Pre_ConvGateRefIdeal_finite_conv_gate m →
    θ_run (Cert.ConvGateRefIdeal.defs (F := Ideal)) (onTc (τ := Cert.ConvGateRefIdeal.τ) (Cert.ConvGateRefIdeal.main (F := Ideal))) ⟨m, fun _ => 0, g⟩ (fun r => (∀ c : Dev Cert.ConvGateRefIdeal.nD,
      r.2.mem ((c.tc : Thread Cert.ConvGateRefIdeal.nD Cert.ConvGateRefIdeal.τ).loc Cert.ConvGateRefIdeal.main_arg0) = m ((c.tc : Thread Cert.ConvGateRefIdeal.nD Cert.ConvGateRefIdeal.τ).loc Cert.ConvGateRefIdeal.main_arg0)
      ∧ r.2.mem ((c.tc : Thread Cert.ConvGateRefIdeal.nD Cert.ConvGateRefIdeal.τ).loc Cert.ConvGateRefIdeal.main_arg1) = m ((c.tc : Thread Cert.ConvGateRefIdeal.nD Cert.ConvGateRefIdeal.τ).loc Cert.ConvGateRefIdeal.main_arg1)
      ∧ r.2.mem ((c.tc : Thread Cert.ConvGateRefIdeal.nD Cert.ConvGateRefIdeal.τ).loc Cert.ConvGateRefIdeal.main_arg2) = m ((c.tc : Thread Cert.ConvGateRefIdeal.nD Cert.ConvGateRefIdeal.τ).loc Cert.ConvGateRefIdeal.main_arg2)
      ∧ r.2.mem ((c.tc : Thread Cert.ConvGateRefIdeal.nD Cert.ConvGateRefIdeal.τ).loc Cert.ConvGateRefIdeal.main_arg3) = m ((c.tc : Thread Cert.ConvGateRefIdeal.nD Cert.ConvGateRefIdeal.τ).loc Cert.ConvGateRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite_attn_fwd [hAttnFwdIdeal : Cert.AttnFwdIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attn_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_finite_attn_fwd [hAttnFwdRefIdeal : Cert.AttnFwdRefIdeal.Facts] [hPre_finite_attn_fwd : Cert.Pre_finite_attn_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attn_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_GmlpBwd [hGmlpBwd : Cert.GmlpBwd.Facts] : Prop :=
  ∀ (m : (ℓ : Loc Cert.GmlpBwd.nD Cert.GmlpBwd.τ Cert.GmlpBwd.sig) → Buf (Elt Bits) ℓ) (g : Dev Cert.GmlpBwd.nD → PrngReg), Pre_GmlpBwd m →
    θ_run (Cert.GmlpBwd.defs (F := Bits)) (onTc (τ := Cert.GmlpBwd.τ) (Cert.GmlpBwd.main (F := Bits))) ⟨m, fun _ => 0, g⟩ (fun r => (∀ c : Dev Cert.GmlpBwd.nD,
      r.2.mem ((c.tc : Thread Cert.GmlpBwd.nD Cert.GmlpBwd.τ).loc Cert.GmlpBwd.main_arg0) = m ((c.tc : Thread Cert.GmlpBwd.nD Cert.GmlpBwd.τ).loc Cert.GmlpBwd.main_arg0)
      ∧ r.2.mem ((c.tc : Thread Cert.GmlpBwd.nD Cert.GmlpBwd.τ).loc Cert.GmlpBwd.main_arg1) = m ((c.tc : Thread Cert.GmlpBwd.nD Cert.GmlpBwd.τ).loc Cert.GmlpBwd.main_arg1)
      ∧ r.2.mem ((c.tc : Thread Cert.GmlpBwd.nD Cert.GmlpBwd.τ).loc Cert.GmlpBwd.main_arg2) = m ((c.tc : Thread Cert.GmlpBwd.nD Cert.GmlpBwd.τ).loc Cert.GmlpBwd.main_arg2)
      ∧ r.2.mem ((c.tc : Thread Cert.GmlpBwd.nD Cert.GmlpBwd.τ).loc Cert.GmlpBwd.main_arg3) = m ((c.tc : Thread Cert.GmlpBwd.nD Cert.GmlpBwd.τ).loc Cert.GmlpBwd.main_arg3)
      ∧ r.2.mem ((c.tc : Thread Cert.GmlpBwd.nD Cert.GmlpBwd.τ).loc Cert.GmlpBwd.main_arg4) = m ((c.tc : Thread Cert.GmlpBwd.nD Cert.GmlpBwd.τ).loc Cert.GmlpBwd.main_arg4))
      ∧ r.2.sem = fun _ => 0)

def quiescent_GmlpBwdIdeal [hGmlpBwdIdeal : Cert.GmlpBwdIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4))
      ∧ r.2.sem = fun _ => 0)

def quiescent_GmlpBwdIdeal_pre_finite_gmlp [hGmlpBwdIdeal : Cert.GmlpBwdIdeal.Facts] [hPre_finite_gmlp : Cert.Pre_finite_gmlp.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal_finite_gmlp m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4))
      ∧ r.2.sem = fun _ => 0)

def quiescent_GmlpBwdRefIdeal [hGmlpBwdRefIdeal : Cert.GmlpBwdRefIdeal.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4))
      ∧ r.2.sem = fun _ => 0)

def quiescent_GmlpBwdRefIdeal_pre_finite_gmlp [hGmlpBwdRefIdeal : Cert.GmlpBwdRefIdeal.Facts] [hPre_finite_gmlp : Cert.Pre_finite_gmlp.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal_finite_gmlp m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1)
      ∧ r.2.mem ((c.tc : Thread Cert.OutProjDx.nD Cert.OutProjDx.τ).loc Cert.OutProjDx.main_arg2) = m ((c.tc : Thread Cert.OutProjDx.nD Cert.OutProjDx.τ).loc Cert.OutProjDx.main_arg2)
      ∧ r.2.mem ((c.tc : Thread Cert.OutProjDx.nD Cert.OutProjDx.τ).loc Cert.OutProjDx.main_arg3) = m ((c.tc : Thread Cert.OutProjDx.nD Cert.OutProjDx.τ).loc Cert.OutProjDx.main_arg3)
      ∧ r.2.mem ((c.tc : Thread Cert.OutProjDx.nD Cert.OutProjDx.τ).loc Cert.OutProjDx.main_arg4) = m ((c.tc : Thread Cert.OutProjDx.nD Cert.OutProjDx.τ).loc Cert.OutProjDx.main_arg4))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
      ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2)
      ∧ r.2.mem ((c.tc : Thread Cert.OutProjDxIdeal.nD Cert.OutProjDxIdeal.τ).loc Cert.OutProjDxIdeal.main_arg3) = m ((c.tc : Thread Cert.OutProjDxIdeal.nD Cert.OutProjDxIdeal.τ).loc Cert.OutProjDxIdeal.main_arg3)
      ∧ r.2.mem ((c.tc : Thread Cert.OutProjDxIdeal.nD Cert.OutProjDxIdeal.τ).loc Cert.OutProjDxIdeal.main_arg4) = m ((c.tc : Thread Cert.OutProjDxIdeal.nD Cert.OutProjDxIdeal.τ).loc Cert.OutProjDxIdeal.main_arg4))
      ∧ r.2.sem = fun _ => 0)

def quiescent_OutProjDxIdeal_pre_finite_out_proj_dx [hOutProjDxIdeal : Cert.OutProjDxIdeal.Facts] [hPre_finite_out_proj_dx : Cert.Pre_finite_out_proj_dx.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal_finite_out_proj_dx m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
      ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2)
      ∧ r.2.mem ((c.tc : Thread Cert.OutProjDxIdeal.nD Cert.OutProjDxIdeal.τ).loc Cert.OutProjDxIdeal.main_arg3) = m ((c.tc : Thread Cert.OutProjDxIdeal.nD Cert.OutProjDxIdeal.τ).loc Cert.OutProjDxIdeal.main_arg3)
      ∧ r.2.mem ((c.tc : Thread Cert.OutProjDxIdeal.nD Cert.OutProjDxIdeal.τ).loc Cert.OutProjDxIdeal.main_arg4) = m ((c.tc : Thread Cert.OutProjDxIdeal.nD Cert.OutProjDxIdeal.τ).loc Cert.OutProjDxIdeal.main_arg4))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1)
      ∧ r.2.mem ((c.tc : Thread Cert.OutProjDxRefIdeal.nD Cert.OutProjDxRefIdeal.τ).loc Cert.OutProjDxRefIdeal.main_arg2) = m ((c.tc : Thread Cert.OutProjDxRefIdeal.nD Cert.OutProjDxRefIdeal.τ).loc Cert.OutProjDxRefIdeal.main_arg2)
      ∧ r.2.mem ((c.tc : Thread Cert.OutProjDxRefIdeal.nD Cert.OutProjDxRefIdeal.τ).loc Cert.OutProjDxRefIdeal.main_arg3) = m ((c.tc : Thread Cert.OutProjDxRefIdeal.nD Cert.OutProjDxRefIdeal.τ).loc Cert.OutProjDxRefIdeal.main_arg3)
      ∧ r.2.mem ((c.tc : Thread Cert.OutProjDxRefIdeal.nD Cert.OutProjDxRefIdeal.τ).loc Cert.OutProjDxRefIdeal.main_arg4) = m ((c.tc : Thread Cert.OutProjDxRefIdeal.nD Cert.OutProjDxRefIdeal.τ).loc Cert.OutProjDxRefIdeal.main_arg4))
      ∧ r.2.sem = fun _ => 0)

def quiescent_OutProjDxRefIdeal_pre_finite_out_proj_dx [hOutProjDxRefIdeal : Cert.OutProjDxRefIdeal.Facts] [hPre_finite_out_proj_dx : Cert.Pre_finite_out_proj_dx.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal_finite_out_proj_dx m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1)
      ∧ r.2.mem ((c.tc : Thread Cert.OutProjDxRefIdeal.nD Cert.OutProjDxRefIdeal.τ).loc Cert.OutProjDxRefIdeal.main_arg2) = m ((c.tc : Thread Cert.OutProjDxRefIdeal.nD Cert.OutProjDxRefIdeal.τ).loc Cert.OutProjDxRefIdeal.main_arg2)
      ∧ r.2.mem ((c.tc : Thread Cert.OutProjDxRefIdeal.nD Cert.OutProjDxRefIdeal.τ).loc Cert.OutProjDxRefIdeal.main_arg3) = m ((c.tc : Thread Cert.OutProjDxRefIdeal.nD Cert.OutProjDxRefIdeal.τ).loc Cert.OutProjDxRefIdeal.main_arg3)
      ∧ r.2.mem ((c.tc : Thread Cert.OutProjDxRefIdeal.nD Cert.OutProjDxRefIdeal.τ).loc Cert.OutProjDxRefIdeal.main_arg4) = m ((c.tc : Thread Cert.OutProjDxRefIdeal.nD Cert.OutProjDxRefIdeal.τ).loc Cert.OutProjDxRefIdeal.main_arg4))
      ∧ r.2.sem = fun _ => 0)

def preserves_FfnUpDx_FfnUpDxIdeal : Prop :=
  True

def algebraic_FfnUpDxIdeal_FfnUpDxRefIdeal_pre_finite_ffn_up [hFfnUpDxIdeal : Cert.FfnUpDxIdeal.Facts] [hFfnUpDxRefIdeal : Cert.FfnUpDxRefIdeal.Facts] [hPre_finite_ffn_up : Cert.Pre_finite_ffn_up.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal_finite_ffn_up m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)
      ∧ m' ((c.tc : Thread Cert.FfnUpDxRefIdeal.nD Cert.FfnUpDxRefIdeal.τ).loc Cert.FfnUpDxRefIdeal.main_arg2) = m ((c.tc : Thread Cert.FfnUpDxIdeal.nD Cert.FfnUpDxIdeal.τ).loc Cert.FfnUpDxIdeal.main_arg2)
      ∧ m' ((c.tc : Thread Cert.FfnUpDxRefIdeal.nD Cert.FfnUpDxRefIdeal.τ).loc Cert.FfnUpDxRefIdeal.main_arg3) = m ((c.tc : Thread Cert.FfnUpDxIdeal.nD Cert.FfnUpDxIdeal.τ).loc Cert.FfnUpDxIdeal.main_arg3)
      ∧ m' ((c.tc : Thread Cert.FfnUpDxRefIdeal.nD Cert.FfnUpDxRefIdeal.τ).loc Cert.FfnUpDxRefIdeal.main_arg4) = m ((c.tc : Thread Cert.FfnUpDxIdeal.nD Cert.FfnUpDxIdeal.τ).loc Cert.FfnUpDxIdeal.main_arg4)) →
    ∃ (v0 : (c : Dev Cert.FfnUpDxIdeal.nD) → Buf (Elt Ideal) ((c.tc : Thread Cert.FfnUpDxIdeal.nD Cert.FfnUpDxIdeal.τ).loc Cert.FfnUpDxIdeal.main_v6_0)) (v1 : (c : Dev Cert.FfnUpDxIdeal.nD) → Buf (Elt Ideal) ((c.tc : Thread Cert.FfnUpDxIdeal.nD Cert.FfnUpDxIdeal.τ).loc Cert.FfnUpDxIdeal.main_v6_1)) (v2 : (c : Dev Cert.FfnUpDxIdeal.nD) → Buf (Elt Ideal) ((c.tc : Thread Cert.FfnUpDxIdeal.nD Cert.FfnUpDxIdeal.τ).loc Cert.FfnUpDxIdeal.main_v6_2)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v6_0) = v0 c
          ∧ r.2.mem ((c.tc : Thread Cert.FfnUpDxIdeal.nD Cert.FfnUpDxIdeal.τ).loc Cert.FfnUpDxIdeal.main_v6_1) = v1 c
          ∧ r.2.mem ((c.tc : Thread Cert.FfnUpDxIdeal.nD Cert.FfnUpDxIdeal.τ).loc Cert.FfnUpDxIdeal.main_v6_2) = v2 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
          ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2)
          ∧ r.2.mem ((c.tc : Thread Cert.FfnUpDxIdeal.nD Cert.FfnUpDxIdeal.τ).loc Cert.FfnUpDxIdeal.main_arg3) = m ((c.tc : Thread Cert.FfnUpDxIdeal.nD Cert.FfnUpDxIdeal.τ).loc Cert.FfnUpDxIdeal.main_arg3)
          ∧ r.2.mem ((c.tc : Thread Cert.FfnUpDxIdeal.nD Cert.FfnUpDxIdeal.τ).loc Cert.FfnUpDxIdeal.main_arg4) = m ((c.tc : Thread Cert.FfnUpDxIdeal.nD Cert.FfnUpDxIdeal.τ).loc Cert.FfnUpDxIdeal.main_arg4))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v38) = v0 c
          ∧ r.2.mem ((c.tc : Thread Cert.FfnUpDxRefIdeal.nD Cert.FfnUpDxRefIdeal.τ).loc Cert.FfnUpDxRefIdeal.main_v39) = v1 c
          ∧ r.2.mem ((c.tc : Thread Cert.FfnUpDxRefIdeal.nD Cert.FfnUpDxRefIdeal.τ).loc Cert.FfnUpDxRefIdeal.main_v41) = v2 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1)
          ∧ r.2.mem ((c.tc : Thread Cert.FfnUpDxRefIdeal.nD Cert.FfnUpDxRefIdeal.τ).loc Cert.FfnUpDxRefIdeal.main_arg2) = m' ((c.tc : Thread Cert.FfnUpDxRefIdeal.nD Cert.FfnUpDxRefIdeal.τ).loc Cert.FfnUpDxRefIdeal.main_arg2)
          ∧ r.2.mem ((c.tc : Thread Cert.FfnUpDxRefIdeal.nD Cert.FfnUpDxRefIdeal.τ).loc Cert.FfnUpDxRefIdeal.main_arg3) = m' ((c.tc : Thread Cert.FfnUpDxRefIdeal.nD Cert.FfnUpDxRefIdeal.τ).loc Cert.FfnUpDxRefIdeal.main_arg3)
          ∧ r.2.mem ((c.tc : Thread Cert.FfnUpDxRefIdeal.nD Cert.FfnUpDxRefIdeal.τ).loc Cert.FfnUpDxRefIdeal.main_arg4) = m' ((c.tc : Thread Cert.FfnUpDxRefIdeal.nD Cert.FfnUpDxRefIdeal.τ).loc Cert.FfnUpDxRefIdeal.main_arg4))

def preserves_AttnBwd_AttnBwdIdeal : Prop :=
  True

def algebraic_AttnBwdIdeal_AttnBwdRefIdeal_pre_finite_attn [hAttnBwdIdeal : Cert.AttnBwdIdeal.Facts] [hAttnBwdRefIdeal : Cert.AttnBwdRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v148_0)) (v1 : (c : Dev Cert.AttnBwdIdeal.nD) → Buf (Elt Ideal) ((c.tc : Thread Cert.AttnBwdIdeal.nD Cert.AttnBwdIdeal.τ).loc Cert.AttnBwdIdeal.main_v148_1)) (v2 : (c : Dev Cert.AttnBwdIdeal.nD) → Buf (Elt Ideal) ((c.tc : Thread Cert.AttnBwdIdeal.nD Cert.AttnBwdIdeal.τ).loc Cert.AttnBwdIdeal.main_v148_2)) (v3 : (c : Dev Cert.AttnBwdIdeal.nD) → Buf (Elt Ideal) ((c.tc : Thread Cert.AttnBwdIdeal.nD Cert.AttnBwdIdeal.τ).loc Cert.AttnBwdIdeal.main_v148_3)) (v4 : (c : Dev Cert.AttnBwdIdeal.nD) → Buf (Elt Ideal) ((c.tc : Thread Cert.AttnBwdIdeal.nD Cert.AttnBwdIdeal.τ).loc Cert.AttnBwdIdeal.main_v148_4)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v148_0) = v0 c
          ∧ r.2.mem ((c.tc : Thread Cert.AttnBwdIdeal.nD Cert.AttnBwdIdeal.τ).loc Cert.AttnBwdIdeal.main_v148_1) = v1 c
          ∧ r.2.mem ((c.tc : Thread Cert.AttnBwdIdeal.nD Cert.AttnBwdIdeal.τ).loc Cert.AttnBwdIdeal.main_v148_2) = v2 c
          ∧ r.2.mem ((c.tc : Thread Cert.AttnBwdIdeal.nD Cert.AttnBwdIdeal.τ).loc Cert.AttnBwdIdeal.main_v148_3) = v3 c
          ∧ r.2.mem ((c.tc : Thread Cert.AttnBwdIdeal.nD Cert.AttnBwdIdeal.τ).loc Cert.AttnBwdIdeal.main_v148_4) = v4 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v88) = v0 c
          ∧ r.2.mem ((c.tc : Thread Cert.AttnBwdRefIdeal.nD Cert.AttnBwdRefIdeal.τ).loc Cert.AttnBwdRefIdeal.main_v89) = v1 c
          ∧ r.2.mem ((c.tc : Thread Cert.AttnBwdRefIdeal.nD Cert.AttnBwdRefIdeal.τ).loc Cert.AttnBwdRefIdeal.main_v90) = v2 c
          ∧ r.2.mem ((c.tc : Thread Cert.AttnBwdRefIdeal.nD Cert.AttnBwdRefIdeal.τ).loc Cert.AttnBwdRefIdeal.main_v97) = v3 c
          ∧ r.2.mem ((c.tc : Thread Cert.AttnBwdRefIdeal.nD Cert.AttnBwdRefIdeal.τ).loc Cert.AttnBwdRefIdeal.main_v104) = v4 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4))

def preserves_FfnDownLoss_FfnDownLossIdeal : Prop :=
  True

def algebraic_FfnDownLossIdeal_FfnDownLossRefIdeal_pre_finite_ffn_down [hFfnDownLossIdeal : Cert.FfnDownLossIdeal.Facts] [hFfnDownLossRefIdeal : Cert.FfnDownLossRefIdeal.Facts] [hPre_finite_ffn_down : Cert.Pre_finite_ffn_down.Facts] : Prop :=
  ∀ (m : (ℓ : Loc Cert.FfnDownLossIdeal.nD Cert.FfnDownLossIdeal.τ Cert.FfnDownLossIdeal.sig) → Buf (Elt Ideal) ℓ) (g : Dev Cert.FfnDownLossIdeal.nD → PrngReg)
    (m' : (ℓ : Loc Cert.FfnDownLossRefIdeal.nD Cert.FfnDownLossRefIdeal.τ Cert.FfnDownLossRefIdeal.sig) → Buf (Elt Ideal) ℓ) (g' : Dev Cert.FfnDownLossRefIdeal.nD → PrngReg), Pre_FfnDownLossIdeal_finite_ffn_down m →
    (∀ c : Dev Cert.FfnDownLossIdeal.nD,
      m' ((c.tc : Thread Cert.FfnDownLossRefIdeal.nD Cert.FfnDownLossRefIdeal.τ).loc Cert.FfnDownLossRefIdeal.main_arg0) = m ((c.tc : Thread Cert.FfnDownLossIdeal.nD Cert.FfnDownLossIdeal.τ).loc Cert.FfnDownLossIdeal.main_arg0)
      ∧ m' ((c.tc : Thread Cert.FfnDownLossRefIdeal.nD Cert.FfnDownLossRefIdeal.τ).loc Cert.FfnDownLossRefIdeal.main_arg1) = m ((c.tc : Thread Cert.FfnDownLossIdeal.nD Cert.FfnDownLossIdeal.τ).loc Cert.FfnDownLossIdeal.main_arg1)
      ∧ m' ((c.tc : Thread Cert.FfnDownLossRefIdeal.nD Cert.FfnDownLossRefIdeal.τ).loc Cert.FfnDownLossRefIdeal.main_arg2) = m ((c.tc : Thread Cert.FfnDownLossIdeal.nD Cert.FfnDownLossIdeal.τ).loc Cert.FfnDownLossIdeal.main_arg2)
      ∧ m' ((c.tc : Thread Cert.FfnDownLossRefIdeal.nD Cert.FfnDownLossRefIdeal.τ).loc Cert.FfnDownLossRefIdeal.main_arg3) = m ((c.tc : Thread Cert.FfnDownLossIdeal.nD Cert.FfnDownLossIdeal.τ).loc Cert.FfnDownLossIdeal.main_arg3)
      ∧ m' ((c.tc : Thread Cert.FfnDownLossRefIdeal.nD Cert.FfnDownLossRefIdeal.τ).loc Cert.FfnDownLossRefIdeal.main_arg4) = m ((c.tc : Thread Cert.FfnDownLossIdeal.nD Cert.FfnDownLossIdeal.τ).loc Cert.FfnDownLossIdeal.main_arg4)) →
    ∃ (v0 : (c : Dev Cert.FfnDownLossIdeal.nD) → Buf (Elt Ideal) ((c.tc : Thread Cert.FfnDownLossIdeal.nD Cert.FfnDownLossIdeal.τ).loc Cert.FfnDownLossIdeal.main_v3_0)) (v1 : (c : Dev Cert.FfnDownLossIdeal.nD) → Buf (Elt Ideal) ((c.tc : Thread Cert.FfnDownLossIdeal.nD Cert.FfnDownLossIdeal.τ).loc Cert.FfnDownLossIdeal.main_v3_1)) (v2 : (c : Dev Cert.FfnDownLossIdeal.nD) → Buf (Elt Ideal) ((c.tc : Thread Cert.FfnDownLossIdeal.nD Cert.FfnDownLossIdeal.τ).loc Cert.FfnDownLossIdeal.main_v3_2)) (v3 : (c : Dev Cert.FfnDownLossIdeal.nD) → Buf (Elt Ideal) ((c.tc : Thread Cert.FfnDownLossIdeal.nD Cert.FfnDownLossIdeal.τ).loc Cert.FfnDownLossIdeal.main_v3_3)),
      θ_run (Cert.FfnDownLossIdeal.defs (F := Ideal)) (onTc (τ := Cert.FfnDownLossIdeal.τ) (Cert.FfnDownLossIdeal.main (F := Ideal))) ⟨m, fun _ => 0, g⟩ (fun r => ∀ c : Dev Cert.FfnDownLossIdeal.nD,
          r.2.mem ((c.tc : Thread Cert.FfnDownLossIdeal.nD Cert.FfnDownLossIdeal.τ).loc Cert.FfnDownLossIdeal.main_v3_0) = v0 c
          ∧ r.2.mem ((c.tc : Thread Cert.FfnDownLossIdeal.nD Cert.FfnDownLossIdeal.τ).loc Cert.FfnDownLossIdeal.main_v3_1) = v1 c
          ∧ r.2.mem ((c.tc : Thread Cert.FfnDownLossIdeal.nD Cert.FfnDownLossIdeal.τ).loc Cert.FfnDownLossIdeal.main_v3_2) = v2 c
          ∧ r.2.mem ((c.tc : Thread Cert.FfnDownLossIdeal.nD Cert.FfnDownLossIdeal.τ).loc Cert.FfnDownLossIdeal.main_v3_3) = v3 c
          ∧ r.2.mem ((c.tc : Thread Cert.FfnDownLossIdeal.nD Cert.FfnDownLossIdeal.τ).loc Cert.FfnDownLossIdeal.main_arg0) = m ((c.tc : Thread Cert.FfnDownLossIdeal.nD Cert.FfnDownLossIdeal.τ).loc Cert.FfnDownLossIdeal.main_arg0)
          ∧ r.2.mem ((c.tc : Thread Cert.FfnDownLossIdeal.nD Cert.FfnDownLossIdeal.τ).loc Cert.FfnDownLossIdeal.main_arg1) = m ((c.tc : Thread Cert.FfnDownLossIdeal.nD Cert.FfnDownLossIdeal.τ).loc Cert.FfnDownLossIdeal.main_arg1)
          ∧ r.2.mem ((c.tc : Thread Cert.FfnDownLossIdeal.nD Cert.FfnDownLossIdeal.τ).loc Cert.FfnDownLossIdeal.main_arg2) = m ((c.tc : Thread Cert.FfnDownLossIdeal.nD Cert.FfnDownLossIdeal.τ).loc Cert.FfnDownLossIdeal.main_arg2)
          ∧ r.2.mem ((c.tc : Thread Cert.FfnDownLossIdeal.nD Cert.FfnDownLossIdeal.τ).loc Cert.FfnDownLossIdeal.main_arg3) = m ((c.tc : Thread Cert.FfnDownLossIdeal.nD Cert.FfnDownLossIdeal.τ).loc Cert.FfnDownLossIdeal.main_arg3)
          ∧ r.2.mem ((c.tc : Thread Cert.FfnDownLossIdeal.nD Cert.FfnDownLossIdeal.τ).loc Cert.FfnDownLossIdeal.main_arg4) = m ((c.tc : Thread Cert.FfnDownLossIdeal.nD Cert.FfnDownLossIdeal.τ).loc Cert.FfnDownLossIdeal.main_arg4))
      ∧ θ_run (Cert.FfnDownLossRefIdeal.defs (F := Ideal)) (onTc (τ := Cert.FfnDownLossRefIdeal.τ) (Cert.FfnDownLossRefIdeal.main (F := Ideal))) ⟨m', fun _ => 0, g'⟩ (fun r => ∀ c : Dev Cert.FfnDownLossRefIdeal.nD,
          r.2.mem ((c.tc : Thread Cert.FfnDownLossRefIdeal.nD Cert.FfnDownLossRefIdeal.τ).loc Cert.FfnDownLossRefIdeal.main_v53) = v0 c
          ∧ r.2.mem ((c.tc : Thread Cert.FfnDownLossRefIdeal.nD Cert.FfnDownLossRefIdeal.τ).loc Cert.FfnDownLossRefIdeal.main_v52) = v1 c
          ∧ r.2.mem ((c.tc : Thread Cert.FfnDownLossRefIdeal.nD Cert.FfnDownLossRefIdeal.τ).loc Cert.FfnDownLossRefIdeal.main_v54) = v2 c
          ∧ r.2.mem ((c.tc : Thread Cert.FfnDownLossRefIdeal.nD Cert.FfnDownLossRefIdeal.τ).loc Cert.FfnDownLossRefIdeal.main_v56) = v3 c
          ∧ r.2.mem ((c.tc : Thread Cert.FfnDownLossRefIdeal.nD Cert.FfnDownLossRefIdeal.τ).loc Cert.FfnDownLossRefIdeal.main_arg0) = m' ((c.tc : Thread Cert.FfnDownLossRefIdeal.nD Cert.FfnDownLossRefIdeal.τ).loc Cert.FfnDownLossRefIdeal.main_arg0)
          ∧ r.2.mem ((c.tc : Thread Cert.FfnDownLossRefIdeal.nD Cert.FfnDownLossRefIdeal.τ).loc Cert.FfnDownLossRefIdeal.main_arg1) = m' ((c.tc : Thread Cert.FfnDownLossRefIdeal.nD Cert.FfnDownLossRefIdeal.τ).loc Cert.FfnDownLossRefIdeal.main_arg1)
          ∧ r.2.mem ((c.tc : Thread Cert.FfnDownLossRefIdeal.nD Cert.FfnDownLossRefIdeal.τ).loc Cert.FfnDownLossRefIdeal.main_arg2) = m' ((c.tc : Thread Cert.FfnDownLossRefIdeal.nD Cert.FfnDownLossRefIdeal.τ).loc Cert.FfnDownLossRefIdeal.main_arg2)
          ∧ r.2.mem ((c.tc : Thread Cert.FfnDownLossRefIdeal.nD Cert.FfnDownLossRefIdeal.τ).loc Cert.FfnDownLossRefIdeal.main_arg3) = m' ((c.tc : Thread Cert.FfnDownLossRefIdeal.nD Cert.FfnDownLossRefIdeal.τ).loc Cert.FfnDownLossRefIdeal.main_arg3)
          ∧ r.2.mem ((c.tc : Thread Cert.FfnDownLossRefIdeal.nD Cert.FfnDownLossRefIdeal.τ).loc Cert.FfnDownLossRefIdeal.main_arg4) = m' ((c.tc : Thread Cert.FfnDownLossRefIdeal.nD Cert.FfnDownLossRefIdeal.τ).loc Cert.FfnDownLossRefIdeal.main_arg4))

def preserves_InProjDx_InProjDxIdeal : Prop :=
  True

def algebraic_InProjDxIdeal_InProjDxRefIdeal_pre_finite_in_proj [hInProjDxIdeal : Cert.InProjDxIdeal.Facts] [hInProjDxRefIdeal : Cert.InProjDxRefIdeal.Facts] [hPre_finite_in_proj : Cert.Pre_finite_in_proj.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal_finite_in_proj m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)
      ∧ m' ((c.tc : Thread Cert.InProjDxRefIdeal.nD Cert.InProjDxRefIdeal.τ).loc Cert.InProjDxRefIdeal.main_arg2) = m ((c.tc : Thread Cert.InProjDxIdeal.nD Cert.InProjDxIdeal.τ).loc Cert.InProjDxIdeal.main_arg2)
      ∧ m' ((c.tc : Thread Cert.InProjDxRefIdeal.nD Cert.InProjDxRefIdeal.τ).loc Cert.InProjDxRefIdeal.main_arg3) = m ((c.tc : Thread Cert.InProjDxIdeal.nD Cert.InProjDxIdeal.τ).loc Cert.InProjDxIdeal.main_arg3)
      ∧ m' ((c.tc : Thread Cert.InProjDxRefIdeal.nD Cert.InProjDxRefIdeal.τ).loc Cert.InProjDxRefIdeal.main_arg4) = m ((c.tc : Thread Cert.InProjDxIdeal.nD Cert.InProjDxIdeal.τ).loc Cert.InProjDxIdeal.main_arg4)) →
    ∃ (v0 : (c : Dev Cert.InProjDxIdeal.nD) → Buf (Elt Ideal) ((c.tc : Thread Cert.InProjDxIdeal.nD Cert.InProjDxIdeal.τ).loc Cert.InProjDxIdeal.main_v11_0)) (v1 : (c : Dev Cert.InProjDxIdeal.nD) → Buf (Elt Ideal) ((c.tc : Thread Cert.InProjDxIdeal.nD Cert.InProjDxIdeal.τ).loc Cert.InProjDxIdeal.main_v11_1)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v11_0) = v0 c
          ∧ r.2.mem ((c.tc : Thread Cert.InProjDxIdeal.nD Cert.InProjDxIdeal.τ).loc Cert.InProjDxIdeal.main_v11_1) = v1 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
          ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
          ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
          ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v38) = v0 c
          ∧ r.2.mem ((c.tc : Thread Cert.InProjDxRefIdeal.nD Cert.InProjDxRefIdeal.τ).loc Cert.InProjDxRefIdeal.main_v40) = v1 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1)
          ∧ r.2.mem ((c.tc : Thread Cert.InProjDxRefIdeal.nD Cert.InProjDxRefIdeal.τ).loc Cert.InProjDxRefIdeal.main_arg2) = m' ((c.tc : Thread Cert.InProjDxRefIdeal.nD Cert.InProjDxRefIdeal.τ).loc Cert.InProjDxRefIdeal.main_arg2)
          ∧ r.2.mem ((c.tc : Thread Cert.InProjDxRefIdeal.nD Cert.InProjDxRefIdeal.τ).loc Cert.InProjDxRefIdeal.main_arg3) = m' ((c.tc : Thread Cert.InProjDxRefIdeal.nD Cert.InProjDxRefIdeal.τ).loc Cert.InProjDxRefIdeal.main_arg3)
          ∧ r.2.mem ((c.tc : Thread Cert.InProjDxRefIdeal.nD Cert.InProjDxRefIdeal.τ).loc Cert.InProjDxRefIdeal.main_arg4) = m' ((c.tc : Thread Cert.InProjDxRefIdeal.nD Cert.InProjDxRefIdeal.τ).loc Cert.InProjDxRefIdeal.main_arg4))

def preserves_GateBwd_GateBwdIdeal : Prop :=
  True

def algebraic_GateBwdIdeal_GateBwdRefIdeal_pre_finite_gate [hGateBwdIdeal : Cert.GateBwdIdeal.Facts] [hGateBwdRefIdeal : Cert.GateBwdRefIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_finite_gate m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v23_0)) (v1 : (c : Dev Cert.GateBwdIdeal.nD) → Buf (Elt Ideal) ((c.tc : Thread Cert.GateBwdIdeal.nD Cert.GateBwdIdeal.τ).loc Cert.GateBwdIdeal.main_v23_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v23_0) = v0 c
          ∧ r.2.mem ((c.tc : Thread Cert.GateBwdIdeal.nD Cert.GateBwdIdeal.τ).loc Cert.GateBwdIdeal.main_v23_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v12) = v0 c
          ∧ r.2.mem ((c.tc : Thread Cert.GateBwdRefIdeal.nD Cert.GateBwdRefIdeal.τ).loc Cert.GateBwdRefIdeal.main_v14) = v1 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3))

def preserves_ConvGate_ConvGateIdeal : Prop :=
  True

def algebraic_ConvGateIdeal_ConvGateRefIdeal_pre_finite_conv_gate [hConvGateIdeal : Cert.ConvGateIdeal.Facts] [hConvGateRefIdeal : Cert.ConvGateRefIdeal.Facts] [hPre_finite_conv_gate : Cert.Pre_finite_conv_gate.Facts] : Prop :=
  ∀ (m : (ℓ : Loc Cert.ConvGateIdeal.nD Cert.ConvGateIdeal.τ Cert.ConvGateIdeal.sig) → Buf (Elt Ideal) ℓ) (g : Dev Cert.ConvGateIdeal.nD → PrngReg)
    (m' : (ℓ : Loc Cert.ConvGateRefIdeal.nD Cert.ConvGateRefIdeal.τ Cert.ConvGateRefIdeal.sig) → Buf (Elt Ideal) ℓ) (g' : Dev Cert.ConvGateRefIdeal.nD → PrngReg), Pre_ConvGateIdeal_finite_conv_gate m →
    (∀ c : Dev Cert.ConvGateIdeal.nD,
      m' ((c.tc : Thread Cert.ConvGateRefIdeal.nD Cert.ConvGateRefIdeal.τ).loc Cert.ConvGateRefIdeal.main_arg0) = m ((c.tc : Thread Cert.ConvGateIdeal.nD Cert.ConvGateIdeal.τ).loc Cert.ConvGateIdeal.main_arg0)
      ∧ m' ((c.tc : Thread Cert.ConvGateRefIdeal.nD Cert.ConvGateRefIdeal.τ).loc Cert.ConvGateRefIdeal.main_arg1) = m ((c.tc : Thread Cert.ConvGateIdeal.nD Cert.ConvGateIdeal.τ).loc Cert.ConvGateIdeal.main_arg1)
      ∧ m' ((c.tc : Thread Cert.ConvGateRefIdeal.nD Cert.ConvGateRefIdeal.τ).loc Cert.ConvGateRefIdeal.main_arg2) = m ((c.tc : Thread Cert.ConvGateIdeal.nD Cert.ConvGateIdeal.τ).loc Cert.ConvGateIdeal.main_arg2)
      ∧ m' ((c.tc : Thread Cert.ConvGateRefIdeal.nD Cert.ConvGateRefIdeal.τ).loc Cert.ConvGateRefIdeal.main_arg3) = m ((c.tc : Thread Cert.ConvGateIdeal.nD Cert.ConvGateIdeal.τ).loc Cert.ConvGateIdeal.main_arg3)) →
    ∃ (v0 : (c : Dev Cert.ConvGateIdeal.nD) → Buf (Elt Ideal) ((c.tc : Thread Cert.ConvGateIdeal.nD Cert.ConvGateIdeal.τ).loc Cert.ConvGateIdeal.main_v33_0)) (v1 : (c : Dev Cert.ConvGateIdeal.nD) → Buf (Elt Ideal) ((c.tc : Thread Cert.ConvGateIdeal.nD Cert.ConvGateIdeal.τ).loc Cert.ConvGateIdeal.main_v33_1)),
      θ_run (Cert.ConvGateIdeal.defs (F := Ideal)) (onTc (τ := Cert.ConvGateIdeal.τ) (Cert.ConvGateIdeal.main (F := Ideal))) ⟨m, fun _ => 0, g⟩ (fun r => ∀ c : Dev Cert.ConvGateIdeal.nD,
          r.2.mem ((c.tc : Thread Cert.ConvGateIdeal.nD Cert.ConvGateIdeal.τ).loc Cert.ConvGateIdeal.main_v33_0) = v0 c
          ∧ r.2.mem ((c.tc : Thread Cert.ConvGateIdeal.nD Cert.ConvGateIdeal.τ).loc Cert.ConvGateIdeal.main_v33_1) = v1 c
          ∧ r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
          ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
          ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2)
          ∧ r.2.mem ((c.tc : Thread Cert.ConvGateIdeal.nD Cert.ConvGateIdeal.τ).loc Cert.ConvGateIdeal.main_arg3) = m ((c.tc : Thread Cert.ConvGateIdeal.nD Cert.ConvGateIdeal.τ).loc Cert.ConvGateIdeal.main_arg3))
      ∧ θ_run (Cert.ConvGateRefIdeal.defs (F := Ideal)) (onTc (τ := Cert.ConvGateRefIdeal.τ) (Cert.ConvGateRefIdeal.main (F := Ideal))) ⟨m', fun _ => 0, g'⟩ (fun r => ∀ c : Dev Cert.ConvGateRefIdeal.nD,
          r.2.mem ((c.tc : Thread Cert.ConvGateRefIdeal.nD Cert.ConvGateRefIdeal.τ).loc Cert.ConvGateRefIdeal.main_v75) = v0 c
          ∧ r.2.mem ((c.tc : Thread Cert.ConvGateRefIdeal.nD Cert.ConvGateRefIdeal.τ).loc Cert.ConvGateRefIdeal.main_v77) = v1 c
          ∧ r.2.mem ((c.tc : Thread Cert.ConvGateRefIdeal.nD Cert.ConvGateRefIdeal.τ).loc Cert.ConvGateRefIdeal.main_arg0) = m' ((c.tc : Thread Cert.ConvGateRefIdeal.nD Cert.ConvGateRefIdeal.τ).loc Cert.ConvGateRefIdeal.main_arg0)
          ∧ r.2.mem ((c.tc : Thread Cert.ConvGateRefIdeal.nD Cert.ConvGateRefIdeal.τ).loc Cert.ConvGateRefIdeal.main_arg1) = m' ((c.tc : Thread Cert.ConvGateRefIdeal.nD Cert.ConvGateRefIdeal.τ).loc Cert.ConvGateRefIdeal.main_arg1)
          ∧ r.2.mem ((c.tc : Thread Cert.ConvGateRefIdeal.nD Cert.ConvGateRefIdeal.τ).loc Cert.ConvGateRefIdeal.main_arg2) = m' ((c.tc : Thread Cert.ConvGateRefIdeal.nD Cert.ConvGateRefIdeal.τ).loc Cert.ConvGateRefIdeal.main_arg2)
          ∧ r.2.mem ((c.tc : Thread Cert.ConvGateRefIdeal.nD Cert.ConvGateRefIdeal.τ).loc Cert.ConvGateRefIdeal.main_arg3) = m' ((c.tc : Thread Cert.ConvGateRefIdeal.nD Cert.ConvGateRefIdeal.τ).loc Cert.ConvGateRefIdeal.main_arg3))

def preserves_AttnFwd_AttnFwdIdeal : Prop :=
  True

def algebraic_AttnFwdIdeal_AttnFwdRefIdeal_pre_finite_attn_fwd [hAttnFwdIdeal : Cert.AttnFwdIdeal.Facts] [hAttnFwdRefIdeal : Cert.AttnFwdRefIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attn_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v80_0)) (v1 : (c : Dev Cert.AttnFwdIdeal.nD) → Buf (Elt Ideal) ((c.tc : Thread Cert.AttnFwdIdeal.nD Cert.AttnFwdIdeal.τ).loc Cert.AttnFwdIdeal.main_v80_1)) (v2 : (c : Dev Cert.AttnFwdIdeal.nD) → Buf (Elt Ideal) ((c.tc : Thread Cert.AttnFwdIdeal.nD Cert.AttnFwdIdeal.τ).loc Cert.AttnFwdIdeal.main_v80_2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v80_0) = v0 c
          ∧ r.2.mem ((c.tc : Thread Cert.AttnFwdIdeal.nD Cert.AttnFwdIdeal.τ).loc Cert.AttnFwdIdeal.main_v80_1) = v1 c
          ∧ r.2.mem ((c.tc : Thread Cert.AttnFwdIdeal.nD Cert.AttnFwdIdeal.τ).loc Cert.AttnFwdIdeal.main_v80_2) = v2 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v43) = v0 c
          ∧ r.2.mem ((c.tc : Thread Cert.AttnFwdRefIdeal.nD Cert.AttnFwdRefIdeal.τ).loc Cert.AttnFwdRefIdeal.main_v47) = v1 c
          ∧ r.2.mem ((c.tc : Thread Cert.AttnFwdRefIdeal.nD Cert.AttnFwdRefIdeal.τ).loc Cert.AttnFwdRefIdeal.main_v48) = v2 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_GmlpBwd_GmlpBwdIdeal : Prop :=
  True

def algebraic_GmlpBwdIdeal_GmlpBwdRefIdeal_pre_finite_gmlp [hGmlpBwdIdeal : Cert.GmlpBwdIdeal.Facts] [hGmlpBwdRefIdeal : Cert.GmlpBwdRefIdeal.Facts] [hPre_finite_gmlp : Cert.Pre_finite_gmlp.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg)
    (m' : (ℓ : Loc Cert.GmlpBwdRefIdeal.nD Cert.GmlpBwdRefIdeal.τ Cert.GmlpBwdRefIdeal.sig) → Buf (Elt Ideal) ℓ) (g' : Dev Cert.GmlpBwdRefIdeal.nD → PrngReg), Pre_GmlpBwdIdeal_finite_gmlp m →
    (∀ c : Dev Cert.GmlpBwdIdeal.nD,
      m' ((c.tc : Thread Cert.GmlpBwdRefIdeal.nD Cert.GmlpBwdRefIdeal.τ).loc Cert.GmlpBwdRefIdeal.main_arg0) = m ((c.tc : Thread Cert.GmlpBwdIdeal.nD Cert.GmlpBwdIdeal.τ).loc Cert.GmlpBwdIdeal.main_arg0)
      ∧ m' ((c.tc : Thread Cert.GmlpBwdRefIdeal.nD Cert.GmlpBwdRefIdeal.τ).loc Cert.GmlpBwdRefIdeal.main_arg1) = m ((c.tc : Thread Cert.GmlpBwdIdeal.nD Cert.GmlpBwdIdeal.τ).loc Cert.GmlpBwdIdeal.main_arg1)
      ∧ m' ((c.tc : Thread Cert.GmlpBwdRefIdeal.nD Cert.GmlpBwdRefIdeal.τ).loc Cert.GmlpBwdRefIdeal.main_arg2) = m ((c.tc : Thread Cert.GmlpBwdIdeal.nD Cert.GmlpBwdIdeal.τ).loc Cert.GmlpBwdIdeal.main_arg2)
      ∧ m' ((c.tc : Thread Cert.GmlpBwdRefIdeal.nD Cert.GmlpBwdRefIdeal.τ).loc Cert.GmlpBwdRefIdeal.main_arg3) = m ((c.tc : Thread Cert.GmlpBwdIdeal.nD Cert.GmlpBwdIdeal.τ).loc Cert.GmlpBwdIdeal.main_arg3)
      ∧ m' ((c.tc : Thread Cert.GmlpBwdRefIdeal.nD Cert.GmlpBwdRefIdeal.τ).loc Cert.GmlpBwdRefIdeal.main_arg4) = m ((c.tc : Thread Cert.GmlpBwdIdeal.nD Cert.GmlpBwdIdeal.τ).loc Cert.GmlpBwdIdeal.main_arg4)) →
    ∃ (v0 : (c : Dev Cert.GmlpBwdIdeal.nD) → Buf (Elt Ideal) ((c.tc : Thread Cert.GmlpBwdIdeal.nD Cert.GmlpBwdIdeal.τ).loc Cert.GmlpBwdIdeal.main_v11_3)),
      θ_run (Cert.GmlpBwdIdeal.defs (F := Ideal)) (onTc (τ := Cert.GmlpBwdIdeal.τ) (Cert.GmlpBwdIdeal.main (F := Ideal))) ⟨m, fun _ => 0, g⟩ (fun r => ∀ c : Dev Cert.GmlpBwdIdeal.nD,
          r.2.mem ((c.tc : Thread Cert.GmlpBwdIdeal.nD Cert.GmlpBwdIdeal.τ).loc Cert.GmlpBwdIdeal.main_v11_3) = v0 c
          ∧ r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
          ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
          ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
          ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
          ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4))
      ∧ θ_run (Cert.GmlpBwdRefIdeal.defs (F := Ideal)) (onTc (τ := Cert.GmlpBwdRefIdeal.τ) (Cert.GmlpBwdRefIdeal.main (F := Ideal))) ⟨m', fun _ => 0, g'⟩ (fun r => ∀ c : Dev Cert.GmlpBwdRefIdeal.nD,
          r.2.mem ((c.tc : Thread Cert.GmlpBwdRefIdeal.nD Cert.GmlpBwdRefIdeal.τ).loc Cert.GmlpBwdRefIdeal.main_v55) = v0 c
          ∧ r.2.mem ((c.tc : Thread Cert.GmlpBwdRefIdeal.nD Cert.GmlpBwdRefIdeal.τ).loc Cert.GmlpBwdRefIdeal.main_arg0) = m' ((c.tc : Thread Cert.GmlpBwdRefIdeal.nD Cert.GmlpBwdRefIdeal.τ).loc Cert.GmlpBwdRefIdeal.main_arg0)
          ∧ r.2.mem ((c.tc : Thread Cert.GmlpBwdRefIdeal.nD Cert.GmlpBwdRefIdeal.τ).loc Cert.GmlpBwdRefIdeal.main_arg1) = m' ((c.tc : Thread Cert.GmlpBwdRefIdeal.nD Cert.GmlpBwdRefIdeal.τ).loc Cert.GmlpBwdRefIdeal.main_arg1)
          ∧ r.2.mem ((c.tc : Thread Cert.GmlpBwdRefIdeal.nD Cert.GmlpBwdRefIdeal.τ).loc Cert.GmlpBwdRefIdeal.main_arg2) = m' ((c.tc : Thread Cert.GmlpBwdRefIdeal.nD Cert.GmlpBwdRefIdeal.τ).loc Cert.GmlpBwdRefIdeal.main_arg2)
          ∧ r.2.mem ((c.tc : Thread Cert.GmlpBwdRefIdeal.nD Cert.GmlpBwdRefIdeal.τ).loc Cert.GmlpBwdRefIdeal.main_arg3) = m' ((c.tc : Thread Cert.GmlpBwdRefIdeal.nD Cert.GmlpBwdRefIdeal.τ).loc Cert.GmlpBwdRefIdeal.main_arg3)
          ∧ r.2.mem ((c.tc : Thread Cert.GmlpBwdRefIdeal.nD Cert.GmlpBwdRefIdeal.τ).loc Cert.GmlpBwdRefIdeal.main_arg4) = m' ((c.tc : Thread Cert.GmlpBwdRefIdeal.nD Cert.GmlpBwdRefIdeal.τ).loc Cert.GmlpBwdRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_OutProjDx_OutProjDxIdeal : Prop :=
  True

def algebraic_OutProjDxIdeal_OutProjDxRefIdeal_pre_finite_out_proj_dx [hOutProjDxIdeal : Cert.OutProjDxIdeal.Facts] [hOutProjDxRefIdeal : Cert.OutProjDxRefIdeal.Facts] [hPre_finite_out_proj_dx : Cert.Pre_finite_out_proj_dx.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal_finite_out_proj_dx m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)
      ∧ m' ((c.tc : Thread Cert.OutProjDxRefIdeal.nD Cert.OutProjDxRefIdeal.τ).loc Cert.OutProjDxRefIdeal.main_arg2) = m ((c.tc : Thread Cert.OutProjDxIdeal.nD Cert.OutProjDxIdeal.τ).loc Cert.OutProjDxIdeal.main_arg2)
      ∧ m' ((c.tc : Thread Cert.OutProjDxRefIdeal.nD Cert.OutProjDxRefIdeal.τ).loc Cert.OutProjDxRefIdeal.main_arg3) = m ((c.tc : Thread Cert.OutProjDxIdeal.nD Cert.OutProjDxIdeal.τ).loc Cert.OutProjDxIdeal.main_arg3)
      ∧ m' ((c.tc : Thread Cert.OutProjDxRefIdeal.nD Cert.OutProjDxRefIdeal.τ).loc Cert.OutProjDxRefIdeal.main_arg4) = m ((c.tc : Thread Cert.OutProjDxIdeal.nD Cert.OutProjDxIdeal.τ).loc Cert.OutProjDxIdeal.main_arg4)) →
    ∃ (v0 : (c : Dev Cert.OutProjDxIdeal.nD) → Buf (Elt Ideal) ((c.tc : Thread Cert.OutProjDxIdeal.nD Cert.OutProjDxIdeal.τ).loc Cert.OutProjDxIdeal.main_v3_0)) (v1 : (c : Dev Cert.OutProjDxIdeal.nD) → Buf (Elt Ideal) ((c.tc : Thread Cert.OutProjDxIdeal.nD Cert.OutProjDxIdeal.τ).loc Cert.OutProjDxIdeal.main_v3_1)) (v2 : (c : Dev Cert.OutProjDxIdeal.nD) → Buf (Elt Ideal) ((c.tc : Thread Cert.OutProjDxIdeal.nD Cert.OutProjDxIdeal.τ).loc Cert.OutProjDxIdeal.main_v3_2)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v3_0) = v0 c
          ∧ r.2.mem ((c.tc : Thread Cert.OutProjDxIdeal.nD Cert.OutProjDxIdeal.τ).loc Cert.OutProjDxIdeal.main_v3_1) = v1 c
          ∧ r.2.mem ((c.tc : Thread Cert.OutProjDxIdeal.nD Cert.OutProjDxIdeal.τ).loc Cert.OutProjDxIdeal.main_v3_2) = v2 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
          ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2)
          ∧ r.2.mem ((c.tc : Thread Cert.OutProjDxIdeal.nD Cert.OutProjDxIdeal.τ).loc Cert.OutProjDxIdeal.main_arg3) = m ((c.tc : Thread Cert.OutProjDxIdeal.nD Cert.OutProjDxIdeal.τ).loc Cert.OutProjDxIdeal.main_arg3)
          ∧ r.2.mem ((c.tc : Thread Cert.OutProjDxIdeal.nD Cert.OutProjDxIdeal.τ).loc Cert.OutProjDxIdeal.main_arg4) = m ((c.tc : Thread Cert.OutProjDxIdeal.nD Cert.OutProjDxIdeal.τ).loc Cert.OutProjDxIdeal.main_arg4))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v5) = v0 c
          ∧ r.2.mem ((c.tc : Thread Cert.OutProjDxRefIdeal.nD Cert.OutProjDxRefIdeal.τ).loc Cert.OutProjDxRefIdeal.main_v23) = v1 c
          ∧ r.2.mem ((c.tc : Thread Cert.OutProjDxRefIdeal.nD Cert.OutProjDxRefIdeal.τ).loc Cert.OutProjDxRefIdeal.main_v25) = v2 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1)
          ∧ r.2.mem ((c.tc : Thread Cert.OutProjDxRefIdeal.nD Cert.OutProjDxRefIdeal.τ).loc Cert.OutProjDxRefIdeal.main_arg2) = m' ((c.tc : Thread Cert.OutProjDxRefIdeal.nD Cert.OutProjDxRefIdeal.τ).loc Cert.OutProjDxRefIdeal.main_arg2)
          ∧ r.2.mem ((c.tc : Thread Cert.OutProjDxRefIdeal.nD Cert.OutProjDxRefIdeal.τ).loc Cert.OutProjDxRefIdeal.main_arg3) = m' ((c.tc : Thread Cert.OutProjDxRefIdeal.nD Cert.OutProjDxRefIdeal.τ).loc Cert.OutProjDxRefIdeal.main_arg3)
          ∧ r.2.mem ((c.tc : Thread Cert.OutProjDxRefIdeal.nD Cert.OutProjDxRefIdeal.τ).loc Cert.OutProjDxRefIdeal.main_arg4) = m' ((c.tc : Thread Cert.OutProjDxRefIdeal.nD Cert.OutProjDxRefIdeal.τ).loc Cert.OutProjDxRefIdeal.main_arg4))

def Claim : Prop :=
  ∃ (hFfnUpDx : Cert.FfnUpDx.Facts) (hFfnUpDxIdeal : Cert.FfnUpDxIdeal.Facts) (hFfnUpDxRefIdeal : Cert.FfnUpDxRefIdeal.Facts) (hAttnBwd : Cert.AttnBwd.Facts) (hAttnBwdIdeal : Cert.AttnBwdIdeal.Facts) (hAttnBwdRefIdeal : Cert.AttnBwdRefIdeal.Facts) (hFfnDownLoss : Cert.FfnDownLoss.Facts) (hFfnDownLossIdeal : Cert.FfnDownLossIdeal.Facts) (hFfnDownLossRefIdeal : Cert.FfnDownLossRefIdeal.Facts) (hInProjDx : Cert.InProjDx.Facts) (hInProjDxIdeal : Cert.InProjDxIdeal.Facts) (hInProjDxRefIdeal : Cert.InProjDxRefIdeal.Facts) (hGateBwd : Cert.GateBwd.Facts) (hGateBwdIdeal : Cert.GateBwdIdeal.Facts) (hGateBwdRefIdeal : Cert.GateBwdRefIdeal.Facts) (hConvGate : Cert.ConvGate.Facts) (hConvGateIdeal : Cert.ConvGateIdeal.Facts) (hConvGateRefIdeal : Cert.ConvGateRefIdeal.Facts) (hAttnFwd : Cert.AttnFwd.Facts) (hAttnFwdIdeal : Cert.AttnFwdIdeal.Facts) (hAttnFwdRefIdeal : Cert.AttnFwdRefIdeal.Facts) (hGmlpBwd : Cert.GmlpBwd.Facts) (hGmlpBwdIdeal : Cert.GmlpBwdIdeal.Facts) (hGmlpBwdRefIdeal : Cert.GmlpBwdRefIdeal.Facts) (hOutProj : Cert.OutProj.Facts) (hOutProjIdeal : Cert.OutProjIdeal.Facts) (hOutProjRefIdeal : Cert.OutProjRefIdeal.Facts) (hOutProjDx : Cert.OutProjDx.Facts) (hOutProjDxIdeal : Cert.OutProjDxIdeal.Facts) (hOutProjDxRefIdeal : Cert.OutProjDxRefIdeal.Facts) (hPre_finite_ffn_up : Cert.Pre_finite_ffn_up.Facts) (hPre_finite_attn : Cert.Pre_finite_attn.Facts) (hPre_finite_ffn_down : Cert.Pre_finite_ffn_down.Facts) (hPre_finite_in_proj : Cert.Pre_finite_in_proj.Facts) (hPre_finite_gate : Cert.Pre_finite_gate.Facts) (hPre_finite_conv_gate : Cert.Pre_finite_conv_gate.Facts) (hPre_finite_attn_fwd : Cert.Pre_finite_attn_fwd.Facts) (hPre_finite_gmlp : Cert.Pre_finite_gmlp.Facts) (hPre_finite_out_proj_dx : Cert.Pre_finite_out_proj_dx.Facts),
    quiescent_FfnUpDx (hFfnUpDx := hFfnUpDx)
    ∧ quiescent_FfnUpDxIdeal (hFfnUpDxIdeal := hFfnUpDxIdeal)
    ∧ quiescent_FfnUpDxIdeal_pre_finite_ffn_up (hFfnUpDxIdeal := hFfnUpDxIdeal) (hPre_finite_ffn_up := hPre_finite_ffn_up)
    ∧ quiescent_FfnUpDxRefIdeal (hFfnUpDxRefIdeal := hFfnUpDxRefIdeal)
    ∧ quiescent_FfnUpDxRefIdeal_pre_finite_ffn_up (hFfnUpDxRefIdeal := hFfnUpDxRefIdeal) (hPre_finite_ffn_up := hPre_finite_ffn_up)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnBwdRefIdeal (hAttnBwdRefIdeal := hAttnBwdRefIdeal)
    ∧ quiescent_AttnBwdRefIdeal_pre_finite_attn (hAttnBwdRefIdeal := hAttnBwdRefIdeal) (hPre_finite_attn := hPre_finite_attn)
    ∧ quiescent_FfnDownLoss (hFfnDownLoss := hFfnDownLoss)
    ∧ quiescent_FfnDownLossIdeal (hFfnDownLossIdeal := hFfnDownLossIdeal)
    ∧ quiescent_FfnDownLossIdeal_pre_finite_ffn_down (hFfnDownLossIdeal := hFfnDownLossIdeal) (hPre_finite_ffn_down := hPre_finite_ffn_down)
    ∧ quiescent_FfnDownLossRefIdeal (hFfnDownLossRefIdeal := hFfnDownLossRefIdeal)
    ∧ quiescent_FfnDownLossRefIdeal_pre_finite_ffn_down (hFfnDownLossRefIdeal := hFfnDownLossRefIdeal) (hPre_finite_ffn_down := hPre_finite_ffn_down)
    ∧ quiescent_InProjDx (hInProjDx := hInProjDx)
    ∧ quiescent_InProjDxIdeal (hInProjDxIdeal := hInProjDxIdeal)
    ∧ quiescent_InProjDxIdeal_pre_finite_in_proj (hInProjDxIdeal := hInProjDxIdeal) (hPre_finite_in_proj := hPre_finite_in_proj)
    ∧ quiescent_InProjDxRefIdeal (hInProjDxRefIdeal := hInProjDxRefIdeal)
    ∧ quiescent_InProjDxRefIdeal_pre_finite_in_proj (hInProjDxRefIdeal := hInProjDxRefIdeal) (hPre_finite_in_proj := hPre_finite_in_proj)
    ∧ quiescent_GateBwd (hGateBwd := hGateBwd)
    ∧ quiescent_GateBwdIdeal (hGateBwdIdeal := hGateBwdIdeal)
    ∧ quiescent_GateBwdIdeal_pre_finite_gate (hGateBwdIdeal := hGateBwdIdeal) (hPre_finite_gate := hPre_finite_gate)
    ∧ quiescent_GateBwdRefIdeal (hGateBwdRefIdeal := hGateBwdRefIdeal)
    ∧ quiescent_GateBwdRefIdeal_pre_finite_gate (hGateBwdRefIdeal := hGateBwdRefIdeal) (hPre_finite_gate := hPre_finite_gate)
    ∧ quiescent_ConvGate (hConvGate := hConvGate)
    ∧ quiescent_ConvGateIdeal (hConvGateIdeal := hConvGateIdeal)
    ∧ quiescent_ConvGateIdeal_pre_finite_conv_gate (hConvGateIdeal := hConvGateIdeal) (hPre_finite_conv_gate := hPre_finite_conv_gate)
    ∧ quiescent_ConvGateRefIdeal (hConvGateRefIdeal := hConvGateRefIdeal)
    ∧ quiescent_ConvGateRefIdeal_pre_finite_conv_gate (hConvGateRefIdeal := hConvGateRefIdeal) (hPre_finite_conv_gate := hPre_finite_conv_gate)
    ∧ quiescent_AttnFwd (hAttnFwd := hAttnFwd)
    ∧ quiescent_AttnFwdIdeal (hAttnFwdIdeal := hAttnFwdIdeal)
    ∧ quiescent_AttnFwdIdeal_pre_finite_attn_fwd (hAttnFwdIdeal := hAttnFwdIdeal) (hPre_finite_attn_fwd := hPre_finite_attn_fwd)
    ∧ quiescent_AttnFwdRefIdeal (hAttnFwdRefIdeal := hAttnFwdRefIdeal)
    ∧ quiescent_AttnFwdRefIdeal_pre_finite_attn_fwd (hAttnFwdRefIdeal := hAttnFwdRefIdeal) (hPre_finite_attn_fwd := hPre_finite_attn_fwd)
    ∧ quiescent_GmlpBwd (hGmlpBwd := hGmlpBwd)
    ∧ quiescent_GmlpBwdIdeal (hGmlpBwdIdeal := hGmlpBwdIdeal)
    ∧ quiescent_GmlpBwdIdeal_pre_finite_gmlp (hGmlpBwdIdeal := hGmlpBwdIdeal) (hPre_finite_gmlp := hPre_finite_gmlp)
    ∧ quiescent_GmlpBwdRefIdeal (hGmlpBwdRefIdeal := hGmlpBwdRefIdeal)
    ∧ quiescent_GmlpBwdRefIdeal_pre_finite_gmlp (hGmlpBwdRefIdeal := hGmlpBwdRefIdeal) (hPre_finite_gmlp := hPre_finite_gmlp)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjDx (hOutProjDx := hOutProjDx)
    ∧ quiescent_OutProjDxIdeal (hOutProjDxIdeal := hOutProjDxIdeal)
    ∧ quiescent_OutProjDxIdeal_pre_finite_out_proj_dx (hOutProjDxIdeal := hOutProjDxIdeal) (hPre_finite_out_proj_dx := hPre_finite_out_proj_dx)
    ∧ quiescent_OutProjDxRefIdeal (hOutProjDxRefIdeal := hOutProjDxRefIdeal)
    ∧ quiescent_OutProjDxRefIdeal_pre_finite_out_proj_dx (hOutProjDxRefIdeal := hOutProjDxRefIdeal) (hPre_finite_out_proj_dx := hPre_finite_out_proj_dx)
    ∧ preserves_FfnUpDx_FfnUpDxIdeal
    ∧ algebraic_FfnUpDxIdeal_FfnUpDxRefIdeal_pre_finite_ffn_up (hFfnUpDxIdeal := hFfnUpDxIdeal) (hFfnUpDxRefIdeal := hFfnUpDxRefIdeal) (hPre_finite_ffn_up := hPre_finite_ffn_up)
    ∧ preserves_AttnBwd_AttnBwdIdeal
    ∧ algebraic_AttnBwdIdeal_AttnBwdRefIdeal_pre_finite_attn (hAttnBwdIdeal := hAttnBwdIdeal) (hAttnBwdRefIdeal := hAttnBwdRefIdeal) (hPre_finite_attn := hPre_finite_attn)
    ∧ preserves_FfnDownLoss_FfnDownLossIdeal
    ∧ algebraic_FfnDownLossIdeal_FfnDownLossRefIdeal_pre_finite_ffn_down (hFfnDownLossIdeal := hFfnDownLossIdeal) (hFfnDownLossRefIdeal := hFfnDownLossRefIdeal) (hPre_finite_ffn_down := hPre_finite_ffn_down)
    ∧ preserves_InProjDx_InProjDxIdeal
    ∧ algebraic_InProjDxIdeal_InProjDxRefIdeal_pre_finite_in_proj (hInProjDxIdeal := hInProjDxIdeal) (hInProjDxRefIdeal := hInProjDxRefIdeal) (hPre_finite_in_proj := hPre_finite_in_proj)
    ∧ preserves_GateBwd_GateBwdIdeal
    ∧ algebraic_GateBwdIdeal_GateBwdRefIdeal_pre_finite_gate (hGateBwdIdeal := hGateBwdIdeal) (hGateBwdRefIdeal := hGateBwdRefIdeal) (hPre_finite_gate := hPre_finite_gate)
    ∧ preserves_ConvGate_ConvGateIdeal
    ∧ algebraic_ConvGateIdeal_ConvGateRefIdeal_pre_finite_conv_gate (hConvGateIdeal := hConvGateIdeal) (hConvGateRefIdeal := hConvGateRefIdeal) (hPre_finite_conv_gate := hPre_finite_conv_gate)
    ∧ preserves_AttnFwd_AttnFwdIdeal
    ∧ algebraic_AttnFwdIdeal_AttnFwdRefIdeal_pre_finite_attn_fwd (hAttnFwdIdeal := hAttnFwdIdeal) (hAttnFwdRefIdeal := hAttnFwdRefIdeal) (hPre_finite_attn_fwd := hPre_finite_attn_fwd)
    ∧ preserves_GmlpBwd_GmlpBwdIdeal
    ∧ algebraic_GmlpBwdIdeal_GmlpBwdRefIdeal_pre_finite_gmlp (hGmlpBwdIdeal := hGmlpBwdIdeal) (hGmlpBwdRefIdeal := hGmlpBwdRefIdeal) (hPre_finite_gmlp := hPre_finite_gmlp)
    ∧ preserves_OutProj_OutProjIdeal
    ∧ algebraic_OutProjIdeal_OutProjRefIdeal (hOutProjIdeal := hOutProjIdeal) (hOutProjRefIdeal := hOutProjRefIdeal)
    ∧ preserves_OutProjDx_OutProjDxIdeal
    ∧ algebraic_OutProjDxIdeal_OutProjDxRefIdeal_pre_finite_out_proj_dx (hOutProjDxIdeal := hOutProjDxIdeal) (hOutProjDxRefIdeal := hOutProjDxRefIdeal) (hPre_finite_out_proj_dx := hPre_finite_out_proj_dx)
-- ==== Pre_finite_attn.lean ====
abbrev S8192x512 : Shape := ⟨2, ![8192, 512]⟩
abbrev S8192x8 : Shape := ⟨2, ![8192, 8]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_arg4 : FVec F S8192x512 .f32) (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  main_v23

def fn {F : FTy → Type} [FloatOps F] (main_arg0 : FVec F S8192x512 .f32) (main_arg1 : FVec F S8192x512 .f32) (main_arg2 : FVec F S8192x512 .f32) (main_arg3 : FVec F S8192x8 .f32) (main_arg4 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_arg4 main_v13 main_v16
-- ==== Pre_finite_attn_fwd.lean ====
abbrev S8192x512 : Shape := ⟨2, ![8192, 512]⟩
abbrev S8192x8 : Shape := ⟨2, ![8192, 8]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  main_v18

def fn {F : FTy → Type} [FloatOps F] (main_arg0 : FVec F S8192x512 .f32) (main_arg1 : FVec F S8192x512 .f32) (main_arg2 : FVec F S8192x512 .f32) (main_arg3 : FVec F S8192x8 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_v13 main_v16
-- ==== Pre_finite_conv_gate.lean ====
abbrev S8192x5632 : Shape := ⟨2, ![8192, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v13 : IVec S_ 1) (main_v16 : IVec S8192x2816 1) : IVec S_ 1 :=
  let main_c_5 : IVec S_ 1 := constantI S_ 1 1#1
  let main_v17 : IVec S_ 1 := (fun x v => Host.reduce IntOp.andi x v reducesTo_S8192x2816_S_d0_1 h_S_) main_v16 main_c_5
  let main_v18 : IVec S_ 1 := andi main_v13 main_v17
  main_v18

def fn {F : FTy → Type} [FloatOps F] (main_arg0 : FVec F S8192x5632 .f32) (main_arg1 : FVec F S3x5632 .f32) (main_arg2 : FVec F S5632 .f32) (main_arg3 : FVec F S8192x2816 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : IVec S_ 1 := andi main_v3 main_v7
  let main_v9 : FVec F S5632 .f32 := Host.absf main_arg2
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_c_3 : IVec S_ 1 := constantI S_ 1 1#1
  let main_v12 : IVec S_ 1 := (fun x v => Host.reduce IntOp.andi x v reducesTo_S5632_S_d0 h_S_) main_v11 main_c_3
  let main_v13 : IVec S_ 1 := andi main_v8 main_v12
  let main_v14 : FVec F S8192x2816 .f32 := Host.absf main_arg3
  let main_cst_4 : FVec F S_ .f32 := constant S_ .f32 0x7F800000#32
  let main_v15 : FVec F S8192x2816 .f32 := broadcastInDim S8192x2816 ![] bcast_S_S8192x2816 main_cst_4
  let main_v16 : IVec S8192x2816 1 := cmpf .olt main_v14 main_v15
  fn_part1 (F := F) main_v13 main_v16
-- ==== Pre_finite_ffn_down.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x2816 .f32) (main_arg1 : FVec F S2816x1024 .f32) (main_arg2 : FVec F S8192x1024 .f32) (main_arg3 : FVec F S1024 .f32) (main_arg4 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_finite_ffn_up.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_v13 : IVec S_ 1) (main_v16 : IVec S8192x5632 1) : IVec S_ 1 :=
  let main_c_5 : IVec S_ 1 := constantI S_ 1 1#1
  let main_v17 : IVec S_ 1 := (fun x v => Host.reduce IntOp.andi x v reducesTo_S8192x5632_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x5632 .f32) (main_arg3 : FVec F S8192x5632 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S8192x5632 .f32 := Host.absf main_arg3
  let main_cst_4 : FVec F S_ .f32 := constant S_ .f32 0x7F800000#32
  let main_v15 : FVec F S8192x5632 .f32 := broadcastInDim S8192x5632 ![] bcast_S_S8192x5632 main_cst_4
  let main_v16 : IVec S8192x5632 1 := cmpf .olt main_v14 main_v15
  fn_part1 (F := F) main_v13 main_v16
-- ==== Pre_finite_gate.lean ====
abbrev S8192x8 : Shape := ⟨2, ![8192, 8]⟩
abbrev S8 : Shape := ⟨1, ![8]⟩
abbrev S_ : Shape := ⟨0, ![]⟩

class Facts : Prop where
  bcast_S_S8192x8 : S_.BroadcastsInDim S8192x8 (![] : Fin 0 → Fin S8192x8.rank)
  reducesTo_S8192x8_S_d0_1 : S8192x8.ReducesTo [0, 1] S_
  h_S_ : 0 < S_.numel
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  main_v18

def fn {F : FTy → Type} [FloatOps F] (main_arg0 : FVec F S8192x8 .f32) (main_arg1 : FVec F S8 .f32) (main_arg2 : FVec F S8192x8 .f32) (main_arg3 : FVec F S8192x8 .f32) : IVec S_ 1 :=
  let main_v0 : FVec F S8192x8 .f32 := Host.absf main_arg0
  let main_cst : FVec F S_ .f32 := constant S_ .f32 0x7F800000#32
  let main_v1 : FVec F S8192x8 .f32 := broadcastInDim S8192x8 ![] bcast_S_S8192x8 main_cst
  let main_v2 : IVec S8192x8 1 := cmpf .olt main_v0 main_v1
  let main_c : IVec S_ 1 := constantI S_ 1 1#1
  let main_v3 : IVec S_ 1 := (fun x v => Host.reduce IntOp.andi x v reducesTo_S8192x8_S_d0_1 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8192x8 .f32 := Host.absf main_arg2
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_c_3 : IVec S_ 1 := constantI S_ 1 1#1
  let main_v12 : IVec S_ 1 := (fun x v => Host.reduce IntOp.andi x v reducesTo_S8192x8_S_d0_1 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_v13 main_v16
-- ==== Pre_finite_gmlp.lean ====
abbrev S8192x1024 : Shape := ⟨2, ![8192, 1024]⟩
abbrev S512 : Shape := ⟨1, ![512]⟩
abbrev S8x128x128 : Shape := ⟨3, ![8, 128, 128]⟩
abbrev S8x128 : Shape := ⟨2, ![8, 128]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x1024 .f32) (main_arg1 : FVec F S512 .f32) (main_arg2 : FVec F S8x128x128 .f32) (main_arg3 : FVec F S8x128 .f32) (main_arg4 : FVec F S8192x512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg4
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Pre_finite_in_proj.lean ====
abbrev S8192x1024 : Shape := ⟨2, ![8192, 1024]⟩
abbrev S1024 : Shape := ⟨1, ![1024]⟩
abbrev S1024x2568 : Shape := ⟨2, ![1024, 2568]⟩
abbrev S8192x2568 : Shape := ⟨2, ![8192, 2568]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2568 : S_.BroadcastsInDim S1024x2568 (![] : Fin 0 → Fin S1024x2568.rank)
  reducesTo_S1024x2568_S_d0_1 : S1024x2568.ReducesTo [0, 1] S_
  bcast_S_S8192x2568 : S_.BroadcastsInDim S8192x2568 (![] : Fin 0 → Fin S8192x2568.rank)
  reducesTo_S8192x2568_S_d0_1 : S8192x2568.ReducesTo [0, 1] S_

variable [Facts]

def fn_part1 {F : FTy → Type} [FloatOps F] (main_v13 : IVec S_ 1) (main_v16 : IVec S8192x2568 1) : IVec S_ 1 :=
  let main_c_5 : IVec S_ 1 := constantI S_ 1 1#1
  let main_v17 : IVec S_ 1 := (fun x v => Host.reduce IntOp.andi x v reducesTo_S8192x2568_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x2568 .f32) (main_arg3 : FVec F S8192x2568 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2568 .f32 := Host.absf main_arg2
  let main_cst_2 : FVec F S_ .f32 := constant S_ .f32 0x7F800000#32
  let main_v10 : FVec F S1024x2568 .f32 := broadcastInDim S1024x2568 ![] bcast_S_S1024x2568 main_cst_2
  let main_v11 : IVec S1024x2568 1 := cmpf .olt main_v9 main_v10
  let main_c_3 : IVec S_ 1 := constantI S_ 1 1#1
  let main_v12 : IVec S_ 1 := (fun x v => Host.reduce IntOp.andi x v reducesTo_S1024x2568_S_d0_1 h_S_) main_v11 main_c_3
  let main_v13 : IVec S_ 1 := andi main_v8 main_v12
  let main_v14 : FVec F S8192x2568 .f32 := Host.absf main_arg3
  let main_cst_4 : FVec F S_ .f32 := constant S_ .f32 0x7F800000#32
  let main_v15 : FVec F S8192x2568 .f32 := broadcastInDim S8192x2568 ![] bcast_S_S8192x2568 main_cst_4
  let main_v16 : IVec S8192x2568 1 := cmpf .olt main_v14 main_v15
  fn_part1 (F := F) main_v13 main_v16
-- ==== Pre_finite_out_proj_dx.lean ====
abbrev S8192x1024 : Shape := ⟨2, ![8192, 1024]⟩
abbrev S1024x1024 : Shape := ⟨2, ![1024, 1024]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S8192x512 .f32) (main_arg3 : FVec F S8192x512 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== FfnUpDx.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S5632x1024 : Shape := ⟨2, ![5632, 1024]⟩
abbrev S8192x2x2816 : Shape := ⟨3, ![8192, 2, 2816]⟩
abbrev S2x8192x2816 : Shape := ⟨3, ![2, 8192, 2816]⟩
abbrev S1x1024 : Shape := ⟨2, ![1, 1024]⟩
abbrev S8x1024 : Shape := ⟨2, ![8, 1024]⟩
abbrev S2x512x2816 : Shape := ⟨3, ![2, 512, 2816]⟩
abbrev S512x1024 : Shape := ⟨2, ![512, 1024]⟩
abbrev S1x512x2816 : Shape := ⟨3, ![1, 512, 2816]⟩
abbrev S512x2816 : Shape := ⟨2, ![512, 2816]⟩
abbrev S2816x1024 : Shape := ⟨2, ![2816, 1024]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S5632x1024, .f32⟩
  | .hbm, ⟨6, _⟩ => ⟨S5632x1024, .bf16⟩
  | .hbm, ⟨7, _⟩ => ⟨S8192x2x2816, .f32⟩
  | .hbm, ⟨8, _⟩ => ⟨S2x8192x2816, .f32⟩
  | .hbm, ⟨9, _⟩ => ⟨S2x8192x2816, .bf16⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S8x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnUpDxRefIdeal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | .hbm, ⟨55, _⟩ => ⟨S_, .i32⟩
  | .hbm, ⟨56, _⟩ => ⟨S_, .f32⟩
  | .hbm, ⟨57, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== AttnBwd.lean ====
abbrev S8192x512 : Shape := ⟨2, ![8192, 512]⟩
abbrev S8192x8 : Shape := ⟨2, ![8192, 8]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x64x8192 : Shape := ⟨3, ![8, 64, 8192]⟩
abbrev S8192x8x1 : Shape := ⟨3, ![8192, 8, 1]⟩
abbrev S8192x8x55 : Shape := ⟨3, ![8192, 8, 55]⟩
abbrev S8192x8x128 : Shape := ⟨3, ![8192, 8, 128]⟩
abbrev S8192x1024 : Shape := ⟨2, ![8192, 1024]⟩
abbrev S8192x8x61 : Shape := ⟨3, ![8192, 8, 61]⟩
abbrev S4x8192x128 : Shape := ⟨3, ![4, 8192, 128]⟩
abbrev S8192x256 : Shape := ⟨2, ![8192, 256]⟩
abbrev S512x256 : Shape := ⟨2, ![512, 256]⟩
abbrev S8192x128 : Shape := ⟨2, ![8192, 128]⟩
abbrev S512x128 : Shape := ⟨2, ![512, 128]⟩
abbrev S1x8192x128 : Shape := ⟨3, ![1, 8192, 128]⟩
abbrev S1x512x128 : Shape := ⟨3, ![1, 512, 128]⟩
abbrev S256x128 : Shape := ⟨2, ![256, 128]⟩
abbrev S256x512 : Shape := ⟨2, ![256, 512]⟩
abbrev S256x256 : Shape := ⟨2, ![256, 256]⟩
abbrev S512x512 : Shape := ⟨2, ![512, 512]⟩
abbrev S1024x128 : Shape := ⟨2, ![1024, 128]⟩
abbrev S512x1024 : Shape := ⟨2, ![512, 1024]⟩
abbrev S512x1 : Shape := ⟨2, ![512, 1]⟩

abbrev nBuf : Space → Nat
  | .hbm => 183
  | .vmem => 21
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8, .f32⟩
  | 4 => ⟨S8192x512, .f32⟩
  | 5 => ⟨S8192x8x64, .f32⟩
  | 6 => ⟨S8192x8x64, .f32⟩
  | 7 => ⟨S8192x8x64, .f32⟩
  | 8 => ⟨S8192x8x64, .f32⟩
  | 9 => ⟨S8x8192x8192, .f32⟩
  | 10 => ⟨S_, .f32⟩
  | 11 => ⟨S8x8192x8192, .f32⟩
  | 12 => ⟨S8x8192x8192, .f32⟩
  | 13 => ⟨S8x8192, .f32⟩
  | 14 => ⟨S8x8192x1, .f32⟩
  | 15 => ⟨S8x8192x8192, .f32⟩
  | 16 => ⟨S8x8192x8192, .f32⟩
  | 17 => ⟨S8x8192, .f32⟩
  | 18 => ⟨S8x1x8192, .f32⟩
  | 19 => ⟨S8x8192x8192, .f32⟩
  | 20 => ⟨S8x8192x8192, .f32⟩
  | 21 => ⟨S8192, .i32⟩
  | 22 => ⟨S8192x1, .i32⟩
  | 23 => ⟨S1x8192, .i32⟩
  | 24 => ⟨S8192x8192, .i32⟩
  | 25 => ⟨S8192x8192, .i32⟩
  | 26 => ⟨S8192x8192, .i1⟩
  | 27 => ⟨S_, .f32⟩
  | 28 => ⟨S_, .f32⟩
  | 29 => ⟨S8x8192x8192, .i1⟩
  | 30 => ⟨S8x8192x8192, .f32⟩
  | 31 => ⟨S8x8192x8192, .f32⟩
  | 32 => ⟨S_, .f32⟩
  | 33 => ⟨S8x8192, .f32⟩
  | 34 => ⟨S8x8192x1, .f32⟩
  | 35 => ⟨S8x8192x8192, .f32⟩
  | 36 => ⟨S8x8192x8192, .f32⟩
  | 37 => ⟨S8x8192x8192, .f32⟩
  | 38 => ⟨S_, .f32⟩
  | 39 => ⟨S8x8192, .f32⟩
  | 40 => ⟨S8x8192x1, .f32⟩
  | 41 => ⟨S8x8192x1, .f32⟩
  | 42 => ⟨S8x8192x1, .f32⟩
  | 43 => ⟨S8x8192, .f32⟩
  | 44 => ⟨S8192x8, .f32⟩
  | 45 => ⟨S8x8192x8192, .f32⟩
  | 46 => ⟨S8x8192x8192, .f32⟩
  | 47 => ⟨S8x64x8192, .f32⟩
  | 48 => ⟨S8192x8x64, .f32⟩
  | 49 => ⟨S8192x8x64, .f32⟩
  | 50 => ⟨S_, .f32⟩
  | 51 => ⟨S8192x8, .f32⟩
  | 52 => ⟨S_, .f32⟩
  | 53 => ⟨S8192x8x64, .f32⟩
  | 54 => ⟨S8192x8x64, .f32⟩
  | 55 => ⟨S8192x8, .bf16⟩
  | 56 => ⟨S8192x8, .f32⟩
  | 57 => ⟨S8192x8, .f32⟩
  | 58 => ⟨S8192x8, .bf16⟩
  | 59 => ⟨S8192x8, .f32⟩
  | 60 => ⟨S8192x8, .f32⟩
  | 61 => ⟨S8192x8, .bf16⟩
  | 62 => ⟨S8192x8, .f32⟩
  | 63 => ⟨S8192x8, .f32⟩
  | 64 => ⟨S8192x8, .f32⟩
  | 65 => ⟨S8192x8, .f32⟩
  | 66 => ⟨S8192x8, .bf16⟩
  | 67 => ⟨S8192x8, .f32⟩
  | 68 => ⟨S8192x8, .f32⟩
  | 69 => ⟨S8192x8, .bf16⟩
  | 70 => ⟨S8192x8, .f32⟩
  | 71 => ⟨S8192x8, .f32⟩
  | 72 => ⟨S8192x8, .bf16⟩
  | 73 => ⟨S8192x8, .f32⟩
  | 74 => ⟨S8192x8, .f32⟩
  | 75 => ⟨S8192x8, .f32⟩
  | 76 => ⟨S8192x8x1, .f32⟩
  | 77 => ⟨S8192x8x1, .f32⟩
  | 78 => ⟨S8192x8x1, .f32⟩
  | 79 => ⟨S_, .f32⟩
  | 80 => ⟨S8192x8, .f32⟩
  | 81 => ⟨S8192x8x1, .f32⟩
  | 82 => ⟨S_, .f32⟩
  | 83 => ⟨S8192x8, .f32⟩
  | 84 => ⟨S8192x8x1, .f32⟩
  | 85 => ⟨S_, .f32⟩
  | 86 => ⟨S8192x8, .f32⟩
  | 87 => ⟨S8192x8x1, .f32⟩
  | 88 => ⟨S8192x8x1, .f32⟩
  | 89 => ⟨S8192x8x1, .f32⟩
  | 90 => ⟨S8192x8x1, .f32⟩
  | 91 => ⟨S_, .f32⟩
  | 92 => ⟨S8192x8x55, .f32⟩
  | 93 => ⟨S8192x8x1, .f32⟩
  | 94 => ⟨S8192x8x1, .f32⟩
  | 95 => ⟨S8192x8x1, .f32⟩
  | 96 => ⟨S8192x8x128, .f32⟩
  | 97 => ⟨S8192x1024, .f32⟩
  | 98 => ⟨S8192x1024, .bf16⟩
  | 99 => ⟨S8192x8, .f32⟩
  | 100 => ⟨S8192x8, .bf16⟩
  | 101 => ⟨S8192x8, .f32⟩
  | 102 => ⟨S8192x8, .f32⟩
  | 103 => ⟨S8192x8, .bf16⟩
  | 104 => ⟨S8192x8, .f32⟩
  | 105 => ⟨S8192x8, .f32⟩
  | 106 => ⟨S8192x8, .bf16⟩
  | 107 => ⟨S8192x8, .f32⟩
  | 108 => ⟨S8192x8, .f32⟩
  | 109 => ⟨S8192x8, .f32⟩
  | 110 => ⟨S_, .f32⟩
  | 111 => ⟨S8192x8, .f32⟩
  | 112 => ⟨S8192x8x1, .f32⟩
  | 113 => ⟨S_, .f32⟩
  | 114 => ⟨S8192x8, .f32⟩
  | 115 => ⟨S8192x8x1, .f32⟩
  | 116 => ⟨S_, .f32⟩
  | 117 => ⟨S8192x8, .f32⟩
  | 118 => ⟨S8192x8x1, .f32⟩
  | 119 => ⟨S8192x8x1, .f32⟩
  | 120 => ⟨S8192x8x1, .f32⟩
  | 121 => ⟨S8192x8x1, .f32⟩
  | 122 => ⟨S_, .f32⟩
  | 123 => ⟨S8192x8, .f32⟩
  | 124 => ⟨S8192x8x1, .f32⟩
  | 125 => ⟨S_, .f32⟩
  | 126 => ⟨S8192x8, .f32⟩
  | 127 => ⟨S8192x8x1, .f32⟩
  | _ => ⟨S8192x512, .f32⟩

abbrev hbmTy0_1 (i : Nat) : BufTy := match i % 128 with
  | 0 => ⟨S_, .f32⟩
  | 1 => ⟨S8192x8, .f32⟩
  | 2 => ⟨S8192x8x1, .f32⟩
  | 3 => ⟨S_, .f32⟩
  | 4 => ⟨S8192x8x55, .f32⟩
  | 5 => ⟨S8192x8x1, .f32⟩
  | 6 => ⟨S8192x8x1, .f32⟩
  | 7 => ⟨S8192x8x1, .f32⟩
  | 8 => ⟨S8192x8x1, .f32⟩
  | 9 => ⟨S8192x8x1, .f32⟩
  | 10 => ⟨S8192x8x1, .f32⟩
  | 11 => ⟨S8192x8x128, .f32⟩
  | 12 => ⟨S8192x1024, .f32⟩
  | 13 => ⟨S8192x1024, .bf16⟩
  | 14 => ⟨S_, .f32⟩
  | 15 => ⟨S8192x8, .f32⟩
  | 16 => ⟨S8192x8x1, .f32⟩
  | 17 => ⟨S_, .f32⟩
  | 18 => ⟨S8192x8, .f32⟩
  | 19 => ⟨S8192x8x1, .f32⟩
  | 20 => ⟨S_, .f32⟩
  | 21 => ⟨S8192x8, .f32⟩
  | 22 => ⟨S8192x8x1, .f32⟩
  | 23 => ⟨S_, .f32⟩
  | 24 => ⟨S8192x8x61, .f32⟩
  | 25 => ⟨S8192x8x1, .f32⟩
  | 26 => ⟨S8192x8x1, .f32⟩
  | 27 => ⟨S8192x8x1, .f32⟩
  | 28 => ⟨S8192x8x128, .f32⟩
  | 29 => ⟨S8192x1024, .f32⟩
  | 30 => ⟨S8192x1024, .bf16⟩
  | 31 => ⟨S8192x8, .f32⟩
  | 32 => ⟨S8192x8, .bf16⟩
  | 33 => ⟨S8192x8, .f32⟩
  | 34 => ⟨S8192x8, .f32⟩
  | 35 => ⟨S8192x8, .bf16⟩
  | 36 => ⟨S8192x8, .f32⟩
  | 37 => ⟨S8192x8, .f32⟩
  | 38 => ⟨S8192x8, .bf16⟩
  | 39 => ⟨S8192x8, .f32⟩
  | 40 => ⟨S8192x8, .f32⟩
  | 41 => ⟨S8192x8, .f32⟩
  | 42 => ⟨S8192x8x1, .f32⟩
  | 43 => ⟨S8192x8x1, .f32⟩
  | 44 => ⟨S8192x8x1, .f32⟩
  | 45 => ⟨S_, .f32⟩
  | 46 => ⟨S8192x8x61, .f32⟩
  | 47 => ⟨S8192x8x128, .f32⟩
  | 48 => ⟨S8192x1024, .f32⟩
  | 49 => ⟨S8192x1024, .bf16⟩
  | 50 => ⟨S8192x512, .bf16⟩
  | 51 => ⟨S8192x512, .bf16⟩
  | 52 => ⟨S8192x512, .bf16⟩
  | 53 => ⟨S4x8192x128, .f32⟩
  | 54 => ⟨S4x8192x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S8192x128, .bf16⟩
  | .local _ .vmem, ⟨9, _⟩ => ⟨S8192x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S1x8192x128, .f32⟩
  | .local _ .vmem, ⟨15, _⟩ => ⟨S1x8192x128, .f32⟩
  | .local _ .vmem, ⟨16, _⟩ => ⟨S1x512x128, .f32⟩
  | .local _ .vmem, ⟨17, _⟩ => ⟨S1x512x128, .f32⟩
  | .local _ .vmem, ⟨18, _⟩ => ⟨S8192x256, .f32⟩
  | .local _ .vmem, ⟨19, _⟩ => ⟨S512x256, .f32⟩
  | .local _ .vmem, ⟨20, _⟩ => ⟨S512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_v66 : Ref sig .tc := ⟨.hbm, 81, rfl⟩
abbrev main_cst_6 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_8 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_9 : Ref sig .tc := ⟨.hbm, 110, rfl⟩
abbrev main_v92 : Ref sig .tc := ⟨.hbm, 111, rfl⟩
abbrev main_v93 : Ref sig .tc := ⟨.hbm, 112, rfl⟩
abbrev main_cst_10 : Ref sig .tc := ⟨.hbm, 113, rfl⟩
abbrev main_v94 : Ref sig .tc := ⟨.hbm, 114, rfl⟩
abbrev main_v95 : Ref sig .tc := ⟨.hbm, 115, rfl⟩
abbrev main_cst_11 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_12 : Ref sig .tc := ⟨.hbm, 122, rfl⟩
abbrev main_v101 : Ref sig .tc := ⟨.hbm, 123, rfl⟩
abbrev main_v102 : Ref sig .tc := ⟨.hbm, 124, rfl⟩
abbrev main_cst_13 : Ref sig .tc := ⟨.hbm, 125, rfl⟩
abbrev main_v103 : Ref sig .tc := ⟨.hbm, 126, rfl⟩
abbrev main_v104 : Ref sig .tc := ⟨.hbm, 127, rfl⟩
abbrev main_cst_14 : Ref sig .tc := ⟨.hbm, 128, rfl⟩
abbrev main_v105 : Ref sig .tc := ⟨.hbm, 129, rfl⟩
abbrev main_v106 : Ref sig .tc := ⟨.hbm, 130, rfl⟩
abbrev main_cst_15 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_16 : Ref sig .tc := ⟨.hbm, 142, rfl⟩
abbrev main_v117 : Ref sig .tc := ⟨.hbm, 143, rfl⟩
abbrev main_v118 : Ref sig .tc := ⟨.hbm, 144, rfl⟩
abbrev main_cst_17 : Ref sig .tc := ⟨.hbm, 145, rfl⟩
abbrev main_v119 : Ref sig .tc := ⟨.hbm, 146, rfl⟩
abbrev main_v120 : Ref sig .tc := ⟨.hbm, 147, rfl⟩
abbrev main_cst_18 : Ref sig .tc := ⟨.hbm, 148, rfl⟩
abbrev main_v121 : Ref sig .tc := ⟨.hbm, 149, rfl⟩
abbrev main_v122 : Ref sig .tc := ⟨.hbm, 150, rfl⟩
abbrev main_cst_19 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_cst_20 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148_0 : Ref sig .tc := ⟨.hbm, 178, rfl⟩
abbrev main_v148_1 : Ref sig .tc := ⟨.hbm, 179, rfl⟩
abbrev main_v148_2 : Ref sig .tc := ⟨.hbm, 180, rfl⟩
abbrev main_v148_3 : Ref sig .tc := ⟨.hbm, 181, rfl⟩
abbrev main_v148_4 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off1 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_5 : Index := 0#32
  ![v13.toNat, 0]
def k0_off2 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v54 : Index := Scalar.indexCast v12
  let c128 : Index := 128#32
  ![v54.toNat, 128]
def k0_mult2 (i : grid0.Coords) : BitVec 32 :=
  let arg1 : BitVec 32 := BitVec.ofNat 32 (i 1).val
  let c512_i32_48 : BitVec 32 := 512#32
  let v95 : BitVec 32 := Scalar.muli arg1 c512_i32_48
  let c256_i32 : BitVec 32 := 256#32
  let v96 : BitVec 32 := Scalar.addi v95 c256_i32
  v96
def k0_off3 (i : grid0.Coords) : Fin 2 → Nat :=
  let arg1 : BitVec 32 := BitVec.ofNat 32 (i 1).val
  let c512_i32_48 : BitVec 32 := 512#32
  let v95 : BitVec 32 := Scalar.muli arg1 c512_i32_48
  let c256_i32 : BitVec 32 := 256#32
  let v96 : BitVec 32 := Scalar.addi v95 c256_i32
  let v97 : BitVec 32 := v96
  let v98 : Index := Scalar.indexCast v97
  let c0_49 : Index := 0#32
  ![v98.toNat, 0]
def k0_off4 (i : grid0.Coords) : Fin 2 → Nat :=
  let arg1 : BitVec 32 := BitVec.ofNat 32 (i 1).val
  let c512_i32_48 : BitVec 32 := 512#32
  let v95 : BitVec 32 := Scalar.muli arg1 c512_i32_48
  let c256_i32 : BitVec 32 := 256#32
  let v96 : BitVec 32 := Scalar.addi v95 c256_i32
  let v97 : BitVec 32 := v96
  let v139 : Index := Scalar.indexCast v97
  let c128_70 : Index := 128#32
  ![v139.toNat, 128]
def k0_cond2 (i : grid0.Coords) : BitVec 1 :=
  let c15_i32 : BitVec 32 := 15#32
  let arg1 : BitVec 32 := BitVec.ofNat 32 (i 1).val
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let c1_i32_96 : BitVec 32 := 1#32
  let v191 : BitVec 1 := Scalar.cmpi .eq v190 c1_i32_96
  let v192 : BitVec 32 := Scalar.extui v191
  let c0_i32_97 : BitVec 32 := 0#32
  let v193 : BitVec 1 := Scalar.cmpi .ne v192 c0_i32_97
  v193

def k0_mult3 (i : grid0.Coords) : BitVec 32 :=
  let arg1 : BitVec 32 := BitVec.ofNat 32 (i 1).val
  let c1_i32_131 : BitVec 32 := 1#32
  let v262 : BitVec 32 := Scalar.addi arg1 c1_i32_131
  let c512_i32_132 : BitVec 32 := 512#32
  let v263 : BitVec 32 := Scalar.muli v262 c512_i32_132
  v263
def k0_off5 (i : grid0.Coords) : Fin 2 → Nat :=
  let arg1 : BitVec 32 := BitVec.ofNat 32 (i 1).val
  let c1_i32_131 : BitVec 32 := 1#32
  let v262 : BitVec 32 := Scalar.addi arg1 c1_i32_131
  let c512_i32_132 : BitVec 32 := 512#32
  let v263 : BitVec 32 := Scalar.muli v262 c512_i32_132
  let v264 : BitVec 32 := v263
  let v265 : Index := Scalar.indexCast v264
  let c0_133 : Index := 0#32
  ![v265.toNat, 0]
def k0_off6 (i : grid0.Coords) : Fin 2 → Nat :=
  let arg1 : BitVec 32 := BitVec.ofNat 32 (i 1).val
  let c1_i32_131 : BitVec 32 := 1#32
  let v262 : BitVec 32 := Scalar.addi arg1 c1_i32_131
  let c512_i32_132 : BitVec 32 := 512#32
  let v263 : BitVec 32 := Scalar.muli v262 c512_i32_132
  let v264 : BitVec 32 := v263
  let v301 : Index := Scalar.indexCast v264
  let c128_154 : Index := 128#32
  ![v301.toNat, 128]
@[reducible] def k0_t1_loop (i : grid0.Coords) : Scf.Loop 32 :=
  let c0_i32_106 : BitVec 32 := 0#32
  let c15_i32 : BitVec 32 := 15#32
  let arg1 : BitVec 32 := BitVec.ofNat 32 (i 1).val
  let v180 : BitVec 32 := Scalar.subi c15_i32 arg1
  let c0_i32_99 : BitVec 32 := 0#32
  let v195 : BitVec 1 := Scalar.cmpi .sgt v180 c0_i32_99
  let v196 : BitVec 32 := Scalar.extui v195
  let c0_i32_100 : BitVec 32 := 0#32
  let v197 : BitVec 1 := Scalar.cmpi .slt v180 c0_i32_100
  let v198 : BitVec 32 := Scalar.extui v197
  let v199 : BitVec 32 := Scalar.subi v196 v198
  let c2_i32_98 : BitVec 32 := 2#32
  let c0_i32_101 : BitVec 32 := 0#32
  let v200 : BitVec 1 := Scalar.cmpi .sgt c2_i32_98 c0_i32_101
  let v201 : BitVec 32 := Scalar.extui v200
  let c0_i32_102 : BitVec 32 := 0#32
  let v202 : BitVec 1 := Scalar.cmpi .slt c2_i32_98 c0_i32_102
  let v203 : BitVec 32 := Scalar.extui v202
  let v204 : BitVec 32 := Scalar.subi v201 v203
  let v205 : BitVec 1 := Scalar.cmpi .ne v199 v204
  let v206 : BitVec 32 := Scalar.remsi v180 c2_i32_98
  let c0_i32_103 : BitVec 32 := 0#32
  let v207 : BitVec 1 := Scalar.cmpi .ne v206 c0_i32_103
  let v208 : BitVec 1 := Scalar.andi v205 v207
  let v194 : BitVec 32 := Scalar.divsi v180 c2_i32_98
  let c1_i32_104 : BitVec 32 := 1#32
  let v209 : BitVec 32 := Scalar.subi v194 c1_i32_104
  let v210 : BitVec 32 := Scalar.select v208 v209 v194
  let v211 : BitVec 32 := Scalar.subi v210 c0_i32_106
  let c1_i32_107 : BitVec 32 := 1#32
  let v213 : BitVec 32 := Scalar.divsi v211 c1_i32_107
  let v214 : BitVec 32 := Scalar.muli v213 c1_i32_107
  let v215 : BitVec 32 := Scalar.addi c0_i32_106 v214
  let c1_i32_108 : BitVec 32 := 1#32
  ⟨c0_i32_106, v215, c1_i32_108⟩
def k0_mult4 (i : grid0.Coords) (k0_t1 : Fin (k0_t1_loop i).trips) : BitVec 32 :=
  let arg1 : BitVec 32 := BitVec.ofNat 32 (i 1).val
  let c1_i32_131 : BitVec 32 := 1#32
  let v262 : BitVec 32 := Scalar.addi arg1 c1_i32_131
  let c15_i32 : BitVec 32 := 15#32
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let v263 : BitVec 32 := Scalar.addi v262 v190
  let c2_i32_132 : BitVec 32 := 2#32
  let c0_i32_106 : BitVec 32 := 0#32
  let c1_i32_108 : BitVec 32 := 1#32
  let arg14 : BitVec 32 := Scf.iv c0_i32_106 c1_i32_108 k0_t1
  let v264 : BitVec 32 := Scalar.muli c2_i32_132 arg14
  let v265 : BitVec 32 := Scalar.addi v263 v264
  let c512_i32_133 : BitVec 32 := 512#32
  let v266 : BitVec 32 := Scalar.muli v265 c512_i32_133
  v266
def k0_off7 (i : grid0.Coords) (k0_t1 : Fin (k0_t1_loop i).trips) : Fin 2 → Nat :=
  let arg1 : BitVec 32 := BitVec.ofNat 32 (i 1).val
  let c1_i32_131 : BitVec 32 := 1#32
  let v262 : BitVec 32 := Scalar.addi arg1 c1_i32_131
  let c15_i32 : BitVec 32 := 15#32
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let v263 : BitVec 32 := Scalar.addi v262 v190
  let c2_i32_132 : BitVec 32 := 2#32
  let c0_i32_106 : BitVec 32 := 0#32
  let c1_i32_108 : BitVec 32 := 1#32
  let arg14 : BitVec 32 := Scf.iv c0_i32_106 c1_i32_108 k0_t1
  let v264 : BitVec 32 := Scalar.muli c2_i32_132 arg14
  let v265 : BitVec 32 := Scalar.addi v263 v264
  let c512_i32_133 : BitVec 32 := 512#32
  let v266 : BitVec 32 := Scalar.muli v265 c512_i32_133
  let v267 : BitVec 32 := v266
  let v268 : Index := Scalar.indexCast v267
  let c0_134 : Index := 0#32
  ![v268.toNat, 0]
def k0_off8 (i : grid0.Coords) (k0_t1 : Fin (k0_t1_loop i).trips) : Fin 2 → Nat :=
  let arg1 : BitVec 32 := BitVec.ofNat 32 (i 1).val
  let c1_i32_131 : BitVec 32 := 1#32
  let v262 : BitVec 32 := Scalar.addi arg1 c1_i32_131
  let c15_i32 : BitVec 32 := 15#32
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let v263 : BitVec 32 := Scalar.addi v262 v190
  let c2_i32_132 : BitVec 32 := 2#32
  let c0_i32_106 : BitVec 32 := 0#32
  let c1_i32_108 : BitVec 32 := 1#32
  let arg14 : BitVec 32 := Scf.iv c0_i32_106 c1_i32_108 k0_t1
  let v264 : BitVec 32 := Scalar.muli c2_i32_132 arg14
  let v265 : BitVec 32 := Scalar.addi v263 v264
  let c512_i32_133 : BitVec 32 := 512#32
  let v266 : BitVec 32 := Scalar.muli v265 c512_i32_133
  let v267 : BitVec 32 := v266
  let v304 : Index := Scalar.indexCast v267
  let c128_155 : Index := 128#32
  ![v304.toNat, 128]
@[reducible] def k0_t2_loop (i : grid0.Coords) : Scf.Loop 32 :=
  let c0_i32_106 : BitVec 32 := 0#32
  let c15_i32 : BitVec 32 := 15#32
  let arg1 : BitVec 32 := BitVec.ofNat 32 (i 1).val
  let v180 : BitVec 32 := Scalar.subi c15_i32 arg1
  let c0_i32_99 : BitVec 32 := 0#32
  let v195 : BitVec 1 := Scalar.cmpi .sgt v180 c0_i32_99
  let v196 : BitVec 32 := Scalar.extui v195
  let c0_i32_100 : BitVec 32 := 0#32
  let v197 : BitVec 1 := Scalar.cmpi .slt v180 c0_i32_100
  let v198 : BitVec 32 := Scalar.extui v197
  let v199 : BitVec 32 := Scalar.subi v196 v198
  let c2_i32_98 : BitVec 32 := 2#32
  let c0_i32_101 : BitVec 32 := 0#32
  let v200 : BitVec 1 := Scalar.cmpi .sgt c2_i32_98 c0_i32_101
  let v201 : BitVec 32 := Scalar.extui v200
  let c0_i32_102 : BitVec 32 := 0#32
  let v202 : BitVec 1 := Scalar.cmpi .slt c2_i32_98 c0_i32_102
  let v203 : BitVec 32 := Scalar.extui v202
  let v204 : BitVec 32 := Scalar.subi v201 v203
  let v205 : BitVec 1 := Scalar.cmpi .ne v199 v204
  let v206 : BitVec 32 := Scalar.remsi v180 c2_i32_98
  let c0_i32_103 : BitVec 32 := 0#32
  let v207 : BitVec 1 := Scalar.cmpi .ne v206 c0_i32_103
  let v208 : BitVec 1 := Scalar.andi v205 v207
  let v194 : BitVec 32 := Scalar.divsi v180 c2_i32_98
  let c1_i32_104 : BitVec 32 := 1#32
  let v209 : BitVec 32 := Scalar.subi v194 c1_i32_104
  let v210 : BitVec 32 := Scalar.select v208 v209 v194
  let v211 : BitVec 32 := Scalar.subi v210 c0_i32_106
  let c1_i32_107 : BitVec 32 := 1#32
  let v213 : BitVec 32 := Scalar.divsi v211 c1_i32_107
  let v214 : BitVec 32 := Scalar.muli v213 c1_i32_107
  let v215 : BitVec 32 := Scalar.addi c0_i32_106 v214
  let v212 : BitVec 32 := Scalar.addi c0_i32_106 v211
  let c1_i32_109 : BitVec 32 := 1#32
  ⟨v215, v212, c1_i32_109⟩
def k0_mult5 (i : grid0.Coords) (k0_t2 : Fin (k0_t2_loop i).trips) : BitVec 32 :=
  let arg1 : BitVec 32 := BitVec.ofNat 32 (i 1).val
  let c1_i32_131 : BitVec 32 := 1#32
  let v262 : BitVec 32 := Scalar.addi arg1 c1_i32_131
  let c15_i32 : BitVec 32 := 15#32
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let v263 : BitVec 32 := Scalar.addi v262 v190
  let c2_i32_132 : BitVec 32 := 2#32
  let c0_i32_106 : BitVec 32 := 0#32
  let c0_i32_99 : BitVec 32 := 0#32
  let v195 : BitVec 1 := Scalar.cmpi .sgt v180 c0_i32_99
  let v196 : BitVec 32 := Scalar.extui v195
  let c0_i32_100 : BitVec 32 := 0#32
  let v197 : BitVec 1 := Scalar.cmpi .slt v180 c0_i32_100
  let v198 : BitVec 32 := Scalar.extui v197
  let v199 : BitVec 32 := Scalar.subi v196 v198
  let c2_i32_98 : BitVec 32 := 2#32
  let c0_i32_101 : BitVec 32 := 0#32
  let v200 : BitVec 1 := Scalar.cmpi .sgt c2_i32_98 c0_i32_101
  let v201 : BitVec 32 := Scalar.extui v200
  let c0_i32_102 : BitVec 32 := 0#32
  let v202 : BitVec 1 := Scalar.cmpi .slt c2_i32_98 c0_i32_102
  let v203 : BitVec 32 := Scalar.extui v202
  let v204 : BitVec 32 := Scalar.subi v201 v203
  let v205 : BitVec 1 := Scalar.cmpi .ne v199 v204
  let v206 : BitVec 32 := Scalar.remsi v180 c2_i32_98
  let c0_i32_103 : BitVec 32 := 0#32
  let v207 : BitVec 1 := Scalar.cmpi .ne v206 c0_i32_103
  let v208 : BitVec 1 := Scalar.andi v205 v207
  let v194 : BitVec 32 := Scalar.divsi v180 c2_i32_98
  let c1_i32_104 : BitVec 32 := 1#32
  let v209 : BitVec 32 := Scalar.subi v194 c1_i32_104
  let v210 : BitVec 32 := Scalar.select v208 v209 v194
  let v211 : BitVec 32 := Scalar.subi v210 c0_i32_106
  let c1_i32_107 : BitVec 32 := 1#32
  let v213 : BitVec 32 := Scalar.divsi v211 c1_i32_107
  let v214 : BitVec 32 := Scalar.muli v213 c1_i32_107
  let v215 : BitVec 32 := Scalar.addi c0_i32_106 v214
  let c1_i32_109 : BitVec 32 := 1#32
  let arg14 : BitVec 32 := Scf.iv v215 c1_i32_109 k0_t2
  let v264 : BitVec 32 := Scalar.muli c2_i32_132 arg14
  let v265 : BitVec 32 := Scalar.addi v263 v264
  let c512_i32_133 : BitVec 32 := 512#32
  let v266 : BitVec 32 := Scalar.muli v265 c512_i32_133
  v266
def k0_off9 (i : grid0.Coords) (k0_t2 : Fin (k0_t2_loop i).trips) : Fin 2 → Nat :=
  let arg1 : BitVec 32 := BitVec.ofNat 32 (i 1).val
  let c1_i32_131 : BitVec 32 := 1#32
  let v262 : BitVec 32 := Scalar.addi arg1 c1_i32_131
  let c15_i32 : BitVec 32 := 15#32
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let v263 : BitVec 32 := Scalar.addi v262 v190
  let c2_i32_132 : BitVec 32 := 2#32
  let c0_i32_106 : BitVec 32 := 0#32
  let c0_i32_99 : BitVec 32 := 0#32
  let v195 : BitVec 1 := Scalar.cmpi .sgt v180 c0_i32_99
  let v196 : BitVec 32 := Scalar.extui v195
  let c0_i32_100 : BitVec 32 := 0#32
  let v197 : BitVec 1 := Scalar.cmpi .slt v180 c0_i32_100
  let v198 : BitVec 32 := Scalar.extui v197
  let v199 : BitVec 32 := Scalar.subi v196 v198
  let c2_i32_98 : BitVec 32 := 2#32
  let c0_i32_101 : BitVec 32 := 0#32
  let v200 : BitVec 1 := Scalar.cmpi .sgt c2_i32_98 c0_i32_101
  let v201 : BitVec 32 := Scalar.extui v200
  let c0_i32_102 : BitVec 32 := 0#32
  let v202 : BitVec 1 := Scalar.cmpi .slt c2_i32_98 c0_i32_102
  let v203 : BitVec 32 := Scalar.extui v202
  let v204 : BitVec 32 := Scalar.subi v201 v203
  let v205 : BitVec 1 := Scalar.cmpi .ne v199 v204
  let v206 : BitVec 32 := Scalar.remsi v180 c2_i32_98
  let c0_i32_103 : BitVec 32 := 0#32
  let v207 : BitVec 1 := Scalar.cmpi .ne v206 c0_i32_103
  let v208 : BitVec 1 := Scalar.andi v205 v207
  let v194 : BitVec 32 := Scalar.divsi v180 c2_i32_98
  let c1_i32_104 : BitVec 32 := 1#32
  let v209 : BitVec 32 := Scalar.subi v194 c1_i32_104
  let v210 : BitVec 32 := Scalar.select v208 v209 v194
  let v211 : BitVec 32 := Scalar.subi v210 c0_i32_106
  let c1_i32_107 : BitVec 32 := 1#32
  let v213 : BitVec 32 := Scalar.divsi v211 c1_i32_107
  let v214 : BitVec 32 := Scalar.muli v213 c1_i32_107
  let v215 : BitVec 32 := Scalar.addi c0_i32_106 v214
  let c1_i32_109 : BitVec 32 := 1#32
  let arg14 : BitVec 32 := Scf.iv v215 c1_i32_109 k0_t2
  let v264 : BitVec 32 := Scalar.muli c2_i32_132 arg14
  let v265 : BitVec 32 := Scalar.addi v263 v264
  let c512_i32_133 : BitVec 32 := 512#32
  let v266 : BitVec 32 := Scalar.muli v265 c512_i32_133
  let v267 : BitVec 32 := v266
  let v268 : Index := Scalar.indexCast v267
  let c0_134 : Index := 0#32
  ![v268.toNat, 0]
def k0_off10 (i : grid0.Coords) (k0_t2 : Fin (k0_t2_loop i).trips) : Fin 2 → Nat :=
  let arg1 : BitVec 32 := BitVec.ofNat 32 (i 1).val
  let c1_i32_131 : BitVec 32 := 1#32
  let v262 : BitVec 32 := Scalar.addi arg1 c1_i32_131
  let c15_i32 : BitVec 32 := 15#32
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let v263 : BitVec 32 := Scalar.addi v262 v190
  let c2_i32_132 : BitVec 32 := 2#32
  let c0_i32_106 : BitVec 32 := 0#32
  let c0_i32_99 : BitVec 32 := 0#32
  let v195 : BitVec 1 := Scalar.cmpi .sgt v180 c0_i32_99
  let v196 : BitVec 32 := Scalar.extui v195
  let c0_i32_100 : BitVec 32 := 0#32
  let v197 : BitVec 1 := Scalar.cmpi .slt v180 c0_i32_100
  let v198 : BitVec 32 := Scalar.extui v197
  let v199 : BitVec 32 := Scalar.subi v196 v198
  let c2_i32_98 : BitVec 32 := 2#32
  let c0_i32_101 : BitVec 32 := 0#32
  let v200 : BitVec 1 := Scalar.cmpi .sgt c2_i32_98 c0_i32_101
  let v201 : BitVec 32 := Scalar.extui v200
  let c0_i32_102 : BitVec 32 := 0#32
  let v202 : BitVec 1 := Scalar.cmpi .slt c2_i32_98 c0_i32_102
  let v203 : BitVec 32 := Scalar.extui v202
  let v204 : BitVec 32 := Scalar.subi v201 v203
  let v205 : BitVec 1 := Scalar.cmpi .ne v199 v204
  let v206 : BitVec 32 := Scalar.remsi v180 c2_i32_98
  let c0_i32_103 : BitVec 32 := 0#32
  let v207 : BitVec 1 := Scalar.cmpi .ne v206 c0_i32_103
  let v208 : BitVec 1 := Scalar.andi v205 v207
  let v194 : BitVec 32 := Scalar.divsi v180 c2_i32_98
  let c1_i32_104 : BitVec 32 := 1#32
  let v209 : BitVec 32 := Scalar.subi v194 c1_i32_104
  let v210 : BitVec 32 := Scalar.select v208 v209 v194
  let v211 : BitVec 32 := Scalar.subi v210 c0_i32_106
  let c1_i32_107 : BitVec 32 := 1#32
  let v213 : BitVec 32 := Scalar.divsi v211 c1_i32_107
  let v214 : BitVec 32 := Scalar.muli v213 c1_i32_107
  let v215 : BitVec 32 := Scalar.addi c0_i32_106 v214
  let c1_i32_109 : BitVec 32 := 1#32
  let arg14 : BitVec 32 := Scf.iv v215 c1_i32_109 k0_t2
  let v264 : BitVec 32 := Scalar.muli c2_i32_132 arg14
  let v265 : BitVec 32 := Scalar.addi v263 v264
  let c512_i32_133 : BitVec 32 := 512#32
  let v266 : BitVec 32 := Scalar.muli v265 c512_i32_133
  let v267 : BitVec 32 := v266
  let v304 : Index := Scalar.indexCast v267
  let c128_155 : Index := 128#32
  ![v304.toNat, 128]
def k0_cond3 (i : grid0.Coords) : BitVec 1 :=
  let arg1 : BitVec 32 := BitVec.ofNat 32 (i 1).val
  let c15_i32_129 : BitVec 32 := 15#32
  let v259 : BitVec 1 := Scalar.cmpi .eq arg1 c15_i32_129
  let v260 : BitVec 32 := Scalar.extui v259
  let c0_i32_130 : BitVec 32 := 0#32
  let v261 : BitVec 1 := Scalar.cmpi .ne v260 c0_i32_130
  v261

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnBwdRefIdeal.lean ====
abbrev S8192x512 : Shape := ⟨2, ![8192, 512]⟩
abbrev S8192x8 : Shape := ⟨2, ![8192, 8]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x64x8192 : Shape := ⟨3, ![8, 64, 8192]⟩
abbrev S8x8192x64 : Shape := ⟨3, ![8, 8192, 64]⟩
abbrev S4x1x128 : Shape := ⟨3, ![4, 1, 128]⟩
abbrev S8192x128 : Shape := ⟨2, ![8192, 128]⟩
abbrev S1x8192x128 : Shape := ⟨3, ![1, 8192, 128]⟩
abbrev S4x8192x128 : Shape := ⟨3, ![4, 8192, 128]⟩

abbrev nBuf : Space → Nat
  | .hbm => 184
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8, .f32⟩
  | 4 => ⟨S8192x512, .f32⟩
  | 5 => ⟨S8192x8x64, .f32⟩
  | 6 => ⟨S8192x8x64, .f32⟩
  | 7 => ⟨S8192x8x64, .f32⟩
  | 8 => ⟨S8x8192x8192, .f32⟩
  | 9 => ⟨S_, .f32⟩
  | 10 => ⟨S8x8192x8192, .f32⟩
  | 11 => ⟨S8x8192x8192, .f32⟩
  | 12 => ⟨S8x8192, .f32⟩
  | 13 => ⟨S8x8192x1, .f32⟩
  | 14 => ⟨S8x8192x8192, .f32⟩
  | 15 => ⟨S8x8192x8192, .f32⟩
  | 16 => ⟨S8x8192, .f32⟩
  | 17 => ⟨S8x1x8192, .f32⟩
  | 18 => ⟨S8x8192x8192, .f32⟩
  | 19 => ⟨S8x8192x8192, .f32⟩
  | 20 => ⟨S8192, .i32⟩
  | 21 => ⟨S8192x1, .i32⟩
  | 22 => ⟨S1x8192, .i32⟩
  | 23 => ⟨S8192x8192, .i32⟩
  | 24 => ⟨S8192x8192, .i32⟩
  | 25 => ⟨S8192x8192, .i1⟩
  | 26 => ⟨S_, .f32⟩
  | 27 => ⟨S_, .f32⟩
  | 28 => ⟨S8x8192x8192, .i1⟩
  | 29 => ⟨S8x8192x8192, .f32⟩
  | 30 => ⟨S8x8192x8192, .f32⟩
  | 31 => ⟨S_, .f32⟩
  | 32 => ⟨S8x8192x8192, .f32⟩
  | 33 => ⟨S_, .f32⟩
  | 34 => ⟨S8x8192, .f32⟩
  | 35 => ⟨S8x8192x1, .f32⟩
  | 36 => ⟨S8x8192x8192, .f32⟩
  | 37 => ⟨S8x8192x8192, .i1⟩
  | 38 => ⟨S8x8192x8192, .f32⟩
  | 39 => ⟨S_, .f32⟩
  | 40 => ⟨S8x8192, .f32⟩
  | 41 => ⟨S_, .f32⟩
  | 42 => ⟨S8x8192, .f32⟩
  | 43 => ⟨S8x8192, .f32⟩
  | 44 => ⟨S_, .f32⟩
  | 45 => ⟨S8x8192, .f32⟩
  | 46 => ⟨S8x8192, .i1⟩
  | 47 => ⟨S_, .f32⟩
  | 48 => ⟨S8x8192, .f32⟩
  | 49 => ⟨S8x8192, .i1⟩
  | 50 => ⟨S_, .f32⟩
  | 51 => ⟨S8x8192, .f32⟩
  | 52 => ⟨S_, .f32⟩
  | 53 => ⟨S8x8192, .f32⟩
  | 54 => ⟨S_, .f32⟩
  | 55 => ⟨S8x8192, .f32⟩
  | 56 => ⟨S8x8192, .f32⟩
  | 57 => ⟨S8x8192, .f32⟩
  | 58 => ⟨S8x8192x1, .f32⟩
  | 59 => ⟨S8x8192x8192, .f32⟩
  | 60 => ⟨S8x8192x8192, .f32⟩
  | 61 => ⟨S8x8192x8192, .f32⟩
  | 62 => ⟨S_, .f32⟩
  | 63 => ⟨S8x8192, .f32⟩
  | 64 => ⟨S8x8192x1, .f32⟩
  | 65 => ⟨S8x8192x8192, .f32⟩
  | 66 => ⟨S8x8192x8192, .f32⟩
  | 67 => ⟨S8x8192x1, .f32⟩
  | 68 => ⟨S_, .f32⟩
  | 69 => ⟨S8x8192x1, .f32⟩
  | 70 => ⟨S8x8192x1, .f32⟩
  | 71 => ⟨S8x64x8192, .f32⟩
  | 72 => ⟨S8192x8x64, .f32⟩
  | 73 => ⟨S8192x512, .f32⟩
  | 74 => ⟨S8192x8x64, .f32⟩
  | 75 => ⟨S8x64x8192, .f32⟩
  | 76 => ⟨S8x8192x8192, .f32⟩
  | 77 => ⟨S8x64x8192, .f32⟩
  | 78 => ⟨S8192x8x64, .f32⟩
  | 79 => ⟨S8x8192x8192, .f32⟩
  | 80 => ⟨S8x8192x8192, .f32⟩
  | 81 => ⟨S8x8192x8192, .f32⟩
  | 82 => ⟨S_, .f32⟩
  | 83 => ⟨S8x8192, .f32⟩
  | 84 => ⟨S8x8192x1, .f32⟩
  | 85 => ⟨S8x8192x1, .f32⟩
  | 86 => ⟨S8x8192x8192, .f32⟩
  | 87 => ⟨S8x8192x8192, .f32⟩
  | 88 => ⟨S_, .f32⟩
  | 89 => ⟨S8x8192, .f32⟩
  | 90 => ⟨S8x8192x8192, .f32⟩
  | 91 => ⟨S8x8192x8192, .f32⟩
  | 92 => ⟨S8x8192x8192, .f32⟩
  | 93 => ⟨S_, .f32⟩
  | 94 => ⟨S8x8192x8192, .f32⟩
  | 95 => ⟨S8x8192x8192, .f32⟩
  | 96 => ⟨S8x8192x8192, .f32⟩
  | 97 => ⟨S_, .f32⟩
  | 98 => ⟨S8x8192, .f32⟩
  | 99 => ⟨S8x1x8192, .f32⟩
  | 100 => ⟨S_, .f32⟩
  | 101 => ⟨S8x8192, .f32⟩
  | 102 => ⟨S8192x8, .f32⟩
  | 103 => ⟨S_, .f32⟩
  | 104 => ⟨S8x8192, .f32⟩
  | 105 => ⟨S8x8192x1, .f32⟩
  | 106 => ⟨S_, .f32⟩
  | 107 => ⟨S8x8192, .f32⟩
  | 108 => ⟨S8192x8, .f32⟩
  | 109 => ⟨S_, .f32⟩
  | 110 => ⟨S8x8192x8192, .f32⟩
  | 111 => ⟨S8x8192x8192, .f32⟩
  | 112 => ⟨S8x8192x64, .f32⟩
  | 113 => ⟨S8192x8x64, .f32⟩
  | 114 => ⟨S8x8192x64, .f32⟩
  | 115 => ⟨S8192x8x64, .f32⟩
  | 116 => ⟨S8192x512, .f32⟩
  | 117 => ⟨S8192x512, .f32⟩
  | 118 => ⟨S8192x512, .f32⟩
  | 119 => ⟨S8192x512, .bf16⟩
  | 120 => ⟨S8192x512, .bf16⟩
  | 121 => ⟨S8192x512, .bf16⟩
  | 122 => ⟨S4x1x128, .i32⟩
  | 123 => ⟨S4x1x128, .i32⟩
  | 124 => ⟨S_, .i32⟩
  | 125 => ⟨S_, .f32⟩
  | 126 => ⟨S8192x128, .f32⟩
  | 127 => ⟨S1x8192x128, .f32⟩
  | _ => ⟨S8192x512, .f32⟩

abbrev hbmTy0_1 (i : Nat) : BufTy := match i % 128 with
  | 0 => ⟨S_, .i32⟩
  | 1 => ⟨S_, .i32⟩
  | 2 => ⟨S4x1x128, .i32⟩
  | 3 => ⟨S4x1x128, .i32⟩
  | 4 => ⟨S4x1x128, .i32⟩
  | 5 => ⟨S_, .i32⟩
  | 6 => ⟨S4x1x128, .i32⟩
  | 7 => ⟨S4x1x128, .i1⟩
  | 8 => ⟨S4x1x128, .i32⟩
  | 9 => ⟨S4x1x128, .i32⟩
  | 10 => ⟨S_, .i32⟩
  | 11 => ⟨S4x1x128, .i32⟩
  | 12 => ⟨S4x1x128, .i1⟩
  | 13 => ⟨S4x1x128, .i1⟩
  | 14 => ⟨S_, .i32⟩
  | 15 => ⟨S4x1x128, .i32⟩
  | 16 => ⟨S4x1x128, .i32⟩
  | 17 => ⟨S4x1x128, .i32⟩
  | 18 => ⟨S4x1x128, .i1⟩
  | 19 => ⟨S_, .f32⟩
  | 20 => ⟨S_, .f32⟩
  | 21 => ⟨S4x8192x128, .i1⟩
  | 22 => ⟨S4x8192x128, .f32⟩
  | 23 => ⟨S4x8192x128, .f32⟩
  | 24 => ⟨S4x8192x128, .f32⟩
  | 25 => ⟨S4x1x128, .i32⟩
  | 26 => ⟨S4x1x128, .i32⟩
  | 27 => ⟨S_, .i32⟩
  | 28 => ⟨S_, .f32⟩
  | 29 => ⟨S8192x128, .f32⟩
  | 30 => ⟨S1x8192x128, .f32⟩
  | 31 => ⟨S_, .i32⟩
  | 32 => ⟨S_, .i32⟩
  | 33 => ⟨S4x1x128, .i32⟩
  | 34 => ⟨S4x1x128, .i32⟩
  | 35 => ⟨S4x1x128, .i32⟩
  | 36 => ⟨S_, .i32⟩
  | 37 => ⟨S4x1x128, .i32⟩
  | 38 => ⟨S4x1x128, .i1⟩
  | 39 => ⟨S4x1x128, .i32⟩
  | 40 => ⟨S4x1x128, .i32⟩
  | 41 => ⟨S_, .i32⟩
  | 42 => ⟨S4x1x128, .i32⟩
  | 43 => ⟨S4x1x128, .i1⟩
  | 44 => ⟨S4x1x128, .i1⟩
  | 45 => ⟨S_, .i32⟩
  | 46 => ⟨S4x1x128, .i32⟩
  | 47 => ⟨S4x1x128, .i32⟩
  | 48 => ⟨S4x1x128, .i32⟩
  | 49 => ⟨S4x1x128, .i1⟩
  | 50 => ⟨S_, .f32⟩
  | 51 => ⟨S_, .f32⟩
  | 52 => ⟨S4x8192x128, .i1⟩
  | 53 => ⟨S4x8192x128, .f32⟩
  | 54 => ⟨S4x8192x128, .f32⟩
  | 55 => ⟨S4x8192x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c : Ref sig .tc := ⟨.hbm, 124, rfl⟩
abbrev main_call2_v0 : Ref sig .tc := ⟨.hbm, 125, rfl⟩
abbrev main_v93 : Ref sig .tc := ⟨.hbm, 126, rfl⟩
abbrev main_v94 : Ref sig .tc := ⟨.hbm, 127, rfl⟩
abbrev main_c_18 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_c : Ref sig .tc := ⟨.hbm, 138, rfl⟩
abbrev main_call3_v9 : Ref sig .tc := ⟨.hbm, 139, rfl⟩
abbrev main_call3_v10 : Ref sig .tc := ⟨.hbm, 140, rfl⟩
abbrev main_call3_v11 : Ref sig .tc := ⟨.hbm, 141, rfl⟩
abbrev main_call3_c_0 : Ref sig .tc := ⟨.hbm, 142, rfl⟩
abbrev main_call3_v12 : Ref sig .tc := ⟨.hbm, 143, rfl⟩
abbrev main_call3_v13 : Ref sig .tc := ⟨.hbm, 144, rfl⟩
abbrev main_v95 : Ref sig .tc := ⟨.hbm, 145, rfl⟩
abbrev main_v96 : Ref sig .tc := ⟨.hbm, 146, rfl⟩
abbrev main_cst_19 : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_call4_v3 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_c_20 : Ref sig .tc := ⟨.hbm, 155, rfl⟩
abbrev main_call5_v0 : Ref sig .tc := ⟨.hbm, 156, rfl⟩
abbrev main_v100 : Ref sig .tc := ⟨.hbm, 157, rfl⟩
abbrev main_v101 : Ref sig .tc := ⟨.hbm, 158, rfl⟩
abbrev main_c_21 : Ref sig .tc := ⟨.hbm, 159, rfl⟩
abbrev main_call6_v0 : Ref sig .tc := ⟨.hbm, 160, rfl⟩
abbrev main_call6_v1 : Ref sig .tc := ⟨.hbm, 161, rfl⟩
abbrev main_call6_v2 : Ref sig .tc := ⟨.hbm, 162, rfl⟩
abbrev main_call6_v3 : Ref sig .tc := ⟨.hbm, 163, rfl⟩
abbrev main_call6_v4 : Ref sig .tc := ⟨.hbm, 164, rfl⟩
abbrev main_call6_v5 : Ref sig .tc := ⟨.hbm, 165, rfl⟩
abbrev main_call6_v6 : Ref sig .tc := ⟨.hbm, 166, rfl⟩
abbrev main_call6_v7 : Ref sig .tc := ⟨.hbm, 167, rfl⟩
abbrev main_call6_v8 : Ref sig .tc := ⟨.hbm, 168, rfl⟩
abbrev main_call6_c : Ref sig .tc := ⟨.hbm, 169, rfl⟩
abbrev main_call6_v9 : Ref sig .tc := ⟨.hbm, 170, rfl⟩
abbrev main_call6_v10 : Ref sig .tc := ⟨.hbm, 171, rfl⟩
abbrev main_call6_v11 : Ref sig .tc := ⟨.hbm, 172, rfl⟩
abbrev main_call6_c_0 : Ref sig .tc := ⟨.hbm, 173, rfl⟩
abbrev main_call6_v12 : Ref sig .tc := ⟨.hbm, 174, rfl⟩
abbrev main_call6_v13 : Ref sig .tc := ⟨.hbm, 175, rfl⟩
abbrev main_v102 : Ref sig .tc := ⟨.hbm, 176, rfl⟩
abbrev main_v103 : Ref sig .tc := ⟨.hbm, 177, rfl⟩
abbrev main_cst_22 : Ref sig .tc := ⟨.hbm, 178, rfl⟩
abbrev main_call7_v0 : Ref sig .tc := ⟨.hbm, 179, rfl⟩
abbrev main_call7_v1 : Ref sig .tc := ⟨.hbm, 180, rfl⟩
abbrev main_call7_v2 : Ref sig .tc := ⟨.hbm, 181, rfl⟩
abbrev main_call7_v3 : Ref sig .tc := ⟨.hbm, 182, rfl⟩
abbrev main_v104 : Ref sig .tc := ⟨.hbm, 183, rfl⟩

abbrev nD : Nat := 1
abbrev τ : Topo := Topo.v7x

variable {F : FTy → Type} [FloatOps F]
-- ==== FfnDownLoss.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x2816, .bf16⟩
  | .hbm, ⟨6, _⟩ => ⟨S2816x1024, .bf16⟩
  | .hbm, ⟨7, _⟩ => ⟨S1x1024, .f32⟩
  | .hbm, ⟨8, _⟩ => ⟨S8x128, .f32⟩
  | .hbm, ⟨9, _⟩ => ⟨S8192x1024, .f32⟩
  | .hbm, ⟨10, _⟩ => ⟨S8192x1024, .bf16⟩
  | .hbm, ⟨11, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnDownLossRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8x128, .f32⟩
  | .hbm, ⟨76, _⟩ => ⟨S8192x1024, .bf16⟩
  | .hbm, ⟨77, _⟩ => ⟨S1x1024, .f32⟩
  | .hbm, ⟨78, _⟩ => ⟨S_, .i32⟩
  | .hbm, ⟨79, _⟩ => ⟨S_, .f32⟩
  | .hbm, ⟨80, _⟩ => ⟨S8x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c : Ref sig .tc := ⟨.hbm, 78, rfl⟩
abbrev main_call0_v0 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== InProjDx.lean ====
abbrev S8192x1024 : Shape := ⟨2, ![8192, 1024]⟩
abbrev S1024 : Shape := ⟨1, ![1024]⟩
abbrev S1024x2568 : Shape := ⟨2, ![1024, 2568]⟩
abbrev S8192x2568 : Shape := ⟨2, ![8192, 2568]⟩
abbrev S2568x1024 : Shape := ⟨2, ![2568, 1024]⟩
abbrev S_ : Shape := ⟨0, ![]⟩
abbrev S2688x1024 : Shape := ⟨2, ![2688, 1024]⟩
abbrev S8192x2688 : Shape := ⟨2, ![8192, 2688]⟩
abbrev S8192x512 : Shape := ⟨2, ![8192, 512]⟩
abbrev S8192x128 : Shape := ⟨2, ![8192, 128]⟩
abbrev S1x1024 : Shape := ⟨2, ![1, 1024]⟩
abbrev S8x1024 : Shape := ⟨2, ![8, 1024]⟩
abbrev S512x512 : Shape := ⟨2, ![512, 512]⟩
abbrev S512x1024 : Shape := ⟨2, ![512, 1024]⟩
abbrev S512x128 : Shape := ⟨2, ![512, 128]⟩
abbrev S1024x1024 : Shape := ⟨2, ![1024, 1024]⟩
abbrev S128x1024 : Shape := ⟨2, ![128, 1024]⟩
abbrev S512 : Shape := ⟨1, ![512]⟩
abbrev S512x1 : Shape := ⟨2, ![512, 1]⟩

abbrev nBuf : Space → Nat
  | .hbm => 22
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2568, .f32⟩
  | .hbm, ⟨3, _⟩ => ⟨S8192x2568, .f32⟩
  | .hbm, ⟨4, _⟩ => ⟨S8192x1024, .f32⟩
  | .hbm, ⟨5, _⟩ => ⟨S2568x1024, .f32⟩
  | .hbm, ⟨6, _⟩ => ⟨S2568x1024, .bf16⟩
  | .hbm, ⟨7, _⟩ => ⟨S_, .i32⟩
  | .hbm, ⟨8, _⟩ => ⟨S_, .bf16⟩
  | .hbm, ⟨9, _⟩ => ⟨S2688x1024, .bf16⟩
  | .hbm, ⟨10, _⟩ => ⟨S_, .i32⟩
  | .hbm, ⟨11, _⟩ => ⟨S_, .f32⟩
  | .hbm, ⟨12, _⟩ => ⟨S8192x2688, .f32⟩
  | .hbm, ⟨13, _⟩ => ⟨S8192x2688, .bf16⟩
  | .hbm, ⟨14, _⟩ => ⟨S8192x512, .bf16⟩
  | .hbm, ⟨15, _⟩ => ⟨S8192x512, .bf16⟩
  | .hbm, ⟨16, _⟩ => ⟨S8192x512, .bf16⟩
  | .hbm, ⟨17, _⟩ => ⟨S8192x1024, .bf16⟩
  | .hbm, ⟨18, _⟩ => ⟨S8192x128, .bf16⟩
  | .hbm, ⟨19, _⟩ => ⟨S1x1024, .f32⟩
  | .hbm, ⟨20, _⟩ => ⟨S8192x1024, .f32⟩
  | .hbm, ⟨21, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S2688x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2688x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InProjDxRefIdeal.lean ====
abbrev S8192x1024 : Shape := ⟨2, ![8192, 1024]⟩
abbrev S1024 : Shape := ⟨1, ![1024]⟩
abbrev S1024x2568 : Shape := ⟨2, ![1024, 2568]⟩
abbrev S8192x2568 : Shape := ⟨2, ![8192, 2568]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2568, .f32⟩
  | .hbm, ⟨3, _⟩ => ⟨S8192x2568, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2568, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S_, .i32⟩
  | .hbm, ⟨55, _⟩ => ⟨S_, .f32⟩
  | .hbm, ⟨56, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_call0_v0 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== GateBwd.lean ====
abbrev S8192x8 : Shape := ⟨2, ![8192, 8]⟩
abbrev S8 : Shape := ⟨1, ![8]⟩
abbrev S_ : Shape := ⟨0, ![]⟩
abbrev S8192x128 : Shape := ⟨2, ![8192, 128]⟩
abbrev S1x8 : Shape := ⟨2, ![1, 8]⟩
abbrev S1x128 : Shape := ⟨2, ![1, 128]⟩
abbrev S4x1x128 : Shape := ⟨3, ![4, 1, 128]⟩
abbrev S1x8192x128 : Shape := ⟨3, ![1, 8192, 128]⟩
abbrev S4x8192x128 : Shape := ⟨3, ![4, 8192, 128]⟩
abbrev S256x256 : Shape := ⟨2, ![256, 256]⟩
abbrev S8x128 : Shape := ⟨2, ![8, 128]⟩
abbrev S4x256x128 : Shape := ⟨3, ![4, 256, 128]⟩
abbrev S256x128 : Shape := ⟨2, ![256, 128]⟩
abbrev S1x256x128 : Shape := ⟨3, ![1, 256, 128]⟩
abbrev S256x384 : Shape := ⟨2, ![256, 384]⟩
abbrev S128 : Shape := ⟨1, ![128]⟩

abbrev nBuf : Space → Nat
  | .hbm => 81
  | .vmem => 11
  | .smem => 0
  | _ => 0

abbrev bufTy : (tb : Table) → Fin (tcTables nBuf tb) → BufTy
  | .hbm, ⟨0, _⟩ => ⟨S8192x8, .f32⟩
  | .hbm, ⟨1, _⟩ => ⟨S8, .f32⟩
  | .hbm, ⟨2, _⟩ => ⟨S8192x8, .f32⟩
  | .hbm, ⟨3, _⟩ => ⟨S8192x8, .f32⟩
  | .hbm, ⟨4, _⟩ => ⟨S_, .i32⟩
  | .hbm, ⟨5, _⟩ => ⟨S_, .f32⟩
  | .hbm, ⟨6, _⟩ => ⟨S8192x128, .f32⟩
  | .hbm, ⟨7, _⟩ => ⟨S1x8, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S8192x128, .f32⟩
  | .hbm, ⟨12, _⟩ => ⟨S8192x128, .f32⟩
  | .hbm, ⟨13, _⟩ => ⟨S4x1x128, .i32⟩
  | .hbm, ⟨14, _⟩ => ⟨S4x1x128, .i32⟩
  | .hbm, ⟨15, _⟩ => ⟨S_, .i32⟩
  | .hbm, ⟨16, _⟩ => ⟨S_, .f32⟩
  | .hbm, ⟨17, _⟩ => ⟨S8192x128, .f32⟩
  | .hbm, ⟨18, _⟩ => ⟨S1x8192x128, .f32⟩
  | .hbm, ⟨19, _⟩ => ⟨S_, .i32⟩
  | .hbm, ⟨20, _⟩ => ⟨S_, .i32⟩
  | .hbm, ⟨21, _⟩ => ⟨S4x1x128, .i32⟩
  | .hbm, ⟨22, _⟩ => ⟨S4x1x128, .i32⟩
  | .hbm, ⟨23, _⟩ => ⟨S4x1x128, .i32⟩
  | .hbm, ⟨24, _⟩ => ⟨S_, .i32⟩
  | .hbm, ⟨25, _⟩ => ⟨S4x1x128, .i32⟩
  | .hbm, ⟨26, _⟩ => ⟨S4x1x128, .i1⟩
  | .hbm, ⟨27, _⟩ => ⟨S4x1x128, .i32⟩
  | .hbm, ⟨28, _⟩ => ⟨S4x1x128, .i32⟩
  | .hbm, ⟨29, _⟩ => ⟨S_, .i32⟩
  | .hbm, ⟨30, _⟩ => ⟨S4x1x128, .i32⟩
  | .hbm, ⟨31, _⟩ => ⟨S4x1x128, .i1⟩
  | .hbm, ⟨32, _⟩ => ⟨S4x1x128, .i1⟩
  | .hbm, ⟨33, _⟩ => ⟨S_, .i32⟩
  | .hbm, ⟨34, _⟩ => ⟨S4x1x128, .i32⟩
  | .hbm, ⟨35, _⟩ => ⟨S4x1x128, .i32⟩
  | .hbm, ⟨36, _⟩ => ⟨S4x1x128, .i32⟩
  | .hbm, ⟨37, _⟩ => ⟨S4x1x128, .i1⟩
  | .hbm, ⟨38, _⟩ => ⟨S_, .f32⟩
  | .hbm, ⟨39, _⟩ => ⟨S_, .f32⟩
  | .hbm, ⟨40, _⟩ => ⟨S4x8192x128, .i1⟩
  | .hbm, ⟨41, _⟩ => ⟨S4x8192x128, .f32⟩
  | .hbm, ⟨42, _⟩ => ⟨S4x8192x128, .f32⟩
  | .hbm, ⟨43, _⟩ => ⟨S4x8192x128, .f32⟩
  | .hbm, ⟨44, _⟩ => ⟨S4x1x128, .i32⟩
  | .hbm, ⟨45, _⟩ => ⟨S4x1x128, .i32⟩
  | .hbm, ⟨46, _⟩ => ⟨S_, .i32⟩
  | .hbm, ⟨47, _⟩ => ⟨S_, .f32⟩
  | .hbm, ⟨48, _⟩ => ⟨S8192x128, .f32⟩
  | .hbm, ⟨49, _⟩ => ⟨S1x8192x128, .f32⟩
  | .hbm, ⟨50, _⟩ => ⟨S_, .i32⟩
  | .hbm, ⟨51, _⟩ => ⟨S_, .i32⟩
  | .hbm, ⟨52, _⟩ => ⟨S4x1x128, .i32⟩
  | .hbm, ⟨53, _⟩ => ⟨S4x1x128, .i32⟩
  | .hbm, ⟨54, _⟩ => ⟨S4x1x128, .i32⟩
  | .hbm, ⟨55, _⟩ => ⟨S_, .i32⟩
  | .hbm, ⟨56, _⟩ => ⟨S4x1x128, .i32⟩
  | .hbm, ⟨57, _⟩ => ⟨S4x1x128, .i1⟩
  | .hbm, ⟨58, _⟩ => ⟨S4x1x128, .i32⟩
  | .hbm, ⟨59, _⟩ => ⟨S4x1x128, .i32⟩
  | .hbm, ⟨60, _⟩ => ⟨S_, .i32⟩
  | .hbm, ⟨61, _⟩ => ⟨S4x1x128, .i32⟩
  | .hbm, ⟨62, _⟩ => ⟨S4x1x128, .i1⟩
  | .hbm, ⟨63, _⟩ => ⟨S4x1x128, .i1⟩
  | .hbm, ⟨64, _⟩ => ⟨S_, .i32⟩
  | .hbm, ⟨65, _⟩ => ⟨S4x1x128, .i32⟩
  | .hbm, ⟨66, _⟩ => ⟨S4x1x128, .i32⟩
  | .hbm, ⟨67, _⟩ => ⟨S4x1x128, .i32⟩
  | .hbm, ⟨68, _⟩ => ⟨S4x1x128, .i1⟩
  | .hbm, ⟨69, _⟩ => ⟨S_, .f32⟩
  | .hbm, ⟨70, _⟩ => ⟨S_, .f32⟩
  | .hbm, ⟨71, _⟩ => ⟨S4x8192x128, .i1⟩
  | .hbm, ⟨72, _⟩ => ⟨S4x8192x128, .f32⟩
  | .hbm, ⟨73, _⟩ => ⟨S4x8192x128, .f32⟩
  | .hbm, ⟨74, _⟩ => ⟨S4x8192x128, .f32⟩
  | .hbm, ⟨75, _⟩ => ⟨S256x256, .i32⟩
  | .hbm, ⟨76, _⟩ => ⟨S256x256, .i32⟩
  | .hbm, ⟨77, _⟩ => ⟨S256x256, .i1⟩
  | .hbm, ⟨78, _⟩ => ⟨S256x256, .bf16⟩
  | .hbm, ⟨79, _⟩ => ⟨S8192x128, .bf16⟩
  | .hbm, ⟨80, _⟩ => ⟨S8x128, .f32⟩
  | .local _ .vmem, ⟨0, _⟩ => ⟨S4x256x128, .f32⟩
  | .local _ .vmem, ⟨1, _⟩ => ⟨S4x256x128, .f32⟩
  | .local _ .vmem, ⟨2, _⟩ => ⟨S4x256x128, .f32⟩
  | .local _ .vmem, ⟨3, _⟩ => ⟨S4x256x128, .f32⟩
  | .local _ .vmem, ⟨4, _⟩ => ⟨S256x128, .f32⟩
  | .local _ .vmem, ⟨5, _⟩ => ⟨S256x128, .f32⟩
  | .local _ .vmem, ⟨6, _⟩ => ⟨S256x256, .bf16⟩
  | .local _ .vmem, ⟨7, _⟩ => ⟨S256x128, .bf16⟩
  | .local _ .vmem, ⟨8, _⟩ => ⟨S256x128, .bf16⟩
  | .local _ .vmem, ⟨9, _⟩ => ⟨S8x128, .f32⟩
  | .local _ .vmem, ⟨10, _⟩ => ⟨S8x128, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_call3_v1 : Ref sig .tc := ⟨.hbm, 21, rfl⟩
abbrev main_call3_v2 : Ref sig .tc := ⟨.hbm, 22, rfl⟩
abbrev main_call3_v3 : Ref sig .tc := ⟨.hbm, 23, rfl⟩
abbrev main_call3_v4 : Ref sig .tc := ⟨.hbm, 24, rfl⟩
abbrev main_call3_v5 : Ref sig .tc := ⟨.hbm, 25, rfl⟩
abbrev main_call3_v6 : Ref sig .tc := ⟨.hbm, 26, rfl⟩
abbrev main_call3_v7 : Ref sig .tc := ⟨.hbm, 27, rfl⟩
abbrev main_call3_v8 : Ref sig .tc := ⟨.hbm, 28, rfl⟩
abbrev main_call3_c : Ref sig .tc := ⟨.hbm, 29, rfl⟩
abbrev main_call3_v9 : Ref sig .tc := ⟨.hbm, 30, rfl⟩
abbrev main_call3_v10 : Ref sig .tc := ⟨.hbm, 31, rfl⟩
abbrev main_call3_v11 : Ref sig .tc := ⟨.hbm, 32, rfl⟩
abbrev main_call3_c_0 : Ref sig .tc := ⟨.hbm, 33, rfl⟩
abbrev main_call3_v12 : Ref sig .tc := ⟨.hbm, 34, rfl⟩
abbrev main_call3_v13 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_call4_v3 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c_3 : Ref sig .tc := ⟨.hbm, 46, rfl⟩
abbrev main_call5_v0 : Ref sig .tc := ⟨.hbm, 47, rfl⟩
abbrev main_v14 : Ref sig .tc := ⟨.hbm, 48, rfl⟩
abbrev main_v15 : Ref sig .tc := ⟨.hbm, 49, rfl⟩
abbrev main_c_4 : Ref sig .tc := ⟨.hbm, 50, rfl⟩
abbrev main_call6_v0 : Ref sig .tc := ⟨.hbm, 51, rfl⟩
abbrev main_call6_v1 : Ref sig .tc := ⟨.hbm, 52, rfl⟩
abbrev main_call6_v2 : Ref sig .tc := ⟨.hbm, 53, rfl⟩
abbrev main_call6_v3 : Ref sig .tc := ⟨.hbm, 54, rfl⟩
abbrev main_call6_v4 : Ref sig .tc := ⟨.hbm, 55, rfl⟩
abbrev main_call6_v5 : Ref sig .tc := ⟨.hbm, 56, rfl⟩
abbrev main_call6_v6 : Ref sig .tc := ⟨.hbm, 57, rfl⟩
abbrev main_call6_v7 : Ref sig .tc := ⟨.hbm, 58, rfl⟩
abbrev main_call6_v8 : Ref sig .tc := ⟨.hbm, 59, rfl⟩
abbrev main_call6_c : Ref sig .tc := ⟨.hbm, 60, rfl⟩
abbrev main_call6_v9 : Ref sig .tc := ⟨.hbm, 61, rfl⟩
abbrev main_call6_v10 : Ref sig .tc := ⟨.hbm, 62, rfl⟩
abbrev main_call6_v11 : Ref sig .tc := ⟨.hbm, 63, rfl⟩
abbrev main_call6_c_0 : Ref sig .tc := ⟨.hbm, 64, rfl⟩
abbrev main_call6_v12 : Ref sig .tc := ⟨.hbm, 65, rfl⟩
abbrev main_call6_v13 : Ref sig .tc := ⟨.hbm, 66, rfl⟩
abbrev main_v16 : Ref sig .tc := ⟨.hbm, 67, rfl⟩
abbrev main_v17 : Ref sig .tc := ⟨.hbm, 68, rfl⟩
abbrev main_cst_5 : Ref sig .tc := ⟨.hbm, 69, rfl⟩
abbrev main_call7_v0 : Ref sig .tc := ⟨.hbm, 70, rfl⟩
abbrev main_call7_v1 : Ref sig .tc := ⟨.hbm, 71, rfl⟩
abbrev main_call7_v2 : Ref sig .tc := ⟨.hbm, 72, rfl⟩
abbrev main_call7_v3 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23_0 : Ref sig .tc := ⟨.hbm, 79, rfl⟩
abbrev main_v23_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateBwdRefIdeal.lean ====
abbrev S8192x8 : Shape := ⟨2, ![8192, 8]⟩
abbrev S8 : Shape := ⟨1, ![8]⟩
abbrev S1x8 : Shape := ⟨2, ![1, 8]⟩
abbrev S_ : Shape := ⟨0, ![]⟩
abbrev S8192x128 : Shape := ⟨2, ![8192, 128]⟩
abbrev S8x128 : Shape := ⟨2, ![8, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x8, .f32⟩
  | .hbm, ⟨1, _⟩ => ⟨S8, .f32⟩
  | .hbm, ⟨2, _⟩ => ⟨S8192x8, .f32⟩
  | .hbm, ⟨3, _⟩ => ⟨S8192x8, .f32⟩
  | .hbm, ⟨4, _⟩ => ⟨S1x8, .f32⟩
  | .hbm, ⟨5, _⟩ => ⟨S8192x8, .f32⟩
  | .hbm, ⟨6, _⟩ => ⟨S8192x8, .f32⟩
  | .hbm, ⟨7, _⟩ => ⟨S8192x8, .f32⟩
  | .hbm, ⟨8, _⟩ => ⟨S_, .f32⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S8192x8, .f32⟩
  | .hbm, ⟨13, _⟩ => ⟨S8192x8, .i1⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S_, .f32⟩
  | .hbm, ⟨23, _⟩ => ⟨S8192x8, .f32⟩
  | .hbm, ⟨24, _⟩ => ⟨S8192x8, .i1⟩
  | .hbm, ⟨25, _⟩ => ⟨S_, .f32⟩
  | .hbm, ⟨26, _⟩ => ⟨S8192x8, .f32⟩
  | .hbm, ⟨27, _⟩ => ⟨S8192x8, .f32⟩
  | .hbm, ⟨28, _⟩ => ⟨S_, .f32⟩
  | .hbm, ⟨29, _⟩ => ⟨S8192x8, .f32⟩
  | .hbm, ⟨30, _⟩ => ⟨S8192x8, .i1⟩
  | .hbm, ⟨31, _⟩ => ⟨S_, .f32⟩
  | .hbm, ⟨32, _⟩ => ⟨S8192x8, .f32⟩
  | .hbm, ⟨33, _⟩ => ⟨S8192x8, .f32⟩
  | .hbm, ⟨34, _⟩ => ⟨S8192x8, .f32⟩
  | .hbm, ⟨35, _⟩ => ⟨S8192x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192x8, .f32⟩
  | .hbm, ⟨44, _⟩ => ⟨S8192x8, .i1⟩
  | .hbm, ⟨45, _⟩ => ⟨S_, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S8192x8, .f32⟩
  | .hbm, ⟨50, _⟩ => ⟨S8192x8, .f32⟩
  | .hbm, ⟨51, _⟩ => ⟨S_, .f32⟩
  | .hbm, ⟨52, _⟩ => ⟨S8192x8, .f32⟩
  | .hbm, ⟨53, _⟩ => ⟨S8192x8, .f32⟩
  | .hbm, ⟨54, _⟩ => ⟨S8192x8, .f32⟩
  | .hbm, ⟨55, _⟩ => ⟨S_, .f32⟩
  | .hbm, ⟨56, _⟩ => ⟨S_, .f32⟩
  | .hbm, ⟨57, _⟩ => ⟨S8192x8, .f32⟩
  | .hbm, ⟨58, _⟩ => ⟨S8192x8, .f32⟩
  | .hbm, ⟨59, _⟩ => ⟨S_, .f32⟩
  | .hbm, ⟨60, _⟩ => ⟨S_, .f32⟩
  | .hbm, ⟨61, _⟩ => ⟨S8192x8, .f32⟩
  | .hbm, ⟨62, _⟩ => ⟨S8192x8, .f32⟩
  | .hbm, ⟨63, _⟩ => ⟨S8192x8, .f32⟩
  | .hbm, ⟨64, _⟩ => ⟨S8192x8, .f32⟩
  | .hbm, ⟨65, _⟩ => ⟨S_, .f32⟩
  | .hbm, ⟨66, _⟩ => ⟨S8, .f32⟩
  | .hbm, ⟨67, _⟩ => ⟨S1x8, .f32⟩
  | .hbm, ⟨68, _⟩ => ⟨S_, .f32⟩
  | .hbm, ⟨69, _⟩ => ⟨S8, .f32⟩
  | .hbm, ⟨70, _⟩ => ⟨S_, .i32⟩
  | .hbm, ⟨71, _⟩ => ⟨S_, .f32⟩
  | .hbm, ⟨72, _⟩ => ⟨S8192x128, .f32⟩
  | .hbm, ⟨73, _⟩ => ⟨S8192x128, .bf16⟩
  | .hbm, ⟨74, _⟩ => ⟨S1x8, .f32⟩
  | .hbm, ⟨75, _⟩ => ⟨S_, .i32⟩
  | .hbm, ⟨76, _⟩ => ⟨S_, .f32⟩
  | .hbm, ⟨77, _⟩ => ⟨S8x128, .f32⟩
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v4 : Ref sig .tc := ⟨.hbm, 57, rfl⟩
abbrev main_v5 : Ref sig .tc := ⟨.hbm, 58, rfl⟩
abbrev main_call2_call0_cst : Ref sig .tc := ⟨.hbm, 59, rfl⟩
abbrev main_call2_call0_v0 : Ref sig .tc := ⟨.hbm, 60, rfl⟩
abbrev main_v6 : Ref sig .tc := ⟨.hbm, 61, rfl⟩
abbrev main_call3_v0 : Ref sig .tc := ⟨.hbm, 62, rfl⟩
abbrev main_call3_v1 : Ref sig .tc := ⟨.hbm, 63, rfl⟩
abbrev main_v7 : Ref sig .tc := ⟨.hbm, 64, rfl⟩
abbrev main_cst : Ref sig .tc := ⟨.hbm, 65, rfl⟩
abbrev main_v8 : Ref sig .tc := ⟨.hbm, 66, rfl⟩
abbrev main_v9 : Ref sig .tc := ⟨.hbm, 67, rfl⟩
abbrev main_cst_0 : Ref sig .tc := ⟨.hbm, 68, rfl⟩
abbrev main_v10 : Ref sig .tc := ⟨.hbm, 69, rfl⟩
abbrev main_c : Ref sig .tc := ⟨.hbm, 70, rfl⟩
abbrev main_call4_v0 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_c_1 : Ref sig .tc := ⟨.hbm, 75, rfl⟩
abbrev main_call5_v0 : Ref sig .tc := ⟨.hbm, 76, rfl⟩
abbrev main_v14 : Ref sig .tc := ⟨.hbm, 77, rfl⟩

abbrev nD : Nat := 1
abbrev τ : Topo := Topo.v7x

variable {F : FTy → Type} [FloatOps F]
-- ==== ConvGate.lean ====
abbrev S8192x5632 : Shape := ⟨2, ![8192, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S8192x2x2816 : Shape := ⟨3, ![8192, 2, 2816]⟩
abbrev S2x8192x2816 : Shape := ⟨3, ![2, 8192, 2816]⟩
abbrev S3x2x2816 : Shape := ⟨3, ![3, 2, 2816]⟩
abbrev S2x3x2816 : Shape := ⟨3, ![2, 3, 2816]⟩
abbrev S2x8x2816 : Shape := ⟨3, ![2, 8, 2816]⟩
abbrev S2x512x1408 : Shape := ⟨3, ![2, 512, 1408]⟩
abbrev S2x8x1408 : Shape := ⟨3, ![2, 8, 1408]⟩
abbrev S512x1408 : Shape := ⟨2, ![512, 1408]⟩
abbrev S8x1408 : Shape := ⟨2, ![8, 1408]⟩
abbrev S1x512x1408 : Shape := ⟨3, ![1, 512, 1408]⟩
abbrev S1x8x1408 : Shape := ⟨3, ![1, 8, 1408]⟩
abbrev S1x1408 : Shape := ⟨2, ![1, 1408]⟩
abbrev S1408 : Shape := ⟨1, ![1408]⟩

abbrev nBuf : Space → Nat
  | .hbm => 42
  | .vmem => 16
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S8192x2816, .f32⟩
  | .hbm, ⟨4, _⟩ => ⟨S_, .f32⟩
  | .hbm, ⟨5, _⟩ => ⟨S2x5632, .f32⟩
  | .hbm, ⟨6, _⟩ => ⟨S8194x5632, .f32⟩
  | .hbm, ⟨7, _⟩ => ⟨S1x5632, .f32⟩
  | .hbm, ⟨8, _⟩ => ⟨S5632, .f32⟩
  | .hbm, ⟨9, _⟩ => ⟨S8192x5632, .f32⟩
  | .hbm, ⟨10, _⟩ => ⟨S1x5632, .f32⟩
  | .hbm, ⟨11, _⟩ => ⟨S8192x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S8192x5632, .f32⟩
  | .hbm, ⟨16, _⟩ => ⟨S1x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632, .f32⟩
  | .hbm, ⟨21, _⟩ => ⟨S5632, .f32⟩
  | .hbm, ⟨22, _⟩ => ⟨S8192x5632, .f32⟩
  | .hbm, ⟨23, _⟩ => ⟨S1x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S1x5632, .f32⟩
  | .hbm, ⟨28, _⟩ => ⟨S8192x5632, .f32⟩
  | .hbm, ⟨29, _⟩ => ⟨S8192x5632, .f32⟩
  | .hbm, ⟨30, _⟩ => ⟨S8192x2x2816, .f32⟩
  | .hbm, ⟨31, _⟩ => ⟨S2x8192x2816, .f32⟩
  | .hbm, ⟨32, _⟩ => ⟨S8192x2x2816, .f32⟩
  | .hbm, ⟨33, _⟩ => ⟨S2x8192x2816, .f32⟩
  | .hbm, ⟨34, _⟩ => ⟨S2x8192x2816, .bf16⟩
  | .hbm, ⟨35, _⟩ => ⟨S3x2x2816, .f32⟩
  | .hbm, ⟨36, _⟩ => ⟨S2x3x2816, .f32⟩
  | .hbm, ⟨37, _⟩ => ⟨S_, .i32⟩
  | .hbm, ⟨38, _⟩ => ⟨S_, .f32⟩
  | .hbm, ⟨39, _⟩ => ⟨S2x8x2816, .f32⟩
  | .hbm, ⟨40, _⟩ => ⟨S2x8192x2816, .bf16⟩
  | .hbm, ⟨41, _⟩ => ⟨S2x8x2816, .f32⟩
  | .local _ .vmem, ⟨0, _⟩ => ⟨S2x512x1408, .f32⟩
  | .local _ .vmem, ⟨1, _⟩ => ⟨S2x512x1408, .f32⟩
  | .local _ .vmem, ⟨2, _⟩ => ⟨S2x8x1408, .f32⟩
  | .local _ .vmem, ⟨3, _⟩ => ⟨S2x8x1408, .f32⟩
  | .local _ .vmem, ⟨4, _⟩ => ⟨S2x512x1408, .bf16⟩
  | .local _ .vmem, ⟨5, _⟩ => ⟨S2x512x1408, .bf16⟩
  | .local _ .vmem, ⟨6, _⟩ => ⟨S512x1408, .f32⟩
  | .local _ .vmem, ⟨7, _⟩ => ⟨S512x1408, .f32⟩
  | .local _ .vmem, ⟨8, _⟩ => ⟨S8x1408, .f32⟩
  | .local _ .vmem, ⟨9, _⟩ => ⟨S8x1408, .f32⟩
  | .local _ .vmem, ⟨10, _⟩ => ⟨S2x8x1408, .f32⟩
  | .local _ .vmem, ⟨11, _⟩ => ⟨S2x8x1408, .f32⟩
  | .local _ .vmem, ⟨12, _⟩ => ⟨S2x512x1408, .bf16⟩
  | .local _ .vmem, ⟨13, _⟩ => ⟨S2x512x1408, .bf16⟩
  | .local _ .vmem, ⟨14, _⟩ => ⟨S2x8x1408, .f32⟩
  | .local _ .vmem, ⟨15, _⟩ => ⟨S2x8x1408, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c : Ref sig .tc := ⟨.hbm, 37, rfl⟩
abbrev main_call0_v0 : Ref sig .tc := ⟨.hbm, 38, rfl⟩
abbrev main_v32 : Ref sig .tc := ⟨.hbm, 39, rfl⟩
abbrev main_v33_0 : Ref sig .tc := ⟨.hbm, 40, rfl⟩
abbrev main_v33_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![c0_i32.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x8x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x8x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvGateRefIdeal.lean ====
abbrev S8192x5632 : Shape := ⟨2, ![8192, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S4x5632 : Shape := ⟨2, ![4, 5632]⟩
abbrev S8x5632 : Shape := ⟨2, ![8, 5632]⟩
abbrev S8192x2x2816 : Shape := ⟨3, ![8192, 2, 2816]⟩
abbrev S2x8192x2816 : Shape := ⟨3, ![2, 8192, 2816]⟩
abbrev S8x2x2816 : Shape := ⟨3, ![8, 2, 2816]⟩
abbrev S2x8x2816 : Shape := ⟨3, ![2, 8, 2816]⟩

abbrev nBuf : Space → Nat
  | .hbm => 114
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S8192x2816, .f32⟩
  | .hbm, ⟨4, _⟩ => ⟨S_, .f32⟩
  | .hbm, ⟨5, _⟩ => ⟨S2x5632, .f32⟩
  | .hbm, ⟨6, _⟩ => ⟨S8194x5632, .f32⟩
  | .hbm, ⟨7, _⟩ => ⟨S_, .f32⟩
  | .hbm, ⟨8, _⟩ => ⟨S2x5632, .f32⟩
  | .hbm, ⟨9, _⟩ => ⟨S1x5632, .f32⟩
  | .hbm, ⟨10, _⟩ => ⟨S5632, .f32⟩
  | .hbm, ⟨11, _⟩ => ⟨S8192x5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S1x5632, .f32⟩
  | .hbm, ⟨16, _⟩ => ⟨S5632, .f32⟩
  | .hbm, ⟨17, _⟩ => ⟨S8192x5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S1x5632, .f32⟩
  | .hbm, ⟨23, _⟩ => ⟨S5632, .f32⟩
  | .hbm, ⟨24, _⟩ => ⟨S8192x5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x5632, .f32⟩
  | .hbm, ⟨55, _⟩ => ⟨S_, .f32⟩
  | .hbm, ⟨56, _⟩ => ⟨S5632, .f32⟩
  | .hbm, ⟨57, _⟩ => ⟨S1x5632, .f32⟩
  | .hbm, ⟨58, _⟩ => ⟨S_, .f32⟩
  | .hbm, ⟨59, _⟩ => ⟨S5632, .f32⟩
  | .hbm, ⟨60, _⟩ => ⟨S8192x5632, .f32⟩
  | .hbm, ⟨61, _⟩ => ⟨S8192x5632, .f32⟩
  | .hbm, ⟨62, _⟩ => ⟨S8192x5632, .f32⟩
  | .hbm, ⟨63, _⟩ => ⟨S_, .f32⟩
  | .hbm, ⟨64, _⟩ => ⟨S5632, .f32⟩
  | .hbm, ⟨65, _⟩ => ⟨S1x5632, .f32⟩
  | .hbm, ⟨66, _⟩ => ⟨S_, .f32⟩
  | .hbm, ⟨67, _⟩ => ⟨S5632, .f32⟩
  | .hbm, ⟨68, _⟩ => ⟨S_, .f32⟩
  | .hbm, ⟨69, _⟩ => ⟨S8194x5632, .f32⟩
  | .hbm, ⟨70, _⟩ => ⟨S1x5632, .f32⟩
  | .hbm, ⟨71, _⟩ => ⟨S_, .f32⟩
  | .hbm, ⟨72, _⟩ => ⟨S3x5632, .f32⟩
  | .hbm, ⟨73, _⟩ => ⟨S8192x5632, .f32⟩
  | .hbm, ⟨74, _⟩ => ⟨S8192x5632, .f32⟩
  | .hbm, ⟨75, _⟩ => ⟨S8192x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S_, .f32⟩
  | .hbm, ⟨80, _⟩ => ⟨S5632, .f32⟩
  | .hbm, ⟨81, _⟩ => ⟨S_, .f32⟩
  | .hbm, ⟨82, _⟩ => ⟨S8194x5632, .f32⟩
  | .hbm, ⟨83, _⟩ => ⟨S8194x5632, .f32⟩
  | .hbm, ⟨84, _⟩ => ⟨S1x5632, .f32⟩
  | .hbm, ⟨85, _⟩ => ⟨S_, .f32⟩
  | .hbm, ⟨86, _⟩ => ⟨S3x5632, .f32⟩
  | .hbm, ⟨87, _⟩ => ⟨S3x5632, .f32⟩
  | .hbm, ⟨88, _⟩ => ⟨S8192x5632, .f32⟩
  | .hbm, ⟨89, _⟩ => ⟨S8192x5632, .f32⟩
  | .hbm, ⟨90, _⟩ => ⟨S8192x5632, .f32⟩
  | .hbm, ⟨91, _⟩ => ⟨S_, .f32⟩
  | .hbm, ⟨92, _⟩ => ⟨S5632, .f32⟩
  | .hbm, ⟨93, _⟩ => ⟨S1x5632, .f32⟩
  | .hbm, ⟨94, _⟩ => ⟨S_, .f32⟩
  | .hbm, ⟨95, _⟩ => ⟨S5632, .f32⟩
  | .hbm, ⟨96, _⟩ => ⟨S_, .f32⟩
  | .hbm, ⟨97, _⟩ => ⟨S8194x5632, .f32⟩
  | .hbm, ⟨98, _⟩ => ⟨S8194x5632, .f32⟩
  | .hbm, ⟨99, _⟩ => ⟨S1x5632, .f32⟩
  | .hbm, ⟨100, _⟩ => ⟨S_, .f32⟩
  | .hbm, ⟨101, _⟩ => ⟨S3x5632, .f32⟩
  | .hbm, ⟨102, _⟩ => ⟨S3x5632, .f32⟩
  | .hbm, ⟨103, _⟩ => ⟨S2x5632, .f32⟩
  | .hbm, ⟨104, _⟩ => ⟨S8192x5632, .f32⟩
  | .hbm, ⟨105, _⟩ => ⟨S1x5632, .f32⟩
  | .hbm, ⟨106, _⟩ => ⟨S_, .f32⟩
  | .hbm, ⟨107, _⟩ => ⟨S4x5632, .f32⟩
  | .hbm, ⟨108, _⟩ => ⟨S8x5632, .f32⟩
  | .hbm, ⟨109, _⟩ => ⟨S8192x2x2816, .f32⟩
  | .hbm, ⟨110, _⟩ => ⟨S2x8192x2816, .f32⟩
  | .hbm, ⟨111, _⟩ => ⟨S2x8192x2816, .bf16⟩
  | .hbm, ⟨112, _⟩ => ⟨S8x2x2816, .f32⟩
  | .hbm, ⟨113, _⟩ => ⟨S2x8x2816, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v28_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v28_1 : Ref sig .tc := ⟨.hbm, 45, rfl⟩
abbrev main_v28_0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩

abbrev nD : Nat := 1
abbrev τ : Topo := Topo.v7x

variable {F : FTy → Type} [FloatOps F]
-- ==== AttnFwd.lean ====
abbrev S8192x512 : Shape := ⟨2, ![8192, 512]⟩
abbrev S8192x8 : Shape := ⟨2, ![8192, 8]⟩
abbrev S8192x8x64 : Shape := ⟨3, ![8192, 8, 64]⟩
abbrev S_ : Shape := ⟨0, ![]⟩
abbrev S8192x8x1 : Shape := ⟨3, ![8192, 8, 1]⟩
abbrev S8192x8x58 : Shape := ⟨3, ![8192, 8, 58]⟩
abbrev S8192x8x128 : Shape := ⟨3, ![8192, 8, 128]⟩
abbrev S8192x1024 : Shape := ⟨2, ![8192, 1024]⟩
abbrev S8192x8x55 : Shape := ⟨3, ![8192, 8, 55]⟩
abbrev S8192x8x61 : Shape := ⟨3, ![8192, 8, 61]⟩
abbrev S1024x256 : Shape := ⟨2, ![1024, 256]⟩
abbrev S8192x256 : Shape := ⟨2, ![8192, 256]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 103
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x8x64, .f32⟩
  | .hbm, ⟨5, _⟩ => ⟨S8192x8x64, .f32⟩
  | .hbm, ⟨6, _⟩ => ⟨S8192x8x64, .f32⟩
  | .hbm, ⟨7, _⟩ => ⟨S_, .f32⟩
  | .hbm, ⟨8, _⟩ => ⟨S8192x8x64, .f32⟩
  | .hbm, ⟨9, _⟩ => ⟨S8192x8x64, .f32⟩
  | .hbm, ⟨10, _⟩ => ⟨S8192x8, .bf16⟩
  | .hbm, ⟨11, _⟩ => ⟨S8192x8, .f32⟩
  | .hbm, ⟨12, _⟩ => ⟨S8192x8, .f32⟩
  | .hbm, ⟨13, _⟩ => ⟨S8192x8, .bf16⟩
  | .hbm, ⟨14, _⟩ => ⟨S8192x8, .f32⟩
  | .hbm, ⟨15, _⟩ => ⟨S8192x8, .f32⟩
  | .hbm, ⟨16, _⟩ => ⟨S8192x8, .bf16⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8x1, .f32⟩
  | .hbm, ⟨21, _⟩ => ⟨S8192x8x1, .f32⟩
  | .hbm, ⟨22, _⟩ => ⟨S8192x8x1, .f32⟩
  | .hbm, ⟨23, _⟩ => ⟨S_, .f32⟩
  | .hbm, ⟨24, _⟩ => ⟨S8192x8, .f32⟩
  | .hbm, ⟨25, _⟩ => ⟨S8192x8x1, .f32⟩
  | .hbm, ⟨26, _⟩ => ⟨S_, .f32⟩
  | .hbm, ⟨27, _⟩ => ⟨S8192x8, .f32⟩
  | .hbm, ⟨28, _⟩ => ⟨S8192x8x1, .f32⟩
  | .hbm, ⟨29, _⟩ => ⟨S_, .f32⟩
  | .hbm, ⟨30, _⟩ => ⟨S8192x8, .f32⟩
  | .hbm, ⟨31, _⟩ => ⟨S8192x8x1, .f32⟩
  | .hbm, ⟨32, _⟩ => ⟨S_, .f32⟩
  | .hbm, ⟨33, _⟩ => ⟨S8192x8x58, .f32⟩
  | .hbm, ⟨34, _⟩ => ⟨S8192x8x1, .f32⟩
  | .hbm, ⟨35, _⟩ => ⟨S8192x8x1, .f32⟩
  | .hbm, ⟨36, _⟩ => ⟨S8192x8x1, .f32⟩
  | .hbm, ⟨37, _⟩ => ⟨S8192x8x128, .f32⟩
  | .hbm, ⟨38, _⟩ => ⟨S8192x1024, .f32⟩
  | .hbm, ⟨39, _⟩ => ⟨S8192x1024, .bf16⟩
  | .hbm, ⟨40, _⟩ => ⟨S8192x8, .f32⟩
  | .hbm, ⟨41, _⟩ => ⟨S8192x8, .bf16⟩
  | .hbm, ⟨42, _⟩ => ⟨S8192x8, .f32⟩
  | .hbm, ⟨43, _⟩ => ⟨S8192x8, .f32⟩
  | .hbm, ⟨44, _⟩ => ⟨S8192x8, .bf16⟩
  | .hbm, ⟨45, _⟩ => ⟨S8192x8, .f32⟩
  | .hbm, ⟨46, _⟩ => ⟨S8192x8, .f32⟩
  | .hbm, ⟨47, _⟩ => ⟨S8192x8, .bf16⟩
  | .hbm, ⟨48, _⟩ => ⟨S8192x8, .f32⟩
  | .hbm, ⟨49, _⟩ => ⟨S8192x8, .f32⟩
  | .hbm, ⟨50, _⟩ => ⟨S8192x8, .f32⟩
  | .hbm, ⟨51, _⟩ => ⟨S_, .f32⟩
  | .hbm, ⟨52, _⟩ => ⟨S8192x8, .f32⟩
  | .hbm, ⟨53, _⟩ => ⟨S8192x8x1, .f32⟩
  | .hbm, ⟨54, _⟩ => ⟨S_, .f32⟩
  | .hbm, ⟨55, _⟩ => ⟨S8192x8, .f32⟩
  | .hbm, ⟨56, _⟩ => ⟨S8192x8x1, .f32⟩
  | .hbm, ⟨57, _⟩ => ⟨S_, .f32⟩
  | .hbm, ⟨58, _⟩ => ⟨S8192x8, .f32⟩
  | .hbm, ⟨59, _⟩ => ⟨S8192x8x1, .f32⟩
  | .hbm, ⟨60, _⟩ => ⟨S8192x8x1, .f32⟩
  | .hbm, ⟨61, _⟩ => ⟨S8192x8x1, .f32⟩
  | .hbm, ⟨62, _⟩ => ⟨S8192x8x1, .f32⟩
  | .hbm, ⟨63, _⟩ => ⟨S_, .f32⟩
  | .hbm, ⟨64, _⟩ => ⟨S8192x8, .f32⟩
  | .hbm, ⟨65, _⟩ => ⟨S8192x8x1, .f32⟩
  | .hbm, ⟨66, _⟩ => ⟨S_, .f32⟩
  | .hbm, ⟨67, _⟩ => ⟨S8192x8, .f32⟩
  | .hbm, ⟨68, _⟩ => ⟨S8192x8x1, .f32⟩
  | .hbm, ⟨69, _⟩ => ⟨S_, .f32⟩
  | .hbm, ⟨70, _⟩ => ⟨S8192x8, .f32⟩
  | .hbm, ⟨71, _⟩ => ⟨S8192x8x1, .f32⟩
  | .hbm, ⟨72, _⟩ => ⟨S_, .f32⟩
  | .hbm, ⟨73, _⟩ => ⟨S8192x8x55, .f32⟩
  | .hbm, ⟨74, _⟩ => ⟨S8192x8x1, .f32⟩
  | .hbm, ⟨75, _⟩ => ⟨S8192x8x1, .f32⟩
  | .hbm, ⟨76, _⟩ => ⟨S8192x8x1, .f32⟩
  | .hbm, ⟨77, _⟩ => ⟨S8192x8x1, .f32⟩
  | .hbm, ⟨78, _⟩ => ⟨S8192x8x1, .f32⟩
  | .hbm, ⟨79, _⟩ => ⟨S8192x8x1, .f32⟩
  | .hbm, ⟨80, _⟩ => ⟨S8192x8x128, .f32⟩
  | .hbm, ⟨81, _⟩ => ⟨S8192x1024, .f32⟩
  | .hbm, ⟨82, _⟩ => ⟨S8192x1024, .bf16⟩
  | .hbm, ⟨83, _⟩ => ⟨S_, .f32⟩
  | .hbm, ⟨84, _⟩ => ⟨S8192x8, .f32⟩
  | .hbm, ⟨85, _⟩ => ⟨S8192x8x1, .f32⟩
  | .hbm, ⟨86, _⟩ => ⟨S_, .f32⟩
  | .hbm, ⟨87, _⟩ => ⟨S8192x8, .f32⟩
  | .hbm, ⟨88, _⟩ => ⟨S8192x8x1, .f32⟩
  | .hbm, ⟨89, _⟩ => ⟨S_, .f32⟩
  | .hbm, ⟨90, _⟩ => ⟨S8192x8, .f32⟩
  | .hbm, ⟨91, _⟩ => ⟨S8192x8x1, .f32⟩
  | .hbm, ⟨92, _⟩ => ⟨S_, .f32⟩
  | .hbm, ⟨93, _⟩ => ⟨S8192x8x61, .f32⟩
  | .hbm, ⟨94, _⟩ => ⟨S8192x8x1, .f32⟩
  | .hbm, ⟨95, _⟩ => ⟨S8192x8x1, .f32⟩
  | .hbm, ⟨96, _⟩ => ⟨S8192x8x1, .f32⟩
  | .hbm, ⟨97, _⟩ => ⟨S8192x8x128, .f32⟩
  | .hbm, ⟨98, _⟩ => ⟨S8192x1024, .f32⟩
  | .hbm, ⟨99, _⟩ => ⟨S8192x1024, .bf16⟩
  | .hbm, ⟨100, _⟩ => ⟨S8192x512, .f32⟩
  | .hbm, ⟨101, _⟩ => ⟨S8192x512, .f32⟩
  | .hbm, ⟨102, _⟩ => ⟨S8192x512, .bf16⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_11 : Ref sig .tc := ⟨.hbm, 83, rfl⟩
abbrev main_v67 : Ref sig .tc := ⟨.hbm, 84, rfl⟩
abbrev main_v68 : Ref sig .tc := ⟨.hbm, 85, rfl⟩
abbrev main_cst_12 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80_0 : Ref sig .tc := ⟨.hbm, 100, rfl⟩
abbrev main_v80_1 : Ref sig .tc := ⟨.hbm, 101, rfl⟩
abbrev main_v80_2 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_6 : BitVec 32 := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v17 : BitVec 32 := Scalar.subi v16 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_8 : BitVec 32 := 1#32
  ⟨c0_i32_6, v21, c1_i32_8⟩
def k0_mult1 (i : grid0.Coords) (k0_t1 : Fin (k0_t1_loop i).trips) : BitVec 32 :=
  let c0_i32_6 : BitVec 32 := 0#32
  let c1_i32_8 : BitVec 32 := 1#32
  let arg8 : BitVec 32 := Scf.iv c0_i32_6 c1_i32_8 k0_t1
  let c1024_i32_43 : BitVec 32 := 1024#32
  let v129 : BitVec 32 := Scalar.muli arg8 c1024_i32_43
  v129
def k0_off1 (i : grid0.Coords) (k0_t1 : Fin (k0_t1_loop i).trips) : Fin 2 → Nat :=
  let c0_i32_6 : BitVec 32 := 0#32
  let c1_i32_8 : BitVec 32 := 1#32
  let arg8 : BitVec 32 := Scf.iv c0_i32_6 c1_i32_8 k0_t1
  let c1024_i32_43 : BitVec 32 := 1024#32
  let v129 : BitVec 32 := Scalar.muli arg8 c1024_i32_43
  let v130 : BitVec 32 := v129
  let v131 : Index := Scalar.indexCast v130
  let c0_44 : Index := 0#32
  ![v131.toNat, 0]
def k0_off2 (i : grid0.Coords) (k0_t1 : Fin (k0_t1_loop i).trips) : Fin 2 → Nat :=
  let c0_i32_6 : BitVec 32 := 0#32
  let c1_i32_8 : BitVec 32 := 1#32
  let arg8 : BitVec 32 := Scf.iv c0_i32_6 c1_i32_8 k0_t1
  let c1024_i32_43 : BitVec 32 := 1024#32
  let v129 : BitVec 32 := Scalar.muli arg8 c1024_i32_43
  let v130 : BitVec 32 := v129
  let v151 : Index := Scalar.indexCast v130
  let c128_49 : Index := 128#32
  ![v151.toNat, 128]
@[reducible] def k0_t2_loop (i : grid0.Coords) : Scf.Loop 32 :=
  let c0_i32_6 : BitVec 32 := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v17 : BitVec 32 := Scalar.subi v16 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let v18 : BitVec 32 := Scalar.addi c0_i32_6 v17
  let c1_i32_9 : BitVec 32 := 1#32
  ⟨v21, v18, c1_i32_9⟩
def k0_mult2 (i : grid0.Coords) (k0_t2 : Fin (k0_t2_loop i).trips) : BitVec 32 :=
  let c0_i32_6 : BitVec 32 := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v17 : BitVec 32 := Scalar.subi v16 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg8 : BitVec 32 := Scf.iv v21 c1_i32_9 k0_t2
  let c1024_i32_43 : BitVec 32 := 1024#32
  let v129 : BitVec 32 := Scalar.muli arg8 c1024_i32_43
  v129
def k0_off3 (i : grid0.Coords) (k0_t2 : Fin (k0_t2_loop i).trips) : Fin 2 → Nat :=
  let c0_i32_6 : BitVec 32 := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v17 : BitVec 32 := Scalar.subi v16 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg8 : BitVec 32 := Scf.iv v21 c1_i32_9 k0_t2
  let c1024_i32_43 : BitVec 32 := 1024#32
  let v129 : BitVec 32 := Scalar.muli arg8 c1024_i32_43
  let v130 : BitVec 32 := v129
  let v131 : Index := Scalar.indexCast v130
  let c0_44 : Index := 0#32
  ![v131.toNat, 0]
def k0_off4 (i : grid0.Coords) (k0_t2 : Fin (k0_t2_loop i).trips) : Fin 2 → Nat :=
  let c0_i32_6 : BitVec 32 := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v17 : BitVec 32 := Scalar.subi v16 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg8 : BitVec 32 := Scf.iv v21 c1_i32_9 k0_t2
  let c1024_i32_43 : BitVec 32 := 1024#32
  let v129 : BitVec 32 := Scalar.muli arg8 c1024_i32_43
  let v130 : BitVec 32 := v129
  let v151 : Index := Scalar.indexCast v130
  let c128_49 : Index := 128#32
  ![v151.toNat, 128]
@[reducible] def k0_t3_loop (i : grid0.Coords) : Scf.Loop 32 :=
  let c0_i32_17 : BitVec 32 := 0#32
  let arg1 : BitVec 32 := BitVec.ofNat 32 (i 1).val
  let c0_i32_11 : BitVec 32 := 0#32
  let v25 : BitVec 1 := Scalar.cmpi .sgt arg1 c0_i32_11
  let v26 : BitVec 32 := Scalar.extui v25
  let c0_i32_12 : BitVec 32 := 0#32
  let v27 : BitVec 1 := Scalar.cmpi .slt arg1 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi arg1 c2_i32_10
  let c0_i32_15 : BitVec 32 := 0#32
  let v37 : BitVec 1 := Scalar.cmpi .ne v36 c0_i32_15
  let v38 : BitVec 1 := Scalar.andi v35 v37
  let v24 : BitVec 32 := Scalar.divsi arg1 c2_i32_10
  let c1_i32_16 : BitVec 32 := 1#32
  let v39 : BitVec 32 := Scalar.subi v24 c1_i32_16
  let v40 : BitVec 32 := Scalar.select v38 v39 v24
  let v41 : BitVec 32 := Scalar.subi v40 c0_i32_17
  let c1_i32_18 : BitVec 32 := 1#32
  let v43 : BitVec 32 := Scalar.divsi v41 c1_i32_18
  let v44 : BitVec 32 := Scalar.muli v43 c1_i32_18
  let v45 : BitVec 32 := Scalar.addi c0_i32_17 v44
  let c1_i32_19 : BitVec 32 := 1#32
  ⟨c0_i32_17, v45, c1_i32_19⟩
def k0_mult3 (i : grid0.Coords) (k0_t3 : Fin (k0_t3_loop i).trips) : BitVec 32 :=
  let arg1 : BitVec 32 := BitVec.ofNat 32 (i 1).val
  let c2_i32_51 : BitVec 32 := 2#32
  let c0_i32_52 : BitVec 32 := 0#32
  let v142 : BitVec 1 := Scalar.cmpi .eq c2_i32_51 c0_i32_52
  let c1_i32_53 : BitVec 32 := 1#32
  let v143 : BitVec 32 := Scalar.select v142 c1_i32_53 c2_i32_51
  let v144 : BitVec 32 := Scalar.remsi arg1 v143
  let c0_i32_55 : BitVec 32 := 0#32
  let v146 : BitVec 1 := Scalar.cmpi .slt v144 c0_i32_55
  let c0_i32_56 : BitVec 32 := 0#32
  let v147 : BitVec 1 := Scalar.cmpi .slt v143 c0_i32_56
  let v148 : BitVec 1 := Scalar.xori v146 v147
  let c0_i32_54 : BitVec 32 := 0#32
  let v145 : BitVec 1 := Scalar.cmpi .ne v144 c0_i32_54
  let v149 : BitVec 1 := Scalar.andi v148 v145
  let v150 : BitVec 32 := Scalar.addi v144 v143
  let v151 : BitVec 32 := Scalar.select v149 v150 v144
  let c2_i32_57 : BitVec 32 := 2#32
  let c0_i32_17 : BitVec 32 := 0#32
  let c1_i32_19 : BitVec 32 := 1#32
  let arg8 : BitVec 32 := Scf.iv c0_i32_17 c1_i32_19 k0_t3
  let v152 : BitVec 32 := Scalar.muli c2_i32_57 arg8
  let v153 : BitVec 32 := Scalar.addi v151 v152
  let c1024_i32_58 : BitVec 32 := 1024#32
  let v154 : BitVec 32 := Scalar.muli v153 c1024_i32_58
  v154
def k0_off5 (i : grid0.Coords) (k0_t3 : Fin (k0_t3_loop i).trips) : Fin 2 → Nat :=
  let arg1 : BitVec 32 := BitVec.ofNat 32 (i 1).val
  let c2_i32_51 : BitVec 32 := 2#32
  let c0_i32_52 : BitVec 32 := 0#32
  let v142 : BitVec 1 := Scalar.cmpi .eq c2_i32_51 c0_i32_52
  let c1_i32_53 : BitVec 32 := 1#32
  let v143 : BitVec 32 := Scalar.select v142 c1_i32_53 c2_i32_51
  let v144 : BitVec 32 := Scalar.remsi arg1 v143
  let c0_i32_55 : BitVec 32 := 0#32
  let v146 : BitVec 1 := Scalar.cmpi .slt v144 c0_i32_55
  let c0_i32_56 : BitVec 32 := 0#32
  let v147 : BitVec 1 := Scalar.cmpi .slt v143 c0_i32_56
  let v148 : BitVec 1 := Scalar.xori v146 v147
  let c0_i32_54 : BitVec 32 := 0#32
  let v145 : BitVec 1 := Scalar.cmpi .ne v144 c0_i32_54
  let v149 : BitVec 1 := Scalar.andi v148 v145
  let v150 : BitVec 32 := Scalar.addi v144 v143
  let v151 : BitVec 32 := Scalar.select v149 v150 v144
  let c2_i32_57 : BitVec 32 := 2#32
  let c0_i32_17 : BitVec 32 := 0#32
  let c1_i32_19 : BitVec 32 := 1#32
  let arg8 : BitVec 32 := Scf.iv c0_i32_17 c1_i32_19 k0_t3
  let v152 : BitVec 32 := Scalar.muli c2_i32_57 arg8
  let v153 : BitVec 32 := Scalar.addi v151 v152
  let c1024_i32_58 : BitVec 32 := 1024#32
  let v154 : BitVec 32 := Scalar.muli v153 c1024_i32_58
  let v155 : BitVec 32 := v154
  let v156 : Index := Scalar.indexCast v155
  let c0_59 : Index := 0#32
  ![v156.toNat, 0]
def k0_off6 (i : grid0.Coords) (k0_t3 : Fin (k0_t3_loop i).trips) : Fin 2 → Nat :=
  let arg1 : BitVec 32 := BitVec.ofNat 32 (i 1).val
  let c2_i32_51 : BitVec 32 := 2#32
  let c0_i32_52 : BitVec 32 := 0#32
  let v142 : BitVec 1 := Scalar.cmpi .eq c2_i32_51 c0_i32_52
  let c1_i32_53 : BitVec 32 := 1#32
  let v143 : BitVec 32 := Scalar.select v142 c1_i32_53 c2_i32_51
  let v144 : BitVec 32 := Scalar.remsi arg1 v143
  let c0_i32_55 : BitVec 32 := 0#32
  let v146 : BitVec 1 := Scalar.cmpi .slt v144 c0_i32_55
  let c0_i32_56 : BitVec 32 := 0#32
  let v147 : BitVec 1 := Scalar.cmpi .slt v143 c0_i32_56
  let v148 : BitVec 1 := Scalar.xori v146 v147
  let c0_i32_54 : BitVec 32 := 0#32
  let v145 : BitVec 1 := Scalar.cmpi .ne v144 c0_i32_54
  let v149 : BitVec 1 := Scalar.andi v148 v145
  let v150 : BitVec 32 := Scalar.addi v144 v143
  let v151 : BitVec 32 := Scalar.select v149 v150 v144
  let c2_i32_57 : BitVec 32 := 2#32
  let c0_i32_17 : BitVec 32 := 0#32
  let c1_i32_19 : BitVec 32 := 1#32
  let arg8 : BitVec 32 := Scf.iv c0_i32_17 c1_i32_19 k0_t3
  let v152 : BitVec 32 := Scalar.muli c2_i32_57 arg8
  let v153 : BitVec 32 := Scalar.addi v151 v152
  let c1024_i32_58 : BitVec 32 := 1024#32
  let v154 : BitVec 32 := Scalar.muli v153 c1024_i32_58
  let v155 : BitVec 32 := v154
  let v176 : Index := Scalar.indexCast v155
  let c128_64 : Index := 128#32
  ![v176.toNat, 128]
def k0_mult4 (i : grid0.Coords) (k0_t3 : Fin (k0_t3_loop i).trips) : BitVec 32 :=
  let arg1 : BitVec 32 := BitVec.ofNat 32 (i 1).val
  let c2_i32_43 : BitVec 32 := 2#32
  let c0_i32_44 : BitVec 32 := 0#32
  let v129 : BitVec 1 := Scalar.cmpi .eq c2_i32_43 c0_i32_44
  let c1_i32_45 : BitVec 32 := 1#32
  let v130 : BitVec 32 := Scalar.select v129 c1_i32_45 c2_i32_43
  let v131 : BitVec 32 := Scalar.remsi arg1 v130
  let c0_i32_47 : BitVec 32 := 0#32
  let v133 : BitVec 1 := Scalar.cmpi .slt v131 c0_i32_47
  let c0_i32_48 : BitVec 32 := 0#32
  let v134 : BitVec 1 := Scalar.cmpi .slt v130 c0_i32_48
  let v135 : BitVec 1 := Scalar.xori v133 v134
  let c0_i32_46 : BitVec 32 := 0#32
  let v132 : BitVec 1 := Scalar.cmpi .ne v131 c0_i32_46
  let v136 : BitVec 1 := Scalar.andi v135 v132
  let v137 : BitVec 32 := Scalar.addi v131 v130
  let v138 : BitVec 32 := Scalar.select v136 v137 v131
  let c2_i32_49 : BitVec 32 := 2#32
  let c0_i32_17 : BitVec 32 := 0#32
  let c1_i32_19 : BitVec 32 := 1#32
  let arg8 : BitVec 32 := Scf.iv c0_i32_17 c1_i32_19 k0_t3
  let v139 : BitVec 32 := Scalar.muli c2_i32_49 arg8
  let v140 : BitVec 32 := Scalar.addi v138 v139
  let c1_i32_50 : BitVec 32 := 1#32
  let v141 : BitVec 32 := Scalar.addi v140 c1_i32_50
  let c1024_i32_69 : BitVec 32 := 1024#32
  let v196 : BitVec 32 := Scalar.muli v141 c1024_i32_69
  v196
def k0_off7 (i : grid0.Coords) (k0_t3 : Fin (k0_t3_loop i).trips) : Fin 2 → Nat :=
  let arg1 : BitVec 32 := BitVec.ofNat 32 (i 1).val
  let c2_i32_43 : BitVec 32 := 2#32
  let c0_i32_44 : BitVec 32 := 0#32
  let v129 : BitVec 1 := Scalar.cmpi .eq c2_i32_43 c0_i32_44
  let c1_i32_45 : BitVec 32 := 1#32
  let v130 : BitVec 32 := Scalar.select v129 c1_i32_45 c2_i32_43
  let v131 : BitVec 32 := Scalar.remsi arg1 v130
  let c0_i32_47 : BitVec 32 := 0#32
  let v133 : BitVec 1 := Scalar.cmpi .slt v131 c0_i32_47
  let c0_i32_48 : BitVec 32 := 0#32
  let v134 : BitVec 1 := Scalar.cmpi .slt v130 c0_i32_48
  let v135 : BitVec 1 := Scalar.xori v133 v134
  let c0_i32_46 : BitVec 32 := 0#32
  let v132 : BitVec 1 := Scalar.cmpi .ne v131 c0_i32_46
  let v136 : BitVec 1 := Scalar.andi v135 v132
  let v137 : BitVec 32 := Scalar.addi v131 v130
  let v138 : BitVec 32 := Scalar.select v136 v137 v131
  let c2_i32_49 : BitVec 32 := 2#32
  let c0_i32_17 : BitVec 32 := 0#32
  let c1_i32_19 : BitVec 32 := 1#32
  let arg8 : BitVec 32 := Scf.iv c0_i32_17 c1_i32_19 k0_t3
  let v139 : BitVec 32 := Scalar.muli c2_i32_49 arg8
  let v140 : BitVec 32 := Scalar.addi v138 v139
  let c1_i32_50 : BitVec 32 := 1#32
  let v141 : BitVec 32 := Scalar.addi v140 c1_i32_50
  let c1024_i32_69 : BitVec 32 := 1024#32
  let v196 : BitVec 32 := Scalar.muli v141 c1024_i32_69
  let v197 : BitVec 32 := v196
  let v198 : Index := Scalar.indexCast v197
  let c0_70 : Index := 0#32
  ![v198.toNat, 0]
def k0_off8 (i : grid0.Coords) (k0_t3 : Fin (k0_t3_loop i).trips) : Fin 2 → Nat :=
  let arg1 : BitVec 32 := BitVec.ofNat 32 (i 1).val
  let c2_i32_43 : BitVec 32 := 2#32
  let c0_i32_44 : BitVec 32 := 0#32
  let v129 : BitVec 1 := Scalar.cmpi .eq c2_i32_43 c0_i32_44
  let c1_i32_45 : BitVec 32 := 1#32
  let v130 : BitVec 32 := Scalar.select v129 c1_i32_45 c2_i32_43
  let v131 : BitVec 32 := Scalar.remsi arg1 v130
  let c0_i32_47 : BitVec 32 := 0#32
  let v133 : BitVec 1 := Scalar.cmpi .slt v131 c0_i32_47
  let c0_i32_48 : BitVec 32 := 0#32
  let v134 : BitVec 1 := Scalar.cmpi .slt v130 c0_i32_48
  let v135 : BitVec 1 := Scalar.xori v133 v134
  let c0_i32_46 : BitVec 32 := 0#32
  let v132 : BitVec 1 := Scalar.cmpi .ne v131 c0_i32_46
  let v136 : BitVec 1 := Scalar.andi v135 v132
  let v137 : BitVec 32 := Scalar.addi v131 v130
  let v138 : BitVec 32 := Scalar.select v136 v137 v131
  let c2_i32_49 : BitVec 32 := 2#32
  let c0_i32_17 : BitVec 32 := 0#32
  let c1_i32_19 : BitVec 32 := 1#32
  let arg8 : BitVec 32 := Scf.iv c0_i32_17 c1_i32_19 k0_t3
  let v139 : BitVec 32 := Scalar.muli c2_i32_49 arg8
  let v140 : BitVec 32 := Scalar.addi v138 v139
  let c1_i32_50 : BitVec 32 := 1#32
  let v141 : BitVec 32 := Scalar.addi v140 c1_i32_50
  let c1024_i32_69 : BitVec 32 := 1024#32
  let v196 : BitVec 32 := Scalar.muli v141 c1024_i32_69
  let v197 : BitVec 32 := v196
  let v218 : Index := Scalar.indexCast v197
  let c128_75 : Index := 128#32
  ![v218.toNat, 128]
@[reducible] def k0_t4_loop (i : grid0.Coords) : Scf.Loop 32 :=
  let c0_i32_17 : BitVec 32 := 0#32
  let arg1 : BitVec 32 := BitVec.ofNat 32 (i 1).val
  let c0_i32_11 : BitVec 32 := 0#32
  let v25 : BitVec 1 := Scalar.cmpi .sgt arg1 c0_i32_11
  let v26 : BitVec 32 := Scalar.extui v25
  let c0_i32_12 : BitVec 32 := 0#32
  let v27 : BitVec 1 := Scalar.cmpi .slt arg1 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi arg1 c2_i32_10
  let c0_i32_15 : BitVec 32 := 0#32
  let v37 : BitVec 1 := Scalar.cmpi .ne v36 c0_i32_15
  let v38 : BitVec 1 := Scalar.andi v35 v37
  let v24 : BitVec 32 := Scalar.divsi arg1 c2_i32_10
  let c1_i32_16 : BitVec 32 := 1#32
  let v39 : BitVec 32 := Scalar.subi v24 c1_i32_16
  let v40 : BitVec 32 := Scalar.select v38 v39 v24
  let v41 : BitVec 32 := Scalar.subi v40 c0_i32_17
  let c1_i32_18 : BitVec 32 := 1#32
  let v43 : BitVec 32 := Scalar.divsi v41 c1_i32_18
  let v44 : BitVec 32 := Scalar.muli v43 c1_i32_18
  let v45 : BitVec 32 := Scalar.addi c0_i32_17 v44
  let v42 : BitVec 32 := Scalar.addi c0_i32_17 v41
  let c1_i32_20 : BitVec 32 := 1#32
  ⟨v45, v42, c1_i32_20⟩
def k0_mult5 (i : grid0.Coords) (k0_t4 : Fin (k0_t4_loop i).trips) : BitVec 32 :=
  let arg1 : BitVec 32 := BitVec.ofNat 32 (i 1).val
  let c2_i32_51 : BitVec 32 := 2#32
  let c0_i32_52 : BitVec 32 := 0#32
  let v142 : BitVec 1 := Scalar.cmpi .eq c2_i32_51 c0_i32_52
  let c1_i32_53 : BitVec 32 := 1#32
  let v143 : BitVec 32 := Scalar.select v142 c1_i32_53 c2_i32_51
  let v144 : BitVec 32 := Scalar.remsi arg1 v143
  let c0_i32_55 : BitVec 32 := 0#32
  let v146 : BitVec 1 := Scalar.cmpi .slt v144 c0_i32_55
  let c0_i32_56 : BitVec 32 := 0#32
  let v147 : BitVec 1 := Scalar.cmpi .slt v143 c0_i32_56
  let v148 : BitVec 1 := Scalar.xori v146 v147
  let c0_i32_54 : BitVec 32 := 0#32
  let v145 : BitVec 1 := Scalar.cmpi .ne v144 c0_i32_54
  let v149 : BitVec 1 := Scalar.andi v148 v145
  let v150 : BitVec 32 := Scalar.addi v144 v143
  let v151 : BitVec 32 := Scalar.select v149 v150 v144
  let c2_i32_57 : BitVec 32 := 2#32
  let c0_i32_17 : BitVec 32 := 0#32
  let c0_i32_11 : BitVec 32 := 0#32
  let v25 : BitVec 1 := Scalar.cmpi .sgt arg1 c0_i32_11
  let v26 : BitVec 32 := Scalar.extui v25
  let c0_i32_12 : BitVec 32 := 0#32
  let v27 : BitVec 1 := Scalar.cmpi .slt arg1 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi arg1 c2_i32_10
  let c0_i32_15 : BitVec 32 := 0#32
  let v37 : BitVec 1 := Scalar.cmpi .ne v36 c0_i32_15
  let v38 : BitVec 1 := Scalar.andi v35 v37
  let v24 : BitVec 32 := Scalar.divsi arg1 c2_i32_10
  let c1_i32_16 : BitVec 32 := 1#32
  let v39 : BitVec 32 := Scalar.subi v24 c1_i32_16
  let v40 : BitVec 32 := Scalar.select v38 v39 v24
  let v41 : BitVec 32 := Scalar.subi v40 c0_i32_17
  let c1_i32_18 : BitVec 32 := 1#32
  let v43 : BitVec 32 := Scalar.divsi v41 c1_i32_18
  let v44 : BitVec 32 := Scalar.muli v43 c1_i32_18
  let v45 : BitVec 32 := Scalar.addi c0_i32_17 v44
  let c1_i32_20 : BitVec 32 := 1#32
  let arg8 : BitVec 32 := Scf.iv v45 c1_i32_20 k0_t4
  let v152 : BitVec 32 := Scalar.muli c2_i32_57 arg8
  let v153 : BitVec 32 := Scalar.addi v151 v152
  let c1024_i32_58 : BitVec 32 := 1024#32
  let v154 : BitVec 32 := Scalar.muli v153 c1024_i32_58
  v154
def k0_off9 (i : grid0.Coords) (k0_t4 : Fin (k0_t4_loop i).trips) : Fin 2 → Nat :=
  let arg1 : BitVec 32 := BitVec.ofNat 32 (i 1).val
  let c2_i32_51 : BitVec 32 := 2#32
  let c0_i32_52 : BitVec 32 := 0#32
  let v142 : BitVec 1 := Scalar.cmpi .eq c2_i32_51 c0_i32_52
  let c1_i32_53 : BitVec 32 := 1#32
  let v143 : BitVec 32 := Scalar.select v142 c1_i32_53 c2_i32_51
  let v144 : BitVec 32 := Scalar.remsi arg1 v143
  let c0_i32_55 : BitVec 32 := 0#32
  let v146 : BitVec 1 := Scalar.cmpi .slt v144 c0_i32_55
  let c0_i32_56 : BitVec 32 := 0#32
  let v147 : BitVec 1 := Scalar.cmpi .slt v143 c0_i32_56
  let v148 : BitVec 1 := Scalar.xori v146 v147
  let c0_i32_54 : BitVec 32 := 0#32
  let v145 : BitVec 1 := Scalar.cmpi .ne v144 c0_i32_54
  let v149 : BitVec 1 := Scalar.andi v148 v145
  let v150 : BitVec 32 := Scalar.addi v144 v143
  let v151 : BitVec 32 := Scalar.select v149 v150 v144
  let c2_i32_57 : BitVec 32 := 2#32
  let c0_i32_17 : BitVec 32 := 0#32
  let c0_i32_11 : BitVec 32 := 0#32
  let v25 : BitVec 1 := Scalar.cmpi .sgt arg1 c0_i32_11
  let v26 : BitVec 32 := Scalar.extui v25
  let c0_i32_12 : BitVec 32 := 0#32
  let v27 : BitVec 1 := Scalar.cmpi .slt arg1 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi arg1 c2_i32_10
  let c0_i32_15 : BitVec 32 := 0#32
  let v37 : BitVec 1 := Scalar.cmpi .ne v36 c0_i32_15
  let v38 : BitVec 1 := Scalar.andi v35 v37
  let v24 : BitVec 32 := Scalar.divsi arg1 c2_i32_10
  let c1_i32_16 : BitVec 32 := 1#32
  let v39 : BitVec 32 := Scalar.subi v24 c1_i32_16
  let v40 : BitVec 32 := Scalar.select v38 v39 v24
  let v41 : BitVec 32 := Scalar.subi v40 c0_i32_17
  let c1_i32_18 : BitVec 32 := 1#32
  let v43 : BitVec 32 := Scalar.divsi v41 c1_i32_18
  let v44 : BitVec 32 := Scalar.muli v43 c1_i32_18
  let v45 : BitVec 32 := Scalar.addi c0_i32_17 v44
  let c1_i32_20 : BitVec 32 := 1#32
  let arg8 : BitVec 32 := Scf.iv v45 c1_i32_20 k0_t4
  let v152 : BitVec 32 := Scalar.muli c2_i32_57 arg8
  let v153 : BitVec 32 := Scalar.addi v151 v152
  let c1024_i32_58 : BitVec 32 := 1024#32
  let v154 : BitVec 32 := Scalar.muli v153 c1024_i32_58
  let v155 : BitVec 32 := v154
  let v156 : Index := Scalar.indexCast v155
  let c0_59 : Index := 0#32
  ![v156.toNat, 0]
def k0_off10 (i : grid0.Coords) (k0_t4 : Fin (k0_t4_loop i).trips) : Fin 2 → Nat :=
  let arg1 : BitVec 32 := BitVec.ofNat 32 (i 1).val
  let c2_i32_51 : BitVec 32 := 2#32
  let c0_i32_52 : BitVec 32 := 0#32
  let v142 : BitVec 1 := Scalar.cmpi .eq c2_i32_51 c0_i32_52
  let c1_i32_53 : BitVec 32 := 1#32
  let v143 : BitVec 32 := Scalar.select v142 c1_i32_53 c2_i32_51
  let v144 : BitVec 32 := Scalar.remsi arg1 v143
  let c0_i32_55 : BitVec 32 := 0#32
  let v146 : BitVec 1 := Scalar.cmpi .slt v144 c0_i32_55
  let c0_i32_56 : BitVec 32 := 0#32
  let v147 : BitVec 1 := Scalar.cmpi .slt v143 c0_i32_56
  let v148 : BitVec 1 := Scalar.xori v146 v147
  let c0_i32_54 : BitVec 32 := 0#32
  let v145 : BitVec 1 := Scalar.cmpi .ne v144 c0_i32_54
  let v149 : BitVec 1 := Scalar.andi v148 v145
  let v150 : BitVec 32 := Scalar.addi v144 v143
  let v151 : BitVec 32 := Scalar.select v149 v150 v144
  let c2_i32_57 : BitVec 32 := 2#32
  let c0_i32_17 : BitVec 32 := 0#32
  let c0_i32_11 : BitVec 32 := 0#32
  let v25 : BitVec 1 := Scalar.cmpi .sgt arg1 c0_i32_11
  let v26 : BitVec 32 := Scalar.extui v25
  let c0_i32_12 : BitVec 32 := 0#32
  let v27 : BitVec 1 := Scalar.cmpi .slt arg1 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi arg1 c2_i32_10
  let c0_i32_15 : BitVec 32 := 0#32
  let v37 : BitVec 1 := Scalar.cmpi .ne v36 c0_i32_15
  let v38 : BitVec 1 := Scalar.andi v35 v37
  let v24 : BitVec 32 := Scalar.divsi arg1 c2_i32_10
  let c1_i32_16 : BitVec 32 := 1#32
  let v39 : BitVec 32 := Scalar.subi v24 c1_i32_16
  let v40 : BitVec 32 := Scalar.select v38 v39 v24
  let v41 : BitVec 32 := Scalar.subi v40 c0_i32_17
  let c1_i32_18 : BitVec 32 := 1#32
  let v43 : BitVec 32 := Scalar.divsi v41 c1_i32_18
  let v44 : BitVec 32 := Scalar.muli v43 c1_i32_18
  let v45 : BitVec 32 := Scalar.addi c0_i32_17 v44
  let c1_i32_20 : BitVec 32 := 1#32
  let arg8 : BitVec 32 := Scf.iv v45 c1_i32_20 k0_t4
  let v152 : BitVec 32 := Scalar.muli c2_i32_57 arg8
  let v153 : BitVec 32 := Scalar.addi v151 v152
  let c1024_i32_58 : BitVec 32 := 1024#32
  let v154 : BitVec 32 := Scalar.muli v153 c1024_i32_58
  let v155 : BitVec 32 := v154
  let v176 : Index := Scalar.indexCast v155
  let c128_64 : Index := 128#32
  ![v176.toNat, 128]
def k0_mult6 (i : grid0.Coords) (k0_t4 : Fin (k0_t4_loop i).trips) : BitVec 32 :=
  let arg1 : BitVec 32 := BitVec.ofNat 32 (i 1).val
  let c2_i32_43 : BitVec 32 := 2#32
  let c0_i32_44 : BitVec 32 := 0#32
  let v129 : BitVec 1 := Scalar.cmpi .eq c2_i32_43 c0_i32_44
  let c1_i32_45 : BitVec 32 := 1#32
  let v130 : BitVec 32 := Scalar.select v129 c1_i32_45 c2_i32_43
  let v131 : BitVec 32 := Scalar.remsi arg1 v130
  let c0_i32_47 : BitVec 32 := 0#32
  let v133 : BitVec 1 := Scalar.cmpi .slt v131 c0_i32_47
  let c0_i32_48 : BitVec 32 := 0#32
  let v134 : BitVec 1 := Scalar.cmpi .slt v130 c0_i32_48
  let v135 : BitVec 1 := Scalar.xori v133 v134
  let c0_i32_46 : BitVec 32 := 0#32
  let v132 : BitVec 1 := Scalar.cmpi .ne v131 c0_i32_46
  let v136 : BitVec 1 := Scalar.andi v135 v132
  let v137 : BitVec 32 := Scalar.addi v131 v130
  let v138 : BitVec 32 := Scalar.select v136 v137 v131
  let c2_i32_49 : BitVec 32 := 2#32
  let c0_i32_17 : BitVec 32 := 0#32
  let c0_i32_11 : BitVec 32 := 0#32
  let v25 : BitVec 1 := Scalar.cmpi .sgt arg1 c0_i32_11
  let v26 : BitVec 32 := Scalar.extui v25
  let c0_i32_12 : BitVec 32 := 0#32
  let v27 : BitVec 1 := Scalar.cmpi .slt arg1 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi arg1 c2_i32_10
  let c0_i32_15 : BitVec 32 := 0#32
  let v37 : BitVec 1 := Scalar.cmpi .ne v36 c0_i32_15
  let v38 : BitVec 1 := Scalar.andi v35 v37
  let v24 : BitVec 32 := Scalar.divsi arg1 c2_i32_10
  let c1_i32_16 : BitVec 32 := 1#32
  let v39 : BitVec 32 := Scalar.subi v24 c1_i32_16
  let v40 : BitVec 32 := Scalar.select v38 v39 v24
  let v41 : BitVec 32 := Scalar.subi v40 c0_i32_17
  let c1_i32_18 : BitVec 32 := 1#32
  let v43 : BitVec 32 := Scalar.divsi v41 c1_i32_18
  let v44 : BitVec 32 := Scalar.muli v43 c1_i32_18
  let v45 : BitVec 32 := Scalar.addi c0_i32_17 v44
  let c1_i32_20 : BitVec 32 := 1#32
  let arg8 : BitVec 32 := Scf.iv v45 c1_i32_20 k0_t4
  let v139 : BitVec 32 := Scalar.muli c2_i32_49 arg8
  let v140 : BitVec 32 := Scalar.addi v138 v139
  let c1_i32_50 : BitVec 32 := 1#32
  let v141 : BitVec 32 := Scalar.addi v140 c1_i32_50
  let c1024_i32_69 : BitVec 32 := 1024#32
  let v196 : BitVec 32 := Scalar.muli v141 c1024_i32_69
  v196
def k0_off11 (i : grid0.Coords) (k0_t4 : Fin (k0_t4_loop i).trips) : Fin 2 → Nat :=
  let arg1 : BitVec 32 := BitVec.ofNat 32 (i 1).val
  let c2_i32_43 : BitVec 32 := 2#32
  let c0_i32_44 : BitVec 32 := 0#32
  let v129 : BitVec 1 := Scalar.cmpi .eq c2_i32_43 c0_i32_44
  let c1_i32_45 : BitVec 32 := 1#32
  let v130 : BitVec 32 := Scalar.select v129 c1_i32_45 c2_i32_43
  let v131 : BitVec 32 := Scalar.remsi arg1 v130
  let c0_i32_47 : BitVec 32 := 0#32
  let v133 : BitVec 1 := Scalar.cmpi .slt v131 c0_i32_47
  let c0_i32_48 : BitVec 32 := 0#32
  let v134 : BitVec 1 := Scalar.cmpi .slt v130 c0_i32_48
  let v135 : BitVec 1 := Scalar.xori v133 v134
  let c0_i32_46 : BitVec 32 := 0#32
  let v132 : BitVec 1 := Scalar.cmpi .ne v131 c0_i32_46
  let v136 : BitVec 1 := Scalar.andi v135 v132
  let v137 : BitVec 32 := Scalar.addi v131 v130
  let v138 : BitVec 32 := Scalar.select v136 v137 v131
  let c2_i32_49 : BitVec 32 := 2#32
  let c0_i32_17 : BitVec 32 := 0#32
  let c0_i32_11 : BitVec 32 := 0#32
  let v25 : BitVec 1 := Scalar.cmpi .sgt arg1 c0_i32_11
  let v26 : BitVec 32 := Scalar.extui v25
  let c0_i32_12 : BitVec 32 := 0#32
  let v27 : BitVec 1 := Scalar.cmpi .slt arg1 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi arg1 c2_i32_10
  let c0_i32_15 : BitVec 32 := 0#32
  let v37 : BitVec 1 := Scalar.cmpi .ne v36 c0_i32_15
  let v38 : BitVec 1 := Scalar.andi v35 v37
  let v24 : BitVec 32 := Scalar.divsi arg1 c2_i32_10
  let c1_i32_16 : BitVec 32 := 1#32
  let v39 : BitVec 32 := Scalar.subi v24 c1_i32_16
  let v40 : BitVec 32 := Scalar.select v38 v39 v24
  let v41 : BitVec 32 := Scalar.subi v40 c0_i32_17
  let c1_i32_18 : BitVec 32 := 1#32
  let v43 : BitVec 32 := Scalar.divsi v41 c1_i32_18
  let v44 : BitVec 32 := Scalar.muli v43 c1_i32_18
  let v45 : BitVec 32 := Scalar.addi c0_i32_17 v44
  let c1_i32_20 : BitVec 32 := 1#32
  let arg8 : BitVec 32 := Scf.iv v45 c1_i32_20 k0_t4
  let v139 : BitVec 32 := Scalar.muli c2_i32_49 arg8
  let v140 : BitVec 32 := Scalar.addi v138 v139
  let c1_i32_50 : BitVec 32 := 1#32
  let v141 : BitVec 32 := Scalar.addi v140 c1_i32_50
  let c1024_i32_69 : BitVec 32 := 1024#32
  let v196 : BitVec 32 := Scalar.muli v141 c1024_i32_69
  let v197 : BitVec 32 := v196
  let v198 : Index := Scalar.indexCast v197
  let c0_70 : Index := 0#32
  ![v198.toNat, 0]
def k0_off12 (i : grid0.Coords) (k0_t4 : Fin (k0_t4_loop i).trips) : Fin 2 → Nat :=
  let arg1 : BitVec 32 := BitVec.ofNat 32 (i 1).val
  let c2_i32_43 : BitVec 32 := 2#32
  let c0_i32_44 : BitVec 32 := 0#32
  let v129 : BitVec 1 := Scalar.cmpi .eq c2_i32_43 c0_i32_44
  let c1_i32_45 : BitVec 32 := 1#32
  let v130 : BitVec 32 := Scalar.select v129 c1_i32_45 c2_i32_43
  let v131 : BitVec 32 := Scalar.remsi arg1 v130
  let c0_i32_47 : BitVec 32 := 0#32
  let v133 : BitVec 1 := Scalar.cmpi .slt v131 c0_i32_47
  let c0_i32_48 : BitVec 32 := 0#32
  let v134 : BitVec 1 := Scalar.cmpi .slt v130 c0_i32_48
  let v135 : BitVec 1 := Scalar.xori v133 v134
  let c0_i32_46 : BitVec 32 := 0#32
  let v132 : BitVec 1 := Scalar.cmpi .ne v131 c0_i32_46
  let v136 : BitVec 1 := Scalar.andi v135 v132
  let v137 : BitVec 32 := Scalar.addi v131 v130
  let v138 : BitVec 32 := Scalar.select v136 v137 v131
  let c2_i32_49 : BitVec 32 := 2#32
  let c0_i32_17 : BitVec 32 := 0#32
  let c0_i32_11 : BitVec 32 := 0#32
  let v25 : BitVec 1 := Scalar.cmpi .sgt arg1 c0_i32_11
  let v26 : BitVec 32 := Scalar.extui v25
  let c0_i32_12 : BitVec 32 := 0#32
  let v27 : BitVec 1 := Scalar.cmpi .slt arg1 c0_i32_12
  let v28 : BitVec 32 := Scalar.extui v27
  let v29 : BitVec 32 := Scalar.subi v26 v28
  let c2_i32_10 : BitVec 32 := 2#32
  let c0_i32_13 : BitVec 32 := 0#32
  let v30 : BitVec 1 := Scalar.cmpi .sgt c2_i32_10 c0_i32_13
  let v31 : BitVec 32 := Scalar.extui v30
  let c0_i32_14 : BitVec 32 := 0#32
  let v32 : BitVec 1 := Scalar.cmpi .slt c2_i32_10 c0_i32_14
  let v33 : BitVec 32 := Scalar.extui v32
  let v34 : BitVec 32 := Scalar.subi v31 v33
  let v35 : BitVec 1 := Scalar.cmpi .ne v29 v34
  let v36 : BitVec 32 := Scalar.remsi arg1 c2_i32_10
  let c0_i32_15 : BitVec 32 := 0#32
  let v37 : BitVec 1 := Scalar.cmpi .ne v36 c0_i32_15
  let v38 : BitVec 1 := Scalar.andi v35 v37
  let v24 : BitVec 32 := Scalar.divsi arg1 c2_i32_10
  let c1_i32_16 : BitVec 32 := 1#32
  let v39 : BitVec 32 := Scalar.subi v24 c1_i32_16
  let v40 : BitVec 32 := Scalar.select v38 v39 v24
  let v41 : BitVec 32 := Scalar.subi v40 c0_i32_17
  let c1_i32_18 : BitVec 32 := 1#32
  let v43 : BitVec 32 := Scalar.divsi v41 c1_i32_18
  let v44 : BitVec 32 := Scalar.muli v43 c1_i32_18
  let v45 : BitVec 32 := Scalar.addi c0_i32_17 v44
  let c1_i32_20 : BitVec 32 := 1#32
  let arg8 : BitVec 32 := Scf.iv v45 c1_i32_20 k0_t4
  let v139 : BitVec 32 := Scalar.muli c2_i32_49 arg8
  let v140 : BitVec 32 := Scalar.addi v138 v139
  let c1_i32_50 : BitVec 32 := 1#32
  let v141 : BitVec 32 := Scalar.addi v140 c1_i32_50
  let c1024_i32_69 : BitVec 32 := 1024#32
  let v196 : BitVec 32 := Scalar.muli v141 c1024_i32_69
  let v197 : BitVec 32 := v196
  let v218 : Index := Scalar.indexCast v197
  let c128_75 : Index := 128#32
  ![v218.toNat, 128]
def k0_mult7 (i : grid0.Coords) : BitVec 32 :=
  let arg1 : BitVec 32 := BitVec.ofNat 32 (i 1).val
  let c1024_i32 : BitVec 32 := 1024#32
  let v48 : BitVec 32 := Scalar.muli arg1 c1024_i32
  v48
def k0_off13 (i : grid0.Coords) : Fin 2 → Nat :=
  let arg1 : BitVec 32 := BitVec.ofNat 32 (i 1).val
  let c1024_i32 : BitVec 32 := 1024#32
  let v48 : BitVec 32 := Scalar.muli arg1 c1024_i32
  let v49 : BitVec 32 := v48
  let v50 : Index := Scalar.indexCast v49
  let c0_21 : Index := 0#32
  ![v50.toNat, 0]
def k0_off14 (i : grid0.Coords) : Fin 2 → Nat :=
  let arg1 : BitVec 32 := BitVec.ofNat 32 (i 1).val
  let c1024_i32 : BitVec 32 := 1024#32
  let v48 : BitVec 32 := Scalar.muli arg1 c1024_i32
  let v49 : BitVec 32 := v48
  let v82 : Index := Scalar.indexCast v49
  let c128_28 : Index := 128#32
  ![v82.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnFwdRefIdeal.lean ====
abbrev S8192x512 : Shape := ⟨2, ![8192, 512]⟩
abbrev S8192x8 : Shape := ⟨2, ![8192, 8]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x64x8192 : Shape := ⟨3, ![8, 64, 8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x8x64, .f32⟩
  | .hbm, ⟨5, _⟩ => ⟨S8192x8x64, .f32⟩
  | .hbm, ⟨6, _⟩ => ⟨S8192x8x64, .f32⟩
  | .hbm, ⟨7, _⟩ => ⟨S8x8192x8192, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S8x8192, .f32⟩
  | .hbm, ⟨12, _⟩ => ⟨S8x8192x1, .f32⟩
  | .hbm, ⟨13, _⟩ => ⟨S8x8192x8192, .f32⟩
  | .hbm, ⟨14, _⟩ => ⟨S8x8192x8192, .f32⟩
  | .hbm, ⟨15, _⟩ => ⟨S8x8192, .f32⟩
  | .hbm, ⟨16, _⟩ => ⟨S8x1x8192, .f32⟩
  | .hbm, ⟨17, _⟩ => ⟨S8x8192x8192, .f32⟩
  | .hbm, ⟨18, _⟩ => ⟨S8x8192x8192, .f32⟩
  | .hbm, ⟨19, _⟩ => ⟨S8192, .i32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x1, .f32⟩
  | .hbm, ⟨40, _⟩ => ⟨S8x8192x1, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x64x8192, .f32⟩
  | .hbm, ⟨56, _⟩ => ⟨S8192x8x64, .f32⟩
  | .hbm, ⟨57, _⟩ => ⟨S8192x512, .f32⟩
  | .hbm, ⟨58, _⟩ => ⟨S8x8192, .f32⟩
  | .hbm, ⟨59, _⟩ => ⟨S8192x8, .f32⟩
  | .hbm, ⟨60, _⟩ => ⟨S8192x8x64, .f32⟩
  | .hbm, ⟨61, _⟩ => ⟨S8192x512, .f32⟩
  | .hbm, ⟨62, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== GmlpBwd.lean ====
abbrev S8192x1024 : Shape := ⟨2, ![8192, 1024]⟩
abbrev S512 : Shape := ⟨1, ![512]⟩
abbrev S8x128x128 : Shape := ⟨3, ![8, 128, 128]⟩
abbrev S8x128 : Shape := ⟨2, ![8, 128]⟩
abbrev S8192x512 : Shape := ⟨2, ![8192, 512]⟩
abbrev S128x8 : Shape := ⟨2, ![128, 8]⟩
abbrev S128x8x64 : Shape := ⟨3, ![128, 8, 64]⟩
abbrev S128x512 : Shape := ⟨2, ![128, 512]⟩
abbrev S1x512 : Shape := ⟨2, ![1, 512]⟩
abbrev S512x512 : Shape := ⟨2, ![512, 512]⟩
abbrev S_ : Shape := ⟨0, ![]⟩
abbrev S8x512 : Shape := ⟨2, ![8, 512]⟩
abbrev S512x1024 : Shape := ⟨2, ![512, 1024]⟩
abbrev S256x256 : Shape := ⟨2, ![256, 256]⟩
abbrev S512x256 : Shape := ⟨2, ![512, 256]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 54
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S512, .f32⟩
  | .hbm, ⟨2, _⟩ => ⟨S8x128x128, .f32⟩
  | .hbm, ⟨3, _⟩ => ⟨S8x128, .f32⟩
  | .hbm, ⟨4, _⟩ => ⟨S8192x512, .f32⟩
  | .hbm, ⟨5, _⟩ => ⟨S128x8, .f32⟩
  | .hbm, ⟨6, _⟩ => ⟨S128x8x64, .f32⟩
  | .hbm, ⟨7, _⟩ => ⟨S128x512, .f32⟩
  | .hbm, ⟨8, _⟩ => ⟨S1x512, .f32⟩
  | .hbm, ⟨9, _⟩ => ⟨S8x128x128, .f32⟩
  | .hbm, ⟨10, _⟩ => ⟨S512x512, .i32⟩
  | .hbm, ⟨11, _⟩ => ⟨S_, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i1⟩
  | .hbm, ⟨19, _⟩ => ⟨S512x512, .i32⟩
  | .hbm, ⟨20, _⟩ => ⟨S512x512, .i32⟩
  | .hbm, ⟨21, _⟩ => ⟨S_, .i32⟩
  | .hbm, ⟨22, _⟩ => ⟨S512x512, .i32⟩
  | .hbm, ⟨23, _⟩ => ⟨S512x512, .i1⟩
  | .hbm, ⟨24, _⟩ => ⟨S512x512, .i1⟩
  | .hbm, ⟨25, _⟩ => ⟨S_, .i32⟩
  | .hbm, ⟨26, _⟩ => ⟨S512x512, .i32⟩
  | .hbm, ⟨27, _⟩ => ⟨S512x512, .i32⟩
  | .hbm, ⟨28, _⟩ => ⟨S512x512, .i32⟩
  | .hbm, ⟨29, _⟩ => ⟨S512x512, .i32⟩
  | .hbm, ⟨30, _⟩ => ⟨S_, .i32⟩
  | .hbm, ⟨31, _⟩ => ⟨S_, .i32⟩
  | .hbm, ⟨32, _⟩ => ⟨S512x512, .i32⟩
  | .hbm, ⟨33, _⟩ => ⟨S512x512, .i32⟩
  | .hbm, ⟨34, _⟩ => ⟨S512x512, .i32⟩
  | .hbm, ⟨35, _⟩ => ⟨S_, .i32⟩
  | .hbm, ⟨36, _⟩ => ⟨S512x512, .i32⟩
  | .hbm, ⟨37, _⟩ => ⟨S512x512, .i1⟩
  | .hbm, ⟨38, _⟩ => ⟨S512x512, .i32⟩
  | .hbm, ⟨39, _⟩ => ⟨S512x512, .i32⟩
  | .hbm, ⟨40, _⟩ => ⟨S_, .i32⟩
  | .hbm, ⟨41, _⟩ => ⟨S512x512, .i32⟩
  | .hbm, ⟨42, _⟩ => ⟨S512x512, .i1⟩
  | .hbm, ⟨43, _⟩ => ⟨S512x512, .i1⟩
  | .hbm, ⟨44, _⟩ => ⟨S_, .i32⟩
  | .hbm, ⟨45, _⟩ => ⟨S512x512, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S512x512, .bf16⟩
  | .hbm, ⟨50, _⟩ => ⟨S8192x1024, .bf16⟩
  | .hbm, ⟨51, _⟩ => ⟨S8x128x128, .f32⟩
  | .hbm, ⟨52, _⟩ => ⟨S8x512, .f32⟩
  | .hbm, ⟨53, _⟩ => ⟨S128x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S8x128x128, .f32⟩
  | .local _ .vmem, ⟨6, _⟩ => ⟨S8x128x128, .f32⟩
  | .local _ .vmem, ⟨7, _⟩ => ⟨S128x512, .f32⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S8x128x128, .f32⟩
  | .local _ .vmem, ⟨12, _⟩ => ⟨S8x512, .f32⟩
  | .local _ .vmem, ⟨13, _⟩ => ⟨S128x512, .f32⟩
  | .local _ .vmem, ⟨14, _⟩ => ⟨S128x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11_0 : Ref sig .tc := ⟨.hbm, 50, rfl⟩
abbrev main_v11_1 : Ref sig .tc := ⟨.hbm, 51, rfl⟩
abbrev main_v11_2 : Ref sig .tc := ⟨.hbm, 52, rfl⟩
abbrev main_v11_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v964 : BitVec 1 := Scalar.cmpi .eq arg0 c15_i32
  let v965 : BitVec 32 := Scalar.extui v964
  let c0_i32_537 : BitVec 32 := 0#32
  let v966 : BitVec 1 := Scalar.cmpi .ne v965 c0_i32_537
  v966

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmlpBwdRefIdeal.lean ====
abbrev S8192x1024 : Shape := ⟨2, ![8192, 1024]⟩
abbrev S512 : Shape := ⟨1, ![512]⟩
abbrev S8x128x128 : Shape := ⟨3, ![8, 128, 128]⟩
abbrev S8x128 : Shape := ⟨2, ![8, 128]⟩
abbrev S8192x512 : Shape := ⟨2, ![8192, 512]⟩
abbrev S_ : Shape := ⟨0, ![]⟩
abbrev S8192x8x64 : Shape := ⟨3, ![8192, 8, 64]⟩
abbrev S8x64 : Shape := ⟨2, ![8, 64]⟩
abbrev S8192x8 : Shape := ⟨2, ![8192, 8]⟩
abbrev S8192x8x1 : Shape := ⟨3, ![8192, 8, 1]⟩
abbrev S1x8x64 : Shape := ⟨3, ![1, 8, 64]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S1x128x8x1 : Shape := ⟨4, ![1, 128, 8, 1]⟩
abbrev S128x8x64 : Shape := ⟨3, ![128, 8, 64]⟩
abbrev S128x512 : Shape := ⟨2, ![128, 512]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512, .f32⟩
  | .hbm, ⟨2, _⟩ => ⟨S8x128x128, .f32⟩
  | .hbm, ⟨3, _⟩ => ⟨S8x128, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x512, .f32⟩
  | .hbm, ⟨23, _⟩ => ⟨S8192x8x64, .f32⟩
  | .hbm, ⟨24, _⟩ => ⟨S8192x512, .f32⟩
  | .hbm, ⟨25, _⟩ => ⟨S8192x8x64, .f32⟩
  | .hbm, ⟨26, _⟩ => ⟨S8x64, .f32⟩
  | .hbm, ⟨27, _⟩ => ⟨S8192x8x64, .f32⟩
  | .hbm, ⟨28, _⟩ => ⟨S_, .f32⟩
  | .hbm, ⟨29, _⟩ => ⟨S8192x8, .f32⟩
  | .hbm, ⟨30, _⟩ => ⟨S8192x8x1, .f32⟩
  | .hbm, ⟨31, _⟩ => ⟨S_, .f32⟩
  | .hbm, ⟨32, _⟩ => ⟨S8192x8x1, .f32⟩
  | .hbm, ⟨33, _⟩ => ⟨S8192x8x1, .f32⟩
  | .hbm, ⟨34, _⟩ => ⟨S_, .f32⟩
  | .hbm, ⟨35, _⟩ => ⟨S8192x8x1, .f32⟩
  | .hbm, ⟨36, _⟩ => ⟨S8192x8x1, .f32⟩
  | .hbm, ⟨37, _⟩ => ⟨S8192x8x1, .f32⟩
  | .hbm, ⟨38, _⟩ => ⟨S8192x8x64, .f32⟩
  | .hbm, ⟨39, _⟩ => ⟨S8192x8x64, .f32⟩
  | .hbm, ⟨40, _⟩ => ⟨S1x8x64, .f32⟩
  | .hbm, ⟨41, _⟩ => ⟨S8192x8x64, .f32⟩
  | .hbm, ⟨42, _⟩ => ⟨S8192x8x64, .f32⟩
  | .hbm, ⟨43, _⟩ => ⟨S64x128x8x64, .f32⟩
  | .hbm, ⟨44, _⟩ => ⟨S_, .f32⟩
  | .hbm, ⟨45, _⟩ => ⟨S128x128, .f32⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S_, .f32⟩
  | .hbm, ⟨53, _⟩ => ⟨S128x128, .f32⟩
  | .hbm, ⟨54, _⟩ => ⟨S128x128, .f32⟩
  | .hbm, ⟨55, _⟩ => ⟨S1x128x128, .f32⟩
  | .hbm, ⟨56, _⟩ => ⟨S8x128x128, .f32⟩
  | .hbm, ⟨57, _⟩ => ⟨S8x128x128, .f32⟩
  | .hbm, ⟨58, _⟩ => ⟨S8x64x64x128, .f32⟩
  | .hbm, ⟨59, _⟩ => ⟨S64x128x8x64, .f32⟩
  | .hbm, ⟨60, _⟩ => ⟨S128x8, .f32⟩
  | .hbm, ⟨61, _⟩ => ⟨S1x128x8x1, .f32⟩
  | .hbm, ⟨62, _⟩ => ⟨S64x128x8x64, .f32⟩
  | .hbm, ⟨63, _⟩ => ⟨S64x128x8x64, .f32⟩
  | .hbm, ⟨64, _⟩ => ⟨S8192x8x64, .f32⟩
  | .hbm, ⟨65, _⟩ => ⟨S8192x8x64, .f32⟩
  | .hbm, ⟨66, _⟩ => ⟨S8192x512, .f32⟩
  | .hbm, ⟨67, _⟩ => ⟨S8192x8x64, .f32⟩
  | .hbm, ⟨68, _⟩ => ⟨S8192x8x64, .f32⟩
  | .hbm, ⟨69, _⟩ => ⟨S64x128x8x64, .f32⟩
  | .hbm, ⟨70, _⟩ => ⟨S_, .f32⟩
  | .hbm, ⟨71, _⟩ => ⟨S128x8, .f32⟩
  | .hbm, ⟨72, _⟩ => ⟨S1x128x8x1, .f32⟩
  | .hbm, ⟨73, _⟩ => ⟨S_, .f32⟩
  | .hbm, ⟨74, _⟩ => ⟨S128x8, .f32⟩
  | .hbm, ⟨75, _⟩ => ⟨S8x128, .f32⟩
  | .hbm, ⟨76, _⟩ => ⟨S128x8, .f32⟩
  | .hbm, ⟨77, _⟩ => ⟨S128x8x64, .f32⟩
  | .hbm, ⟨78, _⟩ => ⟨S128x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_cst : Ref sig .tc := ⟨.hbm, 52, rfl⟩
abbrev main_call0_v5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== OutProj.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S8192x512, .bf16⟩
  | .hbm, ⟨6, _⟩ => ⟨S8192x512, .bf16⟩
  | .hbm, ⟨7, _⟩ => ⟨S1024x1024, .bf16⟩
  | .hbm, ⟨8, _⟩ => ⟨S1x1024, .f32⟩
  | .hbm, ⟨9, _⟩ => ⟨S8192x1024, .f32⟩
  | .hbm, ⟨10, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== OutProjDx.lean ====
abbrev S8192x1024 : Shape := ⟨2, ![8192, 1024]⟩
abbrev S1024x1024 : Shape := ⟨2, ![1024, 1024]⟩
abbrev S8192x512 : Shape := ⟨2, ![8192, 512]⟩
abbrev S256x1024 : Shape := ⟨2, ![256, 1024]⟩
abbrev S256x512 : Shape := ⟨2, ![256, 512]⟩
abbrev S256x128 : Shape := ⟨2, ![256, 128]⟩
abbrev S512x1024 : Shape := ⟨2, ![512, 1024]⟩
abbrev S256 : Shape := ⟨1, ![256]⟩
abbrev S256x1 : Shape := ⟨2, ![256, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S8192x1024, .bf16⟩
  | .hbm, ⟨8, _⟩ => ⟨S8192x512, .f32⟩
  | .hbm, ⟨9, _⟩ => ⟨S8192x1024, .bf16⟩
  | .hbm, ⟨10, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x1024, .bf16⟩
  | .local _ .vmem, ⟨8, _⟩ => ⟨S256x1024, .bf16⟩
  | .local _ .vmem, ⟨9, _⟩ => ⟨S256x512, .f32⟩
  | .local _ .vmem, ⟨10, _⟩ => ⟨S256x512, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjDxRefIdeal.lean ====
abbrev S8192x1024 : Shape := ⟨2, ![8192, 1024]⟩
abbrev S1024x1024 : Shape := ⟨2, ![1024, 1024]⟩
abbrev S8192x512 : Shape := ⟨2, ![8192, 512]⟩
abbrev S_ : Shape := ⟨0, ![]⟩
abbrev S8192x8x64 : Shape := ⟨3, ![8192, 8, 64]⟩
abbrev S8192x8x128 : Shape := ⟨3, ![8192, 8, 128]⟩
abbrev S8192x8x2 : Shape := ⟨3, ![8192, 8, 2]⟩
abbrev S8192x8x70 : Shape := ⟨3, ![8192, 8, 70]⟩
abbrev S8192x8x1 : Shape := ⟨3, ![8192, 8, 1]⟩
abbrev S8192x8x55 : Shape := ⟨3, ![8192, 8, 55]⟩
abbrev S8192x8 : Shape := ⟨2, ![8192, 8]⟩
abbrev S8192x8x61 : Shape := ⟨3, ![8192, 8, 61]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S_, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x512, .f32⟩
  | .hbm, ⟨11, _⟩ => ⟨S8192x512, .f32⟩
  | .hbm, ⟨12, _⟩ => ⟨S8192x8x64, .f32⟩
  | .hbm, ⟨13, _⟩ => ⟨S8192x8x64, .f32⟩
  | .hbm, ⟨14, _⟩ => ⟨S8192x8x64, .f32⟩
  | .hbm, ⟨15, _⟩ => ⟨S8192x8x128, .f32⟩
  | .hbm, ⟨16, _⟩ => ⟨S_, .f32⟩
  | .hbm, ⟨17, _⟩ => ⟨S8192x8x2, .f32⟩
  | .hbm, ⟨18, _⟩ => ⟨S8192x8x70, .f32⟩
  | .hbm, ⟨19, _⟩ => ⟨S8192x8x1, .f32⟩
  | .hbm, ⟨20, _⟩ => ⟨S8192x8x1, .f32⟩
  | .hbm, ⟨21, _⟩ => ⟨S8192x8x55, .f32⟩
  | .hbm, ⟨22, _⟩ => ⟨S8192x8x128, .f32⟩
  | .hbm, ⟨23, _⟩ => ⟨S8192x8x64, .f32⟩
  | .hbm, ⟨24, _⟩ => ⟨S_, .f32⟩
  | .hbm, ⟨25, _⟩ => ⟨S8192x8, .f32⟩
  | .hbm, ⟨26, _⟩ => ⟨S8192x8x1, .f32⟩
  | .hbm, ⟨27, _⟩ => ⟨S8192x8x1, .f32⟩
  | .hbm, ⟨28, _⟩ => ⟨S_, .f32⟩
  | .hbm, ⟨29, _⟩ => ⟨S8192x8x61, .f32⟩
  | .hbm, ⟨30, _⟩ => ⟨S8192x8x128, .f32⟩
  | .hbm, ⟨31, _⟩ => ⟨S8192x1024, .f32⟩
  | .hbm, ⟨32, _⟩ => ⟨S8192x1024, .bf16⟩
  | .hbm, ⟨33, _⟩ => ⟨S8192x1024, .f32⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.RealLine.lean ====
/- Arithmetic on extended reals that are real numbers: what finite arguments give, how sums and literals read, and what a precondition
   `all(abs(x) < inf)` says. -/
module

public import Idealize.ShloMosaic.PureOps.Ideal.Laws
public import Idealize.ShloMosaic.Lib.ReduceAll
public import Idealize.ShloMosaic.PureOps

@[expose] public section

noncomputable section

namespace Cert.RealLine

open Idealize.ShloMosaic

/-- `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, by push_cast; rfl⟩

theorem IsReal.sub {x y : EReal} (hx : IsReal x) (hy : IsReal y) : IsReal (x - y) := by
  obtain ⟨a, rfl⟩ := hx; obtain ⟨b, rfl⟩ := hy; exact ⟨a - b, by push_cast; rfl⟩

theorem IsReal.mul {x y : EReal} (hx : IsReal x) (hy : IsReal y) : IsReal (x * y) := by
  obtain ⟨a, rfl⟩ := hx; obtain ⟨b, rfl⟩ := hy; exact ⟨a * b, by push_cast; rfl⟩

/-- The coercion of the reals goes through a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- A family of real numbers is the coercion of a real family. -/
theorem exists_coe {ι : Type*} {f : ι → EReal} (h : ∀ i, IsReal (f i)) : ∃ g : ι → ℝ, f = fun i => (g i : EReal) := by
  choose g hg using h
  exact ⟨g, funext hg⟩

/-- A real factor goes into a sum. -/
theorem mul_sum_real {ι : Type*} (s : Finset ι) {x : EReal} {f : ι → EReal} (hx : IsReal x) (hf : ∀ i, IsReal (f i)) :
    x * ∑ i ∈ s, f i = ∑ i ∈ s, x * f i := by
  obtain ⟨a, rfl⟩ := hx
  obtain ⟨g, rfl⟩ := exists_coe hf
  rw [← coe_sum, ← EReal.coe_mul, Finset.mul_sum, coe_sum]
  exact Finset.sum_congr rfl fun i _ => by push_cast; rfl

theorem lt_inf {x : EReal} (h : FloatOps.cmpf (F := Ideal) (φ := .f32) .olt (FloatOps.absf x) (FloatOps.ofBits .f32 0x7F800000#32) = 1#1) : IsReal x := by
  have hinf : Ideal.ofBits .f32 0x7F800000#32 = (⊤ : EReal) := by simp [Ideal.ofBits, Ideal.ieee]
  rw [Ideal.cmpf_def, Ideal.absf_def, Ideal.ofBits_def, hinf] at h
  induction x using EReal.rec with
  | bot => simp [Ideal.cmp] at h
  | top => simp [Ideal.cmp] at h
  | coe r => exact ⟨r, rfl⟩

/-- `jnp.all(jnp.abs(x) < inf)` says that every element of `x` is a real number. -/
theorem all_real {s u w : Shape} {axes : List (Fin s.rank)} [Subsingleton u.Idx] {x : FVec Ideal s .f32} {c : FVec Ideal s .f32} {init : w.Idx → BitVec 1}
    {hr : s.ReducesTo axes u} {hu : 0 < w.numel} {j : u.Idx} (hc : ∀ i, c i = FloatOps.ofBits .f32 0x7F800000#32)
    (h : Host.reduce IntOp.andi (cmpf .olt (Host.absf x) c) init hr hu j = 1#1) (i : s.Idx) : IsReal (x i) := by
  have := Host.reduce_andi_all _ _ _ _ j h i
  refine lt_inf ?_
  rw [← hc i]
  exact this

theorem and_one {s : Shape} {x y : IVec s 1} {i : s.Idx} (h : andi x y i = 1#1) : x i = 1#1 ∧ y i = 1#1 := by
  have h' : (x i &&& y i) = 1#1 := h
  constructor
  · generalize x i = a at *; generalize y i = b at *; revert a b; decide
  · generalize x i = a at *; generalize y i = b at *; revert a b; decide

theorem n1024 : Ideal.ofBits .f32 1149239296#32 = ((1024 : ℝ) : EReal) := by
  simp [Ideal.ofBits, Ideal.ieee]
  first | (rw [← EReal.coe_mul]; norm_num) | (norm_num [← EReal.coe_mul])

theorem eps : Ideal.ofBits .f32 897988541#32 = ((8796093 / 2 ^ 43 : ℝ) : EReal) := by
  simp [Ideal.ofBits, Ideal.ieee]
  first | (rw [← EReal.coe_mul]; norm_num) | (norm_num [← EReal.coe_mul])

theorem neg_half : Ideal.ofBits .f32 3204448256#32 = ((-1 / 2 : ℝ) : EReal) := by
  simp [Ideal.ofBits, Ideal.ieee]
  first | (rw [← EReal.coe_mul]; norm_num) | (norm_num [← EReal.coe_mul])

/-- Division of two reals, the second of them not zero. -/
theorem div_real (x : ℝ) {y : ℝ} (h : y ≠ 0) : Ideal.div (x : EReal) (y : EReal) = ((x / y : ℝ) : EReal) := by
  rw [Ideal.div_coe h, ← EReal.coe_mul]; congr 1; ring

theorem rsqrt_real {x : ℝ} (h : 0 < x) : Ideal.rsqrt (x : EReal) = (((Real.sqrt x)⁻¹ : ℝ) : EReal) := by
  rw [Ideal.rsqrt_coe, if_neg (by linarith), if_neg (by linarith)]

end Cert.RealLine

end
-- ==== Proof.RmsGrad.lean ====
/- The gradient of an rmsnorm row: the form a kernel computes, and the form that differentiating the norm writes. -/
module

public import proofs.«01_k».proof.Proof.RealLine

@[expose] public section

noncomputable section

namespace Cert.Rms

open Idealize.ShloMosaic Cert.RealLine

variable {n : ℕ}

/-- The mean of a row's squares and the norm's small constant. -/
def meanSq (x : Fin n → EReal) : EReal := Ideal.div (∑ k, x k * x k) (Ideal.ofBits .f32 1149239296#32) + Ideal.ofBits .f32 897988541#32

/-- The row's factor. -/
def inv (x : Fin n → EReal) : EReal := Ideal.rsqrt (meanSq x)

/-- The gradient of the row `x` at `j`, for the cotangent `u` of the normalised row times its weight. -/
def grad (x u : Fin n → EReal) (j : Fin n) : EReal :=
  inv x * (u j - x j * inv x * Ideal.div (∑ k, u k * (x k * inv x)) (Ideal.ofBits .f32 1149239296#32))

/-- What differentiating the norm's factor gives each of the row's two occurrences in the square. -/
def viaInv (x u : Fin n → EReal) : EReal :=
  Ideal.div ((∑ k, x k * u k) * (Ideal.ofBits .f32 3204448256#32 * Ideal.div (inv x) (meanSq x))) (Ideal.ofBits .f32 1149239296#32)

theorem meanSq_coe (X : Fin n → ℝ) : meanSq (fun k => (X k : EReal)) = (((∑ k, X k * X k) / 1024 + 8796093 / 2 ^ 43 : ℝ) : EReal) := by
  unfold meanSq
  rw [n1024, eps]
  simp only [← EReal.coe_mul]
  rw [← coe_sum, div_real _ (by norm_num), ← EReal.coe_add]

theorem meanSq_pos (X : Fin n → ℝ) : 0 < (∑ k, X k * X k) / 1024 + 8796093 / 2 ^ 43 := by
  have : 0 ≤ ∑ k, X k * X k := Finset.sum_nonneg fun k _ => mul_self_nonneg _
  positivity

theorem inv_coe (X : Fin n → ℝ) : inv (fun k => (X k : EReal)) = (((Real.sqrt ((∑ k, X k * X k) / 1024 + 8796093 / 2 ^ 43))⁻¹ : ℝ) : EReal) := by
  unfold inv
  rw [meanSq_coe, rsqrt_real (meanSq_pos X)]

theorem inv_real {x : Fin n → EReal} (hx : ∀ k, IsReal (x k)) : IsReal (inv x) := by
  obtain ⟨X, rfl⟩ := exists_coe hx
  exact ⟨_, inv_coe X⟩

/-- The two forms of the gradient agree on real rows. -/
theorem grad_eq {x u : Fin n → EReal} (hx : ∀ k, IsReal (x k)) (hu : ∀ k, IsReal (u k)) (j : Fin n) :
    u j * inv x + x j * viaInv x u + viaInv x u * x j = grad x u j := by
  obtain ⟨X, rfl⟩ := exists_coe hx
  obtain ⟨U, rfl⟩ := exists_coe hu
  unfold grad viaInv
  rw [inv_coe, meanSq_coe, n1024, neg_half]
  have hp := meanSq_pos X
  generalize hM : (∑ k, X k * X k) / 1024 + 8796093 / 2 ^ 43 = M at hp ⊢
  have hs : 0 < Real.sqrt M := Real.sqrt_pos.2 hp
  have hss : Real.sqrt M * Real.sqrt M = M := Real.mul_self_sqrt hp.le
  rw [div_real _ hp.ne']
  simp only [← EReal.coe_mul, ← coe_sum]
  rw [div_real _ (by norm_num), div_real _ (by norm_num)]
  simp only [← EReal.coe_mul, ← EReal.coe_add, ← EReal.coe_sub]
  congr 1
  have e : ∑ k, U k * (X k * (Real.sqrt M)⁻¹) = (∑ k, X k * U k) * (Real.sqrt M)⁻¹ := by
    rw [Finset.sum_mul]; exact Finset.sum_congr rfl fun k _ => by ring
  rw [e]
  generalize ∑ k, X k * U k = S
  generalize Real.sqrt M = s at hs hss
  subst hss
  field_simp
  ring

theorem grad_add {x u : Fin n → EReal} (hx : ∀ k, IsReal (x k)) (hu : ∀ k, IsReal (u k)) (d : EReal) (j : Fin n) :
    d + u j * inv x + x j * viaInv x u + viaInv x u * x j = d + grad x u j := by
  rw [← grad_eq hx hu j, add_assoc, add_assoc, add_assoc]

end Cert.Rms

end
-- ==== Proof.RowZero.lean ====
/- A buffer of rows into whose first row a sum is carried: what a store to that row leaves at an index. -/
module

public import Idealize.ShloMosaic.Lib.Pipeline.ValueKit
public import Idealize.ShloMosaic.Lib.WritesUnit
public import Idealize.ShloMosaic.Lib.Pointwise

@[expose] public section

namespace Cert.RowZero

open Idealize.ShloMosaic Idealize.ShloMosaic.View

variable {sig : RefSig} {κ : Kind} {sp : Space} {e : EltTy} {Val : EltTy → Type} {k n : ℕ}

/-- The first row reads the store's payload, the others what was there. -/
theorem read_row (v : View sig κ sp ⟨2, ![k, n]⟩ e) (f : v.ty.Contents Val)
    (inb : ∀ a, (![0, 0] : Fin 2 → ℕ) a + (![1, n] : Fin 2 → ℕ) a ≤ (⟨2, ![k, n]⟩ : Shape).size a)
    (w : (⟨2, ![1, n]⟩ : Shape).Idx → Val e) (L : List (Piece Val ⟨2, ![k, n]⟩ e)) (y : (⟨2, ![k, n]⟩ : Shape).Idx) :
    v.read Val (v.writes Val f ((⟨Rect.unit (s := ⟨2, ![k, n]⟩) ![0, 0] ![1, n] inb, w⟩ : Piece Val ⟨2, ![k, n]⟩ e) :: L)) y
      = if (y 0 : ℕ) < 1 then w (ix2 0 (y 1)) else v.read Val (v.writes Val f L) y := by
  split
  case isTrue h =>
    exact View.read_writes_cons_rows_of_mem v f inb w L y (ix2 0 (y 1)) rfl (by show (y 0 : ℕ) = 0 + 0; omega) rfl
  case isFalse h =>
    exact View.read_writes_cons_rows_of_not_mem v f inb w L y rfl (W := 1) rfl (by right; omega)

theorem canon_row [∀ e, Nonempty (Val e)]
    (inb : ∀ a, (![0, 0] : Fin 2 → ℕ) a + (![1, n] : Fin 2 → ℕ) a ≤ (⟨2, ![k, n]⟩ : Shape).size a)
    (w : (⟨2, ![1, n]⟩ : Shape).Idx → Val e) (L : List (Piece Val ⟨2, ![k, n]⟩ e)) (y : (⟨2, ![k, n]⟩ : Shape).Idx) :
    View.canon ((⟨Rect.unit (s := ⟨2, ![k, n]⟩) ![0, 0] ![1, n] inb, w⟩ : Piece Val ⟨2, ![k, n]⟩ e) :: L) y
      = if (y 0 : ℕ) < 1 then w (ix2 0 (y 1)) else View.canon L y := by
  split
  case isTrue h =>
    have hy : (Rect.unit (s := ⟨2, ![k, n]⟩) ![0, 0] ![1, n] inb).emb (ix2 0 (y 1) : (⟨2, ![1, n]⟩ : Shape).Idx) = y := by
      funext a
      refine Fin.ext ?_
      match a with
      | ⟨0, _⟩ => show 0 + 1 * 0 = (y 0 : ℕ); omega
      | ⟨1, _⟩ => show 0 + 1 * (y 1 : ℕ) = (y 1 : ℕ); omega
    conv_lhs => rw [← hy]
    exact View.canon_cons_emb (Rect.unit (s := ⟨2, ![k, n]⟩) ![0, 0] ![1, n] inb) w L _
  case isFalse h =>
    refine View.canon_cons_of_not_mem _ L ?_
    rw [Rect.mem_set_unit]
    intro hall
    have h0 : (y 0 : ℕ) < 0 + 1 := (hall 0).2
    omega

/-- A buffer filled with zeros into whose first row `p` was added. -/
theorem first_sum {n k : ℕ} (hk : 0 < k)
    (inb : ∀ a, (![0, 0] : Fin 2 → ℕ) a + (![1, n] : Fin 2 → ℕ) a ≤ (⟨2, ![k, n]⟩ : Shape).size a)
    (inb' : ∀ a, (![0, 0] : Fin 2 → ℕ) a + (![k, n] : Fin 2 → ℕ) a ≤ (⟨2, ![k, n]⟩ : Shape).size a)
    (w : (⟨2, ![1, n]⟩ : Shape).Idx → Elt Ideal .f32) (Z : (⟨2, ![k, n]⟩ : Shape).Idx → Elt Ideal .f32) (p : Fin n → EReal)
    (hw : ∀ j, w (ix2 0 j) = Z (ix2 ⟨0, hk⟩ j) + p j) (hZ : ∀ y, Z y = (0 : EReal)) (y : (⟨2, ![k, n]⟩ : Shape).Idx) :
    View.canon [(⟨Rect.unit (s := ⟨2, ![k, n]⟩) ![0, 0] ![1, n] inb, w⟩ : Piece (Elt Ideal) ⟨2, ![k, n]⟩ .f32),
        ⟨Rect.unit (s := ⟨2, ![k, n]⟩) ![0, 0] ![k, n] inb', Z⟩] y
      = (0 : EReal) + if (y 0 : ℕ) < 1 then p (y 1) else 0 := by
  refine (canon_row _ _ _ y).trans ?_
  have e : View.canon [(⟨Rect.unit (s := ⟨2, ![k, n]⟩) ![0, 0] ![k, n] inb', Z⟩ : Piece (Elt Ideal) ⟨2, ![k, n]⟩ .f32)] y = (0 : EReal) := by
    refine (congrFun (View.canon_cons_unit_lit (S := ⟨2, ![k, n]⟩) inb' Z [] (Fin.forall_fin_two.mpr ⟨rfl, rfl⟩)) y).trans (hZ y)
  split
  · exact (hw _).trans (congrArg (· + p (y 1)) (hZ _))
  · exact e.trans (add_zero _).symm

/-- A buffer into whose first row `p` was added. -/
theorem next_sum {n k : ℕ} (hk : 0 < k) (v : View sig κ sp ⟨2, ![k, n]⟩ .f32) (f : v.ty.Contents (Elt Ideal)) (b : (⟨2, ![k, n]⟩ : Shape).Idx → Elt Ideal .f32)
    (hb : v.read (Elt Ideal) f = b)
    (inb : ∀ a, (![0, 0] : Fin 2 → ℕ) a + (![1, n] : Fin 2 → ℕ) a ≤ (⟨2, ![k, n]⟩ : Shape).size a)
    (w : (⟨2, ![1, n]⟩ : Shape).Idx → Elt Ideal .f32) (p : Fin n → EReal)
    (hw : ∀ j, w (ix2 0 j) = (b (ix2 ⟨0, hk⟩ j) : EReal) + p j) (y : (⟨2, ![k, n]⟩ : Shape).Idx) :
    v.read (Elt Ideal) (v.writes (Elt Ideal) f [(⟨Rect.unit (s := ⟨2, ![k, n]⟩) ![0, 0] ![1, n] inb, w⟩ : Piece (Elt Ideal) ⟨2, ![k, n]⟩ .f32)]) y
      = (b y : EReal) + if (y 0 : ℕ) < 1 then p (y 1) else 0 := by
  refine (read_row v f _ _ _ y).trans ?_
  split
  case isTrue h =>
    have hy : ix2 (⟨0, hk⟩ : Fin k) (y 1) = y := by
      funext a
      refine Fin.ext ?_
      match a with
      | ⟨0, _⟩ => show 0 = (y 0 : ℕ); omega
      | ⟨1, _⟩ => rfl
    exact (hw _).trans (congrArg (fun z => (b z : EReal) + p (y 1)) hy)
  case isFalse h => exact (congrFun hb y).trans (add_zero _).symm

end Cert.RowZero
-- ==== Proof.FfnUpDxValue.lean ====
/- What the kernel of `FfnUpDxIdeal` leaves in its three result arrays, as sums over its arguments. -/
module

public import proofs.«01_k».proof.Proof.Gen.FfnUpDxIdeal.Value
public import proofs.«01_k».proof.Proof.RmsGrad
public import proofs.«01_k».proof.Proof.RowZero
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnUpDxIdeal.Rows

open Cert.FfnUpDxIdeal Cert.FfnUpDxIdeal.Gen Idealize.ShloMosaic Idealize.ShloMosaic.TcCoe Idealize.SL.Sem
open Idealize.ShloMosaic.Pipeline (Dat)

/-- The gradient of the normalised and weighted row `a`: the cotangent times the weights. -/
def dn (w : FVec Ideal S1024x5632 .f32) (dh : FVec Ideal S8192x5632 .f32) (a : Fin 8192) (j : Fin 1024) : EReal :=
  ∑ l : Fin 5632, dh (ix2 a l) * w (ix2 j l)

/-- The gradient of `h1`, the residual's own cotangent included. -/
def dh1 (x : FVec Ideal S8192x1024 .f32) (g : FVec Ideal S1024 .f32) (w : FVec Ideal S1024x5632 .f32) (dh : FVec Ideal S8192x5632 .f32)
    (d2 : FVec Ideal S8192x1024 .f32) : FVec Ideal S8192x1024 .f32 :=
  fun i => d2 i + Rms.grad (fun k : Fin 1024 => x (ix2 (i 0) k)) (fun k => dn w dh (i 0) k * g (ix1 k)) (i 1)

/-- The normalised row. -/
def xhat (x : FVec Ideal S8192x1024 .f32) (a : Fin 8192) (j : Fin 1024) : EReal := x (ix2 a j) * Rms.inv fun k : Fin 1024 => x (ix2 a k)

/-- The gradient of the norm's weight, in row 0 of eight. -/
def dg (x : FVec Ideal S8192x1024 .f32) (w : FVec Ideal S1024x5632 .f32) (dh : FVec Ideal S8192x5632 .f32) : FVec Ideal S8x1024 .f32 :=
  fun i => if (i 0 : ℕ) < 1 then ∑ a : Fin 8192, dn w dh a (i 1) * xhat x a (i 1) else 0

variable (m : (ℓ : Loc nD τ sig) → Buf (Elt Ideal) ℓ)

theorem idx : ∀ t : Fin cfg0.N, win0_0.index t = ![0, t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

/-- The product of a block of the cotangent with both halves of the weights. -/
theorem product (c : Dev nD) (t : Fin cfg0.N) (p : Fin 512) (j : Fin 1024) (a : Fin 8192) (ha : (a : ℕ) = t.val * 512 + p) :
    k0_pay4 (F := Ideal)
        (View.ld (iblk m c 0 t) (Rect.unit ![0, 0, 0] ![1, 512, 2816] inb_S2x512x2816_S1x512x2816_0_0_0))
        (View.ld (iblk m c 1 t) (Rect.unit ![0, 0] ![2816, 1024] inb_S5632x1024_S2816x1024_0_0))
        (View.ld (iblk m c 0 t) (Rect.unit ![1, 0, 0] ![1, 512, 2816] inb_S2x512x2816_S1x512x2816_1_0_0))
        (View.ld (iblk m c 1 t) (Rect.unit ![2816, 0] ![2816, 1024] inb_S5632x1024_S2816x1024_2816_0)) (ix2 p j)
      = dn (m ((c : Thread nD τ).loc main_arg2)) (m ((c : Thread nD τ).loc main_arg3)) a j := by
  unfold dn
  rw [Fin.sum_univ_two_halves 2816 2816 rfl]
  pointwise [k0_pay4]
  blk_point [iblk, V, idx t]

/-- The four loads of a point: the two halves of the cotangent's block and of the weights. -/
abbrev prod (c : Dev nD) (t : Fin cfg0.N) : FVec Ideal S512x1024 .f32 :=
  k0_pay4 (F := Ideal)
    (View.ld (iblk m c 0 t) (Rect.unit ![0, 0, 0] ![1, 512, 2816] inb_S2x512x2816_S1x512x2816_0_0_0))
    (View.ld (iblk m c 1 t) (Rect.unit ![0, 0] ![2816, 1024] inb_S5632x1024_S2816x1024_0_0))
    (View.ld (iblk m c 0 t) (Rect.unit ![1, 0, 0] ![1, 512, 2816] inb_S2x512x2816_S1x512x2816_1_0_0))
    (View.ld (iblk m c 1 t) (Rect.unit ![2816, 0] ![2816, 1024] inb_S5632x1024_S2816x1024_2816_0))

/-- What a point stores in its block of the first result. -/
theorem point (c : Dev nD) (t : Fin cfg0.N) (y : S512x1024.Idx) :
    k0_pay1 (F := Ideal) (prod m c t) (k0_pay5 (iblk m c 2 t)) (k0_pay6 (iblk m c 2 t)) (iblk m c 3 t) (iblk m c 4 t) y
      = dh1 (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  have ht : t.val < 16 := lt_of_lt_of_eq t.isLt N_0
  have hd : ∀ j : Fin 1024, prod m c t (ix2 (y 0) j) = dn (m ((c : Thread nD τ).loc main_arg2)) (m ((c : Thread nD τ).loc main_arg3))
      ((((cfg0.win 5).blk t).view.emb y) 0) j := fun j => product m c t (y 0) j _ (by blk_simp [idx t])
  idx_vars y
  pointwise [k0_pay1, k0_pay5, k0_pay6, dh1, Rms.grad, Rms.inv, Rms.meanSq, hd]
  blk_point [iblk, V, idx t]

theorem final5 (c : Dev nD) : (dats m 0 c).arrAt 5 cfg0.N
    = dh1 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  by_cases h0 : t.val % 16 = 0
  · rw [outsAt0_A m c t h0]; frame_out; exact point m c t y
  · rw [outsAt0_B m c t h0]; frame_out; exact point m c t y

/-- The second result is the first, in the narrower format. -/
theorem final6 (c : Dev nD) : (dats m 0 c).arrAt 6 cfg0.N
    = dh1 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  have e : (((cfg0.win 6).blk t).view.emb y) = (((cfg0.win 5).blk t).view.emb y) := by
    funext a; refine Fin.ext ?_; blk_simp [idx t]
  by_cases h0 : t.val % 16 = 0
  · rw [outsAt0_A m c t h0]; frame_out; exact (point m c t y).trans (congrArg _ e.symm)
  · rw [outsAt0_B m c t h0]; frame_out; exact (point m c t y).trans (congrArg _ e.symm)

/-- What a point adds to the first row of the carried sum. -/
def part (c : Dev nD) (t : Fin cfg0.N) (j : Fin 1024) : EReal :=
  ∑ p : Fin 512, prod m c t (ix2 p j) * k0_pay6 (F := Ideal) (iblk m c 2 t) (ix2 p j)

theorem payload (c : Dev nD) (t : Fin cfg0.N) (acc : FVec Ideal S1x1024 .f32) (j : Fin 1024) :
    k0_pay7 (F := Ideal)
      (View.ld (iblk m c 0 t) (Rect.unit ![0, 0, 0] ![1, 512, 2816] inb_S2x512x2816_S1x512x2816_0_0_0))
      (View.ld (iblk m c 1 t) (Rect.unit ![0, 0] ![2816, 1024] inb_S5632x1024_S2816x1024_0_0))
      (View.ld (iblk m c 0 t) (Rect.unit ![1, 0, 0] ![1, 512, 2816] inb_S2x512x2816_S1x512x2816_1_0_0))
      (View.ld (iblk m c 1 t) (Rect.unit ![2816, 0] ![2816, 1024] inb_S5632x1024_S2816x1024_2816_0))
      (iblk m c 2 t) acc (ix2 0 j) = acc (ix2 0 j) + part m c t j := by
  unfold part
  pointwise [k0_pay7]

theorem first (c : Dev nD) (t : Fin cfg0.N) (h0 : t.val % 16 = 0) (y : S8x1024.Idx) :
    (outsAt0 m c t.val t.isLt).2.2 y = (0 : EReal) + if (y 0 : ℕ) < 1 then part m c t (y 1) else 0 := by
  rw [outsAt0_A m c t h0]; frame_out
  refine RowZero.first_sum (by decide) _ _ _ _ (part m c t) (fun j => (payload m c t _ j).trans ?_) (fun y => by pointwise [k0_pay3]) y
  simp (disch := decide) only [↓ View.readCov_skip, ↓ View.readCov_cons_toLoadRect, ↓ View.readCov_fill]
  rfl

theorem next (c : Dev nD) (t : Fin cfg0.N) (h0 : ¬t.val % 16 = 0) (y : S8x1024.Idx) :
    (outsAt0 m c t.val t.isLt).2.2 y
      = (outsAt0 m c (t.val - 1) (Nat.lt_of_le_of_lt (Nat.sub_le _ _) t.isLt)).2.2 y + if (y 0 : ℕ) < 1 then part m c t (y 1) else (0 : EReal) := by
  rw [outsAt0_B m c t h0]; frame_out
  refine RowZero.next_sum (by decide) (ms0_7 t).view _ (outsAt0 m c (t.val - 1) (Nat.lt_of_le_of_lt (Nat.sub_le _ _) t.isLt)).2.2
    (Memref.IsWhole.read_unread _ _) _ _ (part m c t) (fun j => ?_) y
  refine (payload m c t _ j).trans (congrArg (· + part m c t j) ?_)
  pointwise

theorem summand (c : Dev nD) (t : Fin cfg0.N) (p : Fin 512) (j : Fin 1024) (a : Fin 8192) (ha : (a : ℕ) = t.val * 512 + p) :
    prod m c t (ix2 p j) * k0_pay6 (F := Ideal) (iblk m c 2 t) (ix2 p j)
      = dn (m ((c : Thread nD τ).loc main_arg2)) (m ((c : Thread nD τ).loc main_arg3)) a j
        * xhat (m ((c : Thread nD τ).loc main_arg0)) a j := by
  refine congrArg₂ (· * ·) (product m c t p j a ha) ?_
  unfold xhat
  pointwise [k0_pay6, k0_pay5, Rms.inv, Rms.meanSq]
  blk_point [iblk, V, idx t]

/-- The third result: the sum over all rows, in row 0. -/
theorem final7 (c : Dev nD) : (dats m 0 c).arrAt 7 cfg0.N
    = dg (m ((c : Thread nD τ).loc main_arg0)) (m ((c : Thread nD τ).loc main_arg2)) (m ((c : Thread nD τ).loc main_arg3)) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => (0 : EReal))
    (fun p y => if (y 0 : ℕ) < 1 then part m c p (y 1) else (0 : EReal))
    (fun t h j => first m c t h j) (fun t h j => next m c t h j) (le_of_eq N_0) t0_15 rfl j, zero_add]
  unfold dg
  split
  · exact Fin.sum_mul_add_congr (L := 8192) (S := cfg0.N) (n := 512) (fun t p hl => summand m c t p (j 1) _ rfl)
      (by rw [show cfg0.N = 16 from N_0])
  · simp

end Cert.FfnUpDxIdeal.Rows

end
-- ==== Proof.FfnUpDxEq.lean ====
/- The reference of the pair `FfnUpDx` on real arguments, and what the pair's precondition says. -/
module

public import proofs.«01_k».proof.Defs
public import proofs.«01_k».proof.Proof.Gen.Pre_finite_ffn_up
public import proofs.«01_k».proof.Proof.Gen.FfnUpDxRefIdeal.Run
public import proofs.«01_k».proof.Proof.Gen.FfnUpDxRefIdeal.Read
public import proofs.«01_k».proof.Proof.FfnUpDxValue
public import Idealize.ShloMosaic.Lib.Claim

@[expose] public section

set_option maxRecDepth 16384

noncomputable section

namespace Cert.FfnUpDxEq

open Idealize.ShloMosaic Idealize.ShloMosaic.TcCoe Idealize.SL.Sem Cert.RealLine
open Cert.FfnUpDxRefIdeal Cert.FfnUpDxRefIdeal.Gen Cert.FfnUpDxRefIdeal.Read
open Cert.FfnUpDxIdeal.Rows (dn dh1 dg xhat)

instance : Subsingleton Cert.Pre_finite_ffn_up.S_.Idx := ⟨fun a b => funext fun k => k.elim0⟩

/-- What the precondition says: four of the five arguments are real. -/
theorem real_of_pre {x : FVec Ideal S8192x1024 .f32} {g : FVec Ideal S1024 .f32} {w : FVec Ideal S1024x5632 .f32} {dh : FVec Ideal S8192x5632 .f32}
    {d2 : FVec Ideal S8192x1024 .f32} (h : Cert.Pre_finite_ffn_up.fn (F := Ideal) x g w dh d2 = fun _ => 1#1) :
    (∀ i, IsReal (x i)) ∧ (∀ i, IsReal (g i)) ∧ (∀ i, IsReal (w i)) ∧ ∀ i, IsReal (dh i) := by
  have h := congrFun h ix0
  unfold Cert.Pre_finite_ffn_up.fn Cert.Pre_finite_ffn_up.fn_part1 at h
  obtain ⟨h, h3⟩ := and_one h
  obtain ⟨h, h2⟩ := and_one h
  obtain ⟨h0, h1⟩ := and_one h
  exact ⟨fun i => all_real (fun _ => rfl) h0 i, fun i => all_real (fun _ => rfl) h1 i, fun i => all_real (fun _ => rfl) h2 i,
    fun i => all_real (fun _ => rfl) h3 i⟩

variable {x : FVec Ideal S8192x1024 .f32} {g : FVec Ideal S1024 .f32} {w : FVec Ideal S1024x5632 .f32} {dh : FVec Ideal S8192x5632 .f32}

theorem ref_dh1 (d2 : FVec Ideal S8192x1024 .f32) (hx : ∀ i, IsReal (x i)) (hg : ∀ i, IsReal (g i)) (hw : ∀ i, IsReal (w i))
    (hdh : ∀ i, IsReal (dh i)) : val_main_v38 (F := Ideal) x g w dh d2 = dh1 x g w dh d2 := by
  funext i
  idx_vars i
  refine Eq.trans ?_ (Rms.grad_add (x := fun k : Fin 1024 => x (ix2 i0 k)) (u := fun k => dn w dh i0 k * g (ix1 k)) (fun k => hx _)
    (fun k => IsReal.mul (IsReal.sum fun l => IsReal.mul (hdh _) (hw _)) (hg _)) (d2 (ix2 i0 i1)) i1)
  unfold dn Rms.viaInv Rms.inv Rms.meanSq
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39, val_main_v40, val_main_c, val_main_call0_v0, val_main_v41]
  simp only [Fin.sum_univ_one]

theorem sitofp_zero : FloatOps.sitofp (F := Ideal) FTy.f32 0#32 = (0 : EReal) := by
  show (((0#32 : BitVec 32).toInt : ℝ) : EReal) = 0
  simp

theorem ref_dg : val_main_v41 (F := Ideal) x w dh = dg x w dh := by
  funext i
  unfold dg xhat dn Rms.inv Rms.meanSq
  idx_vars i
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39, val_main_v40, val_main_c, val_main_call0_v0, val_main_v41]
  split
  · rw [Fin.sum_univ_one]
    exact Finset.sum_congr rfl fun a _ => mul_comm _ _
  · exact sitofp_zero

end Cert.FfnUpDxEq

end
-- ==== Proof.FfnUpDxClaims.lean ====
/- The claims about the pair `FfnUpDx`. -/
module

public import proofs.«01_k».proof.Proof.Gen.FfnUpDx.Frame
public import proofs.«01_k».proof.Proof.Gen.FfnUpDxIdeal.Frame
public import proofs.«01_k».proof.Proof.FfnUpDxEq

@[expose] public section

set_option maxRecDepth 16384

noncomputable section

namespace Cert.FfnUpDxEq

open Idealize.ShloMosaic Idealize.ShloMosaic.TcCoe Idealize.SL.Sem
open Cert.FfnUpDxIdeal.Rows (dh1 dg)

theorem frame_p : Cert.quiescent_FfnUpDx := fun m ρ _ => Cert.FfnUpDx.Gen.frame m ρ

theorem frame_pi : Cert.quiescent_FfnUpDxIdeal := fun m ρ _ => Cert.FfnUpDxIdeal.Gen.frame m ρ

theorem frame_ri : Cert.quiescent_FfnUpDxRefIdeal := fun m ρ _ =>
  (θ_run Cert.FfnUpDxRefIdeal.defs _ _).mono (fun r h => ⟨fun c => (h c).2.2.2, sem_eq_zero_of_no_sems (by decide) r.2⟩)
    (Cert.FfnUpDxRefIdeal.Value.run (F := Ideal) m ρ)

theorem algebraic : Cert.algebraic_FfnUpDxIdeal_FfnUpDxRefIdeal_pre_finite_ffn_up := by
  intro m g m' g' hpre hagree
  refine ⟨_, _, _, Cert.FfnUpDxIdeal.Value.run_blocks (F := Ideal) m g, ?_⟩
  refine (θ_run Cert.FfnUpDxRefIdeal.defs _ _).mono (fun r h c => ?_) (Cert.FfnUpDxRefIdeal.Value.run (F := Ideal) m' g')
  obtain ⟨h0, h1, h2, hargs⟩ := h c
  obtain ⟨a0, a1, a2, a3, a4⟩ := hagree c
  obtain ⟨rx, rg, rw', rdh⟩ := real_of_pre (hpre c)
  refine ⟨h0.trans ?_, h1.trans ?_, h2.trans ?_, hargs⟩
  · rw [Cert.FfnUpDxRefIdeal.Read.val_main_v38_eq, a0, a1, a2, a3, a4]
    exact (ref_dh1 _ rx rg rw' rdh).trans (Cert.FfnUpDxIdeal.Rows.final5 m c).symm
  · rw [Cert.FfnUpDxRefIdeal.Read.val_main_v39_eq, a0, a1, a2, a3, a4]
    exact (ref_dh1 _ rx rg rw' rdh).trans (Cert.FfnUpDxIdeal.Rows.final6 m c).symm
  · rw [a0, a2, a3]
    exact (Cert.FfnUpDxRefIdeal.Read.val_main_v41_eq _ _ _).trans (ref_dg.trans (Cert.FfnUpDxIdeal.Rows.final7 m c).symm)

end Cert.FfnUpDxEq

end
-- ==== Proof.AttnBwdOffsets.lean ====
/-
  The row offsets of the attention backward's tiles in closed form. At key block `b` (grid coordinate 1) the diagonal
  tiles start at query row `512 b` and `512 b + 256`, the odd tile at `512 (b + 1)`, and trip `k` of the loop over the
  paired tiles at `512 (b + 1 + odd) + 1024 k`; head 0 sits in columns 0 … 127, head 1 in columns 128 … 255.
-/
module

public import proofs.«01_k».proof.Proof.Gen.AttnBwdIdeal.Loops

@[expose] public section

set_option maxRecDepth 16384

noncomputable section

namespace Cert.AttnBwdIdeal.Run

open Cert.AttnBwdIdeal Cert.AttnBwdIdeal.Gen
open Idealize.ShloMosaic Idealize.ShloMosaic.Tactic

theorem off7_eq : ∀ (i : grid0.Coords) (k : Fin (k0_t1_loop i).trips),
    k0_off7 i k = ![512 * (i 1).val + 512 + 512 * ((15 - (i 1).val) % 2) + 1024 * k.val, 0] := by decide +kernel
theorem off8_eq : ∀ (i : grid0.Coords) (k : Fin (k0_t1_loop i).trips),
    k0_off8 i k = ![512 * (i 1).val + 512 + 512 * ((15 - (i 1).val) % 2) + 1024 * k.val, 128] := by decide +kernel

instance (i : grid0.Coords) (k : Fin (k0_t1_loop i).trips) : ClosedOff (k0_off7 i k) := ⟨_, off7_eq i k⟩
instance (i : grid0.Coords) (k : Fin (k0_t1_loop i).trips) : ClosedOff (k0_off8 i k) := ⟨_, off8_eq i k⟩

/-- The loop over the paired tiles runs `(15 - b) / 2` times, -/
theorem trips1_eq : ∀ i : grid0.Coords, (k0_t1_loop i).trips = (15 - (i 1).val) / 2 := by decide +kernel
/-- and nothing is left for the loop after it. -/
theorem trips2_eq : ∀ i : grid0.Coords, (k0_t2_loop i).trips = 0 := by decide +kernel
/-- The odd tile is there exactly where `15 - b` is odd. -/
theorem cond2_iff : ∀ i : grid0.Coords, k0_cond2 i = 1#1 ↔ (i 1).val % 2 = 0 := by decide +kernel
/-- The last block writes the query gradient. -/
theorem cond3_iff : ∀ i : grid0.Coords, k0_cond3 i = 1#1 ↔ (i 1).val = 15 := by decide +kernel

end Cert.AttnBwdIdeal.Run

end
-- ==== Proof.AttnBwdState.lean ====
/-
  What one block of the attention backward does to its three accumulators, as functions of vectors. The accumulators
  hold the gradients of the queries (all 8192 rows of the head pair), keys and values (the block's 512 rows), 128
  columns per head. A tile takes some query rows and some key rows of one head and adds its share to each.
-/
module

public import proofs.«01_k».proof.Proof.AttnBwdOffsets
public import Idealize.ShloMosaic.Lib.VecWindow

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic
open Idealize.ShloMosaic.VecWindow

variable {F : FTy → Type} [FloatOps F]

/-- The three accumulators. -/
structure Acc (F : FTy → Type) where
  dq : Vec F S8192x256 .f32
  dk : Vec F S512x256 .f32
  dv : Vec F S512x256 .f32

/-- What a block reads: the head pair's queries and cotangents (all rows), the block's keys and values. -/
structure Src (F : FTy → Type) where
  q : Vec F S8192x256 .bf16
  d : Vec F S8192x256 .bf16
  k : Vec F S512x256 .bf16
  v : Vec F S512x256 .bf16

/-- A tile's three sums, over its query rows (shape `sq`) and key rows (shape `sk`): each takes the tile's queries,
    cotangents, keys and values and the accumulator's window, and gives the window's new contents. -/
structure Tile (F : FTy → Type) (sq sk : Shape) where
  dq : Vec F sq .bf16 → Vec F sq .bf16 → Vec F sk .bf16 → Vec F sk .bf16 → Vec F sq .f32 → Vec F sq .f32
  dk : Vec F sq .bf16 → Vec F sq .bf16 → Vec F sk .bf16 → Vec F sk .bf16 → Vec F sk .f32 → Vec F sk .f32
  dv : Vec F sq .bf16 → Vec F sq .bf16 → Vec F sk .bf16 → Vec F sk .bf16 → Vec F sk .f32 → Vec F sk .f32

/-- The diagonal tile of 512 query rows and the block's first 256 key rows. -/
def diag1 : Tile F S512x128 S256x128 where
  dq q d k v a := k0_pay62 (k0_pay56 k) (k0_pay58 q d k v) a
  dk q d k v a := k0_pay61 (k0_pay54 q) (k0_pay58 q d k v) a
  dv q d k _ a := k0_pay60 (k0_pay55 d) a (k0_pay59 q k)

/-- The diagonal tile of the last 256 query rows and the last 256 key rows. -/
def diag2 : Tile F S256x128 S256x128 where
  dq q d k v a := k0_pay80 (k0_pay73 d) (k0_pay74 k) (k0_pay75 q k) (iota .tc S256x256 32 [1] iota_S256x256_d1_w32) v a
  dk q d k v a := k0_pay79 (k0_pay72 q) (k0_pay73 d) (k0_pay75 q k) (iota .tc S256x256 32 [1] iota_S256x256_d1_w32) v a
  dv q d k _ a := k0_pay78 (k0_pay73 d) (k0_pay75 q k) (iota .tc S256x256 32 [1] iota_S256x256_d1_w32) a

/-- A tile of 512 query rows below the diagonal. -/
def odd : Tile F S512x128 S512x128 where
  dq q d k v a := k0_pay12 (k0_pay11 q d k v a)
  dk q d k v a := k0_pay10 q d k v a
  dv q d k _ a := k0_pay9 q d k a

/-- A tile of 1024 query rows below the diagonal. -/
def pair : Tile F S1024x128 S512x128 where
  dq q d k v a := k0_pay28 (k0_pay23 k) (k0_pay25 q d k v) a
  dk q d k v a := k0_pay27 q d k v a
  dv q d k _ a := k0_pay26 q d k a

/-- The tile `T` at query rows and columns `offq`, key rows and columns `offk`. -/
def tileStep {nq nk : ℕ} (T : Tile F ⟨2, ![nq, 128]⟩ ⟨2, ![nk, 128]⟩) (offq : Fin 2 → ℕ) (hq : ∀ a, offq a + (![nq, 128] : Fin 2 → ℕ) a ≤ S8192x256.size a)
    (offk : Fin 2 → ℕ) (hk : ∀ a, offk a + (![nk, 128] : Fin 2 → ℕ) a ≤ S512x256.size a) (x : Src F) (s : Acc F) : Acc F where
  dq := put s.dq offq ![nq, 128] (T.dq (window x.q offq _ hq) (window x.d offq _ hq) (window x.k offk _ hk) (window x.v offk _ hk) (window s.dq offq _ hq))
  dk := put s.dk offk ![nk, 128] (T.dk (window x.q offq _ hq) (window x.d offq _ hq) (window x.k offk _ hk) (window x.v offk _ hk) (window s.dk offk _ hk))
  dv := put s.dv offk ![nk, 128] (T.dv (window x.q offq _ hq) (window x.d offq _ hq) (window x.k offk _ hk) (window x.v offk _ hk) (window s.dv offk _ hk))

/-- Every head pair's first block starts the query gradient at zero; every block starts its own two at zero. -/
def start (i : grid0.Coords) (dq : Vec F S8192x256 .f32) : Acc F where
  dq := if (i 1).val = 0 then k0_pay51 else dq
  dk := k0_pay52
  dv := k0_pay53

/-- The diagonal: both tiles, both heads. -/
def diagStep (i : grid0.Coords) (x : Src F) (s : Acc F) : Acc F :=
  tileStep diag2 (k0_off4 i) (k0_off4_inb i) ![256, 128] inb_S512x256_S256x128_256_128 x
    (tileStep diag2 (k0_off3 i) (k0_off3_inb i) ![256, 0] inb_S512x256_S256x128_256_0 x
      (tileStep diag1 (k0_off2 i) (k0_off2_inb i) ![0, 128] inb_S512x256_S256x128_0_128 x
        (tileStep diag1 (k0_off1 i) (k0_off1_inb i) ![0, 0] inb_S512x256_S256x128_0_0 x s)))

/-- The odd tile, both heads, where there is one. -/
def oddStep (i : grid0.Coords) (x : Src F) (s : Acc F) : Acc F :=
  if h : k0_cond2 i = 1#1 then
    tileStep odd (k0_off6 i) (k0_off6_inb i h) ![0, 128] inb_S512x256_S512x128_0_128 x
      (tileStep odd (k0_off5 i) (k0_off5_inb i h) ![0, 0] inb_S512x256_S512x128_0_0 x s)
  else s

/-- Trip `k` of the loop over the paired tiles, both heads. -/
def pairStep (i : grid0.Coords) (x : Src F) (k : Fin (k0_t1_loop i).trips) (s : Acc F) : Acc F :=
  tileStep pair (k0_off8 i k) (k0_off8_inb i k) ![0, 128] inb_S512x256_S512x128_0_128 x
    (tileStep pair (k0_off7 i k) (k0_off7_inb i k) ![0, 0] inb_S512x256_S512x128_0_0 x s)

/-- The first `k` trips. -/
def pairs (i : grid0.Coords) (x : Src F) (s : Acc F) : ℕ → Acc F
  | 0 => s
  | k + 1 => if h : k < (k0_t1_loop i).trips then pairStep i x ⟨k, h⟩ (pairs i x s k) else pairs i x s k

theorem pairs_succ (i : grid0.Coords) (x : Src F) (s : Acc F) (k : Fin (k0_t1_loop i).trips) :
    pairs i x s (k.val + 1) = pairStep i x k (pairs i x s k.val) := dif_pos k.isLt

/-- The whole block. -/
def block (i : grid0.Coords) (x : Src F) (dq : Vec F S8192x256 .f32) : Acc F :=
  pairs i x (oddStep i x (diagStep i x (start i dq))) (k0_t1_loop i).trips

end Cert.AttnBwdIdeal.Run

end
-- ==== Proof.AttnBwdTile.lean ====
/-
  A tile of the attention backward at one entry, over the extended reals: the probabilities of its query rows and key
  rows, the gradients of their scores, and the three sums the tile adds to its accumulators.
-/
module

public import proofs.«01_k».proof.Proof.AttnBwdState
public import Idealize.ShloMosaic.Lib.Pointwise
public import Idealize.ShloMosaic.Lib.WordCmp

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic

/-- A key's probability at a query: the exponential of their product, zero where the mask `M` is false. -/
def tprob {nq nk : ℕ} (M : Fin nq → Fin nk → Prop) [∀ r s, Decidable (M r s)] (q : FVec Ideal ⟨2, ![nq, 128]⟩ .bf16) (k : FVec Ideal ⟨2, ![nk, 128]⟩ .bf16)
    (r : Fin nq) (s : Fin nk) : EReal :=
  if M r s then Ideal.exp (∑ l : Fin 128, k (ix2 s l) * q (ix2 r l)) else 0

/-- The gradient of the score: the probability times the product of cotangent and value. -/
def tgrad {nq nk : ℕ} (M : Fin nq → Fin nk → Prop) [∀ r s, Decidable (M r s)] (q d : FVec Ideal ⟨2, ![nq, 128]⟩ .bf16) (k v : FVec Ideal ⟨2, ![nk, 128]⟩ .bf16)
    (r : Fin nq) (s : Fin nk) : EReal :=
  tprob M q k r s * ∑ l : Fin 128, v (ix2 s l) * d (ix2 r l)

/-- The tile adds the three products of its probabilities and gradients. -/
structure Tile.Adds {nq nk : ℕ} (T : Tile Ideal ⟨2, ![nq, 128]⟩ ⟨2, ![nk, 128]⟩) (M : Fin nq → Fin nk → Prop) [∀ r s, Decidable (M r s)] : Prop where
  dq : ∀ (q d : FVec Ideal ⟨2, ![nq, 128]⟩ .bf16) (k v : FVec Ideal ⟨2, ![nk, 128]⟩ .bf16) (a : FVec Ideal ⟨2, ![nq, 128]⟩ .f32) (r : Fin nq) (l : Fin 128),
    T.dq q d k v a (ix2 r l) = a (ix2 r l) + ∑ s : Fin nk, tgrad M q d k v r s * k (ix2 s l)
  dk : ∀ (q d : FVec Ideal ⟨2, ![nq, 128]⟩ .bf16) (k v : FVec Ideal ⟨2, ![nk, 128]⟩ .bf16) (a : FVec Ideal ⟨2, ![nk, 128]⟩ .f32) (s : Fin nk) (l : Fin 128),
    T.dk q d k v a (ix2 s l) = a (ix2 s l) + ∑ r : Fin nq, tgrad M q d k v r s * q (ix2 r l)
  dv : ∀ (q d : FVec Ideal ⟨2, ![nq, 128]⟩ .bf16) (k v : FVec Ideal ⟨2, ![nk, 128]⟩ .bf16) (a : FVec Ideal ⟨2, ![nk, 128]⟩ .f32) (s : Fin nk) (l : Fin 128),
    T.dv q d k v a (ix2 s l) = a (ix2 s l) + ∑ r : Fin nq, tprob M q k r s * d (ix2 r l)

/-- The mask's comparison of two lane numbers. -/
theorem select_sge {n m : ℕ} (hn : n ≤ 1024) (hm : m ≤ 1024) (r : Fin n) (s : Fin m) (x y : EReal) :
    Scalar.select (IntOp.cmpi .sge (BitVec.ofNat 32 r.val) (BitVec.ofNat 32 s.val)) x y = if s.val ≤ r.val then x else y := by
  have hr := r.isLt
  have hs := s.isLt
  rw [WordCmp.cmpi_sge_ofNat (by omega) (by omega), WordCmp.select_decide]

theorem odd_adds : (odd (F := Ideal)).Adds fun _ _ => True where
  dq q d k v a r l := by
    pointwise [odd, k0_pay12, k0_pay11, k0_pay8, k0_pay7, k0_pay6, k0_pay5, k0_pay4, tgrad, tprob]
  dk q d k v a s l := by
    pointwise [odd, k0_pay10, k0_pay8, k0_pay7, k0_pay6, k0_pay5, k0_pay4, tgrad, tprob]
  dv q d k v a s l := by
    pointwise [odd, k0_pay9, k0_pay7, k0_pay6, k0_pay5, k0_pay4, tprob]

theorem pair_adds : (pair (F := Ideal)).Adds fun _ _ => True where
  dq q d k v a r l := by
    pointwise [pair, k0_pay28, k0_pay25, k0_pay24, k0_pay23, k0_pay22, k0_pay21, tgrad, tprob]
  dk q d k v a s l := by
    pointwise [pair, k0_pay27, k0_pay25, k0_pay24, k0_pay23, k0_pay22, k0_pay21, tgrad, tprob]
  dv q d k v a s l := by
    pointwise [pair, k0_pay26, k0_pay25, k0_pay24, k0_pay23, k0_pay22, k0_pay21, tprob]

theorem diag1_adds : (diag1 (F := Ideal)).Adds fun r s => s.val ≤ r.val where
  dq q d k v a r l := by
    pointwise [diag1, k0_pay62, k0_pay56, k0_pay58, k0_pay55, k0_pay57, k0_pay54, tgrad, tprob]
    simp only [select_sge (by decide : 512 ≤ 1024) (by decide : 256 ≤ 1024), ite_mul, zero_mul]
  dk q d k v a s l := by
    pointwise [diag1, k0_pay61, k0_pay56, k0_pay58, k0_pay55, k0_pay57, k0_pay54, tgrad, tprob]
    simp only [select_sge (by decide : 512 ≤ 1024) (by decide : 256 ≤ 1024), ite_mul, zero_mul]
  dv q d k v a s l := by
    pointwise [diag1, k0_pay60, k0_pay59, k0_pay55, k0_pay57, k0_pay54, k0_pay56, tprob]
    simp only [select_sge (by decide : 512 ≤ 1024) (by decide : 256 ≤ 1024), ite_mul, zero_mul]

theorem diag2_adds : (diag2 (F := Ideal)).Adds fun r s => s.val ≤ r.val where
  dq q d k v a r l := by
    pointwise [diag2, k0_pay80, k0_pay77, k0_pay76, k0_pay75, k0_pay74, k0_pay73, k0_pay72, tgrad, tprob]
    simp only [select_sge (by decide : 256 ≤ 1024) (by decide : 256 ≤ 1024), ite_mul, zero_mul]
  dk q d k v a s l := by
    pointwise [diag2, k0_pay79, k0_pay77, k0_pay76, k0_pay75, k0_pay74, k0_pay73, k0_pay72, tgrad, tprob]
    simp only [select_sge (by decide : 256 ≤ 1024) (by decide : 256 ≤ 1024), ite_mul, zero_mul]
  dv q d k v a s l := by
    pointwise [diag2, k0_pay78, k0_pay77, k0_pay76, k0_pay75, k0_pay74, k0_pay73, k0_pay72, tprob]
    simp only [select_sge (by decide : 256 ≤ 1024) (by decide : 256 ≤ 1024), ite_mul, zero_mul]

end Cert.AttnBwdIdeal.Run

end
-- ==== Proof.AttnBwdSum.lean ====
/-
  A whole block of the attention backward as sums. Its tiles are apart from each other and cover every query row at or
  below the diagonal; above it the probabilities are zero. So each accumulator takes its full product.
-/
module

public import proofs.«01_k».proof.Proof.AttnBwdTile
public import Idealize.ShloMosaic.Lib.FinSumWindow

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic
open Idealize.ShloMosaic.VecWindow

/-- Column `l` of head `h` of the pair. -/
def hcol (h : Fin 2) (l : Fin 128) : Fin 256 := ⟨128 * h.val + l.val, by omega⟩

/-- The probability of key `s` of block `kb` at query `r`, zero above the diagonal. -/
def prob (kb : ℕ) (x : Src Ideal) (h : Fin 2) (r : Fin 8192) (s : Fin 512) : EReal :=
  if 512 * kb + s.val ≤ r.val then Ideal.exp (∑ l : Fin 128, (x.k (ix2 s (hcol h l)) : EReal) * x.q (ix2 r (hcol h l))) else 0

/-- The gradient of the score of key `s` at query `r`. -/
def grad (kb : ℕ) (x : Src Ideal) (h : Fin 2) (r : Fin 8192) (s : Fin 512) : EReal :=
  prob kb x h r s * ∑ l : Fin 128, (x.v (ix2 s (hcol h l)) : EReal) * x.d (ix2 r (hcol h l))

theorem window_at {N n q0 : ℕ} (φ : FTy) (x : FVec Ideal ⟨2, ![N, 256]⟩ φ) (h : Fin 2) (hb : ∀ a, (![q0, 128 * h.val] : Fin 2 → ℕ) a + (![n, 128] : Fin 2 → ℕ) a ≤ (⟨2, ![N, 256]⟩ : Shape).size a)
    (r : Fin n) (l : Fin 128) (R : Fin N) (hR : R.val = q0 + r.val) : window x ![q0, 128 * h.val] ![n, 128] hb (ix2 r l) = x (ix2 R (hcol h l)) :=
  congrArg x (funext fun a => Fin.ext (by
    match a with
    | ⟨0, _⟩ => show q0 + 1 * r.val = R.val; omega
    | ⟨1, _⟩ => show 128 * h.val + 1 * l.val = 128 * h.val + l.val; omega))

theorem put_in {N n q0 : ℕ} (x : FVec Ideal ⟨2, ![N, 256]⟩ .f32) (w : FVec Ideal ⟨2, ![n, 128]⟩ .f32) (h : Fin 2) (r : Fin n) (l : Fin 128) (R : Fin N) (hR : R.val = q0 + r.val) :
    put x ![q0, 128 * h.val] ![n, 128] w (ix2 R (hcol h l)) = w (ix2 r l) := by
  have hm : ∀ a : Fin 2, (![q0, 128 * h.val] : Fin 2 → ℕ) a ≤ ((ix2 R (hcol h l) : (⟨2, ![N, 256]⟩ : Shape).Idx) a).val
      ∧ ((ix2 R (hcol h l) : (⟨2, ![N, 256]⟩ : Shape).Idx) a).val < (![q0, 128 * h.val] : Fin 2 → ℕ) a + (![n, 128] : Fin 2 → ℕ) a := fun a => by
    match a with
    | ⟨0, _⟩ => show q0 ≤ R.val ∧ R.val < q0 + n; omega
    | ⟨1, _⟩ => show 128 * h.val ≤ 128 * h.val + l.val ∧ 128 * h.val + l.val < 128 * h.val + 128; omega
  refine (dif_pos hm).trans (congrArg w (funext fun a => Fin.ext ?_))
  match a with
  | ⟨0, _⟩ => show R.val - q0 = r.val; omega
  | ⟨1, _⟩ => show 128 * h.val + l.val - 128 * h.val = l.val; omega

theorem put_out {N n q0 : ℕ} (x : FVec Ideal ⟨2, ![N, 256]⟩ .f32) (w : FVec Ideal ⟨2, ![n, 128]⟩ .f32) (h h' : Fin 2) (R : Fin N) (l : Fin 128)
    (hR : ¬ (h' = h ∧ q0 ≤ R.val ∧ R.val < q0 + n)) : put x ![q0, 128 * h.val] ![n, 128] w (ix2 R (hcol h' l)) = x (ix2 R (hcol h' l)) := by
  refine dif_neg fun hm => hR ?_
  have h0 : q0 ≤ R.val ∧ R.val < q0 + n := hm 0
  have h1 : 128 * h.val ≤ 128 * h'.val + l.val ∧ 128 * h'.val + l.val < 128 * h.val + 128 := hm 1
  exact ⟨Fin.ext (by omega), h0⟩

open scoped Classical

/-- Equivalent conditions, decided either way. -/
theorem ite_iff {P Q : Prop} {dP : Decidable P} {dQ : Decidable Q} {u v : EReal} (h : P ↔ Q) : @ite _ P dP u v = @ite _ Q dQ u v := by
  by_cases p : P
  · rw [if_pos p, if_pos (h.1 p)]
  · rw [if_neg p, if_neg fun q => p (h.2 q)]

/-- A part of a sum and the terms of a window apart from it. -/
theorem sum_or_window {N n : ℕ} (lo : ℕ) (hlo : lo + n ≤ N) (f : Fin N → EReal) (P : Fin N → Prop) (hP : ∀ s : Fin N, lo ≤ s.val → s.val < lo + n → ¬ P s) :
    (∑ s : Fin N, if P s then f s else 0) + ∑ s : Fin n, f ⟨lo + s.val, by omega⟩ = ∑ s : Fin N, if P s ∨ lo ≤ s.val ∧ s.val < lo + n then f s else 0 := by
  have hw := Idealize.ShloMosaic.FinSumWindow.sum_window lo hlo (fun s : Fin N => if lo ≤ s.val ∧ s.val < lo + n then f s else 0) (fun s h => if_neg h)
  have hi : (∑ s : Fin n, f ⟨lo + s.val, by omega⟩) = ∑ s : Fin n, (if lo ≤ lo + s.val ∧ lo + s.val < lo + n then f ⟨lo + s.val, by omega⟩ else 0) :=
    Finset.sum_congr rfl fun s _ => (if_pos ⟨by omega, by omega⟩).symm
  rw [hi, ← hw, ← Finset.sum_add_distrib]
  refine Finset.sum_congr rfl fun s _ => ?_
  by_cases h : lo ≤ s.val ∧ s.val < lo + n
  · rw [if_neg (hP s h.1 h.2), if_pos h, if_pos (Or.inr h), zero_add]
  · by_cases hp : P s
    · rw [if_pos hp, if_neg h, if_pos (Or.inl hp), add_zero]
    · rw [if_neg hp, if_neg h, if_neg (by tauto), add_zero]

/-- The accumulators hold the products over the pairs of query and key in `D`. -/
structure Inv (kb : ℕ) (x : Src Ideal) (base : FVec Ideal S8192x256 .f32) (D : Fin 2 → ℕ → ℕ → Prop) (a : Acc Ideal) : Prop where
  dq : ∀ (r : Fin 8192) (h : Fin 2) (l : Fin 128), (a.dq (ix2 r (hcol h l)) : EReal)
    = base (ix2 r (hcol h l)) + ∑ s : Fin 512, if D h r.val s.val then grad kb x h r s * x.k (ix2 s (hcol h l)) else 0
  dk : ∀ (s : Fin 512) (h : Fin 2) (l : Fin 128), (a.dk (ix2 s (hcol h l)) : EReal)
    = ∑ r : Fin 8192, if D h r.val s.val then grad kb x h r s * x.q (ix2 r (hcol h l)) else 0
  dv : ∀ (s : Fin 512) (h : Fin 2) (l : Fin 128), (a.dv (ix2 s (hcol h l)) : EReal)
    = ∑ r : Fin 8192, if D h r.val s.val then prob kb x h r s * x.d (ix2 r (hcol h l)) else 0

variable {kb : ℕ} {x : Src Ideal} {base : FVec Ideal S8192x256 .f32} {D D' : Fin 2 → ℕ → ℕ → Prop} {a : Acc Ideal}

theorem Inv.congr (hi : Inv kb x base D a) (hD : ∀ h r s, r < 8192 → s < 512 → (D' h r s ↔ D h r s)) : Inv kb x base D' a where
  dq r h l := (hi.dq r h l).trans (congrArg _ (Finset.sum_congr rfl fun s _ => ite_iff (hD h r s r.isLt s.isLt).symm))
  dk s h l := (hi.dk s h l).trans (Finset.sum_congr rfl fun r _ => ite_iff (hD h r s r.isLt s.isLt).symm)
  dv s h l := (hi.dv s h l).trans (Finset.sum_congr rfl fun r _ => ite_iff (hD h r s r.isLt s.isLt).symm)

/-- A tile apart from `D` joins it. -/
theorem Inv.tile (hi : Inv kb x base D a) {nq nk : ℕ} {T : Tile Ideal ⟨2, ![nq, 128]⟩ ⟨2, ![nk, 128]⟩} {M : Fin nq → Fin nk → Prop} [∀ r s, Decidable (M r s)] (hT : T.Adds M)
    {offq offk : Fin 2 → ℕ} {hq hk} (q0 k0 : ℕ) (h : Fin 2) (eq : offq = ![q0, 128 * h.val]) (ek : offk = ![k0, 128 * h.val])
    (hM : ∀ r s, M r s ↔ 512 * kb + (k0 + s.val) ≤ q0 + r.val)
    (hd : ∀ r s, q0 ≤ r → r < q0 + nq → k0 ≤ s → s < k0 + nk → ¬ D h r s) :
    Inv kb x base (fun h' r s => D h' r s ∨ h' = h ∧ (q0 ≤ r ∧ r < q0 + nq) ∧ k0 ≤ s ∧ s < k0 + nk) (tileStep T offq hq offk hk x a) := by
  subst eq ek
  have hqn : q0 + nq ≤ 8192 := hq 0
  have hkn : k0 + nk ≤ 512 := hk 0
  have ep : ∀ (r : Fin nq) (s : Fin nk), tprob M (window x.q ![q0, 128 * h.val] ![nq, 128] hq) (window x.k ![k0, 128 * h.val] ![nk, 128] hk) r s
      = prob kb x h ⟨q0 + r.val, by omega⟩ ⟨k0 + s.val, by omega⟩ := fun r s => by
    unfold tprob prob
    refine if_congr (hM r s) (congrArg Ideal.exp (Finset.sum_congr rfl fun l _ => ?_)) rfl
    exact congrArg₂ (fun a b : EReal => a * b) (window_at .bf16 x.k h hk s l _ rfl) (window_at .bf16 x.q h hq r l _ rfl)
  have eg : ∀ (r : Fin nq) (s : Fin nk), tgrad M (window x.q ![q0, 128 * h.val] ![nq, 128] hq) (window x.d ![q0, 128 * h.val] ![nq, 128] hq)
        (window x.k ![k0, 128 * h.val] ![nk, 128] hk) (window x.v ![k0, 128 * h.val] ![nk, 128] hk) r s
      = grad kb x h ⟨q0 + r.val, by omega⟩ ⟨k0 + s.val, by omega⟩ := fun r s => by
    unfold tgrad grad
    rw [ep r s]
    refine congrArg _ (Finset.sum_congr rfl fun l _ => ?_)
    exact congrArg₂ (fun a b : EReal => a * b) (window_at .bf16 x.v h hk s l _ rfl) (window_at .bf16 x.d h hq r l _ rfl)
  constructor
  · intro r h' l
    by_cases hin : h' = h ∧ q0 ≤ r.val ∧ r.val < q0 + nq
    · obtain ⟨rfl, h1, h2⟩ := hin
      have hr : r.val = q0 + (⟨r.val - q0, by omega⟩ : Fin nq).val := by show r.val = q0 + (r.val - q0); omega
      refine (put_in a.dq _ h' ⟨r.val - q0, by omega⟩ l r hr).trans ?_
      rw [hT.dq, window_at .f32 a.dq h' hq _ l r hr, hi.dq r h' l, add_assoc]
      refine congrArg _ ?_
      have hs := sum_or_window k0 hkn (fun s => grad kb x h' r s * x.k (ix2 s (hcol h' l))) (fun s => D h' r.val s.val) (fun s => hd r s h1 h2)
      refine Eq.trans (congrArg _ (Finset.sum_congr rfl fun s _ => ?_)) (hs.trans (Finset.sum_congr rfl fun s _ => ite_iff ?_))
      · rw [eg, window_at .bf16 x.k h' hk s l ⟨k0 + s.val, by omega⟩ rfl]
        exact congrArg (fun R => grad kb x h' R _ * _) (Fin.ext hr.symm)
      · exact ⟨fun o => o.imp id fun o => ⟨rfl, ⟨h1, h2⟩, o⟩, fun o => o.imp id fun o => o.2.2⟩
    · refine (put_out a.dq _ h h' r l hin).trans ((hi.dq r h' l).trans (congrArg _ (Finset.sum_congr rfl fun s _ => ite_iff ?_)))
      exact ⟨Or.inl, fun o => o.elim id fun o => absurd ⟨o.1, o.2.1⟩ hin⟩
  · intro s h' l
    by_cases hin : h' = h ∧ k0 ≤ s.val ∧ s.val < k0 + nk
    · obtain ⟨rfl, h1, h2⟩ := hin
      have hr : s.val = k0 + (⟨s.val - k0, by omega⟩ : Fin nk).val := by show s.val = k0 + (s.val - k0); omega
      refine (put_in a.dk _ h' ⟨s.val - k0, by omega⟩ l s hr).trans ?_
      rw [hT.dk, window_at .f32 a.dk h' hk _ l s hr, hi.dk s h' l]
      have hs := sum_or_window q0 hqn (fun r => grad kb x h' r s * x.q (ix2 r (hcol h' l))) (fun r => D h' r.val s.val) (fun r a b => hd r s a b h1 h2)
      refine Eq.trans (congrArg _ (Finset.sum_congr rfl fun r _ => ?_)) (hs.trans (Finset.sum_congr rfl fun r _ => ite_iff ?_))
      · rw [eg, window_at .bf16 x.q h' hq r l ⟨q0 + r.val, by omega⟩ rfl]
        exact congrArg (fun S => grad kb x h' _ S * _) (Fin.ext hr.symm)
      · exact ⟨fun o => o.imp id fun o => ⟨rfl, o, h1, h2⟩, fun o => o.imp id fun o => o.2.1⟩
    · refine (put_out a.dk _ h h' s l hin).trans ((hi.dk s h' l).trans (Finset.sum_congr rfl fun r _ => ite_iff ?_))
      exact ⟨Or.inl, fun o => o.elim id fun o => absurd ⟨o.1, o.2.2⟩ hin⟩
  · intro s h' l
    by_cases hin : h' = h ∧ k0 ≤ s.val ∧ s.val < k0 + nk
    · obtain ⟨rfl, h1, h2⟩ := hin
      have hr : s.val = k0 + (⟨s.val - k0, by omega⟩ : Fin nk).val := by show s.val = k0 + (s.val - k0); omega
      refine (put_in a.dv _ h' ⟨s.val - k0, by omega⟩ l s hr).trans ?_
      rw [hT.dv, window_at .f32 a.dv h' hk _ l s hr, hi.dv s h' l]
      have hs := sum_or_window q0 hqn (fun r => prob kb x h' r s * x.d (ix2 r (hcol h' l))) (fun r => D h' r.val s.val) (fun r a b => hd r s a b h1 h2)
      refine Eq.trans (congrArg _ (Finset.sum_congr rfl fun r _ => ?_)) (hs.trans (Finset.sum_congr rfl fun r _ => ite_iff ?_))
      · rw [ep, window_at .bf16 x.d h' hq r l ⟨q0 + r.val, by omega⟩ rfl]
        exact congrArg (fun S => prob kb x h' _ S * _) (Fin.ext hr.symm)
      · exact ⟨fun o => o.imp id fun o => ⟨rfl, o, h1, h2⟩, fun o => o.imp id fun o => o.2.1⟩
    · refine (put_out a.dv _ h h' s l hin).trans ((hi.dv s h' l).trans (Finset.sum_congr rfl fun r _ => ite_iff ?_))
      exact ⟨Or.inl, fun o => o.elim id fun o => absurd ⟨o.1, o.2.2⟩ hin⟩

/-- The pairs the diagonal tiles cover, -/
def Diag (kb r s : ℕ) : Prop :=
  512 * kb ≤ r ∧ r < 512 * kb + 512 ∧ s < 256 ∨ 512 * kb + 256 ≤ r ∧ r < 512 * kb + 512 ∧ 256 ≤ s

/-- and with the odd tile and the first `k` trips. -/
def Below (kb k r s : ℕ) : Prop :=
  Diag kb r s ∨ 512 * kb + 512 ≤ r ∧ r < 512 * kb + 512 + 512 * ((15 - kb) % 2) + 1024 * k

theorem inv_start (i : grid0.Coords) (x : Src Ideal) (dq : FVec Ideal S8192x256 .f32) :
    Inv (i 1).val x (start (F := Ideal) i dq).dq (fun _ _ _ => False) (start (F := Ideal) i dq) where
  dq r h l := by simp
  dk s h l := by
    simp only [if_false, Finset.sum_const_zero]
    show k0_pay52 (F := Ideal) (ix2 s (hcol h l)) = 0
    pointwise [k0_pay52]
  dv s h l := by
    simp only [if_false, Finset.sum_const_zero]
    show k0_pay53 (F := Ideal) (ix2 s (hcol h l)) = 0
    pointwise [k0_pay53]

theorem inv_diag (i : grid0.Coords) (x : Src Ideal) (a : Acc Ideal) (hi : Inv (i 1).val x base (fun _ _ _ => False) a) :
    Inv (i 1).val x base (fun _ r s => Diag (i 1).val r s) (diagStep i x a) := by
  unfold diagStep
  have h1 := hi.tile diag1_adds (hq := k0_off1_inb i) (hk := inb_S512x256_S256x128_0_0) (512 * (i 1).val) 0 0 (k0_off1_eq i) rfl
    (fun r s => by omega) (fun r s _ _ _ _ h => h)
  have h2 := h1.tile diag1_adds (hq := k0_off2_inb i) (hk := inb_S512x256_S256x128_0_128) (512 * (i 1).val) 0 1 (k0_off2_eq i) rfl
    (fun r s => by omega) (fun r s _ _ _ _ h => by simp at h)
  have h3 := h2.tile diag2_adds (hq := k0_off3_inb i) (hk := inb_S512x256_S256x128_256_0) (512 * (i 1).val + 256) 256 0 (k0_off3_eq i) rfl
    (fun r s => by omega) (fun r s _ _ _ _ h => by simp at h; omega)
  have h4 := h3.tile diag2_adds (hq := k0_off4_inb i) (hk := inb_S512x256_S256x128_256_128) (512 * (i 1).val + 256) 256 1 (k0_off4_eq i) rfl
    (fun r s => by omega) (fun r s _ _ _ _ h => by simp at h; omega)
  refine h4.congr fun h r s hr hs => ?_
  unfold Diag
  match h with
  | 0 => simp; omega
  | 1 => simp; omega

theorem inv_odd (i : grid0.Coords) (x : Src Ideal) (a : Acc Ideal) (hi : Inv (i 1).val x base (fun _ r s => Diag (i 1).val r s) a) :
    Inv (i 1).val x base (fun _ r s => Below (i 1).val 0 r s) (oddStep i x a) := by
  have hb : (i 1).val < 16 := (i 1).isLt
  unfold oddStep
  by_cases hc : k0_cond2 i = 1#1
  · rw [dif_pos hc]
    have he := (cond2_iff i).1 hc
    have h1 := hi.tile odd_adds (hq := k0_off5_inb i hc) (hk := inb_S512x256_S512x128_0_0) (512 * (i 1).val + 512) 0 0 (k0_off5_eq i) rfl
      (fun r s => by simp; omega) (fun r s _ _ _ _ h => by unfold Diag at h; omega)
    have h2 := h1.tile odd_adds (hq := k0_off6_inb i hc) (hk := inb_S512x256_S512x128_0_128) (512 * (i 1).val + 512) 0 1 (k0_off6_eq i) rfl
      (fun r s => by simp; omega) (fun r s _ _ _ _ h => by unfold Diag at h; simp at h; omega)
    refine h2.congr fun h r s hr hs => ?_
    unfold Below Diag
    match h with
    | 0 => simp; omega
    | 1 => simp; omega
  · rw [dif_neg hc]
    have he : ¬ (i 1).val % 2 = 0 := fun e => hc ((cond2_iff i).2 e)
    refine hi.congr fun h r s hr hs => ?_
    unfold Below
    refine or_iff_left ?_
    omega

theorem inv_pairs (i : grid0.Coords) (x : Src Ideal) (a : Acc Ideal) (hi : Inv (i 1).val x base (fun _ r s => Below (i 1).val 0 r s) a) (k : ℕ) :
    k ≤ (k0_t1_loop i).trips → Inv (i 1).val x base (fun _ r s => Below (i 1).val k r s) (pairs i x a k) := by
  induction k with
  | zero => exact fun _ => hi
  | succ k ih =>
    intro hk
    rw [pairs_succ i x a ⟨k, hk⟩]
    have hk' := ih (Nat.le_of_lt hk)
    unfold pairStep
    have h1 := hk'.tile pair_adds (hq := k0_off7_inb i ⟨k, hk⟩) (hk := inb_S512x256_S512x128_0_0) (512 * (i 1).val + 512 + 512 * ((15 - (i 1).val) % 2) + 1024 * k) 0 0
      (off7_eq i ⟨k, hk⟩) rfl (fun r s => by simp; omega) (fun r s _ _ _ _ h => by unfold Below Diag at h; omega)
    have h2 := h1.tile pair_adds (hq := k0_off8_inb i ⟨k, hk⟩) (hk := inb_S512x256_S512x128_0_128) (512 * (i 1).val + 512 + 512 * ((15 - (i 1).val) % 2) + 1024 * k) 0 1
      (off8_eq i ⟨k, hk⟩) rfl (fun r s => by simp; omega) (fun r s _ _ _ _ h => by unfold Below Diag at h; simp at h; omega)
    refine h2.congr fun h r s hr hs => ?_
    unfold Below Diag
    match h with
    | 0 => simp; omega
    | 1 => simp; omega

/-- The block's accumulators: each takes the product over all its pairs. -/
theorem block_inv (i : grid0.Coords) (x : Src Ideal) (dq : FVec Ideal S8192x256 .f32) :
    Inv (i 1).val x (start (F := Ideal) i dq).dq (fun _ r s => Below (i 1).val ((15 - (i 1).val) / 2) r s) (block (F := Ideal) i x dq) := by
  have := inv_pairs i x _ (inv_odd i x _ (inv_diag i x _ (inv_start i x dq))) _ le_rfl
  rw [trips1_eq] at this
  unfold block
  rw [trips1_eq]
  exact this

theorem prob_above {kb : ℕ} (hb : kb < 16) (x : Src Ideal) (h : Fin 2) (r : Fin 8192) (s : Fin 512) (hn : ¬ Below kb ((15 - kb) / 2) r.val s.val) : prob kb x h r s = 0 := by
  refine if_neg fun hle => hn ?_
  have := r.isLt
  have := s.isLt
  unfold Below Diag
  omega

theorem grad_above {kb : ℕ} (hb : kb < 16) (x : Src Ideal) (h : Fin 2) (r : Fin 8192) (s : Fin 512) (hn : ¬ Below kb ((15 - kb) / 2) r.val s.val) : grad kb x h r s = 0 := by
  unfold grad
  rw [prob_above hb x h r s hn, zero_mul]

theorem block_dq (i : grid0.Coords) (x : Src Ideal) (dq : FVec Ideal S8192x256 .f32) (r : Fin 8192) (h : Fin 2) (l : Fin 128) :
    ((block (F := Ideal) i x dq).dq (ix2 r (hcol h l)) : EReal) = (start (F := Ideal) i dq).dq (ix2 r (hcol h l)) + ∑ s : Fin 512, grad (i 1).val x h r s * x.k (ix2 s (hcol h l)) := by
  refine ((block_inv i x dq).dq r h l).trans (congrArg _ (Finset.sum_congr rfl fun s _ => ?_))
  by_cases hd : Below (i 1).val ((15 - (i 1).val) / 2) r.val s.val
  · exact if_pos hd
  · rw [if_neg hd, grad_above (i 1).isLt x h r s hd, zero_mul]

theorem block_dk (i : grid0.Coords) (x : Src Ideal) (dq : FVec Ideal S8192x256 .f32) (s : Fin 512) (h : Fin 2) (l : Fin 128) :
    ((block (F := Ideal) i x dq).dk (ix2 s (hcol h l)) : EReal) = ∑ r : Fin 8192, grad (i 1).val x h r s * x.q (ix2 r (hcol h l)) := by
  refine ((block_inv i x dq).dk s h l).trans (Finset.sum_congr rfl fun r _ => ?_)
  by_cases hd : Below (i 1).val ((15 - (i 1).val) / 2) r.val s.val
  · exact if_pos hd
  · rw [if_neg hd, grad_above (i 1).isLt x h r s hd, zero_mul]

theorem block_dv (i : grid0.Coords) (x : Src Ideal) (dq : FVec Ideal S8192x256 .f32) (s : Fin 512) (h : Fin 2) (l : Fin 128) :
    ((block (F := Ideal) i x dq).dv (ix2 s (hcol h l)) : EReal) = ∑ r : Fin 8192, prob (i 1).val x h r s * x.d (ix2 r (hcol h l)) := by
  refine ((block_inv i x dq).dv s h l).trans (Finset.sum_congr rfl fun r _ => ?_)
  by_cases hd : Below (i 1).val ((15 - (i 1).val) / 2) r.val s.val
  · exact if_pos hd
  · rw [if_neg hd, prob_above (i 1).isLt x h r s hd, zero_mul]

end Cert.AttnBwdIdeal.Run

end
-- ==== Proof.AttnBwdTrip.lean ====
/-
  One trip of the attention backward's loop over the paired tiles, and the loop by its invariant.
-/
module

public import proofs.«01_k».proof.Proof.AttnBwdState

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic
open Idealize.ShloMosaic.VecWindow Idealize.ShloMosaic.View
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the kernel's frame. -/
local notation "𝕄" => MT nD τ sig Unit (Elt F) ℕ (UR sig nD τ) ℕ

section
variable (c : Dev nD) (i : grid0.Coords)
  (arg2 : Memref sig .tc .vmem S8192x256 .bf16) (harg2 : arg2.IsWhole)
  (arg3 : Memref sig .tc .vmem S8192x256 .bf16) (harg3 : arg3.IsWhole)
  (arg4 : Memref sig .tc .vmem S512x256 .bf16) (harg4 : arg4.IsWhole)
  (arg5 : Memref sig .tc .vmem S512x256 .bf16) (harg5 : arg5.IsWhole)
  (arg6 : Memref sig .tc .vmem S8192x128 .bf16) (harg6 : arg6.IsWhole)
  (arg7 : Memref sig .tc .vmem S512x128 .bf16) (harg7 : arg7.IsWhole)
  (arg8 : Memref sig .tc .vmem S512x128 .bf16) (harg8 : arg8.IsWhole)
  (arg9 : Memref sig .tc .vmem S1x8192x128 .f32) (harg9 : arg9.IsWhole)
  (arg10 : Memref sig .tc .vmem S1x512x128 .f32) (harg10 : arg10.IsWhole)
  (arg11 : Memref sig .tc .vmem S8192x256 .f32) (harg11 : arg11.IsWhole)
  (arg12 : Memref sig .tc .vmem S512x256 .f32) (harg12 : arg12.IsWhole)
  (arg13 : Memref sig .tc .vmem S512x256 .f32) (harg13 : arg13.IsWhole)

/-- What the block reads, of the four buffers' contents. -/
abbrev src (f2 : BufTy.Contents (Elt F) arg2.view.ty) (f3 : BufTy.Contents (Elt F) arg3.view.ty)
    (f4 : BufTy.Contents (Elt F) arg4.view.ty) (f5 : BufTy.Contents (Elt F) arg5.view.ty) : Src F :=
  ⟨arg2.view.read (Elt F) f2, arg3.view.read (Elt F) f3, arg4.view.read (Elt F) f4, arg5.view.read (Elt F) f5⟩

/-- The accumulators, of the three buffers' contents. -/
abbrev acc (f11 : BufTy.Contents (Elt F) arg11.view.ty) (f12 : BufTy.Contents (Elt F) arg12.view.ty)
    (f13 : BufTy.Contents (Elt F) arg13.view.ty) : Acc F :=
  ⟨arg11.view.read (Elt F) f11, arg12.view.read (Elt F) f12, arg13.view.read (Elt F) f13⟩

/-- The four buffers a block reads, at their contents. -/
abbrev Reads (f2 : BufTy.Contents (Elt F) arg2.view.ty) (f3 : BufTy.Contents (Elt F) arg3.view.ty)
    (f4 : BufTy.Contents (Elt F) arg4.view.ty) (f5 : BufTy.Contents (Elt F) arg5.view.ty) : sProp 𝕄 :=
  iprop((arg2.view.loc (c : Thread nD τ) ↦[arg2.view.set]{fullShare} f2) ∗ (arg3.view.loc (c : Thread nD τ) ↦[arg3.view.set]{fullShare} f3)
    ∗ (arg4.view.loc (c : Thread nD τ) ↦[arg4.view.set]{fullShare} f4) ∗ (arg5.view.loc (c : Thread nD τ) ↦[arg5.view.set]{fullShare} f5))

/-- The three accumulators' buffers hold `s`. -/
abbrev Holds (s : Acc F) : sProp 𝕄 :=
  iprop((∃ f, (arg11.view.loc (c : Thread nD τ) ↦[arg11.view.set]{fullShare} f) ∗ ⌜arg11.view.read (Elt F) f = s.dq⌝)
    ∗ (∃ f, (arg12.view.loc (c : Thread nD τ) ↦[arg12.view.set]{fullShare} f) ∗ ⌜arg12.view.read (Elt F) f = s.dk⌝)
    ∗ (∃ f, (arg13.view.loc (c : Thread nD τ) ↦[arg13.view.set]{fullShare} f) ∗ ⌜arg13.view.read (Elt F) f = s.dv⌝))

set_option maxHeartbeats 4000000 in
/-- One trip: the accumulators go from the contents found to `pairStep` of them. -/
theorem trip (arg1 v180 c2_i32 c0_i32_92 v190 : BitVec 32) (f2 : BufTy.Contents (Elt F) arg2.view.ty) (f3 : BufTy.Contents (Elt F) arg3.view.ty)
    (f4 : BufTy.Contents (Elt F) arg4.view.ty) (f5 : BufTy.Contents (Elt F) arg5.view.ty) (f11 : BufTy.Contents (Elt F) arg11.view.ty)
    (f12 : BufTy.Contents (Elt F) arg12.view.ty) (f13 : BufTy.Contents (Elt F) arg13.view.ty) (k : Fin (k0_t1_loop i).trips) (E : Set ℕ) :
    iprop(Reads c arg2 arg3 arg4 arg5 f2 f3 f4 f5
      ∗ (arg11.view.loc (c : Thread nD τ) ↦[arg11.view.set]{fullShare} f11) ∗ (arg12.view.loc (c : Thread nD τ) ↦[arg12.view.set]{fullShare} f12)
      ∗ (arg13.view.loc (c : Thread nD τ) ↦[arg13.view.set]{fullShare} f13))
    ⊢ wp frame (wpE (defs₀ (F := F)) Variants.none (c : Thread nD τ) none) E
        (k0_t1_body (F := F) i arg2 harg2 arg3 harg3 arg4 harg4 arg5 harg5 arg6 harg6 arg7 harg7 arg8 harg8 arg9 harg9 arg10 harg10 arg11 harg11 arg12 harg12 arg13 harg13 arg1 v180 c2_i32 c0_i32_92 v190 k PUnit.unit)
        (fun _ => iprop(Reads c arg2 arg3 arg4 arg5 f2 f3 f4 f5
          ∗ Holds c arg11 arg12 arg13 (pairStep i (src arg2 arg3 arg4 arg5 f2 f3 f4 f5) k (acc arg11 arg12 arg13 f11 f12 f13)))) := by
  have hk : k.val < (15 - (i 1).val) / 2 := Nat.lt_of_lt_of_eq k.isLt (trips1_eq i)
  have hi : (i 1).val < 16 := (i 1).isLt
  unfold k0_t1_body
  iintro ⟨⟨H2, H3, H4, H5⟩, H11, H12, H13⟩
  sl_exec
  sl_step
  isplitl [H2 H3 H4 H5]
  · isplitl [H2]; · iexact H2
    isplitl [H3]; · iexact H3
    isplitl [H4]; · iexact H4
    iexact H5
  have d : ∀ a : Fin 2, a = 1 → k0_off8 i k a = 128 ∧ k0_off7 i k a = 0 := by rintro a rfl; rw [off7_eq, off8_eq]; exact ⟨rfl, rfl⟩
  isplitl [H11]
  · iexists _; isplitl [H11]; · iexact H11
    ipureintro
    rw [read_writes_cons_put arg11.view f11 (k0_off8_inb i k) _ _ rfl, read_writes_cons_put arg11.view f11 (k0_off7_inb i k) _ _ rfl]
    dsimp only [pairStep, tileStep]
    rw [window_put_of_disjoint (s := S8192x256) _ (k0_off7 i k) _ (k0_off8 i k) _ _ _ 1 (Or.inr (by rw [(d 1 rfl).1, (d 1 rfl).2] : k0_off7 i k 1 + 128 ≤ k0_off8 i k 1))]
    rfl
  isplitl [H12]
  · iexists _; isplitl [H12]; · iexact H12
    ipureintro
    rw [read_writes_cons_put arg12.view f12 _ _ _ rfl, read_writes_cons_put arg12.view f12 _ _ _ rfl]
    dsimp only [pairStep, tileStep]
    rw [window_put_of_disjoint (s := S512x256) _ ![0, 0] _ ![0, 128] _ _ _ 1 (Or.inr (by decide))]
    rfl
  iexists _; isplitl [H13]; · iexact H13
  ipureintro
  rw [read_writes_cons_put arg13.view f13 _ _ _ rfl, read_writes_cons_put arg13.view f13 _ _ _ rfl]
  dsimp only [pairStep, tileStep]
  rw [window_put_of_disjoint (s := S512x256) _ ![0, 0] _ ![0, 128] _ _ _ 1 (Or.inr (by decide))]
  rfl

set_option warn.classDefReducibility false in
/-- The loop over the paired tiles by its invariant: before trip `k` the accumulators hold what the first `k` trips make of the contents at entry. -/
@[sl_loop] def loopInv1 (E : Set ℕ) (arg1 v180 c2_i32 c0_i32_92 v190 : BitVec 32) (f2 : BufTy.Contents (Elt F) arg2.view.ty) (f3 : BufTy.Contents (Elt F) arg3.view.ty)
    (f4 : BufTy.Contents (Elt F) arg4.view.ty) (f5 : BufTy.Contents (Elt F) arg5.view.ty) (g11 : BufTy.Contents (Elt F) arg11.view.ty)
    (g12 : BufTy.Contents (Elt F) arg12.view.ty) (g13 : BufTy.Contents (Elt F) arg13.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg1 v180 c2_i32 c0_i32_92 v190 where
  inv k _ := iprop((arg2.view.loc (c : Thread nD τ) ↦[arg2.view.set]{fullShare} f2) ∗ (arg3.view.loc (c : Thread nD τ) ↦[arg3.view.set]{fullShare} f3)
    ∗ (arg4.view.loc (c : Thread nD τ) ↦[arg4.view.set]{fullShare} f4) ∗ (arg5.view.loc (c : Thread nD τ) ↦[arg5.view.set]{fullShare} f5)
    ∗ (∃ f, (arg11.view.loc (c : Thread nD τ) ↦[arg11.view.set]{fullShare} f) ∗ ⌜arg11.view.read (Elt F) f = (pairs i (src arg2 arg3 arg4 arg5 f2 f3 f4 f5) (acc arg11 arg12 arg13 g11 g12 g13) k).dq⌝)
    ∗ (∃ f, (arg12.view.loc (c : Thread nD τ) ↦[arg12.view.set]{fullShare} f) ∗ ⌜arg12.view.read (Elt F) f = (pairs i (src arg2 arg3 arg4 arg5 f2 f3 f4 f5) (acc arg11 arg12 arg13 g11 g12 g13) k).dk⌝)
    ∗ (∃ f, (arg13.view.loc (c : Thread nD τ) ↦[arg13.view.set]{fullShare} f) ∗ ⌜arg13.view.read (Elt F) f = (pairs i (src arg2 arg3 arg4 arg5 f2 f3 f4 f5) (acc arg11 arg12 arg13 g11 g12 g13) k).dv⌝))
  step k _ := by
    iintro ⟨H2, H3, H4, H5, ⟨%f11, H11, %h11⟩, ⟨%f12, H12, %h12⟩, ⟨%f13, H13, %h13⟩⟩
    iapply (wp_wand_r Idealize.ShloMosaic.frame (wpE (defs₀ (F := F)) Variants.none (c : Thread nD τ) none) E)
    isplitl [H2 H3 H4 H5 H11 H12 H13]
    · iapply (trip c i arg2 harg2 arg3 harg3 arg4 harg4 arg5 harg5 arg6 harg6 arg7 harg7 arg8 harg8 arg9 harg9 arg10 harg10 arg11 harg11 arg12 harg12 arg13 harg13 arg1 v180 c2_i32 c0_i32_92 v190 f2 f3 f4 f5 f11 f12 f13 k E)
      isplitl [H2 H3 H4 H5]
      · isplitl [H2]; · iexact H2
        isplitl [H3]; · iexact H3
        isplitl [H4]; · iexact H4
        iexact H5
      isplitl [H11]; · iexact H11
      isplitl [H12]; · iexact H12
      iexact H13
    · iintro %_ ⟨⟨H2, H3, H4, H5⟩, H11, H12, H13⟩
      isplitl [H2]; · iexact H2
      isplitl [H3]; · iexact H3
      isplitl [H4]; · iexact H4
      isplitl [H5]; · iexact H5
      rw [pairs_succ, show pairs i (src arg2 arg3 arg4 arg5 f2 f3 f4 f5) (acc arg11 arg12 arg13 g11 g12 g13) k.val = acc arg11 arg12 arg13 f11 f12 f13 from by
        rw [show acc arg11 arg12 arg13 f11 f12 f13 = ⟨_, _, _⟩ from rfl, h11, h12, h13]]
      isplitl [H11]; · iexact H11
      isplitl [H12]; · iexact H12
      iexact H13

set_option warn.classDefReducibility false in
/-- The loop after it makes no trip. -/
@[sl_loop] def loopInv2 (E : Set ℕ) (arg1 v180 c2_i32 c0_i32_92 v190 v215 : BitVec 32) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg1 v180 c2_i32 c0_i32_92 v190 v215 where
  inv _ _ := iprop(emp)
  step k _ := absurd (lt_of_lt_of_eq k.isLt (trips2_eq i)) (Nat.not_lt_zero _)
end
end Cert.AttnBwdIdeal.Run
end
-- ==== Proof.AttnBwdChain.lean ====
/-
  A tile's three stores, read back: over any earlier stores that leave the accumulator at `s`, a store of the tile's
  sum at its window leaves it at `tileStep … s`.
-/
module

public import proofs.«01_k».proof.Proof.AttnBwdState
public import Idealize.ShloMosaic.Lib.HeldBySlice

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic
open Idealize.ShloMosaic.VecWindow Idealize.ShloMosaic.View

variable {F : FTy → Type} [FloatOps F] {κ : Kind} {sp : Space}

/-- A load at a window apart from the last store, on axis `a`, reads what was there before it. -/
theorem readAt_skip {s : Shape} {e : EltTy} (v : View sig κ sp s e) (f : v.ty.Contents (Elt F)) {off size off' size' : Fin s.rank → ℕ} (inb : ∀ a, off a + size a ≤ s.size a)
    (inb' : ∀ a, off' a + size' a ≤ s.size a) (w : (Rect.unit off size inb).shape.Idx → Elt F e) (L : List (Piece (Elt F) s e)) (a : Fin s.rank)
    (ha : off' a + size' a ≤ off a ∨ off a + size a ≤ off' a) :
    v.readAt (Elt F) (Rect.unit off' size' inb').toLoadRect (v.writes (Elt F) f (⟨Rect.unit off size inb, w⟩ :: L))
      = v.readAt (Elt F) (Rect.unit off' size' inb').toLoadRect (v.writes (Elt F) f L) := by
  rw [readAt_unit v _ inb' rfl inb', readAt_unit v _ inb' rfl inb', read_writes_cons_put v f inb w L rfl]
  exact window_put_of_disjoint _ _ _ _ _ inb' _ a ha

/-- A load inside the last store does not depend on what was there before it. -/
theorem readAt_inside {s : Shape} {e : EltTy} (v : View sig κ sp s e) (f f' : v.ty.Contents (Elt F)) {off size off' size' : Fin s.rank → ℕ} (inb : ∀ a, off a + size a ≤ s.size a)
    (inb' : ∀ a, off' a + size' a ≤ s.size a) (w : (Rect.unit off size inb).shape.Idx → Elt F e) (L L' : List (Piece (Elt F) s e))
    (h : ∀ a, off a ≤ off' a ∧ off' a + size' a ≤ off a + size a) :
    v.readAt (Elt F) (Rect.unit off' size' inb').toLoadRect (v.writes (Elt F) f (⟨Rect.unit off size inb, w⟩ :: L))
      = v.readAt (Elt F) (Rect.unit off' size' inb').toLoadRect (v.writes (Elt F) f' (⟨Rect.unit off size inb, w⟩ :: L')) := by
  rw [readAt_unit v _ inb' rfl inb', readAt_unit v _ inb' rfl inb', read_writes_cons_put v f inb w L rfl, read_writes_cons_put v f' inb w L' rfl,
    window_put_of_inside _ _ _ _ _ inb' _ h, window_put_of_inside _ _ _ _ _ inb' _ h]

section
variable {nq nk : ℕ} (T : Tile F ⟨2, ![nq, 128]⟩ ⟨2, ![nk, 128]⟩) (offq : Fin 2 → ℕ) (hq : ∀ a, offq a + (![nq, 128] : Fin 2 → ℕ) a ≤ S8192x256.size a)
  (offk : Fin 2 → ℕ) (hk : ∀ a, offk a + (![nk, 128] : Fin 2 → ℕ) a ≤ S512x256.size a) (x : Src F) (s : Acc F)

theorem dq_step (v : View sig κ sp S8192x256 .f32) (f : v.ty.Contents (Elt F)) (L : List (Piece (Elt F) S8192x256 .f32)) (hL : v.read (Elt F) (v.writes (Elt F) f L) = s.dq)
    (ld : Vec F ⟨2, ![nq, 128]⟩ .f32) (hld : ld = v.readAt (Elt F) (Rect.unit (s := S8192x256) offq ![nq, 128] hq).toLoadRect (v.writes (Elt F) f L)) :
    v.read (Elt F) (v.writes (Elt F) f (⟨Rect.unit (s := S8192x256) offq ![nq, 128] hq,
      T.dq (window (s := S8192x256) x.q offq _ hq) (window (s := S8192x256) x.d offq _ hq) (window (s := S512x256) x.k offk _ hk) (window (s := S512x256) x.v offk _ hk) ld⟩ :: L))
      = (tileStep T offq hq offk hk x s).dq := by
  rw [read_writes_cons_put v f _ _ _ rfl, hL, hld, readAt_unit v _ hq rfl hq, hL]
  rfl

theorem dk_step (v : View sig κ sp S512x256 .f32) (f : v.ty.Contents (Elt F)) (L : List (Piece (Elt F) S512x256 .f32)) (hL : v.read (Elt F) (v.writes (Elt F) f L) = s.dk)
    (ld : Vec F ⟨2, ![nk, 128]⟩ .f32) (hld : ld = v.readAt (Elt F) (Rect.unit (s := S512x256) offk ![nk, 128] hk).toLoadRect (v.writes (Elt F) f L)) :
    v.read (Elt F) (v.writes (Elt F) f (⟨Rect.unit (s := S512x256) offk ![nk, 128] hk,
      T.dk (window (s := S8192x256) x.q offq _ hq) (window (s := S8192x256) x.d offq _ hq) (window (s := S512x256) x.k offk _ hk) (window (s := S512x256) x.v offk _ hk) ld⟩ :: L))
      = (tileStep T offq hq offk hk x s).dk := by
  rw [read_writes_cons_put v f _ _ _ rfl, hL, hld, readAt_unit v _ hk rfl hk, hL]
  rfl

theorem dv_step (v : View sig κ sp S512x256 .f32) (f : v.ty.Contents (Elt F)) (L : List (Piece (Elt F) S512x256 .f32)) (hL : v.read (Elt F) (v.writes (Elt F) f L) = s.dv)
    (ld : Vec F ⟨2, ![nk, 128]⟩ .f32) (hld : ld = v.readAt (Elt F) (Rect.unit (s := S512x256) offk ![nk, 128] hk).toLoadRect (v.writes (Elt F) f L)) :
    v.read (Elt F) (v.writes (Elt F) f (⟨Rect.unit (s := S512x256) offk ![nk, 128] hk,
      T.dv (window (s := S8192x256) x.q offq _ hq) (window (s := S8192x256) x.d offq _ hq) (window (s := S512x256) x.k offk _ hk) (window (s := S512x256) x.v offk _ hk) ld⟩ :: L))
      = (tileStep T offq hq offk hk x s).dv := by
  rw [read_writes_cons_put v f _ _ _ rfl, hL, hld, readAt_unit v _ hk rfl hk, hL]
  rfl
end

/-- Two accumulator triples with equal parts are equal. -/
theorem acc_eq {s s' : Acc F} (h1 : s.dq = s'.dq) (h2 : s.dk = s'.dk) (h3 : s.dv = s'.dv) : s = s' := by
  cases s; cases s'; cases h1; cases h2; cases h3; rfl

/-- The diagonal and the odd tile, store by store: the piece each of the six stores writes, of what it loaded. -/
abbrev dqP1 (i : grid0.Coords) (x : Src F) (l : Vec F ⟨2, ![512, 128]⟩ .f32) : Piece (Elt F) S8192x256 .f32 :=
  ⟨Rect.unit (s := S8192x256) (k0_off1 i) ![512, 128] (k0_off1_inb i), diag1.dq (window (s := S8192x256) x.q (k0_off1 i) _ (k0_off1_inb i)) (window (s := S8192x256) x.d (k0_off1 i) _ (k0_off1_inb i)) (window (s := S512x256) x.k ![0, 0] _ inb_S512x256_S256x128_0_0) (window (s := S512x256) x.v ![0, 0] _ inb_S512x256_S256x128_0_0) l⟩
/-- As above. -/
abbrev dqP2 (i : grid0.Coords) (x : Src F) (l : Vec F ⟨2, ![512, 128]⟩ .f32) : Piece (Elt F) S8192x256 .f32 :=
  ⟨Rect.unit (s := S8192x256) (k0_off2 i) ![512, 128] (k0_off2_inb i), diag1.dq (window (s := S8192x256) x.q (k0_off2 i) _ (k0_off2_inb i)) (window (s := S8192x256) x.d (k0_off2 i) _ (k0_off2_inb i)) (window (s := S512x256) x.k ![0, 128] _ inb_S512x256_S256x128_0_128) (window (s := S512x256) x.v ![0, 128] _ inb_S512x256_S256x128_0_128) l⟩
/-- As above. -/
abbrev dqP3 (i : grid0.Coords) (x : Src F) (l : Vec F ⟨2, ![256, 128]⟩ .f32) : Piece (Elt F) S8192x256 .f32 :=
  ⟨Rect.unit (s := S8192x256) (k0_off3 i) ![256, 128] (k0_off3_inb i), diag2.dq (window (s := S8192x256) x.q (k0_off3 i) _ (k0_off3_inb i)) (window (s := S8192x256) x.d (k0_off3 i) _ (k0_off3_inb i)) (window (s := S512x256) x.k ![256, 0] _ inb_S512x256_S256x128_256_0) (window (s := S512x256) x.v ![256, 0] _ inb_S512x256_S256x128_256_0) l⟩
/-- As above. -/
abbrev dqP4 (i : grid0.Coords) (x : Src F) (l : Vec F ⟨2, ![256, 128]⟩ .f32) : Piece (Elt F) S8192x256 .f32 :=
  ⟨Rect.unit (s := S8192x256) (k0_off4 i) ![256, 128] (k0_off4_inb i), diag2.dq (window (s := S8192x256) x.q (k0_off4 i) _ (k0_off4_inb i)) (window (s := S8192x256) x.d (k0_off4 i) _ (k0_off4_inb i)) (window (s := S512x256) x.k ![256, 128] _ inb_S512x256_S256x128_256_128) (window (s := S512x256) x.v ![256, 128] _ inb_S512x256_S256x128_256_128) l⟩
/-- As above. -/
abbrev dqP5 (i : grid0.Coords) (x : Src F) (h : k0_cond2 i = 1#1) (l : Vec F ⟨2, ![512, 128]⟩ .f32) : Piece (Elt F) S8192x256 .f32 :=
  ⟨Rect.unit (s := S8192x256) (k0_off5 i) ![512, 128] (k0_off5_inb i h), odd.dq (window (s := S8192x256) x.q (k0_off5 i) _ (k0_off5_inb i h)) (window (s := S8192x256) x.d (k0_off5 i) _ (k0_off5_inb i h)) (window (s := S512x256) x.k ![0, 0] _ inb_S512x256_S512x128_0_0) (window (s := S512x256) x.v ![0, 0] _ inb_S512x256_S512x128_0_0) l⟩
/-- As above. -/
abbrev dqP6 (i : grid0.Coords) (x : Src F) (h : k0_cond2 i = 1#1) (l : Vec F ⟨2, ![512, 128]⟩ .f32) : Piece (Elt F) S8192x256 .f32 :=
  ⟨Rect.unit (s := S8192x256) (k0_off6 i) ![512, 128] (k0_off6_inb i h), odd.dq (window (s := S8192x256) x.q (k0_off6 i) _ (k0_off6_inb i h)) (window (s := S8192x256) x.d (k0_off6 i) _ (k0_off6_inb i h)) (window (s := S512x256) x.k ![0, 128] _ inb_S512x256_S512x128_0_128) (window (s := S512x256) x.v ![0, 128] _ inb_S512x256_S512x128_0_128) l⟩
/-- As above. -/
abbrev dkP1 (i : grid0.Coords) (x : Src F) (l : Vec F ⟨2, ![256, 128]⟩ .f32) : Piece (Elt F) S512x256 .f32 :=
  ⟨Rect.unit (s := S512x256) ![0, 0] ![256, 128] inb_S512x256_S256x128_0_0, diag1.dk (window (s := S8192x256) x.q (k0_off1 i) _ (k0_off1_inb i)) (window (s := S8192x256) x.d (k0_off1 i) _ (k0_off1_inb i)) (window (s := S512x256) x.k ![0, 0] _ inb_S512x256_S256x128_0_0) (window (s := S512x256) x.v ![0, 0] _ inb_S512x256_S256x128_0_0) l⟩
/-- As above. -/
abbrev dkP2 (i : grid0.Coords) (x : Src F) (l : Vec F ⟨2, ![256, 128]⟩ .f32) : Piece (Elt F) S512x256 .f32 :=
  ⟨Rect.unit (s := S512x256) ![0, 128] ![256, 128] inb_S512x256_S256x128_0_128, diag1.dk (window (s := S8192x256) x.q (k0_off2 i) _ (k0_off2_inb i)) (window (s := S8192x256) x.d (k0_off2 i) _ (k0_off2_inb i)) (window (s := S512x256) x.k ![0, 128] _ inb_S512x256_S256x128_0_128) (window (s := S512x256) x.v ![0, 128] _ inb_S512x256_S256x128_0_128) l⟩
/-- As above. -/
abbrev dkP3 (i : grid0.Coords) (x : Src F) (l : Vec F ⟨2, ![256, 128]⟩ .f32) : Piece (Elt F) S512x256 .f32 :=
  ⟨Rect.unit (s := S512x256) ![256, 0] ![256, 128] inb_S512x256_S256x128_256_0, diag2.dk (window (s := S8192x256) x.q (k0_off3 i) _ (k0_off3_inb i)) (window (s := S8192x256) x.d (k0_off3 i) _ (k0_off3_inb i)) (window (s := S512x256) x.k ![256, 0] _ inb_S512x256_S256x128_256_0) (window (s := S512x256) x.v ![256, 0] _ inb_S512x256_S256x128_256_0) l⟩
/-- As above. -/
abbrev dkP4 (i : grid0.Coords) (x : Src F) (l : Vec F ⟨2, ![256, 128]⟩ .f32) : Piece (Elt F) S512x256 .f32 :=
  ⟨Rect.unit (s := S512x256) ![256, 128] ![256, 128] inb_S512x256_S256x128_256_128, diag2.dk (window (s := S8192x256) x.q (k0_off4 i) _ (k0_off4_inb i)) (window (s := S8192x256) x.d (k0_off4 i) _ (k0_off4_inb i)) (window (s := S512x256) x.k ![256, 128] _ inb_S512x256_S256x128_256_128) (window (s := S512x256) x.v ![256, 128] _ inb_S512x256_S256x128_256_128) l⟩
/-- As above. -/
abbrev dkP5 (i : grid0.Coords) (x : Src F) (h : k0_cond2 i = 1#1) (l : Vec F ⟨2, ![512, 128]⟩ .f32) : Piece (Elt F) S512x256 .f32 :=
  ⟨Rect.unit (s := S512x256) ![0, 0] ![512, 128] inb_S512x256_S512x128_0_0, odd.dk (window (s := S8192x256) x.q (k0_off5 i) _ (k0_off5_inb i h)) (window (s := S8192x256) x.d (k0_off5 i) _ (k0_off5_inb i h)) (window (s := S512x256) x.k ![0, 0] _ inb_S512x256_S512x128_0_0) (window (s := S512x256) x.v ![0, 0] _ inb_S512x256_S512x128_0_0) l⟩
/-- As above. -/
abbrev dkP6 (i : grid0.Coords) (x : Src F) (h : k0_cond2 i = 1#1) (l : Vec F ⟨2, ![512, 128]⟩ .f32) : Piece (Elt F) S512x256 .f32 :=
  ⟨Rect.unit (s := S512x256) ![0, 128] ![512, 128] inb_S512x256_S512x128_0_128, odd.dk (window (s := S8192x256) x.q (k0_off6 i) _ (k0_off6_inb i h)) (window (s := S8192x256) x.d (k0_off6 i) _ (k0_off6_inb i h)) (window (s := S512x256) x.k ![0, 128] _ inb_S512x256_S512x128_0_128) (window (s := S512x256) x.v ![0, 128] _ inb_S512x256_S512x128_0_128) l⟩
/-- As above. -/
abbrev dvP1 (i : grid0.Coords) (x : Src F) (l : Vec F ⟨2, ![256, 128]⟩ .f32) : Piece (Elt F) S512x256 .f32 :=
  ⟨Rect.unit (s := S512x256) ![0, 0] ![256, 128] inb_S512x256_S256x128_0_0, diag1.dv (window (s := S8192x256) x.q (k0_off1 i) _ (k0_off1_inb i)) (window (s := S8192x256) x.d (k0_off1 i) _ (k0_off1_inb i)) (window (s := S512x256) x.k ![0, 0] _ inb_S512x256_S256x128_0_0) (window (s := S512x256) x.v ![0, 0] _ inb_S512x256_S256x128_0_0) l⟩
/-- As above. -/
abbrev dvP2 (i : grid0.Coords) (x : Src F) (l : Vec F ⟨2, ![256, 128]⟩ .f32) : Piece (Elt F) S512x256 .f32 :=
  ⟨Rect.unit (s := S512x256) ![0, 128] ![256, 128] inb_S512x256_S256x128_0_128, diag1.dv (window (s := S8192x256) x.q (k0_off2 i) _ (k0_off2_inb i)) (window (s := S8192x256) x.d (k0_off2 i) _ (k0_off2_inb i)) (window (s := S512x256) x.k ![0, 128] _ inb_S512x256_S256x128_0_128) (window (s := S512x256) x.v ![0, 128] _ inb_S512x256_S256x128_0_128) l⟩
/-- As above. -/
abbrev dvP3 (i : grid0.Coords) (x : Src F) (l : Vec F ⟨2, ![256, 128]⟩ .f32) : Piece (Elt F) S512x256 .f32 :=
  ⟨Rect.unit (s := S512x256) ![256, 0] ![256, 128] inb_S512x256_S256x128_256_0, diag2.dv (window (s := S8192x256) x.q (k0_off3 i) _ (k0_off3_inb i)) (window (s := S8192x256) x.d (k0_off3 i) _ (k0_off3_inb i)) (window (s := S512x256) x.k ![256, 0] _ inb_S512x256_S256x128_256_0) (window (s := S512x256) x.v ![256, 0] _ inb_S512x256_S256x128_256_0) l⟩
/-- As above. -/
abbrev dvP4 (i : grid0.Coords) (x : Src F) (l : Vec F ⟨2, ![256, 128]⟩ .f32) : Piece (Elt F) S512x256 .f32 :=
  ⟨Rect.unit (s := S512x256) ![256, 128] ![256, 128] inb_S512x256_S256x128_256_128, diag2.dv (window (s := S8192x256) x.q (k0_off4 i) _ (k0_off4_inb i)) (window (s := S8192x256) x.d (k0_off4 i) _ (k0_off4_inb i)) (window (s := S512x256) x.k ![256, 128] _ inb_S512x256_S256x128_256_128) (window (s := S512x256) x.v ![256, 128] _ inb_S512x256_S256x128_256_128) l⟩
/-- As above. -/
abbrev dvP5 (i : grid0.Coords) (x : Src F) (h : k0_cond2 i = 1#1) (l : Vec F ⟨2, ![512, 128]⟩ .f32) : Piece (Elt F) S512x256 .f32 :=
  ⟨Rect.unit (s := S512x256) ![0, 0] ![512, 128] inb_S512x256_S512x128_0_0, odd.dv (window (s := S8192x256) x.q (k0_off5 i) _ (k0_off5_inb i h)) (window (s := S8192x256) x.d (k0_off5 i) _ (k0_off5_inb i h)) (window (s := S512x256) x.k ![0, 0] _ inb_S512x256_S512x128_0_0) (window (s := S512x256) x.v ![0, 0] _ inb_S512x256_S512x128_0_0) l⟩
/-- As above. -/
abbrev dvP6 (i : grid0.Coords) (x : Src F) (h : k0_cond2 i = 1#1) (l : Vec F ⟨2, ![512, 128]⟩ .f32) : Piece (Elt F) S512x256 .f32 :=
  ⟨Rect.unit (s := S512x256) ![0, 128] ![512, 128] inb_S512x256_S512x128_0_128, odd.dv (window (s := S8192x256) x.q (k0_off6 i) _ (k0_off6_inb i h)) (window (s := S8192x256) x.d (k0_off6 i) _ (k0_off6_inb i h)) (window (s := S512x256) x.k ![0, 128] _ inb_S512x256_S512x128_0_128) (window (s := S512x256) x.v ![0, 128] _ inb_S512x256_S512x128_0_128) l⟩

/-- The diagonal's four stores, each of a load of what the stores before it left, make `diagStep`. -/
theorem diag_dq (i : grid0.Coords) (x : Src F) (s : Acc F) (v : View sig κ sp S8192x256 .f32) (f : v.ty.Contents (Elt F)) (L : List (Piece (Elt F) S8192x256 .f32))
    (hL : v.read (Elt F) (v.writes (Elt F) f L) = s.dq) (l1 : Vec F ⟨2, ![512, 128]⟩ .f32) (l2 : Vec F ⟨2, ![512, 128]⟩ .f32) (l3 : Vec F ⟨2, ![256, 128]⟩ .f32) (l4 : Vec F ⟨2, ![256, 128]⟩ .f32)
    (e1 : l1 = v.readAt (Elt F) (Rect.unit (s := S8192x256) (k0_off1 i) ![512, 128] (k0_off1_inb i)).toLoadRect (v.writes (Elt F) f (L)))
    (e2 : l2 = v.readAt (Elt F) (Rect.unit (s := S8192x256) (k0_off2 i) ![512, 128] (k0_off2_inb i)).toLoadRect (v.writes (Elt F) f (dqP1 i x l1 :: L)))
    (e3 : l3 = v.readAt (Elt F) (Rect.unit (s := S8192x256) (k0_off3 i) ![256, 128] (k0_off3_inb i)).toLoadRect (v.writes (Elt F) f (dqP2 i x l2 :: dqP1 i x l1 :: L)))
    (e4 : l4 = v.readAt (Elt F) (Rect.unit (s := S8192x256) (k0_off4 i) ![256, 128] (k0_off4_inb i)).toLoadRect (v.writes (Elt F) f (dqP3 i x l3 :: dqP2 i x l2 :: dqP1 i x l1 :: L))) :
    v.read (Elt F) (v.writes (Elt F) f (dqP4 i x l4 :: dqP3 i x l3 :: dqP2 i x l2 :: dqP1 i x l1 :: L)) = (diagStep i x s).dq :=
  dq_step diag2 _ _ _ _ x _ v f _ (dq_step diag2 _ _ _ _ x _ v f _ (dq_step diag1 _ _ _ _ x _ v f _ (dq_step diag1 _ _ _ _ x s v f L hL l1 e1) l2 e2) l3 e3) l4 e4

/-- The odd tile's two stores make `oddStep`. -/
theorem odd_dq (i : grid0.Coords) (h : k0_cond2 i = 1#1) (x : Src F) (s : Acc F) (v : View sig κ sp S8192x256 .f32) (f : v.ty.Contents (Elt F)) (L : List (Piece (Elt F) S8192x256 .f32))
    (hL : v.read (Elt F) (v.writes (Elt F) f L) = s.dq) (l5 : Vec F ⟨2, ![512, 128]⟩ .f32) (l6 : Vec F ⟨2, ![512, 128]⟩ .f32)
    (e5 : l5 = v.readAt (Elt F) (Rect.unit (s := S8192x256) (k0_off5 i) ![512, 128] (k0_off5_inb i h)).toLoadRect (v.writes (Elt F) f (L)))
    (e6 : l6 = v.readAt (Elt F) (Rect.unit (s := S8192x256) (k0_off6 i) ![512, 128] (k0_off6_inb i h)).toLoadRect (v.writes (Elt F) f (dqP5 i x h l5 :: L))) :
    v.read (Elt F) (v.writes (Elt F) f (dqP6 i x h l6 :: dqP5 i x h l5 :: L)) = (oddStep i x s).dq := by
  rw [oddStep, dif_pos h]
  exact dq_step odd _ _ _ _ x _ v f _ (dq_step odd _ _ _ _ x s v f L hL l5 e5) l6 e6

/-- The diagonal's four stores, each of a load of what the stores before it left, make `diagStep`. -/
theorem diag_dk (i : grid0.Coords) (x : Src F) (s : Acc F) (v : View sig κ sp S512x256 .f32) (f : v.ty.Contents (Elt F)) (L : List (Piece (Elt F) S512x256 .f32))
    (hL : v.read (Elt F) (v.writes (Elt F) f L) = s.dk) (l1 : Vec F ⟨2, ![256, 128]⟩ .f32) (l2 : Vec F ⟨2, ![256, 128]⟩ .f32) (l3 : Vec F ⟨2, ![256, 128]⟩ .f32) (l4 : Vec F ⟨2, ![256, 128]⟩ .f32)
    (e1 : l1 = v.readAt (Elt F) (Rect.unit (s := S512x256) ![0, 0] ![256, 128] inb_S512x256_S256x128_0_0).toLoadRect (v.writes (Elt F) f (L)))
    (e2 : l2 = v.readAt (Elt F) (Rect.unit (s := S512x256) ![0, 128] ![256, 128] inb_S512x256_S256x128_0_128).toLoadRect (v.writes (Elt F) f (dkP1 i x l1 :: L)))
    (e3 : l3 = v.readAt (Elt F) (Rect.unit (s := S512x256) ![256, 0] ![256, 128] inb_S512x256_S256x128_256_0).toLoadRect (v.writes (Elt F) f (dkP2 i x l2 :: dkP1 i x l1 :: L)))
    (e4 : l4 = v.readAt (Elt F) (Rect.unit (s := S512x256) ![256, 128] ![256, 128] inb_S512x256_S256x128_256_128).toLoadRect (v.writes (Elt F) f (dkP3 i x l3 :: dkP2 i x l2 :: dkP1 i x l1 :: L))) :
    v.read (Elt F) (v.writes (Elt F) f (dkP4 i x l4 :: dkP3 i x l3 :: dkP2 i x l2 :: dkP1 i x l1 :: L)) = (diagStep i x s).dk :=
  dk_step diag2 _ _ _ _ x _ v f _ (dk_step diag2 _ _ _ _ x _ v f _ (dk_step diag1 _ _ _ _ x _ v f _ (dk_step diag1 _ _ _ _ x s v f L hL l1 e1) l2 e2) l3 e3) l4 e4

/-- The odd tile's two stores make `oddStep`. -/
theorem odd_dk (i : grid0.Coords) (h : k0_cond2 i = 1#1) (x : Src F) (s : Acc F) (v : View sig κ sp S512x256 .f32) (f : v.ty.Contents (Elt F)) (L : List (Piece (Elt F) S512x256 .f32))
    (hL : v.read (Elt F) (v.writes (Elt F) f L) = s.dk) (l5 : Vec F ⟨2, ![512, 128]⟩ .f32) (l6 : Vec F ⟨2, ![512, 128]⟩ .f32)
    (e5 : l5 = v.readAt (Elt F) (Rect.unit (s := S512x256) ![0, 0] ![512, 128] inb_S512x256_S512x128_0_0).toLoadRect (v.writes (Elt F) f (L)))
    (e6 : l6 = v.readAt (Elt F) (Rect.unit (s := S512x256) ![0, 128] ![512, 128] inb_S512x256_S512x128_0_128).toLoadRect (v.writes (Elt F) f (dkP5 i x h l5 :: L))) :
    v.read (Elt F) (v.writes (Elt F) f (dkP6 i x h l6 :: dkP5 i x h l5 :: L)) = (oddStep i x s).dk := by
  rw [oddStep, dif_pos h]
  exact dk_step odd _ _ _ _ x _ v f _ (dk_step odd _ _ _ _ x s v f L hL l5 e5) l6 e6

/-- The diagonal's four stores, each of a load of what the stores before it left, make `diagStep`. -/
theorem diag_dv (i : grid0.Coords) (x : Src F) (s : Acc F) (v : View sig κ sp S512x256 .f32) (f : v.ty.Contents (Elt F)) (L : List (Piece (Elt F) S512x256 .f32))
    (hL : v.read (Elt F) (v.writes (Elt F) f L) = s.dv) (l1 : Vec F ⟨2, ![256, 128]⟩ .f32) (l2 : Vec F ⟨2, ![256, 128]⟩ .f32) (l3 : Vec F ⟨2, ![256, 128]⟩ .f32) (l4 : Vec F ⟨2, ![256, 128]⟩ .f32)
    (e1 : l1 = v.readAt (Elt F) (Rect.unit (s := S512x256) ![0, 0] ![256, 128] inb_S512x256_S256x128_0_0).toLoadRect (v.writes (Elt F) f (L)))
    (e2 : l2 = v.readAt (Elt F) (Rect.unit (s := S512x256) ![0, 128] ![256, 128] inb_S512x256_S256x128_0_128).toLoadRect (v.writes (Elt F) f (dvP1 i x l1 :: L)))
    (e3 : l3 = v.readAt (Elt F) (Rect.unit (s := S512x256) ![256, 0] ![256, 128] inb_S512x256_S256x128_256_0).toLoadRect (v.writes (Elt F) f (dvP2 i x l2 :: dvP1 i x l1 :: L)))
    (e4 : l4 = v.readAt (Elt F) (Rect.unit (s := S512x256) ![256, 128] ![256, 128] inb_S512x256_S256x128_256_128).toLoadRect (v.writes (Elt F) f (dvP3 i x l3 :: dvP2 i x l2 :: dvP1 i x l1 :: L))) :
    v.read (Elt F) (v.writes (Elt F) f (dvP4 i x l4 :: dvP3 i x l3 :: dvP2 i x l2 :: dvP1 i x l1 :: L)) = (diagStep i x s).dv :=
  dv_step diag2 _ _ _ _ x _ v f _ (dv_step diag2 _ _ _ _ x _ v f _ (dv_step diag1 _ _ _ _ x _ v f _ (dv_step diag1 _ _ _ _ x s v f L hL l1 e1) l2 e2) l3 e3) l4 e4

/-- The odd tile's two stores make `oddStep`. -/
theorem odd_dv (i : grid0.Coords) (h : k0_cond2 i = 1#1) (x : Src F) (s : Acc F) (v : View sig κ sp S512x256 .f32) (f : v.ty.Contents (Elt F)) (L : List (Piece (Elt F) S512x256 .f32))
    (hL : v.read (Elt F) (v.writes (Elt F) f L) = s.dv) (l5 : Vec F ⟨2, ![512, 128]⟩ .f32) (l6 : Vec F ⟨2, ![512, 128]⟩ .f32)
    (e5 : l5 = v.readAt (Elt F) (Rect.unit (s := S512x256) ![0, 0] ![512, 128] inb_S512x256_S512x128_0_0).toLoadRect (v.writes (Elt F) f (L)))
    (e6 : l6 = v.readAt (Elt F) (Rect.unit (s := S512x256) ![0, 128] ![512, 128] inb_S512x256_S512x128_0_128).toLoadRect (v.writes (Elt F) f (dvP5 i x h l5 :: L))) :
    v.read (Elt F) (v.writes (Elt F) f (dvP6 i x h l6 :: dvP5 i x h l5 :: L)) = (oddStep i x s).dv := by
  rw [oddStep, dif_pos h]
  exact dv_step odd _ _ _ _ x _ v f _ (dv_step odd _ _ _ _ x s v f L hL l5 e5) l6 e6

/-- The last 256 rows of a 512-row window lie in it. -/
theorem inside (r z : ℕ) : ∀ a : Fin 2, (![r, z] : Fin 2 → ℕ) a ≤ (![r + 256, z] : Fin 2 → ℕ) a
    ∧ (![r + 256, z] : Fin 2 → ℕ) a + (![256, 128] : Fin 2 → ℕ) a ≤ (![r, z] : Fin 2 → ℕ) a + (![512, 128] : Fin 2 → ℕ) a := by
  rintro ⟨_ | _ | n, hn⟩
  · exact ⟨Nat.le_add_right r 256, le_refl (r + 256 + 256)⟩
  · exact ⟨le_refl z, le_refl _⟩
  · exact absurd hn (by omega)

/-- The diagonal's four stores over found contents: the second head's columns are apart from the first's, and the last
    two loads lie inside the first two stores. -/
theorem diag_dq_found (i : grid0.Coords) (x : Src F) (s : Acc F) (v : View sig κ sp S8192x256 .f32) (f : v.ty.Contents (Elt F))
    (hL : v.read (Elt F) f = s.dq) (l1 l2 : Vec F ⟨2, ![512, 128]⟩ .f32) (l3 l4 : Vec F ⟨2, ![256, 128]⟩ .f32)
    (e1 : l1 = v.readAt (Elt F) (Rect.unit (s := S8192x256) (k0_off1 i) ![512, 128] (k0_off1_inb i)).toLoadRect f) (e2 : l2 = v.readAt (Elt F) (Rect.unit (s := S8192x256) (k0_off2 i) ![512, 128] (k0_off2_inb i)).toLoadRect f)
    (e3 : l3 = v.readCov [dqP2 i x l2, dqP1 i x l1] (Rect.unit (s := S8192x256) (k0_off3 i) ![256, 128] (k0_off3_inb i)).toLoadRect)
    (e4 : l4 = v.readCov [dqP3 i x l3, dqP2 i x l2, dqP1 i x l1] (Rect.unit (s := S8192x256) (k0_off4 i) ![256, 128] (k0_off4_inb i)).toLoadRect) :
    v.read (Elt F) (v.writes (Elt F) f [dqP4 i x l4, dqP3 i x l3, dqP2 i x l2, dqP1 i x l1]) = (diagStep i x s).dq := by
  refine diag_dq i x s v f [] hL l1 l2 l3 l4 e1 (e2.trans ?_) (e3.trans ?_) (e4.trans ?_)
  · exact (readAt_skip v f _ _ _ [] 1 (Or.inr (by rw [k0_off1_eq, k0_off2_eq]; exact le_refl _))).symm
  · refine (readAt_skip v v.junk _ _ _ [dqP1 i x l1] 1 (Or.inl (by rw [k0_off3_eq, k0_off2_eq]; exact le_refl _))).trans ?_
    refine Eq.trans ?_ (readAt_skip v f _ _ _ [dqP1 i x l1] 1 (Or.inl (by rw [k0_off3_eq, k0_off2_eq]; exact le_refl _))).symm
    exact readAt_inside v v.junk f _ _ _ [] [] (by rw [k0_off3_eq, k0_off1_eq]; exact inside (512 * (i 1).val) 0)
  · refine (readAt_skip v v.junk _ _ _ [dqP2 i x l2, dqP1 i x l1] 1 (Or.inr (by rw [k0_off3_eq, k0_off4_eq]; exact le_refl _))).trans ?_
    refine Eq.trans ?_ (readAt_skip v f _ _ _ [dqP2 i x l2, dqP1 i x l1] 1 (Or.inr (by rw [k0_off3_eq, k0_off4_eq]; exact le_refl _))).symm
    exact readAt_inside v v.junk f _ _ _ [dqP1 i x l1] [dqP1 i x l1] (by rw [k0_off4_eq, k0_off2_eq]; exact inside (512 * (i 1).val) 128)

/-- The odd tile's two stores after them: its rows are below the diagonal's. -/
theorem odd_dq_found (i : grid0.Coords) (h : k0_cond2 i = 1#1) (x : Src F) (s : Acc F) (v : View sig κ sp S8192x256 .f32) (f : v.ty.Contents (Elt F))
    (l1 l2 : Vec F ⟨2, ![512, 128]⟩ .f32) (l3 l4 : Vec F ⟨2, ![256, 128]⟩ .f32)
    (hL : v.read (Elt F) (v.writes (Elt F) f [dqP4 i x l4, dqP3 i x l3, dqP2 i x l2, dqP1 i x l1]) = s.dq) (l5 l6 : Vec F ⟨2, ![512, 128]⟩ .f32)
    (e5 : l5 = v.readAt (Elt F) (Rect.unit (s := S8192x256) (k0_off5 i) ![512, 128] (k0_off5_inb i h)).toLoadRect f) (e6 : l6 = v.readAt (Elt F) (Rect.unit (s := S8192x256) (k0_off6 i) ![512, 128] (k0_off6_inb i h)).toLoadRect f) :
    v.read (Elt F) (v.writes (Elt F) f [dqP6 i x h l6, dqP5 i x h l5, dqP4 i x l4, dqP3 i x l3, dqP2 i x l2, dqP1 i x l1]) = (oddStep i x s).dq := by
  have below (o : Fin 2 → ℕ) (ho : o 0 = 512 * (i 1).val + 512) (hb : ∀ a, o a + (![512, 128] : Fin 2 → ℕ) a ≤ S8192x256.size a) :
      v.readAt (Elt F) (Rect.unit (s := S8192x256) o ![512, 128] hb).toLoadRect (v.writes (Elt F) f [dqP4 i x l4, dqP3 i x l3, dqP2 i x l2, dqP1 i x l1])
        = v.readAt (Elt F) (Rect.unit (s := S8192x256) o ![512, 128] hb).toLoadRect f :=
    (readAt_skip v f _ _ _ _ 0 (Or.inr (by rw [k0_off4_eq, ho]; exact le_refl (512 * (i 1).val + 256 + 256)))).trans <|
    (readAt_skip v f _ _ _ _ 0 (Or.inr (by rw [k0_off3_eq, ho]; exact le_refl (512 * (i 1).val + 256 + 256)))).trans <|
    (readAt_skip v f _ _ _ _ 0 (Or.inr (by rw [k0_off2_eq, ho]; exact le_refl (512 * (i 1).val + 512)))).trans
    (readAt_skip v f _ _ _ [] 0 (Or.inr (by rw [k0_off1_eq, ho]; exact le_refl (512 * (i 1).val + 512))))
  refine odd_dq i h x s v f _ hL l5 l6 (e5.trans (below _ (by rw [k0_off5_eq]; rfl) _).symm) (e6.trans ?_)
  refine Eq.trans (below _ (by rw [k0_off6_eq]; rfl) _).symm ?_
  exact (readAt_skip v f _ _ _ _ 1 (Or.inr (by rw [k0_off5_eq, k0_off6_eq]; exact le_refl _))).symm

end Cert.AttnBwdIdeal.Run

end
-- ==== Proof.AttnBwdBody.lean ====
module

public import proofs.«01_k».proof.Proof.AttnBwdTrip
public import proofs.«01_k».proof.Proof.AttnBwdChain

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic
open Idealize.ShloMosaic.VecWindow Idealize.ShloMosaic.View
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the kernel's frame. -/
local notation "𝕄" => MT nD τ sig Unit (Elt F) ℕ (UR sig nD τ) ℕ

section
variable (c : Dev nD) (i : grid0.Coords)
  (arg2 : Memref sig .tc .vmem S8192x256 .bf16) (harg2 : arg2.IsWhole)
  (arg3 : Memref sig .tc .vmem S8192x256 .bf16) (harg3 : arg3.IsWhole)
  (arg4 : Memref sig .tc .vmem S512x256 .bf16) (harg4 : arg4.IsWhole)
  (arg5 : Memref sig .tc .vmem S512x256 .bf16) (harg5 : arg5.IsWhole)
  (arg6 : Memref sig .tc .vmem S8192x128 .bf16) (harg6 : arg6.IsWhole)
  (arg7 : Memref sig .tc .vmem S512x128 .bf16) (harg7 : arg7.IsWhole)
  (arg8 : Memref sig .tc .vmem S512x128 .bf16) (harg8 : arg8.IsWhole)
  (arg9 : Memref sig .tc .vmem S1x8192x128 .f32) (harg9 : arg9.IsWhole)
  (arg10 : Memref sig .tc .vmem S1x512x128 .f32) (harg10 : arg10.IsWhole)
  (arg11 : Memref sig .tc .vmem S8192x256 .f32) (harg11 : arg11.IsWhole)
  (arg12 : Memref sig .tc .vmem S512x256 .f32) (harg12 : arg12.IsWhole)
  (arg13 : Memref sig .tc .vmem S512x256 .f32) (harg13 : arg13.IsWhole)

/-- What a block leaves in the buffers it writes: the accumulators at `s`; its key and value gradients and its slab of
    key-side decay sums from `s`; and, where `last`, the query gradient and its slab. -/
abbrev Leaves (last : Prop) [Decidable last] (f6 : BufTy.Contents (Elt F) arg6.view.ty) (f9 : BufTy.Contents (Elt F) arg9.view.ty) (s : Acc F) : sProp 𝕄 :=
  iprop((∃ f, (arg6.view.loc (c : Thread nD τ) ↦[arg6.view.set]{fullShare} f) ∗ ⌜arg6.view.read (Elt F) f = if last then k0_pay2 s.dq else arg6.view.read (Elt F) f6⌝)
    ∗ (∃ f, (arg7.view.loc (c : Thread nD τ) ↦[arg7.view.set]{fullShare} f) ∗ ⌜arg7.view.read (Elt F) f = k0_pay92 s.dk (iota .tc S512x128 32 [1] iota_S512x128_d1_w32)⌝)
    ∗ (∃ f, (arg8.view.loc (c : Thread nD τ) ↦[arg8.view.set]{fullShare} f) ∗ ⌜arg8.view.read (Elt F) f = k0_pay93 s.dv⌝)
    ∗ (∃ f, (arg9.view.loc (c : Thread nD τ) ↦[arg9.view.set]{fullShare} f) ∗ ⌜arg9.view.read (Elt F) f = if last then k0_pay3 (Scalar.muli 2#32 (BitVec.ofNat 32 (i 0).val)) s.dq else arg9.view.read (Elt F) f9⌝)
    ∗ (∃ f, (arg10.view.loc (c : Thread nD τ) ↦[arg10.view.set]{fullShare} f) ∗ ⌜arg10.view.read (Elt F) f = k0_pay1 (k0_pay94 (BitVec.ofNat 32 (i 0).val) s.dk)⌝)
    ∗ Holds c arg11 arg12 arg13 s)

/-- Without an odd tile that step does nothing. -/
theorem odd_none (i : grid0.Coords) (h : ¬ k0_cond2 i = 1#1) (x : Src F) (s : Acc F) : oddStep i x s = s := dif_neg h

/-- The first block of a head pair, as the body tests for it. -/
theorem first_iff : ∀ i : grid0.Coords, Scalar.cmpi .ne (Scalar.extui (Scalar.cmpi .eq (BitVec.ofNat 32 (i 1).val) 0#32) : BitVec 32) 0#32 = 1#1 ↔ (i 1).val = 0 := by
  decide +kernel

/-- The loop's end, with the state it began from. -/
theorem pairs_end (x : Src F) (dq0 : Vec F S8192x256 .f32) {s0 : Acc F} {n : ℕ} {a : Vec F S8192x256 .f32} {b d : Vec F S512x256 .f32} (ha : a = (pairs i x s0 n).dq) (hb : b = (pairs i x s0 n).dk) (hd : d = (pairs i x s0 n).dv)
    (hn : n = (k0_t1_loop i).trips) (hs : s0 = oddStep i x (diagStep i x (start i dq0))) : a = (block i x dq0).dq ∧ b = (block i x dq0).dk ∧ d = (block i x dq0).dv := by
  subst hn hs
  exact ⟨ha, hb, hd⟩

set_option maxHeartbeats 400000 in
/-- The first block of a head pair. -/
theorem body_first (h1 : Scalar.cmpi .ne (Scalar.extui (Scalar.cmpi .eq (BitVec.ofNat 32 (i 1).val) 0#32) : BitVec 32) 0#32 = 1#1) (h2 : k0_cond2 i = 1#1) (h3 : ¬ k0_cond3 i = 1#1)
    (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty)
    (f12 : BufTy.Contents (Elt F) arg12.view.ty) (f13 : BufTy.Contents (Elt F) arg13.view.ty) :
    iprop(Reads c arg2 arg3 arg4 arg5 f2 f3 f4 f5
      ∗ (arg6.view.loc (c : Thread nD τ) ↦[arg6.view.set]{fullShare} f6) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)
      ∗ (arg13.view.loc (c : Thread nD τ) ↦[arg13.view.set]{fullShare} f13))
    ⊢ wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13)
        (fun _ => iprop(Reads c arg2 arg3 arg4 arg5 f2 f3 f4 f5
          ∗ Leaves c i arg6 arg7 arg8 arg9 arg10 arg11 arg12 arg13 ((i 1).val = 15) f6 f9 (block i (src arg2 arg3 arg4 arg5 f2 f3 f4 f5) (arg11.view.read (Elt F) f11)))) := by
  have hi : (i 1).val < 16 := (i 1).isLt
  iintro ⟨HR, H6, H7, H8, H9, H10, H11, H12, H13⟩
  icases HR with ⟨H2, H3, H4, H5⟩
  unfold cc0_attn_bwd
  sl_exec
  sl_step
  have hs : k0_pay51 = (start i (arg11.view.read (Elt F) f11)).dq := (if_pos ((first_iff i).mp h1)).symm
  have hfin := pairs_end i (src arg2 arg3 arg4 arg5 f2 f3 f4 f5) (arg11.view.read (Elt F) f11) hL5 hL7 hL9 rfl (acc_eq
    (odd_dq i h2 (src arg2 arg3 arg4 arg5 f2 f3 f4 f5) _ arg11.view _ _ (diag_dq i (src arg2 arg3 arg4 arg5 f2 f3 f4 f5) (start i (arg11.view.read (Elt F) f11)) arg11.view _ _ ((read_writes_full _ _ _ _ _).trans hs) _ _ _ _ ?_ ?_ ?_ ?_) _ _ ?_ ?_)
    (odd_dk i h2 (src arg2 arg3 arg4 arg5 f2 f3 f4 f5) _ arg12.view _ _ (diag_dk i (src arg2 arg3 arg4 arg5 f2 f3 f4 f5) (start i (arg11.view.read (Elt F) f11)) arg12.view _ _ (read_writes_full _ _ _ _ _) _ _ _ _ ?_ ?_ ?_ ?_) _ _ ?_ ?_)
    (odd_dv i h2 (src arg2 arg3 arg4 arg5 f2 f3 f4 f5) _ arg13.view _ _ (diag_dv i (src arg2 arg3 arg4 arg5 f2 f3 f4 f5) (start i (arg11.view.read (Elt F) f11)) arg13.view _ _ (read_writes_full _ _ _ _ _) _ _ _ _ ?_ ?_ ?_ ?_) _ _ ?_ ?_))
  rotate_left
  all_goals try rfl
  isplitl [H2 H3 H4 H5]
  · isplitl [H2]; · iexact H2
    isplitl [H3]; · iexact H3
    isplitl [H4]; · iexact H4
    iexact H5
  isplitl [H6]
  · iexists _; isplitl [H6]; · iexact H6
    ipureintro; exact (if_neg fun e => h3 ((cond3_iff i).mpr e)).symm
  isplitl [H7]
  · iexists _; isplitl [H7]; · iexact H7
    ipureintro; rw [← hfin.2.1]; exact (read_writes_full _ _ _ _ _).trans (congrArg (fun z => k0_pay92 z (iota .tc S512x128 32 [1] iota_S512x128_d1_w32)) (View.readAt_full arg12.view _ _))
  isplitl [H8]
  · iexists _; isplitl [H8]; · iexact H8
    ipureintro; rw [← hfin.2.2]; exact (read_writes_full _ _ _ _ _).trans (congrArg (k0_pay93) (View.readAt_full arg13.view _ _))
  isplitl [H9]
  · iexists _; isplitl [H9]; · iexact H9
    ipureintro; exact (if_neg fun e => h3 ((cond3_iff i).mpr e)).symm
  isplitl [H10]
  · iexists _; isplitl [H10]; · iexact H10
    ipureintro; rw [← hfin.2.1]; exact (read_writes_full _ _ _ _ _).trans (congrArg (fun z => k0_pay1 (k0_pay94 (BitVec.ofNat 32 (i 0).val) z)) (View.readAt_full arg12.view _ _))
  isplitl [H11]
  · iexists _; isplitl [H11]; · iexact H11
    ipureintro; exact hfin.1
  isplitl [H12]
  · iexists _; isplitl [H12]; · iexact H12
    ipureintro; exact hfin.2.1
  iexists _; isplitl [H13]; · iexact H13
  ipureintro; exact hfin.2.2

set_option maxHeartbeats 400000 in
/-- A later block with an odd tile. -/
theorem body_odd (h1 : ¬ Scalar.cmpi .ne (Scalar.extui (Scalar.cmpi .eq (BitVec.ofNat 32 (i 1).val) 0#32) : BitVec 32) 0#32 = 1#1) (h2 : k0_cond2 i = 1#1) (h3 : ¬ k0_cond3 i = 1#1)
    (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty)
    (f12 : BufTy.Contents (Elt F) arg12.view.ty) (f13 : BufTy.Contents (Elt F) arg13.view.ty) :
    iprop(Reads c arg2 arg3 arg4 arg5 f2 f3 f4 f5
      ∗ (arg6.view.loc (c : Thread nD τ) ↦[arg6.view.set]{fullShare} f6) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)
      ∗ (arg13.view.loc (c : Thread nD τ) ↦[arg13.view.set]{fullShare} f13))
    ⊢ wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13)
        (fun _ => iprop(Reads c arg2 arg3 arg4 arg5 f2 f3 f4 f5
          ∗ Leaves c i arg6 arg7 arg8 arg9 arg10 arg11 arg12 arg13 ((i 1).val = 15) f6 f9 (block i (src arg2 arg3 arg4 arg5 f2 f3 f4 f5) (arg11.view.read (Elt F) f11)))) := by
  have hi : (i 1).val < 16 := (i 1).isLt
  iintro ⟨HR, H6, H7, H8, H9, H10, H11, H12, H13⟩
  icases HR with ⟨H2, H3, H4, H5⟩
  unfold cc0_attn_bwd
  sl_exec
  sl_step
  have hs : arg11.view.read (Elt F) f11 = (start i (arg11.view.read (Elt F) f11)).dq := (if_neg fun e => h1 ((first_iff i).mpr e)).symm
  have hfin := pairs_end i (src arg2 arg3 arg4 arg5 f2 f3 f4 f5) (arg11.view.read (Elt F) f11) hL5 hL7 hL9 rfl (acc_eq
    (odd_dq_found i h2 (src arg2 arg3 arg4 arg5 f2 f3 f4 f5) (diagStep i (src arg2 arg3 arg4 arg5 f2 f3 f4 f5) (start i (arg11.view.read (Elt F) f11))) arg11.view f11 _ _ _ _ (diag_dq_found i (src arg2 arg3 arg4 arg5 f2 f3 f4 f5) (start i (arg11.view.read (Elt F) f11)) arg11.view f11 hs _ _ _ _ ?_ ?_ ?_ ?_) _ _ ?_ ?_)
    (odd_dk i h2 (src arg2 arg3 arg4 arg5 f2 f3 f4 f5) _ arg12.view _ _ (diag_dk i (src arg2 arg3 arg4 arg5 f2 f3 f4 f5) (start i (arg11.view.read (Elt F) f11)) arg12.view _ _ (read_writes_full _ _ _ _ _) _ _ _ _ ?_ ?_ ?_ ?_) _ _ ?_ ?_)
    (odd_dv i h2 (src arg2 arg3 arg4 arg5 f2 f3 f4 f5) _ arg13.view _ _ (diag_dv i (src arg2 arg3 arg4 arg5 f2 f3 f4 f5) (start i (arg11.view.read (Elt F) f11)) arg13.view _ _ (read_writes_full _ _ _ _ _) _ _ _ _ ?_ ?_ ?_ ?_) _ _ ?_ ?_))
  rotate_left
  all_goals try rfl
  isplitl [H2 H3 H4 H5]
  · isplitl [H2]; · iexact H2
    isplitl [H3]; · iexact H3
    isplitl [H4]; · iexact H4
    iexact H5
  isplitl [H6]
  · iexists _; isplitl [H6]; · iexact H6
    ipureintro; exact (if_neg fun e => h3 ((cond3_iff i).mpr e)).symm
  isplitl [H7]
  · iexists _; isplitl [H7]; · iexact H7
    ipureintro; rw [← hfin.2.1]; exact (read_writes_full _ _ _ _ _).trans (congrArg (fun z => k0_pay92 z (iota .tc S512x128 32 [1] iota_S512x128_d1_w32)) (View.readAt_full arg12.view _ _))
  isplitl [H8]
  · iexists _; isplitl [H8]; · iexact H8
    ipureintro; rw [← hfin.2.2]; exact (read_writes_full _ _ _ _ _).trans (congrArg (k0_pay93) (View.readAt_full arg13.view _ _))
  isplitl [H9]
  · iexists _; isplitl [H9]; · iexact H9
    ipureintro; exact (if_neg fun e => h3 ((cond3_iff i).mpr e)).symm
  isplitl [H10]
  · iexists _; isplitl [H10]; · iexact H10
    ipureintro; rw [← hfin.2.1]; exact (read_writes_full _ _ _ _ _).trans (congrArg (fun z => k0_pay1 (k0_pay94 (BitVec.ofNat 32 (i 0).val) z)) (View.readAt_full arg12.view _ _))
  isplitl [H11]
  · iexists _; isplitl [H11]; · iexact H11
    ipureintro; exact hfin.1
  isplitl [H12]
  · iexists _; isplitl [H12]; · iexact H12
    ipureintro; exact hfin.2.1
  iexists _; isplitl [H13]; · iexact H13
  ipureintro; exact hfin.2.2

set_option maxHeartbeats 400000 in
/-- A block without one. -/
theorem body_plain (h1 : ¬ Scalar.cmpi .ne (Scalar.extui (Scalar.cmpi .eq (BitVec.ofNat 32 (i 1).val) 0#32) : BitVec 32) 0#32 = 1#1) (h2 : ¬ k0_cond2 i = 1#1) (h3 : ¬ k0_cond3 i = 1#1)
    (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty)
    (f12 : BufTy.Contents (Elt F) arg12.view.ty) (f13 : BufTy.Contents (Elt F) arg13.view.ty) :
    iprop(Reads c arg2 arg3 arg4 arg5 f2 f3 f4 f5
      ∗ (arg6.view.loc (c : Thread nD τ) ↦[arg6.view.set]{fullShare} f6) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)
      ∗ (arg13.view.loc (c : Thread nD τ) ↦[arg13.view.set]{fullShare} f13))
    ⊢ wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13)
        (fun _ => iprop(Reads c arg2 arg3 arg4 arg5 f2 f3 f4 f5
          ∗ Leaves c i arg6 arg7 arg8 arg9 arg10 arg11 arg12 arg13 ((i 1).val = 15) f6 f9 (block i (src arg2 arg3 arg4 arg5 f2 f3 f4 f5) (arg11.view.read (Elt F) f11)))) := by
  have hi : (i 1).val < 16 := (i 1).isLt
  iintro ⟨HR, H6, H7, H8, H9, H10, H11, H12, H13⟩
  icases HR with ⟨H2, H3, H4, H5⟩
  unfold cc0_attn_bwd
  sl_exec
  sl_step
  have hs : arg11.view.read (Elt F) f11 = (start i (arg11.view.read (Elt F) f11)).dq := (if_neg fun e => h1 ((first_iff i).mpr e)).symm
  have hfin := pairs_end i (src arg2 arg3 arg4 arg5 f2 f3 f4 f5) (arg11.view.read (Elt F) f11) hL5 hL7 hL9 rfl (acc_eq
    ((congrArg Acc.dq (odd_none i h2 (src arg2 arg3 arg4 arg5 f2 f3 f4 f5) (diagStep i (src arg2 arg3 arg4 arg5 f2 f3 f4 f5) (start i (arg11.view.read (Elt F) f11))))).symm ▸ (diag_dq_found i (src arg2 arg3 arg4 arg5 f2 f3 f4 f5) (start i (arg11.view.read (Elt F) f11)) arg11.view f11 hs _ _ _ _ ?_ ?_ ?_ ?_))
    ((congrArg Acc.dk (odd_none i h2 (src arg2 arg3 arg4 arg5 f2 f3 f4 f5) (diagStep i (src arg2 arg3 arg4 arg5 f2 f3 f4 f5) (start i (arg11.view.read (Elt F) f11))))).symm ▸ (diag_dk i (src arg2 arg3 arg4 arg5 f2 f3 f4 f5) (start i (arg11.view.read (Elt F) f11)) arg12.view _ _ (read_writes_full _ _ _ _ _) _ _ _ _ ?_ ?_ ?_ ?_))
    ((congrArg Acc.dv (odd_none i h2 (src arg2 arg3 arg4 arg5 f2 f3 f4 f5) (diagStep i (src arg2 arg3 arg4 arg5 f2 f3 f4 f5) (start i (arg11.view.read (Elt F) f11))))).symm ▸ (diag_dv i (src arg2 arg3 arg4 arg5 f2 f3 f4 f5) (start i (arg11.view.read (Elt F) f11)) arg13.view _ _ (read_writes_full _ _ _ _ _) _ _ _ _ ?_ ?_ ?_ ?_)))
  rotate_left
  all_goals try rfl
  isplitl [H2 H3 H4 H5]
  · isplitl [H2]; · iexact H2
    isplitl [H3]; · iexact H3
    isplitl [H4]; · iexact H4
    iexact H5
  isplitl [H6]
  · iexists _; isplitl [H6]; · iexact H6
    ipureintro; exact (if_neg fun e => h3 ((cond3_iff i).mpr e)).symm
  isplitl [H7]
  · iexists _; isplitl [H7]; · iexact H7
    ipureintro; rw [← hfin.2.1]; exact (read_writes_full _ _ _ _ _).trans (congrArg (fun z => k0_pay92 z (iota .tc S512x128 32 [1] iota_S512x128_d1_w32)) (View.readAt_full arg12.view _ _))
  isplitl [H8]
  · iexists _; isplitl [H8]; · iexact H8
    ipureintro; rw [← hfin.2.2]; exact (read_writes_full _ _ _ _ _).trans (congrArg (k0_pay93) (View.readAt_full arg13.view _ _))
  isplitl [H9]
  · iexists _; isplitl [H9]; · iexact H9
    ipureintro; exact (if_neg fun e => h3 ((cond3_iff i).mpr e)).symm
  isplitl [H10]
  · iexists _; isplitl [H10]; · iexact H10
    ipureintro; rw [← hfin.2.1]; exact (read_writes_full _ _ _ _ _).trans (congrArg (fun z => k0_pay1 (k0_pay94 (BitVec.ofNat 32 (i 0).val) z)) (View.readAt_full arg12.view _ _))
  isplitl [H11]
  · iexists _; isplitl [H11]; · iexact H11
    ipureintro; exact hfin.1
  isplitl [H12]
  · iexists _; isplitl [H12]; · iexact H12
    ipureintro; exact hfin.2.1
  iexists _; isplitl [H13]; · iexact H13
  ipureintro; exact hfin.2.2

set_option maxHeartbeats 400000 in
/-- The last block, which has none and writes the query gradient. -/
theorem body_last (h1 : ¬ Scalar.cmpi .ne (Scalar.extui (Scalar.cmpi .eq (BitVec.ofNat 32 (i 1).val) 0#32) : BitVec 32) 0#32 = 1#1) (h2 : ¬ k0_cond2 i = 1#1) (h3 : k0_cond3 i = 1#1)
    (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty)
    (f12 : BufTy.Contents (Elt F) arg12.view.ty) (f13 : BufTy.Contents (Elt F) arg13.view.ty) :
    iprop(Reads c arg2 arg3 arg4 arg5 f2 f3 f4 f5
      ∗ (arg6.view.loc (c : Thread nD τ) ↦[arg6.view.set]{fullShare} f6) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)
      ∗ (arg13.view.loc (c : Thread nD τ) ↦[arg13.view.set]{fullShare} f13))
    ⊢ wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13)
        (fun _ => iprop(Reads c arg2 arg3 arg4 arg5 f2 f3 f4 f5
          ∗ Leaves c i arg6 arg7 arg8 arg9 arg10 arg11 arg12 arg13 ((i 1).val = 15) f6 f9 (block i (src arg2 arg3 arg4 arg5 f2 f3 f4 f5) (arg11.view.read (Elt F) f11)))) := by
  have hi : (i 1).val < 16 := (i 1).isLt
  iintro ⟨HR, H6, H7, H8, H9, H10, H11, H12, H13⟩
  icases HR with ⟨H2, H3, H4, H5⟩
  unfold cc0_attn_bwd
  sl_exec
  sl_step
  have hs : arg11.view.read (Elt F) f11 = (start i (arg11.view.read (Elt F) f11)).dq := (if_neg fun e => h1 ((first_iff i).mpr e)).symm
  have hfin := pairs_end i (src arg2 arg3 arg4 arg5 f2 f3 f4 f5) (arg11.view.read (Elt F) f11) hL5 hL7 hL9 rfl (acc_eq
    ((congrArg Acc.dq (odd_none i h2 (src arg2 arg3 arg4 arg5 f2 f3 f4 f5) (diagStep i (src arg2 arg3 arg4 arg5 f2 f3 f4 f5) (start i (arg11.view.read (Elt F) f11))))).symm ▸ (diag_dq_found i (src arg2 arg3 arg4 arg5 f2 f3 f4 f5) (start i (arg11.view.read (Elt F) f11)) arg11.view f11 hs _ _ _ _ ?_ ?_ ?_ ?_))
    ((congrArg Acc.dk (odd_none i h2 (src arg2 arg3 arg4 arg5 f2 f3 f4 f5) (diagStep i (src arg2 arg3 arg4 arg5 f2 f3 f4 f5) (start i (arg11.view.read (Elt F) f11))))).symm ▸ (diag_dk i (src arg2 arg3 arg4 arg5 f2 f3 f4 f5) (start i (arg11.view.read (Elt F) f11)) arg12.view _ _ (read_writes_full _ _ _ _ _) _ _ _ _ ?_ ?_ ?_ ?_))
    ((congrArg Acc.dv (odd_none i h2 (src arg2 arg3 arg4 arg5 f2 f3 f4 f5) (diagStep i (src arg2 arg3 arg4 arg5 f2 f3 f4 f5) (start i (arg11.view.read (Elt F) f11))))).symm ▸ (diag_dv i (src arg2 arg3 arg4 arg5 f2 f3 f4 f5) (start i (arg11.view.read (Elt F) f11)) arg13.view _ _ (read_writes_full _ _ _ _ _) _ _ _ _ ?_ ?_ ?_ ?_)))
  rotate_left
  all_goals try rfl
  isplitl [H2 H3 H4 H5]
  · isplitl [H2]; · iexact H2
    isplitl [H3]; · iexact H3
    isplitl [H4]; · iexact H4
    iexact H5
  isplitl [H6]
  · iexists _; isplitl [H6]; · iexact H6
    ipureintro; rw [if_pos ((cond3_iff i).mp h3), ← hfin.1]; exact (read_writes_full _ _ _ _ _).trans (congrArg k0_pay2 (View.readAt_full arg11.view _ _))
  isplitl [H7]
  · iexists _; isplitl [H7]; · iexact H7
    ipureintro; rw [← hfin.2.1]; exact (read_writes_full _ _ _ _ _).trans (congrArg (fun z => k0_pay92 z (iota .tc S512x128 32 [1] iota_S512x128_d1_w32)) (View.readAt_full arg12.view _ _))
  isplitl [H8]
  · iexists _; isplitl [H8]; · iexact H8
    ipureintro; rw [← hfin.2.2]; exact (read_writes_full _ _ _ _ _).trans (congrArg (k0_pay93) (View.readAt_full arg13.view _ _))
  isplitl [H9]
  · iexists _; isplitl [H9]; · iexact H9
    ipureintro; rw [if_pos ((cond3_iff i).mp h3), ← hfin.1]; exact (read_writes_full _ _ _ _ _).trans (congrArg (k0_pay3 (Scalar.muli 2#32 (BitVec.ofNat 32 (i 0).val))) (View.readAt_full arg11.view _ _))
  isplitl [H10]
  · iexists _; isplitl [H10]; · iexact H10
    ipureintro; rw [← hfin.2.1]; exact (read_writes_full _ _ _ _ _).trans (congrArg (fun z => k0_pay1 (k0_pay94 (BitVec.ofNat 32 (i 0).val) z)) (View.readAt_full arg12.view _ _))
  isplitl [H11]
  · iexists _; isplitl [H11]; · iexact H11
    ipureintro; exact hfin.1
  isplitl [H12]
  · iexists _; isplitl [H12]; · iexact H12
    ipureintro; exact hfin.2.1
  iexists _; isplitl [H13]; · iexact H13
  ipureintro; exact hfin.2.2

end

end Cert.AttnBwdIdeal.Run

end
-- ==== Proof.AttnBwdBlock.lean ====
module

public import proofs.«01_k».proof.Proof.AttnBwdBody

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic
open Idealize.ShloMosaic.VecWindow Idealize.ShloMosaic.View
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the kernel's frame. -/
local notation "𝕄" => MT nD τ sig Unit (Elt F) ℕ (UR sig nD τ) ℕ

section
variable (c : Dev nD) (i : grid0.Coords)
  (arg2 : Memref sig .tc .vmem S8192x256 .bf16) (harg2 : arg2.IsWhole)
  (arg3 : Memref sig .tc .vmem S8192x256 .bf16) (harg3 : arg3.IsWhole)
  (arg4 : Memref sig .tc .vmem S512x256 .bf16) (harg4 : arg4.IsWhole)
  (arg5 : Memref sig .tc .vmem S512x256 .bf16) (harg5 : arg5.IsWhole)
  (arg6 : Memref sig .tc .vmem S8192x128 .bf16) (harg6 : arg6.IsWhole)
  (arg7 : Memref sig .tc .vmem S512x128 .bf16) (harg7 : arg7.IsWhole)
  (arg8 : Memref sig .tc .vmem S512x128 .bf16) (harg8 : arg8.IsWhole)
  (arg9 : Memref sig .tc .vmem S1x8192x128 .f32) (harg9 : arg9.IsWhole)
  (arg10 : Memref sig .tc .vmem S1x512x128 .f32) (harg10 : arg10.IsWhole)
  (arg11 : Memref sig .tc .vmem S8192x256 .f32) (harg11 : arg11.IsWhole)
  (arg12 : Memref sig .tc .vmem S512x256 .f32) (harg12 : arg12.IsWhole)
  (arg13 : Memref sig .tc .vmem S512x256 .f32) (harg13 : arg13.IsWhole)

/-- Any block: the four kinds together. -/
theorem body
    (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty)
    (f12 : BufTy.Contents (Elt F) arg12.view.ty) (f13 : BufTy.Contents (Elt F) arg13.view.ty) :
    iprop(Reads c arg2 arg3 arg4 arg5 f2 f3 f4 f5
      ∗ (arg6.view.loc (c : Thread nD τ) ↦[arg6.view.set]{fullShare} f6) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)
      ∗ (arg13.view.loc (c : Thread nD τ) ↦[arg13.view.set]{fullShare} f13))
    ⊢ wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13)
        (fun _ => iprop(Reads c arg2 arg3 arg4 arg5 f2 f3 f4 f5
          ∗ Leaves c i arg6 arg7 arg8 arg9 arg10 arg11 arg12 arg13 ((i 1).val = 15) f6 f9 (block i (src arg2 arg3 arg4 arg5 f2 f3 f4 f5) (arg11.view.read (Elt F) f11)))) := by
  have hi : (i 1).val < 16 := (i 1).isLt
  by_cases e : (i 1).val = 0
  · exact body_first c i arg2 harg2 arg3 harg3 arg4 harg4 arg5 harg5 arg6 harg6 arg7 harg7 arg8 harg8 arg9 harg9 arg10 harg10 arg11 harg11 arg12 harg12 arg13 harg13
      ((first_iff i).mpr e) ((cond2_iff i).mpr (by omega)) (fun h => by have := (cond3_iff i).mp h; omega) f2 f3 f4 f5 f6 f7 f8 f9 f10 f11 f12 f13
  by_cases e' : (i 1).val = 15
  · exact body_last c i arg2 harg2 arg3 harg3 arg4 harg4 arg5 harg5 arg6 harg6 arg7 harg7 arg8 harg8 arg9 harg9 arg10 harg10 arg11 harg11 arg12 harg12 arg13 harg13
      (fun h => e ((first_iff i).mp h)) (fun h => by have := (cond2_iff i).mp h; omega) ((cond3_iff i).mpr e') f2 f3 f4 f5 f6 f7 f8 f9 f10 f11 f12 f13
  by_cases e2 : (i 1).val % 2 = 0
  · exact body_odd c i arg2 harg2 arg3 harg3 arg4 harg4 arg5 harg5 arg6 harg6 arg7 harg7 arg8 harg8 arg9 harg9 arg10 harg10 arg11 harg11 arg12 harg12 arg13 harg13
      (fun h => e ((first_iff i).mp h)) ((cond2_iff i).mpr e2) (fun h => e' ((cond3_iff i).mp h)) f2 f3 f4 f5 f6 f7 f8 f9 f10 f11 f12 f13
  · exact body_plain c i arg2 harg2 arg3 harg3 arg4 harg4 arg5 harg5 arg6 harg6 arg7 harg7 arg8 harg8 arg9 harg9 arg10 harg10 arg11 harg11 arg12 harg12 arg13 harg13
      (fun h => e ((first_iff i).mp h)) (fun h => e2 ((cond2_iff i).mp h)) (fun h => e' ((cond3_iff i).mp h)) f2 f3 f4 f5 f6 f7 f8 f9 f10 f11 f12 f13

/-- The same with each buffer owned at what it reads. -/
theorem body_owns (x : Src F) (z6 : Vec F S8192x128 .bf16) (z9 : Vec F S1x8192x128 .f32) (dq : Vec F S8192x256 .f32) :
    (iprop(owns (c : Thread nD τ) arg2 fullShare x.q ∗ owns (c : Thread nD τ) arg3 fullShare x.d ∗ owns (c : Thread nD τ) arg4 fullShare x.k ∗ owns (c : Thread nD τ) arg5 fullShare x.v
      ∗ owns (c : Thread nD τ) arg6 fullShare z6 ∗ (∃ z, owns (c : Thread nD τ) arg7 fullShare z) ∗ (∃ z, owns (c : Thread nD τ) arg8 fullShare z)
      ∗ owns (c : Thread nD τ) arg9 fullShare z9 ∗ (∃ z, owns (c : Thread nD τ) arg10 fullShare z)
      ∗ owns (c : Thread nD τ) arg11 fullShare dq ∗ (∃ z, owns (c : Thread nD τ) arg12 fullShare z) ∗ (∃ z, owns (c : Thread nD τ) arg13 fullShare z)) : sProp 𝕄)
    ⊢ wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13)
        (fun _ => iprop(owns (c : Thread nD τ) arg2 fullShare x.q ∗ owns (c : Thread nD τ) arg3 fullShare x.d ∗ owns (c : Thread nD τ) arg4 fullShare x.k ∗ owns (c : Thread nD τ) arg5 fullShare x.v
          ∗ owns (c : Thread nD τ) arg6 fullShare (if (i 1).val = 15 then k0_pay2 (block i x dq).dq else z6)
          ∗ owns (c : Thread nD τ) arg7 fullShare (k0_pay92 (block i x dq).dk (iota .tc S512x128 32 [1] iota_S512x128_d1_w32))
          ∗ owns (c : Thread nD τ) arg8 fullShare (k0_pay93 (block i x dq).dv)
          ∗ owns (c : Thread nD τ) arg9 fullShare (if (i 1).val = 15 then k0_pay3 (Scalar.muli 2#32 (BitVec.ofNat 32 (i 0).val)) (block i x dq).dq else z9)
          ∗ owns (c : Thread nD τ) arg10 fullShare (k0_pay1 (k0_pay94 (BitVec.ofNat 32 (i 0).val) (block i x dq).dk))
          ∗ owns (c : Thread nD τ) arg11 fullShare (block i x dq).dq ∗ (∃ z, owns (c : Thread nD τ) arg12 fullShare z) ∗ (∃ z, owns (c : Thread nD τ) arg13 fullShare z))) := by
  obtain ⟨xq, xd, xk, xv⟩ := x
  unfold owns
  iintro ⟨⟨%f2, %e2, H2⟩, ⟨%f3, %e3, H3⟩, ⟨%f4, %e4, H4⟩, ⟨%f5, %e5, H5⟩, ⟨%f6, %e6, H6⟩, ⟨%z7, %f7, %e7, H7⟩, ⟨%z8, %f8, %e8, H8⟩, ⟨%f9, %e9, H9⟩, ⟨%z10, %f10, %e10, H10⟩, ⟨%f11, %e11, H11⟩, ⟨%z12, %f12, %e12, H12⟩, ⟨%z13, %f13, %e13, H13⟩⟩
  subst e2 e3 e4 e5 e6 e9 e11
  iapply (wp_wand_r Idealize.ShloMosaic.frame (wpE (defs₀ (F := F)) Variants.none (c : Thread nD τ) none) Set.univ)
  isplitl [H2 H3 H4 H5 H6 H7 H8 H9 H10 H11 H12 H13]
  · iapply (body c i arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13)
    isplitl [H2 H3 H4 H5]
    · isplitl [H2]; · iexact H2
      isplitl [H3]; · iexact H3
      isplitl [H4]; · iexact H4
      iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %u ⟨⟨H2, H3, H4, H5⟩, ⟨%g6, H6, %k6⟩, ⟨%g7, H7, %k7⟩, ⟨%g8, H8, %k8⟩, ⟨%g9, H9, %k9⟩, ⟨%g10, H10, %k10⟩, ⟨%g11, H11, %k11⟩, ⟨%g12, H12, %k12⟩, ⟨%g13, H13, %k13⟩⟩
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists g6; isplitr; · ipureintro; exact k6
    iexact H6
  isplitl [H7]
  · iexists g7; isplitr; · ipureintro; exact k7
    iexact H7
  isplitl [H8]
  · iexists g8; isplitr; · ipureintro; exact k8
    iexact H8
  isplitl [H9]
  · iexists g9; isplitr; · ipureintro; exact k9
    iexact H9
  isplitl [H10]
  · iexists g10; isplitr; · ipureintro; exact k10
    iexact H10
  isplitl [H11]
  · iexists g11; isplitr; · ipureintro; exact k11
    iexact H11
  isplitl [H12]
  · iexists _; iexists g12; isplitr; · ipureintro; rfl
    iexact H12
  iexists _; iexists g13; isplitr; · ipureintro; rfl
  iexact H13

end

end Cert.AttnBwdIdeal.Run

end
-- ==== Proof.AttnBwdRun.lean ====
module

public import proofs.«01_k».proof.Proof.AttnBwdBlock
public import proofs.«01_k».proof.Proof.Gen.AttnBwdIdeal.Frame
public import proofs.«01_k».proof.Proof.Gen.AttnBwdIdeal.Launch
public import proofs.«01_k».proof.Proof.Gen.AttnBwdIdeal.Points
public import Idealize.ShloMosaic.Lib.Pipeline.FrameBody
public import Idealize.ShloMosaic.Lib.Claim

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the kernel's frame. -/
local notation "𝕄" => MT nD τ sig Unit (Elt F) ℕ (UR sig nD τ) ℕ

variable (m : (ℓ : Loc nD τ sig) → Buf (Elt F) ℓ) (ρ : Dev nD → PrngReg)

/-! ## What each block reads, and what the sums are after it -/

/-- The blocks of q, do, k and v at point `t`. -/
def srcAt (c : Dev nD) (t : Fin cfg0.N) : Src F := ⟨iblk m c 0 t, iblk m c 1 t, iblk m c 2 t, iblk m c 3 t⟩

/-- The three sums after point `n`: the query sum is carried from block to block. -/
def accAt (c : Dev nD) : (n : ℕ) → n < cfg0.N → Acc F
  | 0, h => block (grid0.coords ⟨0, h⟩) (srcAt m c ⟨0, h⟩) k0_pay51
  | n + 1, h => block (grid0.coords ⟨n + 1, h⟩) (srcAt m c ⟨n + 1, h⟩) (accAt c n (Nat.lt_of_succ_lt h)).dq

/-- The second coordinate of a point is its block of keys. -/
theorem coord1 : ∀ t : Fin cfg0.N, (grid0.coords t 1).val = t.val % 16 :=
  (by decide +kernel : ∀ t : Fin grid0.N, (grid0.coords t 1).val = t.val % 16)

/-- The first block of a head pair does not look at the sum before it. -/
theorem block_first (i : grid0.Coords) (h : (i 1).val = 0) (x : Src F) (a b : Vec F S8192x256 .f32) : block i x a = block i x b := by
  have e : start i a = start i b := by unfold start; rw [if_pos h, if_pos h]
  unfold block; rw [e]

/-- At the first point of all, whatever the query sum held. -/
theorem accAt_zero (c : Dev nD) (t : Fin cfg0.N) (h : t.val = 0) (a : Vec F S8192x256 .f32) :
    accAt m c t.val t.isLt = block (grid0.coords t) (srcAt m c t) a := by
  obtain ⟨n, hn⟩ := t
  obtain rfl : n = 0 := h
  exact block_first _ ((coord1 ⟨0, hn⟩).trans (Nat.zero_mod _)) _ _ _

/-- At a later point, from the query sum of the point before. -/
theorem accAt_pos (c : Dev nD) (t : Fin cfg0.N) (h : t.val ≠ 0) :
    accAt m c t.val t.isLt = block (grid0.coords t) (srcAt m c t) (accAt m c (t.val - 1) (by omega)).dq := by
  obtain ⟨n, hn⟩ := t
  cases n with
  | zero => exact absurd rfl h
  | succ n => rfl

/-! ## The kernel's own buffers -/

/-- The query sum's buffer. -/
abbrev scr0 : Memref sig .tc .vmem S8192x256 .f32 := Memref.whole cc0_scratch0
/-- The key sum's buffer. -/
abbrev scr1 : Memref sig .tc .vmem S512x256 .f32 := Memref.whole cc0_scratch1
/-- The value sum's buffer. -/
abbrev scr2 : Memref sig .tc .vmem S512x256 .f32 := Memref.whole cc0_scratch2

/-- Between the blocks of one launch: the query sum at `X`, the other two at anything. -/
def carried (c : Dev nD) (X : Vec F S8192x256 .f32) : sProp 𝕄 :=
  iprop((owns (c : Thread nD τ) scr0 fullShare X ∗ (∃ d, owns (c : Thread nD τ) scr1 fullShare d) ∗ (∃ d, owns (c : Thread nD τ) scr2 fullShare d)) ∗ (∃ r, prngReg c r))

/-- What the launch hands over: the query sum at something. -/
theorem handed_eq (c : Dev nD) : (Pipeline.ΦA spec0 c : sProp 𝕄)
    = iprop(((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- Before point `n`. -/
def before (c : Dev nD) : (n : ℕ) → n ≤ cfg0.N → sProp 𝕄
  | 0, _ => Pipeline.ΦA spec0 c
  | n + 1, h => carried c (accAt m c n h).dq

theorem before_pos (c : Dev nD) (n : ℕ) (h : n ≤ cfg0.N) (hz : n ≠ 0) : before m c n h = carried c (accAt m c (n - 1) (by omega)).dq := by
  cases n with
  | zero => exact absurd rfl hz
  | succ n => rfl

/-! ## The proof data -/

/-- The pipeline's arrays as the launch finds them, and each buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (accAt m c t.val t.isLt).dq
    | ⟨5, _⟩ => k0_pay92 (accAt m c t.val t.isLt).dk (iota .tc S512x128 32 [1] iota_S512x128_d1_w32)
    | ⟨6, _⟩ => k0_pay93 (accAt m c t.val t.isLt).dv
    | ⟨7, _⟩ => k0_pay3 (Scalar.muli 2#32 (BitVec.ofNat 32 (grid0.coords t 0).val)) (accAt m c t.val t.isLt).dq
    | ⟨8, _⟩ => k0_pay1 (k0_pay94 (BitVec.ofNat 32 (grid0.coords t 0).val) (accAt m c t.val t.isLt).dk)
  Φ t := before m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = before m c t.val (Nat.le_of_lt t.isLt) := by
  dsimp only [dats]; exact Pipeline.Dat.Φ_castSucc (before m c) t

theorem after_q (c : Dev nD) (t : Fin cfg0.N) : (dats m 0 c).after 0 t = iblk m c 0 t := by dsimp only [dats]
theorem after_do (c : Dev nD) (t : Fin cfg0.N) : (dats m 0 c).after 1 t = iblk m c 1 t := by dsimp only [dats]
theorem after_k (c : Dev nD) (t : Fin cfg0.N) : (dats m 0 c).after 2 t = iblk m c 2 t := by dsimp only [dats]
theorem after_v (c : Dev nD) (t : Fin cfg0.N) : (dats m 0 c).after 3 t = iblk m c 3 t := by dsimp only [dats]
theorem after_dq (c : Dev nD) (t : Fin cfg0.N) : (dats m 0 c).after 4 t = k0_pay2 (accAt m c t.val t.isLt).dq := by dsimp only [dats]
theorem after_dk (c : Dev nD) (t : Fin cfg0.N) : (dats m 0 c).after 5 t = k0_pay92 (accAt m c t.val t.isLt).dk (iota .tc S512x128 32 [1] iota_S512x128_d1_w32) := by dsimp only [dats]
theorem after_dv (c : Dev nD) (t : Fin cfg0.N) : (dats m 0 c).after 6 t = k0_pay93 (accAt m c t.val t.isLt).dv := by dsimp only [dats]
theorem after_dcq (c : Dev nD) (t : Fin cfg0.N) :
    (dats m 0 c).after 7 t = k0_pay3 (Scalar.muli 2#32 (BitVec.ofNat 32 (grid0.coords t 0).val)) (accAt m c t.val t.isLt).dq := by dsimp only [dats]
theorem after_dck (c : Dev nD) (t : Fin cfg0.N) :
    (dats m 0 c).after 8 t = k0_pay1 (k0_pay94 (BitVec.ofNat 32 (grid0.coords t 0).val) (accAt m c t.val t.isLt).dk) := by dsimp only [dats]

/-- Each input's buffer holds its block at every point. -/
theorem found_q (c : Dev nD) (t : Fin cfg0.N) (d) : (dats m 0 c).before 0 t d = iblk m c 0 t := before0_0_of m (dats m 0 c) (A_eq m c 0) (after_q m c) t d
theorem found_do (c : Dev nD) (t : Fin cfg0.N) (d) : (dats m 0 c).before 1 t d = iblk m c 1 t := before0_1_of m (dats m 0 c) (A_eq m c 1) (after_do m c) t d
theorem found_k (c : Dev nD) (t : Fin cfg0.N) (d) : (dats m 0 c).before 2 t d = iblk m c 2 t := before0_2_of m (dats m 0 c) (A_eq m c 2) (after_k m c) t d
theorem found_v (c : Dev nD) (t : Fin cfg0.N) (d) : (dats m 0 c).before 3 t d = iblk m c 3 t := before0_3_of m (dats m 0 c) (A_eq m c 3) (after_v m c) t d

/-! ## The body at a point -/

/-- Window 4 and window 7 are written at the last block of a head pair only; elsewhere the buffer is handed on. -/
theorem idle_iff (t : Fin cfg0.N) : (!(k0_cond3 (grid0.coords t) == 1#1)) = decide (¬ t.val % 16 = 15) := by
  rw [← coord1 t, Bool.eq_iff_iff]; simp [cond3_iff]

theorem leaves_dq (c : Dev nD) (t : Fin cfg0.N) (d) :
    owns (c : Thread nD τ) (win0_4.stage (cfg0.slots t 4)) fullShare (if (grid0.coords t 1).val = 15 then (dats m 0 c).after 4 t else (dats m 0 c).before 4 t d)
      ⊢ ((dats m 0 c).leavesExact 4 t : sProp 𝕄) := by
  have hi : cfg0.idle 4 (cfg0.grid.coords t) = decide (¬ t.val % 16 = 15) := idle_iff t
  unfold Pipeline.Dat.leavesExact
  by_cases h : t.val % 16 = 15
  · rw [hi, if_pos (by rw [coord1]; exact h), decide_eq_false (not_not.mpr h)]
  · rw [hi, if_neg (by rw [coord1]; exact h), decide_eq_true h, Bool.eq_false_iff.mpr fun e => h ((flush0_4 t).mp e)]
    dsimp only; iintro H; iexists _; iexact H

theorem leaves_dcq (c : Dev nD) (t : Fin cfg0.N) (d) :
    owns (c : Thread nD τ) (win0_7.stage (cfg0.slots t 7)) fullShare (if (grid0.coords t 1).val = 15 then (dats m 0 c).after 7 t else (dats m 0 c).before 7 t d)
      ⊢ ((dats m 0 c).leavesExact 7 t : sProp 𝕄) := by
  have hi : cfg0.idle 7 (cfg0.grid.coords t) = decide (¬ t.val % 16 = 15) := idle_iff t
  unfold Pipeline.Dat.leavesExact
  by_cases h : t.val % 16 = 15
  · rw [hi, if_pos (by rw [coord1]; exact h), decide_eq_false (not_not.mpr h)]
  · rw [hi, if_neg (by rw [coord1]; exact h), decide_eq_true h, Bool.eq_false_iff.mpr fun e => h ((flush0_7 t).mp e)]
    dsimp only; iintro H; iexists _; iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ (dats m 0 c).leavesExact 4 t
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (dats m 0 c).leavesExact 7 t
    ∗ owns (c : Thread nD τ) (win0_8.stage (cfg0.slots t 8)) fullShare ((dats m 0 c).after 8 t))

set_option maxHeartbeats 1600000 in
/-- The body on the buffers of point `t`, the query sum found at `a`. -/
theorem at_point (c : Dev nD) (t : Fin cfg0.N) (a : Vec F S8192x256 .f32) (ha : accAt m c t.val t.isLt = block (grid0.coords t) (srcAt m c t) a) :
    iprop(carried c a ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
    ⊢ wp frame (wpE (defs₀ (F := F)) Variants.none (c : Thread nD τ) none) Set.univ (bodyAt0 t) (fun _ => bodyPost m c t) := by
  unfold bodyPost bodyAt0 carried
  simp only [found_q, found_do, found_k, found_v]
  rw [show (dats m 0 c).owesAt () t.succ = (dats m 0 c).owesAt () t.castSucc from rfl, after_q, after_do, after_k, after_v, after_dk, after_dv, after_dck]
  rw [show (dats m 0 c).Φ t.succ = carried c (accAt m c t.val t.isLt).dq from rfl]
  unfold carried
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r Idealize.ShloMosaic.frame (wpE (defs₀ (F := F)) Variants.none (c : Thread nD τ) none) Set.univ)
  isplitl [S0 S1 S2 H0 H1 H2 H3 H4 H5 H6 H7 H8]
  · iapply (body_owns c (grid0.coords t) _ _ _ _ _ _ _ _ _ _ _ _ _ _ _ _ _ _ _ _ _ _ _ _ (srcAt m c t) ((dats m 0 c).before 4 t d4) ((dats m 0 c).before 7 t d7) a)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [H8]; · iexists _; iexact H8
    isplitl [S0]; · iexact S0
    isplitl [S1]; · iexact S1
    iexact S2
  iintro %u ⟨H0, H1, H2, H3, H4, H5, H6, H7, H8, S0, S1, S2⟩
  rw [← ha]
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iapply (leaves_dq m c t d4); rw [after_dq]; iexact H4
  isplitl [H5]; · iexact H5
  isplitl [H6]; · iexact H6
  isplitl [H7]; · iapply (leaves_dcq m c t d7); rw [after_dcq]; iexact H7
  iexact H8

/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  by_cases hz : t.val = 0
  · have hp : before m c t.val (Nat.le_of_lt t.isLt) = (Pipeline.ΦA spec0 c : sProp 𝕄) := by
      obtain ⟨n, hn⟩ := t; obtain rfl : n = 0 := hz; rfl
    unfold bodyPre
    rw [inv_castSucc, hp, handed_eq]
    iintro ⟨⟨⟨⟨%a, S0⟩, S1, S2⟩, Hg⟩, Hrest⟩
    iapply (at_point m c t a (accAt_zero m c t hz a))
    unfold carried
    isplitl [S0 S1 S2 Hg]
    · isplitl [S0 S1 S2]
      · isplitl [S0]; · iexact S0
        isplitl [S1]; · iexact S1
        iexact S2
      iexact Hg
    iexact Hrest
  · unfold bodyPre
    rw [inv_castSucc, before_pos m c _ _ hz]
    exact at_point m c t _ (accAt_pos m c t hz)

/-- The body table's row at point `t`. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem entered (c : Dev nD) : Pipeline.ΦA spec0 c ⊢ (dats m 0 c).Φ 0 := by
  rw [show (dats m 0 c).Φ 0 = Pipeline.ΦA spec0 c from rfl]

theorem given_back (c : Dev nD) : (dats m 0 c).Φ (Fin.last cfg0.N) ⊢ Pipeline.ΦA spec0 c := by
  rw [show (dats m 0 c).Φ (Fin.last cfg0.N) = before m c cfg0.N (Nat.le_refl _) from rfl,
    before_pos m c _ _ (by rw [show cfg0.N = 64 from N_0]; decide), handed_eq]
  unfold carried
  iintro ⟨⟨S0, S1, S2⟩, Hg⟩
  isplitl [S0 S1 S2]
  · isplitl [S0]; · iexists _; iexact S0
    isplitl [S1]; · iexact S1
    iexact S2
  iexact Hg

/-! ## The launch -/

set_option backward.isDefEq.respectTransparency.types false in
/-- The run of the whole program: the arrays at what the points leave in them, and no semaphore raised. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := entered m) (hout := given_back m)

theorem run_main : θ_run defs (onTc (τ := τ) (main (F := F))) (s₀ m ρ) (Pipeline.FramePost cfgs (dats m) 0 (V m)) :=
  (θ_run defs _ _).mono (fun _ h => h.1) (run_quiet m ρ)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.AttnBwdIdeal.Run

end
-- ==== Proof.AttnBwdArrays.lean ====
/-
  The five arrays the attention backward leaves, as sums over the four arrays it is launched on.
-/
module

public import proofs.«01_k».proof.Proof.AttnBwdSum
public import proofs.«01_k».proof.Proof.AttnBwdRun
public import Idealize.ShloMosaic.Lib.Pipeline.ValueKit

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic Idealize.SL.Sem
open Idealize.ShloMosaic.Pipeline (Dat)

/-- The word of 1/8, and of one with its sign turned. -/
def eighth : EReal := Ideal.ofBits .f32 0x3E000000#32
def negOne : EReal := Ideal.ofBits .f32 0xBF800000#32

/-- Where lane `j` of a packed row lies among the pair's columns: 64 lanes of each head. -/
def packed (j : Fin 128) : Fin 256 := hcol ⟨j.val / 64, by omega⟩ ⟨j.val % 64, by omega⟩

/-- The first head's 64 lanes, or the second's turned into place. -/
theorem lanes {n : ℕ} (a : FVec Ideal ⟨2, ![n, 256]⟩ .f32) (r : Fin n) (j : Fin 128) :
    Scalar.select (IntOp.cmpi .slt (BitVec.ofNat 32 j.val) 64#32) (a (ix2 r ⟨j.val, by omega⟩) : EReal) (a (ix2 r ⟨128 + (j.val + 128 - 64) % 128, by omega⟩)) = a (ix2 r (packed j)) := by
  have hj := j.isLt
  rw [show (64#32 : BitVec 32) = BitVec.ofNat 32 64 from rfl, WordCmp.cmpi_slt_ofNat (by omega) (by omega), WordCmp.select_decide]
  unfold packed hcol
  by_cases h : j.val < 64
  · rw [if_pos h]
    exact congrArg (fun b => a (ix2 r b)) (Fin.ext (by show j.val = 128 * (j.val / 64) + j.val % 64; omega))
  · rw [if_neg h]
    exact congrArg (fun b => a (ix2 r b)) (Fin.ext (by show 128 + (j.val + 128 - 64) % 128 = 128 * (j.val / 64) + j.val % 64; omega))

/-- One column of each head, each at its head's lane of the slab. -/
theorem slab_lanes {n : ℕ} (f : EReal → EReal) (a : FVec Ideal ⟨2, ![n, 256]⟩ .f32) (r : Fin n) (p : Fin 4) (j l : Fin 128) (u v : EReal)
    (hu : u = f (a (ix2 r (hcol 0 l)))) (hv : v = f (a (ix2 r (hcol 1 l)))) :
    Scalar.select (IntOp.cmpi .eq (BitVec.ofNat 32 j.val) (Scalar.muli 2#32 (BitVec.ofNat 32 p.val))) u
        (Scalar.select (IntOp.cmpi .eq (BitVec.ofNat 32 j.val) (Scalar.addi (Scalar.muli 2#32 (BitVec.ofNat 32 p.val)) 1#32)) v 0)
      = if j.val / 2 = p.val then f (a (ix2 r (hcol ⟨j.val % 2, by omega⟩ l))) else 0 := by
  have hj := j.isLt
  have hp := p.isLt
  have e1 : Scalar.muli 2#32 (BitVec.ofNat 32 p.val) = BitVec.ofNat 32 (2 * p.val) := (BitVec.ofNat_mul 2 p.val).symm
  have e2 : Scalar.addi (BitVec.ofNat 32 (2 * p.val)) 1#32 = BitVec.ofNat 32 (2 * p.val + 1) := (BitVec.ofNat_add (2 * p.val) 1).symm
  rw [e1, e2, WordCmp.cmpi_eq_ofNat (by omega) (by omega), WordCmp.cmpi_eq_ofNat (by omega) (by omega), WordCmp.select_decide, WordCmp.select_decide, hu, hv]
  by_cases h0 : j.val = 2 * p.val
  · rw [if_pos h0, if_pos (by omega)]
    exact congrArg (fun h => f (a (ix2 r (hcol h l)))) (Fin.ext (by show 0 = j.val % 2; omega))
  · rw [if_neg h0]
    by_cases h1 : j.val = 2 * p.val + 1
    · rw [if_pos h1, if_pos (by omega)]
      exact congrArg (fun h => f (a (ix2 r (hcol h l)))) (Fin.ext (by show 1 = j.val % 2; omega))
    · rw [if_neg h1, if_neg (by omega)]

theorem pay2_at (a : FVec Ideal S8192x256 .f32) (r : Fin 8192) (j : Fin 128) : k0_pay2 (F := Ideal) a (ix2 r j) = a (ix2 r (packed j)) * eighth := by
  unfold eighth
  pointwise [k0_pay2]
  exact congrArg (fun b : EReal => b * _) (lanes a r j)

theorem pay92_at (a : FVec Ideal S512x256 .f32) (r : Fin 512) (j : Fin 128) :
    k0_pay92 (F := Ideal) a (iota .tc S512x128 32 [1] iota_S512x128_d1_w32) (ix2 r j) = a (ix2 r (packed j)) := by
  pointwise [k0_pay92]
  exact lanes a r j

theorem pay93_at (a : FVec Ideal S512x256 .f32) (r : Fin 512) (j : Fin 128) : k0_pay93 (F := Ideal) a (ix2 r j) = a (ix2 r (packed j)) := by
  pointwise [k0_pay93]
  exact lanes a r j

theorem pay3_at (p : Fin 4) (a : FVec Ideal S8192x256 .f32) (r : Fin 8192) (j : Fin 128) :
    k0_pay3 (F := Ideal) (Scalar.muli 2#32 (BitVec.ofNat 32 p.val)) a (ix3 0 r j)
      = if j.val / 2 = p.val then a (ix2 r (hcol ⟨j.val % 2, by omega⟩ 64)) else 0 := by
  pointwise [k0_pay3]
  exact slab_lanes id a r p j 64 _ _ rfl rfl

theorem pay94_at (p : Fin 4) (a : FVec Ideal S512x256 .f32) (r : Fin 512) (j : Fin 128) :
    k0_pay1 (F := Ideal) (k0_pay94 (BitVec.ofNat 32 p.val) a) (ix3 0 r j)
      = if j.val / 2 = p.val then negOne * a (ix2 r (hcol ⟨j.val % 2, by omega⟩ 67)) else 0 := by
  unfold negOne
  pointwise [k0_pay1, k0_pay94]
  exact slab_lanes (fun b => _ * b) a r p j 67 _ _ rfl rfl

/-! ## Over the launched arrays -/

/-- Lane `l` of head `H`. -/
def gcol (H : Fin 8) (l : Fin 128) : Fin 1024 := ⟨128 * H.val + l.val, by omega⟩

/-- The four arrays the region is launched on. -/
structure Arrs where
  q : FVec Ideal S8192x1024 .bf16
  d : FVec Ideal S8192x1024 .bf16
  k : FVec Ideal S8192x1024 .bf16
  v : FVec Ideal S8192x1024 .bf16

/-- The probability of key `s` at query `r`, -/
def Arrs.prob (x : Arrs) (H : Fin 8) (r s : Fin 8192) : EReal :=
  if s.val ≤ r.val then Ideal.exp (∑ l : Fin 128, (x.k (ix2 s (gcol H l)) : EReal) * x.q (ix2 r (gcol H l))) else 0
/-- and the gradient of their score. -/
def Arrs.grad (x : Arrs) (H : Fin 8) (r s : Fin 8192) : EReal :=
  x.prob H r s * ∑ l : Fin 128, (x.v (ix2 s (gcol H l)) : EReal) * x.d (ix2 r (gcol H l))
/-- The three products: for the queries, -/
def Arrs.sumQ (x : Arrs) (H : Fin 8) (l : Fin 128) (r : Fin 8192) : EReal := ∑ s : Fin 8192, x.grad H r s * x.k (ix2 s (gcol H l))
/-- the keys, -/
def Arrs.sumK (x : Arrs) (H : Fin 8) (l : Fin 128) (s : Fin 8192) : EReal := ∑ r : Fin 8192, x.grad H r s * x.q (ix2 r (gcol H l))
/-- and the values. -/
def Arrs.sumV (x : Arrs) (H : Fin 8) (l : Fin 128) (s : Fin 8192) : EReal := ∑ r : Fin 8192, x.prob H r s * x.d (ix2 r (gcol H l))

variable (m : (ℓ : Loc nD τ sig) → Buf (Elt Ideal) ℓ)

/-- What the region of device `c` is launched on. -/
def arrs (c : Dev nD) : Arrs := ⟨V m c main_v80, V m c main_v147, V m c main_v116, V m c main_v129⟩

theorem idx : ∀ t : Fin cfg0.N, win0_0.index t = ![0, t.val / 16] ∧ win0_1.index t = ![0, t.val / 16] ∧ win0_2.index t = ![t.val % 16, t.val / 16]
    ∧ win0_3.index t = ![t.val % 16, t.val / 16] ∧ win0_4.index t = ![0, t.val / 16] ∧ win0_5.index t = ![t.val % 16, t.val / 16]
    ∧ win0_6.index t = ![t.val % 16, t.val / 16] ∧ win0_7.index t = ![t.val / 16, 0, 0] ∧ win0_8.index t = ![t.val / 16, t.val % 16, 0] ∧ t.val / 16 < 4 :=
  (by decide +kernel : ∀ t : Fin grid0.N, _)

theorem coord0 : ∀ t : Fin cfg0.N, (grid0.coords t 0).val = t.val / 16 := (by decide +kernel : ∀ t : Fin grid0.N, _)

/-- Head `h` of point `t`'s pair. -/
def headOf (t : Fin cfg0.N) (h : Fin 2) : Fin 8 := ⟨2 * (t.val / 16) + h.val, by have := (idx t).2.2.2.2.2.2.2.2.2; omega⟩
/-- Key `s` of point `t`'s block. -/
def keyOf (t : Fin cfg0.N) (s : Fin 512) : Fin 8192 := ⟨512 * (t.val % 16) + s.val, by omega⟩

theorem read_q (A : FVec Ideal S8192x1024 .bf16) (t : Fin cfg0.N) (r : Fin 8192) (h : Fin 2) (l : Fin 128) :
    ((cfg0.win 0).blk t).view.read (Elt Ideal) A (ix2 r (hcol h l)) = A (ix2 r (gcol (headOf t h) l)) := by
  unfold gcol headOf hcol
  blk_ext [idx t]
theorem src_q (c : Dev nD) (t : Fin cfg0.N) (r : Fin 8192) (h : Fin 2) (l : Fin 128) : (srcAt m c t).q (ix2 r (hcol h l)) = (arrs m c).q (ix2 r (gcol (headOf t h) l)) :=
  read_q (arrs m c).q t r h l
theorem read_d (A : FVec Ideal S8192x1024 .bf16) (t : Fin cfg0.N) (r : Fin 8192) (h : Fin 2) (l : Fin 128) :
    ((cfg0.win 1).blk t).view.read (Elt Ideal) A (ix2 r (hcol h l)) = A (ix2 r (gcol (headOf t h) l)) := by
  unfold gcol headOf hcol
  blk_ext [idx t]
theorem src_d (c : Dev nD) (t : Fin cfg0.N) (r : Fin 8192) (h : Fin 2) (l : Fin 128) : (srcAt m c t).d (ix2 r (hcol h l)) = (arrs m c).d (ix2 r (gcol (headOf t h) l)) :=
  read_d (arrs m c).d t r h l
theorem read_k (A : FVec Ideal S8192x1024 .bf16) (t : Fin cfg0.N) (r : Fin 512) (h : Fin 2) (l : Fin 128) :
    ((cfg0.win 2).blk t).view.read (Elt Ideal) A (ix2 r (hcol h l)) = A (ix2 (keyOf t r) (gcol (headOf t h) l)) := by
  unfold gcol headOf hcol keyOf
  blk_ext [idx t]
theorem src_k (c : Dev nD) (t : Fin cfg0.N) (r : Fin 512) (h : Fin 2) (l : Fin 128) : (srcAt m c t).k (ix2 r (hcol h l)) = (arrs m c).k (ix2 (keyOf t r) (gcol (headOf t h) l)) :=
  read_k (arrs m c).k t r h l
theorem read_v (A : FVec Ideal S8192x1024 .bf16) (t : Fin cfg0.N) (r : Fin 512) (h : Fin 2) (l : Fin 128) :
    ((cfg0.win 3).blk t).view.read (Elt Ideal) A (ix2 r (hcol h l)) = A (ix2 (keyOf t r) (gcol (headOf t h) l)) := by
  unfold gcol headOf hcol keyOf
  blk_ext [idx t]
theorem src_v (c : Dev nD) (t : Fin cfg0.N) (r : Fin 512) (h : Fin 2) (l : Fin 128) : (srcAt m c t).v (ix2 r (hcol h l)) = (arrs m c).v (ix2 (keyOf t r) (gcol (headOf t h) l)) :=
  read_v (arrs m c).v t r h l

theorem prob_src (c : Dev nD) (t : Fin cfg0.N) (h : Fin 2) (r : Fin 8192) (s : Fin 512) :
    prob (t.val % 16) (srcAt m c t) h r s = (arrs m c).prob (headOf t h) r (keyOf t s) := by
  unfold prob Arrs.prob
  simp only [src_q, src_k]
  rfl

theorem grad_src (c : Dev nD) (t : Fin cfg0.N) (h : Fin 2) (r : Fin 8192) (s : Fin 512) :
    grad (t.val % 16) (srcAt m c t) h r s = (arrs m c).grad (headOf t h) r (keyOf t s) := by
  unfold grad Arrs.grad
  simp only [src_d, src_v, prob_src]

/-! ## The accumulators at a point -/

/-- Key `s` of block `kb`. -/
def keyAt (kb : ℕ) (s : Fin 512) : Fin 8192 := ⟨(512 * kb + s.val) % 8192, Nat.mod_lt _ (by decide)⟩

/-- The share of key block `kb` in the query sum. -/
def Arrs.partQ (x : Arrs) (H : Fin 8) (l : Fin 128) (r : Fin 8192) (kb : ℕ) : EReal :=
  ∑ s : Fin 512, x.grad H r (keyAt kb s) * x.k (ix2 (keyAt kb s) (gcol H l))

theorem keyAt_point (t : Fin cfg0.N) (s : Fin 512) : keyAt (t.val % 16) s = keyOf t s :=
  Fin.ext (by show (512 * (t.val % 16) + s.val) % 8192 = 512 * (t.val % 16) + s.val; omega)

theorem Arrs.sumQ_parts (x : Arrs) (H : Fin 8) (l : Fin 128) (r : Fin 8192) : ∑ kb ∈ Finset.range 16, x.partQ H l r kb = x.sumQ H l r := by
  unfold Arrs.sumQ
  rw [Finset.sum_range, Fin.sum_univ_tiles 16 512 rfl]
  refine Finset.sum_congr rfl fun kb _ => Finset.sum_congr rfl fun s _ => ?_
  have e : keyAt kb.val s = ⟨kb.val * 512 + s.val, by omega⟩ := Fin.ext (by show (512 * kb.val + s.val) % 8192 = kb.val * 512 + s.val; omega)
  rw [e]

theorem block_part (c : Dev nD) (t : Fin cfg0.N) (r : Fin 8192) (h : Fin 2) (l : Fin 128) :
    ∑ s : Fin 512, grad (grid0.coords t 1).val (srcAt m c t) h r s * ((srcAt m c t).k (ix2 s (hcol h l)) : EReal) = (arrs m c).partQ (headOf t h) l r (t.val % 16) := by
  unfold Arrs.partQ
  refine Finset.sum_congr rfl fun s _ => ?_
  rw [coord1 t, grad_src, src_k, keyAt_point]

theorem acc_dq (c : Dev nD) : ∀ (n : ℕ) (hn : n < cfg0.N) (r : Fin 8192) (h : Fin 2) (l : Fin 128),
    ((accAt m c n hn).dq (ix2 r (hcol h l)) : EReal) = ∑ kb ∈ Finset.range (n % 16 + 1), (arrs m c).partQ (headOf ⟨n, hn⟩ h) l r kb := by
  intro n
  induction n with
  | zero =>
    intro hn r h l
    rw [accAt_zero m c ⟨0, hn⟩ rfl (k0_pay51 (F := Ideal)), block_dq, block_part]
    have hz : ((start (F := Ideal) (grid0.coords ⟨0, hn⟩) (k0_pay51 (F := Ideal))).dq (ix2 r (hcol h l)) : EReal) = 0 := by
      unfold start
      rw [if_pos ((coord1 ⟨0, hn⟩).trans (Nat.zero_mod _))]
      pointwise [k0_pay51]
    rw [hz, zero_add]
    exact (Finset.sum_range_one _).symm
  | succ n ih =>
    intro hn r h l
    rw [accAt_pos m c ⟨n + 1, hn⟩ (Nat.succ_ne_zero n), block_dq, block_part]
    by_cases hb : (n + 1) % 16 = 0
    · have hz : ((start (F := Ideal) (grid0.coords ⟨n + 1, hn⟩) (accAt m c n (by omega)).dq).dq (ix2 r (hcol h l)) : EReal) = 0 := by
        unfold start
        rw [if_pos ((coord1 ⟨n + 1, hn⟩).trans hb)]
        pointwise [k0_pay51]
      refine (congrArg (fun b : EReal => b + _) hz).trans ?_
      rw [zero_add, hb]
      exact (Finset.sum_range_one _).symm
    · have hz : ((start (F := Ideal) (grid0.coords ⟨n + 1, hn⟩) (accAt m c n (by omega)).dq).dq (ix2 r (hcol h l)) : EReal) = (accAt m c n (by omega)).dq (ix2 r (hcol h l)) := by
        unfold start
        rw [if_neg fun e => hb ((coord1 ⟨n + 1, hn⟩).symm.trans e)]
      refine (congrArg (fun b : EReal => b + _) (hz.trans (ih (by omega) r h l))).trans ?_
      have hh : headOf ⟨n, by omega⟩ h = headOf ⟨n + 1, hn⟩ h := Fin.ext (by show 2 * (n / 16) + h.val = 2 * ((n + 1) / 16) + h.val; omega)
      rw [hh, show (n + 1) % 16 = n % 16 + 1 by omega]
      exact (Finset.sum_range_succ _ _).symm

/-- The query sum at a head pair's last point. -/
theorem acc_dq_last (c : Dev nD) (t : Fin cfg0.N) (ht : t.val % 16 = 15) (r : Fin 8192) (h : Fin 2) (l : Fin 128) :
    ((accAt m c t.val t.isLt).dq (ix2 r (hcol h l)) : EReal) = (arrs m c).sumQ (headOf t h) l r := by
  rw [acc_dq, ht]
  exact Arrs.sumQ_parts _ _ _ _

theorem acc_dk (c : Dev nD) (t : Fin cfg0.N) (s : Fin 512) (h : Fin 2) (l : Fin 128) :
    ((accAt m c t.val t.isLt).dk (ix2 s (hcol h l)) : EReal) = (arrs m c).sumK (headOf t h) l (keyOf t s) := by
  have e : ∃ a, accAt m c t.val t.isLt = block (grid0.coords t) (srcAt m c t) a := by
    by_cases ht : t.val = 0
    · exact ⟨k0_pay51 (F := Ideal), accAt_zero m c t ht _⟩
    · exact ⟨_, accAt_pos m c t ht⟩
  obtain ⟨a, e⟩ := e
  rw [e, block_dk]
  unfold Arrs.sumK
  refine Finset.sum_congr rfl fun r _ => ?_
  rw [coord1 t, grad_src, src_q]

theorem acc_dv (c : Dev nD) (t : Fin cfg0.N) (s : Fin 512) (h : Fin 2) (l : Fin 128) :
    ((accAt m c t.val t.isLt).dv (ix2 s (hcol h l)) : EReal) = (arrs m c).sumV (headOf t h) l (keyOf t s) := by
  have e : ∃ a, accAt m c t.val t.isLt = block (grid0.coords t) (srcAt m c t) a := by
    by_cases ht : t.val = 0
    · exact ⟨k0_pay51 (F := Ideal), accAt_zero m c t ht _⟩
    · exact ⟨_, accAt_pos m c t ht⟩
  obtain ⟨a, e⟩ := e
  rw [e, block_dv]
  unfold Arrs.sumV
  refine Finset.sum_congr rfl fun r _ => ?_
  rw [coord1 t, prob_src, src_d]

end Cert.AttnBwdIdeal.Run

end
-- ==== Proof.AttnBwdResults.lean ====
/- The five arrays the attention backward leaves in its results. -/
module

public import proofs.«01_k».proof.Proof.AttnBwdArrays

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic Idealize.SL.Sem
open Idealize.ShloMosaic.Pipeline (Dat)
open Idealize.SL.RA Idealize.SL

variable (m : (ℓ : Loc nD τ sig) → Buf (Elt Ideal) ℓ)

/-- The head of a packed column, -/
def headOfCol (j : Fin 512) : Fin 8 := ⟨j.val / 64, by omega⟩
/-- and its lane. -/
def laneOfCol (j : Fin 512) : Fin 128 := ⟨j.val % 64, by omega⟩

def outQ (x : Arrs) : FVec Ideal S8192x512 .bf16 := fun i => x.sumQ (headOfCol (i 1)) (laneOfCol (i 1)) (i 0) * eighth
def outK (x : Arrs) : FVec Ideal S8192x512 .bf16 := fun i => x.sumK (headOfCol (i 1)) (laneOfCol (i 1)) (i 0)
def outV (x : Arrs) : FVec Ideal S8192x512 .bf16 := fun i => x.sumV (headOfCol (i 1)) (laneOfCol (i 1)) (i 0)
/-- A slab's lane: pair `p`'s two heads at their own lanes, zero elsewhere. -/
def slab (f : Fin 8 → Fin 8192 → EReal) (p : Fin 4) (r : Fin 8192) (j : Fin 128) : EReal :=
  if h : j.val / 2 = p.val then f ⟨j.val, by omega⟩ r else 0
def outCq (x : Arrs) : FVec Ideal S4x8192x128 .f32 := fun i => slab (fun H r => x.sumQ H 64 r) (i 0) (i 1) (i 2)
def outCk (x : Arrs) : FVec Ideal S4x8192x128 .f32 := fun i => slab (fun H s => negOne * x.sumK H 67 s) (i 0) (i 1) (i 2)

/-! ## Where a block's rows lie -/

theorem place4 (t : Fin cfg0.N) (hp : t.val / 16 < 4) (y0 : Fin 8192) (y1 : Fin 128) :
    ((cfg0.win 4).blk t).view.emb (ix2 y0 y1) = ix2 y0 ⟨128 * (t.val / 16) + y1.val, by omega⟩ := by
  blk_ext [idx t]
theorem place5 (t : Fin cfg0.N) (hp : t.val / 16 < 4) (y0 : Fin 512) (y1 : Fin 128) :
    ((cfg0.win 5).blk t).view.emb (ix2 y0 y1) = ix2 (keyOf t y0) ⟨128 * (t.val / 16) + y1.val, by omega⟩ := by
  unfold keyOf
  blk_ext [idx t]
theorem place6 (t : Fin cfg0.N) (hp : t.val / 16 < 4) (y0 : Fin 512) (y1 : Fin 128) :
    ((cfg0.win 6).blk t).view.emb (ix2 y0 y1) = ix2 (keyOf t y0) ⟨128 * (t.val / 16) + y1.val, by omega⟩ := by
  unfold keyOf
  blk_ext [idx t]
theorem place7 (t : Fin cfg0.N) (hp : t.val / 16 < 4) (y0 : Fin 1) (y1 : Fin 8192) (y2 : Fin 128) :
    ((cfg0.win 7).blk t).view.emb (ix3 y0 y1 y2) = ix3 ⟨t.val / 16, hp⟩ y1 y2 := by
  blk_ext [idx t]
theorem place8 (t : Fin cfg0.N) (hp : t.val / 16 < 4) (y0 : Fin 1) (y1 : Fin 512) (y2 : Fin 128) :
    ((cfg0.win 8).blk t).view.emb (ix3 y0 y1 y2) = ix3 ⟨t.val / 16, hp⟩ (keyOf t y1) y2 := by
  unfold keyOf
  blk_ext [idx t]

/-! ## An array from its blocks, whatever left them -/

variable {c : Dev nD} (D : Dat τ (Elt Ideal) Unit ℕ (UR sig nD τ) ℕ cfg0 c)

theorem arr4 (G : FVec Ideal S8192x512 .bf16)
    (hD : ∀ (t : Fin cfg0.N) (hp : t.val / 16 < 4) (y0 : Fin 8192) (y1 : Fin 128), t.val % 16 = 15 →
      ((D.after 4 t : FVec Ideal ⟨2, ![8192, 128]⟩ .bf16) (ix2 y0 y1) : EReal) = G (ix2 y0 ⟨128 * (t.val / 16) + y1.val, by omega⟩)) : D.arrAt 4 cfg0.N = G := by
  refine D.arrAt_eq_of_covers 4 _ (by decide +kernel) fun t hf y => ?_
  blk_simp
  idx_vars y
  have hp := (idx t).2.2.2.2.2.2.2.2.2
  exact (hD t hp y0 y1 ((flush0_4 t).1 hf)).trans (congrArg G (place4 t hp y0 y1)).symm
theorem arr5 (G : FVec Ideal S8192x512 .bf16)
    (hD : ∀ (t : Fin cfg0.N) (hp : t.val / 16 < 4) (y0 : Fin 512) (y1 : Fin 128),
      ((D.after 5 t : FVec Ideal ⟨2, ![512, 128]⟩ .bf16) (ix2 y0 y1) : EReal) = G (ix2 (keyOf t y0) ⟨128 * (t.val / 16) + y1.val, by omega⟩)) : D.arrAt 5 cfg0.N = G := by
  refine D.arrAt_eq_of_covers 5 _ (by decide +kernel) fun t hf y => ?_
  blk_simp
  idx_vars y
  have hp := (idx t).2.2.2.2.2.2.2.2.2
  exact (hD t hp y0 y1).trans (congrArg G (place5 t hp y0 y1)).symm
theorem arr6 (G : FVec Ideal S8192x512 .bf16)
    (hD : ∀ (t : Fin cfg0.N) (hp : t.val / 16 < 4) (y0 : Fin 512) (y1 : Fin 128),
      ((D.after 6 t : FVec Ideal ⟨2, ![512, 128]⟩ .bf16) (ix2 y0 y1) : EReal) = G (ix2 (keyOf t y0) ⟨128 * (t.val / 16) + y1.val, by omega⟩)) : D.arrAt 6 cfg0.N = G := by
  refine D.arrAt_eq_of_covers 6 _ (by decide +kernel) fun t hf y => ?_
  blk_simp
  idx_vars y
  have hp := (idx t).2.2.2.2.2.2.2.2.2
  exact (hD t hp y0 y1).trans (congrArg G (place6 t hp y0 y1)).symm
theorem arr7 (G : FVec Ideal S4x8192x128 .f32)
    (hD : ∀ (t : Fin cfg0.N) (hp : t.val / 16 < 4) (y0 : Fin 1) (y1 : Fin 8192) (y2 : Fin 128), t.val % 16 = 15 →
      ((D.after 7 t : FVec Ideal ⟨3, ![1, 8192, 128]⟩ .f32) (ix3 y0 y1 y2) : EReal) = G (ix3 ⟨t.val / 16, hp⟩ y1 y2)) : D.arrAt 7 cfg0.N = G := by
  refine D.arrAt_eq_of_covers 7 _ (by decide +kernel) fun t hf y => ?_
  blk_simp
  idx_vars y
  have hp := (idx t).2.2.2.2.2.2.2.2.2
  exact (hD t hp y0 y1 y2 ((flush0_7 t).1 hf)).trans (congrArg G (place7 t hp y0 y1 y2)).symm
theorem arr8 (G : FVec Ideal S4x8192x128 .f32)
    (hD : ∀ (t : Fin cfg0.N) (hp : t.val / 16 < 4) (y0 : Fin 1) (y1 : Fin 512) (y2 : Fin 128),
      ((D.after 8 t : FVec Ideal ⟨3, ![1, 512, 128]⟩ .f32) (ix3 y0 y1 y2) : EReal) = G (ix3 ⟨t.val / 16, hp⟩ (keyOf t y1) y2)) : D.arrAt 8 cfg0.N = G := by
  refine D.arrAt_eq_of_covers 8 _ (by decide +kernel) fun t hf y => ?_
  blk_simp
  idx_vars y
  have hp := (idx t).2.2.2.2.2.2.2.2.2
  exact (hD t hp y0 y1 y2).trans (congrArg G (place8 t hp y0 y1 y2)).symm

/-! ## The results -/

theorem final_dq (c : Dev nD) : (dats m 0 c).arrAt 4 (cfgs 0).N = outQ (arrs m c) := by
  refine arr4 _ _ fun t hp y0 y1 ht => ?_
  rw [after_dq]
  refine (pay2_at _ y0 y1).trans ?_
  have eh : headOf t ⟨y1.val / 64, by omega⟩ = headOfCol ⟨128 * (t.val / 16) + y1.val, by omega⟩ :=
    Fin.ext (by show 2 * (t.val / 16) + y1.val / 64 = (128 * (t.val / 16) + y1.val) / 64; omega)
  have el : (⟨y1.val % 64, by omega⟩ : Fin 128) = laneOfCol ⟨128 * (t.val / 16) + y1.val, by omega⟩ :=
    Fin.ext (by show y1.val % 64 = (128 * (t.val / 16) + y1.val) % 64; omega)
  unfold packed
  rw [acc_dq_last m c t ht, eh, el]
  rfl

theorem final_dk (c : Dev nD) : (dats m 0 c).arrAt 5 (cfgs 0).N = outK (arrs m c) := by
  refine arr5 _ _ fun t hp y0 y1 => ?_
  rw [after_dk]
  refine (pay92_at _ y0 y1).trans ?_
  have eh : headOf t ⟨y1.val / 64, by omega⟩ = headOfCol ⟨128 * (t.val / 16) + y1.val, by omega⟩ :=
    Fin.ext (by show 2 * (t.val / 16) + y1.val / 64 = (128 * (t.val / 16) + y1.val) / 64; omega)
  have el : (⟨y1.val % 64, by omega⟩ : Fin 128) = laneOfCol ⟨128 * (t.val / 16) + y1.val, by omega⟩ :=
    Fin.ext (by show y1.val % 64 = (128 * (t.val / 16) + y1.val) % 64; omega)
  unfold packed
  rw [acc_dk, eh, el]
  rfl

theorem final_dv (c : Dev nD) : (dats m 0 c).arrAt 6 (cfgs 0).N = outV (arrs m c) := by
  refine arr6 _ _ fun t hp y0 y1 => ?_
  rw [after_dv]
  refine (pay93_at _ y0 y1).trans ?_
  have eh : headOf t ⟨y1.val / 64, by omega⟩ = headOfCol ⟨128 * (t.val / 16) + y1.val, by omega⟩ :=
    Fin.ext (by show 2 * (t.val / 16) + y1.val / 64 = (128 * (t.val / 16) + y1.val) / 64; omega)
  have el : (⟨y1.val % 64, by omega⟩ : Fin 128) = laneOfCol ⟨128 * (t.val / 16) + y1.val, by omega⟩ :=
    Fin.ext (by show y1.val % 64 = (128 * (t.val / 16) + y1.val) % 64; omega)
  unfold packed
  rw [acc_dv, eh, el]
  rfl

theorem final_dcq (c : Dev nD) : (dats m 0 c).arrAt 7 (cfgs 0).N = outCq (arrs m c) := by
  refine arr7 _ _ fun t hp y0 y1 y2 ht => ?_
  obtain rfl : y0 = 0 := Subsingleton.elim _ _
  rw [after_dcq, coord0 t]
  refine (pay3_at ⟨t.val / 16, hp⟩ _ y1 y2).trans ?_
  show _ = slab (fun H r => (arrs m c).sumQ H 64 r) ⟨t.val / 16, hp⟩ y1 y2
  unfold slab
  by_cases h : y2.val / 2 = t.val / 16
  · rw [if_pos h, dif_pos h, acc_dq_last m c t ht]
    have eh : headOf t ⟨y2.val % 2, by omega⟩ = ⟨y2.val, by omega⟩ := Fin.ext (by show 2 * (t.val / 16) + y2.val % 2 = y2.val; omega)
    rw [eh]
  · rw [if_neg h, dif_neg h]

theorem final_dck (c : Dev nD) : (dats m 0 c).arrAt 8 (cfgs 0).N = outCk (arrs m c) := by
  refine arr8 _ _ fun t hp y0 y1 y2 => ?_
  obtain rfl : y0 = 0 := Subsingleton.elim _ _
  rw [after_dck, coord0 t]
  refine (pay94_at ⟨t.val / 16, hp⟩ _ y1 y2).trans ?_
  show _ = slab (fun H s => negOne * (arrs m c).sumK H 67 s) ⟨t.val / 16, hp⟩ (keyOf t y1) y2
  unfold slab
  by_cases h : y2.val / 2 = t.val / 16
  · rw [if_pos h, dif_pos h, acc_dk]
    have eh : headOf t ⟨y2.val % 2, by omega⟩ = ⟨y2.val, by omega⟩ := Fin.ext (by show 2 * (t.val / 16) + y2.val % 2 = y2.val; omega)
    rw [eh]
  · rw [if_neg h, dif_neg h]

end Cert.AttnBwdIdeal.Run

end
-- ==== Proof.AttnBwdRows.lean ====
/- The four packed arrays the backward kernel is launched on, entry by entry. -/
module
public import proofs.«01_k».proof.Proof.AttnBwdResults
public import Idealize.ShloMosaic.Lib.StableHlo.ReadAt
@[expose] public section
set_option maxRecDepth 16384
noncomputable section
namespace Cert.AttnBwdIdeal.Run
open Cert.AttnBwdIdeal Cert.AttnBwdIdeal.Gen
open Idealize.ShloMosaic Idealize.ShloMosaic.TcCoe Idealize.ShloMosaic.Tactic Idealize.SL.Sem

/-- The float word of one, as it stands. -/
def one : EReal := Ideal.ofBits .f32 0x3F800000#32

/-- A packed row of 128 lanes: the 64 lanes of a head, nine lanes of scalars, then one value over. -/
def aug (f : Fin 64 → EReal) (a b c d e g h i j z : EReal) (l : Fin 128) : EReal :=
  if hl : l.val < 64 then f ⟨l.val, hl⟩
  else if l.val - 64 < 1 then a
  else if l.val - 64 - 1 < 1 then b
  else if l.val - 64 - 1 - 1 < 1 then c
  else if l.val - 64 - 1 - 1 - 1 < 1 then d
  else if l.val - 64 - 1 - 1 - 1 - 1 < 1 then e
  else if l.val - 64 - 1 - 1 - 1 - 1 - 1 < 1 then g
  else if l.val - 64 - 1 - 1 - 1 - 1 - 1 - 1 < 1 then h
  else if l.val - 64 - 1 - 1 - 1 - 1 - 1 - 1 - 1 < 1 then i
  else if l.val - 64 - 1 - 1 - 1 - 1 - 1 - 1 - 1 - 1 < 1 then j
  else z

/-- A packed row with three lanes of scalars. -/
def aug3 (f : Fin 64 → EReal) (a b c z : EReal) (l : Fin 128) : EReal :=
  if hl : l.val < 64 then f ⟨l.val, hl⟩
  else if l.val - 64 < 1 then a
  else if l.val - 64 - 1 < 1 then b
  else if l.val - 64 - 1 - 1 < 1 then c
  else z

/-- One entry of an array of heads. -/
def head3 (A : FVec Ideal S8192x8x64 .f32) (r : Fin 8192) (H : Fin 8) (x : Fin 64) : EReal := A (ix3 r H x)

abbrev Val := Valuation τ sig (Elt Ideal)

theorem gcol_div (H : Fin 8) (l : Fin 128) (h) : (⟨(gcol H l).val / 128, h⟩ : Fin 8) = H :=
  Fin.ext (by show (128 * H.val + l.val) / 128 = _; omega)

theorem gcol_mod (H : Fin 8) (l : Fin 128) (h) : (⟨(gcol H l).val % 128, h⟩ : Fin 128) = l :=
  Fin.ext (by show (128 * H.val + l.val) % 128 = _; omega)

theorem q_flat (U : Val) (r : Fin 8192) (y : Fin 1024) :
    (StableHlo.after (List.drop 65 hostOps0_2) U main_v80 : FVec Ideal S8192x1024 .bf16) (ix2 r y)
      = (U main_v78 : FVec Ideal S8192x8x128 .f32) (ix3 r ⟨y.val / 128, by have := y.isLt; omega⟩ ⟨y.val % 128, by omega⟩) := by
  after_reads_at

theorem q_cat (U : Val) (r : Fin 8192) (H : Fin 8) (l : Fin 128) (f : Fin 64 → EReal) (a b c d e g h i j z : EReal)
    (hf : ∀ x, (U main_v40 : FVec Ideal S8192x8x64 .f32) (ix3 r H x) = f x)
    (ha : ∀ y, (U main_v62 : FVec Ideal S8192x8x1 .f32) (ix3 r H y) = a)
    (hb : ∀ y, (U main_v63 : FVec Ideal S8192x8x1 .f32) (ix3 r H y) = b)
    (hc : ∀ y, (U main_v64 : FVec Ideal S8192x8x1 .f32) (ix3 r H y) = c)
    (hd : ∀ y, (U main_v75 : FVec Ideal S8192x8x1 .f32) (ix3 r H y) = d)
    (he : ∀ y, (U main_v76 : FVec Ideal S8192x8x1 .f32) (ix3 r H y) = e)
    (hg : ∀ y, (U main_v77 : FVec Ideal S8192x8x1 .f32) (ix3 r H y) = g)
    (hh : ∀ y, (U main_v71 : FVec Ideal S8192x8x1 .f32) (ix3 r H y) = h)
    (hi : ∀ y, (U main_v72 : FVec Ideal S8192x8x1 .f32) (ix3 r H y) = i)
    (hj : ∀ y, (U main_v73 : FVec Ideal S8192x8x1 .f32) (ix3 r H y) = j)
    (hz : ∀ y, (U main_v74 : FVec Ideal S8192x8x55 .f32) (ix3 r H y) = z) :
    (StableHlo.after (List.drop 64 hostOps0_2) U main_v80 : FVec Ideal S8192x1024 .bf16) (ix2 r (gcol H l))
      = aug f a b c d e g h i j z l := by
  show (StableHlo.after (List.drop 65 hostOps0_2) (StableHlo.after (List.take 1 (List.drop 64 hostOps0_2)) U) main_v80
    : FVec Ideal S8192x1024 .bf16) (ix2 r (gcol H l)) = _
  rw [q_flat, gcol_div, gcol_mod]
  after_reads_at
  simp only [hf, ha, hb, hc, hd, he, hg, hh, hi, hj, hz]
  rfl

theorem k_flat (U : Val) (r : Fin 8192) (y : Fin 1024) :
    (StableHlo.after (List.drop 108 hostOps0_2) U main_v116 : FVec Ideal S8192x1024 .bf16) (ix2 r y)
      = (U main_v114 : FVec Ideal S8192x8x128 .f32) (ix3 r ⟨y.val / 128, by have := y.isLt; omega⟩ ⟨y.val % 128, by omega⟩) := by
  after_reads_at

theorem k_cat (U : Val) (r : Fin 8192) (H : Fin 8) (l : Fin 128) (f : Fin 64 → EReal) (a b c d e g h i j z : EReal)
    (hf : ∀ x, (U main_v1 : FVec Ideal S8192x8x64 .f32) (ix3 r H x) = f x)
    (ha : ∀ y, (U main_v108 : FVec Ideal S8192x8x1 .f32) (ix3 r H y) = a)
    (hb : ∀ y, (U main_v109 : FVec Ideal S8192x8x1 .f32) (ix3 r H y) = b)
    (hc : ∀ y, (U main_v110 : FVec Ideal S8192x8x1 .f32) (ix3 r H y) = c)
    (hd : ∀ y, (U main_v98 : FVec Ideal S8192x8x1 .f32) (ix3 r H y) = d)
    (he : ∀ y, (U main_v99 : FVec Ideal S8192x8x1 .f32) (ix3 r H y) = e)
    (hg : ∀ y, (U main_v100 : FVec Ideal S8192x8x1 .f32) (ix3 r H y) = g)
    (hh : ∀ y, (U main_v111 : FVec Ideal S8192x8x1 .f32) (ix3 r H y) = h)
    (hi : ∀ y, (U main_v112 : FVec Ideal S8192x8x1 .f32) (ix3 r H y) = i)
    (hj : ∀ y, (U main_v113 : FVec Ideal S8192x8x1 .f32) (ix3 r H y) = j)
    (hz : ∀ y, (U main_v107 : FVec Ideal S8192x8x55 .f32) (ix3 r H y) = z) :
    (StableHlo.after (List.drop 107 hostOps0_2) U main_v116 : FVec Ideal S8192x1024 .bf16) (ix2 r (gcol H l))
      = aug f a b c d e g h i j z l := by
  show (StableHlo.after (List.drop 108 hostOps0_2) (StableHlo.after (List.take 1 (List.drop 107 hostOps0_2)) U) main_v116
    : FVec Ideal S8192x1024 .bf16) (ix2 r (gcol H l)) = _
  rw [k_flat, gcol_div, gcol_mod]
  after_reads_at
  simp only [hf, ha, hb, hc, hd, he, hg, hh, hi, hj, hz]
  rfl

theorem v_flat (U : Val) (r : Fin 8192) (y : Fin 1024) :
    (StableHlo.after (List.drop 125 hostOps0_2) U main_v129 : FVec Ideal S8192x1024 .bf16) (ix2 r y)
      = (U main_v127 : FVec Ideal S8192x8x128 .f32) (ix3 r ⟨y.val / 128, by have := y.isLt; omega⟩ ⟨y.val % 128, by omega⟩) := by
  after_reads_at

theorem v_cat (U : Val) (r : Fin 8192) (H : Fin 8) (l : Fin 128) (f : Fin 64 → EReal) (a b c z : EReal)
    (hf : ∀ x, (U main_v2 : FVec Ideal S8192x8x64 .f32) (ix3 r H x) = f x)
    (ha : ∀ y, (U main_v124 : FVec Ideal S8192x8x1 .f32) (ix3 r H y) = a)
    (hb : ∀ y, (U main_v125 : FVec Ideal S8192x8x1 .f32) (ix3 r H y) = b)
    (hc : ∀ y, (U main_v126 : FVec Ideal S8192x8x1 .f32) (ix3 r H y) = c)
    (hz : ∀ y, (U main_v123 : FVec Ideal S8192x8x61 .f32) (ix3 r H y) = z) :
    (StableHlo.after (List.drop 124 hostOps0_2) U main_v129 : FVec Ideal S8192x1024 .bf16) (ix2 r (gcol H l))
      = aug3 f a b c z l := by
  show (StableHlo.after (List.drop 125 hostOps0_2) (StableHlo.after (List.take 1 (List.drop 124 hostOps0_2)) U) main_v129
    : FVec Ideal S8192x1024 .bf16) (ix2 r (gcol H l)) = _
  rw [v_flat, gcol_div, gcol_mod]
  after_reads_at
  simp only [hf, ha, hb, hc, hz]
  rfl

theorem d_flat (U : Val) (r : Fin 8192) (y : Fin 1024) :
    (StableHlo.after (List.drop 144 hostOps0_2) U main_v147 : FVec Ideal S8192x1024 .bf16) (ix2 r y)
      = (U main_v145 : FVec Ideal S8192x8x128 .f32) (ix3 r ⟨y.val / 128, by have := y.isLt; omega⟩ ⟨y.val % 128, by omega⟩) := by
  after_reads_at

theorem d_cat (U : Val) (r : Fin 8192) (H : Fin 8) (l : Fin 128) (f : Fin 64 → EReal) (a b c z : EReal)
    (hf : ∀ x, (U main_v3 : FVec Ideal S8192x8x64 .f32) (ix3 r H x) = f x)
    (ha : ∀ y, (U main_v141 : FVec Ideal S8192x8x1 .f32) (ix3 r H y) = a)
    (hb : ∀ y, (U main_v142 : FVec Ideal S8192x8x1 .f32) (ix3 r H y) = b)
    (hc : ∀ y, (U main_v143 : FVec Ideal S8192x8x1 .f32) (ix3 r H y) = c)
    (hz : ∀ y, (U main_v144 : FVec Ideal S8192x8x61 .f32) (ix3 r H y) = z) :
    (StableHlo.after (List.drop 143 hostOps0_2) U main_v147 : FVec Ideal S8192x1024 .bf16) (ix2 r (gcol H l))
      = aug3 f a b c z l := by
  show (StableHlo.after (List.drop 144 hostOps0_2) (StableHlo.after (List.take 1 (List.drop 143 hostOps0_2)) U) main_v147
    : FVec Ideal S8192x1024 .bf16) (ix2 r (gcol H l)) = _
  rw [d_flat, gcol_div, gcol_mod]
  after_reads_at
  simp only [hf, ha, hb, hc, hz]
  rfl

theorem q_row (U : Val) (r : Fin 8192) (H : Fin 8) (l : Fin 128) (c n : EReal)
    (hc : (U main_arg3 : FVec Ideal S8192x8 .f32) (ix2 r H) = c)
    (hn : (U main_v32 : FVec Ideal S8192x8 .f32) (ix2 r H) = n) :
    (StableHlo.after (List.drop 20 hostOps0_2) U main_v80 : FVec Ideal S8192x1024 .bf16) (ix2 r (gcol H l))
      = aug (fun x => head3 (U main_v0) r H x * eighth)
          c (c - c) (c - c - (c - c)) one one one (-n) (-n - -n) (-n - -n - (-n - -n)) 0 l := by
  show (StableHlo.after (List.drop 64 hostOps0_2) (StableHlo.after (List.take 44 (List.drop 20 hostOps0_2)) U) main_v80
    : FVec Ideal S8192x1024 .bf16) (ix2 r (gcol H l)) = _
  subst hc hn
  refine q_cat _ r H l _ _ _ _ _ _ _ _ _ _ _ ?_ ?_ ?_ ?_ ?_ ?_ ?_ ?_ ?_ ?_ ?_ <;> intro y <;> after_reads_at <;> rfl

theorem k_row (U : Val) (r : Fin 8192) (H : Fin 8) (l : Fin 128) (c : EReal)
    (hc : (U main_arg3 : FVec Ideal S8192x8 .f32) (ix2 r H) = c) :
    (StableHlo.after (List.drop 20 hostOps0_2) U main_v116 : FVec Ideal S8192x1024 .bf16) (ix2 r (gcol H l))
      = aug (fun x => head3 (U main_v1) r H x)
          one one one (-c) (-c - -c) (-c - -c - (-c - -c)) one one one 0 l := by
  show (StableHlo.after (List.drop 107 hostOps0_2) (StableHlo.after (List.take 87 (List.drop 20 hostOps0_2)) U) main_v116
    : FVec Ideal S8192x1024 .bf16) (ix2 r (gcol H l)) = _
  subst hc
  refine k_cat _ r H l _ _ _ _ _ _ _ _ _ _ _ ?_ ?_ ?_ ?_ ?_ ?_ ?_ ?_ ?_ ?_ ?_ <;> intro y <;> after_reads_at <;> rfl

theorem v_row (U : Val) (r : Fin 8192) (H : Fin 8) (l : Fin 128)
    :
    (StableHlo.after (List.drop 20 hostOps0_2) U main_v129 : FVec Ideal S8192x1024 .bf16) (ix2 r (gcol H l))
      = aug3 (fun x => head3 (U main_v2) r H x) one one one 0 l := by
  show (StableHlo.after (List.drop 124 hostOps0_2) (StableHlo.after (List.take 104 (List.drop 20 hostOps0_2)) U) main_v129
    : FVec Ideal S8192x1024 .bf16) (ix2 r (gcol H l)) = _
  refine v_cat _ r H l _ _ _ _ _ ?_ ?_ ?_ ?_ ?_ <;> intro y <;> after_reads_at <;> rfl

theorem d_row (U : Val) (r : Fin 8192) (H : Fin 8) (l : Fin 128) (n : EReal)
    (hn : (U main_v38 : FVec Ideal S8192x8 .f32) (ix2 r H) = n) :
    (StableHlo.after (List.drop 20 hostOps0_2) U main_v147 : FVec Ideal S8192x1024 .bf16) (ix2 r (gcol H l))
      = aug3 (fun x => head3 (U main_v3) r H x) (-n) (-n - -n) (-n - -n - (-n - -n)) 0 l := by
  show (StableHlo.after (List.drop 143 hostOps0_2) (StableHlo.after (List.take 123 (List.drop 20 hostOps0_2)) U) main_v147
    : FVec Ideal S8192x1024 .bf16) (ix2 r (gcol H l)) = _
  subst hn
  refine d_cat _ r H l _ _ _ _ _ ?_ ?_ ?_ ?_ ?_ <;> intro y <;> after_reads_at <;> rfl

end Cert.AttnBwdIdeal.Run
end
-- ==== Proof.AttnBwdHost.lean ====
/- The four packed arrays in terms of the five arguments of the call. -/
module
public import proofs.«01_k».proof.Proof.AttnBwdRows
public import Idealize.ShloMosaic.Lib.WordCmp
@[expose] public section
set_option maxRecDepth 16384
noncomputable section
namespace Cert.AttnBwdIdeal.Run
open Cert.AttnBwdIdeal Cert.AttnBwdIdeal.Gen
open Idealize.ShloMosaic Idealize.ShloMosaic.TcCoe Idealize.ShloMosaic.Tactic Idealize.SL.Sem

/-- The float word of minus infinity, as it stands. -/
def lowest : EReal := Ideal.ofBits .f32 0xFF800000#32

/-- The largest of a row. -/
def rowMax (Z : Fin 8192 → EReal) : EReal := Finset.fold max lowest Z Finset.univ

/-- The exponentials of a row under its largest, and their sum. -/
def rowExp (Z : Fin 8192 → EReal) (s : Fin 8192) : EReal := Ideal.exp (Z s - rowMax Z)
def rowSum (Z : Fin 8192 → EReal) : EReal := ∑ s, rowExp Z s

/-- The logarithm of a row's sum of exponentials. -/
def rowLse (Z : Fin 8192 → EReal) : EReal := rowMax Z + Ideal.log (rowSum Z)

theorem top_at (U : Val) (H : Fin 8) (r : Fin 8192) (Z : Fin 8192 → EReal)
    (hZ : ∀ s, (U main_v21 : FVec Ideal S8x8192x8192 .f32) (ix3 H r s) = Z s) :
    (StableHlo.after (List.take 10 hostOps0_2) U main_v23 : FVec Ideal S8x8192x1 .f32) (ix3 H r 0) = rowMax Z := by
  after_reads_at
  simp only [hZ]
  rfl

theorem log_at (U : Val) (H : Fin 8) (r : Fin 8192) (Z : Fin 8192 → EReal)
    (hZ : ∀ s, (U main_v21 : FVec Ideal S8x8192x8192 .f32) (ix3 H r s) = Z s) :
    (StableHlo.after (List.take 10 hostOps0_2) U main_v29 : FVec Ideal S8x8192x1 .f32) (ix3 H r 0) = Ideal.log (rowSum Z) := by
  after_reads_at
  simp only [hZ]
  rfl

theorem lse_join (U : Val) (H : Fin 8) (r : Fin 8192) (a b : EReal)
    (ha : (U main_v23 : FVec Ideal S8x8192x1 .f32) (ix3 H r 0) = a)
    (hb : (U main_v29 : FVec Ideal S8x8192x1 .f32) (ix3 H r 0) = b) :
    (StableHlo.after (List.drop 10 (List.take 20 hostOps0_2)) U main_v32 : FVec Ideal S8192x8 .f32) (ix2 r H) = a + b := by
  subst ha hb
  after_reads_at

theorem lse_at (U : Val) (H : Fin 8) (r : Fin 8192) (Z : Fin 8192 → EReal)
    (hZ : ∀ s, (U main_v21 : FVec Ideal S8x8192x8192 .f32) (ix3 H r s) = Z s) :
    (StableHlo.after (List.take 20 hostOps0_2) U main_v32 : FVec Ideal S8192x8 .f32) (ix2 r H) = rowLse Z :=
  lse_join (StableHlo.after (List.take 10 hostOps0_2) U) H r _ _ (top_at U H r Z hZ) (log_at U H r Z hZ)

theorem delta_at (U : Val) (H : Fin 8) (r : Fin 8192) (Z : Fin 8192 → EReal)
    (hZ : ∀ s, (U main_v21 : FVec Ideal S8x8192x8192 .f32) (ix3 H r s) = Z s) :
    (StableHlo.after (List.take 20 hostOps0_2) U main_v38 : FVec Ideal S8192x8 .f32) (ix2 r H)
      = ∑ x : Fin 64, (∑ s : Fin 8192, head3 (U main_v2) s H x * Ideal.div (rowExp Z s) (rowSum Z))
          * head3 (U main_v3) r H x := by
  after_reads_at
  simp only [hZ]
  rfl

theorem keep20 (U : Val) :
    StableHlo.after (List.take 20 hostOps0_2) U main_v0 = U main_v0
      ∧ StableHlo.after (List.take 20 hostOps0_2) U main_v1 = U main_v1
      ∧ StableHlo.after (List.take 20 hostOps0_2) U main_v2 = U main_v2
      ∧ StableHlo.after (List.take 20 hostOps0_2) U main_v3 = U main_v3
      ∧ StableHlo.after (List.take 20 hostOps0_2) U main_arg3 = U main_arg3 := by
  refine ⟨?_, ?_, ?_, ?_, ?_⟩ <;> after_reads_simp

/-- The column of lane `x` of head `H` in an array of eight heads side by side. -/
def headCol (H : Fin 8) (x : Fin 64) : Fin 512 := ⟨H.val * 64 + x.val, by omega⟩

/-- The entry of lane `x` of head `H` in row `r`. -/
def flat (A : FVec Ideal S8192x512 .f32) (r : Fin 8192) (H : Fin 8) (x : Fin 64) : EReal := A (ix2 r (headCol H x))

/-- The entry of head `H` in row `r` of an array with one column a head. -/
def per (c : FVec Ideal S8192x8 .f32) (r : Fin 8192) (H : Fin 8) : EReal := c (ix2 r H)

/-- The scores of one head: causal, scaled, with the two decay columns. -/
def score (q k : FVec Ideal S8192x512 .f32) (c : FVec Ideal S8192x8 .f32) (H : Fin 8) (r s : Fin 8192) : EReal :=
  if s ≤ r then (∑ x : Fin 64, flat q r H x * flat k s H x) * eighth + per c r H - per c s H else lowest

theorem score_at (U : Val) (H : Fin 8) (r s : Fin 8192) :
    (StableHlo.after (hostOps0 ++ hostOps0_1) U main_v21 : FVec Ideal S8x8192x8192 .f32) (ix3 H r s)
      = score (U main_arg0) (U main_arg1) (U main_arg3) H r s := by
  after_reads_at
  unfold score
  rw [WordCmp.cmpi_sge_ofNat (by omega) (by omega), WordCmp.select_decide]
  rfl

theorem split_at (U : Val) (r : Fin 8192) (H : Fin 8) (x : Fin 64) :
    head3 (StableHlo.after (hostOps0 ++ hostOps0_1) U main_v0) r H x = flat (U main_arg0) r H x
      ∧ head3 (StableHlo.after (hostOps0 ++ hostOps0_1) U main_v1) r H x = flat (U main_arg1) r H x
      ∧ head3 (StableHlo.after (hostOps0 ++ hostOps0_1) U main_v2) r H x = flat (U main_arg2) r H x
      ∧ head3 (StableHlo.after (hostOps0 ++ hostOps0_1) U main_v3) r H x = flat (U main_arg4) r H x := by
  unfold head3 flat headCol
  refine ⟨?_, ?_, ?_, ?_⟩ <;> after_reads_at

theorem keep_arg3 (U : Val) : StableHlo.after (hostOps0 ++ hostOps0_1) U main_arg3 = U main_arg3 := by
  after_reads_simp

/-- The rowsum of a head's output against its cotangent. -/
def rowDelta (Z : Fin 8192 → EReal) (v d : FVec Ideal S8192x512 .f32) (H : Fin 8) (r : Fin 8192) : EReal :=
  ∑ x : Fin 64, (∑ s : Fin 8192, flat v s H x * Ideal.div (rowExp Z s) (rowSum Z)) * flat d r H x

/-- The three parts of a number whose last two are what rounding left, all numbers being exact. -/
abbrev part2 (a : EReal) : EReal := a - a
abbrev part3 (a : EReal) : EReal := a - a - (a - a)

/-- What the host lines leave before the packing. -/
def mid (U : Val) : Val := StableHlo.after (List.take 20 hostOps0_2) (StableHlo.after (hostOps0 ++ hostOps0_1) U)

theorem mid_flat (U : Val) (r : Fin 8192) (H : Fin 8) (x : Fin 64) :
    head3 (mid U main_v0) r H x = flat (U main_arg0) r H x
      ∧ head3 (mid U main_v1) r H x = flat (U main_arg1) r H x
      ∧ head3 (mid U main_v2) r H x = flat (U main_arg2) r H x
      ∧ head3 (mid U main_v3) r H x = flat (U main_arg4) r H x := by
  obtain ⟨h0, h1, h2, h3, -⟩ := keep20 (StableHlo.after (hostOps0 ++ hostOps0_1) U)
  obtain ⟨g0, g1, g2, g3⟩ := split_at U r H x
  unfold mid
  exact ⟨(congrArg (fun A => head3 A r H x) h0).trans g0, (congrArg (fun A => head3 A r H x) h1).trans g1,
    (congrArg (fun A => head3 A r H x) h2).trans g2, (congrArg (fun A => head3 A r H x) h3).trans g3⟩

theorem mid_per (U : Val) (r : Fin 8192) (H : Fin 8) :
    (mid U main_arg3 : FVec Ideal S8192x8 .f32) (ix2 r H) = per (U main_arg3) r H := by
  obtain ⟨-, -, -, -, h⟩ := keep20 (StableHlo.after (hostOps0 ++ hostOps0_1) U)
  exact congrArg (fun A : FVec Ideal S8192x8 .f32 => A (ix2 r H)) (h.trans (keep_arg3 U))

theorem mid_lse (U : Val) (r : Fin 8192) (H : Fin 8) :
    (mid U main_v32 : FVec Ideal S8192x8 .f32) (ix2 r H) = rowLse (score (U main_arg0) (U main_arg1) (U main_arg3) H r) :=
  lse_at _ H r _ (score_at U H r)

theorem mid_delta (U : Val) (r : Fin 8192) (H : Fin 8) :
    (mid U main_v38 : FVec Ideal S8192x8 .f32) (ix2 r H)
      = rowDelta (score (U main_arg0) (U main_arg1) (U main_arg3) H r) (U main_arg2) (U main_arg4) H r := by
  refine (delta_at _ H r _ (score_at U H r)).trans ?_
  unfold rowDelta
  simp only [(split_at U r H _).2.2.2, (split_at U _ H _).2.2.1]

variable (m : (ℓ : Loc nD τ sig) → Buf (Elt Ideal) ℓ) (c : Fin nD)

/-- The memory of one device. -/
abbrev own : Val := fun b => m (c, b)

theorem V_mid (b) : V m c b = StableHlo.after (List.drop 20 hostOps0_2) (mid (own m c)) b := by
  unfold V mid
  rw [← StableHlo.after_append, ← StableHlo.after_append, List.take_append_drop]
  rfl

theorem pack_q (r : Fin 8192) (H : Fin 8) (l : Fin 128) :
    (arrs m c).q (ix2 r (gcol H l)) = aug (fun x => flat (own m c main_arg0) r H x * eighth)
      (per (own m c main_arg3) r H) (part2 (per (own m c main_arg3) r H)) (part3 (per (own m c main_arg3) r H)) one one one
      (-rowLse (score (own m c main_arg0) (own m c main_arg1) (own m c main_arg3) H r))
      (part2 (-rowLse (score (own m c main_arg0) (own m c main_arg1) (own m c main_arg3) H r)))
      (part3 (-rowLse (score (own m c main_arg0) (own m c main_arg1) (own m c main_arg3) H r))) 0 l := by
  refine (congrArg (fun A : FVec Ideal S8192x1024 .bf16 => A (ix2 r (gcol H l))) (V_mid m c main_v80)).trans
    ((q_row _ r H l _ _ (mid_per (own m c) r H) (mid_lse (own m c) r H)).trans ?_)
  simp only [(mid_flat (own m c) r H _).1]

theorem pack_k (s : Fin 8192) (H : Fin 8) (l : Fin 128) :
    (arrs m c).k (ix2 s (gcol H l)) = aug (fun x => flat (own m c main_arg1) s H x) one one one
      (-per (own m c main_arg3) s H) (part2 (-per (own m c main_arg3) s H)) (part3 (-per (own m c main_arg3) s H))
      one one one 0 l := by
  refine (congrArg (fun A : FVec Ideal S8192x1024 .bf16 => A (ix2 s (gcol H l))) (V_mid m c main_v116)).trans
    ((k_row _ s H l _ (mid_per (own m c) s H)).trans ?_)
  simp only [(mid_flat (own m c) s H _).2.1]

theorem pack_v (s : Fin 8192) (H : Fin 8) (l : Fin 128) :
    (arrs m c).v (ix2 s (gcol H l)) = aug3 (fun x => flat (own m c main_arg2) s H x) one one one 0 l := by
  refine (congrArg (fun A : FVec Ideal S8192x1024 .bf16 => A (ix2 s (gcol H l))) (V_mid m c main_v129)).trans
    ((v_row _ s H l).trans ?_)
  simp only [(mid_flat (own m c) s H _).2.2.1]

theorem pack_d (r : Fin 8192) (H : Fin 8) (l : Fin 128) :
    (arrs m c).d (ix2 r (gcol H l)) = aug3 (fun x => flat (own m c main_arg4) r H x)
      (-rowDelta (score (own m c main_arg0) (own m c main_arg1) (own m c main_arg3) H r) (own m c main_arg2) (own m c main_arg4) H r)
      (part2 (-rowDelta (score (own m c main_arg0) (own m c main_arg1) (own m c main_arg3) H r) (own m c main_arg2) (own m c main_arg4) H r))
      (part3 (-rowDelta (score (own m c main_arg0) (own m c main_arg1) (own m c main_arg3) H r) (own m c main_arg2) (own m c main_arg4) H r))
      0 l := by
  refine (congrArg (fun A : FVec Ideal S8192x1024 .bf16 => A (ix2 r (gcol H l))) (V_mid m c main_v147)).trans
    ((d_row _ r H l _ (mid_delta (own m c) r H)).trans ?_)
  simp only [(mid_flat (own m c) r H _).2.2.2]

end Cert.AttnBwdIdeal.Run
end
-- ==== Proof.SoftmaxRow.lean ====
/- A row of causal scores that are real numbers: its largest, its exponentials and their sum are real, and an exponential under the logarithm of
   the sum is the softmax. -/
module
public import proofs.«01_k».proof.Proof.AttnBwdHost
public import proofs.«01_k».proof.Proof.RealLine
@[expose] public section
noncomputable section
namespace Cert.SoftmaxRow
open Cert.AttnBwdIdeal.Run (rowMax rowExp rowSum rowLse lowest eighth one)
open Cert.RealLine
open Idealize.ShloMosaic

theorem lowest_eq : lowest = ⊥ := by simp [lowest, Ideal.ofBits, Ideal.ieee]

theorem eighth_eq : eighth = ((1 / 8 : ℝ) : EReal) := by
  simp [eighth, Cert.AttnBwdIdeal.Run.eighth, Ideal.ofBits, Ideal.ieee]
  first | (rw [← EReal.coe_mul]; norm_num) | (norm_num [← EReal.coe_mul])

theorem one_eq : one = ((1 : ℝ) : EReal) := by
  simp [one, Ideal.ofBits, Ideal.ieee]
  try first | (rw [← EReal.coe_mul]; norm_num) | (norm_num [← EReal.coe_mul])

/-- The largest of a row that holds a real number and no plus infinity is real. -/
theorem max_real (Z : Fin 8192 → EReal) (r : Fin 8192) (hr : IsReal (Z r)) (hZ : ∀ s, Z s ≠ ⊤) : IsReal (rowMax Z) := by
  have hfold : ∀ (S : Finset (Fin 8192)), Finset.fold max lowest Z S ≠ ⊤ := by
    intro S
    induction S using Finset.induction_on with
    | empty => simp [lowest_eq]
    | insert a S ha ih =>
      rw [Finset.fold_insert ha]
      rcases max_choice (Z a) (Finset.fold max lowest Z S) with h | h <;> rw [h]
      · exact hZ a
      · exact ih
  have hle : Z r ≤ rowMax Z := (Finset.le_fold_max (Z r)).mpr (Or.inr ⟨r, Finset.mem_univ r, le_rfl⟩)
  obtain ⟨x, hx⟩ := hr
  have hbot : rowMax Z ≠ ⊥ := fun h => by rw [h, hx] at hle; exact absurd (le_bot_iff.mp hle) (EReal.coe_ne_bot x)
  exact ⟨(rowMax Z).toReal, (EReal.coe_toReal (hfold _) hbot).symm⟩

/-- The softmax of a causal row, in real numbers. -/
structure Soft (z : Fin 8192 → ℝ) (r : Fin 8192) (Z : Fin 8192 → EReal) where
  e : Fin 8192 → ℝ
  l : ℝ
  L : ℝ
  pos : 0 < l
  exp_eq : ∀ s, rowExp Z s = (e s : EReal)
  sum_eq : rowSum Z = (l : EReal)
  lse_eq : rowLse Z = (L : EReal)
  below : ∀ s, s ≤ r → Real.exp (z s - L) = e s / l
  above : ∀ s, ¬ s ≤ r → e s = 0

theorem soft (z : Fin 8192 → ℝ) (r : Fin 8192) (Z : Fin 8192 → EReal) (hZ : ∀ s, Z s = if s ≤ r then (z s : EReal) else lowest) :
    Nonempty (Soft z r Z) := by
  obtain ⟨M, hM⟩ : IsReal (rowMax Z) := by
    refine max_real Z r ⟨z r, by rw [hZ, if_pos le_rfl]⟩ fun s => ?_
    rw [hZ]
    split
    · exact EReal.coe_ne_top _
    · simp [lowest_eq]
  have he : ∀ s, rowExp Z s = ((if s ≤ r then Real.exp (z s - M) else 0 : ℝ) : EReal) := by
    intro s
    unfold rowExp
    rw [hM, hZ]
    split
    · rw [← EReal.coe_sub]; rfl
    · rw [lowest_eq, EReal.bot_sub]; rfl
  have hs : rowSum Z = ((∑ s, (if s ≤ r then Real.exp (z s - M) else 0 : ℝ) : ℝ) : EReal) := by
    unfold rowSum
    rw [coe_sum]
    exact Finset.sum_congr rfl fun s _ => he s
  have hp : 0 < ∑ s, (if s ≤ r then Real.exp (z s - M) else 0 : ℝ) := by
    refine Finset.sum_pos' (fun s _ => ?_) ⟨r, Finset.mem_univ r, ?_⟩
    · split
      · exact (Real.exp_pos _).le
      · exact le_rfl
    · rw [if_pos le_rfl]; exact Real.exp_pos _
  generalize ∑ s, (if s ≤ r then Real.exp (z s - M) else 0 : ℝ) = l at hs hp
  refine ⟨⟨_, l, M + Real.log l, hp, he, hs, ?_, fun s h => ?_, fun s h => if_neg h⟩⟩
  · unfold rowLse
    rw [hM, hs, EReal.coe_add]
    refine congrArg (_ + ·) ?_
    show (if l ≤ 0 then ⊥ else (Real.log l : EReal)) = _
    rw [if_neg (not_le.mpr hp)]
  · rw [if_pos h, ← sub_sub, Real.exp_sub, Real.exp_log hp]

end Cert.SoftmaxRow
end
-- ==== Proof.AttnBwdRef.lean ====
/- The derivative of the attention's forward lines, entry by entry. -/
module
public import proofs.«01_k».proof.Proof.AttnBwdHost
public import proofs.«01_k».proof.Proof.Gen.AttnBwdRefIdeal.Read
public import Idealize.ShloMosaic.Lib.WordCmp
@[expose] public section
set_option maxRecDepth 16384
noncomputable section
namespace Cert.AttnBwdEq
open Cert.AttnBwdIdeal.Run (score rowMax rowExp rowSum flat per lowest eighth headCol slab headOfCol)
open Cert.AttnBwdRefIdeal Cert.AttnBwdRefIdeal.Read
open Idealize.ShloMosaic Idealize.ShloMosaic.TcCoe Idealize.ShloMosaic.Tactic Idealize.SL.Sem
variable (q k v d : FVec Ideal S8192x512 .f32) (c : FVec Ideal S8192x8 .f32)

theorem ref_mask (H : Fin 8) (r s : Fin 8192) : val_main_v20_1 (F := Ideal) (ix3 H r s) = BitVec.ofBool (decide (s.val ≤ r.val)) := by
  pointwise [val_main_v20_1, val_main_v19, val_main_v18, val_main_v17, val_main_v16, val_main_v15, val_main_v14]
  rw [WordCmp.cmpi_sge_ofNat (by omega) (by omega)]

theorem ref_score (H : Fin 8) (r s : Fin 8192) : val_main_v20_0 (F := Ideal) q k c (ix3 H r s) = score q k c H r s := by
  pointwise [val_main_v20_0, val_main_v13, val_main_v12, val_main_v11, val_main_v10, val_main_v9, val_main_v8, val_main_v7, val_main_v6, val_main_v5, val_main_v4, val_main_cst, val_main_v3, val_main_v1, val_main_v0, val_main_call0_v2, val_main_call0_v0, val_main_cst_0]
  rw [ref_mask, WordCmp.select_decide]
  rfl

theorem ref_top (H : Fin 8) (r : Fin 8192) : val_main_v21 (F := Ideal) q k c (ix2 H r) = rowMax (score q k c H r) := by
  pointwise [val_main_v21, val_main_cst_1]
  simp only [ref_score]
  rfl

theorem ref_max (H : Fin 8) (r : Fin 8192) : val_main_v28 (F := Ideal) q k c (ix2 H r) = max lowest (rowMax (score q k c H r)) := by
  rw [val_main_v28_apply, ref_top, val_main_v27_apply]
  generalize rowMax (score q k c H r) = y
  rfl

theorem ref_exp (h0 : lowest = ⊥) (H : Fin 8) (r s : Fin 8192) : val_main_v41 (F := Ideal) q k c (ix3 H r s) = rowExp (score q k c H r) s := by
  pointwise [val_main_v41, val_main_v40, val_main_v39, val_main_v38]
  rw [ref_score, ref_max, h0, max_eq_right bot_le]
  rfl

theorem ref_sum (h0 : lowest = ⊥) (H : Fin 8) (r : Fin 8192) : val_main_v42 (F := Ideal) q k c (ix2 H r) = rowSum (score q k c H r) := by
  pointwise [val_main_v42, val_main_cst_9]
  simp only [ref_exp _ _ _ h0]
  rfl

theorem ref_dp (H : Fin 8) (r s : Fin 8192) : val_main_v54 (F := Ideal) v d (ix3 H r s) = ∑ x : Fin 64, flat d r H x * flat v s H x := by
  pointwise [val_main_v54, val_main_v53, val_main_v52, val_main_v2]
  rfl

/-- The derivative with respect to the scores. -/
def refGrad (H : Fin 8) (r s : Fin 8192) : EReal :=
  if s ≤ r then
    (Ideal.div (∑ x : Fin 64, flat d r H x * flat v s H x) (rowSum (score q k c H r))
      + -∑ t, (∑ x : Fin 64, flat d r H x * flat v t H x)
          * Ideal.div 1 (rowSum (score q k c H r) * rowSum (score q k c H r)) * rowExp (score q k c H r) t)
      * rowExp (score q k c H r) s
  else 0

theorem ref_turn (h0 : lowest = ⊥) (H : Fin 8) (r : Fin 8192) : val_main_v65 (F := Ideal) q k v c d (ix2 H r)
    = -∑ t, (∑ x : Fin 64, flat d r H x * flat v t H x)
          * Ideal.div 1 (rowSum (score q k c H r) * rowSum (score q k c H r)) * rowExp (score q k c H r) t := by
  pointwise [val_main_v65, val_main_v62, val_main_v61, val_main_v60, val_main_v59, val_main_v58, val_main_v57, val_main_v48, val_main_v47, val_main_v46, val_main_cst_10, val_main_v43, val_main_cst_12, val_main_cst_11]
  simp only [Fin.sum_univ_one, ref_dp, ref_sum _ _ _ h0, ref_exp _ _ _ h0]

theorem ref_grad (h0 : lowest = ⊥) (H : Fin 8) (r s : Fin 8192) :
    val_main_v69 (F := Ideal) q k v c d (ix3 H r s) = refGrad q k v d c H r s := by
  pointwise [val_main_v69, val_main_v68, val_main_v67, val_main_v66, val_main_v64, val_main_v63, val_main_v43, val_main_call1_v0, val_main_call1_cst]
  rw [ref_mask, WordCmp.select_decide, ref_dp, ref_sum _ _ _ h0, ref_exp _ _ _ h0, ref_turn _ _ _ _ _ h0]
  rfl

theorem ref_dq (h0 : lowest = ⊥) (r : Fin 8192) (j : Fin 512) : val_main_v88 (F := Ideal) q k v c d (ix2 r j)
    = ∑ s : Fin 8192, refGrad q k v d c (headOfCol j) r s * eighth * flat k s (headOfCol j) ⟨j.val % 64, by omega⟩ := by
  pointwise [val_main_v88, val_main_v87, val_main_v84, val_main_v83, val_main_v80, val_main_v79, val_main_cst_17, val_main_v1]
  simp only [ref_grad _ _ _ _ _ h0]
  refine Finset.sum_congr rfl fun x _ => congrArg (HMul.hMul (α := EReal) (β := EReal) (γ := EReal) _) ?_
  exact congrArg (fun y => k (ix2 x y)) (Fin.ext (by show j.val = j.val / 64 * 64 + j.val % 64; omega))

theorem ref_dk (h0 : lowest = ⊥) (s : Fin 8192) (j : Fin 512) : val_main_v89 (F := Ideal) q k v c d (ix2 s j)
    = ∑ r : Fin 8192, refGrad q k v d c (headOfCol j) r s * eighth * flat q r (headOfCol j) ⟨j.val % 64, by omega⟩ := by
  pointwise [val_main_v89, val_main_v86, val_main_v82, val_main_v81, val_main_v80, val_main_v79, val_main_cst_17, val_main_v0]
  simp only [ref_grad _ _ _ _ _ h0]
  refine Finset.sum_congr rfl fun x _ => congrArg (HMul.hMul (α := EReal) (β := EReal) (γ := EReal) _) ?_
  exact congrArg (fun y => q (ix2 x y)) (Fin.ext (by show j.val = j.val / 64 * 64 + j.val % 64; omega))

theorem ref_dv (h0 : lowest = ⊥) (s : Fin 8192) (j : Fin 512) : val_main_v90 (F := Ideal) q k c d (ix2 s j)
    = ∑ r : Fin 8192, flat d r (headOfCol j) ⟨j.val % 64, by omega⟩
        * Ideal.div (rowExp (score q k c (headOfCol j) r) s) (rowSum (score q k c (headOfCol j) r)) := by
  pointwise [val_main_v90, val_main_v85, val_main_v56, val_main_v55, val_main_v53, val_main_v52, val_main_v45, val_main_v44, val_main_v43]
  simp only [ref_exp _ _ _ h0, ref_sum _ _ _ h0]
  refine Finset.sum_congr rfl fun x _ => congrArg (· * _) ?_
  exact congrArg (fun y => d (ix2 x y)) (Fin.ext (by show j.val = j.val / 64 * 64 + j.val % 64; omega))

theorem ref_dcq (h0 : lowest = ⊥) (r : Fin 8192) (H : Fin 8) : val_main_v78 (F := Ideal) q k v c d (ix2 r H)
    = ∑ s : Fin 8192, refGrad q k v d c H r s := by
  pointwise [val_main_v78, val_main_v77, val_main_v76, val_main_v75, val_main_cst_15, val_main_cst_16]
  simp only [Fin.sum_univ_one, ref_grad _ _ _ _ _ h0]

theorem ref_dck (h0 : lowest = ⊥) (s : Fin 8192) (H : Fin 8) : val_main_v74 (F := Ideal) q k v c d (ix2 s H)
    = ∑ r : Fin 8192, -refGrad q k v d c H r s := by
  pointwise [val_main_v74, val_main_v73, val_main_v72, val_main_v71, val_main_v70, val_main_cst_13, val_main_cst_14]
  simp only [Fin.sum_univ_one, ref_grad _ _ _ _ _ h0]

theorem ref_pair (p : Fin 4) (l : Fin 128) : val_main_v96 (F := Ideal) (ix3 p 0 l) = BitVec.ofBool (decide (l.val / 2 = p.val)) := by
  revert p l
  decide +kernel

theorem ref_slab_q (h0 : lowest = ⊥) (p : Fin 4) (r : Fin 8192) (l : Fin 128) : val_main_v97 (F := Ideal) q k v c d (ix3 p r l)
    = slab (fun H r => ∑ s : Fin 8192, refGrad q k v d c H r s) p r l := by
  pointwise [val_main_v97, val_main_call4_v1, val_main_call4_v2, val_main_v94, val_main_v93]
  rw [ref_pair, WordCmp.select_decide]
  unfold slab
  split
  · rw [dif_pos (by omega), ref_dcq _ _ _ _ _ h0]
  · pointwise [val_main_call4_v3, val_main_call4_v0, val_main_cst_19]
    show Ideal.ofBits .f32 0x00000000#32 = 0
    simp [Ideal.ofBits, Ideal.ieee]

theorem ref_pair' (p : Fin 4) (l : Fin 128) : val_main_v103 (F := Ideal) (ix3 p 0 l) = BitVec.ofBool (decide (l.val / 2 = p.val)) := by
  revert p l
  decide +kernel

theorem ref_slab_k (h0 : lowest = ⊥) (p : Fin 4) (r : Fin 8192) (l : Fin 128) : val_main_v104 (F := Ideal) q k v c d (ix3 p r l)
    = slab (fun H s => ∑ r : Fin 8192, -refGrad q k v d c H r s) p r l := by
  pointwise [val_main_v104, val_main_call7_v1, val_main_call7_v2, val_main_v101, val_main_v100]
  rw [ref_pair', WordCmp.select_decide]
  unfold slab
  split
  · rw [dif_pos (by omega), ref_dck _ _ _ _ _ h0]
  · pointwise [val_main_call7_v3, val_main_call7_v0, val_main_cst_22]
    show Ideal.ofBits .f32 0x00000000#32 = 0
    simp [Ideal.ofBits, Ideal.ieee]

end Cert.AttnBwdEq
end
-- ==== Proof.AttnBwdReal.lean ====
/- Both sides over the reals: with finite arguments the weights and the gradients of the kernel's packed rows and those of the reference are one
   family of real numbers. -/
module
public import proofs.«01_k».proof.Proof.SoftmaxRow
public import proofs.«01_k».proof.Proof.AttnBwdRef
@[expose] public section
set_option maxRecDepth 16384
noncomputable section
namespace Cert.AttnBwdEq
open Cert.AttnBwdIdeal.Run
open Cert.RealLine Cert.SoftmaxRow
open Idealize.ShloMosaic
open Cert.AttnBwdIdeal (S8192x512 S8192x8 S8192x1024)

/-- A sum over the lanes of two packed rows. -/
theorem aug_sum (f f' : Fin 64 → EReal) (a b c d e g h i j a' b' c' d' e' g' h' i' j' : EReal) :
    ∑ l : Fin 128, aug f a b c d e g h i j 0 l * aug f' a' b' c' d' e' g' h' i' j' 0 l
      = ∑ x : Fin 64, f x * f' x
        + (a * a' + b * b' + c * c' + d * d' + e * e' + g * g' + h * h' + i * i' + j * j') := by
  rw [Fin.sum_univ_two_halves 64 64 rfl]
  refine congrArg₂ (· + ·) (Finset.sum_congr rfl fun x _ => ?_) ?_
  · simp [aug, x.isLt]
  · refine (Fin.sum_univ_add (a := 9) (b := 55) _).trans ?_
    rw [Finset.sum_eq_zero (s := Finset.univ (α := Fin 55)) fun x _ => by simp [aug], add_zero]
    simp only [Fin.sum_univ_succ, Fin.sum_univ_zero]
    simp [aug]
    abel

theorem aug3_sum (f f' : Fin 64 → EReal) (a b c a' b' c' : EReal) :
    ∑ l : Fin 128, aug3 f a b c 0 l * aug3 f' a' b' c' 0 l = ∑ x : Fin 64, f x * f' x + (a * a' + b * b' + c * c') := by
  rw [Fin.sum_univ_two_halves 64 64 rfl]
  refine congrArg₂ (· + ·) (Finset.sum_congr rfl fun x _ => ?_) ?_
  · simp [aug3, x.isLt]
  · refine (Fin.sum_univ_add (a := 3) (b := 61) _).trans ?_
    rw [Finset.sum_eq_zero (s := Finset.univ (α := Fin 61)) fun x _ => by simp [aug3], add_zero]
    simp only [Fin.sum_univ_succ, Fin.sum_univ_zero]
    simp [aug3]
    abel

/-- The five arguments of the call, every entry a real number. -/
structure Args (q k v d : FVec Ideal S8192x512 .f32) (c : FVec Ideal S8192x8 .f32) where
  Q : Fin 8192 → Fin 8 → Fin 64 → ℝ
  K : Fin 8192 → Fin 8 → Fin 64 → ℝ
  V : Fin 8192 → Fin 8 → Fin 64 → ℝ
  D : Fin 8192 → Fin 8 → Fin 64 → ℝ
  C : Fin 8192 → Fin 8 → ℝ
  q_eq : ∀ r H x, flat q r H x = (Q r H x : EReal)
  k_eq : ∀ r H x, flat k r H x = (K r H x : EReal)
  v_eq : ∀ r H x, flat v r H x = (V r H x : EReal)
  d_eq : ∀ r H x, flat d r H x = (D r H x : EReal)
  c_eq : ∀ r H, per c r H = (C r H : EReal)

variable {q k v d : FVec Ideal S8192x512 .f32} {c : FVec Ideal S8192x8 .f32}

theorem Args.of_real (hq : ∀ i, IsReal (q i)) (hk : ∀ i, IsReal (k i)) (hv : ∀ i, IsReal (v i)) (hd : ∀ i, IsReal (d i))
    (hc : ∀ i, IsReal (c i)) : Nonempty (Args q k v d c) := by
  choose Q hQ using hq
  choose K hK using hk
  choose V hV using hv
  choose D hD using hd
  choose C hC using hc
  exact ⟨⟨fun r H x => Q _, fun r H x => K _, fun r H x => V _, fun r H x => D _, fun r H => C _,
    fun r H x => hQ _, fun r H x => hK _, fun r H x => hV _, fun r H x => hD _, fun r H => hC _⟩⟩

namespace Args
variable (A : Args q k v d c)

/-- The score of query `r` against key `s`, were it not masked. -/
def z (H : Fin 8) (r s : Fin 8192) : ℝ := (∑ x, A.Q r H x * A.K s H x) * (1 / 8) + A.C r H - A.C s H

theorem score_eq (H : Fin 8) (r s : Fin 8192) : score q k c H r s = if s ≤ r then (A.z H r s : EReal) else lowest := by
  unfold score z
  refine if_congr Iff.rfl ?_ rfl
  simp only [A.q_eq, A.k_eq, A.c_eq, eighth_eq, ← EReal.coe_mul, ← coe_sum, ← EReal.coe_add, ← EReal.coe_sub]

/-- The softmax of each row. -/
def row (H : Fin 8) (r : Fin 8192) : Soft (A.z H r) r (score q k c H r) := Classical.choice (soft _ _ _ (A.score_eq H r))

/-- The weight of key `s` for query `r`, the cotangent of that weight, its mean in the row, and the derivative by the score. -/
def p (H : Fin 8) (r s : Fin 8192) : ℝ := (A.row H r).e s / (A.row H r).l
def dp (H : Fin 8) (r s : Fin 8192) : ℝ := ∑ x, A.D r H x * A.V s H x
def delta (H : Fin 8) (r : Fin 8192) : ℝ := ∑ s, A.p H r s * A.dp H r s
def g (H : Fin 8) (r s : Fin 8192) : ℝ := A.p H r s * (A.dp H r s - A.delta H r)

theorem div_eq (H : Fin 8) (r s : Fin 8192) :
    Ideal.div (rowExp (score q k c H r) s) (rowSum (score q k c H r)) = (A.p H r s : EReal) := by
  rw [(A.row H r).exp_eq, (A.row H r).sum_eq, div_real _ (A.row H r).pos.ne']
  rfl

theorem dp_eq (H : Fin 8) (r s : Fin 8192) : ∑ x : Fin 64, flat d r H x * flat v s H x = (A.dp H r s : EReal) := by
  simp only [A.d_eq, A.v_eq, ← EReal.coe_mul, ← coe_sum]
  rfl

theorem delta_eq (H : Fin 8) (r : Fin 8192) : rowDelta (score q k c H r) v d H r = (A.delta H r : EReal) := by
  unfold rowDelta
  simp only [A.div_eq, A.d_eq, A.v_eq, ← EReal.coe_mul, ← coe_sum]
  refine congrArg _ ?_
  unfold delta dp
  simp only [Finset.sum_mul, Finset.mul_sum]
  rw [Finset.sum_comm]
  exact Finset.sum_congr rfl fun s _ => Finset.sum_congr rfl fun x _ => by ring

theorem p_above (H : Fin 8) (r s : Fin 8192) (h : ¬ s ≤ r) : A.p H r s = 0 := by
  unfold p; rw [(A.row H r).above s h, zero_div]

theorem grad_eq (H : Fin 8) (r s : Fin 8192) : refGrad q k v d c H r s = (A.g H r s : EReal) := by
  unfold refGrad
  split
  · have hl := (A.row H r).pos.ne'
    rw [← EReal.coe_one]
    simp only [A.dp_eq, (A.row H r).exp_eq, (A.row H r).sum_eq, ← EReal.coe_mul, div_real _ (mul_ne_zero hl hl), div_real _ hl,
      ← coe_sum, ← EReal.coe_neg, ← EReal.coe_add]
    refine congrArg _ ?_
    unfold g delta p
    generalize (A.row H r).l = l at hl
    have : ∑ t, A.dp H r t * (1 / (l * l)) * (A.row H r).e t = (∑ t, (A.row H r).e t / l * A.dp H r t) / l := by
      rw [Finset.sum_div]
      exact Finset.sum_congr rfl fun t _ => by field_simp
    rw [this]
    field_simp
    ring
  · rename_i h
    unfold g
    rw [A.p_above H r s h, zero_mul]
    rfl

end Args
end Cert.AttnBwdEq
end
-- ==== Proof.AttnBwdEq.lean ====
/- The five results of the backward kernel are those of the derivative of the forward lines. -/
module
public import proofs.«01_k».proof.Proof.AttnBwdReal
@[expose] public section
set_option maxRecDepth 16384
noncomputable section
namespace Cert.AttnBwdEq
open Cert.AttnBwdIdeal.Run
open Cert.RealLine Cert.SoftmaxRow
open Idealize.ShloMosaic Idealize.ShloMosaic.TcCoe Idealize.ShloMosaic.Tactic Idealize.SL.Sem
open Cert.AttnBwdIdeal (S8192x512 S8192x8 S8192x1024 S4x8192x128 nD τ sig main_arg0 main_arg1 main_arg2 main_arg3 main_arg4)
open Cert.AttnBwdRefIdeal.Read

variable (m : (ℓ : Loc nD τ sig) → Buf (Elt Ideal) ℓ) (c : Fin nD)

/-- The arguments in the memory of one device, every entry a real number. -/
abbrev Own := Args (own m c main_arg0) (own m c main_arg1) (own m c main_arg2) (own m c main_arg4) (own m c main_arg3)

variable {m c} (A : Own m c)
include A

theorem prob_eq (H : Fin 8) (r s : Fin 8192) : (arrs m c).prob H r s = (A.p H r s : EReal) := by
  unfold Arrs.prob
  split
  · rename_i h
    simp only [pack_k, pack_q]
    rw [aug_sum]
    simp only [A.q_eq, A.k_eq, A.c_eq, (A.row H r).lse_eq, eighth_eq, one_eq, part2, part3, ← EReal.coe_mul, ← coe_sum,
      ← EReal.coe_neg, ← EReal.coe_sub, ← EReal.coe_add]
    refine congrArg (fun x : ℝ => (x : EReal)) ((congrArg Real.exp ?_).trans ((A.row H r).below s h))
    have hs : ∑ x, A.K s H x * (A.Q r H x * (1 / 8)) = (∑ x, A.Q r H x * A.K s H x) * (1 / 8) := by
      rw [Finset.sum_mul]
      exact Finset.sum_congr rfl fun x _ => by ring
    rw [hs]
    unfold Args.z
    ring
  · rename_i h
    rw [A.p_above H r s h]
    rfl

theorem grad_eq (H : Fin 8) (r s : Fin 8192) : (arrs m c).grad H r s = (A.g H r s : EReal) := by
  unfold Arrs.grad
  rw [prob_eq A]
  simp only [pack_v, pack_d]
  rw [aug3_sum]
  simp only [A.d_eq, A.v_eq, A.delta_eq, one_eq, part2, part3, ← EReal.coe_mul, ← coe_sum, ← EReal.coe_neg, ← EReal.coe_sub, ← EReal.coe_add]
  refine congrArg _ ?_
  unfold Args.g
  refine congrArg (A.p H r s * ·) ?_
  have hs : ∑ x, A.V s H x * A.D r H x = A.dp H r s := Finset.sum_congr rfl fun x _ => mul_comm _ _
  rw [hs]
  ring

omit A in
theorem aug_lo (f : Fin 64 → EReal) (a b c d e g h i j z : EReal) (l : Fin 128) (hl : l.val < 64) :
    aug f a b c d e g h i j z l = f ⟨l.val, hl⟩ := dif_pos hl

omit A in
theorem aug3_lo (f : Fin 64 → EReal) (a b c z : EReal) (l : Fin 128) (hl : l.val < 64) : aug3 f a b c z l = f ⟨l.val, hl⟩ := dif_pos hl

theorem dq_eq : outQ (arrs m c) = val_main_v88 (F := Ideal) (own m c main_arg0) (own m c main_arg1) (own m c main_arg2) (own m c main_arg3) (own m c main_arg4) := by
  funext i
  idx_vars i
  rw [ref_dq _ _ _ _ _ lowest_eq]
  show (∑ s, (arrs m c).grad (headOfCol i1) i0 s * (arrs m c).k (ix2 s (gcol (headOfCol i1) (laneOfCol i1)))) * eighth = _
  have hl : (laneOfCol i1).val < 64 := by show i1.val % 64 < 64; omega
  simp only [pack_k, aug_lo _ _ _ _ _ _ _ _ _ _ _ _ hl, grad_eq A, A.grad_eq, A.k_eq, eighth_eq, ← EReal.coe_mul, ← coe_sum]
  refine congrArg _ ?_
  rw [Finset.sum_mul]
  exact Finset.sum_congr rfl fun s _ => mul_right_comm _ _ _

theorem dk_eq : outK (arrs m c) = val_main_v89 (F := Ideal) (own m c main_arg0) (own m c main_arg1) (own m c main_arg2) (own m c main_arg3) (own m c main_arg4) := by
  funext i
  idx_vars i
  rw [ref_dk _ _ _ _ _ lowest_eq]
  show ∑ r, (arrs m c).grad (headOfCol i1) r i0 * (arrs m c).q (ix2 r (gcol (headOfCol i1) (laneOfCol i1))) = _
  have hl : (laneOfCol i1).val < 64 := by show i1.val % 64 < 64; omega
  simp only [pack_q, aug_lo _ _ _ _ _ _ _ _ _ _ _ _ hl, grad_eq A, A.grad_eq, A.q_eq, eighth_eq, ← EReal.coe_mul, ← coe_sum]
  refine congrArg _ ?_
  exact Finset.sum_congr rfl fun s _ => by rw [mul_right_comm, mul_assoc]; rfl

theorem dv_eq : outV (arrs m c) = val_main_v90 (F := Ideal) (own m c main_arg0) (own m c main_arg1) (own m c main_arg3) (own m c main_arg4) := by
  funext i
  idx_vars i
  rw [ref_dv _ _ _ _ lowest_eq]
  show ∑ r, (arrs m c).prob (headOfCol i1) r i0 * (arrs m c).d (ix2 r (gcol (headOfCol i1) (laneOfCol i1))) = _
  have hl : (laneOfCol i1).val < 64 := by show i1.val % 64 < 64; omega
  simp only [pack_d, aug3_lo _ _ _ _ _ _ hl, prob_eq A, A.div_eq]
  exact Finset.sum_congr rfl fun s _ => mul_comm _ _

theorem dcq_eq : outCq (arrs m c) = val_main_v97 (F := Ideal) (own m c main_arg0) (own m c main_arg1) (own m c main_arg2) (own m c main_arg3) (own m c main_arg4) := by
  funext i
  idx_vars i
  rw [ref_slab_q _ _ _ _ _ lowest_eq]
  refine congrArg (fun f => slab f i0 i1 i2) (funext fun H => funext fun r => ?_)
  show ∑ s, (arrs m c).grad H r s * (arrs m c).k (ix2 s (gcol H 64)) = _
  refine Finset.sum_congr rfl fun s _ => ?_
  rw [pack_k, grad_eq A, A.grad_eq]
  show _ * one = _
  rw [one_eq, ← EReal.coe_mul, mul_one]

theorem dck_eq : outCk (arrs m c) = val_main_v104 (F := Ideal) (own m c main_arg0) (own m c main_arg1) (own m c main_arg2) (own m c main_arg3) (own m c main_arg4) := by
  have hn : negOne = ((-1 : ℝ) : EReal) := by
    simp [negOne, Ideal.ofBits, Ideal.ieee]
    try first | (rw [← EReal.coe_mul]; norm_num) | (norm_num [← EReal.coe_mul])
  funext i
  idx_vars i
  rw [ref_slab_k _ _ _ _ _ lowest_eq]
  refine congrArg (fun f => slab f i0 i1 i2) (funext fun H => funext fun s => ?_)
  show negOne * ∑ r, (arrs m c).grad H r s * (arrs m c).q (ix2 r (gcol H 67)) = _
  have h67 : ∀ r, (arrs m c).q (ix2 r (gcol H 67)) = one := fun r => pack_q m c r H 67
  simp only [h67, grad_eq A, A.grad_eq, one_eq, hn, ← EReal.coe_mul, ← coe_sum, ← EReal.coe_neg]
  refine congrArg _ ?_
  rw [Finset.mul_sum]
  exact Finset.sum_congr rfl fun s _ => by ring

end Cert.AttnBwdEq
end
-- ==== Proof.AttnBwdClaims.lean ====
/- The claims about the pair `AttnBwd`. -/
module

public import proofs.«01_k».proof.Proof.AttnBwdEq
public import proofs.«01_k».proof.Proof.AttnBwdRun
public import proofs.«01_k».proof.Proof.Gen.AttnBwd
public import proofs.«01_k».proof.Proof.Gen.AttnBwdRefIdeal.Run
public import proofs.«01_k».proof.Proof.Gen.Pre_finite_attn
public import proofs.«01_k».proof.Defs

@[expose] public section

set_option maxRecDepth 16384

noncomputable section

namespace Cert.AttnBwdEq

open Idealize.ShloMosaic Idealize.ShloMosaic.TcCoe Idealize.ShloMosaic.Tactic Idealize.SL Idealize.SL.Sem
open Cert.RealLine
open Cert.AttnBwdIdeal.Run (own arrs outQ outK outV outCq outCk)

/-- The frame of the kernel is that of its ideal program at words: the two print the same text. -/
theorem same : Cert.quiescent_AttnBwd = (∀ (m : (ℓ : Loc Cert.AttnBwdIdeal.nD Cert.AttnBwdIdeal.τ Cert.AttnBwdIdeal.sig) → Buf (Elt Bits) ℓ) (ρ : Dev Cert.AttnBwdIdeal.nD → PrngReg), True →
  θ_run (Cert.AttnBwdIdeal.defs (F := Bits)) (onTc (τ := Cert.AttnBwdIdeal.τ) (Cert.AttnBwdIdeal.main (F := Bits))) ⟨m, fun _ => 0, ρ⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)) := by sl_kernel_rfl

theorem frame_p : Cert.quiescent_AttnBwd := same ▸ fun m ρ _ => Cert.AttnBwdIdeal.Run.frame (F := Bits) m ρ

theorem frame_pi : Cert.quiescent_AttnBwdIdeal := fun m ρ _ => Cert.AttnBwdIdeal.Run.frame (F := Ideal) m ρ

theorem frame_ri : Cert.quiescent_AttnBwdRefIdeal := fun m ρ _ =>
  (θ_run Cert.AttnBwdRefIdeal.defs _ _).mono (fun r h => ⟨fun c => (h c).2.2.2.2.2, sem_eq_zero_of_no_sems (by decide) r.2⟩)
    (Cert.AttnBwdRefIdeal.Value.run (F := Ideal) m ρ)

instance : Subsingleton Cert.Pre_finite_attn.S_.Idx := ⟨fun a b => funext fun k => k.elim0⟩

/-- What the precondition says: the five arguments are real. -/
theorem real_of_pre {q k v d : FVec Ideal Cert.AttnBwdIdeal.S8192x512 .f32} {c : FVec Ideal Cert.AttnBwdIdeal.S8192x8 .f32}
    (h : Cert.Pre_finite_attn.fn (F := Ideal) q k v c d = fun _ => 1#1) :
    (∀ i, IsReal (q i)) ∧ (∀ i, IsReal (k i)) ∧ (∀ i, IsReal (v i)) ∧ (∀ i, IsReal (d i)) ∧ ∀ i, IsReal (c i) := by
  have h := congrFun h ix0
  unfold Cert.Pre_finite_attn.fn Cert.Pre_finite_attn.fn_part1 at h
  obtain ⟨h, h4⟩ := and_one h
  obtain ⟨h, h3⟩ := and_one h
  obtain ⟨h, h2⟩ := and_one h
  obtain ⟨h0, h1⟩ := and_one h
  exact ⟨fun i => all_real (fun _ => rfl) h0 i, fun i => all_real (fun _ => rfl) h1 i, fun i => all_real (fun _ => rfl) h2 i,
    fun i => all_real (fun _ => rfl) h4 i, fun i => all_real (fun _ => rfl) h3 i⟩

section Kernel
open Cert.AttnBwdIdeal Cert.AttnBwdIdeal.Run

/-- What the kernel leaves: its five results as sums over the packed arrays, and its arguments as they were. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v148_0) = outQ (arrs m c)
      ∧ r.2.mem ((c.tc : Thread nD τ).loc main_v148_1) = outK (arrs m c)
      ∧ r.2.mem ((c.tc : Thread nD τ).loc main_v148_2) = outV (arrs m c)
      ∧ r.2.mem ((c.tc : Thread nD τ).loc main_v148_3) = outCq (arrs m c)
      ∧ r.2.mem ((c.tc : Thread nD τ).loc main_v148_4) = outCk (arrs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c =>
    ⟨((h.1 c).1 4).trans (final_dq m c), ((h.1 c).1 5).trans (final_dk m c), ((h.1 c).1 6).trans (final_dv m c),
      ((h.1 c).1 7).trans (final_dcq m c), ((h.1 c).1 8).trans (final_dck m c), h.2.1 c⟩)
    (θ_run_and (run_main m ρ) (frame m ρ))

end Kernel

theorem algebraic : Cert.algebraic_AttnBwdIdeal_AttnBwdRefIdeal_pre_finite_attn := by
  intro m g m' g' hpre hagree
  refine ⟨_, _, _, _, _, run_values m g, ?_⟩
  refine (θ_run Cert.AttnBwdRefIdeal.defs _ _).mono (fun r h c => ?_) (Cert.AttnBwdRefIdeal.Value.run (F := Ideal) m' g')
  obtain ⟨h0, h1, h2, h3, h4, hargs⟩ := h c
  obtain ⟨a0, a1, a2, a3, a4⟩ := hagree c
  obtain ⟨rq, rk, rv, rd, rc⟩ := real_of_pre (hpre c)
  obtain ⟨A⟩ : Nonempty (Own m c) := Args.of_real rq rk rv rd rc
  refine ⟨h0.trans ?_, h1.trans ?_, h2.trans ?_, h3.trans ?_, h4.trans ?_, hargs⟩
  · rw [Cert.AttnBwdRefIdeal.Read.val_main_v88_eq, a0, a1, a2, a3, a4]
    exact (dq_eq A).symm
  · rw [Cert.AttnBwdRefIdeal.Read.val_main_v89_eq, a0, a1, a2, a3, a4]
    exact (dk_eq A).symm
  · rw [Cert.AttnBwdRefIdeal.Read.val_main_v90_eq, a0, a1, a3, a4]
    exact (dv_eq A).symm
  · rw [Cert.AttnBwdRefIdeal.Read.val_main_v97_eq, a0, a1, a2, a3, a4]
    exact (dcq_eq A).symm
  · rw [Cert.AttnBwdRefIdeal.Read.val_main_v104_eq, a0, a1, a2, a3, a4]
    exact (dck_eq A).symm

end Cert.AttnBwdEq

end
-- ==== Proof.FfnDownLossValue.lean ====
/- What the kernel of `FfnDownLossIdeal` leaves in its four result arrays, as sums over its arguments. -/
module

public import proofs.«01_k».proof.Proof.Gen.FfnDownLossIdeal.Value
public import proofs.«01_k».proof.Proof.RmsGrad
public import proofs.«01_k».proof.Proof.RowZero
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnDownLossIdeal.Rows

open Cert.FfnDownLossIdeal Cert.FfnDownLossIdeal.Gen Idealize.ShloMosaic Idealize.ShloMosaic.TcCoe Idealize.SL.Sem
open Idealize.ShloMosaic.Pipeline (Dat)

/-- The block's output: the residual and the product with the down-projection. -/
def hf (act : FVec Ideal S8192x2816 .f32) (w : FVec Ideal S2816x1024 .f32) (h : FVec Ideal S8192x1024 .f32) (a : Fin 8192) (j : Fin 1024) : EReal :=
  h (ix2 a j) + ∑ l : Fin 2816, act (ix2 a l) * w (ix2 l j)

/-- The normalised row. -/
def xhat (act : FVec Ideal S8192x2816 .f32) (w : FVec Ideal S2816x1024 .f32) (h : FVec Ideal S8192x1024 .f32) (a : Fin 8192) (j : Fin 1024) : EReal :=
  hf act w h a j * Rms.inv (hf act w h a)

/-- The distance of the prediction from the target. -/
def err (act : FVec Ideal S8192x2816 .f32) (w : FVec Ideal S2816x1024 .f32) (h : FVec Ideal S8192x1024 .f32) (g : FVec Ideal S1024 .f32)
    (z : FVec Ideal S8192x1024 .f32) (a : Fin 8192) (j : Fin 1024) : EReal :=
  xhat act w h a j * g (ix1 j) - z (ix2 a j)

/-- The cotangent of the prediction. -/
def dy (act : FVec Ideal S8192x2816 .f32) (w : FVec Ideal S2816x1024 .f32) (h : FVec Ideal S8192x1024 .f32) (g : FVec Ideal S1024 .f32)
    (z : FVec Ideal S8192x1024 .f32) (a : Fin 8192) (j : Fin 1024) : EReal :=
  err act w h g z a j * Ideal.ofBits .f32 0x3A800000#32

/-- A row's mean square distance. -/
def rowLoss (act : FVec Ideal S8192x2816 .f32) (w : FVec Ideal S2816x1024 .f32) (h : FVec Ideal S8192x1024 .f32) (g : FVec Ideal S1024 .f32)
    (z : FVec Ideal S8192x1024 .f32) (a : Fin 8192) : EReal :=
  Ideal.div (∑ j : Fin 1024, err act w h g z a j * err act w h g z a j) (Ideal.ofBits .f32 1149239296#32)

/-- The loss, block of rows by block of rows. -/
def loss (act : FVec Ideal S8192x2816 .f32) (w : FVec Ideal S2816x1024 .f32) (h : FVec Ideal S8192x1024 .f32) (g : FVec Ideal S1024 .f32)
    (z : FVec Ideal S8192x1024 .f32) : FVec Ideal S8x128 .f32 :=
  fun _ => ∑ t : Fin 16, Ideal.ofBits .f32 0x3F000000#32 * ∑ p : Fin 512, rowLoss act w h g z ⟨t.val * 512 + p.val, by omega⟩

/-- The gradient of the block's output. -/
def dh (act : FVec Ideal S8192x2816 .f32) (w : FVec Ideal S2816x1024 .f32) (h : FVec Ideal S8192x1024 .f32) (g : FVec Ideal S1024 .f32)
    (z : FVec Ideal S8192x1024 .f32) : FVec Ideal S8192x1024 .f32 :=
  fun i => Rms.grad (hf act w h (i 0)) (fun k => dy act w h g z (i 0) k * g (ix1 k)) (i 1)

/-- The gradient of the norm's weight, in row 0 of eight. -/
def dg (act : FVec Ideal S8192x2816 .f32) (w : FVec Ideal S2816x1024 .f32) (h : FVec Ideal S8192x1024 .f32) (g : FVec Ideal S1024 .f32)
    (z : FVec Ideal S8192x1024 .f32) : FVec Ideal S8x1024 .f32 :=
  fun i => if (i 0 : ℕ) < 1 then ∑ a : Fin 8192, dy act w h g z a (i 1) * xhat act w h a (i 1) else 0

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

theorem hf_blk (c : Dev nD) (t : Fin cfg0.N) (p : Fin 512) (j : Fin 1024) (a : Fin 8192) (ha : (a : ℕ) = t.val * 512 + p) :
    k0_pay8 (F := Ideal) (iblk m c 2 t) (iblk m c 0 t) (iblk m c 1 t) (ix2 p j) = hf (m ((c : Thread nD τ).loc main_arg0)) (m ((c : Thread nD τ).loc main_arg1)) (m ((c : Thread nD τ).loc main_arg2)) a j := by
  unfold hf
  pointwise [k0_pay8]
  blk_point [iblk, V, idx t]

theorem inv_blk (c : Dev nD) (t : Fin cfg0.N) (p : Fin 512) (a : Fin 8192) (ha : (a : ℕ) = t.val * 512 + p) :
    k0_pay10 (F := Ideal) (iblk m c 2 t) (iblk m c 0 t) (iblk m c 1 t) (ix2 p 0) = Rms.inv (hf (m ((c : Thread nD τ).loc main_arg0)) (m ((c : Thread nD τ).loc main_arg1)) (m ((c : Thread nD τ).loc main_arg2)) a) := by
  unfold Rms.inv Rms.meanSq
  have e : ∀ j, _ := fun j => hf_blk m c t p j a ha
  pointwise [k0_pay10, e]

theorem xhat_blk (c : Dev nD) (t : Fin cfg0.N) (p : Fin 512) (j : Fin 1024) (a : Fin 8192) (ha : (a : ℕ) = t.val * 512 + p) :
    k0_pay11 (F := Ideal) (iblk m c 2 t) (iblk m c 0 t) (iblk m c 1 t) (ix2 p j) = xhat (m ((c : Thread nD τ).loc main_arg0)) (m ((c : Thread nD τ).loc main_arg1)) (m ((c : Thread nD τ).loc main_arg2)) a j := by
  unfold xhat
  have e := hf_blk m c t p j a ha
  have e' := inv_blk m c t p a ha
  pointwise [k0_pay11, e, e']

theorem err_blk (c : Dev nD) (t : Fin cfg0.N) (p : Fin 512) (j : Fin 1024) (a : Fin 8192) (ha : (a : ℕ) = t.val * 512 + p) :
    k0_pay12 (F := Ideal) (iblk m c 2 t) (iblk m c 0 t) (iblk m c 1 t) (iblk m c 3 t) (iblk m c 4 t) (ix2 p j) = err (m ((c : Thread nD τ).loc main_arg0)) (m ((c : Thread nD τ).loc main_arg1)) (m ((c : Thread nD τ).loc main_arg2)) (m ((c : Thread nD τ).loc main_arg3)) (m ((c : Thread nD τ).loc main_arg4)) a j := by
  unfold err
  have e := xhat_blk m c t p j a ha
  pointwise [k0_pay12, k0_pay9, e]
  blk_point [iblk, V, idx t]

/-- What a point stores in its block of the second result, and of the third in the narrower format. -/
theorem point (c : Dev nD) (t : Fin cfg0.N) (y : S512x1024.Idx) (i : S8192x1024.Idx) (h0 : (i 0 : ℕ) = t.val * 512 + (y 0 : ℕ)) (h1 : (i 1 : ℕ) = (y 1 : ℕ)) :
    k0_pay4 (F := Ideal) (k0_pay9 (iblk m c 3 t)) (k0_pay10 (iblk m c 2 t) (iblk m c 0 t) (iblk m c 1 t)) (k0_pay11 (iblk m c 2 t) (iblk m c 0 t) (iblk m c 1 t))
        (k0_pay12 (iblk m c 2 t) (iblk m c 0 t) (iblk m c 1 t) (iblk m c 3 t) (iblk m c 4 t)) y
      = dh (m ((c : Thread nD τ).loc main_arg0)) (m ((c : Thread nD τ).loc main_arg1)) (m ((c : Thread nD τ).loc main_arg2)) (m ((c : Thread nD τ).loc main_arg3)) (m ((c : Thread nD τ).loc main_arg4)) i := by
  have h1' : i 1 = y 1 := Fin.ext h1
  have eh : ∀ j, _ := fun j => hf_blk m c t (y 0) j (i 0) h0
  have ei := inv_blk m c t (y 0) (i 0) h0
  have ex : ∀ j, _ := fun j => xhat_blk m c t (y 0) j (i 0) h0
  have ee : ∀ j, _ := fun j => err_blk m c t (y 0) j (i 0) h0
  have eg : ∀ j : Fin 1024, k0_pay9 (F := Ideal) (iblk m c 3 t) (ix2 0 j) = (m ((c : Thread nD τ).loc main_arg3)) (ix1 j) := fun j => by
    pointwise [k0_pay9]; blk_point [iblk, V, idx t]
  show _ = Rms.grad _ _ (i 1)
  rw [h1']
  unfold Rms.grad dy
  idx_vars y
  pointwise [k0_pay4, k0_pay2, ei, ex, ee, eg]
  rfl

theorem final6 (c : Dev nD) : (dats m 0 c).arrAt 6 cfg0.N = dh (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 16 = 0
  · rw [outsAt0_A m c t h0]; frame_out; exact point m c t y _ (by blk_simp [idx t]) (by blk_simp [idx t])
  · rw [outsAt0_B m c t h0]; frame_out; exact point m c t y _ (by blk_simp [idx t]) (by blk_simp [idx t])

theorem final7 (c : Dev nD) : (dats m 0 c).arrAt 7 cfg0.N = dh (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  by_cases h0 : t.val % 16 = 0
  · rw [outsAt0_A m c t h0]; frame_out; exact point m c t y _ (by blk_simp [idx t]) (by blk_simp [idx t])
  · rw [outsAt0_B m c t h0]; frame_out; exact point m c t y _ (by blk_simp [idx t]) (by blk_simp [idx t])

/-- What a point adds to the loss. -/
def lossPart (c : Dev nD) (t : Fin cfg0.N) : EReal :=
  Ideal.ofBits .f32 0x3F000000#32 * ∑ p : Fin 512, rowLoss (m ((c : Thread nD τ).loc main_arg0)) (m ((c : Thread nD τ).loc main_arg1)) (m ((c : Thread nD τ).loc main_arg2)) (m ((c : Thread nD τ).loc main_arg3)) (m ((c : Thread nD τ).loc main_arg4))
    ⟨t.val * 512 + p.val, by have := lt_of_lt_of_eq t.isLt N_0; omega⟩

theorem loss_blk (c : Dev nD) (t : Fin cfg0.N) (acc : FVec Ideal S8x128 .f32) (y : S8x128.Idx) :
    k0_pay1 (F := Ideal) (k0_pay13 acc) (k0_pay14 (iblk m c 2 t) (iblk m c 0 t) (iblk m c 1 t) (iblk m c 3 t) (iblk m c 4 t)) y = acc y + lossPart m c t := by
  have ht := lt_of_lt_of_eq t.isLt N_0
  have ee : ∀ (p : Fin 512) (j : Fin 1024), _ := fun p j => err_blk m c t p j ⟨t.val * 512 + p.val, by omega⟩ rfl
  unfold lossPart rowLoss
  idx_vars y
  pointwise [k0_pay1, k0_pay13, k0_pay14, ee]
  simp only [Fin.sum_univ_one]

theorem loss_first (c : Dev nD) (t : Fin cfg0.N) (h0 : t.val % 16 = 0) (y : S8x128.Idx) :
    (outsAt0 m c t.val t.isLt).1 y = (0 : EReal) + lossPart m c t := by
  rw [outsAt0_A m c t h0]; frame_out
  refine (loss_blk m c t _ y).trans (congrArg (· + lossPart m c t) ?_)
  pointwise [k0_pay6]

theorem loss_next (c : Dev nD) (t : Fin cfg0.N) (h0 : ¬t.val % 16 = 0) (y : S8x128.Idx) :
    (outsAt0 m c t.val t.isLt).1 y
      = (outsAt0 m c (t.val - 1) (Nat.lt_of_le_of_lt (Nat.sub_le _ _) t.isLt)).1 y + lossPart m c t := by
  rw [outsAt0_B m c t h0]; frame_out
  exact loss_blk m c t _ y

/-- The first result: the loss, in every place. -/
theorem final5 (c : Dev nD) : (dats m 0 c).arrAt 5 cfg0.N = loss (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 5 t0_15 (by decide +kernel) _ fun j => ?_
  blk_simp
  rw [after0_5, Pipeline.eq_sum_fin_of_reset_step_apply_last (fun n h => (outsAt0 m c n h).1) 16 (fun _ => (0 : EReal))
    (fun p _ => lossPart m c p) (fun t h j => loss_first m c t h j) (fun t h j => loss_next m c t h j) (le_of_eq N_0) t0_15 rfl j, zero_add]
  rfl

/-- What a point adds to the first row of the carried sum. -/
def part (c : Dev nD) (t : Fin cfg0.N) (j : Fin 1024) : EReal :=
  ∑ p : Fin 512, k0_pay2 (F := Ideal) (k0_pay12 (iblk m c 2 t) (iblk m c 0 t) (iblk m c 1 t) (iblk m c 3 t) (iblk m c 4 t)) (ix2 p j) * k0_pay11 (F := Ideal) (iblk m c 2 t) (iblk m c 0 t) (iblk m c 1 t) (ix2 p j)

theorem payload (c : Dev nD) (t : Fin cfg0.N) (acc : FVec Ideal S1x1024 .f32) (j : Fin 1024) :
    k0_pay3 (F := Ideal) (k0_pay11 (iblk m c 2 t) (iblk m c 0 t) (iblk m c 1 t)) (k0_pay12 (iblk m c 2 t) (iblk m c 0 t) (iblk m c 1 t) (iblk m c 3 t) (iblk m c 4 t)) acc (ix2 0 j) = acc (ix2 0 j) + part m c t j := by
  unfold part
  pointwise [k0_pay3]

theorem first (c : Dev nD) (t : Fin cfg0.N) (h0 : t.val % 16 = 0) (y : S8x1024.Idx) :
    (outsAt0 m c t.val t.isLt).2.2.2 y = (0 : EReal) + if (y 0 : ℕ) < 1 then part m c t (y 1) else 0 := by
  rw [outsAt0_A m c t h0]; frame_out
  refine RowZero.first_sum (by decide) _ _ _ _ (part m c t) (fun j => (payload m c t _ j).trans ?_) (fun y => by pointwise [k0_pay7]) y
  simp (disch := decide) only [↓ View.readCov_skip, ↓ View.readCov_cons_toLoadRect, ↓ View.readCov_fill]
  rfl

theorem next (c : Dev nD) (t : Fin cfg0.N) (h0 : ¬t.val % 16 = 0) (y : S8x1024.Idx) :
    (outsAt0 m c t.val t.isLt).2.2.2 y
      = (outsAt0 m c (t.val - 1) (Nat.lt_of_le_of_lt (Nat.sub_le _ _) t.isLt)).2.2.2 y + if (y 0 : ℕ) < 1 then part m c t (y 1) else (0 : EReal) := by
  rw [outsAt0_B m c t h0]; frame_out
  refine RowZero.next_sum (by decide) (ms0_8 t).view _ (outsAt0 m c (t.val - 1) (Nat.lt_of_le_of_lt (Nat.sub_le _ _) t.isLt)).2.2.2
    (Memref.IsWhole.read_unread _ _) _ _ (part m c t) (fun j => ?_) y
  refine (payload m c t _ j).trans (congrArg (· + part m c t j) ?_)
  pointwise

theorem summand (c : Dev nD) (t : Fin cfg0.N) (p : Fin 512) (j : Fin 1024) (a : Fin 8192) (ha : (a : ℕ) = t.val * 512 + p) :
    k0_pay2 (F := Ideal) (k0_pay12 (iblk m c 2 t) (iblk m c 0 t) (iblk m c 1 t) (iblk m c 3 t) (iblk m c 4 t)) (ix2 p j) * k0_pay11 (F := Ideal) (iblk m c 2 t) (iblk m c 0 t) (iblk m c 1 t) (ix2 p j)
      = dy (m ((c : Thread nD τ).loc main_arg0)) (m ((c : Thread nD τ).loc main_arg1)) (m ((c : Thread nD τ).loc main_arg2)) (m ((c : Thread nD τ).loc main_arg3)) (m ((c : Thread nD τ).loc main_arg4)) a j * xhat (m ((c : Thread nD τ).loc main_arg0)) (m ((c : Thread nD τ).loc main_arg1)) (m ((c : Thread nD τ).loc main_arg2)) a j := by
  refine congrArg₂ (· * ·) ?_ (xhat_blk m c t p j a ha)
  have e := err_blk m c t p j a ha
  unfold dy
  pointwise [k0_pay2, e]

/-- The fourth result: the sum over all rows, in row 0. -/
theorem final8 (c : Dev nD) : (dats m 0 c).arrAt 8 cfg0.N
    = dg (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => (0 : EReal))
    (fun p y => if (y 0 : ℕ) < 1 then part m c p (y 1) else (0 : EReal))
    (fun t h j => first m c t h j) (fun t h j => next m c t h j) (le_of_eq N_0) t0_15 rfl j, zero_add]
  unfold dg
  split
  · exact Fin.sum_mul_add_congr (L := 8192) (S := cfg0.N) (n := 512) (fun t p hl => summand m c t p (j 1) _ rfl)
      (by rw [show cfg0.N = 16 from N_0])
  · simp

end Cert.FfnDownLossIdeal.Rows

end
-- ==== Proof.FfnDownLossEq.lean ====
/- The reference of the pair `FfnDownLoss` on real arguments, and what the pair's precondition says. -/
module

public import proofs.«01_k».proof.Defs
public import proofs.«01_k».proof.Proof.Gen.Pre_finite_ffn_down
public import proofs.«01_k».proof.Proof.Gen.FfnDownLossRefIdeal.Run
public import proofs.«01_k».proof.Proof.Gen.FfnDownLossRefIdeal.Read
public import proofs.«01_k».proof.Proof.FfnDownLossValue
public import Idealize.ShloMosaic.Lib.Claim

@[expose] public section

set_option maxRecDepth 16384

noncomputable section

namespace Cert.FfnDownLossEq

open Idealize.ShloMosaic Idealize.ShloMosaic.TcCoe Idealize.SL.Sem Cert.RealLine
open Cert.FfnDownLossRefIdeal Cert.FfnDownLossRefIdeal.Gen Cert.FfnDownLossRefIdeal.Read
open Cert.FfnDownLossIdeal.Rows (hf xhat err dy rowLoss loss dh dg)

instance : Subsingleton Cert.Pre_finite_ffn_down.S_.Idx := ⟨fun a b => funext fun k => k.elim0⟩

/-- What the precondition says: the five arguments are real. -/
theorem real_of_pre {act : FVec Ideal S8192x2816 .f32} {w : FVec Ideal S2816x1024 .f32} {h : FVec Ideal S8192x1024 .f32}
    {g : FVec Ideal S1024 .f32} {z : FVec Ideal S8192x1024 .f32}
    (e : Cert.Pre_finite_ffn_down.fn (F := Ideal) act w h g z = fun _ => 1#1) :
    (∀ i, IsReal (act i)) ∧ (∀ i, IsReal (w i)) ∧ (∀ i, IsReal (h i)) ∧ (∀ i, IsReal (g i)) ∧ ∀ i, IsReal (z i) := by
  have e := congrFun e ix0
  unfold Cert.Pre_finite_ffn_down.fn Cert.Pre_finite_ffn_down.fn_part1 at e
  obtain ⟨e, e4⟩ := and_one e
  obtain ⟨e, e3⟩ := and_one e
  obtain ⟨e, e2⟩ := and_one e
  obtain ⟨e0, e1⟩ := and_one e
  exact ⟨fun i => all_real (fun _ => rfl) e0 i, fun i => all_real (fun _ => rfl) e1 i, fun i => all_real (fun _ => rfl) e2 i,
    fun i => all_real (fun _ => rfl) e3 i, fun i => all_real (fun _ => rfl) e4 i⟩

theorem half : Ideal.ofBits .f32 1056964608#32 = ((1 / 2 : ℝ) : EReal) := by
  simp [Ideal.ofBits, Ideal.ieee]
  first | (rw [← EReal.coe_mul]; norm_num) | (norm_num [← EReal.coe_mul])

theorem n1 : Ideal.ofBits .f32 1065353216#32 = ((1 : ℝ) : EReal) := by
  simp [Ideal.ofBits, Ideal.ieee]
  first | (rw [← EReal.coe_mul]; norm_num) | (norm_num [← EReal.coe_mul])

theorem n2 : Ideal.ofBits .f32 1073741824#32 = ((2 : ℝ) : EReal) := by
  simp [Ideal.ofBits, Ideal.ieee]
  first | (rw [← EReal.coe_mul]; norm_num) | (norm_num [← EReal.coe_mul])

theorem inv1024 : Ideal.ofBits .f32 981467136#32 = ((1 / 1024 : ℝ) : EReal) := by
  simp [Ideal.ofBits, Ideal.ieee]
  first | (rw [← EReal.coe_mul]; norm_num) | (norm_num [← EReal.coe_mul])

/-- The loss's factor and the square's. -/
theorem factor {x : EReal} (hx : IsReal x) :
    Ideal.div (Ideal.ofBits .f32 1056964608#32 * Ideal.ofBits .f32 1065353216#32) (Ideal.ofBits .f32 1149239296#32)
        * (Ideal.ofBits .f32 1073741824#32 * x) = x * Ideal.ofBits .f32 981467136#32 := by
  obtain ⟨r, rfl⟩ := hx
  rw [half, n1, n2, n1024, inv1024, ← EReal.coe_mul, div_real _ (by norm_num), ← EReal.coe_mul, ← EReal.coe_mul, ← EReal.coe_mul]
  refine congrArg (fun x : ℝ => (x : EReal)) ?_
  ring

variable {act : FVec Ideal S8192x2816 .f32} {w : FVec Ideal S2816x1024 .f32} {h : FVec Ideal S8192x1024 .f32}
  {g : FVec Ideal S1024 .f32} {z : FVec Ideal S8192x1024 .f32}

theorem hf_real (ha : ∀ i, IsReal (act i)) (hw : ∀ i, IsReal (w i)) (hh : ∀ i, IsReal (h i)) (a : Fin 8192) (j : Fin 1024) :
    IsReal (hf act w h a j) := IsReal.add (hh _) (IsReal.sum fun l => IsReal.mul (ha _) (hw _))

theorem err_real (ha : ∀ i, IsReal (act i)) (hw : ∀ i, IsReal (w i)) (hh : ∀ i, IsReal (h i)) (hg : ∀ i, IsReal (g i)) (hz : ∀ i, IsReal (z i))
    (a : Fin 8192) (j : Fin 1024) : IsReal (err act w h g z a j) :=
  IsReal.sub (IsReal.mul (IsReal.mul (hf_real ha hw hh a j) (Rms.inv_real fun k => hf_real ha hw hh a k)) (hg _)) (hz _)

theorem v1_at (a : Fin 8192) (j : Fin 1024) : val_main_v1 (F := Ideal) act w h (ix2 a j) = hf act w h a j := by
  unfold hf
  pointwise [val_main_v1, val_main_v0]

theorem v8_at (a : Fin 8192) : val_main_v8 (F := Ideal) act w h (ix2 a 0) = Rms.meanSq (hf act w h a) := by
  unfold Rms.meanSq
  pointwise [val_main_v8, val_main_v7, val_main_cst_1, val_main_v6, val_main_v5, val_main_cst_0, val_main_v4, val_main_v3, val_main_cst, val_main_v2, v1_at]

theorem v9_at (a : Fin 8192) : val_main_v9 (F := Ideal) act w h (ix2 a 0) = Rms.inv (hf act w h a) := by
  unfold Rms.inv
  pointwise [val_main_v9, v8_at]

theorem v14_at (a : Fin 8192) (j : Fin 1024) : val_main_v14 (F := Ideal) act w h (ix2 a j) = xhat act w h a j := by
  unfold xhat
  pointwise [val_main_v14, val_main_v13, v9_at, v1_at]

theorem v18_at (a : Fin 8192) (j : Fin 1024) : val_main_v18 (F := Ideal) act w h g z (ix2 a j) = err act w h g z a j := by
  unfold err
  pointwise [val_main_v18, val_main_v17, val_main_v16, val_main_v15, v14_at]

theorem v32_at (a : Fin 8192) (j : Fin 1024) (he : IsReal (err act w h g z a j)) :
    val_main_v32 (F := Ideal) act w h g z (ix2 a j) = dy act w h g z a j := by
  unfold dy
  refine Eq.trans ?_ (factor he)
  pointwise [val_main_v32, val_main_v31, val_main_v30, val_main_v29, val_main_cst_10, val_main_v28, val_main_v27, val_main_cst_9, val_main_cst_8, val_main_v21, val_main_v20,
    val_main_cst_3, v18_at]

theorem v37_at (a : Fin 8192) (j : Fin 1024) (he : ∀ a j, IsReal (err act w h g z a j)) :
    val_main_v37 (F := Ideal) act w h g z (ix2 a j) = dy act w h g z a j * g (ix1 j) := by
  have e := v32_at a j (he a j)
  pointwise [val_main_v37, val_main_v36, val_main_v15, e]

theorem ref_dh (ha : ∀ i, IsReal (act i)) (hw : ∀ i, IsReal (w i)) (hh : ∀ i, IsReal (h i)) (hg : ∀ i, IsReal (g i)) (hz : ∀ i, IsReal (z i)) :
    val_main_v52 (F := Ideal) act w h g z = dh act w h g z := by
  funext i
  idx_vars i
  have he := err_real ha hw hh hg hz
  have e : ∀ j, _ := fun j => v37_at i0 j he
  refine Eq.trans ?_ (Rms.grad_eq (x := hf act w h i0) (u := fun k => dy act w h g z i0 k * g (ix1 k)) (fun k => hf_real ha hw hh i0 k)
    (fun k => IsReal.mul (IsReal.mul (he i0 k) (inv1024 ▸ IsReal.coe _)) (hg _)) i1)
  unfold Rms.viaInv
  pointwise [val_main_v52, val_main_v51, val_main_v50, val_main_v49, val_main_v48, val_main_cst_15, val_main_v47, val_main_v46, val_main_v45, val_main_cst_14, val_main_v44,
    val_main_v43, val_main_v42, val_main_v41, val_main_cst_13, val_main_v40, val_main_v39, val_main_v12, val_main_v11, val_main_cst_2, val_main_v10, v9_at, v8_at, v1_at, e]
  simp only [Fin.sum_univ_one, v9_at, v8_at]

theorem sitofp_zero : FloatOps.sitofp (F := Ideal) FTy.f32 0#32 = (0 : EReal) := by
  show (((0#32 : BitVec 32).toInt : ℝ) : EReal) = 0
  simp

theorem ref_dg (he : ∀ a j, IsReal (err act w h g z a j)) : val_main_v56 (F := Ideal) act w h g z = dg act w h g z := by
  funext i
  idx_vars i
  have e : ∀ a, _ := fun a => v32_at a i1 (he a i1)
  unfold dg
  pointwise [val_main_v56, val_main_call0_v0, val_main_c, val_main_v55, val_main_cst_12, val_main_v38, val_main_v35, val_main_cst_11, val_main_v34, val_main_v33, v14_at, e]
  split
  · rw [Fin.sum_univ_one]
    exact Finset.sum_congr rfl fun a _ => mul_comm _ _
  · exact sitofp_zero

theorem rowLoss_real (he : ∀ a j, IsReal (err act w h g z a j)) (a : Fin 8192) : IsReal (rowLoss act w h g z a) := by
  obtain ⟨r, hr⟩ : IsReal (∑ j : Fin 1024, err act w h g z a j * err act w h g z a j) := IsReal.sum fun j => IsReal.mul (he a j) (he a j)
  unfold rowLoss
  rw [hr, n1024, div_real _ (by norm_num)]
  exact IsReal.coe _

theorem ref_loss (he : ∀ a j, IsReal (err act w h g z a j)) : val_main_v53 (F := Ideal) act w h g z = loss act w h g z := by
  funext i
  idx_vars i
  have e : ∀ a, val_main_v24 (F := Ideal) act w h g z (ix1 a) = rowLoss act w h g z a := fun a => by
    unfold rowLoss
    pointwise [val_main_v24, val_main_v23, val_main_cst_5, val_main_cst_4, val_main_v22, val_main_v19, v18_at]
  unfold loss
  have hr := rowLoss_real he
  trans Ideal.ofBits .f32 1056964608#32 * ∑ a : Fin 8192, rowLoss act w h g z a
  · pointwise [val_main_v53, val_main_v26, val_main_cst_7, val_main_v25, val_main_cst_6, e]
  · have hs : ∑ a : Fin 8192, rowLoss act w h g z a
        = ∑ t : Fin 16, ∑ p : Fin 512, rowLoss act w h g z ⟨t.val * 512 + p.val, by omega⟩ :=
      (Fin.sum_mul_add_congr (L := 8192) (S := 16) (n := 512) (fun t p hl => rfl) (by norm_num)).symm
    rw [hs]
    exact mul_sum_real _ (half ▸ IsReal.coe _) fun t => IsReal.sum fun p => hr _

end Cert.FfnDownLossEq

end
-- ==== Proof.FfnDownLossClaims.lean ====
/- The claims about the pair `FfnDownLoss`. -/
module

public import proofs.«01_k».proof.Proof.Gen.FfnDownLoss.Frame
public import proofs.«01_k».proof.Proof.Gen.FfnDownLossIdeal.Frame
public import proofs.«01_k».proof.Proof.FfnDownLossEq

@[expose] public section

set_option maxRecDepth 16384

noncomputable section

namespace Cert.FfnDownLossEq

open Idealize.ShloMosaic Idealize.ShloMosaic.TcCoe Idealize.SL.Sem
open Cert.FfnDownLossIdeal.Rows (dh dg loss)

theorem frame_p : Cert.quiescent_FfnDownLoss := fun m ρ _ => Cert.FfnDownLoss.Gen.frame m ρ

theorem frame_pi : Cert.quiescent_FfnDownLossIdeal := fun m ρ _ => Cert.FfnDownLossIdeal.Gen.frame m ρ

theorem frame_ri : Cert.quiescent_FfnDownLossRefIdeal := fun m ρ _ =>
  (θ_run Cert.FfnDownLossRefIdeal.defs _ _).mono (fun r h => ⟨fun c => (h c).2.2.2.2, sem_eq_zero_of_no_sems (by decide) r.2⟩)
    (Cert.FfnDownLossRefIdeal.Value.run (F := Ideal) m ρ)

theorem algebraic : Cert.algebraic_FfnDownLossIdeal_FfnDownLossRefIdeal_pre_finite_ffn_down := by
  intro m g m' g' hpre hagree
  refine ⟨_, _, _, _, Cert.FfnDownLossIdeal.Value.run_blocks (F := Ideal) m g, ?_⟩
  refine (θ_run Cert.FfnDownLossRefIdeal.defs _ _).mono (fun r h c => ?_) (Cert.FfnDownLossRefIdeal.Value.run (F := Ideal) m' g')
  obtain ⟨h0, h1, h2, h3, hargs⟩ := h c
  obtain ⟨a0, a1, a2, a3, a4⟩ := hagree c
  obtain ⟨ra, rw', rh, rg, rz⟩ := real_of_pre (hpre c)
  refine ⟨h0.trans ?_, h1.trans ?_, h2.trans ?_, h3.trans ?_, hargs⟩
  · rw [a0, a1, a2, a3, a4]
    exact (Cert.FfnDownLossRefIdeal.Read.val_main_v53_eq _ _ _ _ _).trans
      ((ref_loss (err_real ra rw' rh rg rz)).trans (Cert.FfnDownLossIdeal.Rows.final5 m c).symm)
  · rw [Cert.FfnDownLossRefIdeal.Read.val_main_v52_eq, a0, a1, a2, a3, a4]
    exact (ref_dh ra rw' rh rg rz).trans (Cert.FfnDownLossIdeal.Rows.final6 m c).symm
  · rw [Cert.FfnDownLossRefIdeal.Read.val_main_v54_eq, a0, a1, a2, a3, a4]
    exact (ref_dh ra rw' rh rg rz).trans (Cert.FfnDownLossIdeal.Rows.final7 m c).symm
  · rw [a0, a1, a2, a3, a4]
    exact (Cert.FfnDownLossRefIdeal.Read.val_main_v56_eq _ _ _ _ _).trans
      ((ref_dg (err_real ra rw' rh rg rz)).trans (Cert.FfnDownLossIdeal.Rows.final8 m c).symm)

end Cert.FfnDownLossEq

end
-- ==== Proof.InProjDxValue.lean ====
/- What the kernel of `InProjDxIdeal` leaves in its two result arrays, as sums over its arguments. -/
module

public import proofs.«01_k».proof.Proof.Gen.InProjDxIdeal.Value
public import proofs.«01_k».proof.Proof.RmsGrad
public import proofs.«01_k».proof.Proof.RowZero
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.InProjDxIdeal.Rows

open Cert.InProjDxIdeal Cert.InProjDxIdeal.Gen Idealize.ShloMosaic Idealize.ShloMosaic.TcCoe Idealize.SL.Sem
open Idealize.ShloMosaic.Pipeline (Dat)

/-- A summand of the product of the cotangent's row `a` with the weights. -/
def term (w : FVec Ideal S1024x2568 .f32) (dp : FVec Ideal S8192x2568 .f32) (a : Fin 8192) (j : Fin 1024) (l : Fin 2568) : EReal :=
  dp (ix2 a l) * w (ix2 j l)

/-- The gradient of the normalised and weighted row `a`: the cotangent times the weights. -/
def dn (w : FVec Ideal S1024x2568 .f32) (dp : FVec Ideal S8192x2568 .f32) (a : Fin 8192) (j : Fin 1024) : EReal :=
  ∑ l : Fin 2568, term w dp a j l

/-- The gradient of `x`, the residual's own cotangent included. -/
def dx (x : FVec Ideal S8192x1024 .f32) (g : FVec Ideal S1024 .f32) (w : FVec Ideal S1024x2568 .f32) (dp : FVec Ideal S8192x2568 .f32)
    (d1 : FVec Ideal S8192x1024 .f32) : FVec Ideal S8192x1024 .f32 :=
  fun i => d1 i + Rms.grad (fun k : Fin 1024 => x (ix2 (i 0) k)) (fun k => dn w dp (i 0) k * g (ix1 k)) (i 1)

/-- The normalised row. -/
def xhat (x : FVec Ideal S8192x1024 .f32) (a : Fin 8192) (j : Fin 1024) : EReal := x (ix2 a j) * Rms.inv fun k : Fin 1024 => x (ix2 a k)

/-- The gradient of the norm's weight, in row 0 of eight. -/
def dg (x : FVec Ideal S8192x1024 .f32) (w : FVec Ideal S1024x2568 .f32) (dp : FVec Ideal S8192x2568 .f32) : FVec Ideal S8x1024 .f32 :=
  fun i => if (i 0 : ℕ) < 1 then ∑ a : Fin 8192, dn w dp a (i 1) * xhat x a (i 1) else 0

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![0, 0] ∧ win0_8.index t = ![t.val, 0] ∧ win0_9.index t = ![t.val, 0] ∧ win0_10.index t = ![0, 0] :=
  (by decide +kernel : ∀ t : Fin grid0.N, _)

/-- The cotangent's block, in five pieces of columns, times the rows of the weights that each piece meets. -/
abbrev prod (c : Dev nD) (t : Fin cfg0.N) : FVec Ideal S512x1024 .f32 :=
  k0_pay1 (F := Ideal)
    (k0_pay7 (iblk m c 0 t) (View.ld (iblk m c 5 t) (Rect.unit ![0, 0] ![512, 1024] inb_S2688x1024_S512x1024_0_0))
      (iblk m c 1 t) (View.ld (iblk m c 5 t) (Rect.unit ![512, 0] ![512, 1024] inb_S2688x1024_S512x1024_512_0))
      (iblk m c 2 t) (View.ld (iblk m c 5 t) (Rect.unit ![1024, 0] ![512, 1024] inb_S2688x1024_S512x1024_1024_0))
      (iblk m c 3 t) (View.ld (iblk m c 5 t) (Rect.unit ![1536, 0] ![1024, 1024] inb_S2688x1024_S1024x1024_1536_0)))
    (k0_pay8 (iblk m c 4 t) (View.ld (iblk m c 5 t) (Rect.unit ![2560, 0] ![128, 1024] inb_S2688x1024_S128x1024_2560_0)))

/-- A sum over the padded columns is the sum over the columns there are. -/
theorem sum_pieces (f : Fin 2568 → EReal) (h0 : Fin 512 → EReal) (h1 : Fin 512 → EReal) (h2 : Fin 512 → EReal) (h3 : Fin 1024 → EReal)
    (h4 : Fin 128 → EReal) (e0 : ∀ l : Fin 512, h0 l = f ⟨l, by omega⟩) (e1 : ∀ l : Fin 512, h1 l = f ⟨512 + l, by omega⟩)
    (e2 : ∀ l : Fin 512, h2 l = f ⟨1024 + l, by omega⟩) (e3 : ∀ l : Fin 1024, h3 l = f ⟨1536 + l, by omega⟩)
    (e4 : ∀ l : Fin 128, h4 l = if h : (l : ℕ) < 8 then f ⟨2560 + l, by omega⟩ else 0) :
    (((∑ l, h0 l) + ∑ l, h1 l) + ∑ l, h2 l) + (∑ l, h3 l) + ∑ l, h4 l = ∑ l, f l := by
  have s1 : ∑ l : Fin 1024, f ⟨l, by omega⟩ = (∑ l : Fin 512, f ⟨l, by omega⟩) + ∑ l : Fin 512, f ⟨512 + l, by omega⟩ :=
    Fin.sum_univ_add (a := 512) (b := 512) fun l => f ⟨l, by omega⟩
  have s2 : ∑ l : Fin 1536, f ⟨l, by omega⟩ = (∑ l : Fin 1024, f ⟨l, by omega⟩) + ∑ l : Fin 512, f ⟨1024 + l, by omega⟩ :=
    Fin.sum_univ_add (a := 1024) (b := 512) fun l => f ⟨l, by omega⟩
  have s3 : ∑ l : Fin 2560, f ⟨l, by omega⟩ = (∑ l : Fin 1536, f ⟨l, by omega⟩) + ∑ l : Fin 1024, f ⟨1536 + l, by omega⟩ :=
    Fin.sum_univ_add (a := 1536) (b := 1024) fun l => f ⟨l, by omega⟩
  have s4 : ∑ l : Fin 2568, f l = (∑ l : Fin 2560, f ⟨l, by omega⟩) + ∑ l : Fin 8, f ⟨2560 + l, by omega⟩ :=
    Fin.sum_univ_add (a := 2560) (b := 8) f
  have s5 : ∑ l : Fin 128, h4 l = (∑ l : Fin 8, h4 ⟨l, by omega⟩) + ∑ l : Fin 120, h4 ⟨8 + l, by omega⟩ :=
    Fin.sum_univ_add (a := 8) (b := 120) h4
  have z : ∑ l : Fin 120, h4 ⟨8 + l, by omega⟩ = 0 := Finset.sum_eq_zero fun l _ => (e4 _).trans (dif_neg (by simp))
  have z' : ∑ l : Fin 8, h4 ⟨l, by omega⟩ = ∑ l : Fin 8, f ⟨2560 + l, by omega⟩ := Finset.sum_congr rfl fun l _ => (e4 _).trans (dif_pos l.isLt)
  rw [s4, s3, s2, s1, s5, z, z', add_zero]
  simp only [e0, e1, e2, e3]

/-- Column `l` of the padded cotangent. -/
def col (dp : FVec Ideal S8192x2568 .f32) (a : Fin 8192) (l : ℕ) : EReal := if h : l < 2568 then dp (ix2 a ⟨l, h⟩) else 0

/-- Row `l` of the padded weights. -/
def wrow (w : FVec Ideal S1024x2568 .f32) (l : ℕ) (j : Fin 1024) : EReal := if h : l < 2568 then w (ix2 j ⟨l, h⟩) else 0

theorem sitofp_zero (φ : FTy) : FloatOps.sitofp (F := Ideal) φ 0#32 = (0 : EReal) := by
  show (((0#32 : BitVec 32).toInt : ℝ) : EReal) = 0
  simp

theorem V_gain (c : Dev nD) (j : Fin 1024) : (V m c main_v10 : FVec Ideal S1x1024 .f32) (ix2 0 j) = (m ((c : Thread nD τ).loc main_arg1)) (ix1 j) := by
  unfold V
  after_reads_at

theorem V_weights (c : Dev nD) (l : Fin 2688) (j : Fin 1024) :
    (V m c main_v2 : FVec Ideal S2688x1024 .bf16) (ix2 l j) = wrow (m ((c : Thread nD τ).loc main_arg2)) l j := by
  unfold V wrow
  after_reads_at
  rw [sitofp_zero]

theorem V_piece0 (c : Dev nD) (a : Fin 8192) (l : Fin 512) : (V m c main_v5 : FVec Ideal S8192x512 .bf16) (ix2 a l) = col (m ((c : Thread nD τ).loc main_arg3)) a l := by
  unfold V col
  after_reads_at
  rw [sitofp_zero]

theorem V_piece1 (c : Dev nD) (a : Fin 8192) (l : Fin 512) : (V m c main_v6 : FVec Ideal S8192x512 .bf16) (ix2 a l) = col (m ((c : Thread nD τ).loc main_arg3)) a (512 + l) := by
  unfold V col
  after_reads_at
  rw [sitofp_zero]

theorem V_piece2 (c : Dev nD) (a : Fin 8192) (l : Fin 512) : (V m c main_v7 : FVec Ideal S8192x512 .bf16) (ix2 a l) = col (m ((c : Thread nD τ).loc main_arg3)) a (1024 + l) := by
  unfold V col
  after_reads_at
  rw [sitofp_zero]

theorem V_piece3 (c : Dev nD) (a : Fin 8192) (l : Fin 1024) : (V m c main_v8 : FVec Ideal S8192x1024 .bf16) (ix2 a l) = col (m ((c : Thread nD τ).loc main_arg3)) a (1536 + l) := by
  unfold V col
  after_reads_at
  rw [sitofp_zero]

theorem V_piece4 (c : Dev nD) (a : Fin 8192) (l : Fin 128) : (V m c main_v9 : FVec Ideal S8192x128 .bf16) (ix2 a l) = col (m ((c : Thread nD τ).loc main_arg3)) a (2560 + l) := by
  unfold V col
  after_reads_at
  rw [sitofp_zero]

/-- The five products of a point, over its blocks. -/
theorem prod_apply (p0 p1 p2 : FVec Ideal S512x512 .bf16) (p3 : FVec Ideal S512x1024 .bf16) (p4 : FVec Ideal S512x128 .bf16)
    (w0 w1 w2 : FVec Ideal S512x1024 .bf16) (w3 : FVec Ideal S1024x1024 .bf16) (w4 : FVec Ideal S128x1024 .bf16) (p : Fin 512) (j : Fin 1024) :
    k0_pay1 (F := Ideal) (k0_pay7 p0 w0 p1 w1 p2 w2 p3 w3) (k0_pay8 p4 w4) (ix2 p j)
      = (((∑ l : Fin 512, p0 (ix2 p l) * w0 (ix2 l j)) + ∑ l : Fin 512, p1 (ix2 p l) * w1 (ix2 l j)) + ∑ l : Fin 512, p2 (ix2 p l) * w2 (ix2 l j))
          + (∑ l : Fin 1024, p3 (ix2 p l) * w3 (ix2 l j)) + ∑ l : Fin 128, p4 (ix2 p l) * w4 (ix2 l j) := by
  pointwise [k0_pay1, k0_pay7, k0_pay8]

/-- A product of two padded entries: that of the entries there are, or zero. -/
theorem pad_mul (w : FVec Ideal S1024x2568 .f32) (dp : FVec Ideal S8192x2568 .f32) (a : Fin 8192) (j : Fin 1024) (l : ℕ) :
    col dp a l * wrow w l j = if h : l < 2568 then term w dp a j ⟨l, h⟩ else 0 := by
  unfold col wrow term
  by_cases h : l < 2568
  · simp only [dif_pos h]
  · simp only [dif_neg h, mul_zero]

theorem product (c : Dev nD) (t : Fin cfg0.N) (p : Fin 512) (j : Fin 1024) (a : Fin 8192) (ha : (a : ℕ) = t.val * 512 + p) :
    prod m c t (ix2 p j) = dn (m ((c : Thread nD τ).loc main_arg2)) (m ((c : Thread nD τ).loc main_arg3)) a j := by
  have ht : t.val < 16 := lt_of_lt_of_eq t.isLt N_0
  have cell : ∀ (l : ℕ) (h : l < 2568), col (m ((c : Thread nD τ).loc main_arg3)) a l * wrow (m ((c : Thread nD τ).loc main_arg2)) l j = term (m ((c : Thread nD τ).loc main_arg2)) (m ((c : Thread nD τ).loc main_arg3)) a j ⟨l, h⟩ :=
    fun l h => (pad_mul _ _ _ _ _).trans (dif_pos h)
  unfold prod dn
  rw [prod_apply]
  refine sum_pieces _ _ _ _ _ _ (fun l => Eq.trans ?_ (cell l (by omega))) (fun l => Eq.trans ?_ (cell (512 + l) (by omega)))
    (fun l => Eq.trans ?_ (cell (1024 + l) (by omega))) (fun l => Eq.trans ?_ (cell (1536 + l) (by omega))) (fun l => Eq.trans ?_ ((pad_mul (m ((c : Thread nD τ).loc main_arg2)) (m ((c : Thread nD τ).loc main_arg3)) a j (2560 + l)).trans ?_))
  · rw [← V_piece0 m c a l, ← V_weights m c ⟨l, by omega⟩ j]; blk_point [iblk, idx t]
  · rw [← V_piece1 m c a l, ← V_weights m c ⟨512 + l, by omega⟩ j]; blk_point [iblk, idx t]
  · rw [← V_piece2 m c a l, ← V_weights m c ⟨1024 + l, by omega⟩ j]; blk_point [iblk, idx t]
  · rw [← V_piece3 m c a l, ← V_weights m c ⟨1536 + l, by omega⟩ j]; blk_point [iblk, idx t]
  · rw [← V_piece4 m c a l, ← V_weights m c ⟨2560 + l, by omega⟩ j]; blk_point [iblk, idx t]
  · by_cases h : (l : ℕ) < 8
    · rw [dif_pos h, dif_pos (by omega)]
    · rw [dif_neg h, dif_neg (by omega)]

/-- What a point stores in its block of the first result. -/
theorem point (c : Dev nD) (t : Fin cfg0.N) (y : S512x1024.Idx) :
    k0_pay5 (F := Ideal)
      (k0_pay7 (iblk m c 0 t) (View.ld (iblk m c 5 t) (Rect.unit ![0, 0] ![512, 1024] inb_S2688x1024_S512x1024_0_0))
        (iblk m c 1 t) (View.ld (iblk m c 5 t) (Rect.unit ![512, 0] ![512, 1024] inb_S2688x1024_S512x1024_512_0))
        (iblk m c 2 t) (View.ld (iblk m c 5 t) (Rect.unit ![1024, 0] ![512, 1024] inb_S2688x1024_S512x1024_1024_0))
        (iblk m c 3 t) (View.ld (iblk m c 5 t) (Rect.unit ![1536, 0] ![1024, 1024] inb_S2688x1024_S1024x1024_1536_0)))
      (k0_pay8 (iblk m c 4 t) (View.ld (iblk m c 5 t) (Rect.unit ![2560, 0] ![128, 1024] inb_S2688x1024_S128x1024_2560_0)))
      (iblk m c 6 t) (iblk m c 7 t) (iblk m c 8 t) y
      = dx (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 9).blk t).view.emb y) := by
  have ht : t.val < 16 := lt_of_lt_of_eq t.isLt N_0
  have hd : ∀ j : Fin 1024, prod m c t (ix2 (y 0) j) = dn (m ((c : Thread nD τ).loc main_arg2)) (m ((c : Thread nD τ).loc main_arg3))
      ((((cfg0.win 9).blk t).view.emb y) 0) j := fun j => product m c t (y 0) j _ (by blk_simp [idx t])
  idx_vars y
  have hg : ∀ j : Fin 1024, (iblk m c 7 t : FVec Ideal S1x1024 .f32) (ix2 0 j) = (m ((c : Thread nD τ).loc main_arg1)) (ix1 j) := fun j =>
    (V_gain m c j) ▸ by blk_point [iblk, idx t]
  pointwise [k0_pay5, k0_pay3, k0_pay2, dx, Rms.grad, Rms.inv, Rms.meanSq, hd, hg]
  blk_point [iblk, idx t]

theorem final9 (c : Dev nD) : (dats m 0 c).arrAt 9 cfg0.N
    = dx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 9 _ (by decide +kernel) fun t hf y => ?_
  blk_simp
  rw [after0_9]
  by_cases h0 : t.val % 16 = 0
  · rw [outsAt0_A m c t h0]; frame_out; exact point m c t y
  · rw [outsAt0_B m c t h0]; frame_out; exact point m c t y

/-- What a point adds to the first row of the carried sum. -/
def part (c : Dev nD) (t : Fin cfg0.N) (j : Fin 1024) : EReal :=
  ∑ p : Fin 512, prod m c t (ix2 p j) * k0_pay3 (F := Ideal) (iblk m c 6 t) (ix2 p j)

theorem payload (c : Dev nD) (t : Fin cfg0.N) (acc : FVec Ideal S1x1024 .f32) (j : Fin 1024) :
    k0_pay4 (F := Ideal)
      (k0_pay7 (iblk m c 0 t) (View.ld (iblk m c 5 t) (Rect.unit ![0, 0] ![512, 1024] inb_S2688x1024_S512x1024_0_0))
        (iblk m c 1 t) (View.ld (iblk m c 5 t) (Rect.unit ![512, 0] ![512, 1024] inb_S2688x1024_S512x1024_512_0))
        (iblk m c 2 t) (View.ld (iblk m c 5 t) (Rect.unit ![1024, 0] ![512, 1024] inb_S2688x1024_S512x1024_1024_0))
        (iblk m c 3 t) (View.ld (iblk m c 5 t) (Rect.unit ![1536, 0] ![1024, 1024] inb_S2688x1024_S1024x1024_1536_0)))
      (k0_pay8 (iblk m c 4 t) (View.ld (iblk m c 5 t) (Rect.unit ![2560, 0] ![128, 1024] inb_S2688x1024_S128x1024_2560_0)))
      (iblk m c 6 t) acc (ix2 0 j) = acc (ix2 0 j) + part m c t j := by
  unfold part
  pointwise [k0_pay4]

theorem first (c : Dev nD) (t : Fin cfg0.N) (h0 : t.val % 16 = 0) (y : S8x1024.Idx) :
    (outsAt0 m c t.val t.isLt).2 y = (0 : EReal) + if (y 0 : ℕ) < 1 then part m c t (y 1) else 0 := by
  rw [outsAt0_A m c t h0]; frame_out
  refine RowZero.first_sum (by decide) _ _ _ _ (part m c t) (fun j => (payload m c t _ j).trans ?_) (fun y => by pointwise [k0_pay6]) y
  simp (disch := decide) only [↓ View.readCov_skip, ↓ View.readCov_cons_toLoadRect, ↓ View.readCov_fill]
  rfl

theorem next (c : Dev nD) (t : Fin cfg0.N) (h0 : ¬t.val % 16 = 0) (y : S8x1024.Idx) :
    (outsAt0 m c t.val t.isLt).2 y
      = (outsAt0 m c (t.val - 1) (Nat.lt_of_le_of_lt (Nat.sub_le _ _) t.isLt)).2 y + if (y 0 : ℕ) < 1 then part m c t (y 1) else (0 : EReal) := by
  rw [outsAt0_B m c t h0]; frame_out
  refine RowZero.next_sum (by decide) (ms0_10 t).view _ (outsAt0 m c (t.val - 1) (Nat.lt_of_le_of_lt (Nat.sub_le _ _) t.isLt)).2
    (Memref.IsWhole.read_unread _ _) _ _ (part m c t) (fun j => ?_) y
  refine (payload m c t _ j).trans (congrArg (· + part m c t j) ?_)
  pointwise

theorem summand (c : Dev nD) (t : Fin cfg0.N) (p : Fin 512) (j : Fin 1024) (a : Fin 8192) (ha : (a : ℕ) = t.val * 512 + p) :
    prod m c t (ix2 p j) * k0_pay3 (F := Ideal) (iblk m c 6 t) (ix2 p j)
      = dn (m ((c : Thread nD τ).loc main_arg2)) (m ((c : Thread nD τ).loc main_arg3)) a j
        * xhat (m ((c : Thread nD τ).loc main_arg0)) a j := by
  refine congrArg₂ (· * ·) (product m c t p j a ha) ?_
  unfold xhat
  pointwise [k0_pay3, k0_pay2, Rms.inv, Rms.meanSq]
  blk_point [iblk, V, idx t]

/-- The second result: the sum over all rows, in row 0. -/
theorem final10 (c : Dev nD) : (dats m 0 c).arrAt 10 cfg0.N
    = dg (m ((c : Thread nD τ).loc main_arg0)) (m ((c : Thread nD τ).loc main_arg2)) (m ((c : Thread nD τ).loc main_arg3)) := by
  refine (dats m 0 c).arrAt_eq_of_after_last 10 t0_15 (by decide +kernel) _ fun j => ?_
  blk_simp
  rw [after0_10, Pipeline.eq_sum_fin_of_reset_step_apply_last (fun n h => (outsAt0 m c n h).2) 16 (fun _ => (0 : EReal))
    (fun p y => if (y 0 : ℕ) < 1 then part m c p (y 1) else (0 : EReal))
    (fun t h j => first m c t h j) (fun t h j => next m c t h j) (le_of_eq N_0) t0_15 rfl j, zero_add]
  unfold dg
  split
  · exact Fin.sum_mul_add_congr (L := 8192) (S := cfg0.N) (n := 512) (fun t p hl => summand m c t p (j 1) _ rfl)
      (by rw [show cfg0.N = 16 from N_0])
  · simp

end Cert.InProjDxIdeal.Rows

end
-- ==== Proof.InProjDxEq.lean ====
/- The reference of the pair `InProjDx` on real arguments, and what the pair's precondition says. -/
module

public import proofs.«01_k».proof.Defs
public import proofs.«01_k».proof.Proof.Gen.Pre_finite_in_proj
public import proofs.«01_k».proof.Proof.Gen.InProjDxRefIdeal.Run
public import proofs.«01_k».proof.Proof.Gen.InProjDxRefIdeal.Read
public import proofs.«01_k».proof.Proof.InProjDxValue
public import Idealize.ShloMosaic.Lib.Claim

@[expose] public section

set_option maxRecDepth 16384

noncomputable section

namespace Cert.InProjDxEq

open Idealize.ShloMosaic Idealize.ShloMosaic.TcCoe Idealize.SL.Sem Cert.RealLine
open Cert.InProjDxRefIdeal Cert.InProjDxRefIdeal.Gen Cert.InProjDxRefIdeal.Read
open Cert.InProjDxIdeal.Rows (dn dx dg xhat term)

instance : Subsingleton Cert.Pre_finite_in_proj.S_.Idx := ⟨fun a b => funext fun k => k.elim0⟩

/-- What the precondition says: four of the five arguments are real. -/
theorem real_of_pre {x : FVec Ideal S8192x1024 .f32} {g : FVec Ideal S1024 .f32} {w : FVec Ideal S1024x2568 .f32} {dh : FVec Ideal S8192x2568 .f32}
    {d2 : FVec Ideal S8192x1024 .f32} (h : Cert.Pre_finite_in_proj.fn (F := Ideal) x g w dh d2 = fun _ => 1#1) :
    (∀ i, IsReal (x i)) ∧ (∀ i, IsReal (g i)) ∧ (∀ i, IsReal (w i)) ∧ ∀ i, IsReal (dh i) := by
  have h := congrFun h ix0
  unfold Cert.Pre_finite_in_proj.fn Cert.Pre_finite_in_proj.fn_part1 at h
  obtain ⟨h, h3⟩ := and_one h
  obtain ⟨h, h2⟩ := and_one h
  obtain ⟨h0, h1⟩ := and_one h
  exact ⟨fun i => all_real (fun _ => rfl) h0 i, fun i => all_real (fun _ => rfl) h1 i, fun i => all_real (fun _ => rfl) h2 i,
    fun i => all_real (fun _ => rfl) h3 i⟩

variable {x : FVec Ideal S8192x1024 .f32} {g : FVec Ideal S1024 .f32} {w : FVec Ideal S1024x2568 .f32} {dh : FVec Ideal S8192x2568 .f32}

theorem ref_dx (d2 : FVec Ideal S8192x1024 .f32) (hx : ∀ i, IsReal (x i)) (hg : ∀ i, IsReal (g i)) (hw : ∀ i, IsReal (w i))
    (hdh : ∀ i, IsReal (dh i)) : val_main_v38 (F := Ideal) x g w dh d2 = dx x g w dh d2 := by
  funext i
  idx_vars i
  refine Eq.trans ?_ (Rms.grad_add (x := fun k : Fin 1024 => x (ix2 i0 k)) (u := fun k => dn w dh i0 k * g (ix1 k)) (fun k => hx _)
    (fun k => IsReal.mul (IsReal.sum fun l => IsReal.mul (hdh _) (hw _)) (hg _)) (d2 (ix2 i0 i1)) i1)
  unfold dn term Rms.viaInv Rms.inv Rms.meanSq
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39, val_main_c, val_main_call0_v0, val_main_v40]
  simp only [Fin.sum_univ_one]

theorem sitofp_zero : FloatOps.sitofp (F := Ideal) FTy.f32 0#32 = (0 : EReal) := by
  show (((0#32 : BitVec 32).toInt : ℝ) : EReal) = 0
  simp

theorem ref_dg : val_main_v40 (F := Ideal) x w dh = dg x w dh := by
  funext i
  unfold dg xhat dn term Rms.inv Rms.meanSq
  idx_vars i
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39, val_main_c, val_main_call0_v0, val_main_v40]
  split
  · rw [Fin.sum_univ_one]
    exact Finset.sum_congr rfl fun a _ => mul_comm _ _
  · exact sitofp_zero

end Cert.InProjDxEq

end
-- ==== Proof.InProjDxClaims.lean ====
/- The claims about the pair `InProjDx`. -/
module

public import proofs.«01_k».proof.Proof.Gen.InProjDx.Frame
public import proofs.«01_k».proof.Proof.Gen.InProjDxIdeal.Frame
public import proofs.«01_k».proof.Proof.InProjDxEq

@[expose] public section

set_option maxRecDepth 16384

noncomputable section

namespace Cert.InProjDxEq

open Idealize.ShloMosaic Idealize.ShloMosaic.TcCoe Idealize.SL.Sem
open Cert.InProjDxIdeal.Rows (dx dg)

theorem frame_p : Cert.quiescent_InProjDx := fun m ρ _ => Cert.InProjDx.Gen.frame m ρ

theorem frame_pi : Cert.quiescent_InProjDxIdeal := fun m ρ _ => Cert.InProjDxIdeal.Gen.frame m ρ

theorem frame_ri : Cert.quiescent_InProjDxRefIdeal := fun m ρ _ =>
  (θ_run Cert.InProjDxRefIdeal.defs _ _).mono (fun r h => ⟨fun c => (h c).2.2, sem_eq_zero_of_no_sems (by decide) r.2⟩)
    (Cert.InProjDxRefIdeal.Value.run (F := Ideal) m ρ)

theorem algebraic : Cert.algebraic_InProjDxIdeal_InProjDxRefIdeal_pre_finite_in_proj := by
  intro m g m' g' hpre hagree
  refine ⟨_, _, Cert.InProjDxIdeal.Value.run_blocks (F := Ideal) m g, ?_⟩
  refine (θ_run Cert.InProjDxRefIdeal.defs _ _).mono (fun r h c => ?_) (Cert.InProjDxRefIdeal.Value.run (F := Ideal) m' g')
  obtain ⟨h0, h1, hargs⟩ := h c
  obtain ⟨a0, a1, a2, a3, a4⟩ := hagree c
  obtain ⟨rx, rg, rw', rdh⟩ := real_of_pre (hpre c)
  refine ⟨h0.trans ?_, h1.trans ?_, hargs⟩
  · rw [Cert.InProjDxRefIdeal.Read.val_main_v38_eq, a0, a1, a2, a3, a4]
    exact (ref_dx _ rx rg rw' rdh).trans (Cert.InProjDxIdeal.Rows.final9 m c).symm
  · rw [a0, a2, a3]
    exact (Cert.InProjDxRefIdeal.Read.val_main_v40_eq _ _ _).trans (ref_dg.trans (Cert.InProjDxIdeal.Rows.final10 m c).symm)

end Cert.InProjDxEq

end
-- ==== Proof.GateBwdHost.lean ====
/- The arrays that the host prepares for the kernel of `GateBwdIdeal`. -/
module

public import proofs.«01_k».proof.Proof.Gen.GateBwdIdeal.Value
public import Idealize.ShloMosaic.Lib.Pipeline.ValueKit
public import Idealize.ShloMosaic.Lib.Pipeline.ReadBack
public import Idealize.ShloMosaic.Lib.Pointwise
public import Idealize.ShloMosaic.Lib.WordCmp
public import Idealize.ShloMosaic.Lib.StableHlo.ReadAt

@[expose] public section

set_option maxRecDepth 16384

noncomputable section

namespace Cert.GateBwdIdeal.Rows

open Cert.GateBwdIdeal Cert.GateBwdIdeal.Gen Idealize.ShloMosaic Idealize.ShloMosaic.TcCoe Idealize.SL.Sem

variable (m : (ℓ : Loc nD τ sig) → Buf (Elt Ideal) ℓ)

theorem sitofp_zero (φ : FTy) : FloatOps.sitofp (F := Ideal) φ 0#32 = (0 : EReal) := by
  show (((0#32 : BitVec 32).toInt : ℝ) : EReal) = 0
  simp

/-- Column `l` of eight, zero beyond them. -/
def col (x : FVec Ideal S8192x8 .f32) (a : Fin 8192) (l : ℕ) : EReal := if h : l < 8 then x (ix2 a ⟨l, h⟩) else 0

/-- The gate's argument, zero beyond the eight heads. -/
def zf (z : FVec Ideal S8192x8 .f32) (b : FVec Ideal S8 .f32) (a : Fin 8192) (l : ℕ) : EReal :=
  col z a l + if h : l < 8 then b (ix1 ⟨l, h⟩) else 0

theorem V_zf (c : Dev nD) (a : Fin 8192) (l : Fin 128) : (V m c main_v4 : FVec Ideal S8192x128 .f32) (ix2 a l)
    = zf (m ((c : Thread nD τ).loc main_arg0)) (m ((c : Thread nD τ).loc main_arg1)) a l := by
  unfold V zf col
  after_reads_at
  simp only [sitofp_zero]

/-- Word 1 or 0 as a float. -/
theorem word_one (b : Bool) : FloatOps.uitofp (F := Ideal) .bf16 (BitVec.ofBool b) = if b then (1 : EReal) else 0 := by
  show (((BitVec.ofBool b).toNat : ℝ) : EReal) = _
  cases b <;> simp

theorem V_tri (c : Dev nD) (p q : Fin 256) : (V m c main_v22 : FVec Ideal S256x256 .bf16) (ix2 p q) = if (p : ℕ) ≤ q then (1 : EReal) else 0 := by
  unfold V
  after_reads_at
  rw [show IntOp.cmpi CmpIPredicate.sle (BitVec.ofNat 32 p) (BitVec.ofNat 32 q) = BitVec.ofBool (decide ((p : ℕ) ≤ q)) from
    WordCmp.cmpi_sle_ofNat (by omega) (by omega), word_one]
  simp only [decide_eq_true_eq]

theorem zero_word (i : S_.Idx) : id (constant (F := Ideal) S_ .f32 0#32) i = (0 : EReal) := by
  show Ideal.ofBits .f32 0x00000000#32 = 0
  simp [Ideal.ofBits, Ideal.ieee]

theorem V_slab_q (c : Dev nD) (p : Fin 4) (a : Fin 8192) (l : Fin 128) : (V m c main_v11 : FVec Ideal S4x8192x128 .f32) (ix3 p a l)
    = if (l : ℕ) / 2 = p then col (m ((c : Thread nD τ).loc main_arg2)) a l else 0 := by
  unfold V col
  after_reads_at
  refine (congrArg (fun w => Scalar.select w _ _) (?_ : _ = BitVec.ofBool (decide ((l : ℕ) / 2 = p)))).trans ?_
  · revert p l
    decide +kernel
  · rw [WordCmp.select_decide, sitofp_zero, zero_word]

theorem V_slab_k (c : Dev nD) (p : Fin 4) (a : Fin 8192) (l : Fin 128) : (V m c main_v18 : FVec Ideal S4x8192x128 .f32) (ix3 p a l)
    = if (l : ℕ) / 2 = p then col (m ((c : Thread nD τ).loc main_arg3)) a l else 0 := by
  unfold V col
  after_reads_at
  refine (congrArg (fun w => Scalar.select w _ _) (?_ : _ = BitVec.ofBool (decide ((l : ℕ) / 2 = p)))).trans ?_
  · revert p l
    decide +kernel
  · rw [WordCmp.select_decide, sitofp_zero, zero_word]

end Cert.GateBwdIdeal.Rows

end
-- ==== Proof.GateBwdValue.lean ====
/- What the kernel of `GateBwdIdeal` leaves in its two result arrays: running sums from below times the gate's derivative. -/
module

public import proofs.«01_k».proof.Proof.GateBwdHost
public import proofs.«01_k».proof.Proof.RealLine
public import proofs.«01_k».proof.Proof.RowZero

@[expose] public section

set_option maxRecDepth 16384

noncomputable section

namespace Cert.GateBwdIdeal.Rows

open Cert.GateBwdIdeal Cert.GateBwdIdeal.Gen Idealize.ShloMosaic Idealize.ShloMosaic.TcCoe Idealize.SL.Sem
open Idealize.ShloMosaic.Pipeline (Dat)
open Cert.RealLine

variable (m : (ℓ : Loc nD τ sig) → Buf (Elt Ideal) ℓ)

theorem idx : ∀ t : Fin cfg0.N, win0_0.index t = ![0, 31 - t.val, 0] ∧ win0_1.index t = ![0, 31 - t.val, 0] ∧ win0_2.index t = ![31 - t.val, 0]
    ∧ win0_3.index t = ![0, 0] ∧ win0_4.index t = ![31 - t.val, 0] ∧ win0_5.index t = ![0, 0] :=
  (by decide +kernel : ∀ t : Fin grid0.N, _)

theorem pay4_apply (a0 b0 a1 b1 a2 b2 a3 b3 : FVec Ideal S1x256x128 .f32) (p : Fin 256) (l : Fin 128) :
    k0_pay4 (F := Ideal) a0 b0 a1 b1 a2 b2 a3 b3 (ix2 p l)
      = (((a0 (ix3 0 p l) + b0 (ix3 0 p l)) + (a1 (ix3 0 p l) + b1 (ix3 0 p l))) + (a2 (ix3 0 p l) + b2 (ix3 0 p l))) + (a3 (ix3 0 p l) + b3 (ix3 0 p l)) := by
  pointwise [k0_pay4]

theorem pay7_apply (d : FVec Ideal S256x128 .f32) (T : FVec Ideal S256x256 .bf16) (d' : FVec Ideal S256x128 .bf16) (v : FVec Ideal S1x128 .f32) (p : Fin 256) (l : Fin 128) :
    k0_pay7 (F := Ideal) d T d' v (ix2 p l)
      = (((∑ q : Fin 256, T (ix2 p q) * d' (ix2 q l)) + ∑ q : Fin 256, T (ix2 p q) * (d (ix2 q l) - d' (ix2 q l)))
          + ∑ q : Fin 256, T (ix2 p q) * ((d (ix2 q l) - d' (ix2 q l)) - (d (ix2 q l) - d' (ix2 q l)))) + v (ix2 0 l) := by
  pointwise [k0_pay7]
  have e : ∀ q : Fin 256, d' (ix2 q ⟨256 + l - 128 - 128, by omega⟩) = d' (ix2 q l) := fun q => congrArg (fun l => d' (ix2 q l)) (Fin.ext (by show 256 + (l : ℕ) - 128 - 128 = l; omega))
  have e' : ∀ q : Fin 256, d (ix2 q ⟨256 + l - 128 - 128, by omega⟩) = d (ix2 q l) := fun q => congrArg (fun l => d (ix2 q l)) (Fin.ext (by show 256 + (l : ℕ) - 128 - 128 = l; omega))
  simp only [dif_neg (show ¬ 256 + (l : ℕ) < 128 by omega), dif_neg (show ¬ 256 + (l : ℕ) - 128 < 128 by omega), e, e']

/-- Over reals the rest that the split leaves is zero, and the triangle keeps the rows from `p` on. -/
theorem running (d : FVec Ideal S256x128 .f32) (T : FVec Ideal S256x256 .bf16) (d' : FVec Ideal S256x128 .bf16) (v : FVec Ideal S1x128 .f32) (p : Fin 256) (l : Fin 128)
    (hT : ∀ q, T (ix2 p q) = if (p : ℕ) ≤ q then (1 : EReal) else 0) (hd : ∀ q, d' (ix2 q l) = d (ix2 q l)) (hr : ∀ q, IsReal (d (ix2 q l))) :
    k0_pay7 (F := Ideal) d T d' v (ix2 p l) = (∑ q : Fin 256, if (p : ℕ) ≤ q then (d (ix2 q l) : EReal) else 0) + v (ix2 0 l) := by
  rw [pay7_apply]
  have h0 : ∀ q, (d (ix2 q l) : EReal) - d (ix2 q l) = 0 := fun q => by
    obtain ⟨a, ha⟩ := hr q
    rw [ha, ← EReal.coe_sub, sub_self]; rfl
  simp only [hd, h0, sub_zero, mul_zero, Finset.sum_const_zero, add_zero, hT, ite_mul, one_mul, zero_mul]

/-- The sigmoid as the kernel writes it. -/
def sg (x : EReal) : EReal := Ideal.div 1 (1 + Ideal.exp (0 - (0 - x)))

theorem pay9_apply (d : FVec Ideal S256x128 .f32) (T : FVec Ideal S256x256 .bf16) (d' : FVec Ideal S256x128 .bf16) (v : FVec Ideal S1x128 .f32) (z : FVec Ideal S256x128 .f32)  (p : Fin 256) (l : Fin 128) :
    k0_pay9 (F := Ideal) (iota .tc S256x128 32 [1] iota_S256x128_d1_w32) d T d' v z (ix2 p l)
      = if (l : ℕ) < 8 then k0_pay7 (F := Ideal) d T d' v (ix2 p l) * sg (z (ix2 p l)) else 0 := by
  pointwise [k0_pay9, sg]
  rw [WordCmp.cmpi_slt_ofNat (by omega) (by omega), WordCmp.select_decide]

/-- The sum of the two cotangents at row `b`, zero beyond the rows and the heads. -/
def both (q k : FVec Ideal S8192x8 .f32) (b l : ℕ) : EReal := if h : b < 8192 then col q ⟨b, h⟩ l + col k ⟨b, h⟩ l else 0

/-- The sum of the rows from `a` on: the cotangent of the gate's logarithm. -/
def below (q k : FVec Ideal S8192x8 .f32) (a l : ℕ) : EReal := ∑ b ∈ Finset.Ico a 8192, both q k b l

theorem below_block (q k : FVec Ideal S8192x8 .f32) (s p l : ℕ) (hp : p < 256) (hs : s + 256 ≤ 8192) :
    (∑ r : Fin 256, if p ≤ r then both q k (s + r) l else 0) + below q k (s + 256) l = below q k (s + p) l := by
  unfold below
  rw [Fin.sum_univ_eq_sum_range (fun r => if p ≤ r then both q k (s + r) l else 0) 256, ← Finset.sum_filter]
  rw [show (Finset.range 256).filter (fun r => p ≤ r) = Finset.Ico p 256 by ext r; simp; omega]
  rw [Finset.sum_Ico_add (fun b => both q k b l) p 256 s, add_comm p s, add_comm 256 s]
  exact Finset.sum_Ico_consecutive _ (by omega) hs

/-- The gradient by the gate's argument. -/
def grad (z : FVec Ideal S8192x8 .f32) (b : FVec Ideal S8 .f32) (q k : FVec Ideal S8192x8 .f32) (a : Fin 8192) (l : ℕ) : EReal :=
  if l < 8 then below q k a l * sg (zf z b a l) else 0

def dz (z : FVec Ideal S8192x8 .f32) (b : FVec Ideal S8 .f32) (q k : FVec Ideal S8192x8 .f32) : FVec Ideal S8192x128 .bf16 :=
  fun i => grad z b q k (i 0) (i 1)

def db (z : FVec Ideal S8192x8 .f32) (b : FVec Ideal S8 .f32) (q k : FVec Ideal S8192x8 .f32) : FVec Ideal S8x128 .f32 :=
  fun i => if (i 0 : ℕ) < 1 then ∑ a : Fin 8192, grad z b q k a (i 1) else 0

/-- The block of the cotangents' sum. -/
abbrev dcb (c : Dev nD) (t : Fin cfg0.N) : FVec Ideal S256x128 .f32 :=
  k0_pay4 (F := Ideal) (View.ld (iblk m c 0 t) (Rect.unit ![0, 0, 0] ![1, 256, 128] inb_S4x256x128_S1x256x128_0_0_0))
    (View.ld (iblk m c 1 t) (Rect.unit ![0, 0, 0] ![1, 256, 128] inb_S4x256x128_S1x256x128_0_0_0))
    (View.ld (iblk m c 0 t) (Rect.unit ![1, 0, 0] ![1, 256, 128] inb_S4x256x128_S1x256x128_1_0_0))
    (View.ld (iblk m c 1 t) (Rect.unit ![1, 0, 0] ![1, 256, 128] inb_S4x256x128_S1x256x128_1_0_0))
    (View.ld (iblk m c 0 t) (Rect.unit ![2, 0, 0] ![1, 256, 128] inb_S4x256x128_S1x256x128_2_0_0))
    (View.ld (iblk m c 1 t) (Rect.unit ![2, 0, 0] ![1, 256, 128] inb_S4x256x128_S1x256x128_2_0_0))
    (View.ld (iblk m c 0 t) (Rect.unit ![3, 0, 0] ![1, 256, 128] inb_S4x256x128_S1x256x128_3_0_0))
    (View.ld (iblk m c 1 t) (Rect.unit ![3, 0, 0] ![1, 256, 128] inb_S4x256x128_S1x256x128_3_0_0))

theorem pick (x y : EReal) (l : ℕ) (h : 8 ≤ l → x + y = 0) :
    (((if l / 2 = 0 then x else 0) + (if l / 2 = 0 then y else 0)) + ((if l / 2 = 1 then x else 0) + (if l / 2 = 1 then y else 0))
      + ((if l / 2 = 2 then x else 0) + (if l / 2 = 2 then y else 0))) + ((if l / 2 = 3 then x else 0) + (if l / 2 = 3 then y else 0)) = x + y := by
  rcases (by omega : l / 2 = 0 ∨ l / 2 = 1 ∨ l / 2 = 2 ∨ l / 2 = 3 ∨ 8 ≤ l) with e | e | e | e | e
  · simp [e]
  · simp [e]
  · simp [e]
  · simp [e]
  · rw [h e, if_neg (by omega), if_neg (by omega), if_neg (by omega), if_neg (by omega), if_neg (by omega), if_neg (by omega), if_neg (by omega), if_neg (by omega)]
    simp

/-- The same block in the product's element type. -/
abbrev dcb' (c : Dev nD) (t : Fin cfg0.N) : FVec Ideal S256x128 .bf16 :=
  k0_pay6 (F := Ideal) (View.ld (iblk m c 0 t) (Rect.unit ![0, 0, 0] ![1, 256, 128] inb_S4x256x128_S1x256x128_0_0_0))
    (View.ld (iblk m c 1 t) (Rect.unit ![0, 0, 0] ![1, 256, 128] inb_S4x256x128_S1x256x128_0_0_0))
    (View.ld (iblk m c 0 t) (Rect.unit ![1, 0, 0] ![1, 256, 128] inb_S4x256x128_S1x256x128_1_0_0))
    (View.ld (iblk m c 1 t) (Rect.unit ![1, 0, 0] ![1, 256, 128] inb_S4x256x128_S1x256x128_1_0_0))
    (View.ld (iblk m c 0 t) (Rect.unit ![2, 0, 0] ![1, 256, 128] inb_S4x256x128_S1x256x128_2_0_0))
    (View.ld (iblk m c 1 t) (Rect.unit ![2, 0, 0] ![1, 256, 128] inb_S4x256x128_S1x256x128_2_0_0))
    (View.ld (iblk m c 0 t) (Rect.unit ![3, 0, 0] ![1, 256, 128] inb_S4x256x128_S1x256x128_3_0_0))
    (View.ld (iblk m c 1 t) (Rect.unit ![3, 0, 0] ![1, 256, 128] inb_S4x256x128_S1x256x128_3_0_0))

theorem dcb'_apply (c : Dev nD) (t : Fin cfg0.N) (p : Fin 256) (l : Fin 128) : dcb' m c t (ix2 p l) = dcb m c t (ix2 p l) := by
  unfold dcb' dcb
  pointwise [k0_pay6]

theorem ld_slab (x : S4x256x128.Idx → Elt Ideal .f32) (s : ℕ) (hs : s < 4) (h) (p : Fin 256) (l : Fin 128) :
    View.ld (Val := Elt Ideal) (e' := .f32) x (Rect.unit (s := S4x256x128) ![s, 0, 0] ![1, 256, 128] h) (ix3 0 p l) = x (ix3 ⟨s, hs⟩ p l) := by
  refine congrArg x (funext fun a => Fin.ext ?_)
  match a with
  | ⟨0, _⟩ => show s + 1 * 0 = s; omega
  | ⟨1, _⟩ => show 0 + 1 * (p : ℕ) = p; omega
  | ⟨2, _⟩ => show 0 + 1 * (l : ℕ) = l; omega

theorem blk_q (c : Dev nD) (t : Fin cfg0.N) (s : ℕ) (hs : s < 4) (h) (p : Fin 256) (l : Fin 128) (hb : (31 - t.val) * 256 + p < 8192) :
    View.ld (Val := Elt Ideal) (e' := .f32) (iblk m c 0 t) (Rect.unit (s := S4x256x128) ![s, 0, 0] ![1, 256, 128] h) (ix3 0 p l)
      = if (l : ℕ) / 2 = s then col (m ((c : Thread nD τ).loc main_arg2)) ⟨(31 - t.val) * 256 + p, hb⟩ l else 0 := by
  rw [ld_slab _ s hs]
  refine Eq.trans (?_ : _ = (V m c main_v11 : FVec Ideal S4x8192x128 .f32) (ix3 ⟨s, hs⟩ ⟨(31 - t.val) * 256 + p, hb⟩ l)) (V_slab_q m c _ _ _)
  blk_point [iblk, idx t]

theorem blk_k (c : Dev nD) (t : Fin cfg0.N) (s : ℕ) (hs : s < 4) (h) (p : Fin 256) (l : Fin 128) (hb : (31 - t.val) * 256 + p < 8192) :
    View.ld (Val := Elt Ideal) (e' := .f32) (iblk m c 1 t) (Rect.unit (s := S4x256x128) ![s, 0, 0] ![1, 256, 128] h) (ix3 0 p l)
      = if (l : ℕ) / 2 = s then col (m ((c : Thread nD τ).loc main_arg3)) ⟨(31 - t.val) * 256 + p, hb⟩ l else 0 := by
  rw [ld_slab _ s hs]
  refine Eq.trans (?_ : _ = (V m c main_v18 : FVec Ideal S4x8192x128 .f32) (ix3 ⟨s, hs⟩ ⟨(31 - t.val) * 256 + p, hb⟩ l)) (V_slab_k m c _ _ _)
  blk_point [iblk, idx t]

theorem dcb_apply (c : Dev nD) (t : Fin cfg0.N) (p : Fin 256) (l : Fin 128) :
    dcb m c t (ix2 p l) = both (m ((c : Thread nD τ).loc main_arg2)) (m ((c : Thread nD τ).loc main_arg3)) ((31 - t.val) * 256 + p) l := by
  have ht : t.val < 32 := lt_of_lt_of_eq t.isLt N_0
  have hb : (31 - t.val) * 256 + p < 8192 := by omega
  unfold dcb both
  rw [pay4_apply, dif_pos hb, blk_q m c t 0 (by decide) _ _ _ hb, blk_q m c t 1 (by decide) _ _ _ hb, blk_q m c t 2 (by decide) _ _ _ hb, blk_q m c t 3 (by decide) _ _ _ hb,
    blk_k m c t 0 (by decide) _ _ _ hb, blk_k m c t 1 (by decide) _ _ _ hb, blk_k m c t 2 (by decide) _ _ _ hb, blk_k m c t 3 (by decide) _ _ _ hb]
  refine pick _ _ l fun h => ?_
  unfold col
  rw [dif_neg (by omega), dif_neg (by omega), add_zero]

theorem dcb_real (c : Dev nD) (hq : ∀ i, IsReal (m ((c : Thread nD τ).loc main_arg2) i)) (hk : ∀ i, IsReal (m ((c : Thread nD τ).loc main_arg3) i))
    (t : Fin cfg0.N) (p : Fin 256) (l : Fin 128) : IsReal (dcb m c t (ix2 p l)) := by
  rw [dcb_apply]
  unfold both col
  split_ifs
  · exact (hq _).add (hk _)
  · exact IsReal.zero.add IsReal.zero
  · exact IsReal.zero

theorem tri_apply (c : Dev nD) (t : Fin cfg0.N) (p q : Fin 256) :
    k0_pay5 (F := Ideal) (iblk m c 3 t) (ix2 p q) = if (p : ℕ) ≤ q then (1 : EReal) else 0 := by
  refine Eq.trans (?_ : _ = (V m c main_v22 : FVec Ideal S256x256 .bf16) (ix2 p q)) (V_tri m c _ _)
  blk_point [k0_pay5, iblk, idx t]

/-- The logarithm's cotangent at the rows of block `t`, from the sum of the rows behind it. -/
theorem step (c : Dev nD) (hq : ∀ i, IsReal (m ((c : Thread nD τ).loc main_arg2) i)) (hk : ∀ i, IsReal (m ((c : Thread nD τ).loc main_arg3) i))
    (t : Fin cfg0.N) (v : FVec Ideal S1x128 .f32)
    (hv : ∀ l : Fin 128, v (ix2 0 l) = below (m ((c : Thread nD τ).loc main_arg2)) (m ((c : Thread nD τ).loc main_arg3)) ((32 - t.val) * 256) l) (p : Fin 256) (l : Fin 128) :
    k0_pay7 (F := Ideal) (dcb m c t) (k0_pay5 (F := Ideal) (iblk m c 3 t)) (dcb' m c t) v (ix2 p l)
      = below (m ((c : Thread nD τ).loc main_arg2)) (m ((c : Thread nD τ).loc main_arg3)) ((31 - t.val) * 256 + p) l := by
  have ht : t.val < 32 := lt_of_lt_of_eq t.isLt N_0
  rw [running _ _ _ _ _ _ (fun q => tri_apply m c t p q) (fun q => dcb'_apply m c t q l) (fun q => dcb_real m c hq hk t q l), hv]
  simp only [dcb_apply]
  rw [show (32 - t.val) * 256 = (31 - t.val) * 256 + 256 by omega]
  exact below_block _ _ _ _ _ (by omega) (by omega)

theorem grad_block (c : Dev nD) (hq : ∀ i, IsReal (m ((c : Thread nD τ).loc main_arg2) i)) (hk : ∀ i, IsReal (m ((c : Thread nD τ).loc main_arg3) i))
    (t : Fin cfg0.N) (v : FVec Ideal S1x128 .f32)
    (hv : ∀ l : Fin 128, v (ix2 0 l) = below (m ((c : Thread nD τ).loc main_arg2)) (m ((c : Thread nD τ).loc main_arg3)) ((32 - t.val) * 256) l) (p : Fin 256) (l : Fin 128)
    (hb : (31 - t.val) * 256 + p < 8192) :
    k0_pay9 (F := Ideal) (iota .tc S256x128 32 [1] iota_S256x128_d1_w32) (dcb m c t) (k0_pay5 (F := Ideal) (iblk m c 3 t)) (dcb' m c t) v (iblk m c 2 t) (ix2 p l)
      = grad (m ((c : Thread nD τ).loc main_arg0)) (m ((c : Thread nD τ).loc main_arg1)) (m ((c : Thread nD τ).loc main_arg2)) (m ((c : Thread nD τ).loc main_arg3)) ⟨(31 - t.val) * 256 + p, hb⟩ l := by
  rw [pay9_apply, step m c hq hk t v hv]
  have e : (iblk m c 2 t : FVec Ideal S256x128 .f32) (ix2 p l) = zf (m ((c : Thread nD τ).loc main_arg0)) (m ((c : Thread nD τ).loc main_arg1)) ⟨(31 - t.val) * 256 + p, hb⟩ l := by
    refine Eq.trans (?_ : _ = (V m c main_v4 : FVec Ideal S8192x128 .f32) (ix2 ⟨(31 - t.val) * 256 + p, hb⟩ l)) (V_zf m c _ _)
    blk_point [iblk, idx t]
  rw [e]
  rfl

theorem pay8_apply (d : FVec Ideal S256x128 .f32) (T : FVec Ideal S256x256 .bf16) (d' : FVec Ideal S256x128 .bf16) (v : FVec Ideal S1x128 .f32) (l : Fin 128) :
    k0_pay8 (F := Ideal) d T d' v (ix2 0 l) = k0_pay7 (F := Ideal) d T d' v (ix2 0 l) := by
  pointwise [k0_pay8]

theorem below_end (q k : FVec Ideal S8192x8 .f32) (a l : ℕ) (h : 8192 ≤ a) : below q k a l = 0 := by
  unfold below
  rw [Finset.Ico_eq_empty (by omega), Finset.sum_empty]

/-- The row that a point hands to the next. -/
theorem carry (c : Dev nD) (hq : ∀ i, IsReal (m ((c : Thread nD τ).loc main_arg2) i)) (hk : ∀ i, IsReal (m ((c : Thread nD τ).loc main_arg3) i)) :
    ∀ (n : ℕ) (h : n < cfg0.N) (l : Fin 128), (outsAt0 m c n h).2.2 (ix2 0 l) = below (m ((c : Thread nD τ).loc main_arg2)) (m ((c : Thread nD τ).loc main_arg3)) ((31 - n) * 256) l
  | 0, h, l => by
    rw [outsAt0_A m c ⟨0, h⟩ rfl]; frame_out
    refine (RowZero.canon_row _ _ _ _).trans ?_
    refine (if_pos Nat.one_pos).trans ?_
    refine (pay8_apply _ _ _ _ _).trans ((step m c hq hk ⟨0, h⟩ _ (fun l => ?_) 0 l).trans rfl)
    rw [below_end _ _ _ _ (by show 8192 ≤ (32 - 0) * 256; omega)]
    simp (disch := decide) only [↓ View.readCov_skip, ↓ View.readCov_cons_toLoadRect, ↓ View.readCov_fill]
    pointwise [k0_pay2]
  | n + 1, h, l => by
    have ih := carry c hq hk n (Nat.lt_of_succ_lt h)
    have h' : n + 1 < 32 := lt_of_lt_of_eq h N_0
    rw [outsAt0_B m c ⟨n + 1, h⟩ (by show ¬ (n + 1) % 32 = 0; omega)]; frame_out
    refine (RowZero.read_row _ _ _ _ _ _).trans ?_
    refine (if_pos Nat.one_pos).trans ?_
    refine (pay8_apply _ _ _ _ _).trans ((step m c hq hk ⟨n + 1, h⟩ _ (fun l => ?_) 0 l).trans rfl)
    refine Eq.trans ?_ ((ih l).trans (congrArg (fun s => below _ _ (s * 256) (l : ℕ)) (by show 31 - n = 32 - (n + 1); omega)))
    pointwise
    exact congrFun (Memref.IsWhole.read_unread _ _) _

/-- What a point finds in the carried row: the sum of the rows behind its block. -/
theorem before (c : Dev nD) (hq : ∀ i, IsReal (m ((c : Thread nD τ).loc main_arg2) i)) (hk : ∀ i, IsReal (m ((c : Thread nD τ).loc main_arg3) i))
    (t : Fin cfg0.N) (h0 : ¬ t.val % 32 = 0) (l : Fin 128) :
    (outsAt0 m c (t.val - 1) (Nat.lt_of_le_of_lt (Nat.sub_le _ _) t.isLt)).2.2 (ix2 0 l)
      = below (m ((c : Thread nD τ).loc main_arg2)) (m ((c : Thread nD τ).loc main_arg3)) ((32 - t.val) * 256) l := by
  have ht : t.val < 32 := lt_of_lt_of_eq t.isLt N_0
  rw [carry m c hq hk, show 31 - (t.val - 1) = 32 - t.val by omega]

theorem fresh (c : Dev nD) (t : Fin cfg0.N) (h0 : t.val % 32 = 0) (l : Fin 128) :
    (0 : EReal) = below (m ((c : Thread nD τ).loc main_arg2)) (m ((c : Thread nD τ).loc main_arg3)) ((32 - t.val) * 256) l := by
  have ht : t.val < 32 := lt_of_lt_of_eq t.isLt N_0
  exact (below_end _ _ _ _ (by omega)).symm

theorem dz_at (z : FVec Ideal S8192x8 .f32) (b : FVec Ideal S8 .f32) (q k : FVec Ideal S8192x8 .f32) (a : Fin 8192) (l : Fin 128) :
    dz z b q k (ix2 a l) = grad z b q k a l := rfl

theorem pay10_apply (d : FVec Ideal S256x128 .f32) (T : FVec Ideal S256x256 .bf16) (d' : FVec Ideal S256x128 .bf16) (v : FVec Ideal S1x128 .f32) (z : FVec Ideal S256x128 .f32)  (p : Fin 256) (l : Fin 128) :
    k0_pay10 (F := Ideal) (iota .tc S256x128 32 [1] iota_S256x128_d1_w32) d T d' v z (ix2 p l)
      = k0_pay9 (F := Ideal) (iota .tc S256x128 32 [1] iota_S256x128_d1_w32) d T d' v z (ix2 p l) := by
  unfold k0_pay10
  rfl

theorem final4 (c : Dev nD) (hq : ∀ i, IsReal (m ((c : Thread nD τ).loc main_arg2) i)) (hk : ∀ i, IsReal (m ((c : Thread nD τ).loc main_arg3) i)) : (dats m 0 c).arrAt 4 cfg0.N
    = dz (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 32 := lt_of_lt_of_eq t.isLt N_0
  blk_simp
  rw [after0_4]
  idx_vars y
  by_cases h0 : t.val % 32 = 0
  · rw [outsAt0_A m c t h0]; frame_out
    refine (pay10_apply _ _ _ _ _ _ _).trans ((grad_block m c hq hk t _ (fun l => Eq.trans ?_ (fresh m c t h0 l)) _ _ (by omega)).trans ?_)
    · simp (disch := decide) only [↓ View.readCov_skip, ↓ View.readCov_cons_toLoadRect, ↓ View.readCov_fill]
      pointwise [k0_pay2]
    · refine (dz_at _ _ _ _ _ _).symm.trans ?_
      generalize dz (m ((c : Thread nD τ).loc main_arg0)) (m ((c : Thread nD τ).loc main_arg1)) (m ((c : Thread nD τ).loc main_arg2)) (m ((c : Thread nD τ).loc main_arg3)) = X
      blk_point [idx t]
  · rw [outsAt0_B m c t h0]; frame_out
    refine (pay10_apply _ _ _ _ _ _ _).trans ((grad_block m c hq hk t _ (fun l => Eq.trans ?_ (before m c hq hk t h0 l)) _ _ (by omega)).trans ?_)
    · pointwise
      exact congrFun (Memref.IsWhole.read_unread _ _) _
    · refine (dz_at _ _ _ _ _ _).symm.trans ?_
      generalize dz (m ((c : Thread nD τ).loc main_arg0)) (m ((c : Thread nD τ).loc main_arg1)) (m ((c : Thread nD τ).loc main_arg2)) (m ((c : Thread nD τ).loc main_arg3)) = X
      blk_point [idx t]

theorem payload (g : FVec Ideal S256x128 .f32) (v : FVec Ideal S1x128 .f32) (l : Fin 128) :
    k0_pay1 (F := Ideal) g v (ix2 0 l) = v (ix2 0 l) + ∑ p : Fin 256, g (ix2 p l) := by
  pointwise [k0_pay1]

/-- The summand of point `t` of the column sum. -/
def part (c : Dev nD) (t : Fin cfg0.N) (l : Fin 128) : EReal :=
  ∑ p : Fin 256, if h : (31 - t.val) * 256 + p < 8192 then
    grad (m ((c : Thread nD τ).loc main_arg0)) (m ((c : Thread nD τ).loc main_arg1)) (m ((c : Thread nD τ).loc main_arg2)) (m ((c : Thread nD τ).loc main_arg3)) ⟨(31 - t.val) * 256 + p, h⟩ l else 0

theorem part_eq (c : Dev nD) (hq : ∀ i, IsReal (m ((c : Thread nD τ).loc main_arg2) i)) (hk : ∀ i, IsReal (m ((c : Thread nD τ).loc main_arg3) i))
    (t : Fin cfg0.N) (v : FVec Ideal S1x128 .f32)
    (hv : ∀ l : Fin 128, v (ix2 0 l) = below (m ((c : Thread nD τ).loc main_arg2)) (m ((c : Thread nD τ).loc main_arg3)) ((32 - t.val) * 256) l) (l : Fin 128) :
    (∑ p : Fin 256, (k0_pay9 (F := Ideal) (iota .tc S256x128 32 [1] iota_S256x128_d1_w32) (dcb m c t) (k0_pay5 (F := Ideal) (iblk m c 3 t)) (dcb' m c t) v (iblk m c 2 t) (ix2 p l) : EReal))
      = part m c t l := by
  have ht : t.val < 32 := lt_of_lt_of_eq t.isLt N_0
  refine Finset.sum_congr rfl fun p _ => ?_
  rw [dif_pos (show (31 - t.val) * 256 + (p : ℕ) < 8192 by omega)]
  exact grad_block m c hq hk t v hv p l (by omega)

theorem first (c : Dev nD) (hq : ∀ i, IsReal (m ((c : Thread nD τ).loc main_arg2) i)) (hk : ∀ i, IsReal (m ((c : Thread nD τ).loc main_arg3) i))
    (t : Fin cfg0.N) (h0 : t.val % 32 = 0) (y : S8x128.Idx) :
    (outsAt0 m c t.val t.isLt).2.1 y = (0 : EReal) + if (y 0 : ℕ) < 1 then part m c t (y 1) else 0 := by
  rw [outsAt0_A m c t h0]; frame_out
  refine RowZero.first_sum (by decide) _ _ _ _ (part m c t) (fun j => (payload _ _ j).trans (congrArg₂ (· + ·) ?_ (part_eq m c hq hk t _ (fun l => Eq.trans ?_ (fresh m c t h0 l)) j)))
    (fun y => by pointwise [k0_pay3]) y
  · simp (disch := decide) only [↓ View.readCov_skip, ↓ View.readCov_cons_toLoadRect, ↓ View.readCov_fill]
    rfl
  · simp (disch := decide) only [↓ View.readCov_skip, ↓ View.readCov_cons_toLoadRect, ↓ View.readCov_fill]
    pointwise [k0_pay2]

theorem next (c : Dev nD) (hq : ∀ i, IsReal (m ((c : Thread nD τ).loc main_arg2) i)) (hk : ∀ i, IsReal (m ((c : Thread nD τ).loc main_arg3) i))
    (t : Fin cfg0.N) (h0 : ¬ t.val % 32 = 0) (y : S8x128.Idx) :
    (outsAt0 m c t.val t.isLt).2.1 y
      = (outsAt0 m c (t.val - 1) (Nat.lt_of_le_of_lt (Nat.sub_le _ _) t.isLt)).2.1 y + if (y 0 : ℕ) < 1 then part m c t (y 1) else (0 : EReal) := by
  rw [outsAt0_B m c t h0]; frame_out
  refine RowZero.next_sum (by decide) (ms0_5 t).view _ (outsAt0 m c (t.val - 1) (Nat.lt_of_le_of_lt (Nat.sub_le _ _) t.isLt)).2.1
    (Memref.IsWhole.read_unread _ _) _ _ (part m c t) (fun j => (payload _ _ j).trans (congrArg₂ (· + ·) ?_ (part_eq m c hq hk t _ (fun l => Eq.trans ?_ (before m c hq hk t h0 l)) j))) y
  · pointwise [k0_pay11]
  · pointwise
    exact congrFun (Memref.IsWhole.read_unread _ _) _

/-- The blocks from the last to the first take every row once. -/
theorem reversed {N : ℕ} (hN : N = 32) (f : Fin 8192 → EReal) :
    (∑ t : Fin N, ∑ p : Fin 256, if h : (31 - t.val) * 256 + p < 8192 then f ⟨(31 - t.val) * 256 + p, h⟩ else 0) = ∑ a : Fin 8192, f a := by
  subst hN
  rw [← Equiv.sum_comp Fin.revPerm]
  refine Fin.sum_mul_add_congr (L := 8192) (S := 32) (n := 256) fun t p hl => ?_
  have e : 31 - (Fin.revPerm t).val = t.val := by
    rw [Fin.revPerm_apply, Fin.val_rev]; omega
  rw [dif_pos (by rw [e]; exact hl)]
  exact congrArg f (Fin.ext (by show (31 - (Fin.revPerm t).val) * 256 + (p : ℕ) = t.val * 256 + (p : ℕ); rw [e]))

def last : Fin grid0.N := ⟨31, by rw [N_0]; decide⟩

theorem final5 (c : Dev nD) (hq : ∀ i, IsReal (m ((c : Thread nD τ).loc main_arg2) i)) (hk : ∀ i, IsReal (m ((c : Thread nD τ).loc main_arg3) i)) : (dats m 0 c).arrAt 5 cfg0.N
    = db (m ((c : Thread nD τ).loc main_arg0)) (m ((c : Thread nD τ).loc main_arg1)) (m ((c : Thread nD τ).loc main_arg2)) (m ((c : Thread nD τ).loc main_arg3)) := by
  refine (dats m 0 c).arrAt_eq_of_after_last 5 last (by decide +kernel) _ fun j => ?_
  blk_simp
  rw [after0_5, Pipeline.eq_sum_fin_of_reset_step_apply_last (fun n h => (outsAt0 m c n h).2.1) 32 (fun _ => (0 : EReal))
    (fun p y => if (y 0 : ℕ) < 1 then part m c p (y 1) else (0 : EReal))
    (fun t h j => first m c hq hk t h j) (fun t h j => next m c hq hk t h j) (le_of_eq N_0) last rfl j, zero_add]
  unfold db
  split
  · unfold part
    exact reversed N_0 fun a => grad (m ((c : Thread nD τ).loc main_arg0)) (m ((c : Thread nD τ).loc main_arg1)) (m ((c : Thread nD τ).loc main_arg2)) (m ((c : Thread nD τ).loc main_arg3)) a (j 1)
  · simp

end Cert.GateBwdIdeal.Rows

end
-- ==== Proof.WindowSum.lean ====
/- A running sum from below, as the host's window sum writes it: row `a` holds the sum of the rows from `a` on. -/
module

public import Idealize.ShloMosaic.Lib.Pointwise
public import Idealize.ShloMosaic.Lib.ValueIdx
public import Idealize.ShloMosaic.PureOps

@[expose] public section

noncomputable section

namespace Cert.WindowSum

open Idealize.ShloMosaic

theorem foldl_sum {n : ℕ} (f : Fin n → EReal) (v : EReal) : (List.finRange n).foldl (fun r i => r + f i) v = v + ∑ i, f i := by
  have : ∀ (L : List (Fin n)) (v : EReal), L.foldl (fun r i => r + f i) v = v + (L.map f).sum := by
    intro L
    induction L with
    | nil => intro v; simp
    | cons a L ih => intro v; simp [ih, add_assoc]
  rw [this, ← List.ofFn_eq_map, List.sum_ofFn]

theorem numel (N : ℕ) : (⟨2, ![N, 1]⟩ : Shape).numel = N := by
  show ∏ a : Fin 2, (![N, 1] : Fin 2 → ℕ) a = N
  rw [Fin.prod_univ_two]
  exact Nat.mul_one N

theorem symm {N : ℕ} (n : Fin (⟨2, ![N, 1]⟩ : Shape).numel) : (⟨2, ![N, 1]⟩ : Shape).rowMajor.symm n = ix2 (n.cast (numel N)) (0 : Fin 1) :=
  ((⟨2, ![N, 1]⟩ : Shape).rowMajor.symm_apply_eq).2 (Fin.ext (by
    rw [Shape.rowMajor_val_two]
    show n.val = n.val * 1 + 0
    omega))

/-- Column `j` of `x` at row `b`, zero beyond the rows there are. -/
def row {N K : ℕ} (x : (⟨2, ![N, K]⟩ : Shape).Idx → EReal) (j : Fin K) (b : ℕ) : EReal := if h : b < N then x (ix2 ⟨b, h⟩ j) else 0

theorem suffix {N K P : ℕ} (x : (⟨2, ![N, K]⟩ : Shape).Idx → EReal)
    (h : (⟨2, ![N, K]⟩ : Shape).ReduceWindows (![N, 1] : Fin 2 → ℕ) ![1, 1] ![0, 0] ![P, 0] ⟨2, ![N, K]⟩) (a : Fin N) (j : Fin K) :
    Ideal.hostReduceWindowAdd ![N, 1] ![1, 1] ![0, 0] ![P, 0] h x 0 (ix2 a j) = ∑ b ∈ Finset.Ico (a : ℕ) N, row x j b := by
  unfold Ideal.hostReduceWindowAdd Host.reduceWindow
  refine (foldl_sum _ _).trans ((zero_add _).trans ?_)
  have e : ∑ b ∈ Finset.Ico (a : ℕ) N, row x j b = ∑ i : Fin (⟨2, ![N, 1]⟩ : Shape).numel, row x j (a + i) := by
    rw [← (finCongr (numel N)).symm.sum_comp]
    refine Eq.trans ?_ (Fin.sum_univ_eq_sum_range (fun n => row x j (a + n)) N).symm
    rw [Finset.sum_Ico_eq_sum_range]
    refine Finset.sum_subset (Finset.range_mono (Nat.sub_le _ _)) fun n _ hn => dif_neg ?_
    have : N - a ≤ n := by simpa using hn
    omega
  rw [e]
  refine Finset.sum_congr rfl fun n _ => ?_
  have h0 : ((⟨2, ![N, 1]⟩ : Shape).rowMajor.symm n 0).val = n.val := by rw [symm]; rfl
  have h1 : ((⟨2, ![N, 1]⟩ : Shape).rowMajor.symm n 1).val = 0 := by rw [symm]; rfl
  unfold row
  split
  case isTrue hin =>
    have hb : a * 1 + ((⟨2, ![N, 1]⟩ : Shape).rowMajor.symm n 0).val - 0 < N := (hin 0).2
    rw [dif_pos (by omega)]
    refine congrArg x (funext fun d => Fin.ext ?_)
    match d with
    | ⟨0, _⟩ => show a * 1 + ((⟨2, ![N, 1]⟩ : Shape).rowMajor.symm n 0).val - 0 = a + n; omega
    | ⟨1, _⟩ => show j * 1 + ((⟨2, ![N, 1]⟩ : Shape).rowMajor.symm n 1).val - 0 = j; omega
  case isFalse hin =>
    show (0 : EReal) = _
    refine Eq.symm (dif_neg fun hb => hin fun d => ?_)
    match d with
    | ⟨0, _⟩ =>
      show 0 ≤ _ ∧ a * 1 + ((⟨2, ![N, 1]⟩ : Shape).rowMajor.symm n 0).val - 0 < N
      omega
    | ⟨1, _⟩ =>
      show 0 ≤ _ ∧ j * 1 + ((⟨2, ![N, 1]⟩ : Shape).rowMajor.symm n 1).val - 0 < K
      have := j.isLt
      omega

/-- The same of the host's operation, its initial value zero. -/
theorem suffix_host {N K P : ℕ} {u : Shape} (x : FVec Ideal ⟨2, ![N, K]⟩ .f32) (init : u.Idx → Ideal .f32)
    (h : (⟨2, ![N, K]⟩ : Shape).ReduceWindows (![N, 1] : Fin 2 → ℕ) ![1, 1] ![0, 0] ![P, 0] ⟨2, ![N, K]⟩) (hu : 0 < u.numel)
    (h0 : init (Shape.Idx.first hu) = (0 : EReal)) (a : Fin N) (j : Fin K) :
    Host.reduceWindowAdd (F := Ideal) ![N, 1] ![1, 1] ![0, 0] ![P, 0] x init h hu (ix2 a j) = ∑ b ∈ Finset.Ico (a : ℕ) N, row x j b := by
  unfold Host.reduceWindowAdd
  rw [h0]
  exact suffix x h a j

end Cert.WindowSum

end
-- ==== Proof.GateBwdEq.lean ====
/- The reference of the pair `GateBwd` on real arguments, and what the pair's precondition says. -/
module

public import proofs.«01_k».proof.Defs
public import proofs.«01_k».proof.Proof.Gen.Pre_finite_gate
public import proofs.«01_k».proof.Proof.Gen.GateBwdRefIdeal.Run
public import proofs.«01_k».proof.Proof.Gen.GateBwdRefIdeal.Read
public import proofs.«01_k».proof.Proof.GateBwdValue
public import proofs.«01_k».proof.Proof.WindowSum
public import Idealize.ShloMosaic.Lib.Claim

@[expose] public section

set_option maxRecDepth 16384

noncomputable section

namespace Cert.GateBwdEq

open Idealize.ShloMosaic Idealize.ShloMosaic.TcCoe Idealize.SL.Sem Cert.RealLine
open Cert.GateBwdRefIdeal Cert.GateBwdRefIdeal.Gen Cert.GateBwdRefIdeal.Read
open Cert.GateBwdIdeal.Rows (dz db grad below both col zf sg)

instance : Subsingleton Cert.Pre_finite_gate.S_.Idx := ⟨fun a b => funext fun k => k.elim0⟩

/-- What the precondition says: the arguments are real. -/
theorem real_of_pre {z : FVec Ideal S8192x8 .f32} {b : FVec Ideal S8 .f32} {q k : FVec Ideal S8192x8 .f32}
    (h : Cert.Pre_finite_gate.fn (F := Ideal) z b q k = fun _ => 1#1) :
    (∀ i, IsReal (z i)) ∧ (∀ i, IsReal (b i)) ∧ (∀ i, IsReal (q i)) ∧ ∀ i, IsReal (k i) := by
  have h := congrFun h ix0
  unfold Cert.Pre_finite_gate.fn Cert.Pre_finite_gate.fn_part1 at h
  obtain ⟨h, h3⟩ := and_one h
  obtain ⟨h, h2⟩ := and_one h
  obtain ⟨h0, h1⟩ := and_one h
  exact ⟨fun i => all_real (fun _ => rfl) h0 i, fun i => all_real (fun _ => rfl) h1 i, fun i => all_real (fun _ => rfl) h2 i,
    fun i => all_real (fun _ => rfl) h3 i⟩

/-- The softplus of `x`. -/
def softplus (x : ℝ) : ℝ := max x 0 + Real.log (1 + Real.exp (-|x|))

theorem exp_softplus (x : ℝ) : Real.exp (x - softplus x) = 1 / (1 + Real.exp (-x)) := by
  unfold softplus
  have hp : 0 < 1 + Real.exp (-|x|) := by positivity
  rw [show x - (max x 0 + Real.log (1 + Real.exp (-|x|))) = (x - max x 0) - Real.log (1 + Real.exp (-|x|)) by ring, Real.exp_sub, Real.exp_log hp]
  rcases le_total 0 x with h | h
  · rw [max_eq_left h, abs_of_nonneg h, sub_self, Real.exp_zero]
  · rw [max_eq_right h, abs_of_nonpos h, sub_zero, neg_neg, Real.exp_neg]
    have := Real.exp_pos x
    field_simp
    ring

theorem sg_real (r : ℝ) : sg (r : EReal) = ((1 / (1 + Real.exp r) : ℝ) : EReal) := by
  unfold sg
  rw [← EReal.coe_zero, ← EReal.coe_one, ← EReal.coe_sub, ← EReal.coe_sub, Ideal.exp_coe, ← EReal.coe_add, sub_sub_cancel, div_real _ (by positivity)]

theorem coe_max (x y : ℝ) : max (x : EReal) (y : EReal) = ((max x y : ℝ) : EReal) := (EReal.coe_strictMono.monotone.map_max).symm

theorem zero_bits : Ideal.ofBits .f32 0#32 = (0 : EReal) := by simp [Ideal.ofBits, Ideal.ieee]

theorem inf_bits : Ideal.ofBits .f32 0x7F800000#32 = (⊤ : EReal) := by simp [Ideal.ofBits, Ideal.ieee]

variable {z : FVec Ideal S8192x8 .f32} {b : FVec Ideal S8 .f32} {q k : FVec Ideal S8192x8 .f32}

theorem ref_neg {r : ℝ} (a : Fin 8192) (j : Fin 8) (h : (z (ix2 a j) : EReal) + b (ix1 j) = r) :
    val_main_call0_v0 (F := Ideal) z b (ix2 a j) = ((-r : ℝ) : EReal) := by
  refine Eq.trans ?_ ((congrArg (fun x : EReal => -x) h).trans (EReal.coe_neg r).symm)
  pointwise [val_main_call0_v0, val_main_v2, val_main_v1, val_main_v0]

theorem ref_softplus {r : ℝ} (a : Fin 8192) (j : Fin 8) (h : (z (ix2 a j) : EReal) + b (ix1 j) = r) :
    val_main_call0_v1_0 (F := Ideal) z b (ix2 a j) = ((softplus (-r) : ℝ) : EReal) := by
  pointwise [val_main_call0_call0_cst, val_main_call0_call0_v0, val_main_call0_call0_v1, val_main_call0_call0_v2, val_main_call0_call0_v3, val_main_call0_call0_v4, val_main_call0_call0_v5, val_main_call0_call0_v6,
    val_main_call0_call0_v7, val_main_call0_call0_v8, val_main_call0_call0_v9, val_main_call0_call0_v10, val_main_call0_call0_v11, val_main_call0_v1_0, ref_neg a j h]
  rw [if_neg (not_not.mpr rfl)]
  unfold softplus
  have e : -(FloatOps.absf (F := Ideal) (φ := .f32) ((-r : ℝ) : EReal) : EReal) = ((-|-r| : ℝ) : EReal) := by
    rw [Ideal.absf_def, ← EReal.coe_neg, coe_max, EReal.coe_neg]
    rfl
  have p : 0 < 1 + Real.exp (-|-r|) := by positivity
  refine (congrArg (fun x : EReal => max ((-r : ℝ) : EReal) 0 + Ideal.log1p (Ideal.exp x)) e).trans ?_
  unfold Ideal.log1p
  rw [Ideal.exp_coe, ← EReal.coe_one, ← EReal.coe_add, Ideal.log_coe, if_neg (not_le.mpr p), ← EReal.coe_zero, coe_max, ← EReal.coe_add]

theorem ref_sigmoid {r : ℝ} (a : Fin 8192) (j : Fin 8) (h : (z (ix2 a j) : EReal) + b (ix1 j) = r) :
    val_main_v3_1 (F := Ideal) z b (ix2 a j) = ((1 / (1 + Real.exp r) : ℝ) : EReal) := by
  pointwise [val_main_call0_call0_cst_0, val_main_call0_call0_v13, val_main_call0_call0_v14, val_main_call0_call0_cst_1, val_main_call0_call0_v15, val_main_call0_call0_v16, val_main_call0_call0_cst_2,
    val_main_call0_call0_v17, val_main_call0_call0_v18, val_main_call0_call0_cst_3, val_main_call0_call0_v19, val_main_call0_call0_v20, val_main_call0_call0_v21, val_main_v3_1, ref_neg a j h, ref_softplus a j h]
  rw [show Ideal.ofBits .f32 2139095040#32 = (⊤ : EReal) from inf_bits, if_neg (EReal.coe_ne_top _), if_neg (EReal.coe_ne_top _), ← EReal.coe_sub, Ideal.exp_coe, exp_softplus, neg_neg]

theorem ref_below (a : Fin 8192) (j : Fin 8) : val_main_v6 (F := Ideal) q k (ix2 a j) = below q k a j := by
  unfold below val_main_v6
  refine (WindowSum.suffix_host (N := 8192) (K := 8) (P := 8191) (val_main_v5 (F := Ideal) q k) _ _ _ ?_ a j).trans (Finset.sum_congr rfl fun n hn => ?_)
  · pointwise [val_main_call2_call0_v0, val_main_call2_call0_cst]
  have hn : n < 8192 := (Finset.mem_Ico.mp hn).2
  unfold WindowSum.row both col
  rw [dif_pos hn, dif_pos hn, dif_pos j.isLt, dif_pos j.isLt]
  pointwise [val_main_v5]

/-- The gradient by the gate's argument. -/
theorem ref_grad (hz : ∀ i, IsReal (z i)) (hb : ∀ i, IsReal (b i)) (hq : ∀ i, IsReal (q i)) (hk : ∀ i, IsReal (k i)) (a : Fin 8192) (j : Fin 8) :
    val_main_v7 (F := Ideal) z b q k (ix2 a j) = grad z b q k a j := by
  obtain ⟨r, h⟩ := (hz (ix2 a j)).add (hb (ix1 j))
  pointwise [val_main_v7, val_main_call3_v0, val_main_call3_v1, ref_sigmoid a j h, ref_below a j]
  unfold grad zf col
  rw [if_pos j.isLt, dif_pos j.isLt, dif_pos j.isLt]
  refine Eq.trans ?_ (congrArg (fun x => below q k a j * sg x) h.symm)
  rw [sg_real, neg_mul, neg_neg]

theorem sitofp_zero : FloatOps.sitofp (F := Ideal) FTy.f32 0#32 = (0 : EReal) := by
  show (((0#32 : BitVec 32).toInt : ℝ) : EReal) = 0
  simp

theorem ref_dz (hz : ∀ i, IsReal (z i)) (hb : ∀ i, IsReal (b i)) (hq : ∀ i, IsReal (q i)) (hk : ∀ i, IsReal (k i)) :
    val_main_v12 (F := Ideal) z b q k = dz z b q k := by
  funext i
  idx_vars i
  unfold dz
  pointwise [val_main_c, val_main_call4_v0, val_main_v11, val_main_v12, ref_grad hz hb hq hk]
  split
  case isTrue h => rfl
  case isFalse h => exact sitofp_zero.trans (if_neg h).symm

theorem ref_db (hz : ∀ i, IsReal (z i)) (hb : ∀ i, IsReal (b i)) (hq : ∀ i, IsReal (q i)) (hk : ∀ i, IsReal (k i)) :
    val_main_v14 (F := Ideal) z b q k = db z b q k := by
  funext i
  idx_vars i
  unfold db
  pointwise [val_main_cst, val_main_v8, val_main_v9, val_main_cst_0, val_main_v10, val_main_v13, val_main_c_1, val_main_call5_v0, val_main_v14, ref_grad hz hb hq hk]
  by_cases h0 : (i0 : ℕ) < 1
  · rw [if_pos h0]
    by_cases h1 : (i1 : ℕ) < 8
    · rw [dif_pos ⟨h0, h1⟩, Fin.sum_univ_one]
    · rw [dif_neg (fun h => h1 h.2)]
      refine sitofp_zero.trans (Finset.sum_eq_zero fun a _ => if_neg h1).symm
  · rw [if_neg h0, dif_neg (fun h => h0 h.1)]
    exact sitofp_zero

end Cert.GateBwdEq

end
-- ==== Proof.GateBwdClaims.lean ====
/- The claims about the pair `GateBwd`. -/
module

public import proofs.«01_k».proof.Proof.Gen.GateBwd.Frame
public import proofs.«01_k».proof.Proof.Gen.GateBwdIdeal.Frame
public import proofs.«01_k».proof.Proof.GateBwdEq

@[expose] public section

set_option maxRecDepth 16384

noncomputable section

namespace Cert.GateBwdEq

open Idealize.ShloMosaic Idealize.ShloMosaic.TcCoe Idealize.SL.Sem
open Cert.GateBwdIdeal.Rows (dz db)

theorem frame_p : Cert.quiescent_GateBwd := fun m ρ _ => Cert.GateBwd.Gen.frame m ρ

theorem frame_pi : Cert.quiescent_GateBwdIdeal := fun m ρ _ => Cert.GateBwdIdeal.Gen.frame m ρ

theorem frame_ri : Cert.quiescent_GateBwdRefIdeal := fun m ρ _ =>
  (θ_run Cert.GateBwdRefIdeal.defs _ _).mono (fun r h => ⟨fun c => (h c).2.2, sem_eq_zero_of_no_sems (by decide) r.2⟩)
    (Cert.GateBwdRefIdeal.Value.run (F := Ideal) m ρ)

theorem algebraic : Cert.algebraic_GateBwdIdeal_GateBwdRefIdeal_pre_finite_gate := by
  intro m g m' g' hpre hagree
  refine ⟨_, _, Cert.GateBwdIdeal.Value.run_blocks (F := Ideal) m g, ?_⟩
  refine (θ_run Cert.GateBwdRefIdeal.defs _ _).mono (fun r h c => ?_) (Cert.GateBwdRefIdeal.Value.run (F := Ideal) m' g')
  obtain ⟨h0, h1, hargs⟩ := h c
  obtain ⟨a0, a1, a2, a3⟩ := hagree c
  obtain ⟨rz, rb, rq, rk⟩ := real_of_pre (hpre c)
  refine ⟨h0.trans ?_, h1.trans ?_, hargs⟩
  · rw [Cert.GateBwdRefIdeal.Read.val_main_v12_eq, a0, a1, a2, a3]
    exact (ref_dz rz rb rq rk).trans (Cert.GateBwdIdeal.Rows.final4 m c rq rk).symm
  · rw [Cert.GateBwdRefIdeal.Read.val_main_v14_eq, a0, a1, a2, a3]
    exact (ref_db rz rb rq rk).trans (Cert.GateBwdIdeal.Rows.final5 m c rq rk).symm

end Cert.GateBwdEq

end
-- ==== Proof.ConvGateHost.lean ====
/- The arrays that the host prepares for the kernel of `ConvGateIdeal`. -/
module

public import proofs.«01_k».proof.Proof.Gen.ConvGateIdeal.Value
public import Idealize.ShloMosaic.Lib.Pipeline.ValueKit
public import Idealize.ShloMosaic.Lib.Pipeline.ReadBack
public import Idealize.ShloMosaic.Lib.Pointwise
public import Idealize.ShloMosaic.Lib.WordCmp
public import Idealize.ShloMosaic.Lib.StableHlo.ReadAt

@[expose] public section

set_option maxRecDepth 16384

noncomputable section

namespace Cert.ConvGateIdeal.Rows

open Cert.ConvGateIdeal Cert.ConvGateIdeal.Gen Idealize.ShloMosaic Idealize.ShloMosaic.TcCoe Idealize.SL.Sem

variable (m : (ℓ : Loc nD τ sig) → Buf (Elt Ideal) ℓ)

/-- The array with two rows of zeros before it. -/
def hp (x : FVec Ideal S8192x5632 .f32) (s : Fin 8194) (k : Fin 5632) : EReal := if h : (s : ℕ) < 2 then 0 else x (ix2 ⟨(s : ℕ) - 2, by omega⟩ k)

/-- The convolution of three taps along the rows. -/
def conv (x : FVec Ideal S8192x5632 .f32) (w : FVec Ideal S3x5632 .f32) (b : FVec Ideal S5632 .f32) (s : Fin 8192) (k : Fin 5632) : EReal :=
  ((w (ix2 0 k) * hp x ⟨s, by omega⟩ k + w (ix2 1 k) * hp x ⟨1 + s, by omega⟩ k) + w (ix2 2 k) * hp x ⟨2 + s, by omega⟩ k) + b (ix1 k)

/-- Column `l` of half `a`. -/
def col (a : Fin 2) (l : Fin 2816) : Fin 5632 := ⟨a * 2816 + l, by omega⟩

theorem upto_h (c : Dev nD) (y : S8192x5632.Idx) :
    StableHlo.upto [hostOps0 (F := Ideal), hostOps0_1].flatten (fun b => m (c, b)) 2 (Proc.tc.devRef main_arg0) y = m (c, Proc.tc.devRef main_arg0) y := by
  after_reads_at

theorem upto_zero (c : Dev nD) (y : S2x5632.Idx) :
    (StableHlo.upto [hostOps0 (F := Ideal), hostOps0_1].flatten (fun b => m (c, b)) 2 (Proc.tc.devRef main_v0) : FVec Ideal S2x5632 .f32) y = (0 : EReal) := by
  after_reads_at

theorem taps (u v w b : EReal) {x x' y y' z z' : EReal} (hx : x = x') (hy : y = y') (hz : z = z') :
    ((u * x + v * y) + w * z) + b = ((u * x' + v * y') + w * z') + b := by
  rw [hx, hy, hz]

theorem V_conv (c : Dev nD) (a : Fin 2) (s : Fin 8192) (l : Fin 2816) : (V m c main_v26 : FVec Ideal S2x8192x2816 .f32) (ix3 a s l)
    = conv (m ((c : Thread nD τ).loc main_arg0)) (m ((c : Thread nD τ).loc main_arg1)) (m ((c : Thread nD τ).loc main_arg2)) s (col a l) := by
  unfold V
  after_reads_at
  refine taps _ _ _ _ ?_ ?_ ?_
  · exact dite_congr rfl (fun _ => upto_zero m c _) fun _ => upto_h m c _
  · exact dite_congr rfl (fun _ => upto_zero m c _) fun _ => upto_h m c _
  · refine (upto_h m c _).trans ?_
    unfold hp
    rw [dif_neg (show ¬ 2 + (s : ℕ) < 2 by omega)]
    exact congrArg _ (congrArg (ix2 · _) (Fin.ext (by show (s : ℕ) = 2 + s - 2; omega)))

theorem V_h (c : Dev nD) (a : Fin 2) (s : Fin 8192) (l : Fin 2816) : (V m c main_v29 : FVec Ideal S2x8192x2816 .bf16) (ix3 a s l)
    = (m ((c : Thread nD τ).loc main_arg0) : FVec Ideal S8192x5632 .f32) (ix2 s (col a l)) := by
  unfold V col
  after_reads_at

theorem V_w (c : Dev nD) (a : Fin 2) (r : Fin 8) (l : Fin 2816) (hr : (r : ℕ) < 3) : (V m c main_v32 : FVec Ideal S2x8x2816 .f32) (ix3 a r l)
    = (m ((c : Thread nD τ).loc main_arg1) : FVec Ideal S3x5632 .f32) (ix2 ⟨r, hr⟩ (col a l)) := by
  unfold V col
  after_reads_at
  rw [dif_pos hr]

end Cert.ConvGateIdeal.Rows
-- ==== Proof.Halves.lean ====
/- A buffer of two halves, each stored whole: what it holds at an index. -/
module

public import Idealize.ShloMosaic.Lib.Pipeline.ValueKit
public import Idealize.ShloMosaic.Lib.WritesUnit
public import Idealize.ShloMosaic.Lib.Pointwise

@[expose] public section

namespace Cert.Halves

open Idealize.ShloMosaic Idealize.ShloMosaic.View

variable {e : EltTy} {Val : EltTy → Type} {k n : ℕ}

theorem canon_halves [∀ e, Nonempty (Val e)]
    (inb1 : ∀ a, (![1, 0, 0] : Fin 3 → ℕ) a + (![1, k, n] : Fin 3 → ℕ) a ≤ (⟨3, ![2, k, n]⟩ : Shape).size a)
    (inb0 : ∀ a, (![0, 0, 0] : Fin 3 → ℕ) a + (![1, k, n] : Fin 3 → ℕ) a ≤ (⟨3, ![2, k, n]⟩ : Shape).size a)
    (w1 w0 : (⟨3, ![1, k, n]⟩ : Shape).Idx → Val e) (L : List (Piece Val ⟨3, ![2, k, n]⟩ e)) (u : Fin 2) (p : Fin k) (l : Fin n) :
    View.canon ((⟨Rect.unit (s := ⟨3, ![2, k, n]⟩) ![1, 0, 0] ![1, k, n] inb1, w1⟩ : Piece Val ⟨3, ![2, k, n]⟩ e)
        :: (⟨Rect.unit (s := ⟨3, ![2, k, n]⟩) ![0, 0, 0] ![1, k, n] inb0, w0⟩ : Piece Val ⟨3, ![2, k, n]⟩ e) :: L) (ix3 u p l)
      = if u = 0 then w0 (ix3 0 p l) else w1 (ix3 0 p l) := by
  match u with
  | 0 =>
    rw [if_pos rfl]
    refine (View.canon_cons_of_not_mem _ _ ?_).trans ?_
    · rw [Rect.mem_set_unit]
      intro hall
      have h0 : 1 ≤ 0 := (hall 0).1
      omega
    · have hy : (Rect.unit (s := ⟨3, ![2, k, n]⟩) ![0, 0, 0] ![1, k, n] inb0).emb (ix3 0 p l : (⟨3, ![1, k, n]⟩ : Shape).Idx) = ix3 0 p l := by
        funext a
        refine Fin.ext ?_
        match a with
        | ⟨0, _⟩ => show 0 + 1 * 0 = 0; omega
        | ⟨1, _⟩ => show 0 + 1 * (p : ℕ) = p; omega
        | ⟨2, _⟩ => show 0 + 1 * (l : ℕ) = l; omega
      conv_lhs => rw [← hy]
      exact View.canon_cons_emb (Rect.unit (s := ⟨3, ![2, k, n]⟩) ![0, 0, 0] ![1, k, n] inb0) w0 L _
  | 1 =>
    rw [if_neg (by decide)]
    have hy : (Rect.unit (s := ⟨3, ![2, k, n]⟩) ![1, 0, 0] ![1, k, n] inb1).emb (ix3 0 p l : (⟨3, ![1, k, n]⟩ : Shape).Idx) = ix3 1 p l := by
      funext a
      refine Fin.ext ?_
      match a with
      | ⟨0, _⟩ => show 1 + 1 * 0 = 1; omega
      | ⟨1, _⟩ => show 0 + 1 * (p : ℕ) = p; omega
      | ⟨2, _⟩ => show 0 + 1 * (l : ℕ) = l; omega
    conv_lhs => rw [← hy]
    exact View.canon_cons_emb (Rect.unit (s := ⟨3, ![2, k, n]⟩) ![1, 0, 0] ![1, k, n] inb1) w1 _ _

/-- What a load of one half reads. -/
theorem ld_half (x : (⟨3, ![2, k, n]⟩ : Shape).Idx → Val e) (s : ℕ) (hs : s < 2) (h) (p : Fin k) (l : Fin n) :
    View.ld (Val := Val) (e' := e) x (Rect.unit (s := ⟨3, ![2, k, n]⟩) ![s, 0, 0] ![1, k, n] h) (ix3 0 p l) = x (ix3 ⟨s, hs⟩ p l) := by
  refine congrArg x (funext fun a => Fin.ext ?_)
  match a with
  | ⟨0, _⟩ => show s + 1 * 0 = s; omega
  | ⟨1, _⟩ => show 0 + 1 * (p : ℕ) = p; omega
  | ⟨2, _⟩ => show 0 + 1 * (l : ℕ) = l; omega

end Cert.Halves
-- ==== Proof.ConvGateValue.lean ====
/- What the kernel of `ConvGateIdeal` leaves in its two result arrays: running sums from below times the gate's derivative. -/
module

public import proofs.«01_k».proof.Proof.ConvGateHost
public import proofs.«01_k».proof.Proof.RealLine
public import proofs.«01_k».proof.Proof.Halves

@[expose] public section

set_option maxRecDepth 16384

noncomputable section

namespace Cert.ConvGateIdeal.Rows

open Cert.ConvGateIdeal Cert.ConvGateIdeal.Gen Idealize.ShloMosaic Idealize.ShloMosaic.TcCoe Idealize.SL.Sem
open Idealize.ShloMosaic.Pipeline (Dat)
open Cert.RealLine

variable (m : (ℓ : Loc nD τ sig) → Buf (Elt Ideal) ℓ)

theorem idx : ∀ t : Fin cfg0.N, win0_0.index t = ![0, t.val % 16, t.val / 16]
    ∧ win0_1.index t = ![0, if t.val % 16 < 15 then (t.val % 16 + 1) * 64 else 1023, t.val / 16]
    ∧ win0_2.index t = ![0, t.val % 16, t.val / 16] ∧ win0_3.index t = ![t.val % 16, t.val / 16]
    ∧ win0_4.index t = ![if t.val % 16 < 15 then (t.val % 16 + 1) * 64 else 1023, t.val / 16]
    ∧ win0_5.index t = ![0, 0, t.val / 16] ∧ win0_6.index t = ![0, t.val % 16, t.val / 16] ∧ win0_7.index t = ![0, 0, t.val / 16] :=
  (by decide +kernel : ∀ t : Fin grid0.N, _)

/-- The sigmoid as the kernel writes it. -/
def sg (x : EReal) : EReal := Ideal.div 1 (1 + Ideal.exp (0 - x))

/-- The gate's two cotangents: of the gated half and of the gate. -/
def gr (u : Fin 2) (a g d : EReal) : EReal := if u = 0 then d * (g * sg g) else d * a * (sg g * (1 + g * (1 - sg g)))

theorem pay5_apply (g : FVec Ideal S1x512x1408 .f32) (d : FVec Ideal S512x1408 .f32) (p : Fin 512) (l : Fin 1408) (a : EReal) :
    k0_pay5 (F := Ideal) g d (ix2 p l) = gr 0 a (g (ix3 0 p l)) (d (ix2 p l)) := by
  pointwise [k0_pay5, k0_pay4, k0_pay3, gr, sg]

theorem pay6_apply (a g : FVec Ideal S1x512x1408 .f32) (d : FVec Ideal S512x1408 .f32) (p : Fin 512) (l : Fin 1408) :
    k0_pay6 (F := Ideal) a g d (ix2 p l) = gr 1 (a (ix3 0 p l)) (g (ix3 0 p l)) (d (ix2 p l)) := by
  pointwise [k0_pay6, k0_pay4, k0_pay3, gr, sg]

theorem pay11_apply (a g : FVec Ideal S1x8x1408 .f32) (d : FVec Ideal S8x1408 .f32) (p : Fin 8) (l : Fin 1408) :
    k0_pay11 (F := Ideal) (k0_pay7 a) (k0_pay8 g) d (k0_pay9 g) (ix2 p l) = gr 1 (a (ix3 0 p l)) (g (ix3 0 p l)) (d (ix2 p l)) := by
  pointwise [k0_pay11, k0_pay10, k0_pay9, k0_pay8, k0_pay7, gr, sg]

theorem pay13_apply (I : BitVec 32) (g : FVec Ideal S1x8x1408 .f32) (d : FVec Ideal S8x1408 .f32) (p : Fin 8) (l : Fin 1408) (a : EReal) :
    k0_pay13 (F := Ideal) I (k0_pay8 g) d (k0_pay9 g) (ix2 p l) = Scalar.select (Scalar.cmpi .slt I 15#32) (gr 0 a (g (ix3 0 p l)) (d (ix2 p l))) 0 := by
  pointwise [k0_pay13, k0_pay10, k0_pay9, k0_pay8, k0_pay7, gr, sg]

theorem pay30_apply (I : BitVec 32) (n : FVec Ideal S8x1408 .f32) (p : Fin 8) (l : Fin 1408) :
    k0_pay30 (F := Ideal) I n (ix2 p l) = Scalar.select (Scalar.cmpi .slt I 15#32) (n (ix2 p l)) 0 := by
  pointwise [k0_pay30]

/-- Row `p + k` of a block followed by the next rows. -/
def sh (v : FVec Ideal S512x1408 .f32) (n : FVec Ideal S8x1408 .f32) (k : ℕ) (hk : k ≤ 2) (p : Fin 512) (l : Fin 1408) : EReal :=
  if h : (p : ℕ) + k < 512 then v (ix2 ⟨p + k, h⟩ l) else n (ix2 ⟨p + k - 512, by omega⟩ l)

theorem sh_one (v : FVec Ideal S512x1408 .f32) (n : FVec Ideal S8x1408 .f32) (p : Fin 512) (l : Fin 1408) :
    Scalar.select (IntOp.cmpi .eq (BitVec.ofNat 32 ↑p) 511#32) (n (ix2 0 l)) (v (ix2 ⟨(↑p + 512 - 511) % 512, by omega⟩ l)) = sh v n 1 (by omega) p l := by
  rw [show (511#32 : BitVec 32) = BitVec.ofNat 32 511 from rfl, WordCmp.cmpi_eq_ofNat (by omega) (by omega), WordCmp.select_decide]
  unfold sh
  split
  case isTrue h =>
    rw [dif_neg (by omega)]
    exact congrArg n (congrArg (ix2 · l) (Fin.ext (by show 0 = (p : ℕ) + 1 - 512; omega)))
  case isFalse h =>
    rw [dif_pos (by omega)]
    exact congrArg v (congrArg (ix2 · l) (Fin.ext (by show ((p : ℕ) + 512 - 511) % 512 = p + 1; omega)))

theorem sh_two (v : FVec Ideal S512x1408 .f32) (n : FVec Ideal S8x1408 .f32) (p : Fin 512) (l : Fin 1408) :
    Scalar.select (IntOp.cmpi .eq (BitVec.ofNat 32 ↑p) 510#32) (n (ix2 0 l))
      (Scalar.select (IntOp.cmpi .eq (BitVec.ofNat 32 ↑p) 511#32) (n (ix2 1 l)) (v (ix2 ⟨(↑p + 512 - 510) % 512, by omega⟩ l))) = sh v n 2 (by omega) p l := by
  rw [show (511#32 : BitVec 32) = BitVec.ofNat 32 511 from rfl, show (510#32 : BitVec 32) = BitVec.ofNat 32 510 from rfl,
    WordCmp.cmpi_eq_ofNat (by omega) (by omega), WordCmp.cmpi_eq_ofNat (by omega) (by omega), WordCmp.select_decide, WordCmp.select_decide]
  unfold sh
  split
  case isTrue h =>
    rw [dif_neg (by omega)]
    exact congrArg n (congrArg (ix2 · l) (Fin.ext (by show 0 = (p : ℕ) + 2 - 512; omega)))
  case isFalse h =>
    split
    case isTrue h' =>
      rw [dif_neg (by omega)]
      exact congrArg n (congrArg (ix2 · l) (Fin.ext (by show 1 = (p : ℕ) + 2 - 512; omega)))
    case isFalse h' =>
      rw [dif_pos (by omega)]
      exact congrArg v (congrArg (ix2 · l) (Fin.ext (by show ((p : ℕ) + 512 - 510) % 512 = p + 2; omega)))

theorem pay14_apply (I : BitVec 32) (v : FVec Ideal S512x1408 .f32) (x y z : FVec Ideal S8x1408 .f32) (p : Fin 512) (l : Fin 1408) :
    k0_pay14 (F := Ideal) I v x y z (ix2 p l) = sh v (k0_pay13 I x y z) 1 (by omega) p l := by
  refine Eq.trans ?_ (sh_one v (k0_pay13 I x y z) p l)
  pointwise [k0_pay14]

theorem pay15_apply (I : BitVec 32) (v : FVec Ideal S512x1408 .f32) (x y z : FVec Ideal S8x1408 .f32) (p : Fin 512) (l : Fin 1408) :
    k0_pay15 (F := Ideal) I v x y z (ix2 p l) = sh v (k0_pay13 I x y z) 2 (by omega) p l := by
  refine Eq.trans ?_ (sh_two v (k0_pay13 I x y z) p l)
  pointwise [k0_pay15]

theorem pay31_apply (I : BitVec 32) (v : FVec Ideal S512x1408 .f32) (n : FVec Ideal S8x1408 .f32) (p : Fin 512) (l : Fin 1408) :
    k0_pay31 (F := Ideal) I v n (ix2 p l) = sh v (k0_pay30 I n) 1 (by omega) p l := by
  refine Eq.trans ?_ (sh_one v (k0_pay30 I n) p l)
  pointwise [k0_pay31]

theorem pay32_apply (I : BitVec 32) (v : FVec Ideal S512x1408 .f32) (n : FVec Ideal S8x1408 .f32) (p : Fin 512) (l : Fin 1408) :
    k0_pay32 (F := Ideal) I v n (ix2 p l) = sh v (k0_pay30 I n) 2 (by omega) p l := by
  refine Eq.trans ?_ (sh_two v (k0_pay30 I n) p l)
  pointwise [k0_pay32]

/-- The gradient's row: three taps over this row and the two after it. -/
theorem taps0 (I : BitVec 32) (v : FVec Ideal S512x1408 .f32) (x y z : FVec Ideal S8x1408 .f32) (w : FVec Ideal S1x8x1408 .f32) (p : Fin 512) (l : Fin 1408) :
    k0_pay18 (F := Ideal) (k0_pay12 w) (k0_pay14 I v x y z) (k0_pay15 I v x y z) (k0_pay16 v w) (k0_pay17 w) (ix3 0 p l)
      = (w (ix3 0 2 l) * v (ix2 p l) + w (ix3 0 1 l) * sh v (k0_pay13 I x y z) 1 (by omega) p l) + w (ix3 0 0 l) * sh v (k0_pay13 I x y z) 2 (by omega) p l := by
  rw [← pay14_apply, ← pay15_apply]
  pointwise [k0_pay18, k0_pay12, k0_pay16, k0_pay17]

theorem taps1 (I : BitVec 32) (v : FVec Ideal S512x1408 .f32) (n : FVec Ideal S8x1408 .f32) (w : FVec Ideal S1x8x1408 .f32) (p : Fin 512) (l : Fin 1408) :
    k0_pay35 (F := Ideal) (k0_pay32 I v n) (k0_pay33 I v n w) (k0_pay34 w) (ix3 0 p l)
      = (w (ix3 0 2 l) * v (ix2 p l) + w (ix3 0 1 l) * sh v (k0_pay30 I n) 1 (by omega) p l) + w (ix3 0 0 l) * sh v (k0_pay30 I n) 2 (by omega) p l := by
  rw [← pay31_apply, ← pay32_apply]
  pointwise [k0_pay35, k0_pay34, k0_pay33, k0_pay29]

/-- What a block of rows adds to row `r` of the weights' gradient: three sums of products and the plain sum. -/
def part (u2 u1 d x : Fin 512 → EReal) (r : Fin 8) : EReal :=
  if (r : ℕ) = 0 then ∑ p, u2 p * x p else if (r : ℕ) = 1 then ∑ p, u1 p * x p else if (r : ℕ) = 2 then ∑ p, d p * x p else if (r : ℕ) = 3 then ∑ p, d p else 0

theorem part_words (u2 u1 d x : Fin 512 → EReal) (r : Fin 8) :
    Scalar.select (IntOp.cmpi .eq (BitVec.ofNat 32 ↑r) 0#32) (∑ p, u2 p * x p) (Scalar.select (IntOp.cmpi .eq (BitVec.ofNat 32 ↑r) 1#32) (∑ p, u1 p * x p)
      (Scalar.select (IntOp.cmpi .eq (BitVec.ofNat 32 ↑r) 2#32) (∑ p, d p * x p) (Scalar.select (IntOp.cmpi .eq (BitVec.ofNat 32 ↑r) 3#32) (∑ p, d p) (0 : EReal))))
      = part u2 u1 d x r := by
  have e : ∀ n : ℕ, n < 8 → IntOp.cmpi .eq (BitVec.ofNat 32 (r : ℕ)) (BitVec.ofNat 32 n) = BitVec.ofBool (decide ((r : ℕ) = n)) := fun n hn =>
    WordCmp.cmpi_eq_ofNat (by omega) (by omega)
  unfold part
  rw [e 0 (by omega), e 1 (by omega), e 2 (by omega), e 3 (by omega)]
  simp only [WordCmp.select_decide]

theorem sums0 (v u1 u2 : FVec Ideal S512x1408 .f32) (x : FVec Ideal S1x512x1408 .bf16) (acc : FVec Ideal S1x8x1408 .f32) (r : Fin 8) (l : Fin 1408) :
    k0_pay28 (F := Ideal) (k0_pay20 u2 x) (k0_pay21 u1 x) (k0_pay22 acc) (k0_pay23 (iota .tc S8x1408 32 [0] iota_S8x1408_d0_w32)) (k0_pay24 (iota .tc S8x1408 32 [0] iota_S8x1408_d0_w32))
        (k0_pay25 (iota .tc S8x1408 32 [0] iota_S8x1408_d0_w32)) (k0_pay26 (iota .tc S8x1408 32 [0] iota_S8x1408_d0_w32) v) (k0_pay27 v x) (ix3 0 r l)
      = (acc (ix3 0 r l) : EReal) + part (fun p => u2 (ix2 p l)) (fun p => u1 (ix2 p l)) (fun p => v (ix2 p l)) (fun p => x (ix3 0 p l)) r := by
  rw [← part_words]
  pointwise [k0_pay28, k0_pay27, k0_pay26, k0_pay25, k0_pay24, k0_pay23, k0_pay22, k0_pay21, k0_pay20, k0_pay19]

theorem sums1 (v u1 u2 : FVec Ideal S512x1408 .f32) (x : FVec Ideal S1x512x1408 .bf16) (acc : FVec Ideal S1x8x1408 .f32) (r : Fin 8) (l : Fin 1408) :
    k0_pay1 (F := Ideal) (k0_pay37 u2 x) (k0_pay38 acc) (k0_pay39 (iota .tc S8x1408 32 [0] iota_S8x1408_d0_w32)) (k0_pay40 (iota .tc S8x1408 32 [0] iota_S8x1408_d0_w32) v u1 x) (ix3 0 r l)
      = (acc (ix3 0 r l) : EReal) + part (fun p => u2 (ix2 p l)) (fun p => u1 (ix2 p l)) (fun p => v (ix2 p l)) (fun p => x (ix3 0 p l)) r := by
  rw [← part_words]
  pointwise [k0_pay1, k0_pay40, k0_pay39, k0_pay38, k0_pay37, k0_pay36]

theorem coord : ∀ t : Fin cfg0.N, (grid0.coords t 1 : ℕ) = t.val % 16 := (by decide +kernel : ∀ t : Fin grid0.N, _)

/-- The cotangent of the convolution's output at row `s`, zero beyond the rows. -/
def dd (x : FVec Ideal S8192x5632 .f32) (w : FVec Ideal S3x5632 .f32) (b : FVec Ideal S5632 .f32) (e : FVec Ideal S8192x2816 .f32) (u : Fin 2) (l : Fin 2816) (s : ℕ) : EReal :=
  if h : s < 8192 then gr u (conv x w b ⟨s, h⟩ (col 0 l)) (conv x w b ⟨s, h⟩ (col 1 l)) (e (ix2 ⟨s, h⟩ l)) else 0

/-- The cotangent of the convolution's output, of the arrays in memory. -/
abbrev ddm (c : Dev nD) : Fin 2 → Fin 2816 → ℕ → EReal :=
  dd (m ((c : Thread nD τ).loc main_arg0)) (m ((c : Thread nD τ).loc main_arg1)) (m ((c : Thread nD τ).loc main_arg2)) (m ((c : Thread nD τ).loc main_arg3))

theorem lt_j (t : Fin cfg0.N) : t.val / 16 < 2 := by
  have ht : t.val < 32 := lt_of_lt_of_eq t.isLt N_0
  omega

/-- The array's column of the block's column `l`. -/
abbrev cl (t : Fin cfg0.N) (l : Fin 1408) : Fin 2816 := ⟨t.val / 16 * 1408 + l, by have := lt_j t; omega⟩

theorem lt_row (t : Fin cfg0.N) (p : Fin 512) : t.val % 16 * 512 + (p : ℕ) < 8192 := by omega

theorem blk_conv (c : Dev nD) (t : Fin cfg0.N) (u : ℕ) (hu : u < 2) (h) (p : Fin 512) (l : Fin 1408) :
    View.ld (Val := Elt Ideal) (e' := .f32) (iblk m c 0 t) (Rect.unit (s := S2x512x1408) ![u, 0, 0] ![1, 512, 1408] h) (ix3 0 p l)
      = conv (m ((c : Thread nD τ).loc main_arg0)) (m ((c : Thread nD τ).loc main_arg1)) (m ((c : Thread nD τ).loc main_arg2)) ⟨t.val % 16 * 512 + p, lt_row t p⟩ (col ⟨u, hu⟩ (cl t l)) := by
  rw [Halves.ld_half _ u hu]
  refine Eq.trans (?_ : _ = (V m c main_v26 : FVec Ideal S2x8192x2816 .f32) (ix3 ⟨u, hu⟩ ⟨t.val % 16 * 512 + p, lt_row t p⟩ (cl t l))) (V_conv m c _ _ _)
  blk_point [iblk, idx t]

theorem blk_h (c : Dev nD) (t : Fin cfg0.N) (u : ℕ) (hu : u < 2) (h) (p : Fin 512) (l : Fin 1408) :
    View.ld (Val := Elt Ideal) (e' := .bf16) (iblk m c 2 t) (Rect.unit (s := S2x512x1408) ![u, 0, 0] ![1, 512, 1408] h) (ix3 0 p l)
      = (m ((c : Thread nD τ).loc main_arg0) : FVec Ideal S8192x5632 .f32) (ix2 ⟨t.val % 16 * 512 + p, lt_row t p⟩ (col ⟨u, hu⟩ (cl t l))) := by
  rw [Halves.ld_half _ u hu]
  refine Eq.trans (?_ : _ = (V m c main_v29 : FVec Ideal S2x8192x2816 .bf16) (ix3 ⟨u, hu⟩ ⟨t.val % 16 * 512 + p, lt_row t p⟩ (cl t l))) (V_h m c _ _ _)
  blk_point [iblk, idx t]

theorem blk_w (c : Dev nD) (t : Fin cfg0.N) (u : ℕ) (hu : u < 2) (h) (r : Fin 8) (hr : (r : ℕ) < 3) (l : Fin 1408) :
    View.ld (Val := Elt Ideal) (e' := .f32) (iblk m c 5 t) (Rect.unit (s := S2x8x1408) ![u, 0, 0] ![1, 8, 1408] h) (ix3 0 r l)
      = (m ((c : Thread nD τ).loc main_arg1) : FVec Ideal S3x5632 .f32) (ix2 ⟨r, hr⟩ (col ⟨u, hu⟩ (cl t l))) := by
  rw [Halves.ld_half _ u hu]
  refine Eq.trans (?_ : _ = (V m c main_v32 : FVec Ideal S2x8x2816 .f32) (ix3 ⟨u, hu⟩ r (cl t l))) (V_w m c _ _ _ hr)
  blk_point [iblk, idx t]

theorem blk_d (c : Dev nD) (t : Fin cfg0.N) (p : Fin 512) (l : Fin 1408) :
    (iblk m c 3 t : FVec Ideal S512x1408 .f32) (ix2 p l)
      = (m ((c : Thread nD τ).loc main_arg3) : FVec Ideal S8192x2816 .f32) (ix2 ⟨t.val % 16 * 512 + p, lt_row t p⟩ (cl t l)) := by
  blk_point [iblk, V_main_arg3, idx t]

theorem blk_conv' (c : Dev nD) (t : Fin cfg0.N) (ht : t.val % 16 < 15) (u : ℕ) (hu : u < 2) (h) (p : Fin 8) (l : Fin 1408) :
    View.ld (Val := Elt Ideal) (e' := .f32) (iblk m c 1 t) (Rect.unit (s := S2x8x1408) ![u, 0, 0] ![1, 8, 1408] h) (ix3 0 p l)
      = conv (m ((c : Thread nD τ).loc main_arg0)) (m ((c : Thread nD τ).loc main_arg1)) (m ((c : Thread nD τ).loc main_arg2)) ⟨t.val % 16 * 512 + 512 + p, by omega⟩ (col ⟨u, hu⟩ (cl t l)) := by
  rw [Halves.ld_half _ u hu]
  refine Eq.trans (?_ : _ = (V m c main_v26 : FVec Ideal S2x8192x2816 .f32) (ix3 ⟨u, hu⟩ ⟨t.val % 16 * 512 + 512 + p, by omega⟩ (cl t l))) (V_conv m c _ _ _)
  blk_point [iblk, idx t, if_pos ht]

theorem blk_d' (c : Dev nD) (t : Fin cfg0.N) (ht : t.val % 16 < 15) (p : Fin 8) (l : Fin 1408) :
    (iblk m c 4 t : FVec Ideal S8x1408 .f32) (ix2 p l)
      = (m ((c : Thread nD τ).loc main_arg3) : FVec Ideal S8192x2816 .f32) (ix2 ⟨t.val % 16 * 512 + 512 + p, by omega⟩ (cl t l)) := by
  blk_point [iblk, V_main_arg3, idx t, if_pos ht]

abbrev ldc0 (c : Dev nD) (t : Fin cfg0.N) : FVec Ideal S1x512x1408 .f32 := View.ld (Val := Elt Ideal) (e' := .f32) (iblk m c 0 t) (Rect.unit ![0, 0, 0] ![1, 512, 1408] inb_S2x512x1408_S1x512x1408_0_0_0)
abbrev ldc1 (c : Dev nD) (t : Fin cfg0.N) : FVec Ideal S1x512x1408 .f32 := View.ld (Val := Elt Ideal) (e' := .f32) (iblk m c 0 t) (Rect.unit ![1, 0, 0] ![1, 512, 1408] inb_S2x512x1408_S1x512x1408_1_0_0)
abbrev ldn0 (c : Dev nD) (t : Fin cfg0.N) : FVec Ideal S1x8x1408 .f32 := View.ld (Val := Elt Ideal) (e' := .f32) (iblk m c 1 t) (Rect.unit ![0, 0, 0] ![1, 8, 1408] inb_S2x8x1408_S1x8x1408_0_0_0)
abbrev ldn1 (c : Dev nD) (t : Fin cfg0.N) : FVec Ideal S1x8x1408 .f32 := View.ld (Val := Elt Ideal) (e' := .f32) (iblk m c 1 t) (Rect.unit ![1, 0, 0] ![1, 8, 1408] inb_S2x8x1408_S1x8x1408_1_0_0)
abbrev D0 (c : Dev nD) (t : Fin cfg0.N) : FVec Ideal S512x1408 .f32 := k0_pay5 (ldc1 m c t) (iblk m c 3 t)
abbrev D1 (c : Dev nD) (t : Fin cfg0.N) : FVec Ideal S512x1408 .f32 := k0_pay6 (ldc0 m c t) (ldc1 m c t) (iblk m c 3 t)
abbrev N1 (c : Dev nD) (t : Fin cfg0.N) : FVec Ideal S8x1408 .f32 := k0_pay11 (k0_pay7 (ldn0 m c t)) (k0_pay8 (ldn1 m c t)) (iblk m c 4 t) (k0_pay9 (ldn1 m c t))
abbrev I (t : Fin cfg0.N) : BitVec 32 := BitVec.ofNat 32 (grid0.coords t 1 : ℕ)

theorem ldc0_apply (c : Dev nD) (t : Fin cfg0.N) (p : Fin 512) (l : Fin 1408) : ldc0 m c t (ix3 0 p l)
    = conv (m ((c : Thread nD τ).loc main_arg0)) (m ((c : Thread nD τ).loc main_arg1)) (m ((c : Thread nD τ).loc main_arg2)) ⟨t.val % 16 * 512 + p, lt_row t p⟩ (col 0 (cl t l)) :=
  blk_conv m c t 0 (by decide) _ p l

theorem ldn0_apply (c : Dev nD) (t : Fin cfg0.N) (ht : t.val % 16 < 15) (p : Fin 8) (l : Fin 1408) : ldn0 m c t (ix3 0 p l)
    = conv (m ((c : Thread nD τ).loc main_arg0)) (m ((c : Thread nD τ).loc main_arg1)) (m ((c : Thread nD τ).loc main_arg2)) ⟨t.val % 16 * 512 + 512 + p, by omega⟩ (col 0 (cl t l)) :=
  blk_conv' m c t ht 0 (by decide) _ p l

theorem ldc1_apply (c : Dev nD) (t : Fin cfg0.N) (p : Fin 512) (l : Fin 1408) : ldc1 m c t (ix3 0 p l)
    = conv (m ((c : Thread nD τ).loc main_arg0)) (m ((c : Thread nD τ).loc main_arg1)) (m ((c : Thread nD τ).loc main_arg2)) ⟨t.val % 16 * 512 + p, lt_row t p⟩ (col 1 (cl t l)) :=
  blk_conv m c t 1 (by decide) _ p l

theorem ldn1_apply (c : Dev nD) (t : Fin cfg0.N) (ht : t.val % 16 < 15) (p : Fin 8) (l : Fin 1408) : ldn1 m c t (ix3 0 p l)
    = conv (m ((c : Thread nD τ).loc main_arg0)) (m ((c : Thread nD τ).loc main_arg1)) (m ((c : Thread nD τ).loc main_arg2)) ⟨t.val % 16 * 512 + 512 + p, by omega⟩ (col 1 (cl t l)) :=
  blk_conv' m c t ht 1 (by decide) _ p l

theorem sh_dd (v : FVec Ideal S512x1408 .f32) (n : FVec Ideal S8x1408 .f32) (k : ℕ) (hk : k ≤ 2) (p : Fin 512) (l : Fin 1408) (f : ℕ → EReal) (s : ℕ)
    (hv : ∀ p : Fin 512, v (ix2 p l) = f (s + p)) (hn : ∀ q : Fin 8, n (ix2 q l) = f (s + 512 + q)) : sh v n k hk p l = f (s + p + k) := by
  unfold sh
  split
  case isTrue h => exact (hv _).trans (congrArg f (by show s + ((p : ℕ) + k) = _; omega))
  case isFalse h => exact (hn _).trans (congrArg f (by show s + 512 + ((p : ℕ) + k - 512) = _; omega))

theorem D0_apply (c : Dev nD) (t : Fin cfg0.N) (p : Fin 512) (l : Fin 1408) : D0 m c t (ix2 p l) = ddm m c 0 (cl t l) (t.val % 16 * 512 + p) := by
  refine (pay5_apply _ _ _ _ 0).trans ?_
  unfold ddm dd
  rw [dif_pos (lt_row t p), ldc1_apply, blk_d]
  rfl

theorem D1_apply (c : Dev nD) (t : Fin cfg0.N) (p : Fin 512) (l : Fin 1408) : D1 m c t (ix2 p l) = ddm m c 1 (cl t l) (t.val % 16 * 512 + p) := by
  refine (pay6_apply _ _ _ _ _).trans ?_
  unfold ddm dd
  rw [dif_pos (lt_row t p), ldc0_apply, ldc1_apply, blk_d]

theorem I_lt (t : Fin cfg0.N) (x y : EReal) : Scalar.select (Scalar.cmpi .slt (I t) 15#32) x y = if t.val % 16 < 15 then x else y := by
  rw [I, coord t]
  refine (congrArg (fun w => Scalar.select w x y) (WordCmp.cmpi_slt_ofNat (w := 32) (a := t.val % 16) (b := 15) (by omega) (by omega))).trans ?_
  rw [WordCmp.select_decide]

theorem N0_apply (c : Dev nD) (t : Fin cfg0.N) (q : Fin 8) (l : Fin 1408) :
    k0_pay13 (F := Ideal) (I t) (k0_pay8 (ldn1 m c t)) (iblk m c 4 t) (k0_pay9 (ldn1 m c t)) (ix2 q l) = ddm m c 0 (cl t l) (t.val % 16 * 512 + 512 + q) := by
  refine (pay13_apply _ _ _ _ _ 0).trans ?_
  rw [I_lt]
  unfold ddm dd
  split
  case isTrue h =>
    rw [dif_pos (by omega), ldn1_apply m c t h, blk_d' m c t h]
    try rfl
  case isFalse h => rw [dif_neg (by omega)]

theorem N1_apply (c : Dev nD) (t : Fin cfg0.N) (q : Fin 8) (l : Fin 1408) :
    k0_pay30 (F := Ideal) (I t) (N1 m c t) (ix2 q l) = ddm m c 1 (cl t l) (t.val % 16 * 512 + 512 + q) := by
  refine (pay30_apply _ _ _ _).trans ?_
  rw [I_lt]
  unfold ddm dd
  split
  case isTrue h =>
    rw [dif_pos (by omega), N1, pay11_apply, ldn0_apply m c t h, ldn1_apply m c t h, blk_d' m c t h]
    try rfl
  case isFalse h => rw [dif_neg (by omega)]

/-- The gradient by the convolution's input, at row `s` of a column. -/
def dh (w : FVec Ideal S3x5632 .f32) (f : Fin 2 → Fin 2816 → ℕ → EReal) (u : Fin 2) (s : ℕ) (l : Fin 2816) : EReal :=
  (w (ix2 2 (col u l)) * f u l s + w (ix2 1 (col u l)) * f u l (s + 1)) + w (ix2 0 (col u l)) * f u l (s + 2)

abbrev ldw0 (c : Dev nD) (t : Fin cfg0.N) : FVec Ideal S1x8x1408 .f32 := View.ld (Val := Elt Ideal) (e' := .f32) (iblk m c 5 t) (Rect.unit ![0, 0, 0] ![1, 8, 1408] inb_S2x8x1408_S1x8x1408_0_0_0)
abbrev ldw1 (c : Dev nD) (t : Fin cfg0.N) : FVec Ideal S1x8x1408 .f32 := View.ld (Val := Elt Ideal) (e' := .f32) (iblk m c 5 t) (Rect.unit ![1, 0, 0] ![1, 8, 1408] inb_S2x8x1408_S1x8x1408_1_0_0)
abbrev ldh0 (c : Dev nD) (t : Fin cfg0.N) : FVec Ideal S1x512x1408 .bf16 := View.ld (Val := Elt Ideal) (e' := .bf16) (iblk m c 2 t) (Rect.unit ![0, 0, 0] ![1, 512, 1408] inb_S2x512x1408_S1x512x1408_0_0_0)
abbrev ldh1 (c : Dev nD) (t : Fin cfg0.N) : FVec Ideal S1x512x1408 .bf16 := View.ld (Val := Elt Ideal) (e' := .bf16) (iblk m c 2 t) (Rect.unit ![1, 0, 0] ![1, 512, 1408] inb_S2x512x1408_S1x512x1408_1_0_0)
abbrev x0 (c : Dev nD) (t : Fin cfg0.N) := k0_pay8 (F := Ideal) (ldn1 m c t)
abbrev z0 (c : Dev nD) (t : Fin cfg0.N) := k0_pay9 (F := Ideal) (ldn1 m c t)

theorem sh0 (c : Dev nD) (t : Fin cfg0.N) (k : ℕ) (hk : k ≤ 2) (p : Fin 512) (l : Fin 1408) :
    sh (D0 m c t) (k0_pay13 (F := Ideal) (I t) (x0 m c t) (iblk m c 4 t) (z0 m c t)) k hk p l = ddm m c 0 (cl t l) (t.val % 16 * 512 + p + k) :=
  sh_dd _ _ k hk p l _ _ (fun p => D0_apply m c t p l) fun q => N0_apply m c t q l

theorem sh1 (c : Dev nD) (t : Fin cfg0.N) (k : ℕ) (hk : k ≤ 2) (p : Fin 512) (l : Fin 1408) :
    sh (D1 m c t) (k0_pay30 (F := Ideal) (I t) (N1 m c t)) k hk p l = ddm m c 1 (cl t l) (t.val % 16 * 512 + p + k) :=
  sh_dd _ _ k hk p l _ _ (fun p => D1_apply m c t p l) fun q => N1_apply m c t q l

theorem rows0 (c : Dev nD) (t : Fin cfg0.N) (p : Fin 512) (l : Fin 1408) :
    k0_pay18 (F := Ideal) (k0_pay12 (ldw0 m c t)) (k0_pay14 (I t) (D0 m c t) (x0 m c t) (iblk m c 4 t) (z0 m c t)) (k0_pay15 (I t) (D0 m c t) (x0 m c t) (iblk m c 4 t) (z0 m c t))
        (k0_pay16 (D0 m c t) (ldw0 m c t)) (k0_pay17 (ldw0 m c t)) (ix3 0 p l)
      = dh (m ((c : Thread nD τ).loc main_arg1)) (ddm m c) 0 (t.val % 16 * 512 + p) (cl t l) := by
  refine (taps0 _ _ _ _ _ _ _ _).trans ?_
  have e (r : Fin 8) (hr : (r : ℕ) < 3) := blk_w m c t 0 (by decide) inb_S2x8x1408_S1x8x1408_0_0_0 r hr l
  rw [sh0, sh0, D0_apply]
  exact congrArg₂ (· + ·) (congrArg₂ (· + ·) (congrArg (· * _) (e 2 (by decide))) (congrArg (· * _) (e 1 (by decide)))) (congrArg (· * _) (e 0 (by decide)))

theorem rows1 (c : Dev nD) (t : Fin cfg0.N) (p : Fin 512) (l : Fin 1408) :
    k0_pay35 (F := Ideal) (k0_pay32 (I t) (D1 m c t) (N1 m c t)) (k0_pay33 (I t) (D1 m c t) (N1 m c t) (ldw1 m c t)) (k0_pay34 (ldw1 m c t)) (ix3 0 p l)
      = dh (m ((c : Thread nD τ).loc main_arg1)) (ddm m c) 1 (t.val % 16 * 512 + p) (cl t l) := by
  refine (taps1 _ _ _ _ _ _).trans ?_
  have e (r : Fin 8) (hr : (r : ℕ) < 3) := blk_w m c t 1 (by decide) inb_S2x8x1408_S1x8x1408_1_0_0 r hr l
  rw [sh1, sh1, D1_apply]
  exact congrArg₂ (· + ·) (congrArg₂ (· + ·) (congrArg (· * _) (e 2 (by decide))) (congrArg (· * _) (e 1 (by decide)))) (congrArg (· * _) (e 0 (by decide)))

theorem block6 (c : Dev nD) (t : Fin cfg0.N) (u : Fin 2) (p : Fin 512) (l : Fin 1408) :
    (outsAt0 m c t.val t.isLt).1 (ix3 u p l) = dh (m ((c : Thread nD τ).loc main_arg1)) (ddm m c) u (t.val % 16 * 512 + p) (cl t l) := by
  have e : ∀ (a b : EReal) (g : Fin 2 → EReal), a = g 0 → b = g 1 → (if u = 0 then a else b) = g u := fun a b g h0 h1 => by
    match u with
    | 0 => exact h0
    | 1 => exact h1
  by_cases h0 : t.val % 16 = 0
  · rw [outsAt0_A m c t h0]
    frame_out
    refine (Halves.canon_halves _ _ _ _ _ u p l).trans ?_
    exact e _ _ (fun u => dh (m ((c : Thread nD τ).loc main_arg1)) (ddm m c) u (t.val % 16 * 512 + p) (cl t l)) (rows0 m c t p l) (rows1 m c t p l)
  · rw [outsAt0_B m c t h0]
    frame_out
    refine (Halves.canon_halves _ _ _ _ _ u p l).trans ?_
    exact e _ _ (fun u => dh (m ((c : Thread nD τ).loc main_arg1)) (ddm m c) u (t.val % 16 * 512 + p) (cl t l)) (rows0 m c t p l) (rows1 m c t p l)

/-- What point `t` adds to the weights' gradient. -/
def term (c : Dev nD) (u : Fin 2) (r : Fin 8) (j i : ℕ) (l : Fin 2816) : EReal :=
  part (fun p => ddm m c u l (i * 512 + p + 2)) (fun p => ddm m c u l (i * 512 + p + 1)) (fun p => ddm m c u l (i * 512 + p))
    (fun p => if h : i * 512 + p < 8192 then (m ((c : Thread nD τ).loc main_arg0) : FVec Ideal S8192x5632 .f32) (ix2 ⟨i * 512 + p, h⟩ (col u l)) else 0) r

theorem adds0 (c : Dev nD) (t : Fin cfg0.N) (acc : FVec Ideal S1x8x1408 .f32) (r : Fin 8) (l : Fin 1408) :
    k0_pay28 (F := Ideal) (k0_pay20 (k0_pay15 (I t) (D0 m c t) (x0 m c t) (iblk m c 4 t) (z0 m c t)) (ldh0 m c t)) (k0_pay21 (k0_pay14 (I t) (D0 m c t) (x0 m c t) (iblk m c 4 t) (z0 m c t)) (ldh0 m c t)) (k0_pay22 acc)
        (k0_pay23 (iota .tc S8x1408 32 [0] iota_S8x1408_d0_w32)) (k0_pay24 (iota .tc S8x1408 32 [0] iota_S8x1408_d0_w32))
        (k0_pay25 (iota .tc S8x1408 32 [0] iota_S8x1408_d0_w32)) (k0_pay26 (iota .tc S8x1408 32 [0] iota_S8x1408_d0_w32) (D0 m c t)) (k0_pay27 (D0 m c t) (ldh0 m c t)) (ix3 0 r l)
      = (acc (ix3 0 r l) : EReal) + term m c 0 r (t.val / 16) (t.val % 16) (cl t l) := by
  refine (sums0 _ _ _ _ _ _ _).trans ?_
  unfold term
  simp only [pay14_apply, pay15_apply, sh0, D0_apply, dif_pos (lt_row t _)]
  have e (p : Fin 512) := blk_h m c t 0 (by decide) inb_S2x512x1408_S1x512x1408_0_0_0 p l
  exact congrArg (fun f => (acc (ix3 0 r l) : EReal) + part _ _ _ f r) (funext fun p => e p)

theorem adds1 (c : Dev nD) (t : Fin cfg0.N) (acc : FVec Ideal S1x8x1408 .f32) (r : Fin 8) (l : Fin 1408) :
    k0_pay1 (F := Ideal) (k0_pay37 (k0_pay32 (I t) (D1 m c t) (N1 m c t)) (ldh1 m c t)) (k0_pay38 acc) (k0_pay39 (iota .tc S8x1408 32 [0] iota_S8x1408_d0_w32))
        (k0_pay40 (iota .tc S8x1408 32 [0] iota_S8x1408_d0_w32) (D1 m c t) (k0_pay31 (I t) (D1 m c t) (N1 m c t)) (ldh1 m c t)) (ix3 0 r l)
      = (acc (ix3 0 r l) : EReal) + term m c 1 r (t.val / 16) (t.val % 16) (cl t l) := by
  refine (sums1 _ _ _ _ _ _ _).trans ?_
  unfold term
  simp only [pay31_apply, pay32_apply, sh1, D1_apply, dif_pos (lt_row t _)]
  have e (p : Fin 512) := blk_h m c t 1 (by decide) inb_S2x512x1408_S1x512x1408_1_0_0 p l
  exact congrArg (fun f => (acc (ix3 0 r l) : EReal) + part _ _ _ f r) (funext fun p => e p)

theorem first7 (c : Dev nD) (t : Fin cfg0.N) (h0 : t.val % 16 = 0) (u : Fin 2) (r : Fin 8) (l : Fin 1408) :
    (outsAt0 m c t.val t.isLt).2 (ix3 u r l) = (0 : EReal) + term m c u r (t.val / 16) (t.val % 16) (cl t l) := by
  rw [outsAt0_A m c t h0]
  frame_out
  refine (Halves.canon_halves _ _ _ _ _ u r l).trans ?_
  match u with
  | 0 =>
    rw [if_pos rfl]
    refine (adds0 m c t _ r l).trans ?_
    refine congrArg (· + _) ?_
    simp (disch := decide) only [↓ View.readCov_skip, ↓ View.readCov_cons_toLoadRect, ↓ View.readCov_fill]
    pointwise [k0_pay2]
  | 1 =>
    rw [if_neg (by decide)]
    refine (adds1 m c t _ r l).trans ?_
    refine congrArg (· + _) ?_
    simp (disch := decide) only [↓ View.readCov_skip, ↓ View.readCov_cons_toLoadRect, ↓ View.readCov_fill]
    pointwise [k0_pay2]

theorem next7 (c : Dev nD) (t : Fin cfg0.N) (h0 : ¬ t.val % 16 = 0) (u : Fin 2) (r : Fin 8) (l : Fin 1408) :
    (outsAt0 m c t.val t.isLt).2 (ix3 u r l) = ((outsAt0 m c (t.val - 1) (by omega)).2 (ix3 u r l) : EReal) + term m c u r (t.val / 16) (t.val % 16) (cl t l) := by
  rw [outsAt0_B m c t h0]
  frame_out
  refine (Halves.canon_halves _ _ _ _ _ u r l).trans ?_
  match u with
  | 0 =>
    rw [if_pos rfl]
    refine (adds0 m c t _ r l).trans ?_
    exact congrArg (· + _) (Halves.ld_half _ 0 (by decide) _ r l)
  | 1 =>
    rw [if_neg (by decide)]
    refine (adds1 m c t _ r l).trans ?_
    exact congrArg (· + _) (Halves.ld_half _ 1 (by decide) _ r l)

/-- The gradient by the convolution's input, laid out in two halves. -/
def dhu (w : FVec Ideal S3x5632 .f32) (f : Fin 2 → Fin 2816 → ℕ → EReal) : FVec Ideal S2x8192x2816 .bf16 := fun i => dh w f (i 0) (i 1) (i 2)

/-- The weights' gradient: row `r` of half `u`. -/
def dw (x : FVec Ideal S8192x5632 .f32) (f : Fin 2 → Fin 2816 → ℕ → EReal) (u : Fin 2) (r : Fin 8) (l : Fin 2816) : EReal :=
  if (r : ℕ) = 0 then ∑ s : Fin 8192, f u l (s + 2) * x (ix2 s (col u l)) else if (r : ℕ) = 1 then ∑ s : Fin 8192, f u l (s + 1) * x (ix2 s (col u l))
  else if (r : ℕ) = 2 then ∑ s : Fin 8192, f u l s * x (ix2 s (col u l)) else if (r : ℕ) = 3 then ∑ s : Fin 8192, f u l s else 0

def dcw (x : FVec Ideal S8192x5632 .f32) (f : Fin 2 → Fin 2816 → ℕ → EReal) : FVec Ideal S2x8x2816 .f32 := fun i => dw x f (i 0) (i 1) (i 2)

theorem dhu_at (w : FVec Ideal S3x5632 .f32) (f : Fin 2 → Fin 2816 → ℕ → EReal) (u : Fin 2) (s : Fin 8192) (l : Fin 2816) : dhu w f (ix3 u s l) = dh w f u s l := rfl

theorem dcw_at (x : FVec Ideal S8192x5632 .f32) (f : Fin 2 → Fin 2816 → ℕ → EReal) (u : Fin 2) (r : Fin 8) (l : Fin 2816) : dcw x f (ix3 u r l) = dw x f u r l := rfl

theorem final6 (c : Dev nD) : (dats m 0 c).arrAt 6 cfg0.N = dhu (m ((c : Thread nD τ).loc main_arg1)) (ddm m c) := by
  refine (dats m 0 c).arrAt_eq_of_covers 6 _ (by decide +kernel) fun t hf y => ?_
  have ht : t.val < 32 := lt_of_lt_of_eq t.isLt N_0
  blk_simp
  rw [after0_6]
  idx_vars y
  refine (block6 m c t _ _ _).trans ((dhu_at _ _ _ ⟨t.val % 16 * 512 + _, lt_row t _⟩ _).symm.trans ?_)
  generalize dhu (m ((c : Thread nD τ).loc main_arg1)) (ddm m c) = X
  blk_point [idx t]

theorem blocks {M : Type} [AddCommMonoid M] (g : ℕ → M) : ∑ k ∈ Finset.range 16, ∑ p : Fin 512, g (k * 512 + p) = ∑ s : Fin 8192, g s := by
  rw [Finset.sum_range]
  exact Fin.sum_mul_add_congr (L := 8192) (S := 16) (n := 512) (fun t p hl => rfl) (by decide)

/-- Row `s` of a column, zero beyond the rows. -/
def colx (x : FVec Ideal S8192x5632 .f32) (k : Fin 5632) (s : ℕ) : EReal := if h : s < 8192 then x (ix2 ⟨s, h⟩ k) else 0

theorem sum_mul (x : FVec Ideal S8192x5632 .f32) (k : Fin 5632) (f : ℕ → EReal) :
    ∑ i ∈ Finset.range 16, ∑ p : Fin 512, f (i * 512 + p) * colx x k (i * 512 + p) = ∑ s : Fin 8192, f s * x (ix2 s k) := by
  rw [blocks fun s => f s * colx x k s]
  refine Finset.sum_congr rfl fun s _ => ?_
  unfold colx
  rw [dif_pos s.isLt]

theorem sum_part (x : FVec Ideal S8192x5632 .f32) (f : Fin 2 → Fin 2816 → ℕ → EReal) (u : Fin 2) (r : Fin 8) (l : Fin 2816) :
    ∑ i ∈ Finset.range 16, part (fun p => f u l (i * 512 + p + 2)) (fun p => f u l (i * 512 + p + 1)) (fun p => f u l (i * 512 + p)) (fun p => colx x (col u l) (i * 512 + p)) r
      = dw x f u r l := by
  unfold part dw
  split_ifs
  · exact sum_mul x _ fun s => f u l (s + 2)
  · exact sum_mul x _ fun s => f u l (s + 1)
  · exact sum_mul x _ fun s => f u l s
  · exact blocks fun s => f u l s
  · simp

theorem sum_term (c : Dev nD) (u : Fin 2) (r : Fin 8) (j : ℕ) (l : Fin 2816) :
    ∑ k ∈ Finset.range 16, term m c u r j k l = dw (m ((c : Thread nD τ).loc main_arg0)) (ddm m c) u r l :=
  sum_part (m ((c : Thread nD τ).loc main_arg0)) (ddm m c) u r l

theorem flush7 : ∀ t : Fin cfg0.N, (cfg0.win 7).flush t = true → t.val % 16 = 15 := (by decide +kernel : ∀ t : Fin grid0.N, _)

theorem last7 (c : Dev nD) (t : Fin cfg0.N) (h15 : t.val % 16 = 15) (u : Fin 2) (r : Fin 8) (l : Fin 1408) :
    (outsAt0 m c t.val t.isLt).2 (ix3 u r l) = dw (m ((c : Thread nD τ).loc main_arg0)) (ddm m c) u r (cl t l) := by
  have e := Pipeline.eq_sum_of_reset_step_divmod (fun n h => ((outsAt0 m c n h).2 (ix3 u r l) : EReal)) 16 0
    (fun j i => if h : j * 1408 + l < 2816 then term m c u r j i ⟨j * 1408 + l, h⟩ else 0)
    (fun t h => (first7 m c t h u r l).trans (by rw [dif_pos (cl t l).isLt])) (fun t h => (next7 m c t h u r l).trans (by rw [dif_pos (cl t l).isLt])) t
  refine e.trans ?_
  rw [zero_add, h15]
  simp only [dif_pos (cl t l).isLt]
  exact sum_term m c u r _ _

theorem final7 (c : Dev nD) : (dats m 0 c).arrAt 7 cfg0.N = dcw (m ((c : Thread nD τ).loc main_arg0)) (ddm m c) := by
  refine (dats m 0 c).arrAt_eq_of_covers 7 _ (by decide +kernel) fun t hf y => ?_
  have ht : t.val < 32 := lt_of_lt_of_eq t.isLt N_0
  have h15 : t.val % 16 = 15 := flush7 t hf
  blk_simp
  rw [after0_7]
  idx_vars y
  refine (last7 m c t h15 _ _ _).trans ((dcw_at _ _ _ _ _).symm.trans ?_)
  generalize dcw (m ((c : Thread nD τ).loc main_arg0)) (ddm m c) = X
  blk_point [idx t]

end Cert.ConvGateIdeal.Rows
-- ==== Proof.ConvGateEq.lean ====
/- The reference of the pair `ConvGate` on real arguments, and what the pair's precondition says. -/
module

public import proofs.«01_k».proof.Defs
public import proofs.«01_k».proof.Proof.Gen.Pre_finite_conv_gate
public import proofs.«01_k».proof.Proof.Gen.ConvGateRefIdeal.Run
public import proofs.«01_k».proof.Proof.Gen.ConvGateRefIdeal.Read
public import proofs.«01_k».proof.Proof.ConvGateValue
public import proofs.«01_k».proof.Proof.RealLine
public import Idealize.ShloMosaic.Lib.Claim

@[expose] public section

set_option maxRecDepth 16384

noncomputable section

namespace Cert.ConvGateEq

open Idealize.ShloMosaic Idealize.ShloMosaic.TcCoe Idealize.SL.Sem Cert.RealLine
open Cert.ConvGateRefIdeal Cert.ConvGateRefIdeal.Gen Cert.ConvGateRefIdeal.Read
open Cert.ConvGateIdeal.Rows (dhu dcw dh dw dd gr sg conv hp col colx)

instance : Subsingleton Cert.Pre_finite_conv_gate.S_.Idx := ⟨fun a b => funext fun k => k.elim0⟩

/-- What the precondition says: the arguments are real. -/
theorem real_of_pre {x : FVec Ideal S8192x5632 .f32} {w : FVec Ideal S3x5632 .f32} {b : FVec Ideal S5632 .f32} {e : FVec Ideal S8192x2816 .f32}
    (h : Cert.Pre_finite_conv_gate.fn (F := Ideal) x w b e = fun _ => 1#1) :
    (∀ i, IsReal (x i)) ∧ (∀ i, IsReal (w i)) ∧ (∀ i, IsReal (b i)) ∧ ∀ i, IsReal (e i) := by
  have h := congrFun h ix0
  unfold Cert.Pre_finite_conv_gate.fn Cert.Pre_finite_conv_gate.fn_part1 at h
  obtain ⟨h, h3⟩ := and_one h
  obtain ⟨h, h2⟩ := and_one h
  obtain ⟨h0, h1⟩ := and_one h
  exact ⟨fun i => all_real (fun _ => rfl) h0 i, fun i => all_real (fun _ => rfl) h1 i, fun i => all_real (fun _ => rfl) h2 i,
    fun i => all_real (fun _ => rfl) h3 i⟩

theorem sg_real {g : EReal} (h : IsReal g) : IsReal (sg g) := by
  obtain ⟨r, rfl⟩ := h
  unfold sg
  rw [← EReal.coe_zero, ← EReal.coe_one, ← EReal.coe_sub, Ideal.exp_coe, ← EReal.coe_add, div_real _ (by positivity)]
  exact IsReal.coe _

/-- The gate's cotangent as differentiation writes it. -/
theorem gate_real {a g d : EReal} (ha : IsReal a) (hg : IsReal g) (hd : IsReal d) :
    d * a * sg g + g * (d * a) * (sg g * (1 - sg g)) = gr 1 a g d := by
  obtain ⟨s, hs⟩ := sg_real hg
  obtain ⟨a, rfl⟩ := ha
  obtain ⟨d, rfl⟩ := hd
  unfold gr
  rw [if_neg (by decide), hs]
  obtain ⟨g, rfl⟩ := hg
  rw [← EReal.coe_one]
  simp only [← EReal.coe_sub, ← EReal.coe_mul, ← EReal.coe_add]
  exact congrArg _ (by ring)

/-- Moving the shift of a sum of products from one factor to the other, when the first is zero beyond the end. -/
theorem shift_sum (N k : ℕ) (f g : ℕ → EReal) (hf : ∀ s, N ≤ s → f s = 0) :
    ∑ s ∈ Finset.range N, f (s + k) * g s = ∑ s ∈ Finset.range N, f s * (if s < k then 0 else g (s - k)) := by
  have e1 := Finset.sum_range_add (fun s => f s * (if s < k then 0 else g (s - k))) k N
  have e2 := Finset.sum_range_add (fun s => f s * (if s < k then 0 else g (s - k))) N k
  have z1 : ∑ s ∈ Finset.range k, f s * (if s < k then 0 else g (s - k)) = 0 :=
    Finset.sum_eq_zero fun s hs => by rw [if_pos (Finset.mem_range.mp hs), mul_zero]
  have z2 : ∑ s ∈ Finset.range k, f (N + s) * (if N + s < k then 0 else g (N + s - k)) = 0 :=
    Finset.sum_eq_zero fun s hs => by rw [hf _ (Nat.le_add_right _ _), zero_mul]
  rw [z1, zero_add] at e1
  rw [z2, add_zero] at e2
  rw [← e2, add_comm N k, e1]
  refine Finset.sum_congr rfl fun s _ => ?_
  rw [if_neg (by omega), add_comm k s, Nat.add_sub_cancel]

variable {x : FVec Ideal S8192x5632 .f32} {w : FVec Ideal S3x5632 .f32} {b : FVec Ideal S5632 .f32} {e : FVec Ideal S8192x2816 .f32}

theorem hp_real (hx : ∀ i, IsReal (x i)) (s : Fin 8194) (k : Fin 5632) : IsReal (hp x s k) := by
  unfold hp
  split
  · exact IsReal.zero
  · exact hx _

theorem conv_real (hx : ∀ i, IsReal (x i)) (hw : ∀ i, IsReal (w i)) (hb : ∀ i, IsReal (b i)) (s : Fin 8192) (k : Fin 5632) : IsReal (conv x w b s k) :=
  ((((hw _).mul (hp_real hx _ _)).add ((hw _).mul (hp_real hx _ _))).add ((hw _).mul (hp_real hx _ _))).add (hb _)

theorem ref_hp (s : Fin 8194) (k : Fin 5632) : val_main_v1 (F := Ideal) x (ix2 s k) = hp x s k := by
  unfold hp
  pointwise [val_main_v1, val_main_v0, val_main_cst]

theorem ref_conv (s : Fin 8192) (k : Fin 5632) : val_main_v25 (F := Ideal) x w b (ix2 s k) = conv x w b s k := by
  unfold conv
  pointwise [val_main_v25, val_main_v24, val_main_v23, val_main_v22, val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, ref_hp]

/-- Differentiation's gate cotangents, with the sign in the exponent's argument. -/
theorem sg_neg (g : EReal) : Ideal.div 1 (1 + Ideal.exp (-g)) = sg g := by
  unfold sg
  rw [zero_sub]

theorem ref_d0 (s : Fin 8192) (l : Fin 2816) :
    val_main_v33 (F := Ideal) x w b e (ix2 s (col 0 l)) = gr 0 (conv x w b s (col 0 l)) (conv x w b s (col 1 l)) (e (ix2 s l)) := by
  have hk : ((col 0 l : Fin 5632) : ℕ) = l := by show 0 * 2816 + (l : ℕ) = l; omega
  pointwise [val_main_v33, val_main_v32, val_main_v31, val_main_v30, val_main_v28_0, val_main_v28_1, val_main_v28_2, val_main_v27, val_main_v26, val_main_call0_v0, val_main_call0_v1, val_main_call0_cst,
    val_main_call0_v2, val_main_call0_v3, val_main_call0_cst_0, val_main_call0_v4, val_main_call0_cst_1, val_main_call0_v6, val_main_call0_v7, val_main_call1_v0, val_main_call1_v1, val_main_call1_v2, ref_conv]
  rw [dif_pos (by omega), sg_neg, show (⟨2816 + ((col 0 l : Fin 5632) : ℕ), by omega⟩ : Fin 5632) = col 1 l from Fin.ext (by show 2816 + ((col 0 l : Fin 5632) : ℕ) = 1 * 2816 + l; omega),
    show (⟨((col 0 l : Fin 5632) : ℕ), by omega⟩ : Fin 2816) = l from Fin.ext hk]
  exact mul_comm _ _

theorem ref_d1 (hx : ∀ i, IsReal (x i)) (hw : ∀ i, IsReal (w i)) (hb : ∀ i, IsReal (b i)) (he : ∀ i, IsReal (e i)) (s : Fin 8192) (l : Fin 2816) :
    val_main_v33 (F := Ideal) x w b e (ix2 s (col 1 l)) = gr 1 (conv x w b s (col 0 l)) (conv x w b s (col 1 l)) (e (ix2 s l)) := by
  have hk : ((col 1 l : Fin 5632) : ℕ) = 2816 + l := by show 1 * 2816 + (l : ℕ) = 2816 + l; omega
  pointwise [val_main_v33, val_main_v32, val_main_v31, val_main_v30, val_main_v28_0, val_main_v28_1, val_main_v28_2, val_main_v27, val_main_v26, val_main_call0_v0, val_main_call0_v1, val_main_call0_cst,
    val_main_call0_v2, val_main_call0_v3, val_main_call0_cst_0, val_main_call0_v4, val_main_call0_cst_1, val_main_call0_v6, val_main_call0_v7, val_main_call1_v0, val_main_call1_v1, val_main_call1_v2, ref_conv]
  rw [dif_neg (by omega)]
  simp only [sg_neg]
  rw [show (⟨2816 + (((col 1 l : Fin 5632) : ℕ) - 2816), by omega⟩ : Fin 5632) = col 1 l from Fin.ext (by show 2816 + (((col 1 l : Fin 5632) : ℕ) - 2816) = 1 * 2816 + l; omega),
    show (⟨((col 1 l : Fin 5632) : ℕ) - 2816, by omega⟩ : Fin 5632) = col 0 l from Fin.ext (by show ((col 1 l : Fin 5632) : ℕ) - 2816 = 0 * 2816 + l; omega),
    show (⟨((col 1 l : Fin 5632) : ℕ) - 2816, by omega⟩ : Fin 2816) = l from Fin.ext (by show ((col 1 l : Fin 5632) : ℕ) - 2816 = l; omega)]
  exact gate_real (conv_real hx hw hb _ _) (conv_real hx hw hb _ _) (he _)

theorem ref_d (hx : ∀ i, IsReal (x i)) (hw : ∀ i, IsReal (w i)) (hb : ∀ i, IsReal (b i)) (he : ∀ i, IsReal (e i)) (s : Fin 8192) (u : Fin 2) (l : Fin 2816) :
    val_main_v33 (F := Ideal) x w b e (ix2 s (col u l)) = dd x w b e u l s := by
  unfold dd
  rw [dif_pos s.isLt]
  match u with
  | 0 => exact ref_d0 s l
  | 1 => exact ref_d1 hx hw hb he s l

theorem dd_end (u : Fin 2) (l : Fin 2816) (s : ℕ) (h : 8192 ≤ s) : dd x w b e u l s = 0 := by
  unfold dd
  rw [dif_neg (by omega)]

theorem ref_dhu (hx : ∀ i, IsReal (x i)) (hw : ∀ i, IsReal (w i)) (hb : ∀ i, IsReal (b i)) (he : ∀ i, IsReal (e i)) :
    val_main_v75 (F := Ideal) x w b e = dhu w (dd x w b e) := by
  funext i
  idx_vars i
  unfold dhu dh
  pointwise [val_main_v75, val_main_v74, val_main_v73, val_main_v69, val_main_v64, val_main_v63, val_main_v58, val_main_v57, val_main_v53, val_main_v52, val_main_v47, val_main_v46, val_main_v43, val_main_v38, val_main_v37,
    val_main_v19, val_main_v17, val_main_v16, val_main_v12, val_main_v10, val_main_v9, val_main_v6, val_main_v4, val_main_v3, val_main_cst_5, val_main_cst_9, val_main_cst_13]
  have hk : (i0 : ℕ) * 2816 + i2 < 5632 := by omega
  refine congrArg₂ (· + ·) (congrArg₂ (· + ·) ?_ ?_) ?_
  · rw [dif_pos hk]
    exact congrArg (_ * ·) (ref_d hx hw hb he i1 i0 i2)
  · split
    case isTrue h =>
      exact congrArg (_ * ·) ((ref_d hx hw hb he ⟨2 + i1 - 1, by omega⟩ i0 i2).trans (congrArg (dd x w b e i0 i2) (by show 2 + (i1 : ℕ) - 1 = i1 + 1; omega)))
    case isFalse h => rw [dd_end _ _ _ (by omega), mul_zero]
  · split
    case isTrue h =>
      exact congrArg (_ * ·) ((ref_d hx hw hb he ⟨2 + i1, by omega⟩ i0 i2).trans (congrArg (dd x w b e i0 i2) (by show 2 + (i1 : ℕ) = i1 + 2; omega)))
    case isFalse h => rw [dd_end _ _ _ (by omega), mul_zero]

theorem sum_shift (hx : ∀ i, IsReal (x i)) (hw : ∀ i, IsReal (w i)) (hb : ∀ i, IsReal (b i)) (he : ∀ i, IsReal (e i)) (k K : ℕ) (h : k + K = 2) (u : Fin 2) (l : Fin 2816) :
    ∑ s : Fin 8192, (val_main_v33 (F := Ideal) x w b e (ix2 s (col u l)) : EReal) * hp x ⟨k + s, by omega⟩ (col u l)
      = ∑ s : Fin 8192, dd x w b e u l (s + K) * x (ix2 s (col u l)) := by
  have A := shift_sum 8192 K (dd x w b e u l) (colx x (col u l)) (dd_end u l)
  rw [Finset.sum_range, Finset.sum_range] at A
  refine Eq.trans (Finset.sum_congr rfl fun s _ => ?_) (A.symm.trans (Finset.sum_congr rfl fun s _ => ?_))
  · rw [ref_d hx hw hb he]
    refine congrArg (_ * ·) ?_
    unfold hp colx
    by_cases hs : (s : ℕ) < K
    · rw [dif_pos (by show k + (s : ℕ) < 2; omega), if_pos hs]
    · rw [dif_neg (by show ¬ k + (s : ℕ) < 2; omega), if_neg hs, dif_pos (by omega)]
      exact congrArg x (congrArg (ix2 · _) (Fin.ext (by show k + (s : ℕ) - 2 = s - K; omega)))
  · unfold colx
    rw [dif_pos s.isLt]

theorem last_of {p q r s : EReal} (hp : p = 0) (hq : q = 0) (hr : r = s) : p + q + r = s := by rw [hp, hq, hr, zero_add, zero_add]

theorem mid_of {p q r s : EReal} (hp : p = 0) (hq : q = s) (hr : r = 0) : p + q + r = s := by rw [hp, hq, hr, zero_add, add_zero]

theorem fst_of {p q r s : EReal} (hp : p = s) (hq : q = 0) (hr : r = 0) : p + q + r = s := by rw [hp, hq, hr, add_zero, add_zero]

theorem ref_dcw (hx : ∀ i, IsReal (x i)) (hw : ∀ i, IsReal (w i)) (hb : ∀ i, IsReal (b i)) (he : ∀ i, IsReal (e i)) :
    val_main_v77 (F := Ideal) x w b e = dcw x (dd x w b e) := by
  funext i
  idx_vars i
  unfold dcw dw
  pointwise [val_main_v77, val_main_v76, val_main_v72, val_main_v71, val_main_v70, val_main_v67, val_main_v66, val_main_v65, val_main_v62, val_main_v61, val_main_v60, val_main_v59, val_main_v56, val_main_v55, val_main_v54,
    val_main_v51, val_main_v50, val_main_v49, val_main_v48, val_main_v45, val_main_v44, val_main_v42, val_main_v41, val_main_v40, val_main_v39, val_main_v36, val_main_v35, val_main_v34, val_main_v18, val_main_v11, val_main_v5, ref_hp,
    val_main_cst_1, val_main_cst_2, val_main_cst_3, val_main_cst_4, val_main_cst_6, val_main_cst_7, val_main_cst_8, val_main_cst_10, val_main_cst_11, val_main_cst_12, val_main_cst_14, val_main_cst_15]
  by_cases h0 : (i1 : ℕ) = 0
  · refine (dif_pos (by omega)).trans (Eq.trans (last_of (dif_neg (by omega)) (dif_neg (by omega)) ((dif_pos ⟨by omega, by omega⟩).trans ((Fin.sum_univ_one _).trans ?_))) (if_pos h0).symm)
    refine Eq.trans (Finset.sum_congr rfl fun s _ => ?_) (sum_shift hx hw hb he 0 2 rfl i0 i2)
    exact congrArg (_ * ·) (congrArg (hp x · _) (Fin.ext (Nat.zero_add _).symm))
  refine Eq.trans ?_ (if_neg h0).symm
  by_cases h1 : (i1 : ℕ) = 1
  · exact (dif_pos (by omega)).trans (Eq.trans (mid_of (dif_neg (by omega)) ((dif_pos ⟨⟨by omega, by omega⟩, by omega⟩).trans ((Fin.sum_univ_one _).trans (sum_shift hx hw hb he 1 1 rfl i0 i2))) (dif_neg (by omega))) (if_pos h1).symm)
  refine Eq.trans ?_ (if_neg h1).symm
  by_cases h2 : (i1 : ℕ) = 2
  · exact (dif_pos (by omega)).trans (Eq.trans (fst_of ((dif_pos ⟨⟨by omega, by omega⟩, by omega⟩).trans ((Fin.sum_univ_one _).trans (sum_shift hx hw hb he 2 0 rfl i0 i2))) (dif_neg (by omega)) (dif_neg (by omega))) (if_pos h2).symm)
  refine Eq.trans ?_ (if_neg h2).symm
  by_cases h3 : (i1 : ℕ) = 3
  · refine (dif_neg (by omega)).trans ((dif_pos (by omega)).trans (((Fin.sum_univ_one _).trans ?_).trans (if_pos h3).symm))
    exact Finset.sum_congr rfl fun s _ => ref_d hx hw hb he s i0 i2
  · exact (dif_neg (by omega)).trans ((dif_neg (by omega)).trans (if_neg h3).symm)

end Cert.ConvGateEq

end
-- ==== Proof.ConvGateClaims.lean ====
/- The claims about the pair `ConvGate`. -/
module

public import proofs.«01_k».proof.Proof.Gen.ConvGate.Frame
public import proofs.«01_k».proof.Proof.Gen.ConvGateIdeal.Frame
public import proofs.«01_k».proof.Proof.ConvGateEq

@[expose] public section

set_option maxRecDepth 16384

noncomputable section

namespace Cert.ConvGateEq

open Idealize.ShloMosaic Idealize.ShloMosaic.TcCoe Idealize.SL.Sem
open Cert.ConvGateIdeal.Rows (dhu dcw)

theorem frame_p : Cert.quiescent_ConvGate := fun m ρ _ => Cert.ConvGate.Gen.frame m ρ

theorem frame_pi : Cert.quiescent_ConvGateIdeal := fun m ρ _ => Cert.ConvGateIdeal.Gen.frame m ρ

theorem frame_ri : Cert.quiescent_ConvGateRefIdeal := fun m ρ _ =>
  (θ_run Cert.ConvGateRefIdeal.defs _ _).mono (fun r h => ⟨fun c => (h c).2.2, sem_eq_zero_of_no_sems (by decide) r.2⟩)
    (Cert.ConvGateRefIdeal.Value.run (F := Ideal) m ρ)

theorem algebraic : Cert.algebraic_ConvGateIdeal_ConvGateRefIdeal_pre_finite_conv_gate := by
  intro m g m' g' hpre hagree
  refine ⟨_, _, Cert.ConvGateIdeal.Value.run_blocks (F := Ideal) m g, ?_⟩
  refine (θ_run Cert.ConvGateRefIdeal.defs _ _).mono (fun r h c => ?_) (Cert.ConvGateRefIdeal.Value.run (F := Ideal) m' g')
  obtain ⟨h0, h1, hargs⟩ := h c
  obtain ⟨a0, a1, a2, a3⟩ := hagree c
  obtain ⟨hx, hw, hb, he⟩ := real_of_pre (hpre c)
  refine ⟨h0.trans ?_, h1.trans ?_, hargs⟩
  · rw [Cert.ConvGateRefIdeal.Read.val_main_v75_eq, a0, a1, a2, a3]
    exact (ref_dhu hx hw hb he).trans (Cert.ConvGateIdeal.Rows.final6 m c).symm
  · rw [Cert.ConvGateRefIdeal.Read.val_main_v77_eq, a0, a1, a2, a3]
    exact (ref_dcw hx hw hb he).trans (Cert.ConvGateIdeal.Rows.final7 m c).symm

end Cert.ConvGateEq

end
-- ==== Proof.AttnFwdRef.lean ====
/- The plain attention, entry by entry. -/
module
public import proofs.«01_k».proof.Proof.AttnBwdReal
public import proofs.«01_k».proof.Proof.Gen.AttnFwdRefIdeal.Read
public import Idealize.ShloMosaic.Lib.WordCmp
@[expose] public section
set_option maxRecDepth 16384
noncomputable section
namespace Cert.AttnFwdEq
open Cert.AttnBwdIdeal.Run (score rowMax rowExp rowSum rowLse flat per lowest eighth headCol headOfCol)
open Cert.AttnFwdRefIdeal Cert.AttnFwdRefIdeal.Read
open Idealize.ShloMosaic Idealize.ShloMosaic.TcCoe Idealize.ShloMosaic.Tactic Idealize.SL.Sem
variable (q k v : FVec Ideal S8192x512 .f32) (c : FVec Ideal S8192x8 .f32)

theorem ref_mask (H : Fin 8) (r s : Fin 8192) : val_main_call0_v1 (F := Ideal) (ix3 H r s) = BitVec.ofBool (decide (s.val ≤ r.val)) := by
  pointwise [val_main_call0_v1, val_main_v19, val_main_v18, val_main_v17, val_main_v16, val_main_v15, val_main_v14]
  rw [WordCmp.cmpi_sge_ofNat (by omega) (by omega)]

theorem ref_score (H : Fin 8) (r s : Fin 8192) : val_main_v20 (F := Ideal) q k c (ix3 H r s) = score q k c H r s := by
  pointwise [val_main_v20, val_main_v13, val_main_v12, val_main_v11, val_main_v10, val_main_v9, val_main_v8, val_main_v7, val_main_v6, val_main_v5, val_main_v4, val_main_cst, val_main_v3, val_main_v1, val_main_v0, val_main_call0_v2, val_main_call0_v0, val_main_cst_0]
  rw [ref_mask, WordCmp.select_decide]
  rfl

theorem ref_top (H : Fin 8) (r : Fin 8192) : val_main_v21 (F := Ideal) q k c (ix2 H r) = rowMax (score q k c H r) := by
  pointwise [val_main_v21, val_main_cst_1]
  simp only [ref_score]
  rfl

theorem ref_top' (H : Fin 8) (r : Fin 8192) : val_main_v30 (F := Ideal) q k c (ix2 H r) = rowMax (score q k c H r) := by
  pointwise [val_main_v30, val_main_cst_3]
  simp only [ref_score]
  rfl

theorem ref_exp (H : Fin 8) (r s : Fin 8192) : val_main_v25 (F := Ideal) q k c (ix3 H r s) = rowExp (score q k c H r) s := by
  pointwise [val_main_v25, val_main_v24, val_main_v23, val_main_v22]
  rw [ref_score, ref_top]
  unfold rowExp
  generalize rowMax (score q k c H r) = x
  generalize score q k c H r s = y
  rfl

theorem ref_sum (H : Fin 8) (r : Fin 8192) : val_main_v26 (F := Ideal) q k c (ix2 H r) = rowSum (score q k c H r) := by
  pointwise [val_main_v26, val_main_cst_2]
  simp only [ref_exp]
  rfl

theorem at_top (H : Fin 8) (r : Fin 8192) : val_main_v22 (F := Ideal) q k c (ix3 H r 0) = rowMax (score q k c H r) := by
  rw [val_main_v22_apply, show idx_main_v22 (ix3 H r 0) = ix2 H r from funext fun a => by match a with | ⟨0, _⟩ => rfl | ⟨1, _⟩ => rfl]
  exact ref_top q k c H r

theorem at_sum (H : Fin 8) (r : Fin 8192) : val_main_v27 (F := Ideal) q k c (ix3 H r 0) = rowSum (score q k c H r) := by
  rw [val_main_v27_apply, show idx_main_v27 (ix3 H r 0) = ix2 H r from funext fun a => by match a with | ⟨0, _⟩ => rfl | ⟨1, _⟩ => rfl]
  exact ref_sum q k c H r

theorem ref_lse (H : Fin 8) (r : Fin 8192) : val_main_v29 (F := Ideal) q k c (ix3 H r 0) = rowLse (score q k c H r) := by
  rw [val_main_v29_apply, val_main_v28_apply, at_top, at_sum]
  unfold rowLse
  generalize rowMax (score q k c H r) = x
  generalize rowSum (score q k c H r) = y
  rfl

theorem ref_max (H : Fin 8) (r : Fin 8192) : val_main_v32 (F := Ideal) q k c (ix2 H r) = max lowest (rowMax (score q k c H r)) := by
  rw [val_main_v32_apply, ref_top', val_main_v31_apply]
  generalize rowMax (score q k c H r) = y
  rfl

theorem ref_exp' (h0 : lowest = ⊥) (H : Fin 8) (r s : Fin 8192) : val_main_v36 (F := Ideal) q k c (ix3 H r s) = rowExp (score q k c H r) s := by
  pointwise [val_main_v36, val_main_v35, val_main_v34, val_main_v33]
  rw [ref_score, ref_max, h0, max_eq_right bot_le]
  rfl

theorem ref_sum' (h0 : lowest = ⊥) (H : Fin 8) (r : Fin 8192) : val_main_v37 (F := Ideal) q k c (ix2 H r) = rowSum (score q k c H r) := by
  pointwise [val_main_v37, val_main_cst_5]
  simp only [ref_exp' _ _ _ h0]
  rfl

theorem ref_weight (h0 : lowest = ⊥) (H : Fin 8) (r s : Fin 8192) : val_main_v40 (F := Ideal) q k c (ix3 H r s)
    = Ideal.div (rowExp (score q k c H r) s) (rowSum (score q k c H r)) := by
  pointwise [val_main_v40, val_main_v39, val_main_v38]
  rw [ref_exp' _ _ _ h0, ref_sum' _ _ _ h0]

theorem ref_out (h0 : lowest = ⊥) (r : Fin 8192) (j : Fin 512) : val_main_v43 (F := Ideal) q k v c (ix2 r j)
    = ∑ s : Fin 8192, flat v s (headOfCol j) ⟨j.val % 64, by omega⟩
        * Ideal.div (rowExp (score q k c (headOfCol j) r) s) (rowSum (score q k c (headOfCol j) r)) := by
  pointwise [val_main_v43, val_main_v42, val_main_v41, val_main_v2]
  simp only [ref_weight _ _ _ h0]
  refine Finset.sum_congr rfl fun x _ => congrArg (· * _) ?_
  exact congrArg (fun y => v (ix2 x y)) (Fin.ext (by show j.val = j.val / 64 * 64 + j.val % 64; omega))

theorem ref_level (r : Fin 8192) (j : Fin 512) : val_main_v47 (F := Ideal) q k c (ix2 r j) = rowLse (score q k c (headOfCol j) r) := by
  pointwise [val_main_v47, val_main_v46, val_main_v45, val_main_v44]
  exact ref_lse q k c _ r

theorem ref_narrow (r : Fin 8192) (j : Fin 512) : (val_main_v48 (F := Ideal) q k v c (ix2 r j) : EReal) = val_main_v43 (F := Ideal) q k v c (ix2 r j) := by
  pointwise [val_main_v48]

end Cert.AttnFwdEq
end
-- ==== Proof.AttnFwdReal.lean ====
/- The softmax of a causal row as sums over the keys seen, in real numbers. -/
module
public import proofs.«01_k».proof.Proof.AttnFwdRef
@[expose] public section
set_option maxRecDepth 16384
noncomputable section
namespace Cert.AttnFwdEq
open Cert.AttnBwdIdeal.Run (score rowMax rowExp rowSum rowLse flat per lowest eighth one aug aug3 part2 part3)
open Cert.AttnBwdEq
open Cert.RealLine Cert.SoftmaxRow
open Idealize.ShloMosaic
open Cert.AttnBwdIdeal (S8192x512 S8192x8 S8192x1024)

/-- A packed row of values: 64 lanes and three lanes of ones. -/
def valLane (f : Fin 64 → ℝ) (l : Fin 128) : ℝ :=
  if hl : l.val < 64 then f ⟨l.val, hl⟩
  else if l.val - 64 < 1 then 1
  else if l.val - 64 - 1 < 1 then 1
  else if l.val - 64 - 1 - 1 < 1 then 1
  else 0

theorem valLane_eq (f : Fin 64 → EReal) (g : Fin 64 → ℝ) (h : ∀ x, f x = (g x : EReal)) (l : Fin 128) : aug3 f one one one 0 l = (valLane g l : EReal) := by
  unfold aug3 valLane
  split_ifs
  · exact h _
  · exact one_eq
  · exact one_eq
  · exact one_eq
  · rfl

theorem valLane_one (f : Fin 64 → ℝ) : valLane f 64 = 1 := rfl

theorem valLane_lo (f : Fin 64 → ℝ) (l : Fin 128) (hl : l.val < 64) : valLane f l = f ⟨l.val, hl⟩ := dif_pos hl

/-- The keys up to `r`. -/
theorem upto (r : Fin 8192) (g : ℕ → ℝ) : ∑ s : Fin 8192, (if s ≤ r then g s.val else 0) = ∑ j ∈ Finset.range (r.val + 1), g j := by
  have hr := r.isLt
  refine (Fin.sum_univ_eq_sum_range (fun j => if j ≤ r.val then g j else 0) 8192).trans ?_
  rw [← Finset.sum_filter]
  refine Finset.sum_congr ?_ fun _ _ => rfl
  ext j; simp only [Finset.mem_filter, Finset.mem_range]; omega

variable {q k v d : FVec Ideal S8192x512 .f32} {c : FVec Ideal S8192x8 .f32} (A : Args q k v d c)

/-- The level of a row: the logarithm of its sum of exponentials. -/
def top (H : Fin 8) (r : Fin 8192) : ℝ := (A.row H r).L

theorem p_exp (H : Fin 8) (r s : Fin 8192) : A.p H r s = if s ≤ r then Real.exp (A.z H r s - top A H r) else 0 := by
  split
  · rename_i h
    exact ((A.row H r).below s h).symm
  · rename_i h
    exact A.p_above H r s h

theorem p_one (H : Fin 8) (r : Fin 8192) : ∑ s, A.p H r s = 1 := by
  have h := (A.row H r).sum_eq
  unfold rowSum at h
  simp only [(A.row H r).exp_eq, ← coe_sum] at h
  have h := EReal.coe_eq_coe_iff.1 h
  unfold Args.p
  rw [← Finset.sum_div, h, div_self (A.row H r).pos.ne']

/-- The scores and the values by the number of the key. -/
def scoreN (H : Fin 8) (r : Fin 8192) (s : ℕ) : ℝ := if h : s < 8192 then A.z H r ⟨s, h⟩ else 0
def valN (H : Fin 8) (s : ℕ) (l : Fin 128) : ℝ := if h : s < 8192 then valLane (A.V ⟨s, h⟩ H) l else 0

theorem scoreN_eq (H : Fin 8) (r s : Fin 8192) : scoreN A H r s.val = A.z H r s := dif_pos s.isLt
theorem valN_eq (H : Fin 8) (s : Fin 8192) (l : Fin 128) : valN A H s.val l = valLane (A.V s H) l := dif_pos s.isLt
theorem valN_one (H : Fin 8) (s : ℕ) (hs : s < 8192) : valN A H s 64 = 1 := (valN_eq A H ⟨s, hs⟩ 64).trans (valLane_one _)

theorem weighted (H : Fin 8) (r : Fin 8192) (l : Fin 128) :
    ∑ j ∈ Finset.range (r.val + 1), Real.exp (scoreN A H r j - top A H r) * valN A H j l = ∑ s, A.p H r s * valLane (A.V s H) l := by
  rw [← upto r]
  refine Finset.sum_congr rfl fun s _ => ?_
  rw [p_exp, scoreN_eq, valN_eq, ite_mul, zero_mul]

theorem weights (H : Fin 8) (r : Fin 8192) : ∑ j ∈ Finset.range (r.val + 1), Real.exp (scoreN A H r j - top A H r) = 1 := by
  rw [← p_one A H r, ← upto r]
  refine Finset.sum_congr rfl fun s _ => ?_
  rw [p_exp, scoreN_eq]

/-- The score of a packed query against a packed key. -/
theorem packed_score (H : Fin 8) (r s : Fin 8192) :
    ∑ l : Fin 128, aug (fun x => flat q r H x * eighth) (per c r H) (part2 (per c r H)) (part3 (per c r H)) one one one 0 0 0 0 l
        * aug (fun x => flat k s H x) one one one (-per c s H) (part2 (-per c s H)) (part3 (-per c s H)) one one one 0 l
      = (A.z H r s : EReal) := by
  rw [aug_sum]
  simp only [A.q_eq, A.k_eq, A.c_eq, eighth_eq, one_eq, part2, part3, zero_mul, add_zero, ← EReal.coe_mul, ← coe_sum, ← EReal.coe_neg, ← EReal.coe_sub, ← EReal.coe_add]
  refine congrArg _ ?_
  have hs : ∑ x, A.Q r H x * (1 / 8) * A.K s H x = (∑ x, A.Q r H x * A.K s H x) * (1 / 8) := by
    rw [Finset.sum_mul]
    exact Finset.sum_congr rfl fun x _ => by ring
  rw [hs]
  unfold Args.z
  ring

end Cert.AttnFwdEq
end
-- ==== Proof.AttnFwdRows.lean ====
/- The three packed arrays the forward kernel is launched on, entry by entry. -/
module
public import proofs.«01_k».proof.Proof.AttnBwdReal
public import proofs.«01_k».proof.Proof.Gen.AttnFwdIdeal.Frame
public import Idealize.ShloMosaic.Lib.StableHlo.ReadAt
@[expose] public section
set_option maxRecDepth 16384
noncomputable section
namespace Cert.AttnFwdIdeal.Run
open Cert.AttnFwdIdeal Cert.AttnFwdIdeal.Gen
open Cert.AttnBwdIdeal.Run (one eighth aug aug3 gcol flat per part2 part3)
open Idealize.ShloMosaic Idealize.ShloMosaic.TcCoe Idealize.ShloMosaic.Tactic Idealize.SL.Sem

abbrev Val := Valuation τ sig (Elt Ideal)

/-- A packed row with six lanes of scalars. -/
def aug6 (f : Fin 64 → EReal) (a b c d e g z : EReal) (l : Fin 128) : EReal :=
  if hl : l.val < 64 then f ⟨l.val, hl⟩
  else if l.val - 64 < 1 then a
  else if l.val - 64 - 1 < 1 then b
  else if l.val - 64 - 1 - 1 < 1 then c
  else if l.val - 64 - 1 - 1 - 1 < 1 then d
  else if l.val - 64 - 1 - 1 - 1 - 1 < 1 then e
  else if l.val - 64 - 1 - 1 - 1 - 1 - 1 < 1 then g
  else z

theorem aug6_eq (f : Fin 64 → EReal) (a b c d e g z : EReal) (l : Fin 128) : aug6 f a b c d e g z l = aug f a b c d e g z z z z l := by
  unfold aug6 aug
  simp only [ite_self]

theorem head_col (H : Fin 8) (l : Fin 128) (h) : (⟨(gcol H l).val / 128, h⟩ : Fin 8) = H :=
  Fin.ext (by show (128 * H.val + l.val) / 128 = _; omega)
theorem lane_col (H : Fin 8) (l : Fin 128) (h) : (⟨(gcol H l).val % 128, h⟩ : Fin 128) = l :=
  Fin.ext (by show (128 * H.val + l.val) % 128 = _; omega)

theorem q_flat (U : Val) (r : Fin 8192) (y : Fin 1024) :
    (StableHlo.after (List.drop 34 hostOps0) U main_v30 : FVec Ideal S8192x1024 .bf16) (ix2 r y)
      = (U main_v28 : FVec Ideal S8192x8x128 .f32) (ix3 r ⟨y.val / 128, by have := y.isLt; omega⟩ ⟨y.val % 128, by omega⟩) := by
  after_reads_at
theorem k_flat (U : Val) (r : Fin 8192) (y : Fin 1024) :
    (StableHlo.after (List.drop 77 hostOps0) U main_v66 : FVec Ideal S8192x1024 .bf16) (ix2 r y)
      = (U main_v64 : FVec Ideal S8192x8x128 .f32) (ix3 r ⟨y.val / 128, by have := y.isLt; omega⟩ ⟨y.val % 128, by omega⟩) := by
  after_reads_at
theorem v_flat (U : Val) (r : Fin 8192) (y : Fin 1024) :
    (StableHlo.after (List.drop 94 hostOps0) U main_v79 : FVec Ideal S8192x1024 .bf16) (ix2 r y)
      = (U main_v77 : FVec Ideal S8192x8x128 .f32) (ix3 r ⟨y.val / 128, by have := y.isLt; omega⟩ ⟨y.val % 128, by omega⟩) := by
  after_reads_at

theorem q_cat (U : Val) (r : Fin 8192) (H : Fin 8) (l : Fin 128) (f : Fin 64 → EReal) (a b c d e g z : EReal)
    (hf : ∀ x, (U main_v4 : FVec Ideal S8192x8x64 .f32) (ix3 r H x) = f x)
    (ha : ∀ y, (U main_v15 : FVec Ideal S8192x8x1 .f32) (ix3 r H y) = a)
    (hb : ∀ y, (U main_v16 : FVec Ideal S8192x8x1 .f32) (ix3 r H y) = b)
    (hc : ∀ y, (U main_v17 : FVec Ideal S8192x8x1 .f32) (ix3 r H y) = c)
    (hd : ∀ y, (U main_v25 : FVec Ideal S8192x8x1 .f32) (ix3 r H y) = d)
    (he : ∀ y, (U main_v26 : FVec Ideal S8192x8x1 .f32) (ix3 r H y) = e)
    (hg : ∀ y, (U main_v27 : FVec Ideal S8192x8x1 .f32) (ix3 r H y) = g)
    (hz : ∀ y, (U main_v24 : FVec Ideal S8192x8x58 .f32) (ix3 r H y) = z) :
    (StableHlo.after (List.drop 33 hostOps0) U main_v30 : FVec Ideal S8192x1024 .bf16) (ix2 r (gcol H l))
      = aug6 f a b c d e g z l := by
  show (StableHlo.after (List.drop 34 hostOps0) (StableHlo.after (List.take 1 (List.drop 33 hostOps0)) U) main_v30
    : FVec Ideal S8192x1024 .bf16) (ix2 r (gcol H l)) = _
  rw [q_flat, head_col, lane_col]
  after_reads_at
  simp only [hf, ha, hb, hc, hd, he, hg, hz]
  rfl

theorem k_cat (U : Val) (r : Fin 8192) (H : Fin 8) (l : Fin 128) (f : Fin 64 → EReal) (a b c d e g h i j z : EReal)
    (hf : ∀ x, (U main_v1 : FVec Ideal S8192x8x64 .f32) (ix3 r H x) = f x)
    (ha : ∀ y, (U main_v58 : FVec Ideal S8192x8x1 .f32) (ix3 r H y) = a)
    (hb : ∀ y, (U main_v59 : FVec Ideal S8192x8x1 .f32) (ix3 r H y) = b)
    (hc : ∀ y, (U main_v60 : FVec Ideal S8192x8x1 .f32) (ix3 r H y) = c)
    (hd : ∀ y, (U main_v48 : FVec Ideal S8192x8x1 .f32) (ix3 r H y) = d)
    (he : ∀ y, (U main_v49 : FVec Ideal S8192x8x1 .f32) (ix3 r H y) = e)
    (hg : ∀ y, (U main_v50 : FVec Ideal S8192x8x1 .f32) (ix3 r H y) = g)
    (hh : ∀ y, (U main_v61 : FVec Ideal S8192x8x1 .f32) (ix3 r H y) = h)
    (hi : ∀ y, (U main_v62 : FVec Ideal S8192x8x1 .f32) (ix3 r H y) = i)
    (hj : ∀ y, (U main_v63 : FVec Ideal S8192x8x1 .f32) (ix3 r H y) = j)
    (hz : ∀ y, (U main_v57 : FVec Ideal S8192x8x55 .f32) (ix3 r H y) = z) :
    (StableHlo.after (List.drop 76 hostOps0) U main_v66 : FVec Ideal S8192x1024 .bf16) (ix2 r (gcol H l))
      = aug f a b c d e g h i j z l := by
  show (StableHlo.after (List.drop 77 hostOps0) (StableHlo.after (List.take 1 (List.drop 76 hostOps0)) U) main_v66
    : FVec Ideal S8192x1024 .bf16) (ix2 r (gcol H l)) = _
  rw [k_flat, head_col, lane_col]
  after_reads_at
  simp only [hf, ha, hb, hc, hd, he, hg, hh, hi, hj, hz]
  rfl

theorem v_cat (U : Val) (r : Fin 8192) (H : Fin 8) (l : Fin 128) (f : Fin 64 → EReal) (a b c z : EReal)
    (hf : ∀ x, (U main_v2 : FVec Ideal S8192x8x64 .f32) (ix3 r H x) = f x)
    (ha : ∀ y, (U main_v74 : FVec Ideal S8192x8x1 .f32) (ix3 r H y) = a)
    (hb : ∀ y, (U main_v75 : FVec Ideal S8192x8x1 .f32) (ix3 r H y) = b)
    (hc : ∀ y, (U main_v76 : FVec Ideal S8192x8x1 .f32) (ix3 r H y) = c)
    (hz : ∀ y, (U main_v73 : FVec Ideal S8192x8x61 .f32) (ix3 r H y) = z) :
    (StableHlo.after (List.drop 93 hostOps0) U main_v79 : FVec Ideal S8192x1024 .bf16) (ix2 r (gcol H l))
      = aug3 f a b c z l := by
  show (StableHlo.after (List.drop 94 hostOps0) (StableHlo.after (List.take 1 (List.drop 93 hostOps0)) U) main_v79
    : FVec Ideal S8192x1024 .bf16) (ix2 r (gcol H l)) = _
  rw [v_flat, head_col, lane_col]
  after_reads_at
  simp only [hf, ha, hb, hc, hz]
  rfl

theorem q_row (U : Val) (r : Fin 8192) (H : Fin 8) (l : Fin 128) :
    (StableHlo.after hostOps0 U main_v30 : FVec Ideal S8192x1024 .bf16) (ix2 r (gcol H l))
      = aug (fun x => flat (U main_arg0) r H x * eighth)
          (per (U main_arg3) r H) (part2 (per (U main_arg3) r H)) (part3 (per (U main_arg3) r H)) one one one 0 0 0 0 l := by
  show (StableHlo.after (List.drop 33 hostOps0) (StableHlo.after (List.take 33 hostOps0) U) main_v30
    : FVec Ideal S8192x1024 .bf16) (ix2 r (gcol H l)) = _
  rw [← aug6_eq]
  refine q_cat _ r H l _ _ _ _ _ _ _ _ ?_ ?_ ?_ ?_ ?_ ?_ ?_ ?_ <;> intro y <;> after_reads_at <;> rfl

theorem k_row (U : Val) (r : Fin 8192) (H : Fin 8) (l : Fin 128) :
    (StableHlo.after hostOps0 U main_v66 : FVec Ideal S8192x1024 .bf16) (ix2 r (gcol H l))
      = aug (fun x => flat (U main_arg1) r H x) one one one
          (-per (U main_arg3) r H) (part2 (-per (U main_arg3) r H)) (part3 (-per (U main_arg3) r H)) one one one 0 l := by
  show (StableHlo.after (List.drop 76 hostOps0) (StableHlo.after (List.take 76 hostOps0) U) main_v66
    : FVec Ideal S8192x1024 .bf16) (ix2 r (gcol H l)) = _
  refine k_cat _ r H l _ _ _ _ _ _ _ _ _ _ _ ?_ ?_ ?_ ?_ ?_ ?_ ?_ ?_ ?_ ?_ ?_ <;> intro y <;> after_reads_at <;> rfl

theorem v_row (U : Val) (r : Fin 8192) (H : Fin 8) (l : Fin 128) :
    (StableHlo.after hostOps0 U main_v79 : FVec Ideal S8192x1024 .bf16) (ix2 r (gcol H l))
      = aug3 (fun x => flat (U main_arg2) r H x) one one one 0 l := by
  show (StableHlo.after (List.drop 93 hostOps0) (StableHlo.after (List.take 93 hostOps0) U) main_v79
    : FVec Ideal S8192x1024 .bf16) (ix2 r (gcol H l)) = _
  refine v_cat _ r H l _ _ _ _ _ ?_ ?_ ?_ ?_ ?_ <;> intro y <;> after_reads_at <;> rfl

end Cert.AttnFwdIdeal.Run
end
-- ==== Proof.OnlineRow.lean ====
/- One row of softmax taken block by block: the greatest score so far, and the weighted sum against it. -/
module
public import proofs.«01_k».proof.Proof.RealLine
@[expose] public section
noncomputable section
namespace Cert.OnlineRow
open Cert.RealLine Idealize.ShloMosaic

/-- What one block does to the greatest score so far, -/
def upM (S : Fin 1024 → EReal) (M : EReal) : EReal := max M (Finset.fold max ⊥ S Finset.univ)
/-- and to one lane of the sum. -/
def upA (S V : Fin 1024 → EReal) (M A : EReal) : EReal := Ideal.exp (M - upM S M) * A + ∑ j, Ideal.exp (S j - upM S M) * V j

variable (sc : ℕ → ℝ) (vv : ℕ → Fin 128 → ℝ)

/-- After `n` keys: nothing yet, or a real level and the sums against it. -/
def Inv (n : ℕ) (M : EReal) (A : Fin 128 → EReal) : Prop :=
  (n = 0 ∧ M = ⊥ ∧ ∀ l, A l = 0) ∨ ∃ μ : ℝ, M = (μ : EReal) ∧ ∀ l, A l = ((∑ j ∈ Finset.range n, Real.exp (sc j - μ) * vv j l : ℝ) : EReal)

theorem exp_bot : Ideal.exp ⊥ = 0 := rfl

theorem exp_real (x : ℝ) : Ideal.exp (x : EReal) = (Real.exp x : EReal) := rfl

theorem top_real (r : ℕ) (x : ℕ → ℝ) (S : Fin 1024 → EReal) (hS : ∀ j, S j = if j.val ≤ r then (x j.val : EReal) else ⊥) (M : EReal) (hM : M ≠ ⊤) :
    ∃ μ : ℝ, upM S M = (μ : EReal) := by
  have hlt : upM S M < ⊤ := by
    unfold upM
    refine max_lt (lt_top_iff_ne_top.2 hM) ((Finset.fold_max_lt _).2 ⟨bot_lt_top, fun j _ => ?_⟩)
    rw [hS]; split
    · exact EReal.coe_lt_top _
    · exact bot_lt_top
  have hgt : ⊥ < upM S M := by
    unfold upM
    refine lt_max_of_lt_right ((Finset.lt_fold_max _).2 (.inr ⟨0, Finset.mem_univ _, ?_⟩))
    rw [hS, if_pos (show ((0 : Fin 1024)).val ≤ r from Nat.zero_le _)]
    exact EReal.bot_lt_coe _
  exact ⟨(upM S M).toReal, (EReal.coe_toReal hlt.ne hgt.ne').symm⟩

theorem sum_le (r : ℕ) (hr : r < 1024) (g : ℕ → ℝ) : ∑ j : Fin 1024, (if j.val ≤ r then g j.val else 0) = ∑ j ∈ Finset.range (r + 1), g j := by
  rw [Fin.sum_univ_eq_sum_range (fun j => if j ≤ r then g j else 0) 1024, ← Finset.sum_filter]
  refine Finset.sum_congr ?_ fun _ _ => rfl
  ext j; simp only [Finset.mem_filter, Finset.mem_range]; omega

/-- One block, its first `r + 1` scores counted. -/
theorem Inv.step {n : ℕ} {M : EReal} {A : Fin 128 → EReal} (h : Inv sc vv n M A) (r : ℕ) (hr : r < 1024) (S : Fin 1024 → EReal) (V : Fin 1024 → Fin 128 → EReal)
    (hS : ∀ j, S j = if j.val ≤ r then (sc (n + j.val) : EReal) else ⊥) (hV : ∀ j l, V j l = (vv (n + j.val) l : EReal)) :
    Inv sc vv (n + (r + 1)) (upM S M) fun l => upA S (fun j => V j l) M (A l) := by
  have hM : M ≠ ⊤ := by
    rcases h with ⟨_, h, _⟩ | ⟨μ, h, _⟩ <;> rw [h]
    · exact bot_ne_top
    · exact EReal.coe_ne_top _
  obtain ⟨ν, hν⟩ := top_real r (fun j => sc (n + j)) S hS M hM
  refine .inr ⟨ν, hν, fun l => ?_⟩
  have hnew : ∑ j, Ideal.exp (S j - upM S M) * V j l = ((∑ j ∈ Finset.range (r + 1), Real.exp (sc (n + j) - ν) * vv (n + j) l : ℝ) : EReal) := by
    rw [← sum_le r hr (fun j => Real.exp (sc (n + j) - ν) * vv (n + j) l), coe_sum]
    refine Finset.sum_congr rfl fun j _ => ?_
    rw [hν, hS, hV]
    by_cases hj : j.val ≤ r
    · rw [if_pos hj, if_pos hj, ← EReal.coe_sub, exp_real, ← EReal.coe_mul]
    · rw [if_neg hj, if_neg hj, EReal.bot_sub, exp_bot, zero_mul, EReal.coe_zero]
  have hold : Ideal.exp (M - upM S M) * A l = ((∑ j ∈ Finset.range n, Real.exp (sc j - ν) * vv j l : ℝ) : EReal) := by
    rw [hν]
    rcases h with ⟨rfl, hm, ha⟩ | ⟨μ, hm, ha⟩
    · rw [hm, ha, mul_zero, Finset.range_zero, Finset.sum_empty, EReal.coe_zero]
    · rw [hm, ha, ← EReal.coe_sub, exp_real, ← EReal.coe_mul, Finset.mul_sum]
      refine congrArg _ (Finset.sum_congr rfl fun j _ => ?_)
      rw [← mul_assoc, ← Real.exp_add]
      congr 2; ring
  show Ideal.exp (M - upM S M) * A l + ∑ j, Ideal.exp (S j - upM S M) * V j l = _
  rw [hnew, hold, ← EReal.coe_add]
  exact congrArg _ (Finset.sum_range_add _ n (r + 1)).symm

theorem Inv.zero : Inv sc vv 0 ⊥ fun _ => 0 := .inl ⟨rfl, rfl, fun _ => rfl⟩

/-- The sums of a row are the same against any level, once divided. -/
theorem shift (n : ℕ) (μ ν : ℝ) (f : ℕ → ℝ) : ∑ j ∈ Finset.range n, Real.exp (sc j - μ) * f j = Real.exp (ν - μ) * ∑ j ∈ Finset.range n, Real.exp (sc j - ν) * f j := by
  rw [Finset.mul_sum]
  refine Finset.sum_congr rfl fun j _ => ?_
  rw [← mul_assoc, ← Real.exp_add]
  congr 2; ring

/-- What is left of a row: its weighted mean and the logarithm of its sum, whatever level they were taken against. -/
theorem Inv.final {n : ℕ} (hn : n ≠ 0) {M : EReal} {A : Fin 128 → EReal} (h : Inv sc vv n M A) (L : ℝ) (hv : ∀ j, j < n → vv j 64 = 1)
    (hL : ∑ j ∈ Finset.range n, Real.exp (sc j - L) = 1) :
    (∀ l, Ideal.div (A l) (A 64) = ((∑ j ∈ Finset.range n, Real.exp (sc j - L) * vv j l : ℝ) : EReal)) ∧ M + Ideal.log (A 64) = (L : EReal) := by
  rcases h with ⟨h, _⟩ | ⟨μ, hm, ha⟩
  · exact absurd h hn
  have h64 : ∑ j ∈ Finset.range n, Real.exp (sc j - μ) * vv j 64 = Real.exp (L - μ) := by
    rw [shift sc n μ L]
    rw [Finset.sum_congr rfl (fun j hj => by rw [hv j (Finset.mem_range.1 hj), mul_one] : ∀ j ∈ Finset.range n, Real.exp (sc j - L) * vv j 64 = Real.exp (sc j - L)), hL, mul_one]
  have hpos := Real.exp_pos (L - μ)
  constructor
  · intro l
    rw [ha, ha, h64, div_real _ hpos.ne', shift sc n μ L, mul_div_assoc, mul_comm, div_mul_cancel₀ _ hpos.ne']
  · rw [ha, h64, hm]
    show (μ : EReal) + (if Real.exp (L - μ) ≤ 0 then ⊥ else (Real.log (Real.exp (L - μ)) : EReal)) = _
    rw [if_neg (not_le.2 hpos), Real.log_exp, ← EReal.coe_add]
    congr 1; ring

end Cert.OnlineRow
end
-- ==== Proof.AttnFwdTile.lean ====
/- One block of keys: what it does to a head's greatest scores and sums, row by row. -/
module
public import proofs.«01_k».proof.Proof.OnlineRow
public import proofs.«01_k».proof.Proof.Gen.AttnFwdIdeal.Frame
public import Idealize.ShloMosaic.Lib.Pipeline.ValueKit
public import Idealize.ShloMosaic.Lib.WordCmp
@[expose] public section
set_option maxRecDepth 16384
noncomputable section
namespace Cert.AttnFwdIdeal.Run
open Cert.AttnFwdIdeal Cert.AttnFwdIdeal.Gen Cert.OnlineRow
open Idealize.ShloMosaic Idealize.ShloMosaic.TcCoe Idealize.ShloMosaic.Tactic Idealize.SL.Sem

theorem least : Ideal.ofBits .f32 0xFF800000#32 = ⊥ := by simp [Ideal.ofBits, Ideal.ieee]

/-- The score of row `r` of the queries against row `j` of the keys. -/
def dot (q k : FVec Ideal S1024x128 .bf16) (r j : Fin 1024) : EReal := ∑ l : Fin 128, (q (ix2 r l) : EReal) * k (ix2 j l)

variable (q k v : FVec Ideal S1024x128 .bf16) (m : FVec Ideal S1024x1 .f32) (a : FVec Ideal S1024x128 .f32)

theorem score_tile (r j : Fin 1024) : k0_pay30 (F := Ideal) q k (ix2 r j) = dot q k r j := by
  unfold dot
  pointwise [k0_pay30, k0_pay26]

theorem row_max (s : FVec Ideal S1024x1024 .f32) (hr : S1024x1024.Reduces [1] S1024) (h1) (h2) (r : Fin 1024) :
    multiReduction .maximumf [1] S1024 s 0xFF800000#32 hr h1 h2 (ix1 r) = Finset.fold max ⊥ (fun j => (s (ix2 r j) : EReal)) Finset.univ := by
  refine (Ideal.multiReduction_maximumf_single s _ hr h1 h2 (ix1 r)).trans ?_
  rw [show (FloatOps.ofBits (F := Ideal) .f32 0xFF800000#32 : EReal) = ⊥ from least]
  refine congrArg (fun f : Fin 1024 → EReal => Finset.fold max ⊥ f Finset.univ) (funext fun j => congrArg s ?_)
  funext b
  match b with
  | ⟨0, _⟩ => rfl
  | ⟨1, _⟩ => rfl

theorem max_tile (r : Fin 1024) : k0_pay31 (F := Ideal) q m k (ix2 r 0) = upM (dot q k r) (m (ix2 r 0)) := by
  unfold upM
  rw [show dot q k r = fun j => k0_pay30 (F := Ideal) q k (ix2 r j) from funext fun j => (score_tile q k r j).symm,
    ← row_max (k0_pay30 (F := Ideal) q k) reduces_S1024x1024_S1024 (.inl rfl) rfl r]
  unfold k0_pay31
  generalize multiReduction .maximumf [1] S1024 (k0_pay30 (F := Ideal) q k) 0xFF800000#32 reduces_S1024x1024_S1024 (.inl rfl) rfl = s
  pointwise []

theorem sum_tile (r : Fin 1024) (l : Fin 128) : k0_pay32 (F := Ideal) q m a k v (ix2 r l)
    = upA (dot q k r) (fun j => v (ix2 j l)) (m (ix2 r 0)) (a (ix2 r l)) := by
  unfold upA
  pointwise [k0_pay32, score_tile, max_tile]

/-! ## The block on the diagonal -/

theorem score_diag (r j : Fin 1024) : k0_pay50 (F := Ideal) (k0_pay26 q) k (ix2 r j) = if j.val ≤ r.val then dot q k r j else ⊥ := by
  have hr := r.isLt
  have hj := j.isLt
  unfold dot
  rw [← least]
  pointwise [k0_pay50, k0_pay26]
  rw [show IntOp.addi (BitVec.ofNat 32 r.val) 0#32 = BitVec.ofNat 32 r.val from BitVec.add_zero _, WordCmp.cmpi_sge_ofNat (by omega) (by omega), WordCmp.select_decide]

theorem max_diag (r : Fin 1024) : k0_pay51 (F := Ideal) (k0_pay26 q) m k (ix2 r 0)
    = upM (fun j => if j.val ≤ r.val then dot q k r j else ⊥) (m (ix2 r 0)) := by
  unfold upM
  rw [show (fun j : Fin 1024 => if j.val ≤ r.val then dot q k r j else ⊥) = fun j => k0_pay50 (F := Ideal) (k0_pay26 q) k (ix2 r j) from funext fun j => (score_diag q k r j).symm,
    ← row_max (k0_pay50 (F := Ideal) (k0_pay26 q) k) reduces_S1024x1024_S1024 (.inl rfl) rfl r]
  unfold k0_pay51
  generalize multiReduction .maximumf [1] S1024 (k0_pay50 (F := Ideal) (k0_pay26 q) k) 0xFF800000#32 reduces_S1024x1024_S1024 (.inl rfl) rfl = s
  pointwise []

theorem sum_diag (r : Fin 1024) (l : Fin 128) : k0_pay52 (F := Ideal) (k0_pay26 q) m a k v (ix2 r l)
    = upA (fun j => if j.val ≤ r.val then dot q k r j else ⊥) (fun j => v (ix2 j l)) (m (ix2 r 0)) (a (ix2 r l)) := by
  unfold upA
  pointwise [k0_pay52, score_diag, max_diag]

/-! ## The same block, where the loop writes it again -/

theorem max_first : k0_pay3 (F := Ideal) (k0_pay26 q) m k = k0_pay31 q m k := rfl
theorem max_second : k0_pay10 (F := Ideal) (k0_pay26 q) m k = k0_pay31 q m k := rfl
theorem max_other : k0_pay7 (F := Ideal) (k0_pay27 q) m k = k0_pay31 q m k := rfl
theorem max_other' : k0_pay44 (F := Ideal) (k0_pay27 q) m k = k0_pay31 q m k := rfl
theorem max_one : k0_pay34 (F := Ideal) q m k = k0_pay31 q m k := rfl
theorem sum_one : k0_pay35 (F := Ideal) q m a k v = k0_pay32 q m a k v := rfl
theorem sum_other : k0_pay8 (F := Ideal) (k0_pay27 q) m a k v = k0_pay32 q m a k v := rfl
theorem sum_other' : k0_pay45 (F := Ideal) (k0_pay27 q) m a k v = k0_pay32 q m a k v := rfl
theorem sum_two (k' v' : FVec Ideal S1024x128 .bf16) :
    k0_pay42 (F := Ideal) (k0_pay11 (k0_pay26 q) (k0_pay3 (k0_pay26 q) m k) k')
        (k0_pay12 (k0_pay26 q) a (k0_pay3 (k0_pay26 q) m k) (k0_pay4 (k0_pay26 q) m k) (k0_pay5 (k0_pay26 q) m k) v k')
        (k0_pay13 v') (constant S1024x128 .f32 0x00000000#32)
      = k0_pay32 q (k0_pay31 q m k) (k0_pay32 q m a k v) k' v' := rfl
theorem max_edge : k0_pay57 (F := Ideal) (k0_pay27 q) m k = k0_pay51 (k0_pay26 q) m k := rfl
theorem sum_edge : k0_pay58 (F := Ideal) (k0_pay27 q) m a k v = k0_pay52 (k0_pay26 q) m a k v := rfl

end Cert.AttnFwdIdeal.Run
end
-- ==== Proof.AttnFwdLoop.lean ====
/- Where the loops of one block of queries read, and how often they turn. -/
module
public import proofs.«01_k».proof.Proof.AttnFwdTile
@[expose] public section
set_option maxRecDepth 16384
noncomputable section
namespace Cert.AttnFwdIdeal.Run
open Cert.AttnFwdIdeal Cert.AttnFwdIdeal.Gen Cert.OnlineRow
open Idealize.ShloMosaic Idealize.ShloMosaic.TcCoe Idealize.ShloMosaic.Tactic Idealize.SL.Sem

theorem trips1 : ∀ i : grid0.Coords, (k0_t1_loop i).trips = (i 1).val % 2 := by decide +kernel
theorem trips2 : ∀ i : grid0.Coords, (k0_t2_loop i).trips = 0 := by decide +kernel
theorem trips3 : ∀ i : grid0.Coords, (k0_t3_loop i).trips = (i 1).val / 2 := by decide +kernel
theorem trips4 : ∀ i : grid0.Coords, (k0_t4_loop i).trips = 0 := by decide +kernel

theorem off1 : ∀ (i : grid0.Coords) (k : Fin (k0_t1_loop i).trips),
    (k0_off1 i k 0 = 1024 * k.val ∧ k0_off1 i k 1 = 0) ∧ k0_off2 i k 0 = 1024 * k.val ∧ k0_off2 i k 1 = 128 := by decide +kernel
theorem off5 : ∀ (i : grid0.Coords) (k : Fin (k0_t3_loop i).trips),
    (k0_off5 i k 0 = 1024 * ((i 1).val % 2 + 2 * k.val) ∧ k0_off5 i k 1 = 0)
      ∧ k0_off6 i k 0 = 1024 * ((i 1).val % 2 + 2 * k.val) ∧ k0_off6 i k 1 = 128 := by decide +kernel
theorem off7 : ∀ (i : grid0.Coords) (k : Fin (k0_t3_loop i).trips),
    (k0_off7 i k 0 = 1024 * ((i 1).val % 2 + 2 * k.val) + 1024 ∧ k0_off7 i k 1 = 0)
      ∧ k0_off8 i k 0 = 1024 * ((i 1).val % 2 + 2 * k.val) + 1024 ∧ k0_off8 i k 1 = 128 := by decide +kernel
theorem off13 : ∀ i : grid0.Coords, (k0_off13 i 0 = 1024 * (i 1).val ∧ k0_off13 i 1 = 0)
      ∧ k0_off14 i 0 = 1024 * (i 1).val ∧ k0_off14 i 1 = 128 := by decide +kernel

/-- Lane `l` of one of the two heads of a block. -/
def lane (h : Fin 2) (l : Fin 128) : Fin 256 := ⟨128 * h.val + l.val, by omega⟩

/-- A window of 1024 rows and one head's lanes, entry by entry. -/
theorem ld_at {N : ℕ} (x : Vec Ideal ⟨2, ![N, 256]⟩ .bf16) (off : Fin 2 → ℕ) (inb) (h : Fin 2) (n : ℕ) (h0 : off 0 = n) (h1 : off 1 = 128 * h.val) (r : Fin 1024) (l : Fin 128) (hn : n + r.val < N) :
    (View.ld (Val := Elt Ideal) x (Rect.unit (s := ⟨2, ![N, 256]⟩) off ![1024, 128] inb) (ix2 r l) : EReal) = x (ix2 ⟨n + r.val, hn⟩ (lane h l)) := by
  refine congrArg x ?_
  funext b
  match b with
  | ⟨0, _⟩ => exact Fin.ext (by show off 0 + 1 * r.val = n + r.val; omega)
  | ⟨1, _⟩ => exact Fin.ext (by show off 1 + 1 * l.val = 128 * h.val + l.val; omega)

/-! ## A block of queries against the keys -/

/-- What the scores and the values of one block come to, as real numbers. -/
structure Blk (x0 : FVec Ideal S1024x256 .bf16) (x1 x2 : FVec Ideal S8192x256 .bf16) (z : Fin 2 → Fin 1024 → ℕ → ℝ) (w : Fin 2 → ℕ → Fin 128 → ℝ) : Prop where
  score : ∀ h r s (hs : s < 8192), ∑ l : Fin 128, (x0 (ix2 r (lane h l)) : EReal) * x1 (ix2 ⟨s, hs⟩ (lane h l)) = (z h r s : EReal)
  val : ∀ h s (hs : s < 8192) l, (x2 (ix2 ⟨s, hs⟩ (lane h l)) : EReal) = (w h s l : EReal)

/-- The greatest scores and the sums of the two heads. -/
abbrev St := FVec Ideal S1024x1 .f32 × FVec Ideal S1024x128 .f32 × FVec Ideal S1024x1 .f32 × FVec Ideal S1024x128 .f32

/-- Each row after `n` keys. -/
def Seen (z : Fin 2 → Fin 1024 → ℕ → ℝ) (w : Fin 2 → ℕ → Fin 128 → ℝ) (n : ℕ) (S : St) : Prop :=
  ∀ r, Inv (z 0 r) (w 0) n (S.1 (ix2 r 0)) (fun l => S.2.1 (ix2 r l)) ∧ Inv (z 1 r) (w 1) n (S.2.2.1 (ix2 r 0)) (fun l => S.2.2.2 (ix2 r l))

variable {x0 : FVec Ideal S1024x256 .bf16} {x1 x2 : FVec Ideal S8192x256 .bf16} {z : Fin 2 → Fin 1024 → ℕ → ℝ} {w : Fin 2 → ℕ → Fin 128 → ℝ}

/-- One block of keys before the diagonal. -/
theorem Blk.tile (B : Blk x0 x1 x2 z w) (h : Fin 2) (n : ℕ) (hn : n + 1024 ≤ 8192) (q k v : FVec Ideal S1024x128 .bf16) (m : FVec Ideal S1024x1 .f32) (a : FVec Ideal S1024x128 .f32)
    (hq : ∀ r l, (q (ix2 r l) : EReal) = x0 (ix2 r (lane h l)))
    (hk : ∀ (j : Fin 1024) l, (k (ix2 j l) : EReal) = x1 (ix2 ⟨n + j.val, by omega⟩ (lane h l)))
    (hv : ∀ (j : Fin 1024) l, (v (ix2 j l) : EReal) = x2 (ix2 ⟨n + j.val, by omega⟩ (lane h l))) (r : Fin 1024)
    (H : Inv (z h r) (w h) n (m (ix2 r 0)) (fun l => a (ix2 r l))) :
    Inv (z h r) (w h) (n + 1024) (k0_pay31 q m k (ix2 r 0)) (fun l => k0_pay32 q m a k v (ix2 r l)) := by
  simp only [max_tile, sum_tile]
  refine H.step (z h r) (w h) 1023 (by omega) (dot q k r) (fun j l => v (ix2 j l)) (fun j => ?_) (fun j l => (hv j l).trans (B.val h _ _ l))
  have hj := j.isLt
  rw [if_pos (by omega), ← B.score h r (n + j.val) (by omega)]
  unfold dot
  exact Finset.sum_congr rfl fun l _ => by rw [hq, hk]

/-- The block of keys on the diagonal. -/
theorem Blk.edge (B : Blk x0 x1 x2 z w) (h : Fin 2) (n : ℕ) (hn : n + 1024 ≤ 8192) (q k v : FVec Ideal S1024x128 .bf16) (m : FVec Ideal S1024x1 .f32) (a : FVec Ideal S1024x128 .f32)
    (hq : ∀ r l, (q (ix2 r l) : EReal) = x0 (ix2 r (lane h l)))
    (hk : ∀ (j : Fin 1024) l, (k (ix2 j l) : EReal) = x1 (ix2 ⟨n + j.val, by omega⟩ (lane h l)))
    (hv : ∀ (j : Fin 1024) l, (v (ix2 j l) : EReal) = x2 (ix2 ⟨n + j.val, by omega⟩ (lane h l))) (r : Fin 1024)
    (H : Inv (z h r) (w h) n (m (ix2 r 0)) (fun l => a (ix2 r l))) :
    Inv (z h r) (w h) (n + (r.val + 1)) (k0_pay51 (k0_pay26 q) m k (ix2 r 0)) (fun l => k0_pay52 (k0_pay26 q) m a k v (ix2 r l)) := by
  simp only [max_diag, sum_diag]
  refine H.step (z h r) (w h) r.val r.isLt _ (fun j l => v (ix2 j l)) (fun j => if_congr Iff.rfl ?_ rfl) (fun j l => (hv j l).trans (B.val h _ _ l))
  have hj := j.isLt
  rw [← B.score h r (n + j.val) (by omega)]
  unfold dot
  exact Finset.sum_congr rfl fun l _ => by rw [hq, hk]

/-- At the start no key is counted. -/
theorem seen_zero : Seen z w 0 (k0_pay28, k0_pay29, k0_pay28, k0_pay29) := by
  have hm : ∀ r : Fin 1024, (k0_pay28 (F := Ideal) (ix2 r 0) : EReal) = ⊥ := fun r => by rw [← least]; pointwise [k0_pay28]
  have ha : ∀ (r : Fin 1024) (l : Fin 128), (k0_pay29 (F := Ideal) (ix2 r l) : EReal) = 0 := fun r l => by pointwise [k0_pay29]
  exact fun r => ⟨.inl ⟨rfl, hm r, ha r⟩, .inl ⟨rfl, hm r, ha r⟩⟩

end Cert.AttnFwdIdeal.Run
end
-- ==== Proof.AttnFwdState.lean ====
/- The loops of one block of queries, turn by turn, and what the block leaves. -/
module
public import proofs.«01_k».proof.Proof.AttnFwdLoop
@[expose] public section
set_option maxRecDepth 16384
noncomputable section
namespace Cert.AttnFwdIdeal.Run
open Cert.AttnFwdIdeal Cert.AttnFwdIdeal.Gen Cert.OnlineRow
open Idealize.ShloMosaic Idealize.ShloMosaic.TcCoe Idealize.ShloMosaic.Tactic Idealize.SL.Sem

variable (c : Dev nD) (i : grid0.Coords) (a2 : Memref sig .tc .vmem S1024x256 .bf16) (h2 : a2.IsWhole) (a3 : Memref sig .tc .vmem S8192x256 .bf16) (h3 : a3.IsWhole) (a4 : Memref sig .tc .vmem S8192x256 .bf16) (h4 : a4.IsWhole) (a5 : Memref sig .tc .vmem S1024x128 .f32) (h5 : a5.IsWhole) (a6 : Memref sig .tc .vmem S1024x128 .f32) (h6 : a6.IsWhole) (a7 : Memref sig .tc .vmem S1024x128 .bf16) (h7 : a7.IsWhole) (x0 : Vec Ideal S1024x256 .bf16) (x1 x2 : Vec Ideal S8192x256 .bf16)

/-- The first head's queries and the second's. -/
def qa : Vec Ideal S1024x128 .bf16 := View.ld (Val := Elt Ideal) (e' := .bf16) x0 (Rect.unit (s := S1024x256) ![0, 0] ![1024, 128] inb_S1024x256_S1024x128_0_0)
def qb : Vec Ideal S1024x128 .bf16 := View.ld (Val := Elt Ideal) (e' := .bf16) x0 (Rect.unit (s := S1024x256) ![0, 128] ![1024, 128] inb_S1024x256_S1024x128_0_128)

theorem qa_at (r : Fin 1024) (l : Fin 128) : (qa x0 (ix2 r l) : EReal) = x0 (ix2 r (lane 0 l)) := by
  refine (ld_at x0 _ inb_S1024x256_S1024x128_0_0 0 0 rfl rfl r l (by omega)).trans (congrArg (fun s => x0 (ix2 s _)) (Fin.ext (Nat.zero_add _)))
theorem qb_at (r : Fin 1024) (l : Fin 128) : (qb x0 (ix2 r l) : EReal) = x0 (ix2 r (lane 1 l)) := by
  refine (ld_at x0 _ inb_S1024x256_S1024x128_0_128 1 0 rfl rfl r l (by omega)).trans (congrArg (fun s => x0 (ix2 s _)) (Fin.ext (Nat.zero_add _)))

/-- A window of an array, where the printed offsets put it. -/
def win (x : Vec Ideal S8192x256 .bf16) (off : Fin 2 → ℕ) (inb : ∀ a, off a + S1024x128.size a ≤ S8192x256.size a) : Vec Ideal S1024x128 .bf16 :=
  View.ld (Val := Elt Ideal) (e' := .bf16) x (Rect.unit (s := S8192x256) off ![1024, 128] inb)

/-- The state after each of the four loops. -/
def s1 : St := st_k0_t1 (F := Ideal) Variants.none c none i a2 h2 a3 h3 a4 h4 a5 h5 a6 h6 a7 h7 (qa x0) (qb x0) (h3.unread x1) (h4.unread x2) (k0_pay28, k0_pay29, k0_pay28, k0_pay29) (k0_t1_loop i).trips
def s2 : St := st_k0_t2 (F := Ideal) Variants.none c none i a2 h2 a3 h3 a4 h4 a5 h5 a6 h6 a7 h7 (qa x0) (qb x0) (h3.unread x1) (h4.unread x2) (s1 c i a2 h2 a3 h3 a4 h4 a5 h5 a6 h6 a7 h7 x0 x1 x2) (k0_t2_loop i).trips
def t3 (n : ℕ) : St := st_k0_t3 (F := Ideal) Variants.none c none i a2 h2 a3 h3 a4 h4 a5 h5 a6 h6 a7 h7 (BitVec.ofNat 32 (i 1).val) (k0_pay26 (qa x0)) (k0_pay27 (qb x0)) (s2 c i a2 h2 a3 h3 a4 h4 a5 h5 a6 h6 a7 h7 x0 x1 x2).1 (s2 c i a2 h2 a3 h3 a4 h4 a5 h5 a6 h6 a7 h7 x0 x1 x2).2.1 (s2 c i a2 h2 a3 h3 a4 h4 a5 h5 a6 h6 a7 h7 x0 x1 x2).2.2.1 (s2 c i a2 h2 a3 h3 a4 h4 a5 h5 a6 h6 a7 h7 x0 x1 x2).2.2.2 (kernelRun0_A.sl.v24 i) (kernelRun0_A.sl.v35 i) (kernelRun0_A.sl.v36 i) (h3.unread x1) (h4.unread x2) (s2 c i a2 h2 a3 h3 a4 h4 a5 h5 a6 h6 a7 h7 x0 x1 x2) n
def s4 : St := st_k0_t4 (F := Ideal) Variants.none c none i a2 h2 a3 h3 a4 h4 a5 h5 a6 h6 a7 h7 (BitVec.ofNat 32 (i 1).val) (k0_pay26 (qa x0)) (k0_pay27 (qb x0)) (s2 c i a2 h2 a3 h3 a4 h4 a5 h5 a6 h6 a7 h7 x0 x1 x2).1 (s2 c i a2 h2 a3 h3 a4 h4 a5 h5 a6 h6 a7 h7 x0 x1 x2).2.1 (s2 c i a2 h2 a3 h3 a4 h4 a5 h5 a6 h6 a7 h7 x0 x1 x2).2.2.1 (s2 c i a2 h2 a3 h3 a4 h4 a5 h5 a6 h6 a7 h7 x0 x1 x2).2.2.2 (kernelRun0_A.sl.v24 i) (kernelRun0_A.sl.v35 i) (kernelRun0_A.sl.v36 i) (kernelRun0_A.sl.v45 i) (h3.unread x1) (h4.unread x2) (t3 c i a2 h2 a3 h3 a4 h4 a5 h5 a6 h6 a7 h7 x0 x1 x2 (k0_t3_loop i).trips) (k0_t4_loop i).trips

theorem s4_eq : s4 c i a2 h2 a3 h3 a4 h4 a5 h5 a6 h6 a7 h7 x0 x1 x2 = t3 c i a2 h2 a3 h3 a4 h4 a5 h5 a6 h6 a7 h7 x0 x1 x2 ((i 1).val / 2) := by
  unfold s4
  rw [trips4, trips3]
  rfl
theorem s2_eq : s2 c i a2 h2 a3 h3 a4 h4 a5 h5 a6 h6 a7 h7 x0 x1 x2 = s1 c i a2 h2 a3 h3 a4 h4 a5 h5 a6 h6 a7 h7 x0 x1 x2 := by
  unfold s2
  rw [trips2]
  rfl

/-- One turn of the first loop. -/
theorem turn1 (k : Fin (k0_t1_loop i).trips) (S : St) :
    tripR_k0_t1 (F := Ideal) Variants.none c none i a2 h2 a3 h3 a4 h4 a5 h5 a6 h6 a7 h7 (qa x0) (qb x0) (h3.unread x1) (h4.unread x2) k S
      = (k0_pay31 (qa x0) S.1 (win x1 (k0_off1 i k) (k0_off1_inb i k)), k0_pay32 (qa x0) S.1 S.2.1 (win x1 (k0_off1 i k) (k0_off1_inb i k)) (win x2 (k0_off1 i k) (k0_off1_inb i k)),
        k0_pay31 (qb x0) S.2.2.1 (win x1 (k0_off2 i k) (k0_off2_inb i k)), k0_pay32 (qb x0) S.2.2.1 S.2.2.2 (win x1 (k0_off2 i k) (k0_off2_inb i k)) (win x2 (k0_off2 i k) (k0_off2_inb i k))) := by
  unfold tripR_k0_t1 trip_k0_t1 win
  dsimp only
  simp only [View.readAt_eq_ld, Memref.IsWhole.read_unread]
  rfl

/-- One turn of the third loop: two blocks of keys. -/
theorem turn3 (arg1) (p0 p1 p2 p3 v24 v35 v36) (k : Fin (k0_t3_loop i).trips) (S : St) :
    tripR_k0_t3 (F := Ideal) Variants.none c none i a2 h2 a3 h3 a4 h4 a5 h5 a6 h6 a7 h7 arg1 (k0_pay26 (qa x0)) (k0_pay27 (qb x0)) p0 p1 p2 p3 v24 v35 v36 (h3.unread x1) (h4.unread x2) k S
      = (k0_pay31 (qa x0) (k0_pay31 (qa x0) S.1 (win x1 (k0_off5 i k) (k0_off5_inb i k))) (win x1 (k0_off7 i k) (k0_off7_inb i k)),
        k0_pay32 (qa x0) (k0_pay31 (qa x0) S.1 (win x1 (k0_off5 i k) (k0_off5_inb i k))) (k0_pay32 (qa x0) S.1 S.2.1 (win x1 (k0_off5 i k) (k0_off5_inb i k)) (win x2 (k0_off5 i k) (k0_off5_inb i k)))
          (win x1 (k0_off7 i k) (k0_off7_inb i k)) (win x2 (k0_off7 i k) (k0_off7_inb i k)),
        k0_pay31 (qb x0) (k0_pay31 (qb x0) S.2.2.1 (win x1 (k0_off6 i k) (k0_off6_inb i k))) (win x1 (k0_off8 i k) (k0_off8_inb i k)),
        k0_pay32 (qb x0) (k0_pay31 (qb x0) S.2.2.1 (win x1 (k0_off6 i k) (k0_off6_inb i k))) (k0_pay32 (qb x0) S.2.2.1 S.2.2.2 (win x1 (k0_off6 i k) (k0_off6_inb i k)) (win x2 (k0_off6 i k) (k0_off6_inb i k)))
          (win x1 (k0_off8 i k) (k0_off8_inb i k)) (win x2 (k0_off8 i k) (k0_off8_inb i k))) := by
  unfold tripR_k0_t3 trip_k0_t3 win
  dsimp only
  sl_unfold_words
  simp only [View.readAt_eq_ld, Memref.IsWhole.read_unread]
  rfl

end Cert.AttnFwdIdeal.Run
end
-- ==== Proof.AttnFwdWord.lean ====
/- The loops of one block of queries, turn by turn, and what the block leaves. -/
module
public import proofs.«01_k».proof.Proof.AttnFwdState
@[expose] public section
set_option maxRecDepth 16384
noncomputable section
namespace Cert.AttnFwdIdeal.Run
open Cert.AttnFwdIdeal Cert.AttnFwdIdeal.Gen Cert.OnlineRow
open Idealize.ShloMosaic Idealize.ShloMosaic.TcCoe Idealize.ShloMosaic.Tactic Idealize.SL.Sem

variable (c : Dev nD) (i : grid0.Coords) (a2 : Memref sig .tc .vmem S1024x256 .bf16) (h2 : a2.IsWhole) (a3 : Memref sig .tc .vmem S8192x256 .bf16) (h3 : a3.IsWhole) (a4 : Memref sig .tc .vmem S8192x256 .bf16) (h4 : a4.IsWhole) (a5 : Memref sig .tc .vmem S1024x128 .f32) (h5 : a5.IsWhole) (a6 : Memref sig .tc .vmem S1024x128 .f32) (h6 : a6.IsWhole) (a7 : Memref sig .tc .vmem S1024x128 .bf16) (h7 : a7.IsWhole) (x0 : Vec Ideal S1024x256 .bf16) (x1 x2 : Vec Ideal S8192x256 .bf16)

theorem word_q : kernelRun0_A.sl.r (F := Ideal) c a2 h2 x0 = k0_pay26 (qa x0) := by
  unfold kernelRun0_A.sl.r qa
  simp only [View.readAt_eq_ld, Memref.IsWhole.read_unread]
  try rfl
theorem word_q' : kernelRun0_A.sl.r_1 (F := Ideal) c a2 h2 x0 = k0_pay27 (qb x0) := by
  unfold kernelRun0_A.sl.r_1 qb
  simp only [View.readAt_eq_ld, Memref.IsWhole.read_unread]
  try rfl
theorem word_2 : kernelRun0_A.sl.r_2 (F := Ideal) c i a2 h2 a3 h3 a4 h4 a5 h5 a6 h6 a7 h7 x0 x1 x2 = (s2 c i a2 h2 a3 h3 a4 h4 a5 h5 a6 h6 a7 h7 x0 x1 x2).1 := by
  unfold kernelRun0_A.sl.r_2 s2 s1 qa qb
  simp only [View.readAt_eq_ld, Memref.IsWhole.read_unread]
theorem word_3 : kernelRun0_A.sl.r_3 (F := Ideal) c i a2 h2 a3 h3 a4 h4 a5 h5 a6 h6 a7 h7 x0 x1 x2 = (s2 c i a2 h2 a3 h3 a4 h4 a5 h5 a6 h6 a7 h7 x0 x1 x2).2.1 := by
  unfold kernelRun0_A.sl.r_3 s2 s1 qa qb
  simp only [View.readAt_eq_ld, Memref.IsWhole.read_unread]
theorem word_4 : kernelRun0_A.sl.r_4 (F := Ideal) c i a2 h2 a3 h3 a4 h4 a5 h5 a6 h6 a7 h7 x0 x1 x2 = (s2 c i a2 h2 a3 h3 a4 h4 a5 h5 a6 h6 a7 h7 x0 x1 x2).2.2.1 := by
  unfold kernelRun0_A.sl.r_4 s2 s1 qa qb
  simp only [View.readAt_eq_ld, Memref.IsWhole.read_unread]
theorem word_5 : kernelRun0_A.sl.r_5 (F := Ideal) c i a2 h2 a3 h3 a4 h4 a5 h5 a6 h6 a7 h7 x0 x1 x2 = (s2 c i a2 h2 a3 h3 a4 h4 a5 h5 a6 h6 a7 h7 x0 x1 x2).2.2.2 := by
  unfold kernelRun0_A.sl.r_5 s2 s1 qa qb
  simp only [View.readAt_eq_ld, Memref.IsWhole.read_unread]
theorem word_6 : kernelRun0_A.sl.r_6 (F := Ideal) c i a2 h2 a3 h3 a4 h4 a5 h5 a6 h6 a7 h7 x0 x1 x2 = (s4 c i a2 h2 a3 h3 a4 h4 a5 h5 a6 h6 a7 h7 x0 x1 x2).2.2.1 := by
  unfold kernelRun0_A.sl.r_6 s4 t3
  rw [word_2, word_3, word_4, word_5, word_q, word_q']
  try rfl
theorem word_7 : kernelRun0_A.sl.r_7 (F := Ideal) c i a2 h2 a3 h3 a4 h4 a5 h5 a6 h6 a7 h7 x0 x1 x2 = (s4 c i a2 h2 a3 h3 a4 h4 a5 h5 a6 h6 a7 h7 x0 x1 x2).2.2.2 := by
  unfold kernelRun0_A.sl.r_7 s4 t3
  rw [word_2, word_3, word_4, word_5, word_q, word_q']
  try rfl
theorem word_8 : kernelRun0_A.sl.r_8 (F := Ideal) c i a2 h2 a3 h3 a4 h4 a5 h5 a6 h6 a7 h7 x0 x1 x2 = k0_pay54 (k0_pay26 (qa x0)) (s4 c i a2 h2 a3 h3 a4 h4 a5 h5 a6 h6 a7 h7 x0 x1 x2).1 (s4 c i a2 h2 a3 h3 a4 h4 a5 h5 a6 h6 a7 h7 x0 x1 x2).2.1 (win x1 (k0_off13 i) (k0_off13_inb i)) (win x2 (k0_off13 i) (k0_off13_inb i)) := by
  unfold kernelRun0_A.sl.r_8 s4 t3 win
  rw [word_2, word_3, word_4, word_5, word_q, word_q']
  simp only [View.readAt_eq_ld, Memref.IsWhole.read_unread]
  try rfl
theorem word_9 : kernelRun0_A.sl.r_9 (F := Ideal) c i a2 h2 a3 h3 a4 h4 a5 h5 a6 h6 a7 h7 x0 x1 x2 = k0_pay55 (k0_pay26 (qa x0)) (s4 c i a2 h2 a3 h3 a4 h4 a5 h5 a6 h6 a7 h7 x0 x1 x2).1 (s4 c i a2 h2 a3 h3 a4 h4 a5 h5 a6 h6 a7 h7 x0 x1 x2).2.1 (win x1 (k0_off13 i) (k0_off13_inb i)) (win x2 (k0_off13 i) (k0_off13_inb i)) := by
  unfold kernelRun0_A.sl.r_9 s4 t3 win
  rw [word_2, word_3, word_4, word_5, word_q, word_q']
  simp only [View.readAt_eq_ld, Memref.IsWhole.read_unread]
  try rfl
theorem hz : (![0, 0] : Fin 2 → ℕ) = fun _ => 0 := by decide
/-- What the block leaves, from the state the loops end in. -/
theorem out3 : out0_A_3 (F := Ideal) c i a2 h2 a3 h3 a4 h4 a5 h5 a6 h6 a7 h7 x0 x1 x2
    = k0_pay60 (iota Kind.tc S1024x128 32 [1] iota_S1024x128_d1_w32) (k0_pay27 (qb x0)) (s4 c i a2 h2 a3 h3 a4 h4 a5 h5 a6 h6 a7 h7 x0 x1 x2).2.2.1 (s4 c i a2 h2 a3 h3 a4 h4 a5 h5 a6 h6 a7 h7 x0 x1 x2).2.2.2
        (k0_pay54 (k0_pay26 (qa x0)) (s4 c i a2 h2 a3 h3 a4 h4 a5 h5 a6 h6 a7 h7 x0 x1 x2).1 (s4 c i a2 h2 a3 h3 a4 h4 a5 h5 a6 h6 a7 h7 x0 x1 x2).2.1 (win x1 (k0_off13 i) (k0_off13_inb i)) (win x2 (k0_off13 i) (k0_off13_inb i)))
        (win x1 (k0_off14 i) (k0_off14_inb i)) (win x2 (k0_off14 i) (k0_off14_inb i)) := by
  unfold out0_A_3
  rw [View.read_writes_junk_eq_canon]
  unfold kernelRun0_A
  dsimp only
  rw [View.canon_unit_zero hz]
  rw [word_q', word_6, word_7, word_8]
  simp only [View.readAt_eq_ld, Memref.IsWhole.read_unread]
  unfold win
  rfl
theorem out4 : out0_A_4 (F := Ideal) c i a2 h2 a3 h3 a4 h4 a5 h5 a6 h6 a7 h7 x0 x1 x2
    = k0_pay1 (k0_pay62 (iota Kind.tc S1024x128 32 [1] iota_S1024x128_d1_w32))
        (k0_pay63 (k0_pay55 (k0_pay26 (qa x0)) (s4 c i a2 h2 a3 h3 a4 h4 a5 h5 a6 h6 a7 h7 x0 x1 x2).1 (s4 c i a2 h2 a3 h3 a4 h4 a5 h5 a6 h6 a7 h7 x0 x1 x2).2.1 (win x1 (k0_off13 i) (k0_off13_inb i)) (win x2 (k0_off13 i) (k0_off13_inb i))))
        (k0_pay64 (k0_pay27 (qb x0)) (s4 c i a2 h2 a3 h3 a4 h4 a5 h5 a6 h6 a7 h7 x0 x1 x2).2.2.1 (s4 c i a2 h2 a3 h3 a4 h4 a5 h5 a6 h6 a7 h7 x0 x1 x2).2.2.2 (win x1 (k0_off14 i) (k0_off14_inb i)) (win x2 (k0_off14 i) (k0_off14_inb i))) := by
  unfold out0_A_4
  rw [View.read_writes_junk_eq_canon]
  unfold kernelRun0_A
  dsimp only
  rw [View.canon_unit_zero hz]
  unfold kernelRun0_A.sl.r_10 kernelRun0_A.sl.r_11
  rw [word_q', word_6, word_7, word_9]
  simp only [View.readAt_eq_ld, Memref.IsWhole.read_unread]
  unfold win
  rfl
theorem out5 : out0_A_5 (F := Ideal) c i a2 h2 a3 h3 a4 h4 a5 h5 a6 h6 a7 h7 x0 x1 x2
    = k0_pay61 (iota Kind.tc S1024x128 32 [1] iota_S1024x128_d1_w32) (k0_pay27 (qb x0)) (s4 c i a2 h2 a3 h3 a4 h4 a5 h5 a6 h6 a7 h7 x0 x1 x2).2.2.1 (s4 c i a2 h2 a3 h3 a4 h4 a5 h5 a6 h6 a7 h7 x0 x1 x2).2.2.2
        (k0_pay54 (k0_pay26 (qa x0)) (s4 c i a2 h2 a3 h3 a4 h4 a5 h5 a6 h6 a7 h7 x0 x1 x2).1 (s4 c i a2 h2 a3 h3 a4 h4 a5 h5 a6 h6 a7 h7 x0 x1 x2).2.1 (win x1 (k0_off13 i) (k0_off13_inb i)) (win x2 (k0_off13 i) (k0_off13_inb i)))
        (win x1 (k0_off14 i) (k0_off14_inb i)) (win x2 (k0_off14 i) (k0_off14_inb i)) := by
  unfold out0_A_5
  rw [View.read_writes_junk_eq_canon]
  unfold kernelRun0_A
  dsimp only
  rw [View.canon_unit_zero hz]
  rw [word_q', word_6, word_7, word_8]
  simp only [View.readAt_eq_ld, Memref.IsWhole.read_unread]
  unfold win
  rfl
end Cert.AttnFwdIdeal.Run
end
-- ==== Proof.AttnFwdSeen.lean ====
/- Every row of a block of queries, once its loops are through. -/
module
public import proofs.«01_k».proof.Proof.AttnFwdWord
@[expose] public section
set_option maxRecDepth 16384
noncomputable section
namespace Cert.AttnFwdIdeal.Run
open Cert.AttnFwdIdeal Cert.AttnFwdIdeal.Gen Cert.OnlineRow
open Idealize.ShloMosaic Idealize.ShloMosaic.TcCoe Idealize.ShloMosaic.Tactic Idealize.SL.Sem

variable (c : Dev nD) (i : grid0.Coords) (a2 : Memref sig .tc .vmem S1024x256 .bf16) (h2 : a2.IsWhole) (a3 : Memref sig .tc .vmem S8192x256 .bf16) (h3 : a3.IsWhole) (a4 : Memref sig .tc .vmem S8192x256 .bf16) (h4 : a4.IsWhole) (a5 : Memref sig .tc .vmem S1024x128 .f32) (h5 : a5.IsWhole) (a6 : Memref sig .tc .vmem S1024x128 .f32) (h6 : a6.IsWhole) (a7 : Memref sig .tc .vmem S1024x128 .bf16) (h7 : a7.IsWhole) (x0 : Vec Ideal S1024x256 .bf16) (x1 x2 : Vec Ideal S8192x256 .bf16)
variable {z : Fin 2 → Fin 1024 → ℕ → ℝ} {w : Fin 2 → ℕ → Fin 128 → ℝ}

theorem win_at (x : Vec Ideal S8192x256 .bf16) (off : Fin 2 → ℕ) (inb) (h : Fin 2) (n : ℕ) (e : off 0 = n ∧ off 1 = 128 * h.val) (hn : n + 1024 ≤ 8192) (j : Fin 1024) (l : Fin 128) :
    (win x off inb (ix2 j l) : EReal) = x (ix2 ⟨n + j.val, by omega⟩ (lane h l)) :=
  ld_at x off inb h n e.1 e.2 j l (by omega)

theorem seen1 (B : Blk x0 x1 x2 z w) (n : ℕ) (hn : n ≤ (k0_t1_loop i).trips) :
    Seen z w (1024 * n) (st_k0_t1 (F := Ideal) Variants.none c none i a2 h2 a3 h3 a4 h4 a5 h5 a6 h6 a7 h7 (qa x0) (qb x0) (h3.unread x1) (h4.unread x2) (k0_pay28, k0_pay29, k0_pay28, k0_pay29) n) := by
  induction n with
  | zero => exact seen_zero
  | succ n ih =>
    have hs := ih (by omega)
    have ht := trips1 i
    have o := off1 i ⟨n, by omega⟩
    refine (st_k0_t1_succ (F := Ideal) Variants.none c none i a2 h2 a3 h3 a4 h4 a5 h5 a6 h6 a7 h7 (qa x0) (qb x0) (h3.unread x1) (h4.unread x2) (k0_pay28, k0_pay29, k0_pay28, k0_pay29) ⟨n, by omega⟩).symm ▸ ?_
    rw [turn1]
    intro r
    exact ⟨B.tile 0 (1024 * n) (by omega) _ _ _ _ _ (qa_at x0) (win_at x1 _ _ 0 _ o.1 (by omega)) (win_at x2 _ _ 0 _ o.1 (by omega)) r (hs r).1,
      B.tile 1 (1024 * n) (by omega) _ _ _ _ _ (qb_at x0) (win_at x1 _ _ 1 _ o.2 (by omega)) (win_at x2 _ _ 1 _ o.2 (by omega)) r (hs r).2⟩

theorem seen2 (B : Blk x0 x1 x2 z w) : Seen z w (1024 * ((i 1).val % 2)) (s2 c i a2 h2 a3 h3 a4 h4 a5 h5 a6 h6 a7 h7 x0 x1 x2) := by
  rw [s2_eq]
  have h := seen1 c i a2 h2 a3 h3 a4 h4 a5 h5 a6 h6 a7 h7 x0 x1 x2 B (k0_t1_loop i).trips le_rfl
  rw [trips1] at h
  unfold s1
  rw [trips1]
  exact h

theorem seen3 (B : Blk x0 x1 x2 z w) (n : ℕ) (hn : n ≤ (k0_t3_loop i).trips) : Seen z w (1024 * ((i 1).val % 2 + 2 * n)) (t3 c i a2 h2 a3 h3 a4 h4 a5 h5 a6 h6 a7 h7 x0 x1 x2 n) := by
  induction n with
  | zero => exact seen2 c i a2 h2 a3 h3 a4 h4 a5 h5 a6 h6 a7 h7 x0 x1 x2 B
  | succ n ih =>
    have hs := ih (by omega)
    have ht := trips3 i
    have hi : (i 1).val < 8 := (i 1).isLt
    have o := off5 i ⟨n, by omega⟩
    have o' := off7 i ⟨n, by omega⟩
    have e : t3 c i a2 h2 a3 h3 a4 h4 a5 h5 a6 h6 a7 h7 x0 x1 x2 (n + 1) = _ := st_k0_t3_succ (F := Ideal) Variants.none c none i a2 h2 a3 h3 a4 h4 a5 h5 a6 h6 a7 h7 (BitVec.ofNat 32 (i 1).val) (k0_pay26 (qa x0)) (k0_pay27 (qb x0)) (s2 c i a2 h2 a3 h3 a4 h4 a5 h5 a6 h6 a7 h7 x0 x1 x2).1 (s2 c i a2 h2 a3 h3 a4 h4 a5 h5 a6 h6 a7 h7 x0 x1 x2).2.1 (s2 c i a2 h2 a3 h3 a4 h4 a5 h5 a6 h6 a7 h7 x0 x1 x2).2.2.1 (s2 c i a2 h2 a3 h3 a4 h4 a5 h5 a6 h6 a7 h7 x0 x1 x2).2.2.2 (kernelRun0_A.sl.v24 i) (kernelRun0_A.sl.v35 i) (kernelRun0_A.sl.v36 i) (h3.unread x1) (h4.unread x2) (s2 c i a2 h2 a3 h3 a4 h4 a5 h5 a6 h6 a7 h7 x0 x1 x2) ⟨n, by omega⟩
    rw [e, turn3]
    intro r
    exact ⟨B.tile 0 (1024 * ((i 1).val % 2 + 2 * n) + 1024) (by omega) _ _ _ _ _ (qa_at x0) (win_at x1 _ _ 0 _ o'.1 (by omega)) (win_at x2 _ _ 0 _ o'.1 (by omega)) r
        (B.tile 0 (1024 * ((i 1).val % 2 + 2 * n)) (by omega) _ _ _ _ _ (qa_at x0) (win_at x1 _ _ 0 _ o.1 (by omega)) (win_at x2 _ _ 0 _ o.1 (by omega)) r (hs r).1),
      B.tile 1 (1024 * ((i 1).val % 2 + 2 * n) + 1024) (by omega) _ _ _ _ _ (qb_at x0) (win_at x1 _ _ 1 _ o'.2 (by omega)) (win_at x2 _ _ 1 _ o'.2 (by omega)) r
        (B.tile 1 (1024 * ((i 1).val % 2 + 2 * n)) (by omega) _ _ _ _ _ (qb_at x0) (win_at x1 _ _ 1 _ o.2 (by omega)) (win_at x2 _ _ 1 _ o.2 (by omega)) r (hs r).2)⟩

/-- All the keys before the diagonal block. -/
theorem seen4 (B : Blk x0 x1 x2 z w) : Seen z w (1024 * (i 1).val) (s4 c i a2 h2 a3 h3 a4 h4 a5 h5 a6 h6 a7 h7 x0 x1 x2) := by
  have h := seen3 c i a2 h2 a3 h3 a4 h4 a5 h5 a6 h6 a7 h7 x0 x1 x2 B ((i 1).val / 2) (trips3 i).ge
  rw [s4_eq]
  have e : 1024 * ((i 1).val % 2 + 2 * ((i 1).val / 2)) = 1024 * (i 1).val := by omega
  rw [e] at h
  exact h

/-- The greatest scores and the sums with the diagonal block. -/
def endM (h : Fin 2) : FVec Ideal S1024x1 .f32 :=
  if h = 0 then k0_pay51 (k0_pay26 (qa x0)) (s4 c i a2 h2 a3 h3 a4 h4 a5 h5 a6 h6 a7 h7 x0 x1 x2).1 (win x1 (k0_off13 i) (k0_off13_inb i))
  else k0_pay51 (k0_pay26 (qb x0)) (s4 c i a2 h2 a3 h3 a4 h4 a5 h5 a6 h6 a7 h7 x0 x1 x2).2.2.1 (win x1 (k0_off14 i) (k0_off14_inb i))
def endA (h : Fin 2) : FVec Ideal S1024x128 .f32 :=
  if h = 0 then k0_pay52 (k0_pay26 (qa x0)) (s4 c i a2 h2 a3 h3 a4 h4 a5 h5 a6 h6 a7 h7 x0 x1 x2).1 (s4 c i a2 h2 a3 h3 a4 h4 a5 h5 a6 h6 a7 h7 x0 x1 x2).2.1 (win x1 (k0_off13 i) (k0_off13_inb i)) (win x2 (k0_off13 i) (k0_off13_inb i))
  else k0_pay52 (k0_pay26 (qb x0)) (s4 c i a2 h2 a3 h3 a4 h4 a5 h5 a6 h6 a7 h7 x0 x1 x2).2.2.1 (s4 c i a2 h2 a3 h3 a4 h4 a5 h5 a6 h6 a7 h7 x0 x1 x2).2.2.2 (win x1 (k0_off14 i) (k0_off14_inb i)) (win x2 (k0_off14 i) (k0_off14_inb i))

theorem ended (B : Blk x0 x1 x2 z w) (h : Fin 2) (r : Fin 1024) :
    Inv (z h r) (w h) (1024 * (i 1).val + (r.val + 1)) (endM c i a2 h2 a3 h3 a4 h4 a5 h5 a6 h6 a7 h7 x0 x1 x2 h (ix2 r 0)) (fun l => endA c i a2 h2 a3 h3 a4 h4 a5 h5 a6 h6 a7 h7 x0 x1 x2 h (ix2 r l)) := by
  have hs := seen4 c i a2 h2 a3 h3 a4 h4 a5 h5 a6 h6 a7 h7 x0 x1 x2 B r
  have hi : (i 1).val < 8 := (i 1).isLt
  have o := off13 i
  match h with
  | ⟨0, _⟩ => exact B.edge 0 (1024 * (i 1).val) (by omega) _ _ _ _ _ (qa_at x0) (win_at x1 _ _ 0 _ o.1 (by omega)) (win_at x2 _ _ 0 _ o.1 (by omega)) r hs.1
  | ⟨1, _⟩ => exact B.edge 1 (1024 * (i 1).val) (by omega) _ _ _ _ _ (qb_at x0) (win_at x1 _ _ 1 _ o.2 (by omega)) (win_at x2 _ _ 1 _ o.2 (by omega)) r hs.2

/-- Half and lane of a column of the block left. -/
def colHead (j : Fin 128) : Fin 2 := ⟨j.val / 64, by omega⟩
def colLane (j : Fin 128) : Fin 128 := ⟨j.val % 64, by omega⟩

/-- The first head's lanes below 64, the second's turned behind them. -/
theorem two (f : Fin 2 → Fin 128 → EReal) (j : Fin 128) :
    Scalar.select (IntOp.cmpi .slt (BitVec.ofNat 32 j.val) 64#32) (f 0 j) (f 1 ⟨(j.val + 128 - 64) % 128, by omega⟩) = f (colHead j) (colLane j) := by
  have hj := j.isLt
  rw [show (64#32 : BitVec 32) = BitVec.ofNat 32 64 from rfl, WordCmp.cmpi_slt_ofNat (by omega) (by omega), WordCmp.select_decide]
  unfold colHead colLane
  by_cases h : j.val < 64
  · rw [if_pos h]
    exact congrArg₂ f (Fin.ext (by show 0 = j.val / 64; omega)) (Fin.ext (by show j.val = j.val % 64; omega))
  · rw [if_neg h]
    exact congrArg₂ f (Fin.ext (by show 1 = j.val / 64; omega)) (Fin.ext (by show (j.val + 128 - 64) % 128 = j.val % 64; omega))

/-- The quotient of a head's lane by its lane of ones. -/
def quot (h : Fin 2) (r : Fin 1024) (l : Fin 128) : EReal := Ideal.div (endA c i a2 h2 a3 h3 a4 h4 a5 h5 a6 h6 a7 h7 x0 x1 x2 h (ix2 r l)) (endA c i a2 h2 a3 h3 a4 h4 a5 h5 a6 h6 a7 h7 x0 x1 x2 h (ix2 r 64))
/-- A head's level and the logarithm of its sum. -/
def level (h : Fin 2) (r : Fin 1024) : EReal := endM c i a2 h2 a3 h3 a4 h4 a5 h5 a6 h6 a7 h7 x0 x1 x2 h (ix2 r 0) + Ideal.log (endA c i a2 h2 a3 h3 a4 h4 a5 h5 a6 h6 a7 h7 x0 x1 x2 h (ix2 r 64))

theorem quot_a (q k v : FVec Ideal S1024x128 .bf16) (m : FVec Ideal S1024x1 .f32) (a : FVec Ideal S1024x128 .f32) (r : Fin 1024) (l : Fin 128) :
    k0_pay54 (F := Ideal) q m a k v (ix2 r l) = Ideal.div (k0_pay52 q m a k v (ix2 r l)) (k0_pay52 q m a k v (ix2 r 64)) := by
  pointwise [k0_pay54, k0_pay53]
theorem level_a (q k v : FVec Ideal S1024x128 .bf16) (m : FVec Ideal S1024x1 .f32) (a : FVec Ideal S1024x128 .f32) (r : Fin 1024) :
    k0_pay55 (F := Ideal) q m a k v (ix2 r 0) = k0_pay51 q m k (ix2 r 0) + Ideal.log (k0_pay52 q m a k v (ix2 r 64)) := by
  pointwise [k0_pay55, k0_pay53]

theorem out3_at (r : Fin 1024) (j : Fin 128) : out0_A_3 (F := Ideal) c i a2 h2 a3 h3 a4 h4 a5 h5 a6 h6 a7 h7 x0 x1 x2 (ix2 r j) = quot c i a2 h2 a3 h3 a4 h4 a5 h5 a6 h6 a7 h7 x0 x1 x2 (colHead j) r (colLane j) := by
  rw [out3, ← two (fun h l => quot c i a2 h2 a3 h3 a4 h4 a5 h5 a6 h6 a7 h7 x0 x1 x2 h r l) j]
  pointwise [k0_pay60, k0_pay59, quot_a]
  rfl
theorem out5_at (r : Fin 1024) (j : Fin 128) : out0_A_5 (F := Ideal) c i a2 h2 a3 h3 a4 h4 a5 h5 a6 h6 a7 h7 x0 x1 x2 (ix2 r j) = quot c i a2 h2 a3 h3 a4 h4 a5 h5 a6 h6 a7 h7 x0 x1 x2 (colHead j) r (colLane j) := by
  rw [out5, ← out3_at, out3]
  rfl
theorem out4_at (r : Fin 1024) (j : Fin 128) : out0_A_4 (F := Ideal) c i a2 h2 a3 h3 a4 h4 a5 h5 a6 h6 a7 h7 x0 x1 x2 (ix2 r j) = level c i a2 h2 a3 h3 a4 h4 a5 h5 a6 h6 a7 h7 x0 x1 x2 (colHead j) r := by
  rw [out4, ← two (fun h _ => level c i a2 h2 a3 h3 a4 h4 a5 h5 a6 h6 a7 h7 x0 x1 x2 h r) j]
  pointwise [k0_pay1, k0_pay62, k0_pay63, k0_pay64, k0_pay59, level_a]
  rfl

end Cert.AttnFwdIdeal.Run
end
-- ==== Proof.AttnFwdValue.lean ====
/- The three arrays the forward kernel leaves are those of the plain attention. -/
module
public import proofs.«01_k».proof.Proof.AttnFwdReal
public import proofs.«01_k».proof.Proof.AttnFwdRows
public import proofs.«01_k».proof.Proof.AttnFwdSeen
public import Idealize.ShloMosaic.Lib.Pipeline.ValueKit
@[expose] public section
set_option maxRecDepth 16384
noncomputable section
namespace Cert.AttnFwdIdeal.Run
open Cert.AttnFwdIdeal Cert.AttnFwdIdeal.Gen Cert.OnlineRow Cert.AttnFwdEq
open Cert.AttnBwdEq (Args)
open Cert.AttnBwdIdeal.Run (gcol flat headOfCol rowLse score)
open Cert.RealLine
open Cert.AttnFwdRefIdeal.Read
open Idealize.ShloMosaic Idealize.ShloMosaic.TcCoe Idealize.ShloMosaic.Tactic Idealize.SL.Sem
open Idealize.ShloMosaic.Pipeline (Dat)
open Idealize.SL.RA Idealize.SL

variable (m : (ℓ : Loc nD τ sig) → Buf (Elt Ideal) ℓ) (c : Dev nD)

/-- The memory of one device. -/
abbrev own : Val := fun b => m (c, b)

/-- The arguments in the memory of one device, every entry a real number. -/
abbrev Own := Args (own m c main_arg0) (own m c main_arg1) (own m c main_arg2) (own m c main_arg2) (own m c main_arg3)

theorem idx : ∀ t : Fin cfg0.N, win0_0.index t = ![t.val % 8, t.val / 8] ∧ win0_1.index t = ![0, t.val / 8] ∧ win0_2.index t = ![0, t.val / 8]
    ∧ win0_3.index t = ![t.val % 8, t.val / 8] ∧ win0_4.index t = ![t.val % 8, t.val / 8] ∧ win0_5.index t = ![t.val % 8, t.val / 8] ∧ t.val / 8 < 4 :=
  (by decide +kernel : ∀ t : Fin grid0.N, _)
theorem coord1 : ∀ t : Fin cfg0.N, (grid0.coords t 1).val = t.val % 8 := (by decide +kernel : ∀ t : Fin grid0.N, _)

/-- Head `h` of point `t`'s pair, row `r` of its block of queries, column `j` of its block of results. -/
def headOf (t : Fin cfg0.N) (h : Fin 2) : Fin 8 := ⟨2 * (t.val / 8) + h.val, by have := (idx t).2.2.2.2.2.2; omega⟩
def rowOf (t : Fin cfg0.N) (r : Fin 1024) : Fin 8192 := ⟨1024 * (t.val % 8) + r.val, by omega⟩
def colOf (t : Fin cfg0.N) (j : Fin 128) : Fin 512 := ⟨128 * (t.val / 8) + j.val, by have := (idx t).2.2.2.2.2.2; omega⟩

theorem head_of (t : Fin cfg0.N) (j : Fin 128) : headOf t (colHead j) = headOfCol (colOf t j) :=
  Fin.ext (by show 2 * (t.val / 8) + j.val / 64 = (128 * (t.val / 8) + j.val) / 64; omega)

theorem read_q (X : FVec Ideal S8192x1024 .bf16) (t : Fin cfg0.N) (r : Fin 1024) (h : Fin 2) (l : Fin 128) :
    ((cfg0.win 0).blk t).view.read (Elt Ideal) X (ix2 r (lane h l)) = X (ix2 (rowOf t r) (gcol (headOf t h) l)) := by
  unfold gcol headOf rowOf lane
  blk_ext [idx t]
theorem read_k (X : FVec Ideal S8192x1024 .bf16) (t : Fin cfg0.N) (s : Fin 8192) (h : Fin 2) (l : Fin 128) :
    ((cfg0.win 1).blk t).view.read (Elt Ideal) X (ix2 s (lane h l)) = X (ix2 s (gcol (headOf t h) l)) := by
  unfold gcol headOf lane
  blk_ext [idx t]
theorem read_v (X : FVec Ideal S8192x1024 .bf16) (t : Fin cfg0.N) (s : Fin 8192) (h : Fin 2) (l : Fin 128) :
    ((cfg0.win 2).blk t).view.read (Elt Ideal) X (ix2 s (lane h l)) = X (ix2 s (gcol (headOf t h) l)) := by
  unfold gcol headOf lane
  blk_ext [idx t]

/-- The three results of the plain attention on the arguments of a device. -/
def goalO (c : Dev nD) : FVec Ideal S8192x512 .f32 := val_main_v43 (F := Ideal) (own m c main_arg0) (own m c main_arg1) (own m c main_arg2) (own m c main_arg3)
def goalL (c : Dev nD) : FVec Ideal S8192x512 .f32 := val_main_v47 (F := Ideal) (own m c main_arg0) (own m c main_arg1) (own m c main_arg3)
def goalN (c : Dev nD) : FVec Ideal S8192x512 .bf16 := val_main_v48 (F := Ideal) (own m c main_arg0) (own m c main_arg1) (own m c main_arg2) (own m c main_arg3)

variable {m c} (A : Own m c)
include A

/-- The blocks of a point in real numbers. -/
theorem blocks (t : Fin cfg0.N) : Blk (iblk m c 0 t) (iblk m c 1 t) (iblk m c 2 t)
    (fun h r s => scoreN A (headOf t h) (rowOf t r) s) (fun h s l => valN A (headOf t h) s l) := by
  refine ⟨fun h r s hs => ?_, fun h s hs l => ?_⟩
  · refine Eq.trans ?_ ((packed_score A (headOf t h) (rowOf t r) ⟨s, hs⟩).trans (congrArg _ (scoreN_eq A _ _ ⟨s, hs⟩).symm))
    refine Finset.sum_congr rfl fun l _ => congrArg₂ (HMul.hMul (α := EReal) (β := EReal) (γ := EReal)) ?_ ?_
    · exact (read_q (V m c main_v30) t r h l).trans (q_row (own m c) (rowOf t r) (headOf t h) l)
    · exact (read_k (V m c main_v66) t ⟨s, hs⟩ h l).trans (k_row (own m c) ⟨s, hs⟩ (headOf t h) l)
  · refine (read_v (V m c main_v79) t ⟨s, hs⟩ h l).trans ((v_row (own m c) ⟨s, hs⟩ (headOf t h) l).trans ?_)
    refine (valLane_eq _ _ (fun x => A.v_eq _ _ x) l).trans (congrArg _ (valN_eq A _ ⟨s, hs⟩ l).symm)

/-- What a row of a point's block ends with. -/
theorem row_end (t : Fin cfg0.N) (h : Fin 2) (r : Fin 1024) :
    (∀ l, quot c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) h r l = ((∑ s, A.p (headOf t h) (rowOf t r) s * valLane (A.V s (headOf t h)) l : ℝ) : EReal))
      ∧ level c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) h r = (top A (headOf t h) (rowOf t r) : EReal) := by
  have hE := ended c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (blocks A t) h r
  rw [coord1] at hE
  have hf := Inv.final _ _ (Nat.succ_ne_zero _) hE (top A (headOf t h) (rowOf t r))
    (fun j (hj : j < 1024 * (t.val % 8) + (r.val + 1)) => valN_one A _ j (by have := r.isLt; omega)) (weights A (headOf t h) (rowOf t r))
  exact ⟨fun l => (hf.1 l).trans (congrArg _ (weighted A (headOf t h) (rowOf t r) l)), hf.2⟩

theorem o_eq (t : Fin cfg0.N) (r : Fin 1024) (j : Fin 128) : quot c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (colHead j) r (colLane j)
    = val_main_v43 (F := Ideal) (own m c main_arg0) (own m c main_arg1) (own m c main_arg2) (own m c main_arg3) (ix2 (rowOf t r) (colOf t j)) := by
  rw [(row_end A t (colHead j) r).1, ref_out _ _ _ _ Cert.SoftmaxRow.lowest_eq, head_of, coe_sum]
  refine Finset.sum_congr rfl fun s _ => ?_
  have hj : (colLane j).val < 64 := by show j.val % 64 < 64; omega
  rw [A.div_eq, A.v_eq, ← EReal.coe_mul, valLane_lo _ _ hj, mul_comm]
  refine congrArg (fun x => ((A.V s (headOfCol (colOf t j)) x * _ : ℝ) : EReal)) (Fin.ext ?_)
  show j.val % 64 = (128 * (t.val / 8) + j.val) % 64
  omega

theorem l_eq (t : Fin cfg0.N) (r : Fin 1024) (j : Fin 128) : level c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (colHead j) r
    = val_main_v47 (F := Ideal) (own m c main_arg0) (own m c main_arg1) (own m c main_arg3) (ix2 (rowOf t r) (colOf t j)) := by
  rw [(row_end A t (colHead j) r).2, ref_level, head_of]
  exact (A.row _ _).lse_eq.symm

omit A in
theorem place3 (t : Fin cfg0.N) (r : Fin 1024) (j : Fin 128) : ((cfg0.win 3).blk t).view.emb (ix2 r j) = ix2 (rowOf t r) (colOf t j) := by
  unfold rowOf colOf
  blk_ext [idx t]
omit A in
theorem place4 (t : Fin cfg0.N) (r : Fin 1024) (j : Fin 128) : ((cfg0.win 4).blk t).view.emb (ix2 r j) = ix2 (rowOf t r) (colOf t j) := by
  unfold rowOf colOf
  blk_ext [idx t]
omit A in
theorem place5 (t : Fin cfg0.N) (r : Fin 1024) (j : Fin 128) : ((cfg0.win 5).blk t).view.emb (ix2 r j) = ix2 (rowOf t r) (colOf t j) := by
  unfold rowOf colOf
  blk_ext [idx t]

section
variable {c : Dev nD} (D : Dat τ (Elt Ideal) Unit ℕ (UR sig nD τ) ℕ cfg0 c)
omit A in
theorem arr3 (G : FVec Ideal S8192x512 .f32)
    (hD : ∀ (t : Fin cfg0.N) (r : Fin 1024) (j : Fin 128), ((D.after 3 t : FVec Ideal S1024x128 .f32) (ix2 r j) : EReal) = G (ix2 (rowOf t r) (colOf t j))) :
    D.arrAt 3 cfg0.N = G := by
  refine D.arrAt_eq_of_covers 3 _ (by decide +kernel) fun t hf y => ?_
  blk_simp
  idx_vars y
  exact (hD t y0 y1).trans (congrArg G (place3 t y0 y1)).symm
omit A in
theorem arr4 (G : FVec Ideal S8192x512 .f32)
    (hD : ∀ (t : Fin cfg0.N) (r : Fin 1024) (j : Fin 128), ((D.after 4 t : FVec Ideal S1024x128 .f32) (ix2 r j) : EReal) = G (ix2 (rowOf t r) (colOf t j))) :
    D.arrAt 4 cfg0.N = G := by
  refine D.arrAt_eq_of_covers 4 _ (by decide +kernel) fun t hf y => ?_
  blk_simp
  idx_vars y
  exact (hD t y0 y1).trans (congrArg G (place4 t y0 y1)).symm
omit A in
theorem arr5 (G : FVec Ideal S8192x512 .bf16)
    (hD : ∀ (t : Fin cfg0.N) (r : Fin 1024) (j : Fin 128), ((D.after 5 t : FVec Ideal S1024x128 .bf16) (ix2 r j) : EReal) = G (ix2 (rowOf t r) (colOf t j))) :
    D.arrAt 5 cfg0.N = G := by
  refine D.arrAt_eq_of_covers 5 _ (by decide +kernel) fun t hf y => ?_
  blk_simp
  idx_vars y
  exact (hD t y0 y1).trans (congrArg G (place5 t y0 y1)).symm

end

theorem left3 (t : Fin cfg0.N) (r : Fin 1024) (j : Fin 128) : (((dats m 0 c).after 3 t : FVec Ideal S1024x128 .f32) (ix2 r j) : EReal)
    = goalO m c (ix2 (rowOf t r) (colOf t j)) := by
  rw [after0_3]
  unfold outsAt0
  dsimp only
  rw [out3_at]
  exact o_eq A t r j

theorem final_o : (dats m 0 c).arrAt 3 (cfgs 0).N = goalO m c := by
  refine arr3 _ _ fun t r j => ?_
  exact left3 A t r j

theorem left4 (t : Fin cfg0.N) (r : Fin 1024) (j : Fin 128) : (((dats m 0 c).after 4 t : FVec Ideal S1024x128 .f32) (ix2 r j) : EReal)
    = goalL m c (ix2 (rowOf t r) (colOf t j)) := by
  rw [after0_4]
  unfold outsAt0
  dsimp only
  rw [out4_at]
  exact l_eq A t r j

theorem final_lse : (dats m 0 c).arrAt 4 (cfgs 0).N = goalL m c := by
  refine arr4 _ _ fun t r j => ?_
  exact left4 A t r j

theorem left5 (t : Fin cfg0.N) (r : Fin 1024) (j : Fin 128) : (((dats m 0 c).after 5 t : FVec Ideal S1024x128 .bf16) (ix2 r j) : EReal)
    = goalN m c (ix2 (rowOf t r) (colOf t j)) := by
  rw [after0_5]
  unfold outsAt0
  dsimp only
  rw [out5_at]
  exact (o_eq A t r j).trans (ref_narrow _ _ _ _ _ _).symm

theorem final_narrow : (dats m 0 c).arrAt 5 (cfgs 0).N = goalN m c := by
  refine arr5 _ _ fun t r j => ?_
  exact left5 A t r j

end Cert.AttnFwdIdeal.Run
end
-- ==== Proof.AttnFwdClaims.lean ====
/- The claims about the pair `AttnFwd`. -/
module

public import proofs.«01_k».proof.Proof.AttnFwdValue
public import proofs.«01_k».proof.Proof.Gen.AttnFwd
public import proofs.«01_k».proof.Proof.Gen.AttnFwd.Frame
public import proofs.«01_k».proof.Proof.Gen.AttnFwdRefIdeal.Run
public import proofs.«01_k».proof.Proof.Gen.Pre_finite_attn_fwd
public import proofs.«01_k».proof.Defs

@[expose] public section

set_option maxRecDepth 16384

noncomputable section

namespace Cert.AttnFwdEq

open Idealize.ShloMosaic Idealize.ShloMosaic.TcCoe Idealize.ShloMosaic.Tactic Idealize.SL Idealize.SL.Sem
open Cert.RealLine
open Cert.AttnBwdEq (Args)
open Cert.AttnFwdIdeal.Run (own Own final_o final_lse final_narrow)

theorem frame_p : Cert.quiescent_AttnFwd := fun m ρ _ => Cert.AttnFwd.Gen.frame (F := Bits) m ρ

theorem frame_pi : Cert.quiescent_AttnFwdIdeal := fun m ρ _ => Cert.AttnFwdIdeal.Gen.frame (F := Ideal) m ρ

theorem frame_ri : Cert.quiescent_AttnFwdRefIdeal := fun m ρ _ =>
  (θ_run Cert.AttnFwdRefIdeal.defs _ _).mono (fun r h => ⟨fun c => (h c).2.2.2, sem_eq_zero_of_no_sems (by decide) r.2⟩)
    (Cert.AttnFwdRefIdeal.Value.run (F := Ideal) m ρ)

instance : Subsingleton Cert.Pre_finite_attn_fwd.S_.Idx := ⟨fun a b => funext fun k => k.elim0⟩

/-- What the precondition says: the four arguments are real. -/
theorem real_of_pre {q k v : FVec Ideal Cert.AttnFwdIdeal.S8192x512 .f32} {c : FVec Ideal Cert.AttnFwdIdeal.S8192x8 .f32}
    (h : Cert.Pre_finite_attn_fwd.fn (F := Ideal) q k v c = fun _ => 1#1) :
    (∀ i, IsReal (q i)) ∧ (∀ i, IsReal (k i)) ∧ (∀ i, IsReal (v i)) ∧ ∀ i, IsReal (c i) := by
  have h := congrFun h ix0
  unfold Cert.Pre_finite_attn_fwd.fn at h
  obtain ⟨h, h3⟩ := and_one h
  obtain ⟨h, h2⟩ := and_one h
  obtain ⟨h0, h1⟩ := and_one h
  exact ⟨fun i => all_real (fun _ => rfl) h0 i, fun i => all_real (fun _ => rfl) h1 i, fun i => all_real (fun _ => rfl) h2 i,
    fun i => all_real (fun _ => rfl) h3 i⟩

section Kernel
open Cert.AttnFwdIdeal Cert.AttnFwdIdeal.Gen

/-- What the kernel leaves: its three arrays as its blocks leave them, and its arguments as they were. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v80_0) = (dats m 0 c).arrAt 3 (cfgs 0).N
      ∧ r.2.mem ((c.tc : Thread nD τ).loc main_v80_1) = (dats m 0 c).arrAt 4 (cfgs 0).N
      ∧ r.2.mem ((c.tc : Thread nD τ).loc main_v80_2) = (dats m 0 c).arrAt 5 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => ⟨(h.1 c).1 3, (h.1 c).1 4, (h.1 c).1 5, h.2.1 c⟩)
    (θ_run_and (run_main m ρ) (frame m ρ))

end Kernel

theorem algebraic : Cert.algebraic_AttnFwdIdeal_AttnFwdRefIdeal_pre_finite_attn_fwd := by
  intro m g m' g' hpre hagree
  refine ⟨_, _, _, run_values m g, ?_⟩
  refine (θ_run Cert.AttnFwdRefIdeal.defs _ _).mono (fun r h c => ?_) (Cert.AttnFwdRefIdeal.Value.run (F := Ideal) m' g')
  obtain ⟨h0, h1, h2, hargs⟩ := h c
  obtain ⟨a0, a1, a2, a3⟩ := hagree c
  obtain ⟨rq, rk, rv, rc⟩ := real_of_pre (hpre c)
  obtain ⟨A⟩ : Nonempty (Own m c) := Args.of_real rq rk rv rv rc
  refine ⟨h0.trans ?_, h1.trans ?_, h2.trans ?_, hargs⟩
  · rw [Cert.AttnFwdRefIdeal.Read.val_main_v43_eq, a0, a1, a2, a3]
    exact (final_o A).symm
  · rw [Cert.AttnFwdRefIdeal.Read.val_main_v47_eq, a0, a1, a3]
    exact (final_lse A).symm
  · rw [Cert.AttnFwdRefIdeal.Read.val_main_v48_eq, a0, a1, a2, a3]
    exact (final_narrow A).symm

end Cert.AttnFwdEq

end
-- ==== Proof.GmlpBwdHost.lean ====
/- The array of ones that the host prepares for the kernel of `GmlpBwdIdeal`: one where both indices lie in the same group of 64. -/
module

public import proofs.«01_k».proof.Proof.Gen.GmlpBwdIdeal.Value
public import Idealize.ShloMosaic.Lib.Pipeline.ValueKit
public import Idealize.ShloMosaic.Lib.Pipeline.ReadBack
public import Idealize.ShloMosaic.Lib.Pointwise
public import Idealize.ShloMosaic.Lib.WordCmp
public import Idealize.ShloMosaic.Lib.StableHlo.ReadAt

@[expose] public section

set_option maxRecDepth 16384

noncomputable section

namespace Cert.GmlpBwdIdeal.Rows

open Cert.GmlpBwdIdeal Cert.GmlpBwdIdeal.Gen Idealize.ShloMosaic Idealize.ShloMosaic.TcCoe Idealize.SL.Sem

variable (m : (ℓ : Loc nD τ sig) → Buf (Elt Ideal) ℓ)

/-- Word 1 or 0 as a float. -/
theorem word_one (b : Bool) : FloatOps.uitofp (F := Ideal) .bf16 (BitVec.ofBool b) = if b then (1 : EReal) else 0 := by
  show (((BitVec.ofBool b).toNat : ℝ) : EReal) = _
  cases b <;> simp

theorem whole (x : BitVec 32) : ¬ IntOp.SDivCorner x 64#32 := fun h => h.elim (by decide) fun h => absurd h.2 (by decide)

theorem quotient (x : BitVec 32) : IntOp.divsi ArithUnit.host x 64#32 = x.sdiv 64#32 := if_neg (whole x)

theorem remainder (x : BitVec 32) : IntOp.remsi ArithUnit.host x 64#32 = x.srem 64#32 := if_neg (whole x)

/-- The host's floor division by 64, on the indices. -/
theorem group : ∀ p : Fin 512,
    Scalar.select
        (IntOp.andi
          (IntOp.cmpi CmpIPredicate.ne (if BitVec.ofNat 32 (p : ℕ) = 0 then (0 : BitVec 32) else if (BitVec.ofNat 32 (p : ℕ)).msb = true then -1 else 1)
            (if (64#32 : BitVec 32) = 0 then (0 : BitVec 32) else if BitVec.msb (64#32 : BitVec 32) = true then -1 else 1))
          (IntOp.cmpi CmpIPredicate.ne (IntOp.remsi ArithUnit.host (BitVec.ofNat 32 (p : ℕ)) 64#32) 0#32))
        (IntOp.subi (IntOp.divsi ArithUnit.host (BitVec.ofNat 32 (p : ℕ)) 64#32) 1#32)
        (IntOp.divsi ArithUnit.host (BitVec.ofNat 32 (p : ℕ)) 64#32) = BitVec.ofNat 32 ((p : ℕ) / 64) := by
  intro p
  rw [quotient, remainder]
  revert p
  decide +kernel

theorem V_ones (c : Dev nD) (p q : Fin 512) : (V m c main_v10 : FVec Ideal S512x512 .bf16) (ix2 p q) = if (p : ℕ) / 64 = q / 64 then (1 : EReal) else 0 := by
  unfold V
  after_reads_at
  refine (congrArg (FloatOps.uitofp (F := Ideal) .bf16) (congrArg₂ (IntOp.cmpi CmpIPredicate.eq) (group p) (group q))).trans ?_
  rw [show IntOp.cmpi CmpIPredicate.eq (BitVec.ofNat 32 ((p : ℕ) / 64)) (BitVec.ofNat 32 ((q : ℕ) / 64)) = BitVec.ofBool (decide ((p : ℕ) / 64 = (q : ℕ) / 64)) from
    WordCmp.cmpi_eq_ofNat (by omega) (by omega), word_one]
  simp only [decide_eq_true_eq]

end Cert.GmlpBwdIdeal.Rows

end
-- ==== Proof.GmlpBwdValue.lean ====
/- What the kernel of `GmlpBwdIdeal` leaves in its array of the bias gradient: sums over the chunks and over each group of 64 columns. -/
module

public import proofs.«01_k».proof.Proof.GmlpBwdHost
public import proofs.«01_k».proof.Proof.RealLine

@[expose] public section

set_option maxRecDepth 16384

noncomputable section

namespace Cert.GmlpBwdIdeal.Rows

open Cert.GmlpBwdIdeal Cert.GmlpBwdIdeal.Gen Idealize.ShloMosaic Idealize.ShloMosaic.TcCoe Idealize.SL.Sem
open Idealize.ShloMosaic.Pipeline (Dat)
open Cert.RealLine

variable (m : (ℓ : Loc nD τ sig) → Buf (Elt Ideal) ℓ)

theorem idx : ∀ t : Fin cfg0.N, win0_0.index t = ![t.val, 0] ∧ win0_1.index t = ![t.val, 0] ∧ win0_6.index t = ![0, 0] ∧ win0_10.index t = ![0, 0] :=
  (by decide +kernel : ∀ t : Fin grid0.N, _)

/-- The gate's curve. -/
def gel (x : EReal) : EReal :=
  (Ideal.ofBits .f32 0x3F000000#32 * x)
    * (Ideal.ofBits .f32 0x3F800000#32 + Ideal.tanh (Ideal.ofBits .f32 0x3F4C422A#32 * (x + Ideal.ofBits .f32 0x3D372713#32 * ((x * x) * x))))

theorem pay19_apply (v : FVec Ideal S512x512 .f32) (p l : Fin 512) : k0_pay19 (F := Ideal) v (ix2 p l) = gel (v (ix2 p l)) := by
  unfold gel
  pointwise [k0_pay19]

theorem pay69_apply (u v : FVec Ideal S512x512 .f32) (p l : Fin 512) : k0_pay69 (F := Ideal) u v (ix2 p l) = v (ix2 p l) * u (ix2 p l) := by
  pointwise [k0_pay69]

theorem pays_apply (d : FVec Ideal S512x512 .f32) (v : FVec Ideal S128x512 .f32) (i : Fin 128) (l : Fin 512) :
    k0_pay206 (F := Ideal) (k0_pay177 (F := Ideal) d (k0_pay144 (F := Ideal) d (k0_pay114 (F := Ideal) d (k0_pay83 (F := Ideal) d)))) v (ix2 i l)
      = v (ix2 i l) + ((((0 + d (ix2 ⟨i, by omega⟩ l)) + d (ix2 ⟨128 + i, by omega⟩ l)) + d (ix2 ⟨256 + i, by omega⟩ l)) + d (ix2 ⟨384 + i, by omega⟩ l)) := by
  pointwise [k0_pay206, k0_pay177, k0_pay144, k0_pay114, k0_pay83]

theorem pay17_apply (i : Fin 128) (l : Fin 512) : k0_pay17 (F := Ideal) (ix2 i l) = 0 := by
  pointwise [k0_pay17]

/-- The sum over the groups, from a block whose entries are one within a group and zero elsewhere. -/
theorem pay3_lo (T : FVec Ideal S512x512 .bf16) (x : FVec Ideal S128x512 .f32) (i : Fin 128) (l : Fin 256) :
    k0_pay3 (F := Ideal) T x (ix2 i ⟨l, by omega⟩)
      = ((∑ q : Fin 256, x (ix2 i ⟨q, by omega⟩) * T (ix2 ⟨q, by omega⟩ ⟨l, by omega⟩))
          + ∑ q : Fin 256, (x (ix2 i ⟨q, by omega⟩) - x (ix2 i ⟨q, by omega⟩)) * T (ix2 ⟨q, by omega⟩ ⟨l, by omega⟩))
        + ∑ q : Fin 256, ((x (ix2 i ⟨q, by omega⟩) - x (ix2 i ⟨q, by omega⟩)) - (x (ix2 i ⟨q, by omega⟩) - x (ix2 i ⟨q, by omega⟩))) * T (ix2 ⟨q, by omega⟩ ⟨l, by omega⟩) := by
  pointwise [k0_pay3]

theorem pay3_hi (T : FVec Ideal S512x512 .bf16) (x : FVec Ideal S128x512 .f32) (i : Fin 128) (l : Fin 256) :
    k0_pay3 (F := Ideal) T x (ix2 i ⟨256 + l, by omega⟩)
      = ((∑ q : Fin 256, x (ix2 i ⟨256 + q, by omega⟩) * T (ix2 ⟨256 + q, by omega⟩ ⟨256 + l, by omega⟩))
          + ∑ q : Fin 256, (x (ix2 i ⟨256 + q, by omega⟩) - x (ix2 i ⟨256 + q, by omega⟩)) * T (ix2 ⟨256 + q, by omega⟩ ⟨256 + l, by omega⟩))
        + ∑ q : Fin 256, ((x (ix2 i ⟨256 + q, by omega⟩) - x (ix2 i ⟨256 + q, by omega⟩)) - (x (ix2 i ⟨256 + q, by omega⟩) - x (ix2 i ⟨256 + q, by omega⟩)))
            * T (ix2 ⟨256 + q, by omega⟩ ⟨256 + l, by omega⟩) := by
  pointwise [k0_pay3]

/-- Of the columns `a` to `a + 255`, those of group `g` are picked. -/
theorem pick (f : ℕ → EReal) (a g : ℕ) (h : a ≤ 64 * g) (h' : 64 * g + 64 ≤ a + 256) :
    (∑ q : Fin 256, f (a + q) * (if (a + (q : ℕ)) / 64 = g then (1 : EReal) else 0)) = ∑ d ∈ Finset.range 64, f (64 * g + d) := by
  rw [Fin.sum_univ_eq_sum_range (fun q => f (a + q) * (if (a + q) / 64 = g then (1 : EReal) else 0)) 256]
  simp only [mul_ite, mul_one, mul_zero]
  rw [← Finset.sum_filter]
  refine Finset.sum_nbij' (fun q => a + q - 64 * g) (fun d => 64 * g + d - a) ?_ ?_ ?_ ?_ ?_
  · intro q hq
    simp only [Finset.mem_filter, Finset.mem_range] at hq ⊢
    omega
  · intro d hd
    simp only [Finset.mem_filter, Finset.mem_range] at hd ⊢
    omega
  · intro q hq
    simp only [Finset.mem_filter, Finset.mem_range] at hq
    show 64 * g + (a + q - 64 * g) - a = q
    omega
  · intro d hd
    simp only [Finset.mem_range] at hd
    show a + (64 * g + d - a) - 64 * g = d
    omega
  · intro q hq
    simp only [Finset.mem_filter, Finset.mem_range] at hq
    exact congrArg f (by omega)

theorem sub_real {x : EReal} (h : IsReal x) : x - x = 0 := by
  obtain ⟨r, rfl⟩ := h
  rw [← EReal.coe_sub, sub_self, EReal.coe_zero]

/-- The three parts of a product, on real numbers: the first is all of it. -/
theorem three (f : ℕ → EReal) (a g : ℕ) (h : a ≤ 64 * g) (h' : 64 * g + 64 ≤ a + 256) (x T : Fin 256 → EReal)
    (hx : ∀ q : Fin 256, x q = f (a + q)) (hT : ∀ q : Fin 256, T q = if (a + (q : ℕ)) / 64 = g then (1 : EReal) else 0) (hr : ∀ q, IsReal (x q)) :
    ((∑ q : Fin 256, x q * T q) + ∑ q : Fin 256, (x q - x q) * T q) + (∑ q : Fin 256, ((x q - x q) - (x q - x q)) * T q)
      = ∑ d ∈ Finset.range 64, f (64 * g + d) := by
  rw [Finset.sum_eq_zero (f := fun q : Fin 256 => (x q - x q) * T q) fun q _ => by rw [sub_real (hr q), zero_mul],
    Finset.sum_eq_zero (f := fun q : Fin 256 => ((x q - x q) - (x q - x q)) * T q) fun q _ => by rw [sub_real (hr q), sub_zero, zero_mul], add_zero, add_zero,
    ← pick f a g h h']
  exact Finset.sum_congr rfl fun q _ => by rw [hx, hT]

/-- The sum of the 64 columns of the group of column `l`. -/
def grp (f : ℕ → EReal) (l : ℕ) : EReal := ∑ d ∈ Finset.range 64, f (64 * (l / 64) + d)

theorem pay3_apply (T : FVec Ideal S512x512 .bf16) (x : FVec Ideal S128x512 .f32) (i : Fin 128) (f : ℕ → EReal)
    (hT : ∀ p q : Fin 512, T (ix2 p q) = if (p : ℕ) / 64 = q / 64 then (1 : EReal) else 0) (hx : ∀ l : Fin 512, x (ix2 i l) = f l)
    (hr : ∀ l : Fin 512, IsReal (x (ix2 i l))) (l : Fin 512) : k0_pay3 (F := Ideal) T x (ix2 i l) = grp f l := by
  unfold grp
  by_cases h : (l : ℕ) < 256
  · refine (pay3_lo T x i ⟨l, h⟩).trans (three f 0 ((l : ℕ) / 64) (by omega) (by omega) _ _ (fun q => ?_) (fun q => ?_) fun q => hr _)
    · rw [hx, zero_add]
    · rw [hT, zero_add]
  · have e : (⟨256 + ((l : ℕ) - 256), by omega⟩ : Fin 512) = l := Fin.ext (by show 256 + ((l : ℕ) - 256) = l; omega)
    refine (congrArg (fun j : Fin 512 => k0_pay3 (F := Ideal) T x (ix2 i j)) e.symm).trans ?_
    refine (pay3_hi T x i ⟨(l : ℕ) - 256, by omega⟩).trans (three f 256 ((l : ℕ) / 64) (by omega) (by omega) _ _ (fun q => hx _) (fun q => ?_) fun q => hr _)
    refine (hT _ _).trans ?_
    rw [show (256 + ((l : ℕ) - 256)) / 64 = (l : ℕ) / 64 by congr 1; omega]

/-- The product of the cotangent and the gate at row `r`, column `l`; zero outside. -/
def pr (u : FVec Ideal S8192x1024 .f32) (s : FVec Ideal S8192x512 .f32) (r l : ℕ) : EReal :=
  if h : r < 8192 ∧ l < 512 then s (ix2 ⟨r, h.1⟩ ⟨l, h.2⟩) * gel (u (ix2 ⟨r, h.1⟩ ⟨l, by omega⟩)) else 0

theorem half_real : IsReal (Ideal.ofBits .f32 0x3F000000#32) := ⟨_, by
  simp [Ideal.ofBits, Ideal.ieee]
  first | (rw [← EReal.coe_mul]) | rfl⟩

theorem one_real : IsReal (Ideal.ofBits .f32 0x3F800000#32) := ⟨_, by
  simp [Ideal.ofBits, Ideal.ieee]
  first | (rw [← EReal.coe_mul]) | rfl⟩

theorem k_real : IsReal (Ideal.ofBits .f32 0x3F4C422A#32) := ⟨_, by
  simp [Ideal.ofBits, Ideal.ieee]
  first | (rw [← EReal.coe_mul]) | rfl⟩

theorem c_real : IsReal (Ideal.ofBits .f32 0x3D372713#32) := ⟨_, by
  simp [Ideal.ofBits, Ideal.ieee]
  first | (rw [← EReal.coe_mul]) | rfl⟩

theorem gel_real {x : EReal} (h : IsReal x) : IsReal (gel x) := by
  unfold gel
  refine (half_real.mul h).mul (one_real.add ?_)
  obtain ⟨r, e⟩ := k_real.mul (h.add (c_real.mul ((h.mul h).mul h)))
  rw [e]
  exact IsReal.coe _

theorem pr_real {u : FVec Ideal S8192x1024 .f32} {s : FVec Ideal S8192x512 .f32} (hu : ∀ i, IsReal (u i)) (hs : ∀ i, IsReal (s i)) (r l : ℕ) : IsReal (pr u s r l) := by
  unfold pr
  split
  · exact (hs _).mul (gel_real (hu _))
  · exact IsReal.zero

/-- What the four chunks of point `t` add at chunk row `i`, column `l`. -/
def part (u : FVec Ideal S8192x1024 .f32) (s : FVec Ideal S8192x512 .f32) (i l t : ℕ) : EReal :=
  ∑ k ∈ Finset.range 4, pr u s (128 * (4 * t + k) + i) l

theorem sum_blocks (f : ℕ → EReal) (N : ℕ) : ∑ t ∈ Finset.range N, ∑ k ∈ Finset.range 4, f (4 * t + k) = ∑ n ∈ Finset.range (4 * N), f n := by
  induction N with
  | zero => simp
  | succ N ih => rw [Finset.sum_range_succ, ih, show 4 * (N + 1) = 4 * N + 4 by ring, Finset.sum_range_add]

/-- The block of the product that a point forms. -/
abbrev dblk (c : Dev nD) (t : Fin cfg0.N) : FVec Ideal S512x512 .f32 :=
  k0_pay69 (F := Ideal) (k0_pay19 (F := Ideal) (View.ld (iblk m c 0 t) (Rect.unit ![0, 0] ![512, 512] inb_S512x1024_S512x512_0_0))) (iblk m c 1 t)

theorem dblk_apply (c : Dev nD) (t : Fin cfg0.N) (p l : Fin 512) :
    dblk m c t (ix2 p l) = pr (m ((c : Thread nD τ).loc main_arg0)) (m ((c : Thread nD τ).loc main_arg4)) (t.val * 512 + p) l := by
  have ht : t.val < 16 := lt_of_lt_of_eq t.isLt N_0
  unfold dblk pr
  rw [pay69_apply, pay19_apply, dif_pos ⟨by omega, l.isLt⟩]
  refine congrArg₂ (fun a b : EReal => a * gel b) ?_ ?_
  · blk_point [iblk, V_main_arg4, idx t]
  · refine Eq.trans (?_ : _ = (iblk m c 0 t : FVec Ideal S512x1024 .f32) (ix2 p ⟨l, by omega⟩)) ?_
    · refine congrArg (iblk m c 0 t : FVec Ideal S512x1024 .f32) (funext fun a => Fin.ext ?_)
      match a with
      | ⟨0, _⟩ => show 0 + 1 * (p : ℕ) = p; omega
      | ⟨1, _⟩ => show 0 + 1 * (l : ℕ) = l; omega
    · blk_point [iblk, V_main_arg0, idx t]

/-- What a point makes of the carried sum. -/
theorem step (c : Dev nD) (t : Fin cfg0.N) (v : FVec Ideal S128x512 .f32) (i : Fin 128) (l : Fin 512) :
    k0_pay206 (F := Ideal) (k0_pay177 (F := Ideal) (dblk m c t) (k0_pay144 (F := Ideal) (dblk m c t) (k0_pay114 (F := Ideal) (dblk m c t) (k0_pay83 (F := Ideal) (dblk m c t))))) v (ix2 i l)
      = v (ix2 i l) + part (m ((c : Thread nD τ).loc main_arg0)) (m ((c : Thread nD τ).loc main_arg4)) i l t.val := by
  rw [pays_apply, dblk_apply, dblk_apply, dblk_apply, dblk_apply]
  unfold part
  generalize m ((c : Thread nD τ).loc main_arg0) = u
  generalize m ((c : Thread nD τ).loc main_arg4) = s
  have e : ∀ a b : ℕ, a = b → pr u s a l = pr u s b l := fun a b h => by rw [h]
  rw [Finset.sum_range_succ, Finset.sum_range_succ, Finset.sum_range_succ, Finset.sum_range_succ, Finset.sum_range_zero]
  refine congrArg (fun x : EReal => v (ix2 i l) + x) ?_
  refine congrArg₂ (· + ·) (congrArg₂ (· + ·) (congrArg₂ (· + ·) (congrArg₂ (· + ·) rfl (e _ _ ?_)) (e _ _ ?_)) (e _ _ ?_)) (e _ _ ?_)
  · show t.val * 512 + (i : ℕ) = _; omega
  · show t.val * 512 + (128 + (i : ℕ)) = _; omega
  · show t.val * 512 + (256 + (i : ℕ)) = _; omega
  · show t.val * 512 + (384 + (i : ℕ)) = _; omega

/-- The carried sum after point `n`: all points up to it. -/
theorem carry (c : Dev nD) : ∀ (n : ℕ) (h : n < cfg0.N) (i : Fin 128) (l : Fin 512),
    (outsAt0 m c n h).2.2.2.2 (ix2 i l) = ∑ t ∈ Finset.range (n + 1), part (m ((c : Thread nD τ).loc main_arg0)) (m ((c : Thread nD τ).loc main_arg4)) i l t
  | 0, h, i, l => by
    rw [outsAt0_A m c ⟨0, h⟩ rfl (by show ¬ 0 % 16 = 15; omega)]; frame_out
    refine (step m c ⟨0, h⟩ _ i l).trans ?_
    rw [pay17_apply, zero_add, Finset.sum_range_one]
  | n + 1, h, i, l => by
    have ih := carry c n (Nat.lt_of_succ_lt h) i l
    have h' : n + 1 < 16 := lt_of_lt_of_eq h N_0
    rw [Finset.sum_range_succ, ← ih]
    by_cases h1 : (n + 1) % 16 = 15
    · rw [outsAt0_C m c ⟨n + 1, h⟩ (by show ¬ (n + 1) % 16 = 0; omega) h1]; frame_out
      exact (step m c ⟨n + 1, h⟩ _ i l).trans (congrArg₂ (· + ·) (congrFun (Memref.IsWhole.read_unread _ _) _) rfl)
    · rw [outsAt0_B m c ⟨n + 1, h⟩ (by show ¬ (n + 1) % 16 = 0; omega) h1]; frame_out
      exact (step m c ⟨n + 1, h⟩ _ i l).trans (congrArg₂ (· + ·) (congrFun (Memref.IsWhole.read_unread _ _) _) rfl)

/-- The sum over the 64 chunks at chunk row `i`, column `l`. -/
def tot (u : FVec Ideal S8192x1024 .f32) (s : FVec Ideal S8192x512 .f32) (i l : ℕ) : EReal := ∑ n ∈ Finset.range 64, pr u s (128 * n + i) l

/-- The bias gradient, spread over each group's columns. -/
def dbias (u : FVec Ideal S8192x1024 .f32) (s : FVec Ideal S8192x512 .f32) : FVec Ideal S128x512 .f32 := fun j => grp (tot u s (j 0)) (j 1)

theorem range_real {f : ℕ → EReal} (h : ∀ n, IsReal (f n)) (N : ℕ) : IsReal (∑ n ∈ Finset.range N, f n) := by
  induction N with
  | zero => simpa using IsReal.zero
  | succ N ih => rw [Finset.sum_range_succ]; exact ih.add (h N)

theorem tot_real {u : FVec Ideal S8192x1024 .f32} {s : FVec Ideal S8192x512 .f32} (hu : ∀ i, IsReal (u i)) (hs : ∀ i, IsReal (s i)) (i l : ℕ) : IsReal (tot u s i l) :=
  range_real (fun n => pr_real hu hs _ _) 64

theorem ones_apply (c : Dev nD) (t : Fin cfg0.N) (p q : Fin 512) :
    k0_pay18 (F := Ideal) (iblk m c 6 t) (ix2 p q) = if (p : ℕ) / 64 = q / 64 then (1 : EReal) else 0 := by
  refine Eq.trans (?_ : _ = (V m c main_v10 : FVec Ideal S512x512 .bf16) (ix2 p q)) (V_ones m c p q)
  blk_point [k0_pay18, iblk, idx t]

theorem last_apply (c : Dev nD) (hu : ∀ i, IsReal (m ((c : Thread nD τ).loc main_arg0) i)) (hs : ∀ i, IsReal (m ((c : Thread nD τ).loc main_arg4) i))
    (t : Fin cfg0.N) (ht : t.val = 15) (i : Fin 128) (l : Fin 512) :
    (outsAt0 m c t.val t.isLt).2.2.2.1 (ix2 i l) = dbias (m ((c : Thread nD τ).loc main_arg0)) (m ((c : Thread nD τ).loc main_arg4)) (ix2 i l) := by
  have key : ∀ l : Fin 512, (outsAt0 m c (t.val - 1) (Nat.lt_of_le_of_lt (Nat.sub_le _ _) t.isLt)).2.2.2.2 (ix2 i l)
      + part (m ((c : Thread nD τ).loc main_arg0)) (m ((c : Thread nD τ).loc main_arg4)) i l t.val
      = tot (m ((c : Thread nD τ).loc main_arg0)) (m ((c : Thread nD τ).loc main_arg4)) i l := by
    intro l
    rw [carry m c]
    obtain ⟨n, hn⟩ := t
    obtain rfl : n = 15 := ht
    unfold tot
    exact (Finset.sum_range_succ _ 15).symm.trans (sum_blocks (fun n => pr (m ((c : Thread nD τ).loc main_arg0)) (m ((c : Thread nD τ).loc main_arg4)) (128 * n + i) l) 16)
  rw [outsAt0_C m c t (by omega) (by omega)]; frame_out
  have e : ∀ l : Fin 512, k0_pay206 (F := Ideal) (k0_pay177 (F := Ideal) (dblk m c t) (k0_pay144 (F := Ideal) (dblk m c t) (k0_pay114 (F := Ideal) (dblk m c t) (k0_pay83 (F := Ideal) (dblk m c t)))))
      (View.read (Elt Ideal) (View.whole cc0_scratch0) ((Memref.isWhole_whole _).unread (outsAt0 m c (t.val - 1) (Nat.lt_of_le_of_lt (Nat.sub_le _ _) t.isLt)).2.2.2.2)) (ix2 i l)
      = tot (m ((c : Thread nD τ).loc main_arg0)) (m ((c : Thread nD τ).loc main_arg4)) i l := fun l => (step m c t _ i l).trans
    ((congrArg (fun x : EReal => x + part (m ((c : Thread nD τ).loc main_arg0)) (m ((c : Thread nD τ).loc main_arg4)) i l t.val) (congrFun (Memref.IsWhole.read_unread _ _) _)).trans (key l))
  exact pay3_apply _ _ i (tot (m ((c : Thread nD τ).loc main_arg0)) (m ((c : Thread nD τ).loc main_arg4)) i) (fun p q => ones_apply m c t p q) e
    (fun l => by rw [e l]; exact tot_real hu hs _ _) l

theorem final10 (c : Dev nD) (hu : ∀ i, IsReal (m ((c : Thread nD τ).loc main_arg0) i)) (hs : ∀ i, IsReal (m ((c : Thread nD τ).loc main_arg4) i)) :
    (dats m 0 c).arrAt 10 cfg0.N = dbias (m ((c : Thread nD τ).loc main_arg0)) (m ((c : Thread nD τ).loc main_arg4)) := by
  refine (dats m 0 c).arrAt_eq_of_after_last 10 t0_15 (by decide +kernel) _ fun j => ?_
  blk_simp
  rw [after0_10]
  idx_vars j
  exact last_apply m c hu hs t0_15 rfl _ _

end Cert.GmlpBwdIdeal.Rows

end
-- ==== Proof.GmlpBwdEq.lean ====
/- The reference of the pair `GmlpBwd`, and what the pair's precondition says. -/
module

public import proofs.«01_k».proof.Defs
public import proofs.«01_k».proof.Proof.Gen.Pre_finite_gmlp
public import proofs.«01_k».proof.Proof.Gen.GmlpBwdRefIdeal.Run
public import proofs.«01_k».proof.Proof.Gen.GmlpBwdRefIdeal.Read
public import proofs.«01_k».proof.Proof.GmlpBwdValue
public import Idealize.ShloMosaic.Lib.Claim

@[expose] public section

set_option maxRecDepth 16384

noncomputable section

namespace Cert.GmlpBwdEq

open Idealize.ShloMosaic Idealize.ShloMosaic.TcCoe Idealize.SL.Sem Cert.RealLine
open Cert.GmlpBwdRefIdeal Cert.GmlpBwdRefIdeal.Gen Cert.GmlpBwdRefIdeal.Read
open Cert.GmlpBwdIdeal.Rows (gel pr tot grp dbias)

instance : Subsingleton Cert.Pre_finite_gmlp.S_.Idx := ⟨fun a b => funext fun k => k.elim0⟩

/-- What the precondition says: the activations and the cotangent are real. -/
theorem real_of_pre {u : FVec Ideal S8192x1024 .f32} {g : FVec Ideal S512 .f32} {w : FVec Ideal S8x128x128 .f32} {b : FVec Ideal S8x128 .f32} {s : FVec Ideal S8192x512 .f32}
    (h : Cert.Pre_finite_gmlp.fn (F := Ideal) u g w b s = fun _ => 1#1) : (∀ i, IsReal (u i)) ∧ ∀ i, IsReal (s i) := by
  have h := congrFun h ix0
  unfold Cert.Pre_finite_gmlp.fn at h
  obtain ⟨h0, h1⟩ := and_one h
  exact ⟨fun i => all_real (fun _ => rfl) h0 i, fun i => all_real (fun _ => rfl) h1 i⟩

/-- The host's sum over the first and the last of four axes, at a result index. -/
theorem sum_outer {n0 n1 n2 n3 : ℕ} (h : (⟨4, ![n0, n1, n2, n3]⟩ : Shape).ReducesTo [0, 3] ⟨2, ![n1, n2]⟩) (x : (⟨4, ![n0, n1, n2, n3]⟩ : Shape).Idx → EReal)
    (z : EReal) (a : Fin n1) (b : Fin n2) :
    Ideal.hostReduceAdd h x z (ix2 a b) = z + ∑ k : Fin n0, ∑ e : Fin n3, x (ix4 k a b e) := by
  refine congrArg (fun y : EReal => z + y) ?_
  refine (Finset.sum_filter_eq_sum_of_fiber _ (fun k : Fin n0 × Fin n3 => ix4 k.1 a b k.2)
    (fun _ _ e => Prod.ext (congrFun e 0) (congrFun e 3)) (fun i => ⟨fun e => ⟨(i 0, i 3), ?_⟩, ?_⟩) x).trans ?_
  · funext d
    apply Fin.ext
    match d with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext d
    apply Fin.ext
    match d with
    | ⟨0, _⟩ => rfl
    | ⟨1, _⟩ => rfl
  · rw [Fintype.sum_prod_type]

variable {u : FVec Ideal S8192x1024 .f32} {s : FVec Ideal S8192x512 .f32}

theorem zero_bits : Ideal.ofBits .f32 0#32 = (0 : EReal) := by simp [Ideal.ofBits, Ideal.ieee]

theorem ref_pr (n : Fin 64) (i : Fin 128) (g : Fin 8) (d : Fin 64) :
    val_main_v48 (F := Ideal) u s (ix4 n i g d) = pr u s (n * 128 + i) (g * 64 + d) := by
  unfold pr gel
  rw [dif_pos ⟨by omega, by omega⟩]
  refine Eq.trans (?_ : _ = (u (ix2 ⟨n * 128 + i, by omega⟩ ⟨g * 64 + d, by omega⟩) * (Ideal.ofBits .f32 0x3F000000#32
    * (Ideal.ofBits .f32 0x3F800000#32 + Ideal.tanh (Ideal.ofBits .f32 0x3F4C422A#32 * (u (ix2 ⟨n * 128 + i, by omega⟩ ⟨g * 64 + d, by omega⟩)
      + Ideal.ofBits .f32 0x3D372713#32 * ((u (ix2 ⟨n * 128 + i, by omega⟩ ⟨g * 64 + d, by omega⟩) * u (ix2 ⟨n * 128 + i, by omega⟩ ⟨g * 64 + d, by omega⟩)) * u (ix2 ⟨n * 128 + i, by omega⟩ ⟨g * 64 + d, by omega⟩))))))
    * s (ix2 ⟨n * 128 + i, by omega⟩ ⟨g * 64 + d, by omega⟩) : EReal)) ?_
  · pointwise [val_main_v48, val_main_v47, val_main_v46, val_main_v14, val_main_v13, val_main_v12, val_main_v11, val_main_v10, val_main_cst_2, val_main_v9, val_main_v8, val_main_cst_1, val_main_v7, val_main_v6,
      val_main_v5, val_main_cst_0, val_main_v4, val_main_v3, val_main_v2, val_main_cst, val_main_v1, val_main_v0]
  · rw [mul_comm, ← mul_assoc (u _), mul_comm (u _) (Ideal.ofBits .f32 0x3F000000#32)]

theorem ref_group (i : Fin 128) (g : Fin 8) :
    val_main_v49 (F := Ideal) u s (ix2 i g) = ∑ d ∈ Finset.range 64, tot u s i (64 * g + d) := by
  unfold val_main_v49 tot
  rw [Host.reduceAdd_apply, Ideal.hostReduceAdd_def]
  refine (sum_outer _ _ _ i g).trans ?_
  refine (congrArg (fun z : EReal => z + _) (?_ : _ = (0 : EReal))).trans ((zero_add _).trans ?_)
  · pointwise [val_main_cst_7]
  rw [Finset.sum_comm, ← Fin.sum_univ_eq_sum_range (fun d => ∑ n ∈ Finset.range 64, pr u s (128 * n + i) (64 * g + d)) 64]
  refine Finset.sum_congr rfl fun d _ => ?_
  rw [← Fin.sum_univ_eq_sum_range (fun n => pr u s (128 * n + i) (64 * g + d)) 64]
  exact Finset.sum_congr rfl fun n _ => (ref_pr n i g d).trans (congrArg₂ (pr u s) (by omega) (by omega))

theorem ref_fold (i : Fin 128) (g : Fin 8) : val_main_v51 (F := Ideal) u s (ix2 i g) = val_main_v49 (F := Ideal) u s (ix2 i g) := by
  unfold val_main_v51
  rw [Host.reduceAdd_apply, Ideal.hostReduceAdd_def]
  refine (sum_outer _ _ _ i g).trans ?_
  rw [Fin.sum_univ_one, Fin.sum_univ_one]
  pointwise [val_main_v50, val_main_cst_8]

theorem ref_db : val_main_v55 (F := Ideal) u s = dbias u s := by
  funext j
  idx_vars j
  unfold dbias grp
  pointwise [val_main_v55, val_main_v54, val_main_v53, val_main_v52]
  exact (ref_fold _ _).trans (ref_group _ _)

end Cert.GmlpBwdEq

end
-- ==== Proof.GmlpBwdClaims.lean ====
/- The claims about the pair `GmlpBwd`. -/
module

public import proofs.«01_k».proof.Proof.Gen.GmlpBwd.Frame
public import proofs.«01_k».proof.Proof.Gen.GmlpBwdIdeal.Frame
public import proofs.«01_k».proof.Proof.GmlpBwdEq

@[expose] public section

set_option maxRecDepth 16384

noncomputable section

namespace Cert.GmlpBwdEq

open Idealize.ShloMosaic Idealize.ShloMosaic.TcCoe Idealize.SL.Sem

theorem frame_p : Cert.quiescent_GmlpBwd := fun m ρ _ => Cert.GmlpBwd.Gen.frame m ρ

theorem frame_pi : Cert.quiescent_GmlpBwdIdeal := fun m ρ _ => Cert.GmlpBwdIdeal.Gen.frame m ρ

theorem frame_ri : Cert.quiescent_GmlpBwdRefIdeal := fun m ρ _ =>
  (θ_run Cert.GmlpBwdRefIdeal.defs _ _).mono (fun r h => ⟨fun c => (h c).2, sem_eq_zero_of_no_sems (by decide) r.2⟩)
    (Cert.GmlpBwdRefIdeal.Value.run (F := Ideal) m ρ)

theorem algebraic : Cert.algebraic_GmlpBwdIdeal_GmlpBwdRefIdeal_pre_finite_gmlp := by
  intro m g m' g' hpre hagree
  refine ⟨_, (θ_run Cert.GmlpBwdIdeal.defs _ _).mono (fun r h c => ⟨(h c).2.2.2.1, (h c).2.2.2.2⟩) (Cert.GmlpBwdIdeal.Value.run_blocks (F := Ideal) m g), ?_⟩
  refine (θ_run Cert.GmlpBwdRefIdeal.defs _ _).mono (fun r h c => ?_) (Cert.GmlpBwdRefIdeal.Value.run (F := Ideal) m' g')
  obtain ⟨h0, hargs⟩ := h c
  obtain ⟨a0, a1, a2, a3, a4⟩ := hagree c
  obtain ⟨ru, rs⟩ := real_of_pre (hpre c)
  refine ⟨h0.trans ?_, hargs⟩
  rw [Cert.GmlpBwdRefIdeal.Read.val_main_v55_eq, a0, a4]
  exact ref_db.trans (Cert.GmlpBwdIdeal.Rows.final10 m c ru rs).symm

end Cert.GmlpBwdEq

end
-- ==== Proof.OutProjValue.lean ====
/- What the kernel of `OutProjIdeal` leaves in its two result arrays. -/
module

public import proofs.«01_k».proof.Proof.Gen.OutProjIdeal.Value
public import proofs.«01_k».proof.Proof.RmsGrad
public import Idealize.ShloMosaic.Lib.Pipeline.ValueKit
public import Idealize.ShloMosaic.Lib.Pointwise

@[expose] public section

set_option maxRecDepth 16384

noncomputable section

namespace Cert.OutProjIdeal.Rows

open Cert.OutProjIdeal Cert.OutProjIdeal.Gen Idealize.ShloMosaic Idealize.ShloMosaic.TcCoe Idealize.SL.Sem
open Idealize.ShloMosaic.Pipeline (Dat)

/-- The residual with the output projection of the two halves of the mixed row: attention first, spatial gating second. -/
def hv (a s : FVec Ideal S8192x512 .f32) (w : FVec Ideal S1024x1024 .f32) (x : FVec Ideal S8192x1024 .f32) (r : Fin 8192) (k : Fin 1024) : EReal :=
  x (ix2 r k) + (∑ l : Fin 512, a (ix2 r l) * w (ix2 ⟨l, by omega⟩ k) + ∑ l : Fin 512, s (ix2 r l) * w (ix2 ⟨512 + l, by omega⟩ k))

def h1 (a s : FVec Ideal S8192x512 .f32) (w : FVec Ideal S1024x1024 .f32) (x : FVec Ideal S8192x1024 .f32) : FVec Ideal S8192x1024 .f32 :=
  fun i => hv a s w x (i 0) (i 1)

/-- Its norm, times the weights `g`. -/
def hn (a s : FVec Ideal S8192x512 .f32) (w : FVec Ideal S1024x1024 .f32) (x : FVec Ideal S8192x1024 .f32) (g : FVec Ideal S1024 .f32) :
    FVec Ideal S8192x1024 .f32 :=
  fun i => hv a s w x (i 0) (i 1) * Rms.inv (hv a s w x (i 0)) * g (ix1 (i 1))

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0] :=
  (by decide +kernel : ∀ t : Fin grid0.N, _)

/-- The residual and the two products of a point. -/
abbrev res (c : Dev nD) (t : Fin cfg0.N) : FVec Ideal S512x1024 .f32 :=
  k0_pay1 (F := Ideal) (iblk m c 3 t) (iblk m c 0 t)
    (View.ld (iblk m c 2 t) (Rect.unit ![0, 0] ![512, 1024] inb_S1024x1024_S512x1024_0_0)) (iblk m c 1 t)
    (View.ld (iblk m c 2 t) (Rect.unit ![512, 0] ![512, 1024] inb_S1024x1024_S512x1024_512_0))

theorem res_eq (c : Dev nD) (t : Fin cfg0.N) (p : Fin 512) (j : Fin 1024) (r : Fin 8192) (k : Fin 1024) (hr : (r : ℕ) = t.val * 512 + p)
    (hk : (k : ℕ) = j) :
    res m c t (ix2 p j) = hv (m ((c : Thread nD τ).loc main_arg0)) (m ((c : Thread nD τ).loc main_arg1)) (m ((c : Thread nD τ).loc main_arg2))
        (m ((c : Thread nD τ).loc main_arg3)) r k := by
  have ht : t.val < 16 := lt_of_lt_of_eq t.isLt N_0
  obtain rfl : k = j := Fin.ext hk
  unfold hv
  rw [← add_assoc]
  pointwise [res, k0_pay1]
  blk_point [iblk, V, idx t]

theorem final5 (c : Dev nD) : (dats m 0 c).arrAt 5 cfg0.N
    = h1 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  frame_out
  have e := res_eq m c t (y 0) (y 1) ((((cfg0.win 5).blk t).view.emb y) 0) ((((cfg0.win 5).blk t).view.emb y) 1) (by blk_simp [idx t]) (by blk_simp [idx t])
  idx_vars y
  exact e

/-- The second payload is the norm of the first. -/
theorem norm_eq (v0 : Vec Ideal S512x1024 .f32) (v1 : Vec Ideal S512x512 .bf16) (v3 : Vec Ideal S512x1024 .bf16) (v7 : Vec Ideal S512x512 .bf16)
    (v9 : Vec Ideal S512x1024 .bf16) (g : Vec Ideal S1x1024 .f32) (p : Fin 512) (j : Fin 1024) :
    k0_pay2 (F := Ideal) v0 v1 v3 v7 v9 g (ix2 p j)
      = k0_pay1 (F := Ideal) v0 v1 v3 v7 v9 (ix2 p j) * Rms.inv (fun k : Fin 1024 => k0_pay1 (F := Ideal) v0 v1 v3 v7 v9 (ix2 p k)) * g (ix2 0 j) := by
  unfold k0_pay2
  generalize k0_pay1 (F := Ideal) v0 v1 v3 v7 v9 = h
  pointwise [Rms.inv, Rms.meanSq]

theorem gain_eq (c : Dev nD) (t : Fin cfg0.N) (j : Fin 1024) : iblk m c 4 t (ix2 0 j) = m ((c : Thread nD τ).loc main_arg4) (ix1 j) := by
  blk_point [iblk, V, idx t]

theorem final6 (c : Dev nD) : (dats m 0 c).arrAt 6 cfg0.N
    = hn (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  frame_out
  have e := fun j : Fin 1024 => res_eq m c t (y 0) j ((((cfg0.win 6).blk t).view.emb y) 0) j (by blk_simp [idx t]) rfl
  have ej : (((cfg0.win 6).blk t).view.emb y) 1 = y 1 := Fin.ext (by blk_simp [idx t])
  unfold hn
  idx_vars y
  refine (norm_eq _ _ _ _ _ _ y0 y1).trans ?_
  refine congrArg₂ (· * ·) (congrArg₂ (· * ·) ((e y1).trans (congrArg (hv _ _ _ _ _) ej.symm)) (congrArg Rms.inv (funext e))) ?_
  exact (gain_eq m c t y1).trans (congrArg (fun k => m ((c : Thread nD τ).loc main_arg4) (ix1 k)) ej.symm)

end Cert.OutProjIdeal.Rows

end
-- ==== Proof.OutProjEq.lean ====
/- The reference of the pair `OutProj`. -/
module

public import proofs.«01_k».proof.Defs
public import proofs.«01_k».proof.Proof.Gen.OutProjRefIdeal.Run
public import proofs.«01_k».proof.Proof.Gen.OutProjRefIdeal.Read
public import proofs.«01_k».proof.Proof.OutProjValue
public import Idealize.ShloMosaic.Lib.Claim

@[expose] public section

set_option maxRecDepth 16384

noncomputable section

namespace Cert.OutProjEq

open Idealize.ShloMosaic Idealize.ShloMosaic.TcCoe Idealize.SL.Sem
open Cert.OutProjRefIdeal Cert.OutProjRefIdeal.Gen Cert.OutProjRefIdeal.Read
open Cert.OutProjIdeal.Rows (h1 hn hv)

variable {a s : FVec Ideal S8192x512 .f32} {w : FVec Ideal S1024x1024 .f32} {x : FVec Ideal S8192x1024 .f32}

theorem ref_h1 : val_main_v2 (F := Ideal) a s w x = h1 a s w x := by
  funext i
  idx_vars i
  unfold h1 hv
  pointwise [val_main_v0, val_main_v1, val_main_v2]

theorem ref_hn (g : FVec Ideal S1024 .f32) : val_main_v16 (F := Ideal) a s w x g = hn a s w x g := by
  funext i
  idx_vars i
  have e : ∀ k, hv a s w x i0 k = val_main_v2 (F := Ideal) a s w x (ix2 i0 k) := fun k => (congrFun ref_h1 (ix2 i0 k)).symm
  show _ = hv a s w x i0 i1 * Rms.inv (hv a s w x i0) * g (ix1 i1)
  rw [e i1, show hv a s w x i0 = fun k => val_main_v2 (F := Ideal) a s w x (ix2 i0 k) from funext e]
  unfold Rms.inv Rms.meanSq
  pointwise [val_main_v3, val_main_cst, val_main_v4, val_main_v5, val_main_cst_0, val_main_v6, val_main_v7, val_main_cst_1, val_main_v8, val_main_v9, val_main_v10, val_main_v11, val_main_v12, val_main_v13, val_main_v14, val_main_v15, val_main_v16]

end Cert.OutProjEq

end
-- ==== Proof.OutProjClaims.lean ====
/- The claims about the pair `OutProj`. -/
module

public import proofs.«01_k».proof.Proof.Gen.OutProj.Frame
public import proofs.«01_k».proof.Proof.Gen.OutProjIdeal.Frame
public import proofs.«01_k».proof.Proof.OutProjEq

@[expose] public section

set_option maxRecDepth 16384

noncomputable section

namespace Cert.OutProjEq

open Idealize.ShloMosaic Idealize.ShloMosaic.TcCoe Idealize.SL.Sem

theorem frame_p : Cert.quiescent_OutProj := fun m ρ _ => Cert.OutProj.Gen.frame m ρ

theorem frame_pi : Cert.quiescent_OutProjIdeal := fun m ρ _ => Cert.OutProjIdeal.Gen.frame m ρ

theorem frame_ri : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

theorem algebraic : Cert.algebraic_OutProjIdeal_OutProjRefIdeal := by
  intro m g m' g' hpre hagree
  refine ⟨_, _, Cert.OutProjIdeal.Value.run_blocks (F := Ideal) m g, ?_⟩
  refine (θ_run Cert.OutProjRefIdeal.defs _ _).mono (fun r h c => ?_) (Cert.OutProjRefIdeal.Value.run (F := Ideal) m' g')
  obtain ⟨h0, h1, hargs⟩ := h c
  obtain ⟨a0, a1, a2, a3, a4⟩ := hagree c
  refine ⟨h0.trans ?_, h1.trans ?_, hargs⟩
  · rw [Cert.OutProjRefIdeal.Read.val_main_v2_eq, a0, a1, a2, a3]
    exact ref_h1.trans (Cert.OutProjIdeal.Rows.final5 m c).symm
  · rw [Cert.OutProjRefIdeal.Read.val_main_v16_eq, a0, a1, a2, a3, a4]
    exact (ref_hn _).trans (Cert.OutProjIdeal.Rows.final6 m c).symm

end Cert.OutProjEq

end
-- ==== Proof.OutProjDxValue.lean ====
/- What the kernel of `OutProjDxIdeal` leaves in its three result arrays. -/
module

public import proofs.«01_k».proof.Proof.Gen.OutProjDxIdeal.Value
public import proofs.«01_k».proof.Proof.RealLine
public import Idealize.ShloMosaic.Lib.Pipeline.ValueKit
public import Idealize.ShloMosaic.Lib.Pointwise

@[expose] public section

set_option maxRecDepth 16384

noncomputable section

namespace Cert.OutProjDxIdeal.Rows

open Cert.OutProjDxIdeal Cert.OutProjDxIdeal.Gen Idealize.ShloMosaic Idealize.ShloMosaic.TcCoe Idealize.SL.Sem Cert.RealLine
open Idealize.ShloMosaic.Pipeline (Dat)

/-- The cotangent of the mixed row, at its column `k`. -/
def dm (dh : FVec Ideal S8192x1024 .f32) (w : FVec Ideal S1024x1024 .f32) (r : Fin 8192) (k : Fin 1024) : EReal :=
  ∑ j : Fin 1024, dh (ix2 r j) * w (ix2 k j)

/-- The second half of its columns. -/
def dsg (dh : FVec Ideal S8192x1024 .f32) (w : FVec Ideal S1024x1024 .f32) : FVec Ideal S8192x512 .f32 :=
  fun i => dm dh w (i 0) ⟨512 + (i 1 : ℕ), by have := (i 1).isLt; have : (i 1 : ℕ) < 512 := this; omega⟩

/-- The packed queries, with the negated logarithm of the row's sum in the lane 70 of each head. -/
def qb (l : FVec Ideal S8192x512 .f32) (q : FVec Ideal S8192x1024 .f32) : FVec Ideal S8192x1024 .f32 :=
  fun i => if (i 1 : ℕ) % 128 = 70 then -l (ix2 (i 0) ⟨(i 1 : ℕ) / 128 * 64, by have := (i 1).isLt; have : (i 1 : ℕ) < 1024 := this; omega⟩)
    else if (i 1 : ℕ) % 128 = 71 then 0 else if (i 1 : ℕ) % 128 = 72 then 0 else q i

/-- The packed cotangents of the attention's output, with the negated row's sum of output times cotangent in the lane 64 of each head. -/
def doa (dh : FVec Ideal S8192x1024 .f32) (w : FVec Ideal S1024x1024 .f32) (a : FVec Ideal S8192x512 .f32) : FVec Ideal S8192x1024 .f32 :=
  fun i =>
    have hi : (i 1 : ℕ) < 1024 := (i 1).isLt
    if h : (i 1 : ℕ) % 128 < 64 then dm dh w (i 0) ⟨(i 1 : ℕ) / 128 * 64 + (i 1 : ℕ) % 128, by omega⟩
    else if (i 1 : ℕ) % 128 = 64 then
      -∑ d : Fin 64, a (ix2 (i 0) ⟨(i 1 : ℕ) / 128 * 64 + d, by omega⟩) * dm dh w (i 0) ⟨(i 1 : ℕ) / 128 * 64 + d, by omega⟩
    else 0

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem final5 (c : Dev nD) : (dats m 0 c).arrAt 5 cfg0.N
    = dsg (m ((c : Thread nD τ).loc main_arg0)) (m ((c : Thread nD τ).loc main_arg1)) := by
  refine (dats m 0 c).arrAt_eq_of_covers 5 _ (by decide +kernel) fun t hf y => ?_
  blk_simp
  rw [after0_5]
  frame_out
  unfold dsg dm
  idx_vars y
  pointwise [k0_pay3, k0_pay2]
  blk_point [iblk, V, idx t]

theorem in_range : ∀ n : Fin 128, IntOp.andi (IntOp.cmpi .sge (BitVec.ofNat 32 n.val) 70#32) (IntOp.cmpi .slt (BitVec.ofNat 32 n.val) 73#32)
    = if 70 ≤ n.val ∧ n.val < 73 then 1#1 else 0#1 := by decide +kernel

theorem is_lane (k : Fin 128) : ∀ n : Fin 128, IntOp.cmpi .eq (BitVec.ofNat 32 n.val) (BitVec.ofNat 32 k.val) = if n.val = k.val then 1#1 else 0#1 := by
  revert k; decide +kernel

theorem below : ∀ n : Fin 128, IntOp.cmpi .slt (BitVec.ofNat 32 n.val) 64#32 = if n.val < 64 then 1#1 else 0#1 := by decide +kernel

theorem above : ∀ n : Fin 128, IntOp.cmpi .sge (BitVec.ofNat 32 n.val) 64#32 = if n.val < 64 then 0#1 else 1#1 := by decide +kernel

theorem select_ite {p : Prop} [Decidable p] (x y : EReal) : Scalar.select (if p then 1#1 else 0#1) x y = if p then x else y := by
  by_cases h : p
  · rw [if_pos h, if_pos h]; rfl
  · rw [if_neg h, if_neg h]; rfl

/-- The three lanes that a head's block of the packed queries takes in. -/
theorem query_lanes (n : Fin 128) {x : EReal} (hx : IsReal x) (q : EReal) :
    Scalar.select (IntOp.andi (IntOp.cmpi .sge (BitVec.ofNat 32 n.val) 70#32) (IntOp.cmpi .slt (BitVec.ofNat 32 n.val) 73#32))
      (Scalar.select (IntOp.cmpi .eq (BitVec.ofNat 32 n.val) 70#32) (0 - x)
        (Scalar.select (IntOp.cmpi .eq (BitVec.ofNat 32 n.val) 71#32) (0 - x - (0 - x)) (0 - x - (0 - x) - (0 - x - (0 - x))))) q
      = if n.val = 70 then -x else if n.val = 71 then 0 else if n.val = 72 then 0 else q := by
  obtain ⟨r, rfl⟩ := hx
  have e : (0 : EReal) - (r : EReal) - (0 - (r : EReal)) = 0 := by
    rw [zero_sub, ← EReal.coe_neg, ← EReal.coe_sub, sub_self]; rfl
  rw [e, sub_zero, zero_sub, in_range, show (70#32 : BitVec 32) = BitVec.ofNat 32 (70 : Fin 128).val from rfl, is_lane,
    show (71#32 : BitVec 32) = BitVec.ofNat 32 (71 : Fin 128).val from rfl, is_lane, select_ite, select_ite, select_ite]
  show (if _ then if n.val = 70 then _ else if n.val = 71 then _ else _ else _) = _
  split_ifs <;> first | rfl | (exfalso; omega)

/-- The lanes that a head's block of the packed cotangents is put together from. -/
theorem cotangent_lanes (n : Fin 128) {x : EReal} (hx : IsReal x) (q : EReal) :
    Scalar.select (IntOp.cmpi .slt (BitVec.ofNat 32 n.val) 64#32) q
      (Scalar.select (IntOp.cmpi .eq (BitVec.ofNat 32 n.val) 66#32) (0 - x - (0 - x) - (0 - x - (0 - x)))
        (Scalar.select (IntOp.cmpi .eq (BitVec.ofNat 32 n.val) 65#32) (0 - x - (0 - x))
          (Scalar.select (IntOp.cmpi .eq (BitVec.ofNat 32 n.val) 64#32) (0 - x) 0)))
      = if n.val < 64 then q else if n.val = 64 then -x else 0 := by
  obtain ⟨r, rfl⟩ := hx
  have e : (0 : EReal) - (r : EReal) - (0 - (r : EReal)) = 0 := by
    rw [zero_sub, ← EReal.coe_neg, ← EReal.coe_sub, sub_self]; rfl
  rw [e, sub_zero, zero_sub, below, show (64#32 : BitVec 32) = BitVec.ofNat 32 (64 : Fin 128).val from rfl, is_lane,
    show (65#32 : BitVec 32) = BitVec.ofNat 32 (65 : Fin 128).val from rfl, is_lane,
    show (66#32 : BitVec 32) = BitVec.ofNat 32 (66 : Fin 128).val from rfl, is_lane, select_ite, select_ite, select_ite, select_ite]
  show (if _ then _ else if n.val = 66 then _ else if n.val = 65 then _ else if n.val = 64 then _ else _) = _
  split_ifs <;> first | rfl | (exfalso; omega)

theorem sum_low (f : Fin 128 → EReal) :
    ∑ x : Fin 128, Scalar.select (IntOp.cmpi .slt (BitVec.ofNat 32 x.val) 64#32) (f x) 0 = ∑ d : Fin 64, f ⟨d, by omega⟩ := by
  simp only [below, select_ite]
  rw [Fin.sum_univ_two_halves 64 64 rfl]
  have h : ∀ d : Fin 64, ¬ 64 + (d : ℕ) < 64 := fun d => by omega
  simp [h]

theorem sum_high (f : Fin 128 → EReal) :
    ∑ x : Fin 128, Scalar.select (IntOp.cmpi .sge (BitVec.ofNat 32 x.val) 64#32) (f x) 0 = ∑ d : Fin 64, f ⟨64 + d, by omega⟩ := by
  have e : ∀ x : Fin 128, (if x.val < 64 then 0#1 else 1#1 : BitVec 1) = if 64 ≤ x.val then 1#1 else 0#1 := by decide
  simp only [above, e, select_ite]
  rw [Fin.sum_univ_two_halves 64 64 rfl]
  have h : ∀ d : Fin 64, ¬ 64 ≤ (d : ℕ) := fun d => by omega
  simp [h]

theorem lse_at (c : Dev nD) (t : Fin cfg0.N) (p : Fin 256) (k : Fin 512) (r : Fin 8192) (hr : (r : ℕ) = t.val * 256 + p) :
    iblk m c 3 t (ix2 p k) = m ((c : Thread nD τ).loc main_arg3) (ix2 r k) := by blk_point [iblk, V, idx t]

theorem att_at (c : Dev nD) (t : Fin cfg0.N) (p : Fin 256) (k : Fin 512) (r : Fin 8192) (hr : (r : ℕ) = t.val * 256 + p) :
    iblk m c 2 t (ix2 p k) = m ((c : Thread nD τ).loc main_arg2) (ix2 r k) := by blk_point [iblk, V, idx t]

theorem query_at (c : Dev nD) (t : Fin cfg0.N) (p : Fin 256) (k : Fin 1024) (r : Fin 8192) (hr : (r : ℕ) = t.val * 256 + p) :
    iblk m c 4 t (ix2 p k) = m ((c : Thread nD τ).loc main_arg4) (ix2 r k) := by
  pointwise []
  blk_point [iblk, V, idx t]

theorem dm_at (c : Dev nD) (t : Fin cfg0.N) (p : Fin 256) (k : Fin 1024) (r : Fin 8192) (hr : (r : ℕ) = t.val * 256 + p) :
    ∑ x : Fin 1024, @HMul.hMul EReal EReal EReal _ (iblk m c 0 t (ix2 p x)) (iblk m c 1 t (ix2 k x))
      = dm (m ((c : Thread nD τ).loc main_arg0)) (m ((c : Thread nD τ).loc main_arg1)) r k := by
  unfold dm
  pointwise []
  blk_point [iblk, V, idx t]

theorem qb_at (l : FVec Ideal S8192x512 .f32) (q : FVec Ideal S8192x1024 .f32) (i : S8192x1024.Idx) (r : Fin 8192) (k : Fin 512) (k' : Fin 1024)
    (n : Fin 128) (h0 : (i 0 : ℕ) = r) (h1 : (i 1 : ℕ) = k') (hn : (k' : ℕ) % 128 = n) (hk : (k : ℕ) = k' / 128 * 64) :
    (if n.val = 70 then -l (ix2 r k) else if n.val = 71 then 0 else if n.val = 72 then 0 else q (ix2 r k')) = qb l q i := by
  obtain rfl : i = ix2 r k' := funext fun a => Fin.ext (by match a with | ⟨0, _⟩ => exact h0 | ⟨1, _⟩ => exact h1)
  rw [show k = ⟨(k' : ℕ) / 128 * 64, by omega⟩ from Fin.ext hk, ← hn]
  rfl

theorem doa_at (dh : FVec Ideal S8192x1024 .f32) (w : FVec Ideal S1024x1024 .f32) (a : FVec Ideal S8192x512 .f32) (i : S8192x1024.Idx)
    (r : Fin 8192) (u : ℕ) (n : Fin 128) (k : Fin 1024) (ka : Fin 64 → Fin 512) (kd : Fin 64 → Fin 1024) (h0 : (i 0 : ℕ) = r)
    (h1 : (i 1 : ℕ) = 128 * u + n) (hk : n.val < 64 → (k : ℕ) = 64 * u + n) (hka : ∀ d, (ka d : ℕ) = 64 * u + d) (hkd : ∀ d, (kd d : ℕ) = 64 * u + d) :
    (if n.val < 64 then dm dh w r k else if n.val = 64 then -∑ d : Fin 64, a (ix2 r (ka d)) * dm dh w r (kd d) else 0) = doa dh w a i := by
  obtain rfl : i 0 = r := Fin.ext h0
  have hm : (i 1 : ℕ) % 128 = n := by omega
  have hq : (i 1 : ℕ) / 128 * 64 = 64 * u := by omega
  unfold doa
  simp only [hm, hq]
  split
  · next h => exact congrArg (dm dh w (i 0)) (Fin.ext (hk h))
  · split
    · refine congrArg Neg.neg (Finset.sum_congr rfl fun d _ => ?_)
      exact congrArg₂ (fun x y => a (ix2 (i 0) x) * dm dh w (i 0) y) (Fin.ext (hka d)) (Fin.ext (hkd d))
    · rfl

theorem final6 (c : Dev nD) (hl : ∀ i, IsReal (m ((c : Thread nD τ).loc main_arg3) i)) : (dats m 0 c).arrAt 6 cfg0.N
    = qb (m ((c : Thread nD τ).loc main_arg3)) (m ((c : Thread nD τ).loc main_arg4)) := by
  refine (dats m 0 c).arrAt_eq_of_covers 6 _ (by decide +kernel) fun t hf y => ?_
  have e0 : ((((cfg0.win 6).blk t).view.emb y) 0 : ℕ) = t.val * 256 + (y 0 : ℕ) := by blk_simp [idx t]
  have e1 : ((((cfg0.win 6).blk t).view.emb y) 1 : ℕ) = (y 1 : ℕ) := by blk_simp [idx t]
  have ht : t.val < 32 := lt_of_lt_of_eq t.isLt N_0
  generalize (((cfg0.win 6).blk t).view.emb y) = i at e0 e1 ⊢
  blk_simp
  rw [after0_6]
  unfold_out out0_6
  canon_tiles x h
  all_goals
    idx_vars x
    open_payloads
    pointwise []
    have a3 := fun k : Fin 512 => lse_at m c t x0 k ⟨t.val * 256 + x0, by omega⟩ rfl
    have a4 := fun k : Fin 1024 => query_at m c t x0 k ⟨t.val * 256 + x0, by omega⟩ rfl
    simp only [a3, a4]
    refine (query_lanes x1 (hl _) _).trans ?_
    refine qb_at _ _ _ _ _ _ _ (e0.trans (congrArg (t.val * 256 + ·) h0)) (e1.trans (h1.trans ?_)) ?_ ?_ <;> simp <;> omega

end Cert.OutProjDxIdeal.Rows

end
-- ==== Proof.OutProjDxCot.lean ====
/- What the kernel of `OutProjDxIdeal` leaves in the array of packed cotangents. -/
module

public import proofs.«01_k».proof.Proof.OutProjDxValue

@[expose] public section

set_option maxRecDepth 16384

noncomputable section

namespace Cert.OutProjDxIdeal.Rows

open Cert.OutProjDxIdeal Cert.OutProjDxIdeal.Gen Idealize.ShloMosaic Idealize.ShloMosaic.TcCoe Idealize.SL.Sem Cert.RealLine
open Idealize.ShloMosaic.Pipeline (Dat)

variable (m : (ℓ : Loc nD τ sig) → Buf (Elt Ideal) ℓ)

/-- The cotangent of the mixed row as a block of rows takes it. -/
def pm (c : Dev nD) (t : Fin cfg0.N) (p : Fin 256) (k : Fin 1024) : EReal :=
  ∑ x : Fin 1024, @HMul.hMul EReal EReal EReal _ (iblk m c 0 t (ix2 p x)) (iblk m c 1 t (ix2 k x))

theorem pm_at (c : Dev nD) (t : Fin cfg0.N) (p : Fin 256) (r : Fin 8192) (hr : (r : ℕ) = t.val * 256 + p) (k : Fin 1024) :
    pm m c t p k = dm (m ((c : Thread nD τ).loc main_arg0)) (m ((c : Thread nD τ).loc main_arg1)) r k := dm_at m c t p k r hr

/-- One head's lane of the packed cotangents, as a block of rows puts it together. -/
theorem head_at (c : Dev nD) (t : Fin cfg0.N) (hd : ∀ i, IsReal (m ((c : Thread nD τ).loc main_arg0) i))
    (hw : ∀ i, IsReal (m ((c : Thread nD τ).loc main_arg1) i)) (ha : ∀ i, IsReal (m ((c : Thread nD τ).loc main_arg2) i))
    (p : Fin 256) (r : Fin 8192) (hr : (r : ℕ) = t.val * 256 + p) (i : S8192x1024.Idx) (u : ℕ) (n : Fin 128) (h0 : (i 0 : ℕ) = r)
    (h1 : (i 1 : ℕ) = 128 * u + n) (k : Fin 1024) (ka : Fin 64 → Fin 512) (kd : Fin 64 → Fin 1024)
    (hk : n.val < 64 → (k : ℕ) = 64 * u + n) (hka : ∀ d, (ka d : ℕ) = 64 * u + d) (hkd : ∀ d, (kd d : ℕ) = 64 * u + d)
    {S q : EReal} (hS : S = ∑ d : Fin 64, @HMul.hMul EReal EReal EReal _ (m ((c : Thread nD τ).loc main_arg2) (ix2 r (ka d))) (pm m c t p (kd d)))
    (hq : q = pm m c t p k) :
    Scalar.select (IntOp.cmpi .slt (BitVec.ofNat 32 n.val) 64#32) q
      (Scalar.select (IntOp.cmpi .eq (BitVec.ofNat 32 n.val) 66#32) (0 - S - (0 - S) - (0 - S - (0 - S)))
        (Scalar.select (IntOp.cmpi .eq (BitVec.ofNat 32 n.val) 65#32) (0 - S - (0 - S))
          (Scalar.select (IntOp.cmpi .eq (BitVec.ofNat 32 n.val) 64#32) (0 - S) 0)))
      = doa (m ((c : Thread nD τ).loc main_arg0)) (m ((c : Thread nD τ).loc main_arg1)) (m ((c : Thread nD τ).loc main_arg2)) i := by
  have ad := pm_at m c t p r hr
  subst hS hq
  simp only [ad]
  refine (cotangent_lanes n (IsReal.sum fun d => IsReal.mul (ha _) (IsReal.sum fun j => IsReal.mul (hd _) (hw _))) _).trans ?_
  exact doa_at _ _ _ _ _ u _ _ _ _ h0 h1 hk hka hkd

theorem final7 (c : Dev nD) (hd : ∀ i, IsReal (m ((c : Thread nD τ).loc main_arg0) i)) (hw : ∀ i, IsReal (m ((c : Thread nD τ).loc main_arg1) i))
    (ha : ∀ i, IsReal (m ((c : Thread nD τ).loc main_arg2) i)) : (dats m 0 c).arrAt 7 cfg0.N
    = doa (m ((c : Thread nD τ).loc main_arg0)) (m ((c : Thread nD τ).loc main_arg1)) (m ((c : Thread nD τ).loc main_arg2)) := by
  refine (dats m 0 c).arrAt_eq_of_covers 7 _ (by decide +kernel) fun t hf y => ?_
  have e0 : ((((cfg0.win 7).blk t).view.emb y) 0 : ℕ) = t.val * 256 + (y 0 : ℕ) := by blk_simp [idx t]
  have e1 : ((((cfg0.win 7).blk t).view.emb y) 1 : ℕ) = (y 1 : ℕ) := by blk_simp [idx t]
  have ht : t.val < 32 := lt_of_lt_of_eq t.isLt N_0
  generalize (((cfg0.win 7).blk t).view.emb y) = i at e0 e1 ⊢
  blk_simp
  rw [after0_7]
  unfold_out out0_7
  canon_tiles x h
  case piece0 =>
    idx_vars x
    open_payloads
    pointwise []
    have a2 := fun k : Fin 512 => att_at m c t x0 k ⟨t.val * 256 + x0, by omega⟩ rfl
    simp only [a2, sum_high]
    have e1' := e1.trans h1
    exact head_at m c t hd hw ha x0 ⟨t.val * 256 + x0, by omega⟩ rfl i 7 x1 (e0.trans (congrArg (t.val * 256 + ·) h0)) (e1'.trans (by simp))
      ⟨384 + (x1.val + 128 - 64) % 128, by omega⟩ (fun d => ⟨384 + (64 + d.val), by omega⟩) (fun d => ⟨384 + (64 + d.val), by omega⟩)
      (fun h => by simp; try omega) (fun d => by simp; try omega) (fun d => by simp; try omega) rfl rfl
  case piece1 =>
    idx_vars x
    open_payloads
    pointwise []
    have a2 := fun k : Fin 512 => att_at m c t x0 k ⟨t.val * 256 + x0, by omega⟩ rfl
    simp only [a2, sum_low]
    have e1' := e1.trans h1
    exact head_at m c t hd hw ha x0 ⟨t.val * 256 + x0, by omega⟩ rfl i 6 x1 (e0.trans (congrArg (t.val * 256 + ·) h0)) (e1'.trans (by simp))
      ⟨384 + x1.val, by omega⟩ (fun d => ⟨384 + d.val, by omega⟩) (fun d => ⟨384 + d.val, by omega⟩)
      (fun h => by simp; try omega) (fun d => by simp; try omega) (fun d => by simp; try omega) rfl rfl
  case piece2 =>
    idx_vars x
    open_payloads
    pointwise []
    have a2 := fun k : Fin 512 => att_at m c t x0 k ⟨t.val * 256 + x0, by omega⟩ rfl
    simp only [a2, sum_high]
    have e1' := e1.trans h1
    exact head_at m c t hd hw ha x0 ⟨t.val * 256 + x0, by omega⟩ rfl i 5 x1 (e0.trans (congrArg (t.val * 256 + ·) h0)) (e1'.trans (by simp))
      ⟨256 + (x1.val + 128 - 64) % 128, by omega⟩ (fun d => ⟨256 + (64 + d.val), by omega⟩) (fun d => ⟨256 + (64 + d.val), by omega⟩)
      (fun h => by simp; try omega) (fun d => by simp; try omega) (fun d => by simp; try omega) rfl rfl
  case piece3 =>
    idx_vars x
    open_payloads
    pointwise []
    have a2 := fun k : Fin 512 => att_at m c t x0 k ⟨t.val * 256 + x0, by omega⟩ rfl
    simp only [a2, sum_low]
    have e1' := e1.trans h1
    exact head_at m c t hd hw ha x0 ⟨t.val * 256 + x0, by omega⟩ rfl i 4 x1 (e0.trans (congrArg (t.val * 256 + ·) h0)) (e1'.trans (by simp))
      ⟨256 + x1.val, by omega⟩ (fun d => ⟨256 + d.val, by omega⟩) (fun d => ⟨256 + d.val, by omega⟩)
      (fun h => by simp; try omega) (fun d => by simp; try omega) (fun d => by simp; try omega) rfl rfl
  case piece4 =>
    idx_vars x
    open_payloads
    pointwise []
    have a2 := fun k : Fin 512 => att_at m c t x0 k ⟨t.val * 256 + x0, by omega⟩ rfl
    simp only [a2, sum_high]
    have e1' := e1.trans h1
    exact head_at m c t hd hw ha x0 ⟨t.val * 256 + x0, by omega⟩ rfl i 3 x1 (e0.trans (congrArg (t.val * 256 + ·) h0)) (e1'.trans (by simp))
      ⟨128 + (x1.val + 128 - 64) % 128, by omega⟩ (fun d => ⟨128 + (64 + d.val), by omega⟩) (fun d => ⟨128 + (64 + d.val), by omega⟩)
      (fun h => by simp; try omega) (fun d => by simp; try omega) (fun d => by simp; try omega) rfl rfl
  case piece5 =>
    idx_vars x
    open_payloads
    pointwise []
    have a2 := fun k : Fin 512 => att_at m c t x0 k ⟨t.val * 256 + x0, by omega⟩ rfl
    simp only [a2, sum_low]
    have e1' := e1.trans h1
    exact head_at m c t hd hw ha x0 ⟨t.val * 256 + x0, by omega⟩ rfl i 2 x1 (e0.trans (congrArg (t.val * 256 + ·) h0)) (e1'.trans (by simp))
      ⟨128 + x1.val, by omega⟩ (fun d => ⟨128 + d.val, by omega⟩) (fun d => ⟨128 + d.val, by omega⟩)
      (fun h => by simp; try omega) (fun d => by simp; try omega) (fun d => by simp; try omega) rfl rfl
  case piece6 =>
    idx_vars x
    open_payloads
    pointwise []
    have a2 := fun k : Fin 512 => att_at m c t x0 k ⟨t.val * 256 + x0, by omega⟩ rfl
    simp only [a2, sum_high]
    have e1' := e1.trans h1
    exact head_at m c t hd hw ha x0 ⟨t.val * 256 + x0, by omega⟩ rfl i 1 x1 (e0.trans (congrArg (t.val * 256 + ·) h0)) (e1'.trans (by simp))
      ⟨(x1.val + 128 - 64) % 128, by omega⟩ (fun d => ⟨64 + d.val, by omega⟩) (fun d => ⟨64 + d.val, by omega⟩)
      (fun h => by simp; try omega) (fun d => by simp; try omega) (fun d => by simp; try omega) rfl rfl
  case piece7 =>
    idx_vars x
    open_payloads
    pointwise []
    have a2 := fun k : Fin 512 => att_at m c t x0 k ⟨t.val * 256 + x0, by omega⟩ rfl
    simp only [a2, sum_low]
    have e1' := e1.trans h1
    exact head_at m c t hd hw ha x0 ⟨t.val * 256 + x0, by omega⟩ rfl i 0 x1 (e0.trans (congrArg (t.val * 256 + ·) h0)) (e1'.trans (by simp))
      ⟨x1.val, by omega⟩ (fun d => ⟨d.val, by omega⟩) (fun d => ⟨d.val, by omega⟩)
      (fun h => by simp; try omega) (fun d => by simp; try omega) (fun d => by simp; try omega) rfl rfl

end Cert.OutProjDxIdeal.Rows

end
-- ==== Proof.OutProjDxEq.lean ====
/- The reference of the pair `OutProjDx` on real arguments, and what the pair's precondition says. -/
module

public import proofs.«01_k».proof.Defs
public import proofs.«01_k».proof.Proof.Gen.Pre_finite_out_proj_dx
public import proofs.«01_k».proof.Proof.Gen.OutProjDxRefIdeal.Run
public import proofs.«01_k».proof.Proof.Gen.OutProjDxRefIdeal.Read
public import proofs.«01_k».proof.Proof.OutProjDxCot
public import Idealize.ShloMosaic.Lib.Claim

@[expose] public section

set_option maxRecDepth 16384

noncomputable section

namespace Cert.OutProjDxEq

open Idealize.ShloMosaic Idealize.ShloMosaic.TcCoe Idealize.SL.Sem Cert.RealLine
open Cert.OutProjDxRefIdeal Cert.OutProjDxRefIdeal.Gen Cert.OutProjDxRefIdeal.Read
open Cert.OutProjDxIdeal.Rows (dm dsg qb doa)

instance : Subsingleton Cert.Pre_finite_out_proj_dx.S_.Idx := ⟨fun a b => funext fun k => k.elim0⟩

/-- What the precondition says: four of the five arguments are real. -/
theorem real_of_pre {dh : FVec Ideal S8192x1024 .f32} {w : FVec Ideal S1024x1024 .f32} {a l : FVec Ideal S8192x512 .f32} {q : FVec Ideal S8192x1024 .f32}
    (h : Cert.Pre_finite_out_proj_dx.fn (F := Ideal) dh w a l q = fun _ => 1#1) :
    (∀ i, IsReal (dh i)) ∧ (∀ i, IsReal (w i)) ∧ (∀ i, IsReal (a i)) ∧ ∀ i, IsReal (l i) := by
  have h := congrFun h ix0
  unfold Cert.Pre_finite_out_proj_dx.fn Cert.Pre_finite_out_proj_dx.fn_part1 at h
  obtain ⟨h, h3⟩ := and_one h
  obtain ⟨h, h2⟩ := and_one h
  obtain ⟨h0, h1⟩ := and_one h
  exact ⟨fun i => all_real (fun _ => rfl) h0 i, fun i => all_real (fun _ => rfl) h1 i, fun i => all_real (fun _ => rfl) h2 i,
    fun i => all_real (fun _ => rfl) h3 i⟩

variable {dh : FVec Ideal S8192x1024 .f32} {w : FVec Ideal S1024x1024 .f32} {a l : FVec Ideal S8192x512 .f32} {q : FVec Ideal S8192x1024 .f32}

theorem ref_dsg : val_main_v5 (F := Ideal) dh w = dsg dh w := by
  funext i
  idx_vars i
  unfold dsg dm
  pointwise [val_main_cst, val_main_cst_0, val_main_cst_1, val_main_cst_2, val_main_v0, val_main_v1, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]

theorem ref_qb : val_main_v23 (F := Ideal) l q = qb l q := by
  funext i
  idx_vars i
  unfold qb
  pointwise [val_main_cst, val_main_cst_0, val_main_cst_1, val_main_cst_2, val_main_v0, val_main_v1, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
  by_cases h72 : (i1 : ℕ) % 128 = 72
  all_goals repeat' split
  all_goals first
    | rfl
    | (exfalso; omega)
    | (refine congrArg (fun k => q (ix2 i0 k)) (Fin.ext ?_); (try dsimp only); omega)
    | (refine Eq.trans ?_ (if_pos h72).symm; first | rfl | (exfalso; omega))
    | (refine Eq.trans ?_ (if_neg h72).symm; rfl)
    | (refine Eq.trans ?_ (if_neg h72).symm; exfalso; omega)
    | (refine Eq.trans ?_ (if_neg h72).symm; refine congrArg (fun k => q (ix2 i0 k)) (Fin.ext ?_); (try dsimp only); omega)
    | (refine congrArg (fun k => -l (ix2 i0 k)) (Fin.ext ?_); (try dsimp only); omega)

theorem ref_doa : val_main_v25 (F := Ideal) dh w a = doa dh w a := by
  funext i
  idx_vars i
  unfold doa dm
  pointwise [val_main_cst, val_main_cst_0, val_main_cst_1, val_main_cst_2, val_main_v0, val_main_v1, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
  repeat' split
  all_goals first
    | rfl
    | (exfalso; omega)

end Cert.OutProjDxEq

end
-- ==== Proof.OutProjDxClaims.lean ====
/- The claims about the pair `OutProjDx`. -/
module

public import proofs.«01_k».proof.Proof.Gen.OutProjDx.Frame
public import proofs.«01_k».proof.Proof.Gen.OutProjDxIdeal.Frame
public import proofs.«01_k».proof.Proof.OutProjDxEq

@[expose] public section

set_option maxRecDepth 16384

noncomputable section

namespace Cert.OutProjDxEq

open Idealize.ShloMosaic Idealize.ShloMosaic.TcCoe Idealize.SL.Sem
open Cert.OutProjDxIdeal.Rows (dsg qb doa)

theorem frame_p : Cert.quiescent_OutProjDx := fun m ρ _ => Cert.OutProjDx.Gen.frame m ρ

theorem frame_pi : Cert.quiescent_OutProjDxIdeal := fun m ρ _ => Cert.OutProjDxIdeal.Gen.frame m ρ

theorem frame_ri : Cert.quiescent_OutProjDxRefIdeal := fun m ρ _ =>
  (θ_run Cert.OutProjDxRefIdeal.defs _ _).mono (fun r h => ⟨fun c => (h c).2.2.2, sem_eq_zero_of_no_sems (by decide) r.2⟩)
    (Cert.OutProjDxRefIdeal.Value.run (F := Ideal) m ρ)

theorem algebraic : Cert.algebraic_OutProjDxIdeal_OutProjDxRefIdeal_pre_finite_out_proj_dx := by
  intro m g m' g' hpre hagree
  refine ⟨_, _, _, Cert.OutProjDxIdeal.Value.run_blocks (F := Ideal) m g, ?_⟩
  refine (θ_run Cert.OutProjDxRefIdeal.defs _ _).mono (fun r h c => ?_) (Cert.OutProjDxRefIdeal.Value.run (F := Ideal) m' g')
  obtain ⟨h0, h1, h2, hargs⟩ := h c
  obtain ⟨a0, a1, a2, a3, a4⟩ := hagree c
  obtain ⟨rd, rw', ra, rl⟩ := real_of_pre (hpre c)
  refine ⟨h0.trans ?_, h1.trans ?_, h2.trans ?_, hargs⟩
  · rw [a0, a1]
    exact (Cert.OutProjDxRefIdeal.Read.val_main_v5_eq _ _).trans (ref_dsg.trans (Cert.OutProjDxIdeal.Rows.final5 m c).symm)
  · rw [a3, a4]
    exact (Cert.OutProjDxRefIdeal.Read.val_main_v23_eq _ _).trans (ref_qb.trans (Cert.OutProjDxIdeal.Rows.final6 m c rl).symm)
  · rw [a0, a1, a2]
    exact (Cert.OutProjDxRefIdeal.Read.val_main_v25_eq _ _ _).trans (ref_doa.trans (Cert.OutProjDxIdeal.Rows.final7 m c rd rw' ra).symm)

end Cert.OutProjDxEq

end
-- ==== Proof.lean ====
/- The claims of the certificate, one module of proof for each pair of programs. -/
module

public import proofs.«01_k».proof.Defs
public import proofs.«01_k».proof.Proof.Gen.FfnUpDx
public import proofs.«01_k».proof.Proof.Gen.FfnUpDxIdeal
public import proofs.«01_k».proof.Proof.Gen.FfnUpDxIdeal.Value
public import proofs.«01_k».proof.Proof.Gen.FfnUpDxRefIdeal
public import proofs.«01_k».proof.Proof.Gen.FfnUpDxRefIdeal.Run
public import proofs.«01_k».proof.Proof.Gen.FfnUpDxRefIdeal.Read
public import proofs.«01_k».proof.Proof.Gen.Pre_finite_ffn_up
public import proofs.«01_k».proof.Proof.FfnUpDxClaims
public import proofs.«01_k».proof.Proof.Gen.AttnBwd
public import proofs.«01_k».proof.Proof.Gen.AttnBwd.Skeleton
public import proofs.«01_k».proof.Proof.Gen.AttnBwd.Loops
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Loops
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.Pre_finite_attn
public import proofs.«01_k».proof.Proof.AttnBwdClaims
public import proofs.«01_k».proof.Proof.Gen.FfnDownLoss
public import proofs.«01_k».proof.Proof.Gen.FfnDownLossIdeal
public import proofs.«01_k».proof.Proof.Gen.FfnDownLossIdeal.Value
public import proofs.«01_k».proof.Proof.Gen.FfnDownLossRefIdeal
public import proofs.«01_k».proof.Proof.Gen.FfnDownLossRefIdeal.Run
public import proofs.«01_k».proof.Proof.Gen.FfnDownLossRefIdeal.Read
public import proofs.«01_k».proof.Proof.Gen.Pre_finite_ffn_down
public import proofs.«01_k».proof.Proof.FfnDownLossClaims
public import proofs.«01_k».proof.Proof.Gen.InProjDx
public import proofs.«01_k».proof.Proof.Gen.InProjDxIdeal
public import proofs.«01_k».proof.Proof.Gen.InProjDxIdeal.Value
public import proofs.«01_k».proof.Proof.Gen.InProjDxRefIdeal
public import proofs.«01_k».proof.Proof.Gen.InProjDxRefIdeal.Run
public import proofs.«01_k».proof.Proof.Gen.InProjDxRefIdeal.Read
public import proofs.«01_k».proof.Proof.Gen.Pre_finite_in_proj
public import proofs.«01_k».proof.Proof.InProjDxClaims
public import proofs.«01_k».proof.Proof.Gen.GateBwd
public import proofs.«01_k».proof.Proof.Gen.GateBwdIdeal
public import proofs.«01_k».proof.Proof.Gen.GateBwdIdeal.Value
public import proofs.«01_k».proof.Proof.Gen.GateBwdRefIdeal
public import proofs.«01_k».proof.Proof.Gen.GateBwdRefIdeal.Run
public import proofs.«01_k».proof.Proof.Gen.GateBwdRefIdeal.Read
public import proofs.«01_k».proof.Proof.Gen.Pre_finite_gate
public import proofs.«01_k».proof.Proof.GateBwdClaims
public import proofs.«01_k».proof.Proof.Gen.ConvGate
public import proofs.«01_k».proof.Proof.Gen.ConvGateIdeal
public import proofs.«01_k».proof.Proof.Gen.ConvGateIdeal.Value
public import proofs.«01_k».proof.Proof.Gen.ConvGateRefIdeal
public import proofs.«01_k».proof.Proof.Gen.ConvGateRefIdeal.Run
public import proofs.«01_k».proof.Proof.Gen.ConvGateRefIdeal.Read
public import proofs.«01_k».proof.Proof.Gen.Pre_finite_conv_gate
public import proofs.«01_k».proof.Proof.ConvGateClaims
public import proofs.«01_k».proof.Proof.Gen.AttnFwd
public import proofs.«01_k».proof.Proof.Gen.AttnFwd.Skeleton
public import proofs.«01_k».proof.Proof.Gen.AttnFwd.Loops
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Loops
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_finite_attn_fwd
public import proofs.«01_k».proof.Proof.AttnFwdClaims
public import proofs.«01_k».proof.Proof.Gen.GmlpBwd
public import proofs.«01_k».proof.Proof.Gen.GmlpBwdIdeal
public import proofs.«01_k».proof.Proof.Gen.GmlpBwdIdeal.Value
public import proofs.«01_k».proof.Proof.Gen.GmlpBwdRefIdeal
public import proofs.«01_k».proof.Proof.Gen.GmlpBwdRefIdeal.Run
public import proofs.«01_k».proof.Proof.Gen.GmlpBwdRefIdeal.Read
public import proofs.«01_k».proof.Proof.Gen.Pre_finite_gmlp
public import proofs.«01_k».proof.Proof.GmlpBwdClaims
public import proofs.«01_k».proof.Proof.Gen.OutProj
public import proofs.«01_k».proof.Proof.Gen.OutProjIdeal
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.OutProjClaims
public import proofs.«01_k».proof.Proof.Gen.OutProjDx
public import proofs.«01_k».proof.Proof.Gen.OutProjDxIdeal
public import proofs.«01_k».proof.Proof.Gen.OutProjDxIdeal.Value
public import proofs.«01_k».proof.Proof.Gen.OutProjDxRefIdeal
public import proofs.«01_k».proof.Proof.Gen.OutProjDxRefIdeal.Run
public import proofs.«01_k».proof.Proof.Gen.OutProjDxRefIdeal.Read
public import proofs.«01_k».proof.Proof.Gen.Pre_finite_out_proj_dx
public import proofs.«01_k».proof.Proof.OutProjDxClaims

@[expose] public section

noncomputable section

namespace Cert.Proof

open Idealize.ShloMosaic

theorem claim : Cert.Claim := ⟨Cert.FfnUpDx.Gen.facts, Cert.FfnUpDxIdeal.Gen.facts, Cert.FfnUpDxRefIdeal.Gen.facts,
  Cert.AttnBwd.Gen.facts, Cert.AttnBwdIdeal.Gen.facts, Cert.AttnBwdRefIdeal.Gen.facts,
  Cert.FfnDownLoss.Gen.facts, Cert.FfnDownLossIdeal.Gen.facts, Cert.FfnDownLossRefIdeal.Gen.facts,
  Cert.InProjDx.Gen.facts, Cert.InProjDxIdeal.Gen.facts, Cert.InProjDxRefIdeal.Gen.facts,
  Cert.GateBwd.Gen.facts, Cert.GateBwdIdeal.Gen.facts, Cert.GateBwdRefIdeal.Gen.facts,
  Cert.ConvGate.Gen.facts, Cert.ConvGateIdeal.Gen.facts, Cert.ConvGateRefIdeal.Gen.facts,
  Cert.AttnFwd.Gen.facts, Cert.AttnFwdIdeal.Gen.facts, Cert.AttnFwdRefIdeal.Gen.facts,
  Cert.GmlpBwd.Gen.facts, Cert.GmlpBwdIdeal.Gen.facts, Cert.GmlpBwdRefIdeal.Gen.facts,
  Cert.OutProj.Gen.facts, Cert.OutProjIdeal.Gen.facts, Cert.OutProjRefIdeal.Gen.facts,
  Cert.OutProjDx.Gen.facts, Cert.OutProjDxIdeal.Gen.facts, Cert.OutProjDxRefIdeal.Gen.facts,
  Cert.Pre_finite_ffn_up.Gen.facts, Cert.Pre_finite_attn.Gen.facts, Cert.Pre_finite_ffn_down.Gen.facts, Cert.Pre_finite_in_proj.Gen.facts, Cert.Pre_finite_gate.Gen.facts, Cert.Pre_finite_conv_gate.Gen.facts, Cert.Pre_finite_attn_fwd.Gen.facts, Cert.Pre_finite_gmlp.Gen.facts, Cert.Pre_finite_out_proj_dx.Gen.facts,
  FfnUpDxEq.frame_p, FfnUpDxEq.frame_pi, fun m g _ => FfnUpDxEq.frame_pi m g trivial, FfnUpDxEq.frame_ri, fun m g _ => FfnUpDxEq.frame_ri m g trivial,
  AttnBwdEq.frame_p, AttnBwdEq.frame_pi, fun m g _ => AttnBwdEq.frame_pi m g trivial, AttnBwdEq.frame_ri, fun m g _ => AttnBwdEq.frame_ri m g trivial,
  FfnDownLossEq.frame_p, FfnDownLossEq.frame_pi, fun m g _ => FfnDownLossEq.frame_pi m g trivial, FfnDownLossEq.frame_ri, fun m g _ => FfnDownLossEq.frame_ri m g trivial,
  InProjDxEq.frame_p, InProjDxEq.frame_pi, fun m g _ => InProjDxEq.frame_pi m g trivial, InProjDxEq.frame_ri, fun m g _ => InProjDxEq.frame_ri m g trivial,
  GateBwdEq.frame_p, GateBwdEq.frame_pi, fun m g _ => GateBwdEq.frame_pi m g trivial, GateBwdEq.frame_ri, fun m g _ => GateBwdEq.frame_ri m g trivial,
  ConvGateEq.frame_p, ConvGateEq.frame_pi, fun m g _ => ConvGateEq.frame_pi m g trivial, ConvGateEq.frame_ri, fun m g _ => ConvGateEq.frame_ri m g trivial,
  AttnFwdEq.frame_p, AttnFwdEq.frame_pi, fun m g _ => AttnFwdEq.frame_pi m g trivial, AttnFwdEq.frame_ri, fun m g _ => AttnFwdEq.frame_ri m g trivial,
  GmlpBwdEq.frame_p, GmlpBwdEq.frame_pi, fun m g _ => GmlpBwdEq.frame_pi m g trivial, GmlpBwdEq.frame_ri, fun m g _ => GmlpBwdEq.frame_ri m g trivial,
  OutProjEq.frame_p, OutProjEq.frame_pi, OutProjEq.frame_ri,
  OutProjDxEq.frame_p, OutProjDxEq.frame_pi, fun m g _ => OutProjDxEq.frame_pi m g trivial, OutProjDxEq.frame_ri, fun m g _ => OutProjDxEq.frame_ri m g trivial,
  trivial, FfnUpDxEq.algebraic,
  trivial, AttnBwdEq.algebraic,
  trivial, FfnDownLossEq.algebraic,
  trivial, InProjDxEq.algebraic,
  trivial, GateBwdEq.algebraic,
  trivial, ConvGateEq.algebraic,
  trivial, AttnFwdEq.algebraic,
  trivial, GmlpBwdEq.algebraic,
  trivial, OutProjEq.algebraic,
  trivial, OutProjDxEq.algebraic⟩

end Cert.Proof

end
